-- ==== Defs.lean ====
def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalKernelIdeal_final_finite [hPre_final_finite : Cert.Pre_final_finite.Facts] (m : (ℓ : Loc Cert.FinalKernelIdeal.nD Cert.FinalKernelIdeal.τ Cert.FinalKernelIdeal.sig) → Buf (Elt Ideal) ℓ) : Prop :=
  ∀ c : Dev Cert.FinalKernelIdeal.nD,
    (Cert.Pre_final_finite.fn (F := Ideal) (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2))).1 = (fun _ => 1#1)
    ∧ (Cert.Pre_final_finite.fn (F := Ideal) (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2))).2.1 = (fun _ => 1#1)
    ∧ (Cert.Pre_final_finite.fn (F := Ideal) (m ((c.tc : Thread Cert.FinalKernelIdeal.nD Cert.FinalKernelIdeal.τ).loc Cert.FinalKernelIdeal.main_arg0)) (m ((c.tc : Thread Cert.FinalKernelIdeal.nD Cert.FinalKernelIdeal.τ).loc Cert.FinalKernelIdeal.main_arg1)) (m ((c.tc : Thread Cert.FinalKernelIdeal.nD Cert.FinalKernelIdeal.τ).loc Cert.FinalKernelIdeal.main_arg2))).2.2 = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_final_finite [hPre_final_finite : Cert.Pre_final_finite.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_final_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2))).1 = (fun _ => 1#1)
    ∧ (Cert.Pre_final_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2))).2.1 = (fun _ => 1#1)
    ∧ (Cert.Pre_final_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2))).2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.2 = (fun _ => 1#1)

def Pre_GateBiasKernel (m : (ℓ : Loc Cert.GateBiasKernel.nD Cert.GateBiasKernel.τ Cert.GateBiasKernel.sig) → Buf (Elt Bits) ℓ) : Prop :=
  True

def Pre_GateBiasKernelIdeal (m : (ℓ : Loc Cert.GateBiasKernelIdeal.nD Cert.GateBiasKernelIdeal.τ Cert.GateBiasKernelIdeal.sig) → Buf (Elt Ideal) ℓ) : Prop :=
  True

def Pre_GateBiasKernelIdeal_gate_bias_finite [hPre_gate_bias_finite : Cert.Pre_gate_bias_finite.Facts] (m : (ℓ : Loc Cert.GateBiasKernelIdeal.nD Cert.GateBiasKernelIdeal.τ Cert.GateBiasKernelIdeal.sig) → Buf (Elt Ideal) ℓ) : Prop :=
  ∀ c : Dev Cert.GateBiasKernelIdeal.nD,
    (Cert.Pre_gate_bias_finite.fn (F := Ideal) (m ((c.tc : Thread Cert.GateBiasKernelIdeal.nD Cert.GateBiasKernelIdeal.τ).loc Cert.GateBiasKernelIdeal.main_arg0)) (m ((c.tc : Thread Cert.GateBiasKernelIdeal.nD Cert.GateBiasKernelIdeal.τ).loc Cert.GateBiasKernelIdeal.main_arg1)) (m ((c.tc : Thread Cert.GateBiasKernelIdeal.nD Cert.GateBiasKernelIdeal.τ).loc Cert.GateBiasKernelIdeal.main_arg2)) (m ((c.tc : Thread Cert.GateBiasKernelIdeal.nD Cert.GateBiasKernelIdeal.τ).loc Cert.GateBiasKernelIdeal.main_arg3))).1 = (fun _ => 1#1)
    ∧ (Cert.Pre_gate_bias_finite.fn (F := Ideal) (m ((c.tc : Thread Cert.GateBiasKernelIdeal.nD Cert.GateBiasKernelIdeal.τ).loc Cert.GateBiasKernelIdeal.main_arg0)) (m ((c.tc : Thread Cert.GateBiasKernelIdeal.nD Cert.GateBiasKernelIdeal.τ).loc Cert.GateBiasKernelIdeal.main_arg1)) (m ((c.tc : Thread Cert.GateBiasKernelIdeal.nD Cert.GateBiasKernelIdeal.τ).loc Cert.GateBiasKernelIdeal.main_arg2)) (m ((c.tc : Thread Cert.GateBiasKernelIdeal.nD Cert.GateBiasKernelIdeal.τ).loc Cert.GateBiasKernelIdeal.main_arg3))).2 = (fun _ => 1#1)

def Pre_GateBiasReferenceIdeal (m : (ℓ : Loc Cert.GateBiasReferenceIdeal.nD Cert.GateBiasReferenceIdeal.τ Cert.GateBiasReferenceIdeal.sig) → Buf (Elt Ideal) ℓ) : Prop :=
  True

def Pre_GateBiasReferenceIdeal_gate_bias_finite [hPre_gate_bias_finite : Cert.Pre_gate_bias_finite.Facts] (m : (ℓ : Loc Cert.GateBiasReferenceIdeal.nD Cert.GateBiasReferenceIdeal.τ Cert.GateBiasReferenceIdeal.sig) → Buf (Elt Ideal) ℓ) : Prop :=
  ∀ c : Dev Cert.GateBiasReferenceIdeal.nD,
    (Cert.Pre_gate_bias_finite.fn (F := Ideal) (m ((c.tc : Thread Cert.GateBiasReferenceIdeal.nD Cert.GateBiasReferenceIdeal.τ).loc Cert.GateBiasReferenceIdeal.main_arg0)) (m ((c.tc : Thread Cert.GateBiasReferenceIdeal.nD Cert.GateBiasReferenceIdeal.τ).loc Cert.GateBiasReferenceIdeal.main_arg1)) (m ((c.tc : Thread Cert.GateBiasReferenceIdeal.nD Cert.GateBiasReferenceIdeal.τ).loc Cert.GateBiasReferenceIdeal.main_arg2)) (m ((c.tc : Thread Cert.GateBiasReferenceIdeal.nD Cert.GateBiasReferenceIdeal.τ).loc Cert.GateBiasReferenceIdeal.main_arg3))).1 = (fun _ => 1#1)
    ∧ (Cert.Pre_gate_bias_finite.fn (F := Ideal) (m ((c.tc : Thread Cert.GateBiasReferenceIdeal.nD Cert.GateBiasReferenceIdeal.τ).loc Cert.GateBiasReferenceIdeal.main_arg0)) (m ((c.tc : Thread Cert.GateBiasReferenceIdeal.nD Cert.GateBiasReferenceIdeal.τ).loc Cert.GateBiasReferenceIdeal.main_arg1)) (m ((c.tc : Thread Cert.GateBiasReferenceIdeal.nD Cert.GateBiasReferenceIdeal.τ).loc Cert.GateBiasReferenceIdeal.main_arg2)) (m ((c.tc : Thread Cert.GateBiasReferenceIdeal.nD Cert.GateBiasReferenceIdeal.τ).loc Cert.GateBiasReferenceIdeal.main_arg3))).2 = (fun _ => 1#1)

def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInKernelIdeal_ffn_in_finite [hPre_ffn_in_finite : Cert.Pre_ffn_in_finite.Facts] (m : (ℓ : Loc Cert.FfnInKernelIdeal.nD Cert.FfnInKernelIdeal.τ Cert.FfnInKernelIdeal.sig) → Buf (Elt Ideal) ℓ) : Prop :=
  ∀ c : Dev Cert.FfnInKernelIdeal.nD,
    (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))).1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))).2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))).2.2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))).2.2.2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))).2.2.2.2 = (fun _ => 1#1)

def Pre_FfnInReferenceIdeal (m : (ℓ : Loc Cert.FfnInReferenceIdeal.nD Cert.FfnInReferenceIdeal.τ Cert.FfnInReferenceIdeal.sig) → Buf (Elt Ideal) ℓ) : Prop :=
  True

def Pre_FfnInReferenceIdeal_ffn_in_finite [hPre_ffn_in_finite : Cert.Pre_ffn_in_finite.Facts] (m : (ℓ : Loc Cert.FfnInReferenceIdeal.nD Cert.FfnInReferenceIdeal.τ Cert.FfnInReferenceIdeal.sig) → Buf (Elt Ideal) ℓ) : Prop :=
  ∀ c : Dev Cert.FfnInReferenceIdeal.nD,
    (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))).1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))).2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))).2.2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))).2.2.2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))).2.2.2.2 = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhKernelIdeal_dh_finite [hPre_dh_finite : Cert.Pre_dh_finite.Facts] (m : (ℓ : Loc Cert.DhKernelIdeal.nD Cert.DhKernelIdeal.τ Cert.DhKernelIdeal.sig) → Buf (Elt Ideal) ℓ) : Prop :=
  ∀ c : Dev Cert.DhKernelIdeal.nD,
    (Cert.Pre_dh_finite.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3)) (m ((c.tc : Thread Cert.DhKernelIdeal.nD Cert.DhKernelIdeal.τ).loc Cert.DhKernelIdeal.main_arg4))).1 = (fun _ => 1#1)
    ∧ (Cert.Pre_dh_finite.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3)) (m ((c.tc : Thread Cert.DhKernelIdeal.nD Cert.DhKernelIdeal.τ).loc Cert.DhKernelIdeal.main_arg4))).2.1 = (fun _ => 1#1)
    ∧ (Cert.Pre_dh_finite.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3)) (m ((c.tc : Thread Cert.DhKernelIdeal.nD Cert.DhKernelIdeal.τ).loc Cert.DhKernelIdeal.main_arg4))).2.2 = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_dh_finite [hPre_dh_finite : Cert.Pre_dh_finite.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_dh_finite.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4))).1 = (fun _ => 1#1)
    ∧ (Cert.Pre_dh_finite.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4))).2.1 = (fun _ => 1#1)
    ∧ (Cert.Pre_dh_finite.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2.2 = (fun _ => 1#1)

def Pre_AttnFwdKernel (m : (ℓ : Loc Cert.AttnFwdKernel.nD Cert.AttnFwdKernel.τ Cert.AttnFwdKernel.sig) → Buf (Elt Bits) ℓ) : Prop :=
  True

def Pre_AttnFwdKernelIdeal (m : (ℓ : Loc Cert.AttnFwdKernelIdeal.nD Cert.AttnFwdKernelIdeal.τ Cert.AttnFwdKernelIdeal.sig) → Buf (Elt Ideal) ℓ) : Prop :=
  True

def Pre_AttnFwdKernelIdeal_attn_fwd_finite [hPre_attn_fwd_finite : Cert.Pre_attn_fwd_finite.Facts] (m : (ℓ : Loc Cert.AttnFwdKernelIdeal.nD Cert.AttnFwdKernelIdeal.τ Cert.AttnFwdKernelIdeal.sig) → Buf (Elt Ideal) ℓ) : Prop :=
  ∀ c : Dev Cert.AttnFwdKernelIdeal.nD,
    (Cert.Pre_attn_fwd_finite.fn (F := Ideal) (m ((c.tc : Thread Cert.AttnFwdKernelIdeal.nD Cert.AttnFwdKernelIdeal.τ).loc Cert.AttnFwdKernelIdeal.main_arg0)) (m ((c.tc : Thread Cert.AttnFwdKernelIdeal.nD Cert.AttnFwdKernelIdeal.τ).loc Cert.AttnFwdKernelIdeal.main_arg1))).1 = (fun _ => 1#1)
    ∧ (Cert.Pre_attn_fwd_finite.fn (F := Ideal) (m ((c.tc : Thread Cert.AttnFwdKernelIdeal.nD Cert.AttnFwdKernelIdeal.τ).loc Cert.AttnFwdKernelIdeal.main_arg0)) (m ((c.tc : Thread Cert.AttnFwdKernelIdeal.nD Cert.AttnFwdKernelIdeal.τ).loc Cert.AttnFwdKernelIdeal.main_arg1))).2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_attn_fwd_finite [hPre_attn_fwd_finite : Cert.Pre_attn_fwd_finite.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1))).1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1))).2 = (fun _ => 1#1)

def Pre_GatePrepKernel (m : (ℓ : Loc Cert.GatePrepKernel.nD Cert.GatePrepKernel.τ Cert.GatePrepKernel.sig) → Buf (Elt Bits) ℓ) : Prop :=
  True

def Pre_GatePrepKernelIdeal (m : (ℓ : Loc Cert.GatePrepKernelIdeal.nD Cert.GatePrepKernelIdeal.τ Cert.GatePrepKernelIdeal.sig) → Buf (Elt Ideal) ℓ) : Prop :=
  True

def Pre_GatePrepKernelIdeal_gate_prep_finite [hPre_gate_prep_finite : Cert.Pre_gate_prep_finite.Facts] (m : (ℓ : Loc Cert.GatePrepKernelIdeal.nD Cert.GatePrepKernelIdeal.τ Cert.GatePrepKernelIdeal.sig) → Buf (Elt Ideal) ℓ) : Prop :=
  ∀ c : Dev Cert.GatePrepKernelIdeal.nD,
    (Cert.Pre_gate_prep_finite.fn (F := Ideal) (m ((c.tc : Thread Cert.GatePrepKernelIdeal.nD Cert.GatePrepKernelIdeal.τ).loc Cert.GatePrepKernelIdeal.main_arg0)) (m ((c.tc : Thread Cert.GatePrepKernelIdeal.nD Cert.GatePrepKernelIdeal.τ).loc Cert.GatePrepKernelIdeal.main_arg1))).1 = (fun _ => 1#1)
    ∧ (Cert.Pre_gate_prep_finite.fn (F := Ideal) (m ((c.tc : Thread Cert.GatePrepKernelIdeal.nD Cert.GatePrepKernelIdeal.τ).loc Cert.GatePrepKernelIdeal.main_arg0)) (m ((c.tc : Thread Cert.GatePrepKernelIdeal.nD Cert.GatePrepKernelIdeal.τ).loc Cert.GatePrepKernelIdeal.main_arg1))).2 = (fun _ => 1#1)

def Pre_GatePrepReferenceIdeal (m : (ℓ : Loc Cert.GatePrepReferenceIdeal.nD Cert.GatePrepReferenceIdeal.τ Cert.GatePrepReferenceIdeal.sig) → Buf (Elt Ideal) ℓ) : Prop :=
  True

def Pre_GatePrepReferenceIdeal_gate_prep_finite [hPre_gate_prep_finite : Cert.Pre_gate_prep_finite.Facts] (m : (ℓ : Loc Cert.GatePrepReferenceIdeal.nD Cert.GatePrepReferenceIdeal.τ Cert.GatePrepReferenceIdeal.sig) → Buf (Elt Ideal) ℓ) : Prop :=
  ∀ c : Dev Cert.GatePrepReferenceIdeal.nD,
    (Cert.Pre_gate_prep_finite.fn (F := Ideal) (m ((c.tc : Thread Cert.GatePrepReferenceIdeal.nD Cert.GatePrepReferenceIdeal.τ).loc Cert.GatePrepReferenceIdeal.main_arg0)) (m ((c.tc : Thread Cert.GatePrepReferenceIdeal.nD Cert.GatePrepReferenceIdeal.τ).loc Cert.GatePrepReferenceIdeal.main_arg1))).1 = (fun _ => 1#1)
    ∧ (Cert.Pre_gate_prep_finite.fn (F := Ideal) (m ((c.tc : Thread Cert.GatePrepReferenceIdeal.nD Cert.GatePrepReferenceIdeal.τ).loc Cert.GatePrepReferenceIdeal.main_arg0)) (m ((c.tc : Thread Cert.GatePrepReferenceIdeal.nD Cert.GatePrepReferenceIdeal.τ).loc Cert.GatePrepReferenceIdeal.main_arg1))).2 = (fun _ => 1#1)

def Pre_FfnUpKernel (m : (ℓ : Loc Cert.FfnUpKernel.nD Cert.FfnUpKernel.τ Cert.FfnUpKernel.sig) → Buf (Elt Bits) ℓ) : Prop :=
  True

def Pre_FfnUpKernelIdeal (m : (ℓ : Loc Cert.FfnUpKernelIdeal.nD Cert.FfnUpKernelIdeal.τ Cert.FfnUpKernelIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_NormMmKernel (m : (ℓ : Loc Cert.NormMmKernel.nD Cert.NormMmKernel.τ Cert.NormMmKernel.sig) → Buf (Elt Bits) ℓ) : Prop :=
  True

def Pre_NormMmKernelIdeal (m : (ℓ : Loc Cert.NormMmKernelIdeal.nD Cert.NormMmKernelIdeal.τ Cert.NormMmKernelIdeal.sig) → Buf (Elt Ideal) ℓ) : Prop :=
  True

def Pre_NormMmReferenceIdeal (m : (ℓ : Loc Cert.NormMmReferenceIdeal.nD Cert.NormMmReferenceIdeal.τ Cert.NormMmReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ r.2.sem = fun _ => 0)

def quiescent_FinalKernelIdeal_pre_final_finite [hFinalKernelIdeal : Cert.FinalKernelIdeal.Facts] [hPre_final_finite : Cert.Pre_final_finite.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal_final_finite m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_FinalReferenceIdeal_pre_final_finite [hFinalReferenceIdeal : Cert.FinalReferenceIdeal.Facts] [hPre_final_finite : Cert.Pre_final_finite.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_final_finite m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateBiasKernel [hGateBiasKernel : Cert.GateBiasKernel.Facts] : Prop :=
  ∀ (m : (ℓ : Loc Cert.GateBiasKernel.nD Cert.GateBiasKernel.τ Cert.GateBiasKernel.sig) → Buf (Elt Bits) ℓ) (g : Dev Cert.GateBiasKernel.nD → PrngReg), Pre_GateBiasKernel m →
    θ_run (Cert.GateBiasKernel.defs (F := Bits)) (onTc (τ := Cert.GateBiasKernel.τ) (Cert.GateBiasKernel.main (F := Bits))) ⟨m, fun _ => 0, g⟩ (fun r => (∀ c : Dev Cert.GateBiasKernel.nD,
      r.2.mem ((c.tc : Thread Cert.GateBiasKernel.nD Cert.GateBiasKernel.τ).loc Cert.GateBiasKernel.main_arg0) = m ((c.tc : Thread Cert.GateBiasKernel.nD Cert.GateBiasKernel.τ).loc Cert.GateBiasKernel.main_arg0)
      ∧ r.2.mem ((c.tc : Thread Cert.GateBiasKernel.nD Cert.GateBiasKernel.τ).loc Cert.GateBiasKernel.main_arg1) = m ((c.tc : Thread Cert.GateBiasKernel.nD Cert.GateBiasKernel.τ).loc Cert.GateBiasKernel.main_arg1)
      ∧ r.2.mem ((c.tc : Thread Cert.GateBiasKernel.nD Cert.GateBiasKernel.τ).loc Cert.GateBiasKernel.main_arg2) = m ((c.tc : Thread Cert.GateBiasKernel.nD Cert.GateBiasKernel.τ).loc Cert.GateBiasKernel.main_arg2)
      ∧ r.2.mem ((c.tc : Thread Cert.GateBiasKernel.nD Cert.GateBiasKernel.τ).loc Cert.GateBiasKernel.main_arg3) = m ((c.tc : Thread Cert.GateBiasKernel.nD Cert.GateBiasKernel.τ).loc Cert.GateBiasKernel.main_arg3))
      ∧ r.2.sem = fun _ => 0)

def quiescent_GateBiasKernelIdeal [hGateBiasKernelIdeal : Cert.GateBiasKernelIdeal.Facts] : Prop :=
  ∀ (m : (ℓ : Loc Cert.GateBiasKernelIdeal.nD Cert.GateBiasKernelIdeal.τ Cert.GateBiasKernelIdeal.sig) → Buf (Elt Ideal) ℓ) (g : Dev Cert.GateBiasKernelIdeal.nD → PrngReg), Pre_GateBiasKernelIdeal m →
    θ_run (Cert.GateBiasKernelIdeal.defs (F := Ideal)) (onTc (τ := Cert.GateBiasKernelIdeal.τ) (Cert.GateBiasKernelIdeal.main (F := Ideal))) ⟨m, fun _ => 0, g⟩ (fun r => (∀ c : Dev Cert.GateBiasKernelIdeal.nD,
      r.2.mem ((c.tc : Thread Cert.GateBiasKernelIdeal.nD Cert.GateBiasKernelIdeal.τ).loc Cert.GateBiasKernelIdeal.main_arg0) = m ((c.tc : Thread Cert.GateBiasKernelIdeal.nD Cert.GateBiasKernelIdeal.τ).loc Cert.GateBiasKernelIdeal.main_arg0)
      ∧ r.2.mem ((c.tc : Thread Cert.GateBiasKernelIdeal.nD Cert.GateBiasKernelIdeal.τ).loc Cert.GateBiasKernelIdeal.main_arg1) = m ((c.tc : Thread Cert.GateBiasKernelIdeal.nD Cert.GateBiasKernelIdeal.τ).loc Cert.GateBiasKernelIdeal.main_arg1)
      ∧ r.2.mem ((c.tc : Thread Cert.GateBiasKernelIdeal.nD Cert.GateBiasKernelIdeal.τ).loc Cert.GateBiasKernelIdeal.main_arg2) = m ((c.tc : Thread Cert.GateBiasKernelIdeal.nD Cert.GateBiasKernelIdeal.τ).loc Cert.GateBiasKernelIdeal.main_arg2)
      ∧ r.2.mem ((c.tc : Thread Cert.GateBiasKernelIdeal.nD Cert.GateBiasKernelIdeal.τ).loc Cert.GateBiasKernelIdeal.main_arg3) = m ((c.tc : Thread Cert.GateBiasKernelIdeal.nD Cert.GateBiasKernelIdeal.τ).loc Cert.GateBiasKernelIdeal.main_arg3))
      ∧ r.2.sem = fun _ => 0)

def quiescent_GateBiasKernelIdeal_pre_gate_bias_finite [hGateBiasKernelIdeal : Cert.GateBiasKernelIdeal.Facts] [hPre_gate_bias_finite : Cert.Pre_gate_bias_finite.Facts] : Prop :=
  ∀ (m : (ℓ : Loc Cert.GateBiasKernelIdeal.nD Cert.GateBiasKernelIdeal.τ Cert.GateBiasKernelIdeal.sig) → Buf (Elt Ideal) ℓ) (g : Dev Cert.GateBiasKernelIdeal.nD → PrngReg), Pre_GateBiasKernelIdeal_gate_bias_finite m →
    θ_run (Cert.GateBiasKernelIdeal.defs (F := Ideal)) (onTc (τ := Cert.GateBiasKernelIdeal.τ) (Cert.GateBiasKernelIdeal.main (F := Ideal))) ⟨m, fun _ => 0, g⟩ (fun r => (∀ c : Dev Cert.GateBiasKernelIdeal.nD,
      r.2.mem ((c.tc : Thread Cert.GateBiasKernelIdeal.nD Cert.GateBiasKernelIdeal.τ).loc Cert.GateBiasKernelIdeal.main_arg0) = m ((c.tc : Thread Cert.GateBiasKernelIdeal.nD Cert.GateBiasKernelIdeal.τ).loc Cert.GateBiasKernelIdeal.main_arg0)
      ∧ r.2.mem ((c.tc : Thread Cert.GateBiasKernelIdeal.nD Cert.GateBiasKernelIdeal.τ).loc Cert.GateBiasKernelIdeal.main_arg1) = m ((c.tc : Thread Cert.GateBiasKernelIdeal.nD Cert.GateBiasKernelIdeal.τ).loc Cert.GateBiasKernelIdeal.main_arg1)
      ∧ r.2.mem ((c.tc : Thread Cert.GateBiasKernelIdeal.nD Cert.GateBiasKernelIdeal.τ).loc Cert.GateBiasKernelIdeal.main_arg2) = m ((c.tc : Thread Cert.GateBiasKernelIdeal.nD Cert.GateBiasKernelIdeal.τ).loc Cert.GateBiasKernelIdeal.main_arg2)
      ∧ r.2.mem ((c.tc : Thread Cert.GateBiasKernelIdeal.nD Cert.GateBiasKernelIdeal.τ).loc Cert.GateBiasKernelIdeal.main_arg3) = m ((c.tc : Thread Cert.GateBiasKernelIdeal.nD Cert.GateBiasKernelIdeal.τ).loc Cert.GateBiasKernelIdeal.main_arg3))
      ∧ r.2.sem = fun _ => 0)

def quiescent_GateBiasReferenceIdeal [hGateBiasReferenceIdeal : Cert.GateBiasReferenceIdeal.Facts] : Prop :=
  ∀ (m : (ℓ : Loc Cert.GateBiasReferenceIdeal.nD Cert.GateBiasReferenceIdeal.τ Cert.GateBiasReferenceIdeal.sig) → Buf (Elt Ideal) ℓ) (g : Dev Cert.GateBiasReferenceIdeal.nD → PrngReg), Pre_GateBiasReferenceIdeal m →
    θ_run (Cert.GateBiasReferenceIdeal.defs (F := Ideal)) (onTc (τ := Cert.GateBiasReferenceIdeal.τ) (Cert.GateBiasReferenceIdeal.main (F := Ideal))) ⟨m, fun _ => 0, g⟩ (fun r => (∀ c : Dev Cert.GateBiasReferenceIdeal.nD,
      r.2.mem ((c.tc : Thread Cert.GateBiasReferenceIdeal.nD Cert.GateBiasReferenceIdeal.τ).loc Cert.GateBiasReferenceIdeal.main_arg0) = m ((c.tc : Thread Cert.GateBiasReferenceIdeal.nD Cert.GateBiasReferenceIdeal.τ).loc Cert.GateBiasReferenceIdeal.main_arg0)
      ∧ r.2.mem ((c.tc : Thread Cert.GateBiasReferenceIdeal.nD Cert.GateBiasReferenceIdeal.τ).loc Cert.GateBiasReferenceIdeal.main_arg1) = m ((c.tc : Thread Cert.GateBiasReferenceIdeal.nD Cert.GateBiasReferenceIdeal.τ).loc Cert.GateBiasReferenceIdeal.main_arg1)
      ∧ r.2.mem ((c.tc : Thread Cert.GateBiasReferenceIdeal.nD Cert.GateBiasReferenceIdeal.τ).loc Cert.GateBiasReferenceIdeal.main_arg2) = m ((c.tc : Thread Cert.GateBiasReferenceIdeal.nD Cert.GateBiasReferenceIdeal.τ).loc Cert.GateBiasReferenceIdeal.main_arg2)
      ∧ r.2.mem ((c.tc : Thread Cert.GateBiasReferenceIdeal.nD Cert.GateBiasReferenceIdeal.τ).loc Cert.GateBiasReferenceIdeal.main_arg3) = m ((c.tc : Thread Cert.GateBiasReferenceIdeal.nD Cert.GateBiasReferenceIdeal.τ).loc Cert.GateBiasReferenceIdeal.main_arg3))
      ∧ r.2.sem = fun _ => 0)

def quiescent_GateBiasReferenceIdeal_pre_gate_bias_finite [hGateBiasReferenceIdeal : Cert.GateBiasReferenceIdeal.Facts] [hPre_gate_bias_finite : Cert.Pre_gate_bias_finite.Facts] : Prop :=
  ∀ (m : (ℓ : Loc Cert.GateBiasReferenceIdeal.nD Cert.GateBiasReferenceIdeal.τ Cert.GateBiasReferenceIdeal.sig) → Buf (Elt Ideal) ℓ) (g : Dev Cert.GateBiasReferenceIdeal.nD → PrngReg), Pre_GateBiasReferenceIdeal_gate_bias_finite m →
    θ_run (Cert.GateBiasReferenceIdeal.defs (F := Ideal)) (onTc (τ := Cert.GateBiasReferenceIdeal.τ) (Cert.GateBiasReferenceIdeal.main (F := Ideal))) ⟨m, fun _ => 0, g⟩ (fun r => (∀ c : Dev Cert.GateBiasReferenceIdeal.nD,
      r.2.mem ((c.tc : Thread Cert.GateBiasReferenceIdeal.nD Cert.GateBiasReferenceIdeal.τ).loc Cert.GateBiasReferenceIdeal.main_arg0) = m ((c.tc : Thread Cert.GateBiasReferenceIdeal.nD Cert.GateBiasReferenceIdeal.τ).loc Cert.GateBiasReferenceIdeal.main_arg0)
      ∧ r.2.mem ((c.tc : Thread Cert.GateBiasReferenceIdeal.nD Cert.GateBiasReferenceIdeal.τ).loc Cert.GateBiasReferenceIdeal.main_arg1) = m ((c.tc : Thread Cert.GateBiasReferenceIdeal.nD Cert.GateBiasReferenceIdeal.τ).loc Cert.GateBiasReferenceIdeal.main_arg1)
      ∧ r.2.mem ((c.tc : Thread Cert.GateBiasReferenceIdeal.nD Cert.GateBiasReferenceIdeal.τ).loc Cert.GateBiasReferenceIdeal.main_arg2) = m ((c.tc : Thread Cert.GateBiasReferenceIdeal.nD Cert.GateBiasReferenceIdeal.τ).loc Cert.GateBiasReferenceIdeal.main_arg2)
      ∧ r.2.mem ((c.tc : Thread Cert.GateBiasReferenceIdeal.nD Cert.GateBiasReferenceIdeal.τ).loc Cert.GateBiasReferenceIdeal.main_arg3) = m ((c.tc : Thread Cert.GateBiasReferenceIdeal.nD Cert.GateBiasReferenceIdeal.τ).loc Cert.GateBiasReferenceIdeal.main_arg3))
      ∧ r.2.sem = fun _ => 0)

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1)
      ∧ r.2.mem ((c.tc : Thread Cert.FfnInKernel.nD Cert.FfnInKernel.τ).loc Cert.FfnInKernel.main_arg2) = m ((c.tc : Thread Cert.FfnInKernel.nD Cert.FfnInKernel.τ).loc Cert.FfnInKernel.main_arg2)
      ∧ r.2.mem ((c.tc : Thread Cert.FfnInKernel.nD Cert.FfnInKernel.τ).loc Cert.FfnInKernel.main_arg3) = m ((c.tc : Thread Cert.FfnInKernel.nD Cert.FfnInKernel.τ).loc Cert.FfnInKernel.main_arg3)
      ∧ r.2.mem ((c.tc : Thread Cert.FfnInKernel.nD Cert.FfnInKernel.τ).loc Cert.FfnInKernel.main_arg4) = m ((c.tc : Thread Cert.FfnInKernel.nD Cert.FfnInKernel.τ).loc Cert.FfnInKernel.main_arg4)
      ∧ r.2.mem ((c.tc : Thread Cert.FfnInKernel.nD Cert.FfnInKernel.τ).loc Cert.FfnInKernel.main_arg5) = m ((c.tc : Thread Cert.FfnInKernel.nD Cert.FfnInKernel.τ).loc Cert.FfnInKernel.main_arg5)
      ∧ r.2.mem ((c.tc : Thread Cert.FfnInKernel.nD Cert.FfnInKernel.τ).loc Cert.FfnInKernel.main_arg6) = m ((c.tc : Thread Cert.FfnInKernel.nD Cert.FfnInKernel.τ).loc Cert.FfnInKernel.main_arg6))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
      ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ r.2.sem = fun _ => 0)

def quiescent_FfnInKernelIdeal_pre_ffn_in_finite [hFfnInKernelIdeal : Cert.FfnInKernelIdeal.Facts] [hPre_ffn_in_finite : Cert.Pre_ffn_in_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal_ffn_in_finite m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
      ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6))
      ∧ r.2.sem = fun _ => 0)

def quiescent_FfnInReferenceIdeal_pre_ffn_in_finite [hFfnInReferenceIdeal : Cert.FfnInReferenceIdeal.Facts] [hPre_ffn_in_finite : Cert.Pre_ffn_in_finite.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal_ffn_in_finite m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ r.2.sem = fun _ => 0)

def quiescent_DhKernelIdeal_pre_dh_finite [hDhKernelIdeal : Cert.DhKernelIdeal.Facts] [hPre_dh_finite : Cert.Pre_dh_finite.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal_dh_finite m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_DhReferenceIdeal_pre_dh_finite [hDhReferenceIdeal : Cert.DhReferenceIdeal.Facts] [hPre_dh_finite : Cert.Pre_dh_finite.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_dh_finite m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnFwdKernel [hAttnFwdKernel : Cert.AttnFwdKernel.Facts] : Prop :=
  ∀ (m : (ℓ : Loc Cert.AttnFwdKernel.nD Cert.AttnFwdKernel.τ Cert.AttnFwdKernel.sig) → Buf (Elt Bits) ℓ) (g : Dev Cert.AttnFwdKernel.nD → PrngReg), Pre_AttnFwdKernel m →
    θ_run (Cert.AttnFwdKernel.defs (F := Bits)) (onTc (τ := Cert.AttnFwdKernel.τ) (Cert.AttnFwdKernel.main (F := Bits))) ⟨m, fun _ => 0, g⟩ (fun r => (∀ c : Dev Cert.AttnFwdKernel.nD,
      r.2.mem ((c.tc : Thread Cert.AttnFwdKernel.nD Cert.AttnFwdKernel.τ).loc Cert.AttnFwdKernel.main_arg0) = m ((c.tc : Thread Cert.AttnFwdKernel.nD Cert.AttnFwdKernel.τ).loc Cert.AttnFwdKernel.main_arg0)
      ∧ r.2.mem ((c.tc : Thread Cert.AttnFwdKernel.nD Cert.AttnFwdKernel.τ).loc Cert.AttnFwdKernel.main_arg1) = m ((c.tc : Thread Cert.AttnFwdKernel.nD Cert.AttnFwdKernel.τ).loc Cert.AttnFwdKernel.main_arg1))
      ∧ r.2.sem = fun _ => 0)

def quiescent_AttnFwdKernelIdeal [hAttnFwdKernelIdeal : Cert.AttnFwdKernelIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ r.2.sem = fun _ => 0)

def quiescent_AttnFwdKernelIdeal_pre_attn_fwd_finite [hAttnFwdKernelIdeal : Cert.AttnFwdKernelIdeal.Facts] [hPre_attn_fwd_finite : Cert.Pre_attn_fwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal_attn_fwd_finite m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_AttnFwdReferenceIdeal_pre_attn_fwd_finite [hAttnFwdReferenceIdeal : Cert.AttnFwdReferenceIdeal.Facts] [hPre_attn_fwd_finite : Cert.Pre_attn_fwd_finite.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_attn_fwd_finite m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_GatePrepKernel [hGatePrepKernel : Cert.GatePrepKernel.Facts] : Prop :=
  ∀ (m : (ℓ : Loc Cert.GatePrepKernel.nD Cert.GatePrepKernel.τ Cert.GatePrepKernel.sig) → Buf (Elt Bits) ℓ) (g : Dev Cert.GatePrepKernel.nD → PrngReg), Pre_GatePrepKernel m →
    θ_run (Cert.GatePrepKernel.defs (F := Bits)) (onTc (τ := Cert.GatePrepKernel.τ) (Cert.GatePrepKernel.main (F := Bits))) ⟨m, fun _ => 0, g⟩ (fun r => (∀ c : Dev Cert.GatePrepKernel.nD,
      r.2.mem ((c.tc : Thread Cert.GatePrepKernel.nD Cert.GatePrepKernel.τ).loc Cert.GatePrepKernel.main_arg0) = m ((c.tc : Thread Cert.GatePrepKernel.nD Cert.GatePrepKernel.τ).loc Cert.GatePrepKernel.main_arg0)
      ∧ r.2.mem ((c.tc : Thread Cert.GatePrepKernel.nD Cert.GatePrepKernel.τ).loc Cert.GatePrepKernel.main_arg1) = m ((c.tc : Thread Cert.GatePrepKernel.nD Cert.GatePrepKernel.τ).loc Cert.GatePrepKernel.main_arg1))
      ∧ r.2.sem = fun _ => 0)

def quiescent_GatePrepKernelIdeal [hGatePrepKernelIdeal : Cert.GatePrepKernelIdeal.Facts] : Prop :=
  ∀ (m : (ℓ : Loc Cert.GatePrepKernelIdeal.nD Cert.GatePrepKernelIdeal.τ Cert.GatePrepKernelIdeal.sig) → Buf (Elt Ideal) ℓ) (g : Dev Cert.GatePrepKernelIdeal.nD → PrngReg), Pre_GatePrepKernelIdeal m →
    θ_run (Cert.GatePrepKernelIdeal.defs (F := Ideal)) (onTc (τ := Cert.GatePrepKernelIdeal.τ) (Cert.GatePrepKernelIdeal.main (F := Ideal))) ⟨m, fun _ => 0, g⟩ (fun r => (∀ c : Dev Cert.GatePrepKernelIdeal.nD,
      r.2.mem ((c.tc : Thread Cert.GatePrepKernelIdeal.nD Cert.GatePrepKernelIdeal.τ).loc Cert.GatePrepKernelIdeal.main_arg0) = m ((c.tc : Thread Cert.GatePrepKernelIdeal.nD Cert.GatePrepKernelIdeal.τ).loc Cert.GatePrepKernelIdeal.main_arg0)
      ∧ r.2.mem ((c.tc : Thread Cert.GatePrepKernelIdeal.nD Cert.GatePrepKernelIdeal.τ).loc Cert.GatePrepKernelIdeal.main_arg1) = m ((c.tc : Thread Cert.GatePrepKernelIdeal.nD Cert.GatePrepKernelIdeal.τ).loc Cert.GatePrepKernelIdeal.main_arg1))
      ∧ r.2.sem = fun _ => 0)

def quiescent_GatePrepKernelIdeal_pre_gate_prep_finite [hGatePrepKernelIdeal : Cert.GatePrepKernelIdeal.Facts] [hPre_gate_prep_finite : Cert.Pre_gate_prep_finite.Facts] : Prop :=
  ∀ (m : (ℓ : Loc Cert.GatePrepKernelIdeal.nD Cert.GatePrepKernelIdeal.τ Cert.GatePrepKernelIdeal.sig) → Buf (Elt Ideal) ℓ) (g : Dev Cert.GatePrepKernelIdeal.nD → PrngReg), Pre_GatePrepKernelIdeal_gate_prep_finite m →
    θ_run (Cert.GatePrepKernelIdeal.defs (F := Ideal)) (onTc (τ := Cert.GatePrepKernelIdeal.τ) (Cert.GatePrepKernelIdeal.main (F := Ideal))) ⟨m, fun _ => 0, g⟩ (fun r => (∀ c : Dev Cert.GatePrepKernelIdeal.nD,
      r.2.mem ((c.tc : Thread Cert.GatePrepKernelIdeal.nD Cert.GatePrepKernelIdeal.τ).loc Cert.GatePrepKernelIdeal.main_arg0) = m ((c.tc : Thread Cert.GatePrepKernelIdeal.nD Cert.GatePrepKernelIdeal.τ).loc Cert.GatePrepKernelIdeal.main_arg0)
      ∧ r.2.mem ((c.tc : Thread Cert.GatePrepKernelIdeal.nD Cert.GatePrepKernelIdeal.τ).loc Cert.GatePrepKernelIdeal.main_arg1) = m ((c.tc : Thread Cert.GatePrepKernelIdeal.nD Cert.GatePrepKernelIdeal.τ).loc Cert.GatePrepKernelIdeal.main_arg1))
      ∧ r.2.sem = fun _ => 0)

def quiescent_GatePrepReferenceIdeal [hGatePrepReferenceIdeal : Cert.GatePrepReferenceIdeal.Facts] : Prop :=
  ∀ (m : (ℓ : Loc Cert.GatePrepReferenceIdeal.nD Cert.GatePrepReferenceIdeal.τ Cert.GatePrepReferenceIdeal.sig) → Buf (Elt Ideal) ℓ) (g : Dev Cert.GatePrepReferenceIdeal.nD → PrngReg), Pre_GatePrepReferenceIdeal m →
    θ_run (Cert.GatePrepReferenceIdeal.defs (F := Ideal)) (onTc (τ := Cert.GatePrepReferenceIdeal.τ) (Cert.GatePrepReferenceIdeal.main (F := Ideal))) ⟨m, fun _ => 0, g⟩ (fun r => (∀ c : Dev Cert.GatePrepReferenceIdeal.nD,
      r.2.mem ((c.tc : Thread Cert.GatePrepReferenceIdeal.nD Cert.GatePrepReferenceIdeal.τ).loc Cert.GatePrepReferenceIdeal.main_arg0) = m ((c.tc : Thread Cert.GatePrepReferenceIdeal.nD Cert.GatePrepReferenceIdeal.τ).loc Cert.GatePrepReferenceIdeal.main_arg0)
      ∧ r.2.mem ((c.tc : Thread Cert.GatePrepReferenceIdeal.nD Cert.GatePrepReferenceIdeal.τ).loc Cert.GatePrepReferenceIdeal.main_arg1) = m ((c.tc : Thread Cert.GatePrepReferenceIdeal.nD Cert.GatePrepReferenceIdeal.τ).loc Cert.GatePrepReferenceIdeal.main_arg1))
      ∧ r.2.sem = fun _ => 0)

def quiescent_GatePrepReferenceIdeal_pre_gate_prep_finite [hGatePrepReferenceIdeal : Cert.GatePrepReferenceIdeal.Facts] [hPre_gate_prep_finite : Cert.Pre_gate_prep_finite.Facts] : Prop :=
  ∀ (m : (ℓ : Loc Cert.GatePrepReferenceIdeal.nD Cert.GatePrepReferenceIdeal.τ Cert.GatePrepReferenceIdeal.sig) → Buf (Elt Ideal) ℓ) (g : Dev Cert.GatePrepReferenceIdeal.nD → PrngReg), Pre_GatePrepReferenceIdeal_gate_prep_finite m →
    θ_run (Cert.GatePrepReferenceIdeal.defs (F := Ideal)) (onTc (τ := Cert.GatePrepReferenceIdeal.τ) (Cert.GatePrepReferenceIdeal.main (F := Ideal))) ⟨m, fun _ => 0, g⟩ (fun r => (∀ c : Dev Cert.GatePrepReferenceIdeal.nD,
      r.2.mem ((c.tc : Thread Cert.GatePrepReferenceIdeal.nD Cert.GatePrepReferenceIdeal.τ).loc Cert.GatePrepReferenceIdeal.main_arg0) = m ((c.tc : Thread Cert.GatePrepReferenceIdeal.nD Cert.GatePrepReferenceIdeal.τ).loc Cert.GatePrepReferenceIdeal.main_arg0)
      ∧ r.2.mem ((c.tc : Thread Cert.GatePrepReferenceIdeal.nD Cert.GatePrepReferenceIdeal.τ).loc Cert.GatePrepReferenceIdeal.main_arg1) = m ((c.tc : Thread Cert.GatePrepReferenceIdeal.nD Cert.GatePrepReferenceIdeal.τ).loc Cert.GatePrepReferenceIdeal.main_arg1))
      ∧ r.2.sem = fun _ => 0)

def quiescent_FfnUpKernel [hFfnUpKernel : Cert.FfnUpKernel.Facts] : Prop :=
  ∀ (m : (ℓ : Loc Cert.FfnUpKernel.nD Cert.FfnUpKernel.τ Cert.FfnUpKernel.sig) → Buf (Elt Bits) ℓ) (g : Dev Cert.FfnUpKernel.nD → PrngReg), Pre_FfnUpKernel m →
    θ_run (Cert.FfnUpKernel.defs (F := Bits)) (onTc (τ := Cert.FfnUpKernel.τ) (Cert.FfnUpKernel.main (F := Bits))) ⟨m, fun _ => 0, g⟩ (fun r => (∀ c : Dev Cert.FfnUpKernel.nD,
      r.2.mem ((c.tc : Thread Cert.FfnUpKernel.nD Cert.FfnUpKernel.τ).loc Cert.FfnUpKernel.main_arg0) = m ((c.tc : Thread Cert.FfnUpKernel.nD Cert.FfnUpKernel.τ).loc Cert.FfnUpKernel.main_arg0)
      ∧ r.2.mem ((c.tc : Thread Cert.FfnUpKernel.nD Cert.FfnUpKernel.τ).loc Cert.FfnUpKernel.main_arg1) = m ((c.tc : Thread Cert.FfnUpKernel.nD Cert.FfnUpKernel.τ).loc Cert.FfnUpKernel.main_arg1)
      ∧ r.2.mem ((c.tc : Thread Cert.FfnUpKernel.nD Cert.FfnUpKernel.τ).loc Cert.FfnUpKernel.main_arg2) = m ((c.tc : Thread Cert.FfnUpKernel.nD Cert.FfnUpKernel.τ).loc Cert.FfnUpKernel.main_arg2)
      ∧ r.2.mem ((c.tc : Thread Cert.FfnUpKernel.nD Cert.FfnUpKernel.τ).loc Cert.FfnUpKernel.main_arg3) = m ((c.tc : Thread Cert.FfnUpKernel.nD Cert.FfnUpKernel.τ).loc Cert.FfnUpKernel.main_arg3))
      ∧ r.2.sem = fun _ => 0)

def quiescent_FfnUpKernelIdeal [hFfnUpKernelIdeal : Cert.FfnUpKernelIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
      ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_NormMmKernel [hNormMmKernel : Cert.NormMmKernel.Facts] : Prop :=
  ∀ (m : (ℓ : Loc Cert.NormMmKernel.nD Cert.NormMmKernel.τ Cert.NormMmKernel.sig) → Buf (Elt Bits) ℓ) (g : Dev Cert.NormMmKernel.nD → PrngReg), Pre_NormMmKernel m →
    θ_run (Cert.NormMmKernel.defs (F := Bits)) (onTc (τ := Cert.NormMmKernel.τ) (Cert.NormMmKernel.main (F := Bits))) ⟨m, fun _ => 0, g⟩ (fun r => (∀ c : Dev Cert.NormMmKernel.nD,
      r.2.mem ((c.tc : Thread Cert.NormMmKernel.nD Cert.NormMmKernel.τ).loc Cert.NormMmKernel.main_arg0) = m ((c.tc : Thread Cert.NormMmKernel.nD Cert.NormMmKernel.τ).loc Cert.NormMmKernel.main_arg0)
      ∧ r.2.mem ((c.tc : Thread Cert.NormMmKernel.nD Cert.NormMmKernel.τ).loc Cert.NormMmKernel.main_arg1) = m ((c.tc : Thread Cert.NormMmKernel.nD Cert.NormMmKernel.τ).loc Cert.NormMmKernel.main_arg1)
      ∧ r.2.mem ((c.tc : Thread Cert.NormMmKernel.nD Cert.NormMmKernel.τ).loc Cert.NormMmKernel.main_arg2) = m ((c.tc : Thread Cert.NormMmKernel.nD Cert.NormMmKernel.τ).loc Cert.NormMmKernel.main_arg2))
      ∧ r.2.sem = fun _ => 0)

def quiescent_NormMmKernelIdeal [hNormMmKernelIdeal : Cert.NormMmKernelIdeal.Facts] : Prop :=
  ∀ (m : (ℓ : Loc Cert.NormMmKernelIdeal.nD Cert.NormMmKernelIdeal.τ Cert.NormMmKernelIdeal.sig) → Buf (Elt Ideal) ℓ) (g : Dev Cert.NormMmKernelIdeal.nD → PrngReg), Pre_NormMmKernelIdeal m →
    θ_run (Cert.NormMmKernelIdeal.defs (F := Ideal)) (onTc (τ := Cert.NormMmKernelIdeal.τ) (Cert.NormMmKernelIdeal.main (F := Ideal))) ⟨m, fun _ => 0, g⟩ (fun r => (∀ c : Dev Cert.NormMmKernelIdeal.nD,
      r.2.mem ((c.tc : Thread Cert.NormMmKernelIdeal.nD Cert.NormMmKernelIdeal.τ).loc Cert.NormMmKernelIdeal.main_arg0) = m ((c.tc : Thread Cert.NormMmKernelIdeal.nD Cert.NormMmKernelIdeal.τ).loc Cert.NormMmKernelIdeal.main_arg0)
      ∧ r.2.mem ((c.tc : Thread Cert.NormMmKernelIdeal.nD Cert.NormMmKernelIdeal.τ).loc Cert.NormMmKernelIdeal.main_arg1) = m ((c.tc : Thread Cert.NormMmKernelIdeal.nD Cert.NormMmKernelIdeal.τ).loc Cert.NormMmKernelIdeal.main_arg1)
      ∧ r.2.mem ((c.tc : Thread Cert.NormMmKernelIdeal.nD Cert.NormMmKernelIdeal.τ).loc Cert.NormMmKernelIdeal.main_arg2) = m ((c.tc : Thread Cert.NormMmKernelIdeal.nD Cert.NormMmKernelIdeal.τ).loc Cert.NormMmKernelIdeal.main_arg2))
      ∧ r.2.sem = fun _ => 0)

def quiescent_NormMmReferenceIdeal [hNormMmReferenceIdeal : Cert.NormMmReferenceIdeal.Facts] : Prop :=
  ∀ (m : (ℓ : Loc Cert.NormMmReferenceIdeal.nD Cert.NormMmReferenceIdeal.τ Cert.NormMmReferenceIdeal.sig) → Buf (Elt Ideal) ℓ) (g : Dev Cert.NormMmReferenceIdeal.nD → PrngReg), Pre_NormMmReferenceIdeal m →
    θ_run (Cert.NormMmReferenceIdeal.defs (F := Ideal)) (onTc (τ := Cert.NormMmReferenceIdeal.τ) (Cert.NormMmReferenceIdeal.main (F := Ideal))) ⟨m, fun _ => 0, g⟩ (fun r => (∀ c : Dev Cert.NormMmReferenceIdeal.nD,
      r.2.mem ((c.tc : Thread Cert.NormMmReferenceIdeal.nD Cert.NormMmReferenceIdeal.τ).loc Cert.NormMmReferenceIdeal.main_arg0) = m ((c.tc : Thread Cert.NormMmReferenceIdeal.nD Cert.NormMmReferenceIdeal.τ).loc Cert.NormMmReferenceIdeal.main_arg0)
      ∧ r.2.mem ((c.tc : Thread Cert.NormMmReferenceIdeal.nD Cert.NormMmReferenceIdeal.τ).loc Cert.NormMmReferenceIdeal.main_arg1) = m ((c.tc : Thread Cert.NormMmReferenceIdeal.nD Cert.NormMmReferenceIdeal.τ).loc Cert.NormMmReferenceIdeal.main_arg1)
      ∧ r.2.mem ((c.tc : Thread Cert.NormMmReferenceIdeal.nD Cert.NormMmReferenceIdeal.τ).loc Cert.NormMmReferenceIdeal.main_arg2) = m ((c.tc : Thread Cert.NormMmReferenceIdeal.nD Cert.NormMmReferenceIdeal.τ).loc Cert.NormMmReferenceIdeal.main_arg2))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1)
      ∧ r.2.mem ((c.tc : Thread Cert.ConvFwdKernel.nD Cert.ConvFwdKernel.τ).loc Cert.ConvFwdKernel.main_arg2) = m ((c.tc : Thread Cert.ConvFwdKernel.nD Cert.ConvFwdKernel.τ).loc Cert.ConvFwdKernel.main_arg2)
      ∧ r.2.mem ((c.tc : Thread Cert.ConvFwdKernel.nD Cert.ConvFwdKernel.τ).loc Cert.ConvFwdKernel.main_arg3) = m ((c.tc : Thread Cert.ConvFwdKernel.nD Cert.ConvFwdKernel.τ).loc Cert.ConvFwdKernel.main_arg3)
      ∧ r.2.mem ((c.tc : Thread Cert.ConvFwdKernel.nD Cert.ConvFwdKernel.τ).loc Cert.ConvFwdKernel.main_arg4) = m ((c.tc : Thread Cert.ConvFwdKernel.nD Cert.ConvFwdKernel.τ).loc Cert.ConvFwdKernel.main_arg4))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
      ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2)
      ∧ r.2.mem ((c.tc : Thread Cert.ConvFwdKernelIdeal.nD Cert.ConvFwdKernelIdeal.τ).loc Cert.ConvFwdKernelIdeal.main_arg3) = m ((c.tc : Thread Cert.ConvFwdKernelIdeal.nD Cert.ConvFwdKernelIdeal.τ).loc Cert.ConvFwdKernelIdeal.main_arg3)
      ∧ r.2.mem ((c.tc : Thread Cert.ConvFwdKernelIdeal.nD Cert.ConvFwdKernelIdeal.τ).loc Cert.ConvFwdKernelIdeal.main_arg4) = m ((c.tc : Thread Cert.ConvFwdKernelIdeal.nD Cert.ConvFwdKernelIdeal.τ).loc Cert.ConvFwdKernelIdeal.main_arg4))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2)
      ∧ r.2.mem ((c.tc : Thread Cert.ConvFwdReferenceIdeal.nD Cert.ConvFwdReferenceIdeal.τ).loc Cert.ConvFwdReferenceIdeal.main_arg3) = m ((c.tc : Thread Cert.ConvFwdReferenceIdeal.nD Cert.ConvFwdReferenceIdeal.τ).loc Cert.ConvFwdReferenceIdeal.main_arg3)
      ∧ r.2.mem ((c.tc : Thread Cert.ConvFwdReferenceIdeal.nD Cert.ConvFwdReferenceIdeal.τ).loc Cert.ConvFwdReferenceIdeal.main_arg4) = m ((c.tc : Thread Cert.ConvFwdReferenceIdeal.nD Cert.ConvFwdReferenceIdeal.τ).loc Cert.ConvFwdReferenceIdeal.main_arg4))
      ∧ r.2.sem = fun _ => 0)

def preserves_FinalKernel_FinalKernelIdeal : Prop :=
  True

def algebraic_FinalKernelIdeal_FinalReferenceIdeal_pre_final_finite [hFinalKernelIdeal : Cert.FinalKernelIdeal.Facts] [hFinalReferenceIdeal : Cert.FinalReferenceIdeal.Facts] [hPre_final_finite : Cert.Pre_final_finite.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal_final_finite m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)) →
    ∃ (v0 : (c : Dev Cert.FinalKernelIdeal.nD) → Buf (Elt Ideal) ((c.tc : Thread Cert.FinalKernelIdeal.nD Cert.FinalKernelIdeal.τ).loc Cert.FinalKernelIdeal.main_v1_0)) (v1 : (c : Dev Cert.FinalKernelIdeal.nD) → Buf (Elt Ideal) ((c.tc : Thread Cert.FinalKernelIdeal.nD Cert.FinalKernelIdeal.τ).loc Cert.FinalKernelIdeal.main_v1_1)) (v2 : (c : Dev Cert.FinalKernelIdeal.nD) → Buf (Elt Ideal) ((c.tc : Thread Cert.FinalKernelIdeal.nD Cert.FinalKernelIdeal.τ).loc Cert.FinalKernelIdeal.main_v1_2)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v1_0) = v0 c
          ∧ r.2.mem ((c.tc : Thread Cert.FinalKernelIdeal.nD Cert.FinalKernelIdeal.τ).loc Cert.FinalKernelIdeal.main_v1_1) = v1 c
          ∧ r.2.mem ((c.tc : Thread Cert.FinalKernelIdeal.nD Cert.FinalKernelIdeal.τ).loc Cert.FinalKernelIdeal.main_v1_2) = v2 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v50) = v0 c
          ∧ r.2.mem ((c.tc : Thread Cert.FinalReferenceIdeal.nD Cert.FinalReferenceIdeal.τ).loc Cert.FinalReferenceIdeal.main_v51) = v1 c
          ∧ r.2.mem ((c.tc : Thread Cert.FinalReferenceIdeal.nD Cert.FinalReferenceIdeal.τ).loc Cert.FinalReferenceIdeal.main_v52) = v2 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)) (v2 : (c : Dev Cert.GateKernelIdeal.nD) → Buf (Elt Ideal) ((c.tc : Thread Cert.GateKernelIdeal.nD Cert.GateKernelIdeal.τ).loc Cert.GateKernelIdeal.main_v0_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_v0_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v13) = v0 c
          ∧ r.2.mem ((c.tc : Thread Cert.GateReferenceIdeal.nD Cert.GateReferenceIdeal.τ).loc Cert.GateReferenceIdeal.main_v14) = v1 c
          ∧ r.2.mem ((c.tc : Thread Cert.GateReferenceIdeal.nD Cert.GateReferenceIdeal.τ).loc Cert.GateReferenceIdeal.main_v15) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_GateBiasKernel_GateBiasKernelIdeal : Prop :=
  True

def algebraic_GateBiasKernelIdeal_GateBiasReferenceIdeal_pre_gate_bias_finite [hGateBiasKernelIdeal : Cert.GateBiasKernelIdeal.Facts] [hGateBiasReferenceIdeal : Cert.GateBiasReferenceIdeal.Facts] [hPre_gate_bias_finite : Cert.Pre_gate_bias_finite.Facts] : Prop :=
  ∀ (m : (ℓ : Loc Cert.GateBiasKernelIdeal.nD Cert.GateBiasKernelIdeal.τ Cert.GateBiasKernelIdeal.sig) → Buf (Elt Ideal) ℓ) (g : Dev Cert.GateBiasKernelIdeal.nD → PrngReg)
    (m' : (ℓ : Loc Cert.GateBiasReferenceIdeal.nD Cert.GateBiasReferenceIdeal.τ Cert.GateBiasReferenceIdeal.sig) → Buf (Elt Ideal) ℓ) (g' : Dev Cert.GateBiasReferenceIdeal.nD → PrngReg), Pre_GateBiasKernelIdeal_gate_bias_finite m →
    (∀ c : Dev Cert.GateBiasKernelIdeal.nD,
      m' ((c.tc : Thread Cert.GateBiasReferenceIdeal.nD Cert.GateBiasReferenceIdeal.τ).loc Cert.GateBiasReferenceIdeal.main_arg0) = m ((c.tc : Thread Cert.GateBiasKernelIdeal.nD Cert.GateBiasKernelIdeal.τ).loc Cert.GateBiasKernelIdeal.main_arg0)
      ∧ m' ((c.tc : Thread Cert.GateBiasReferenceIdeal.nD Cert.GateBiasReferenceIdeal.τ).loc Cert.GateBiasReferenceIdeal.main_arg1) = m ((c.tc : Thread Cert.GateBiasKernelIdeal.nD Cert.GateBiasKernelIdeal.τ).loc Cert.GateBiasKernelIdeal.main_arg1)
      ∧ m' ((c.tc : Thread Cert.GateBiasReferenceIdeal.nD Cert.GateBiasReferenceIdeal.τ).loc Cert.GateBiasReferenceIdeal.main_arg2) = m ((c.tc : Thread Cert.GateBiasKernelIdeal.nD Cert.GateBiasKernelIdeal.τ).loc Cert.GateBiasKernelIdeal.main_arg2)
      ∧ m' ((c.tc : Thread Cert.GateBiasReferenceIdeal.nD Cert.GateBiasReferenceIdeal.τ).loc Cert.GateBiasReferenceIdeal.main_arg3) = m ((c.tc : Thread Cert.GateBiasKernelIdeal.nD Cert.GateBiasKernelIdeal.τ).loc Cert.GateBiasKernelIdeal.main_arg3)) →
    ∃ (v0 : (c : Dev Cert.GateBiasKernelIdeal.nD) → Buf (Elt Ideal) ((c.tc : Thread Cert.GateBiasKernelIdeal.nD Cert.GateBiasKernelIdeal.τ).loc Cert.GateBiasKernelIdeal.main_v2_0)) (v1 : (c : Dev Cert.GateBiasKernelIdeal.nD) → Buf (Elt Ideal) ((c.tc : Thread Cert.GateBiasKernelIdeal.nD Cert.GateBiasKernelIdeal.τ).loc Cert.GateBiasKernelIdeal.main_v2_1)),
      θ_run (Cert.GateBiasKernelIdeal.defs (F := Ideal)) (onTc (τ := Cert.GateBiasKernelIdeal.τ) (Cert.GateBiasKernelIdeal.main (F := Ideal))) ⟨m, fun _ => 0, g⟩ (fun r => ∀ c : Dev Cert.GateBiasKernelIdeal.nD,
          r.2.mem ((c.tc : Thread Cert.GateBiasKernelIdeal.nD Cert.GateBiasKernelIdeal.τ).loc Cert.GateBiasKernelIdeal.main_v2_0) = v0 c
          ∧ r.2.mem ((c.tc : Thread Cert.GateBiasKernelIdeal.nD Cert.GateBiasKernelIdeal.τ).loc Cert.GateBiasKernelIdeal.main_v2_1) = v1 c
          ∧ r.2.mem ((c.tc : Thread Cert.GateBiasKernelIdeal.nD Cert.GateBiasKernelIdeal.τ).loc Cert.GateBiasKernelIdeal.main_arg0) = m ((c.tc : Thread Cert.GateBiasKernelIdeal.nD Cert.GateBiasKernelIdeal.τ).loc Cert.GateBiasKernelIdeal.main_arg0)
          ∧ r.2.mem ((c.tc : Thread Cert.GateBiasKernelIdeal.nD Cert.GateBiasKernelIdeal.τ).loc Cert.GateBiasKernelIdeal.main_arg1) = m ((c.tc : Thread Cert.GateBiasKernelIdeal.nD Cert.GateBiasKernelIdeal.τ).loc Cert.GateBiasKernelIdeal.main_arg1)
          ∧ r.2.mem ((c.tc : Thread Cert.GateBiasKernelIdeal.nD Cert.GateBiasKernelIdeal.τ).loc Cert.GateBiasKernelIdeal.main_arg2) = m ((c.tc : Thread Cert.GateBiasKernelIdeal.nD Cert.GateBiasKernelIdeal.τ).loc Cert.GateBiasKernelIdeal.main_arg2)
          ∧ r.2.mem ((c.tc : Thread Cert.GateBiasKernelIdeal.nD Cert.GateBiasKernelIdeal.τ).loc Cert.GateBiasKernelIdeal.main_arg3) = m ((c.tc : Thread Cert.GateBiasKernelIdeal.nD Cert.GateBiasKernelIdeal.τ).loc Cert.GateBiasKernelIdeal.main_arg3))
      ∧ θ_run (Cert.GateBiasReferenceIdeal.defs (F := Ideal)) (onTc (τ := Cert.GateBiasReferenceIdeal.τ) (Cert.GateBiasReferenceIdeal.main (F := Ideal))) ⟨m', fun _ => 0, g'⟩ (fun r => ∀ c : Dev Cert.GateBiasReferenceIdeal.nD,
          r.2.mem ((c.tc : Thread Cert.GateBiasReferenceIdeal.nD Cert.GateBiasReferenceIdeal.τ).loc Cert.GateBiasReferenceIdeal.main_v33) = v0 c
          ∧ r.2.mem ((c.tc : Thread Cert.GateBiasReferenceIdeal.nD Cert.GateBiasReferenceIdeal.τ).loc Cert.GateBiasReferenceIdeal.main_v35) = v1 c
          ∧ r.2.mem ((c.tc : Thread Cert.GateBiasReferenceIdeal.nD Cert.GateBiasReferenceIdeal.τ).loc Cert.GateBiasReferenceIdeal.main_arg0) = m' ((c.tc : Thread Cert.GateBiasReferenceIdeal.nD Cert.GateBiasReferenceIdeal.τ).loc Cert.GateBiasReferenceIdeal.main_arg0)
          ∧ r.2.mem ((c.tc : Thread Cert.GateBiasReferenceIdeal.nD Cert.GateBiasReferenceIdeal.τ).loc Cert.GateBiasReferenceIdeal.main_arg1) = m' ((c.tc : Thread Cert.GateBiasReferenceIdeal.nD Cert.GateBiasReferenceIdeal.τ).loc Cert.GateBiasReferenceIdeal.main_arg1)
          ∧ r.2.mem ((c.tc : Thread Cert.GateBiasReferenceIdeal.nD Cert.GateBiasReferenceIdeal.τ).loc Cert.GateBiasReferenceIdeal.main_arg2) = m' ((c.tc : Thread Cert.GateBiasReferenceIdeal.nD Cert.GateBiasReferenceIdeal.τ).loc Cert.GateBiasReferenceIdeal.main_arg2)
          ∧ r.2.mem ((c.tc : Thread Cert.GateBiasReferenceIdeal.nD Cert.GateBiasReferenceIdeal.τ).loc Cert.GateBiasReferenceIdeal.main_arg3) = m' ((c.tc : Thread Cert.GateBiasReferenceIdeal.nD Cert.GateBiasReferenceIdeal.τ).loc Cert.GateBiasReferenceIdeal.main_arg3))

def preserves_FfnInKernel_FfnInKernelIdeal : Prop :=
  True

def algebraic_FfnInKernelIdeal_FfnInReferenceIdeal_pre_ffn_in_finite [hFfnInKernelIdeal : Cert.FfnInKernelIdeal.Facts] [hFfnInReferenceIdeal : Cert.FfnInReferenceIdeal.Facts] [hPre_ffn_in_finite : Cert.Pre_ffn_in_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal_ffn_in_finite m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)
      ∧ m' ((c.tc : Thread Cert.FfnInReferenceIdeal.nD Cert.FfnInReferenceIdeal.τ).loc Cert.FfnInReferenceIdeal.main_arg2) = m ((c.tc : Thread Cert.FfnInKernelIdeal.nD Cert.FfnInKernelIdeal.τ).loc Cert.FfnInKernelIdeal.main_arg2)
      ∧ m' ((c.tc : Thread Cert.FfnInReferenceIdeal.nD Cert.FfnInReferenceIdeal.τ).loc Cert.FfnInReferenceIdeal.main_arg3) = m ((c.tc : Thread Cert.FfnInKernelIdeal.nD Cert.FfnInKernelIdeal.τ).loc Cert.FfnInKernelIdeal.main_arg3)
      ∧ m' ((c.tc : Thread Cert.FfnInReferenceIdeal.nD Cert.FfnInReferenceIdeal.τ).loc Cert.FfnInReferenceIdeal.main_arg4) = m ((c.tc : Thread Cert.FfnInKernelIdeal.nD Cert.FfnInKernelIdeal.τ).loc Cert.FfnInKernelIdeal.main_arg4)
      ∧ m' ((c.tc : Thread Cert.FfnInReferenceIdeal.nD Cert.FfnInReferenceIdeal.τ).loc Cert.FfnInReferenceIdeal.main_arg5) = m ((c.tc : Thread Cert.FfnInKernelIdeal.nD Cert.FfnInKernelIdeal.τ).loc Cert.FfnInKernelIdeal.main_arg5)
      ∧ m' ((c.tc : Thread Cert.FfnInReferenceIdeal.nD Cert.FfnInReferenceIdeal.τ).loc Cert.FfnInReferenceIdeal.main_arg6) = m ((c.tc : Thread Cert.FfnInKernelIdeal.nD Cert.FfnInKernelIdeal.τ).loc Cert.FfnInKernelIdeal.main_arg6)) →
    ∃ (v0 : (c : Dev Cert.FfnInKernelIdeal.nD) → Buf (Elt Ideal) ((c.tc : Thread Cert.FfnInKernelIdeal.nD Cert.FfnInKernelIdeal.τ).loc Cert.FfnInKernelIdeal.main_v1_0)) (v1 : (c : Dev Cert.FfnInKernelIdeal.nD) → Buf (Elt Ideal) ((c.tc : Thread Cert.FfnInKernelIdeal.nD Cert.FfnInKernelIdeal.τ).loc Cert.FfnInKernelIdeal.main_v1_1)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v1_0) = v0 c
          ∧ r.2.mem ((c.tc : Thread Cert.FfnInKernelIdeal.nD Cert.FfnInKernelIdeal.τ).loc Cert.FfnInKernelIdeal.main_v1_1) = v1 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
          ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
          ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
          ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
          ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
          ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v49) = v0 c
          ∧ r.2.mem ((c.tc : Thread Cert.FfnInReferenceIdeal.nD Cert.FfnInReferenceIdeal.τ).loc Cert.FfnInReferenceIdeal.main_v50) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4)
          ∧ r.2.mem ((c.tc : Thread Cert.FfnInReferenceIdeal.nD Cert.FfnInReferenceIdeal.τ).loc Cert.FfnInReferenceIdeal.main_arg5) = m' ((c.tc : Thread Cert.FfnInReferenceIdeal.nD Cert.FfnInReferenceIdeal.τ).loc Cert.FfnInReferenceIdeal.main_arg5)
          ∧ r.2.mem ((c.tc : Thread Cert.FfnInReferenceIdeal.nD Cert.FfnInReferenceIdeal.τ).loc Cert.FfnInReferenceIdeal.main_arg6) = m' ((c.tc : Thread Cert.FfnInReferenceIdeal.nD Cert.FfnInReferenceIdeal.τ).loc Cert.FfnInReferenceIdeal.main_arg6))

def preserves_DhKernel_DhKernelIdeal : Prop :=
  True

def algebraic_DhKernelIdeal_DhReferenceIdeal_pre_dh_finite [hDhKernelIdeal : Cert.DhKernelIdeal.Facts] [hDhReferenceIdeal : Cert.DhReferenceIdeal.Facts] [hPre_dh_finite : Cert.Pre_dh_finite.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal_dh_finite m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)) →
    ∃ (v0 : (c : Dev Cert.DhKernelIdeal.nD) → Buf (Elt Ideal) ((c.tc : Thread Cert.DhKernelIdeal.nD Cert.DhKernelIdeal.τ).loc Cert.DhKernelIdeal.main_v1_0)) (v1 : (c : Dev Cert.DhKernelIdeal.nD) → Buf (Elt Ideal) ((c.tc : Thread Cert.DhKernelIdeal.nD Cert.DhKernelIdeal.τ).loc Cert.DhKernelIdeal.main_v1_1)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v1_0) = v0 c
          ∧ r.2.mem ((c.tc : Thread Cert.DhKernelIdeal.nD Cert.DhKernelIdeal.τ).loc Cert.DhKernelIdeal.main_v1_1) = v1 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v41) = v0 c
          ∧ r.2.mem ((c.tc : Thread Cert.DhReferenceIdeal.nD Cert.DhReferenceIdeal.τ).loc Cert.DhReferenceIdeal.main_v42) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_AttnKernel_AttnKernelIdeal : Prop :=
  IdealRules.named_const.Statement Cert.AttnKernelIdeal.κ "mask" .f32 0xF149F2CA#32 ⊥

def algebraic_AttnKernelIdeal_AttnReferenceIdeal_on_bias_lanes_pre_attn_finite [hAttnKernelIdeal : Cert.AttnKernelIdeal.Facts] [hAttnReferenceIdeal : Cert.AttnReferenceIdeal.Facts] [hPre_attn_finite : Cert.Pre_attn_finite.Facts] [hOn_bias_lanes : Cert.On_bias_lanes.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v74_0)) (v1 : (c : Dev Cert.AttnKernelIdeal.nD) → Buf (Elt Ideal) ((c.tc : Thread Cert.AttnKernelIdeal.nD Cert.AttnKernelIdeal.τ).loc Cert.AttnKernelIdeal.main_v74_1)) (v2 : (c : Dev Cert.AttnKernelIdeal.nD) → Buf (Elt Ideal) ((c.tc : Thread Cert.AttnKernelIdeal.nD Cert.AttnKernelIdeal.τ).loc Cert.AttnKernelIdeal.main_v74_2)) (v3 : (c : Dev Cert.AttnKernelIdeal.nD) → Buf (Elt Ideal) ((c.tc : Thread Cert.AttnKernelIdeal.nD Cert.AttnKernelIdeal.τ).loc Cert.AttnKernelIdeal.main_v74_3)) (v4 : (c : Dev Cert.AttnKernelIdeal.nD) → Buf (Elt Ideal) ((c.tc : Thread Cert.AttnKernelIdeal.nD Cert.AttnKernelIdeal.τ).loc Cert.AttnKernelIdeal.main_v74_4)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 i = 1#1 → r.2.mem ((c.tc : Thread Cert.AttnKernelIdeal.nD Cert.AttnKernelIdeal.τ).loc Cert.AttnKernelIdeal.main_v74_0) i = v0 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.1 i = 1#1 → r.2.mem ((c.tc : Thread Cert.AttnKernelIdeal.nD Cert.AttnKernelIdeal.τ).loc Cert.AttnKernelIdeal.main_v74_1) i = v1 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.1 i = 1#1 → r.2.mem ((c.tc : Thread Cert.AttnKernelIdeal.nD Cert.AttnKernelIdeal.τ).loc Cert.AttnKernelIdeal.main_v74_2) i = v2 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.2.1 i = 1#1 → r.2.mem ((c.tc : Thread Cert.AttnKernelIdeal.nD Cert.AttnKernelIdeal.τ).loc Cert.AttnKernelIdeal.main_v74_3) i = v3 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.2.2 i = 1#1 → r.2.mem ((c.tc : Thread Cert.AttnKernelIdeal.nD Cert.AttnKernelIdeal.τ).loc Cert.AttnKernelIdeal.main_v74_4) i = v4 c i)
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 i = 1#1 → r.2.mem ((c.tc : Thread Cert.AttnReferenceIdeal.nD Cert.AttnReferenceIdeal.τ).loc Cert.AttnReferenceIdeal.main_v102) i = v0 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.1 i = 1#1 → r.2.mem ((c.tc : Thread Cert.AttnReferenceIdeal.nD Cert.AttnReferenceIdeal.τ).loc Cert.AttnReferenceIdeal.main_v103) i = v1 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.1 i = 1#1 → r.2.mem ((c.tc : Thread Cert.AttnReferenceIdeal.nD Cert.AttnReferenceIdeal.τ).loc Cert.AttnReferenceIdeal.main_v104) i = v2 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.2.1 i = 1#1 → r.2.mem ((c.tc : Thread Cert.AttnReferenceIdeal.nD Cert.AttnReferenceIdeal.τ).loc Cert.AttnReferenceIdeal.main_v110) i = v3 c i)
          ∧ (∀ i : (⟨2, ![4096, 1024]⟩ : Shape).Idx, (Cert.On_bias_lanes.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2.2.2 i = 1#1 → r.2.mem ((c.tc : Thread Cert.AttnReferenceIdeal.nD Cert.AttnReferenceIdeal.τ).loc Cert.AttnReferenceIdeal.main_v115) i = v4 c i)
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_AttnFwdKernel_AttnFwdKernelIdeal : Prop :=
  IdealRules.named_const.Statement Cert.AttnFwdKernelIdeal.κ "mask" .f32 0xF149F2CA#32 ⊥

def algebraic_AttnFwdKernelIdeal_AttnFwdReferenceIdeal_pre_attn_fwd_finite [hAttnFwdKernelIdeal : Cert.AttnFwdKernelIdeal.Facts] [hAttnFwdReferenceIdeal : Cert.AttnFwdReferenceIdeal.Facts] [hPre_attn_fwd_finite : Cert.Pre_attn_fwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdKernelIdeal_attn_fwd_finite m →
    (∀ c : Dev Cert.AttnFwdKernelIdeal.nD,
      m' ((c.tc : Thread Cert.AttnFwdReferenceIdeal.nD Cert.AttnFwdReferenceIdeal.τ).loc Cert.AttnFwdReferenceIdeal.main_arg0) = m ((c.tc : Thread Cert.AttnFwdKernelIdeal.nD Cert.AttnFwdKernelIdeal.τ).loc Cert.AttnFwdKernelIdeal.main_arg0)
      ∧ m' ((c.tc : Thread Cert.AttnFwdReferenceIdeal.nD Cert.AttnFwdReferenceIdeal.τ).loc Cert.AttnFwdReferenceIdeal.main_arg1) = m ((c.tc : Thread Cert.AttnFwdKernelIdeal.nD Cert.AttnFwdKernelIdeal.τ).loc Cert.AttnFwdKernelIdeal.main_arg1)) →
    ∃ (v0 : (c : Dev Cert.AttnFwdKernelIdeal.nD) → Buf (Elt Ideal) ((c.tc : Thread Cert.AttnFwdKernelIdeal.nD Cert.AttnFwdKernelIdeal.τ).loc Cert.AttnFwdKernelIdeal.main_v33_0)) (v1 : (c : Dev Cert.AttnFwdKernelIdeal.nD) → Buf (Elt Ideal) ((c.tc : Thread Cert.AttnFwdKernelIdeal.nD Cert.AttnFwdKernelIdeal.τ).loc Cert.AttnFwdKernelIdeal.main_v33_1)) (v2 : (c : Dev Cert.AttnFwdKernelIdeal.nD) → Buf (Elt Ideal) ((c.tc : Thread Cert.AttnFwdKernelIdeal.nD Cert.AttnFwdKernelIdeal.τ).loc Cert.AttnFwdKernelIdeal.main_v33_2)),
      θ_run (Cert.AttnFwdKernelIdeal.defs (F := Ideal)) (onTc (τ := Cert.AttnFwdKernelIdeal.τ) (Cert.AttnFwdKernelIdeal.main (F := Ideal))) ⟨m, fun _ => 0, g⟩ (fun r => ∀ c : Dev Cert.AttnFwdKernelIdeal.nD,
          r.2.mem ((c.tc : Thread Cert.AttnFwdKernelIdeal.nD Cert.AttnFwdKernelIdeal.τ).loc Cert.AttnFwdKernelIdeal.main_v33_0) = v0 c
          ∧ r.2.mem ((c.tc : Thread Cert.AttnFwdKernelIdeal.nD Cert.AttnFwdKernelIdeal.τ).loc Cert.AttnFwdKernelIdeal.main_v33_1) = v1 c
          ∧ r.2.mem ((c.tc : Thread Cert.AttnFwdKernelIdeal.nD Cert.AttnFwdKernelIdeal.τ).loc Cert.AttnFwdKernelIdeal.main_v33_2) = v2 c
          ∧ r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
          ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v83) = v0 c
          ∧ r.2.mem ((c.tc : Thread Cert.AttnFwdReferenceIdeal.nD Cert.AttnFwdReferenceIdeal.τ).loc Cert.AttnFwdReferenceIdeal.main_v47) = v1 c
          ∧ r.2.mem ((c.tc : Thread Cert.AttnFwdReferenceIdeal.nD Cert.AttnFwdReferenceIdeal.τ).loc Cert.AttnFwdReferenceIdeal.main_v82) = v2 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def preserves_GatePrepKernel_GatePrepKernelIdeal : Prop :=
  True

def algebraic_GatePrepKernelIdeal_GatePrepReferenceIdeal_pre_gate_prep_finite [hGatePrepKernelIdeal : Cert.GatePrepKernelIdeal.Facts] [hGatePrepReferenceIdeal : Cert.GatePrepReferenceIdeal.Facts] [hPre_gate_prep_finite : Cert.Pre_gate_prep_finite.Facts] : Prop :=
  ∀ (m : (ℓ : Loc Cert.GatePrepKernelIdeal.nD Cert.GatePrepKernelIdeal.τ Cert.GatePrepKernelIdeal.sig) → Buf (Elt Ideal) ℓ) (g : Dev Cert.GatePrepKernelIdeal.nD → PrngReg)
    (m' : (ℓ : Loc Cert.GatePrepReferenceIdeal.nD Cert.GatePrepReferenceIdeal.τ Cert.GatePrepReferenceIdeal.sig) → Buf (Elt Ideal) ℓ) (g' : Dev Cert.GatePrepReferenceIdeal.nD → PrngReg), Pre_GatePrepKernelIdeal_gate_prep_finite m →
    (∀ c : Dev Cert.GatePrepKernelIdeal.nD,
      m' ((c.tc : Thread Cert.GatePrepReferenceIdeal.nD Cert.GatePrepReferenceIdeal.τ).loc Cert.GatePrepReferenceIdeal.main_arg0) = m ((c.tc : Thread Cert.GatePrepKernelIdeal.nD Cert.GatePrepKernelIdeal.τ).loc Cert.GatePrepKernelIdeal.main_arg0)
      ∧ m' ((c.tc : Thread Cert.GatePrepReferenceIdeal.nD Cert.GatePrepReferenceIdeal.τ).loc Cert.GatePrepReferenceIdeal.main_arg1) = m ((c.tc : Thread Cert.GatePrepKernelIdeal.nD Cert.GatePrepKernelIdeal.τ).loc Cert.GatePrepKernelIdeal.main_arg1)) →
    ∃ (v0 : (c : Dev Cert.GatePrepKernelIdeal.nD) → Buf (Elt Ideal) ((c.tc : Thread Cert.GatePrepKernelIdeal.nD Cert.GatePrepKernelIdeal.τ).loc Cert.GatePrepKernelIdeal.main_v3)),
      θ_run (Cert.GatePrepKernelIdeal.defs (F := Ideal)) (onTc (τ := Cert.GatePrepKernelIdeal.τ) (Cert.GatePrepKernelIdeal.main (F := Ideal))) ⟨m, fun _ => 0, g⟩ (fun r => ∀ c : Dev Cert.GatePrepKernelIdeal.nD,
          r.2.mem ((c.tc : Thread Cert.GatePrepKernelIdeal.nD Cert.GatePrepKernelIdeal.τ).loc Cert.GatePrepKernelIdeal.main_v3) = v0 c
          ∧ r.2.mem ((c.tc : Thread Cert.GatePrepKernelIdeal.nD Cert.GatePrepKernelIdeal.τ).loc Cert.GatePrepKernelIdeal.main_arg0) = m ((c.tc : Thread Cert.GatePrepKernelIdeal.nD Cert.GatePrepKernelIdeal.τ).loc Cert.GatePrepKernelIdeal.main_arg0)
          ∧ r.2.mem ((c.tc : Thread Cert.GatePrepKernelIdeal.nD Cert.GatePrepKernelIdeal.τ).loc Cert.GatePrepKernelIdeal.main_arg1) = m ((c.tc : Thread Cert.GatePrepKernelIdeal.nD Cert.GatePrepKernelIdeal.τ).loc Cert.GatePrepKernelIdeal.main_arg1))
      ∧ θ_run (Cert.GatePrepReferenceIdeal.defs (F := Ideal)) (onTc (τ := Cert.GatePrepReferenceIdeal.τ) (Cert.GatePrepReferenceIdeal.main (F := Ideal))) ⟨m', fun _ => 0, g'⟩ (fun r => ∀ c : Dev Cert.GatePrepReferenceIdeal.nD,
          r.2.mem ((c.tc : Thread Cert.GatePrepReferenceIdeal.nD Cert.GatePrepReferenceIdeal.τ).loc Cert.GatePrepReferenceIdeal.main_v31) = v0 c
          ∧ r.2.mem ((c.tc : Thread Cert.GatePrepReferenceIdeal.nD Cert.GatePrepReferenceIdeal.τ).loc Cert.GatePrepReferenceIdeal.main_arg0) = m' ((c.tc : Thread Cert.GatePrepReferenceIdeal.nD Cert.GatePrepReferenceIdeal.τ).loc Cert.GatePrepReferenceIdeal.main_arg0)
          ∧ r.2.mem ((c.tc : Thread Cert.GatePrepReferenceIdeal.nD Cert.GatePrepReferenceIdeal.τ).loc Cert.GatePrepReferenceIdeal.main_arg1) = m' ((c.tc : Thread Cert.GatePrepReferenceIdeal.nD Cert.GatePrepReferenceIdeal.τ).loc Cert.GatePrepReferenceIdeal.main_arg1))

def preserves_FfnUpKernel_FfnUpKernelIdeal : Prop :=
  True

def algebraic_FfnUpKernelIdeal_FfnUpReferenceIdeal [hFfnUpKernelIdeal : Cert.FfnUpKernelIdeal.Facts] [hFfnUpReferenceIdeal : Cert.FfnUpReferenceIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpKernelIdeal m →
    (∀ c : Dev Cert.FfnUpKernelIdeal.nD,
      m' ((c.tc : Thread Cert.FfnUpReferenceIdeal.nD Cert.FfnUpReferenceIdeal.τ).loc Cert.FfnUpReferenceIdeal.main_arg0) = m ((c.tc : Thread Cert.FfnUpKernelIdeal.nD Cert.FfnUpKernelIdeal.τ).loc Cert.FfnUpKernelIdeal.main_arg0)
      ∧ m' ((c.tc : Thread Cert.FfnUpReferenceIdeal.nD Cert.FfnUpReferenceIdeal.τ).loc Cert.FfnUpReferenceIdeal.main_arg1) = m ((c.tc : Thread Cert.FfnUpKernelIdeal.nD Cert.FfnUpKernelIdeal.τ).loc Cert.FfnUpKernelIdeal.main_arg1)
      ∧ m' ((c.tc : Thread Cert.FfnUpReferenceIdeal.nD Cert.FfnUpReferenceIdeal.τ).loc Cert.FfnUpReferenceIdeal.main_arg2) = m ((c.tc : Thread Cert.FfnUpKernelIdeal.nD Cert.FfnUpKernelIdeal.τ).loc Cert.FfnUpKernelIdeal.main_arg2)
      ∧ m' ((c.tc : Thread Cert.FfnUpReferenceIdeal.nD Cert.FfnUpReferenceIdeal.τ).loc Cert.FfnUpReferenceIdeal.main_arg3) = m ((c.tc : Thread Cert.FfnUpKernelIdeal.nD Cert.FfnUpKernelIdeal.τ).loc Cert.FfnUpKernelIdeal.main_arg3)) →
    ∃ (v0 : (c : Dev Cert.FfnUpKernelIdeal.nD) → Buf (Elt Ideal) ((c.tc : Thread Cert.FfnUpKernelIdeal.nD Cert.FfnUpKernelIdeal.τ).loc Cert.FfnUpKernelIdeal.main_v1_0)) (v1 : (c : Dev Cert.FfnUpKernelIdeal.nD) → Buf (Elt Ideal) ((c.tc : Thread Cert.FfnUpKernelIdeal.nD Cert.FfnUpKernelIdeal.τ).loc Cert.FfnUpKernelIdeal.main_v1_1)) (v2 : (c : Dev Cert.FfnUpKernelIdeal.nD) → Buf (Elt Ideal) ((c.tc : Thread Cert.FfnUpKernelIdeal.nD Cert.FfnUpKernelIdeal.τ).loc Cert.FfnUpKernelIdeal.main_v1_2)) (v3 : (c : Dev Cert.FfnUpKernelIdeal.nD) → Buf (Elt Ideal) ((c.tc : Thread Cert.FfnUpKernelIdeal.nD Cert.FfnUpKernelIdeal.τ).loc Cert.FfnUpKernelIdeal.main_v1_3)),
      θ_run (Cert.FfnUpKernelIdeal.defs (F := Ideal)) (onTc (τ := Cert.FfnUpKernelIdeal.τ) (Cert.FfnUpKernelIdeal.main (F := Ideal))) ⟨m, fun _ => 0, g⟩ (fun r => ∀ c : Dev Cert.FfnUpKernelIdeal.nD,
          r.2.mem ((c.tc : Thread Cert.FfnUpKernelIdeal.nD Cert.FfnUpKernelIdeal.τ).loc Cert.FfnUpKernelIdeal.main_v1_0) = v0 c
          ∧ r.2.mem ((c.tc : Thread Cert.FfnUpKernelIdeal.nD Cert.FfnUpKernelIdeal.τ).loc Cert.FfnUpKernelIdeal.main_v1_1) = v1 c
          ∧ r.2.mem ((c.tc : Thread Cert.FfnUpKernelIdeal.nD Cert.FfnUpKernelIdeal.τ).loc Cert.FfnUpKernelIdeal.main_v1_2) = v2 c
          ∧ r.2.mem ((c.tc : Thread Cert.FfnUpKernelIdeal.nD Cert.FfnUpKernelIdeal.τ).loc Cert.FfnUpKernelIdeal.main_v1_3) = v3 c
          ∧ r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
          ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
          ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
          ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v19) = v0 c
          ∧ r.2.mem ((c.tc : Thread Cert.FfnUpReferenceIdeal.nD Cert.FfnUpReferenceIdeal.τ).loc Cert.FfnUpReferenceIdeal.main_v15) = v1 c
          ∧ r.2.mem ((c.tc : Thread Cert.FfnUpReferenceIdeal.nD Cert.FfnUpReferenceIdeal.τ).loc Cert.FfnUpReferenceIdeal.main_v18) = v2 c
          ∧ r.2.mem ((c.tc : Thread Cert.FfnUpReferenceIdeal.nD Cert.FfnUpReferenceIdeal.τ).loc Cert.FfnUpReferenceIdeal.main_v22) = v3 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3))

def preserves_NormMmKernel_NormMmKernelIdeal : Prop :=
  True

def algebraic_NormMmKernelIdeal_NormMmReferenceIdeal [hNormMmKernelIdeal : Cert.NormMmKernelIdeal.Facts] [hNormMmReferenceIdeal : Cert.NormMmReferenceIdeal.Facts] : Prop :=
  ∀ (m : (ℓ : Loc Cert.NormMmKernelIdeal.nD Cert.NormMmKernelIdeal.τ Cert.NormMmKernelIdeal.sig) → Buf (Elt Ideal) ℓ) (g : Dev Cert.NormMmKernelIdeal.nD → PrngReg)
    (m' : (ℓ : Loc Cert.NormMmReferenceIdeal.nD Cert.NormMmReferenceIdeal.τ Cert.NormMmReferenceIdeal.sig) → Buf (Elt Ideal) ℓ) (g' : Dev Cert.NormMmReferenceIdeal.nD → PrngReg), Pre_NormMmKernelIdeal m →
    (∀ c : Dev Cert.NormMmKernelIdeal.nD,
      m' ((c.tc : Thread Cert.NormMmReferenceIdeal.nD Cert.NormMmReferenceIdeal.τ).loc Cert.NormMmReferenceIdeal.main_arg0) = m ((c.tc : Thread Cert.NormMmKernelIdeal.nD Cert.NormMmKernelIdeal.τ).loc Cert.NormMmKernelIdeal.main_arg0)
      ∧ m' ((c.tc : Thread Cert.NormMmReferenceIdeal.nD Cert.NormMmReferenceIdeal.τ).loc Cert.NormMmReferenceIdeal.main_arg1) = m ((c.tc : Thread Cert.NormMmKernelIdeal.nD Cert.NormMmKernelIdeal.τ).loc Cert.NormMmKernelIdeal.main_arg1)
      ∧ m' ((c.tc : Thread Cert.NormMmReferenceIdeal.nD Cert.NormMmReferenceIdeal.τ).loc Cert.NormMmReferenceIdeal.main_arg2) = m ((c.tc : Thread Cert.NormMmKernelIdeal.nD Cert.NormMmKernelIdeal.τ).loc Cert.NormMmKernelIdeal.main_arg2)) →
    ∃ (v0 : (c : Dev Cert.NormMmKernelIdeal.nD) → Buf (Elt Ideal) ((c.tc : Thread Cert.NormMmKernelIdeal.nD Cert.NormMmKernelIdeal.τ).loc Cert.NormMmKernelIdeal.main_v1_0)) (v1 : (c : Dev Cert.NormMmKernelIdeal.nD) → Buf (Elt Ideal) ((c.tc : Thread Cert.NormMmKernelIdeal.nD Cert.NormMmKernelIdeal.τ).loc Cert.NormMmKernelIdeal.main_v1_1)),
      θ_run (Cert.NormMmKernelIdeal.defs (F := Ideal)) (onTc (τ := Cert.NormMmKernelIdeal.τ) (Cert.NormMmKernelIdeal.main (F := Ideal))) ⟨m, fun _ => 0, g⟩ (fun r => ∀ c : Dev Cert.NormMmKernelIdeal.nD,
          r.2.mem ((c.tc : Thread Cert.NormMmKernelIdeal.nD Cert.NormMmKernelIdeal.τ).loc Cert.NormMmKernelIdeal.main_v1_0) = v0 c
          ∧ r.2.mem ((c.tc : Thread Cert.NormMmKernelIdeal.nD Cert.NormMmKernelIdeal.τ).loc Cert.NormMmKernelIdeal.main_v1_1) = v1 c
          ∧ r.2.mem ((c.tc : Thread Cert.NormMmKernelIdeal.nD Cert.NormMmKernelIdeal.τ).loc Cert.NormMmKernelIdeal.main_arg0) = m ((c.tc : Thread Cert.NormMmKernelIdeal.nD Cert.NormMmKernelIdeal.τ).loc Cert.NormMmKernelIdeal.main_arg0)
          ∧ r.2.mem ((c.tc : Thread Cert.NormMmKernelIdeal.nD Cert.NormMmKernelIdeal.τ).loc Cert.NormMmKernelIdeal.main_arg1) = m ((c.tc : Thread Cert.NormMmKernelIdeal.nD Cert.NormMmKernelIdeal.τ).loc Cert.NormMmKernelIdeal.main_arg1)
          ∧ r.2.mem ((c.tc : Thread Cert.NormMmKernelIdeal.nD Cert.NormMmKernelIdeal.τ).loc Cert.NormMmKernelIdeal.main_arg2) = m ((c.tc : Thread Cert.NormMmKernelIdeal.nD Cert.NormMmKernelIdeal.τ).loc Cert.NormMmKernelIdeal.main_arg2))
      ∧ θ_run (Cert.NormMmReferenceIdeal.defs (F := Ideal)) (onTc (τ := Cert.NormMmReferenceIdeal.τ) (Cert.NormMmReferenceIdeal.main (F := Ideal))) ⟨m', fun _ => 0, g'⟩ (fun r => ∀ c : Dev Cert.NormMmReferenceIdeal.nD,
          r.2.mem ((c.tc : Thread Cert.NormMmReferenceIdeal.nD Cert.NormMmReferenceIdeal.τ).loc Cert.NormMmReferenceIdeal.main_v15) = v0 c
          ∧ r.2.mem ((c.tc : Thread Cert.NormMmReferenceIdeal.nD Cert.NormMmReferenceIdeal.τ).loc Cert.NormMmReferenceIdeal.main_v16) = v1 c
          ∧ r.2.mem ((c.tc : Thread Cert.NormMmReferenceIdeal.nD Cert.NormMmReferenceIdeal.τ).loc Cert.NormMmReferenceIdeal.main_arg0) = m' ((c.tc : Thread Cert.NormMmReferenceIdeal.nD Cert.NormMmReferenceIdeal.τ).loc Cert.NormMmReferenceIdeal.main_arg0)
          ∧ r.2.mem ((c.tc : Thread Cert.NormMmReferenceIdeal.nD Cert.NormMmReferenceIdeal.τ).loc Cert.NormMmReferenceIdeal.main_arg1) = m' ((c.tc : Thread Cert.NormMmReferenceIdeal.nD Cert.NormMmReferenceIdeal.τ).loc Cert.NormMmReferenceIdeal.main_arg1)
          ∧ r.2.mem ((c.tc : Thread Cert.NormMmReferenceIdeal.nD Cert.NormMmReferenceIdeal.τ).loc Cert.NormMmReferenceIdeal.main_arg2) = m' ((c.tc : Thread Cert.NormMmReferenceIdeal.nD Cert.NormMmReferenceIdeal.τ).loc Cert.NormMmReferenceIdeal.main_arg2))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v1_0)) (v1 : (c : Dev Cert.FfnFwdKernelIdeal.nD) → Buf (Elt Ideal) ((c.tc : Thread Cert.FfnFwdKernelIdeal.nD Cert.FfnFwdKernelIdeal.τ).loc Cert.FfnFwdKernelIdeal.main_v1_1)) (v2 : (c : Dev Cert.FfnFwdKernelIdeal.nD) → Buf (Elt Ideal) ((c.tc : Thread Cert.FfnFwdKernelIdeal.nD Cert.FfnFwdKernelIdeal.τ).loc Cert.FfnFwdKernelIdeal.main_v1_2)) (v3 : (c : Dev Cert.FfnFwdKernelIdeal.nD) → Buf (Elt Ideal) ((c.tc : Thread Cert.FfnFwdKernelIdeal.nD Cert.FfnFwdKernelIdeal.τ).loc Cert.FfnFwdKernelIdeal.main_v1_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v1_0) = v0 c
          ∧ r.2.mem ((c.tc : Thread Cert.FfnFwdKernelIdeal.nD Cert.FfnFwdKernelIdeal.τ).loc Cert.FfnFwdKernelIdeal.main_v1_1) = v1 c
          ∧ r.2.mem ((c.tc : Thread Cert.FfnFwdKernelIdeal.nD Cert.FfnFwdKernelIdeal.τ).loc Cert.FfnFwdKernelIdeal.main_v1_2) = v2 c
          ∧ r.2.mem ((c.tc : Thread Cert.FfnFwdKernelIdeal.nD Cert.FfnFwdKernelIdeal.τ).loc Cert.FfnFwdKernelIdeal.main_v1_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v25) = v0 c
          ∧ r.2.mem ((c.tc : Thread Cert.FfnFwdReferenceIdeal.nD Cert.FfnFwdReferenceIdeal.τ).loc Cert.FfnFwdReferenceIdeal.main_v26) = v1 c
          ∧ r.2.mem ((c.tc : Thread Cert.FfnFwdReferenceIdeal.nD Cert.FfnFwdReferenceIdeal.τ).loc Cert.FfnFwdReferenceIdeal.main_v15) = v2 c
          ∧ r.2.mem ((c.tc : Thread Cert.FfnFwdReferenceIdeal.nD Cert.FfnFwdReferenceIdeal.τ).loc Cert.FfnFwdReferenceIdeal.main_v18) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_ConvFwdKernel_ConvFwdKernelIdeal : Prop :=
  True

def Claim : Prop :=
  ∃ (hFinalKernel : Cert.FinalKernel.Facts) (hFinalKernelIdeal : Cert.FinalKernelIdeal.Facts) (hFinalReferenceIdeal : Cert.FinalReferenceIdeal.Facts) (hGateKernel : Cert.GateKernel.Facts) (hGateKernelIdeal : Cert.GateKernelIdeal.Facts) (hGateReferenceIdeal : Cert.GateReferenceIdeal.Facts) (hGateBiasKernel : Cert.GateBiasKernel.Facts) (hGateBiasKernelIdeal : Cert.GateBiasKernelIdeal.Facts) (hGateBiasReferenceIdeal : Cert.GateBiasReferenceIdeal.Facts) (hFfnInKernel : Cert.FfnInKernel.Facts) (hFfnInKernelIdeal : Cert.FfnInKernelIdeal.Facts) (hFfnInReferenceIdeal : Cert.FfnInReferenceIdeal.Facts) (hDhKernel : Cert.DhKernel.Facts) (hDhKernelIdeal : Cert.DhKernelIdeal.Facts) (hDhReferenceIdeal : Cert.DhReferenceIdeal.Facts) (hAttnKernel : Cert.AttnKernel.Facts) (hAttnKernelIdeal : Cert.AttnKernelIdeal.Facts) (hAttnReferenceIdeal : Cert.AttnReferenceIdeal.Facts) (hAttnFwdKernel : Cert.AttnFwdKernel.Facts) (hAttnFwdKernelIdeal : Cert.AttnFwdKernelIdeal.Facts) (hAttnFwdReferenceIdeal : Cert.AttnFwdReferenceIdeal.Facts) (hGatePrepKernel : Cert.GatePrepKernel.Facts) (hGatePrepKernelIdeal : Cert.GatePrepKernelIdeal.Facts) (hGatePrepReferenceIdeal : Cert.GatePrepReferenceIdeal.Facts) (hFfnUpKernel : Cert.FfnUpKernel.Facts) (hFfnUpKernelIdeal : Cert.FfnUpKernelIdeal.Facts) (hFfnUpReferenceIdeal : Cert.FfnUpReferenceIdeal.Facts) (hNormMmKernel : Cert.NormMmKernel.Facts) (hNormMmKernelIdeal : Cert.NormMmKernelIdeal.Facts) (hNormMmReferenceIdeal : Cert.NormMmReferenceIdeal.Facts) (hFfnFwdKernel : Cert.FfnFwdKernel.Facts) (hFfnFwdKernelIdeal : Cert.FfnFwdKernelIdeal.Facts) (hFfnFwdReferenceIdeal : Cert.FfnFwdReferenceIdeal.Facts) (hConvFwdKernel : Cert.ConvFwdKernel.Facts) (hConvFwdKernelIdeal : Cert.ConvFwdKernelIdeal.Facts) (hConvFwdReferenceIdeal : Cert.ConvFwdReferenceIdeal.Facts) (hPre_final_finite : Cert.Pre_final_finite.Facts) (hPre_gate_finite : Cert.Pre_gate_finite.Facts) (hPre_gate_bias_finite : Cert.Pre_gate_bias_finite.Facts) (hPre_ffn_in_finite : Cert.Pre_ffn_in_finite.Facts) (hPre_dh_finite : Cert.Pre_dh_finite.Facts) (hPre_attn_finite : Cert.Pre_attn_finite.Facts) (hPre_attn_fwd_finite : Cert.Pre_attn_fwd_finite.Facts) (hPre_gate_prep_finite : Cert.Pre_gate_prep_finite.Facts) (hOn_bias_lanes : Cert.On_bias_lanes.Facts),
    quiescent_FinalKernel (hFinalKernel := hFinalKernel)
    ∧ quiescent_FinalKernelIdeal (hFinalKernelIdeal := hFinalKernelIdeal)
    ∧ quiescent_FinalKernelIdeal_pre_final_finite (hFinalKernelIdeal := hFinalKernelIdeal) (hPre_final_finite := hPre_final_finite)
    ∧ quiescent_FinalReferenceIdeal (hFinalReferenceIdeal := hFinalReferenceIdeal)
    ∧ quiescent_FinalReferenceIdeal_pre_final_finite (hFinalReferenceIdeal := hFinalReferenceIdeal) (hPre_final_finite := hPre_final_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_GateBiasKernel (hGateBiasKernel := hGateBiasKernel)
    ∧ quiescent_GateBiasKernelIdeal (hGateBiasKernelIdeal := hGateBiasKernelIdeal)
    ∧ quiescent_GateBiasKernelIdeal_pre_gate_bias_finite (hGateBiasKernelIdeal := hGateBiasKernelIdeal) (hPre_gate_bias_finite := hPre_gate_bias_finite)
    ∧ quiescent_GateBiasReferenceIdeal (hGateBiasReferenceIdeal := hGateBiasReferenceIdeal)
    ∧ quiescent_GateBiasReferenceIdeal_pre_gate_bias_finite (hGateBiasReferenceIdeal := hGateBiasReferenceIdeal) (hPre_gate_bias_finite := hPre_gate_bias_finite)
    ∧ quiescent_FfnInKernel (hFfnInKernel := hFfnInKernel)
    ∧ quiescent_FfnInKernelIdeal (hFfnInKernelIdeal := hFfnInKernelIdeal)
    ∧ quiescent_FfnInKernelIdeal_pre_ffn_in_finite (hFfnInKernelIdeal := hFfnInKernelIdeal) (hPre_ffn_in_finite := hPre_ffn_in_finite)
    ∧ quiescent_FfnInReferenceIdeal (hFfnInReferenceIdeal := hFfnInReferenceIdeal)
    ∧ quiescent_FfnInReferenceIdeal_pre_ffn_in_finite (hFfnInReferenceIdeal := hFfnInReferenceIdeal) (hPre_ffn_in_finite := hPre_ffn_in_finite)
    ∧ quiescent_DhKernel (hDhKernel := hDhKernel)
    ∧ quiescent_DhKernelIdeal (hDhKernelIdeal := hDhKernelIdeal)
    ∧ quiescent_DhKernelIdeal_pre_dh_finite (hDhKernelIdeal := hDhKernelIdeal) (hPre_dh_finite := hPre_dh_finite)
    ∧ quiescent_DhReferenceIdeal (hDhReferenceIdeal := hDhReferenceIdeal)
    ∧ quiescent_DhReferenceIdeal_pre_dh_finite (hDhReferenceIdeal := hDhReferenceIdeal) (hPre_dh_finite := hPre_dh_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_AttnFwdKernel (hAttnFwdKernel := hAttnFwdKernel)
    ∧ quiescent_AttnFwdKernelIdeal (hAttnFwdKernelIdeal := hAttnFwdKernelIdeal)
    ∧ quiescent_AttnFwdKernelIdeal_pre_attn_fwd_finite (hAttnFwdKernelIdeal := hAttnFwdKernelIdeal) (hPre_attn_fwd_finite := hPre_attn_fwd_finite)
    ∧ quiescent_AttnFwdReferenceIdeal (hAttnFwdReferenceIdeal := hAttnFwdReferenceIdeal)
    ∧ quiescent_AttnFwdReferenceIdeal_pre_attn_fwd_finite (hAttnFwdReferenceIdeal := hAttnFwdReferenceIdeal) (hPre_attn_fwd_finite := hPre_attn_fwd_finite)
    ∧ quiescent_GatePrepKernel (hGatePrepKernel := hGatePrepKernel)
    ∧ quiescent_GatePrepKernelIdeal (hGatePrepKernelIdeal := hGatePrepKernelIdeal)
    ∧ quiescent_GatePrepKernelIdeal_pre_gate_prep_finite (hGatePrepKernelIdeal := hGatePrepKernelIdeal) (hPre_gate_prep_finite := hPre_gate_prep_finite)
    ∧ quiescent_GatePrepReferenceIdeal (hGatePrepReferenceIdeal := hGatePrepReferenceIdeal)
    ∧ quiescent_GatePrepReferenceIdeal_pre_gate_prep_finite (hGatePrepReferenceIdeal := hGatePrepReferenceIdeal) (hPre_gate_prep_finite := hPre_gate_prep_finite)
    ∧ quiescent_FfnUpKernel (hFfnUpKernel := hFfnUpKernel)
    ∧ quiescent_FfnUpKernelIdeal (hFfnUpKernelIdeal := hFfnUpKernelIdeal)
    ∧ quiescent_FfnUpReferenceIdeal (hFfnUpReferenceIdeal := hFfnUpReferenceIdeal)
    ∧ quiescent_NormMmKernel (hNormMmKernel := hNormMmKernel)
    ∧ quiescent_NormMmKernelIdeal (hNormMmKernelIdeal := hNormMmKernelIdeal)
    ∧ quiescent_NormMmReferenceIdeal (hNormMmReferenceIdeal := hNormMmReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ preserves_FinalKernel_FinalKernelIdeal
    ∧ algebraic_FinalKernelIdeal_FinalReferenceIdeal_pre_final_finite (hFinalKernelIdeal := hFinalKernelIdeal) (hFinalReferenceIdeal := hFinalReferenceIdeal) (hPre_final_finite := hPre_final_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_GateBiasKernel_GateBiasKernelIdeal
    ∧ algebraic_GateBiasKernelIdeal_GateBiasReferenceIdeal_pre_gate_bias_finite (hGateBiasKernelIdeal := hGateBiasKernelIdeal) (hGateBiasReferenceIdeal := hGateBiasReferenceIdeal) (hPre_gate_bias_finite := hPre_gate_bias_finite)
    ∧ preserves_FfnInKernel_FfnInKernelIdeal
    ∧ algebraic_FfnInKernelIdeal_FfnInReferenceIdeal_pre_ffn_in_finite (hFfnInKernelIdeal := hFfnInKernelIdeal) (hFfnInReferenceIdeal := hFfnInReferenceIdeal) (hPre_ffn_in_finite := hPre_ffn_in_finite)
    ∧ preserves_DhKernel_DhKernelIdeal
    ∧ algebraic_DhKernelIdeal_DhReferenceIdeal_pre_dh_finite (hDhKernelIdeal := hDhKernelIdeal) (hDhReferenceIdeal := hDhReferenceIdeal) (hPre_dh_finite := hPre_dh_finite)
    ∧ preserves_AttnKernel_AttnKernelIdeal
    ∧ algebraic_AttnKernelIdeal_AttnReferenceIdeal_on_bias_lanes_pre_attn_finite (hAttnKernelIdeal := hAttnKernelIdeal) (hAttnReferenceIdeal := hAttnReferenceIdeal) (hPre_attn_finite := hPre_attn_finite) (hOn_bias_lanes := hOn_bias_lanes)
    ∧ preserves_AttnFwdKernel_AttnFwdKernelIdeal
    ∧ algebraic_AttnFwdKernelIdeal_AttnFwdReferenceIdeal_pre_attn_fwd_finite (hAttnFwdKernelIdeal := hAttnFwdKernelIdeal) (hAttnFwdReferenceIdeal := hAttnFwdReferenceIdeal) (hPre_attn_fwd_finite := hPre_attn_fwd_finite)
    ∧ preserves_GatePrepKernel_GatePrepKernelIdeal
    ∧ algebraic_GatePrepKernelIdeal_GatePrepReferenceIdeal_pre_gate_prep_finite (hGatePrepKernelIdeal := hGatePrepKernelIdeal) (hGatePrepReferenceIdeal := hGatePrepReferenceIdeal) (hPre_gate_prep_finite := hPre_gate_prep_finite)
    ∧ preserves_FfnUpKernel_FfnUpKernelIdeal
    ∧ algebraic_FfnUpKernelIdeal_FfnUpReferenceIdeal (hFfnUpKernelIdeal := hFfnUpKernelIdeal) (hFfnUpReferenceIdeal := hFfnUpReferenceIdeal)
    ∧ preserves_NormMmKernel_NormMmKernelIdeal
    ∧ algebraic_NormMmKernelIdeal_NormMmReferenceIdeal (hNormMmKernelIdeal := hNormMmKernelIdeal) (hNormMmReferenceIdeal := hNormMmReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_ConvFwdKernel_ConvFwdKernelIdeal
-- ==== On_bias_lanes.lean ====
abbrev S4096x5136 : Shape := ⟨2, ![4096, 5136]⟩
abbrev S16 : Shape := ⟨1, ![16]⟩
abbrev S4096x2048 : Shape := ⟨2, ![4096, 2048]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x5136 .f32) (main_arg1 : FVec F S16 .f32) (main_arg2 : FVec F S4096x2048 .f32) : IVec S4096x1024 1 × IVec S4096x1024 1 × IVec S4096x1024 1 × IVec S4096x1024 1 × IVec S4096x1024 1 :=
  let main_v0 : IVec S4096x1024 32 := iotaInDim S4096x1024 32 1
  let main_c : IVec S_ 32 := constantI S_ 32 63#32
  let main_v1 : IVec S4096x1024 32 := broadcastInDim S4096x1024 ![] bcast_S_S4096x1024 main_c
  let main_v2 : IVec S4096x1024 32 := andi main_v0 main_v1
  let main_v3 : IVec S4096x1024 32 := iotaInDim S4096x1024 32 1
  let main_c_0 : IVec S_ 32 := constantI S_ 32 0#32
  let main_v4 : IVec S4096x1024 32 := broadcastInDim S4096x1024 ![] bcast_S_S4096x1024 main_c_0
  let main_v5 : IVec S4096x1024 1 := cmpi .sge main_v3 main_v4
  let main_c_1 : IVec S_ 32 := constantI S_ 32 0#32
  let main_v6 : IVec S4096x1024 32 := broadcastInDim S4096x1024 ![] bcast_S_S4096x1024 main_c_1
  let main_v7 : IVec S4096x1024 1 := cmpi .sge main_v3 main_v6
  let main_c_2 : IVec S_ 32 := constantI S_ 32 0#32
  let main_v8 : IVec S4096x1024 32 := broadcastInDim S4096x1024 ![] bcast_S_S4096x1024 main_c_2
  let main_v9 : IVec S4096x1024 1 := cmpi .sge main_v3 main_v8
  let main_c_3 : IVec S_ 32 := constantI S_ 32 0#32
  let main_v10 : IVec S4096x1024 32 := broadcastInDim S4096x1024 ![] bcast_S_S4096x1024 main_c_3
  let main_v11 : IVec S4096x1024 1 := cmpi .eq main_v2 main_v10
  let main_c_4 : IVec S_ 32 := constantI S_ 32 3#32
  let main_v12 : IVec S4096x1024 32 := broadcastInDim S4096x1024 ![] bcast_S_S4096x1024 main_c_4
  let main_v13 : IVec S4096x1024 1 := cmpi .eq main_v2 main_v12
  (main_v5, main_v7, main_v9, main_v11, main_v13)
-- ==== Pre_attn_finite.lean ====
abbrev S4096x5136 : Shape := ⟨2, ![4096, 5136]⟩
abbrev S16 : Shape := ⟨1, ![16]⟩
abbrev S4096x2048 : Shape := ⟨2, ![4096, 2048]⟩
abbrev S4096x3088 : Shape := ⟨2, ![4096, 3088]⟩
abbrev S_ : Shape := ⟨0, ![]⟩
abbrev S4096x1024 : Shape := ⟨2, ![4096, 1024]⟩

class Facts : Prop where
  slices_S4096x5136_S4096x3088_0_2048 : S4096x5136.Slices ![0, 2048] S4096x3088
  bcast_S_S4096x3088 : S_.BroadcastsInDim S4096x3088 (![] : Fin 0 → Fin S4096x3088.rank)
  bcast_S_S16 : S_.BroadcastsInDim S16 (![] : Fin 0 → Fin S16.rank)
  slices_S4096x2048_S4096x1024_0_1024 : S4096x2048.Slices ![0, 1024] S4096x1024
  bcast_S_S4096x1024 : S_.BroadcastsInDim S4096x1024 (![] : Fin 0 → Fin S4096x1024.rank)

variable [Facts]

def fn {F : FTy → Type} [FloatOps F] (main_arg0 : FVec F S4096x5136 .f32) (main_arg1 : FVec F S16 .f32) (main_arg2 : FVec F S4096x2048 .f32) : IVec S4096x3088 1 × IVec S16 1 × IVec S4096x1024 1 :=
  let main_v0 : FVec F S4096x3088 .f32 := (extractStridedSlice S4096x3088 ![0, 2048] · slices_S4096x5136_S4096x3088_0_2048) main_arg0
  let main_v1 : FVec F S4096x3088 .f32 := Host.absf main_v0
  let main_cst : FVec F S_ .f32 := constant S_ .f32 0x7F800000#32
  let main_v2 : FVec F S4096x3088 .f32 := broadcastInDim S4096x3088 ![] bcast_S_S4096x3088 main_cst
  let main_v3 : IVec S4096x3088 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S4096x1024 .f32 := (extractStridedSlice S4096x1024 ![0, 1024] · slices_S4096x2048_S4096x1024_0_1024) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Pre_attn_fwd_finite.lean ====
abbrev S4096x5136 : Shape := ⟨2, ![4096, 5136]⟩
abbrev S16 : Shape := ⟨1, ![16]⟩
abbrev S4096x3088 : Shape := ⟨2, ![4096, 3088]⟩
abbrev S_ : Shape := ⟨0, ![]⟩

class Facts : Prop where
  slices_S4096x5136_S4096x3088_0_2048 : S4096x5136.Slices ![0, 2048] S4096x3088
  bcast_S_S4096x3088 : S_.BroadcastsInDim S4096x3088 (![] : Fin 0 → Fin S4096x3088.rank)
  bcast_S_S16 : S_.BroadcastsInDim S16 (![] : Fin 0 → Fin S16.rank)

variable [Facts]

def fn {F : FTy → Type} [FloatOps F] (main_arg0 : FVec F S4096x5136 .f32) (main_arg1 : FVec F S16 .f32) : IVec S4096x3088 1 × IVec S16 1 :=
  let main_v0 : FVec F S4096x3088 .f32 := (extractStridedSlice S4096x3088 ![0, 2048] · slices_S4096x5136_S4096x3088_0_2048) main_arg0
  let main_v1 : FVec F S4096x3088 .f32 := Host.absf main_v0
  let main_cst : FVec F S_ .f32 := constant S_ .f32 0x7F800000#32
  let main_v2 : FVec F S4096x3088 .f32 := broadcastInDim S4096x3088 ![] bcast_S_S4096x3088 main_cst
  let main_v3 : IVec S4096x3088 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Pre_dh_finite.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S_ : Shape := ⟨0, ![]⟩

class Facts : Prop where
  bcast_S_S4096x5632 : S_.BroadcastsInDim S4096x5632 (![] : Fin 0 → Fin S4096x5632.rank)
  bcast_S_S5632x2048 : S_.BroadcastsInDim S5632x2048 (![] : Fin 0 → Fin S5632x2048.rank)
  bcast_S_S2048 : S_.BroadcastsInDim S2048 (![] : Fin 0 → Fin S2048.rank)

variable [Facts]

def fn {F : FTy → Type} [FloatOps F] (main_arg0 : FVec F S4096x5632 .bf16) (main_arg1 : FVec F S5632x2048 .bf16) (main_arg2 : FVec F S4096x2048 .f32) (main_arg3 : FVec F S2048 .f32) (main_arg4 : FVec F S4096x2048 .f32) : IVec S4096x5632 1 × IVec S5632x2048 1 × IVec S2048 1 :=
  let main_v0 : FVec F S4096x5632 .bf16 := Host.absf main_arg0
  let main_cst : FVec F S_ .bf16 := constant S_ .bf16 0x7F80#16
  let main_v1 : FVec F S4096x5632 .bf16 := broadcastInDim S4096x5632 ![] bcast_S_S4096x5632 main_cst
  let main_v2 : IVec S4096x5632 1 := cmpf .olt main_v0 main_v1
  let main_v3 : FVec F S5632x2048 .bf16 := Host.absf main_arg1
  let main_cst_0 : FVec F S_ .bf16 := constant S_ .bf16 0x7F80#16
  let main_v4 : FVec F S5632x2048 .bf16 := broadcastInDim S5632x2048 ![] bcast_S_S5632x2048 main_cst_0
  let main_v5 : IVec S5632x2048 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_ffn_in_finite.lean ====
abbrev S8x4096x704 : Shape := ⟨3, ![8, 4096, 704]⟩
abbrev S8x704x2048 : Shape := ⟨3, ![8, 704, 2048]⟩
abbrev S4096x2048 : Shape := ⟨2, ![4096, 2048]⟩
abbrev S2048 : Shape := ⟨1, ![2048]⟩
abbrev S_ : Shape := ⟨0, ![]⟩

class Facts : Prop where
  bcast_S_S8x4096x704 : S_.BroadcastsInDim S8x4096x704 (![] : Fin 0 → Fin S8x4096x704.rank)
  bcast_S_S8x704x2048 : S_.BroadcastsInDim S8x704x2048 (![] : Fin 0 → Fin S8x704x2048.rank)
  bcast_S_S2048 : S_.BroadcastsInDim S2048 (![] : Fin 0 → Fin S2048.rank)

variable [Facts]

def fn {F : FTy → Type} [FloatOps F] (main_arg0 : FVec F S8x4096x704 .bf16) (main_arg1 : FVec F S8x4096x704 .bf16) (main_arg2 : FVec F S8x704x2048 .bf16) (main_arg3 : FVec F S8x704x2048 .bf16) (main_arg4 : FVec F S4096x2048 .f32) (main_arg5 : FVec F S4096x2048 .f32) (main_arg6 : FVec F S2048 .f32) : IVec S8x4096x704 1 × IVec S8x4096x704 1 × IVec S8x704x2048 1 × IVec S8x704x2048 1 × IVec S2048 1 :=
  let main_v0 : FVec F S8x4096x704 .bf16 := Host.absf main_arg0
  let main_cst : FVec F S_ .bf16 := constant S_ .bf16 0x7F80#16
  let main_v1 : FVec F S8x4096x704 .bf16 := broadcastInDim S8x4096x704 ![] bcast_S_S8x4096x704 main_cst
  let main_v2 : IVec S8x4096x704 1 := cmpf .olt main_v0 main_v1
  let main_v3 : FVec F S8x4096x704 .bf16 := Host.absf main_arg1
  let main_cst_0 : FVec F S_ .bf16 := constant S_ .bf16 0x7F80#16
  let main_v4 : FVec F S8x4096x704 .bf16 := broadcastInDim S8x4096x704 ![] bcast_S_S8x4096x704 main_cst_0
  let main_v5 : IVec S8x4096x704 1 := cmpf .olt main_v3 main_v4
  let main_v6 : FVec F S8x704x2048 .bf16 := Host.absf main_arg2
  let main_cst_1 : FVec F S_ .bf16 := constant S_ .bf16 0x7F80#16
  let main_v7 : FVec F S8x704x2048 .bf16 := broadcastInDim S8x704x2048 ![] bcast_S_S8x704x2048 main_cst_1
  let main_v8 : IVec S8x704x2048 1 := cmpf .olt main_v6 main_v7
  let main_v9 : FVec F S8x704x2048 .bf16 := Host.absf main_arg3
  let main_cst_2 : FVec F S_ .bf16 := constant S_ .bf16 0x7F80#16
  let main_v10 : FVec F S8x704x2048 .bf16 := broadcastInDim S8x704x2048 ![] bcast_S_S8x704x2048 main_cst_2
  let main_v11 : IVec S8x704x2048 1 := cmpf .olt main_v9 main_v10
  let main_v12 : FVec F S2048 .f32 := Host.absf main_arg6
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  (main_v2, main_v5, main_v8, main_v11, main_v14)
-- ==== Pre_final_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_gate_bias_finite.lean ====
abbrev S4096x1024 : Shape := ⟨2, ![4096, 1024]⟩
abbrev S4096x5632 : Shape := ⟨2, ![4096, 5632]⟩
abbrev S16 : Shape := ⟨1, ![16]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x5632 .f32) (main_arg3 : FVec F S16 .f32) : IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_gate_finite.lean ====
abbrev S4096x2048 : Shape := ⟨2, ![4096, 2048]⟩
abbrev S8x4096x704 : Shape := ⟨3, ![8, 4096, 704]⟩
abbrev S8x704x2048 : Shape := ⟨3, ![8, 704, 2048]⟩
abbrev S_ : Shape := ⟨0, ![]⟩

class Facts : Prop where
  bcast_S_S4096x2048 : S_.BroadcastsInDim S4096x2048 (![] : Fin 0 → Fin S4096x2048.rank)
  bcast_S_S8x4096x704 : S_.BroadcastsInDim S8x4096x704 (![] : Fin 0 → Fin S8x4096x704.rank)
  bcast_S_S8x704x2048 : S_.BroadcastsInDim S8x704x2048 (![] : Fin 0 → Fin S8x704x2048.rank)

variable [Facts]

def fn {F : FTy → Type} [FloatOps F] (main_arg0 : FVec F S4096x2048 .f32) (main_arg1 : FVec F S8x4096x704 .f32) (main_arg2 : FVec F S8x4096x704 .f32) (main_arg3 : FVec F S8x704x2048 .bf16) : IVec S4096x2048 1 × IVec S8x4096x704 1 × IVec S8x704x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S8x4096x704 .f32 := Host.absf main_arg2
  let main_cst_0 : FVec F S_ .f32 := constant S_ .f32 0x7F800000#32
  let main_v4 : FVec F S8x4096x704 .f32 := broadcastInDim S8x4096x704 ![] bcast_S_S8x4096x704 main_cst_0
  let main_v5 : IVec S8x4096x704 1 := cmpf .olt main_v3 main_v4
  let main_v6 : FVec F S8x704x2048 .bf16 := Host.absf main_arg3
  let main_cst_1 : FVec F S_ .bf16 := constant S_ .bf16 0x7F80#16
  let main_v7 : FVec F S8x704x2048 .bf16 := broadcastInDim S8x704x2048 ![] bcast_S_S8x704x2048 main_cst_1
  let main_v8 : IVec S8x704x2048 1 := cmpf .olt main_v6 main_v7
  (main_v2, main_v5, main_v8)
-- ==== Pre_gate_prep_finite.lean ====
abbrev S4096x5136 : Shape := ⟨2, ![4096, 5136]⟩
abbrev S16 : Shape := ⟨1, ![16]⟩
abbrev S4096x16 : Shape := ⟨2, ![4096, 16]⟩
abbrev S_ : Shape := ⟨0, ![]⟩

class Facts : Prop where
  slices_S4096x5136_S4096x16_0_5120 : S4096x5136.Slices ![0, 5120] S4096x16
  bcast_S_S4096x16 : S_.BroadcastsInDim S4096x16 (![] : Fin 0 → Fin S4096x16.rank)
  bcast_S_S16 : S_.BroadcastsInDim S16 (![] : Fin 0 → Fin S16.rank)

variable [Facts]

def fn {F : FTy → Type} [FloatOps F] (main_arg0 : FVec F S4096x5136 .f32) (main_arg1 : FVec F S16 .f32) : IVec S4096x16 1 × IVec S16 1 :=
  let main_v0 : FVec F S4096x16 .f32 := (extractStridedSlice S4096x16 ![0, 5120] · slices_S4096x5136_S4096x16_0_5120) main_arg0
  let main_v1 : FVec F S4096x16 .f32 := Host.absf main_v0
  let main_cst : FVec F S_ .f32 := constant S_ .f32 0x7F800000#32
  let main_v2 : FVec F S4096x16 .f32 := broadcastInDim S4096x16 ![] bcast_S_S4096x16 main_cst
  let main_v3 : IVec S4096x16 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== FinalKernel.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x2048, .f32⟩
  | .hbm, ⟨72, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== GateKernel.lean ====
abbrev S4096x2048 : Shape := ⟨2, ![4096, 2048]⟩
abbrev S8x4096x704 : Shape := ⟨3, ![8, 4096, 704]⟩
abbrev S8x704x2048 : Shape := ⟨3, ![8, 704, 2048]⟩
abbrev S512x2048 : Shape := ⟨2, ![512, 2048]⟩
abbrev S1x512x704 : Shape := ⟨3, ![1, 512, 704]⟩
abbrev S1x704x2048 : Shape := ⟨3, ![1, 704, 2048]⟩
abbrev S704x2048 : Shape := ⟨2, ![704, 2048]⟩
abbrev S512x704 : Shape := ⟨2, ![512, 704]⟩

abbrev nBuf : Space → Nat
  | .hbm => 7
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .f32⟩
  | .hbm, ⟨2, _⟩ => ⟨S8x4096x704, .f32⟩
  | .hbm, ⟨3, _⟩ => ⟨S8x704x2048, .bf16⟩
  | .hbm, ⟨4, _⟩ => ⟨S8x4096x704, .bf16⟩
  | .hbm, ⟨5, _⟩ => ⟨S8x4096x704, .bf16⟩
  | .hbm, ⟨6, _⟩ => ⟨S8x4096x704, .bf16⟩
  | .local _ .vmem, ⟨0, _⟩ => ⟨S512x2048, .f32⟩
  | .local _ .vmem, ⟨1, _⟩ => ⟨S512x2048, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x704x2048, .bf16⟩
  | .local _ .vmem, ⟨7, _⟩ => ⟨S1x704x2048, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateReferenceIdeal.lean ====
abbrev S4096x2048 : Shape := ⟨2, ![4096, 2048]⟩
abbrev S8x4096x704 : Shape := ⟨3, ![8, 4096, 704]⟩
abbrev S8x704x2048 : Shape := ⟨3, ![8, 704, 2048]⟩
abbrev S_ : Shape := ⟨0, ![]⟩
abbrev S4096x8x704 : Shape := ⟨3, ![4096, 8, 704]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .f32⟩
  | .hbm, ⟨2, _⟩ => ⟨S8x4096x704, .f32⟩
  | .hbm, ⟨3, _⟩ => ⟨S8x704x2048, .bf16⟩
  | .hbm, ⟨4, _⟩ => ⟨S8x4096x704, .f32⟩
  | .hbm, ⟨5, _⟩ => ⟨S8x4096x704, .f32⟩
  | .hbm, ⟨6, _⟩ => ⟨S_, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S8x4096x704, .f32⟩
  | .hbm, ⟨16, _⟩ => ⟨S8x4096x704, .f32⟩
  | .hbm, ⟨17, _⟩ => ⟨S8x4096x704, .f32⟩
  | .hbm, ⟨18, _⟩ => ⟨S8x704x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x8x704, .f32⟩
  | .hbm, ⟨27, _⟩ => ⟨S8x4096x704, .f32⟩
  | .hbm, ⟨28, _⟩ => ⟨S8x4096x704, .f32⟩
  | .hbm, ⟨29, _⟩ => ⟨S8x4096x704, .f32⟩
  | .hbm, ⟨30, _⟩ => ⟨S8x4096x704, .f32⟩
  | .hbm, ⟨31, _⟩ => ⟨S8x4096x704, .f32⟩
  | .hbm, ⟨32, _⟩ => ⟨S8x4096x704, .f32⟩
  | .hbm, ⟨33, _⟩ => ⟨S8x4096x704, .f32⟩
  | .hbm, ⟨34, _⟩ => ⟨S8x4096x704, .bf16⟩
  | .hbm, ⟨35, _⟩ => ⟨S8x4096x704, .bf16⟩
  | .hbm, ⟨36, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== GateBiasKernel.lean ====
abbrev S4096x1024 : Shape := ⟨2, ![4096, 1024]⟩
abbrev S4096x5632 : Shape := ⟨2, ![4096, 5632]⟩
abbrev S16 : Shape := ⟨1, ![16]⟩
abbrev S1x16 : Shape := ⟨2, ![1, 16]⟩
abbrev S_ : Shape := ⟨0, ![]⟩
abbrev S1x128 : Shape := ⟨2, ![1, 128]⟩
abbrev S4096x128 : Shape := ⟨2, ![4096, 128]⟩
abbrev S512x1024 : Shape := ⟨2, ![512, 1024]⟩
abbrev S512x128 : Shape := ⟨2, ![512, 128]⟩
abbrev S1024x128 : Shape := ⟨2, ![1024, 128]⟩
abbrev S512x512 : Shape := ⟨2, ![512, 512]⟩
abbrev S128 : Shape := ⟨1, ![128]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S16, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4096x128, .bf16⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c40_i32 : BitVec 32 := 40#32
  let c0_i32 : BitVec 32 := 0#32
  ![v0.toNat, c40_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateBiasReferenceIdeal.lean ====
abbrev S4096x1024 : Shape := ⟨2, ![4096, 1024]⟩
abbrev S4096x5632 : Shape := ⟨2, ![4096, 5632]⟩
abbrev S16 : Shape := ⟨1, ![16]⟩
abbrev S4096x8x128 : Shape := ⟨3, ![4096, 8, 128]⟩
abbrev S4096x8x1 : Shape := ⟨3, ![4096, 8, 1]⟩
abbrev S4096x8 : Shape := ⟨2, ![4096, 8]⟩
abbrev S4096x8x2 : Shape := ⟨3, ![4096, 8, 2]⟩
abbrev S4096x16 : Shape := ⟨2, ![4096, 16]⟩
abbrev S1x16 : Shape := ⟨2, ![1, 16]⟩
abbrev S_ : Shape := ⟨0, ![]⟩
abbrev S4096x128 : Shape := ⟨2, ![4096, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S16, .f32⟩
  | .hbm, ⟨4, _⟩ => ⟨S4096x8x128, .f32⟩
  | .hbm, ⟨5, _⟩ => ⟨S4096x8x128, .f32⟩
  | .hbm, ⟨6, _⟩ => ⟨S4096x8x1, .f32⟩
  | .hbm, ⟨7, _⟩ => ⟨S4096x8, .f32⟩
  | .hbm, ⟨8, _⟩ => ⟨S4096x8x1, .f32⟩
  | .hbm, ⟨9, _⟩ => ⟨S4096x8, .f32⟩
  | .hbm, ⟨10, _⟩ => ⟨S4096x8x1, .f32⟩
  | .hbm, ⟨11, _⟩ => ⟨S4096x8x1, .f32⟩
  | .hbm, ⟨12, _⟩ => ⟨S4096x8x2, .f32⟩
  | .hbm, ⟨13, _⟩ => ⟨S4096x16, .f32⟩
  | .hbm, ⟨14, _⟩ => ⟨S4096x8x1, .f32⟩
  | .hbm, ⟨15, _⟩ => ⟨S4096x8, .f32⟩
  | .hbm, ⟨16, _⟩ => ⟨S4096x8x1, .f32⟩
  | .hbm, ⟨17, _⟩ => ⟨S4096x8, .f32⟩
  | .hbm, ⟨18, _⟩ => ⟨S4096x8x1, .f32⟩
  | .hbm, ⟨19, _⟩ => ⟨S4096x8x1, .f32⟩
  | .hbm, ⟨20, _⟩ => ⟨S4096x8x2, .f32⟩
  | .hbm, ⟨21, _⟩ => ⟨S4096x16, .f32⟩
  | .hbm, ⟨22, _⟩ => ⟨S4096x16, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .i1⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S_, .f32⟩
  | .hbm, ⟨42, _⟩ => ⟨S4096x16, .f32⟩
  | .hbm, ⟨43, _⟩ => ⟨S4096x16, .i1⟩
  | .hbm, ⟨44, _⟩ => ⟨S_, .f32⟩
  | .hbm, ⟨45, _⟩ => ⟨S4096x16, .f32⟩
  | .hbm, ⟨46, _⟩ => ⟨S4096x16, .f32⟩
  | .hbm, ⟨47, _⟩ => ⟨S_, .f32⟩
  | .hbm, ⟨48, _⟩ => ⟨S4096x16, .f32⟩
  | .hbm, ⟨49, _⟩ => ⟨S4096x16, .i1⟩
  | .hbm, ⟨50, _⟩ => ⟨S_, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x16, .f32⟩
  | .hbm, ⟨63, _⟩ => ⟨S4096x16, .i1⟩
  | .hbm, ⟨64, _⟩ => ⟨S_, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S_, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S_, .f32⟩
  | .hbm, ⟨75, _⟩ => ⟨S_, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S_, .f32⟩
  | .hbm, ⟨81, _⟩ => ⟨S_, .f32⟩
  | .hbm, ⟨82, _⟩ => ⟨S4096x16, .f32⟩
  | .hbm, ⟨83, _⟩ => ⟨S4096x16, .f32⟩
  | .hbm, ⟨84, _⟩ => ⟨S4096x16, .f32⟩
  | .hbm, ⟨85, _⟩ => ⟨S4096x16, .f32⟩
  | .hbm, ⟨86, _⟩ => ⟨S_, .f32⟩
  | .hbm, ⟨87, _⟩ => ⟨S16, .f32⟩
  | .hbm, ⟨88, _⟩ => ⟨S1x16, .f32⟩
  | .hbm, ⟨89, _⟩ => ⟨S_, .f32⟩
  | .hbm, ⟨90, _⟩ => ⟨S16, .f32⟩
  | .hbm, ⟨91, _⟩ => ⟨S4096x16, .bf16⟩
  | .hbm, ⟨92, _⟩ => ⟨S_, .i32⟩
  | .hbm, ⟨93, _⟩ => ⟨S_, .bf16⟩
  | .hbm, ⟨94, _⟩ => ⟨S4096x128, .bf16⟩
  | .hbm, ⟨95, _⟩ => ⟨S1x16, .f32⟩
  | .hbm, ⟨96, _⟩ => ⟨S_, .i32⟩
  | .hbm, ⟨97, _⟩ => ⟨S_, .f32⟩
  | .hbm, ⟨98, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v22_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v22_2 : Ref sig .tc := ⟨.hbm, 72, rfl⟩
abbrev main_v22_0 : Ref sig .tc := ⟨.hbm, 73, rfl⟩
abbrev main_call1_call0_cst : Ref sig .tc := ⟨.hbm, 74, rfl⟩
abbrev main_call1_call0_v0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_call2_call0_cst : Ref sig .tc := ⟨.hbm, 80, rfl⟩
abbrev main_call2_call0_v0 : Ref sig .tc := ⟨.hbm, 81, rfl⟩
abbrev main_v27 : Ref sig .tc := ⟨.hbm, 82, rfl⟩
abbrev main_call3_v0 : Ref sig .tc := ⟨.hbm, 83, rfl⟩
abbrev main_call3_v1 : Ref sig .tc := ⟨.hbm, 84, rfl⟩
abbrev main_v28 : Ref sig .tc := ⟨.hbm, 85, rfl⟩
abbrev main_cst : Ref sig .tc := ⟨.hbm, 86, rfl⟩
abbrev main_v29 : Ref sig .tc := ⟨.hbm, 87, rfl⟩
abbrev main_v30 : Ref sig .tc := ⟨.hbm, 88, rfl⟩
abbrev main_cst_0 : Ref sig .tc := ⟨.hbm, 89, rfl⟩
abbrev main_v31 : Ref sig .tc := ⟨.hbm, 90, rfl⟩
abbrev main_v32 : Ref sig .tc := ⟨.hbm, 91, rfl⟩
abbrev main_c : Ref sig .tc := ⟨.hbm, 92, rfl⟩
abbrev main_call4_v0 : Ref sig .tc := ⟨.hbm, 93, rfl⟩
abbrev main_v33 : Ref sig .tc := ⟨.hbm, 94, rfl⟩
abbrev main_v34 : Ref sig .tc := ⟨.hbm, 95, rfl⟩
abbrev main_c_1 : Ref sig .tc := ⟨.hbm, 96, rfl⟩
abbrev main_call5_v0 : Ref sig .tc := ⟨.hbm, 97, rfl⟩
abbrev main_v35 : Ref sig .tc := ⟨.hbm, 98, rfl⟩

abbrev nD : Nat := 1
abbrev τ : Topo := Topo.v7x

variable {F : FTy → Type} [FloatOps F]
-- ==== FfnInKernel.lean ====
abbrev S8x4096x704 : Shape := ⟨3, ![8, 4096, 704]⟩
abbrev S8x704x2048 : Shape := ⟨3, ![8, 704, 2048]⟩
abbrev S4096x2048 : Shape := ⟨2, ![4096, 2048]⟩
abbrev S2048 : Shape := ⟨1, ![2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 17
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_20 : BitVec 32 := 0#32
  let v26 : BitVec 1 := Scalar.cmpi .ne v25 c0_i32_20
  v26

@[reducible] def k0_t1_loop : Scf.Loop 32 :=
  let c0_i32_24 : BitVec 32 := 0#32
  let c4_i32 : BitVec 32 := 4#32
  let v30 : BitVec 32 := Scalar.addi c0_i32_24 c4_i32
  let c1_i32 : BitVec 32 := 1#32
  ⟨c0_i32_24, v30, c1_i32⟩
def k0_mult1 (k0_t1 : Fin k0_t1_loop.trips) : BitVec 32 :=
  let c0_i32_24 : BitVec 32 := 0#32
  let c1_i32 : BitVec 32 := 1#32
  let arg12 : BitVec 32 := Scf.iv c0_i32_24 c1_i32 k0_t1
  let c128_i32 : BitVec 32 := 128#32
  let v34 : BitVec 32 := Scalar.muli arg12 c128_i32
  v34
def k0_off1 (k0_t1 : Fin k0_t1_loop.trips) : Fin 2 → Nat :=
  let c0_i32_24 : BitVec 32 := 0#32
  let c1_i32 : BitVec 32 := 1#32
  let arg12 : BitVec 32 := Scf.iv c0_i32_24 c1_i32 k0_t1
  let c128_i32 : BitVec 32 := 128#32
  let v34 : BitVec 32 := Scalar.muli arg12 c128_i32
  let v35 : BitVec 32 := v34
  let v36 : Index := Scalar.indexCast v35
  let c0_28 : Index := 0#32
  ![v36.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnInReferenceIdeal.lean ====
abbrev S8x4096x704 : Shape := ⟨3, ![8, 4096, 704]⟩
abbrev S8x704x2048 : Shape := ⟨3, ![8, 704, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x704x4096 : Shape := ⟨3, ![8, 704, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S8x704x2048, .f32⟩
  | .hbm, ⟨28, _⟩ => ⟨S8x704x4096, .f32⟩
  | .hbm, ⟨29, _⟩ => ⟨S8x4096x704, .f32⟩
  | .hbm, ⟨30, _⟩ => ⟨S8x704x2048, .f32⟩
  | .hbm, ⟨31, _⟩ => ⟨S8x704x4096, .f32⟩
  | .hbm, ⟨32, _⟩ => ⟨S8x4096x704, .f32⟩
  | .hbm, ⟨33, _⟩ => ⟨S8x4096x704, .f32⟩
  | .hbm, ⟨34, _⟩ => ⟨S8x4096x704, .f32⟩
  | .hbm, ⟨35, _⟩ => ⟨S8x704x4096, .f32⟩
  | .hbm, ⟨36, _⟩ => ⟨S4096x2048, .f32⟩
  | .hbm, ⟨37, _⟩ => ⟨S8x704x4096, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S1x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== DhKernel.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S1x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

@[reducible] def k0_t1_loop : Scf.Loop 32 :=
  let c0_i32_15 : BitVec 32 := 0#32
  let c4_i32 : BitVec 32 := 4#32
  let v22 : BitVec 32 := Scalar.addi c0_i32_15 c4_i32
  let c1_i32 : BitVec 32 := 1#32
  ⟨c0_i32_15, v22, c1_i32⟩
def k0_mult1 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c128_i32 : BitVec 32 := 128#32
  let v26 : BitVec 32 := Scalar.muli arg10 c128_i32
  v26
def k0_off1 (k0_t1 : Fin k0_t1_loop.trips) : Fin 2 → Nat :=
  let c0_i32_15 : BitVec 32 := 0#32
  let c1_i32 : BitVec 32 := 1#32
  let arg10 : BitVec 32 := Scf.iv c0_i32_15 c1_i32 k0_t1
  let c128_i32 : BitVec 32 := 128#32
  let v26 : BitVec 32 := Scalar.muli arg10 c128_i32
  let v27 : BitVec 32 := v26
  let v28 : Index := Scalar.indexCast v27
  let c0_19 : Index := 0#32
  ![v28.toNat, 0]
def k0_cond2 (i : grid0.Coords) : BitVec 1 :=
  let arg0 : BitVec 32 := BitVec.ofNat 32 (i 0).val
  let c0_i32_8 : BitVec 32 := 0#32
  let v11 : BitVec 1 := Scalar.cmpi .eq arg0 c0_i32_8
  let arg1 : BitVec 32 := BitVec.ofNat 32 (i 1).val
  let c0_i32_9 : BitVec 32 := 0#32
  let v12 : BitVec 1 := Scalar.cmpi .eq arg1 c0_i32_9
  let v13 : BitVec 1 := Scalar.andi v11 v12
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhReferenceIdeal.lean ====
abbrev S4096x5632 : Shape := ⟨2, ![4096, 5632]⟩
abbrev S5632x2048 : Shape := ⟨2, ![5632, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x5632 : Shape := ⟨2, ![2048, 5632]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S5632x2048, .f32⟩
  | .hbm, ⟨26, _⟩ => ⟨S2048x5632, .f32⟩
  | .hbm, ⟨27, _⟩ => ⟨S4096x5632, .f32⟩
  | .hbm, ⟨28, _⟩ => ⟨S4096x5632, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== AttnKernel.lean ====
abbrev S4096x5136 : Shape := ⟨2, ![4096, 5136]⟩
abbrev S16 : Shape := ⟨1, ![16]⟩
abbrev S4096x2048 : Shape := ⟨2, ![4096, 2048]⟩
abbrev S_ : Shape := ⟨0, ![]⟩
abbrev S4096x5632 : Shape := ⟨2, ![4096, 5632]⟩
abbrev S4096x16 : Shape := ⟨2, ![4096, 16]⟩
abbrev S1x16 : Shape := ⟨2, ![1, 16]⟩
abbrev S4096x8x2 : Shape := ⟨3, ![4096, 8, 2]⟩
abbrev S4096x8x2x1 : Shape := ⟨4, ![4096, 8, 2, 1]⟩
abbrev S4096x8x2x4 : Shape := ⟨4, ![4096, 8, 2, 4]⟩
abbrev S4096x8x2x60 : Shape := ⟨4, ![4096, 8, 2, 60]⟩
abbrev S4096x8x2x64 : Shape := ⟨4, ![4096, 8, 2, 64]⟩
abbrev S4096x8x1x64 : Shape := ⟨4, ![4096, 8, 1, 64]⟩
abbrev S4096x8x64 : Shape := ⟨3, ![4096, 8, 64]⟩
abbrev S4096x8x128 : Shape := ⟨3, ![4096, 8, 128]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S16x4096 : Shape := ⟨2, ![16, 4096]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x4096x1 : Shape := ⟨3, ![16, 4096, 1]⟩
abbrev S512x128 : Shape := ⟨2, ![512, 128]⟩
abbrev S4096x128 : Shape := ⟨2, ![4096, 128]⟩
abbrev S2x512x128 : Shape := ⟨3, ![2, 512, 128]⟩
abbrev S2x512x512 : Shape := ⟨3, ![2, 512, 512]⟩
abbrev S2x512x1 : Shape := ⟨3, ![2, 512, 1]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S1x512x512 : Shape := ⟨3, ![1, 512, 512]⟩
abbrev S1x32x512 : Shape := ⟨3, ![1, 32, 512]⟩
abbrev S32x512 : Shape := ⟨2, ![32, 512]⟩
abbrev S32x128 : Shape := ⟨2, ![32, 128]⟩
abbrev S32x1 : Shape := ⟨2, ![32, 1]⟩
abbrev S1x32x1 : Shape := ⟨3, ![1, 32, 1]⟩
abbrev S1x512x128 : Shape := ⟨3, ![1, 512, 128]⟩

abbrev nBuf : Space → Nat
  | .hbm => 110
  | .vmem => 31
  | .smem => 0
  | _ => 0

abbrev bufTy : (tb : Table) → Fin (tcTables nBuf tb) → BufTy
  | .hbm, ⟨0, _⟩ => ⟨S4096x5136, .f32⟩
  | .hbm, ⟨1, _⟩ => ⟨S16, .f32⟩
  | .hbm, ⟨2, _⟩ => ⟨S4096x2048, .f32⟩
  | .hbm, ⟨3, _⟩ => ⟨S_, .i32⟩
  | .hbm, ⟨4, _⟩ => ⟨S_, .f32⟩
  | .hbm, ⟨5, _⟩ => ⟨S4096x5632, .f32⟩
  | .hbm, ⟨6, _⟩ => ⟨S4096x16, .f32⟩
  | .hbm, ⟨7, _⟩ => ⟨S1x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .i1⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S_, .f32⟩
  | .hbm, ⟨28, _⟩ => ⟨S4096x16, .f32⟩
  | .hbm, ⟨29, _⟩ => ⟨S4096x8x2, .f32⟩
  | .hbm, ⟨30, _⟩ => ⟨S4096x8x2, .f32⟩
  | .hbm, ⟨31, _⟩ => ⟨S4096x8x2, .bf16⟩
  | .hbm, ⟨32, _⟩ => ⟨S4096x8x2, .f32⟩
  | .hbm, ⟨33, _⟩ => ⟨S4096x8x2, .f32⟩
  | .hbm, ⟨34, _⟩ => ⟨S4096x8x2, .bf16⟩
  | .hbm, ⟨35, _⟩ => ⟨S4096x8x2, .f32⟩
  | .hbm, ⟨36, _⟩ => ⟨S4096x8x2, .f32⟩
  | .hbm, ⟨37, _⟩ => ⟨S4096x8x2, .f32⟩
  | .hbm, ⟨38, _⟩ => ⟨S4096x8x2, .bf16⟩
  | .hbm, ⟨39, _⟩ => ⟨S4096x8x2, .f32⟩
  | .hbm, ⟨40, _⟩ => ⟨S_, .f32⟩
  | .hbm, ⟨41, _⟩ => ⟨S4096x8x2, .f32⟩
  | .hbm, ⟨42, _⟩ => ⟨S4096x8x2x1, .f32⟩
  | .hbm, ⟨43, _⟩ => ⟨S4096x8x2x1, .f32⟩
  | .hbm, ⟨44, _⟩ => ⟨S4096x8x2x1, .f32⟩
  | .hbm, ⟨45, _⟩ => ⟨S4096x8x2x1, .f32⟩
  | .hbm, ⟨46, _⟩ => ⟨S4096x8x2x4, .f32⟩
  | .hbm, ⟨47, _⟩ => ⟨S_, .f32⟩
  | .hbm, ⟨48, _⟩ => ⟨S4096x8x2x60, .f32⟩
  | .hbm, ⟨49, _⟩ => ⟨S4096x8x2x64, .f32⟩
  | .hbm, ⟨50, _⟩ => ⟨S4096x8x1x64, .f32⟩
  | .hbm, ⟨51, _⟩ => ⟨S4096x8x64, .f32⟩
  | .hbm, ⟨52, _⟩ => ⟨S4096x8x1x64, .f32⟩
  | .hbm, ⟨53, _⟩ => ⟨S4096x8x64, .f32⟩
  | .hbm, ⟨54, _⟩ => ⟨S4096x8x128, .f32⟩
  | .hbm, ⟨55, _⟩ => ⟨S4096x1024, .f32⟩
  | .hbm, ⟨56, _⟩ => ⟨S4096x1024, .bf16⟩
  | .hbm, ⟨57, _⟩ => ⟨S4096x1024, .f32⟩
  | .hbm, ⟨58, _⟩ => ⟨S4096x16x64, .f32⟩
  | .hbm, ⟨59, _⟩ => ⟨S16x4096x64, .f32⟩
  | .hbm, ⟨60, _⟩ => ⟨S4096x1024, .f32⟩
  | .hbm, ⟨61, _⟩ => ⟨S4096x16x64, .f32⟩
  | .hbm, ⟨62, _⟩ => ⟨S16x4096x64, .f32⟩
  | .hbm, ⟨63, _⟩ => ⟨S4096x1024, .f32⟩
  | .hbm, ⟨64, _⟩ => ⟨S4096x16x64, .f32⟩
  | .hbm, ⟨65, _⟩ => ⟨S16x4096x64, .f32⟩
  | .hbm, ⟨66, _⟩ => ⟨S16x4096x4096, .f32⟩
  | .hbm, ⟨67, _⟩ => ⟨S_, .f32⟩
  | .hbm, ⟨68, _⟩ => ⟨S16x4096x4096, .f32⟩
  | .hbm, ⟨69, _⟩ => ⟨S16x4096x4096, .f32⟩
  | .hbm, ⟨70, _⟩ => ⟨S16x4096, .f32⟩
  | .hbm, ⟨71, _⟩ => ⟨S16x1x4096, .f32⟩
  | .hbm, ⟨72, _⟩ => ⟨S16x4096x4096, .f32⟩
  | .hbm, ⟨73, _⟩ => ⟨S16x4096x4096, .f32⟩
  | .hbm, ⟨74, _⟩ => ⟨S4096, .i32⟩
  | .hbm, ⟨75, _⟩ => ⟨S4096x1, .i32⟩
  | .hbm, ⟨76, _⟩ => ⟨S1x4096, .i32⟩
  | .hbm, ⟨77, _⟩ => ⟨S4096x4096, .i32⟩
  | .hbm, ⟨78, _⟩ => ⟨S4096x4096, .i32⟩
  | .hbm, ⟨79, _⟩ => ⟨S4096x4096, .i1⟩
  | .hbm, ⟨80, _⟩ => ⟨S1x4096x4096, .i1⟩
  | .hbm, ⟨81, _⟩ => ⟨S_, .f32⟩
  | .hbm, ⟨82, _⟩ => ⟨S_, .f32⟩
  | .hbm, ⟨83, _⟩ => ⟨S16x4096x4096, .i1⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x64, .f32⟩
  | .hbm, ⟨96, _⟩ => ⟨S16x4096x64, .f32⟩
  | .hbm, ⟨97, _⟩ => ⟨S16x4096x64, .f32⟩
  | .hbm, ⟨98, _⟩ => ⟨S4096x16x64, .f32⟩
  | .hbm, ⟨99, _⟩ => ⟨S4096x1024, .f32⟩
  | .hbm, ⟨100, _⟩ => ⟨S16x4096x1, .f32⟩
  | .hbm, ⟨101, _⟩ => ⟨S16x4096x1, .f32⟩
  | .hbm, ⟨102, _⟩ => ⟨S16x4096x64, .f32⟩
  | .hbm, ⟨103, _⟩ => ⟨S4096x16x64, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S4096x1024, .bf16⟩
  | .hbm, ⟨108, _⟩ => ⟨S4096x1024, .f32⟩
  | .hbm, ⟨109, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .f32⟩
  | .local _ .vmem, ⟨21, _⟩ => ⟨S512x128, .f32⟩
  | .local _ .vmem, ⟨22, _⟩ => ⟨S4096x128, .f32⟩
  | .local _ .vmem, ⟨23, _⟩ => ⟨S4096x128, .f32⟩
  | .local _ .vmem, ⟨24, _⟩ => ⟨S2x512x128, .f32⟩
  | .local _ .vmem, ⟨25, _⟩ => ⟨S512x128, .f32⟩
  | .local _ .vmem, ⟨26, _⟩ => ⟨S2x512x512, .f32⟩
  | .local _ .vmem, ⟨27, _⟩ => ⟨S2x512x512, .f32⟩
  | .local _ .vmem, ⟨28, _⟩ => ⟨S2x512x512, .bf16⟩
  | .local _ .vmem, ⟨29, _⟩ => ⟨S2x512x512, .bf16⟩
  | .local _ .vmem, ⟨30, _⟩ => ⟨S2x512x1, .f32⟩
  | _, _ => ⟨S4096x5136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v5 : Ref sig .tc := ⟨.hbm, 25, rfl⟩
abbrev main_call2_call0_cst : Ref sig .tc := ⟨.hbm, 26, rfl⟩
abbrev main_call2_call0_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_2 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v56 : Ref sig .tc := ⟨.hbm, 85, rfl⟩
abbrev main_cst_3 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_4 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_v74_3 : Ref sig .tc := ⟨.hbm, 108, rfl⟩
abbrev main_v74_4 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c512_i32 : BitVec 32 := 512#32
  let v880 : BitVec 32 := Scalar.muli arg2 c512_i32
  v880
def k0_off1 (i : grid0.Coords) : Fin 2 → Nat :=
  let arg2 : BitVec 32 := BitVec.ofNat 32 (i 2).val
  let c512_i32 : BitVec 32 := 512#32
  let v880 : BitVec 32 := Scalar.muli arg2 c512_i32
  let v881 : BitVec 32 := v880
  let v884 : Index := Scalar.indexCast v881
  let c0_626 : Index := 0#32
  ![v884.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c512_i32 : BitVec 32 := 512#32
  let v1104 : BitVec 32 := Scalar.muli arg2 c512_i32
  v1104
def k0_off2 (i : grid0.Coords) : Fin 2 → Nat :=
  let arg2 : BitVec 32 := BitVec.ofNat 32 (i 2).val
  let c512_i32 : BitVec 32 := 512#32
  let v1104 : BitVec 32 := Scalar.muli arg2 c512_i32
  let v1105 : BitVec 32 := v1104
  let v1108 : Index := Scalar.indexCast v1105
  let c0_676 : Index := 0#32
  ![v1108.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg1 : BitVec 32 := BitVec.ofNat 32 (i 1).val
  let c7_i32_7 : BitVec 32 := 7#32
  let v17 : BitVec 1 := Scalar.cmpi .eq arg1 c7_i32_7
  let arg2 : BitVec 32 := BitVec.ofNat 32 (i 2).val
  let c7_i32_8 : BitVec 32 := 7#32
  let v18 : BitVec 1 := Scalar.cmpi .eq arg2 c7_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c16_i32 : BitVec 32 := 16#32
  let v1 : BitVec 32 := Scalar.addi c16_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c8_i32 : BitVec 32 := 8#32
  let v1 : BitVec 32 := Scalar.addi c8_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== AttnKernelIdeal.lean ====
variable {F : FTy → Type} [FloatOps F] [Named F]
def κ : String → Option EReal := fun
  | "mask" => some ⊥
  | _ => none
-- ==== AttnReferenceIdeal.lean ====
abbrev S4096x5136 : Shape := ⟨2, ![4096, 5136]⟩
abbrev S16 : Shape := ⟨1, ![16]⟩
abbrev S4096x2048 : Shape := ⟨2, ![4096, 2048]⟩
abbrev S4096x16 : Shape := ⟨2, ![4096, 16]⟩
abbrev S1x16 : Shape := ⟨2, ![1, 16]⟩
abbrev S_ : Shape := ⟨0, ![]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x64x4096 : Shape := ⟨3, ![16, 64, 4096]⟩
abbrev S4096x8x2 : Shape := ⟨3, ![4096, 8, 2]⟩
abbrev S4096x8x2x64 : Shape := ⟨4, ![4096, 8, 2, 64]⟩
abbrev S4096x8x128 : Shape := ⟨3, ![4096, 8, 128]⟩

abbrev nBuf : Space → Nat
  | .hbm => 162
  | .vmem => 0
  | .smem => 0
  | _ => 0

abbrev hbmTy0_0 (i : Nat) : BufTy := match i % 128 with
  | 0 => ⟨S4096x5136, .f32⟩
  | 1 => ⟨S16, .f32⟩
  | 2 => ⟨S4096x2048, .f32⟩
  | 3 => ⟨S4096x16, .f32⟩
  | 4 => ⟨S1x16, .f32⟩
  | 5 => ⟨S4096x16, .f32⟩
  | 6 => ⟨S4096x16, .f32⟩
  | 7 => ⟨S4096x16, .f32⟩
  | 8 => ⟨S_, .f32⟩
  | 9 => ⟨S4096x16, .f32⟩
  | 10 => ⟨S4096x16, .f32⟩
  | 11 => ⟨S4096x16, .f32⟩
  | 12 => ⟨S4096x16, .f32⟩
  | 13 => ⟨S4096x16, .i1⟩
  | 14 => ⟨S4096x16, .f32⟩
  | 15 => ⟨S4096x16, .f32⟩
  | 16 => ⟨S4096x16, .f32⟩
  | 17 => ⟨S4096x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S_, .f32⟩
  | 24 => ⟨S_, .f32⟩
  | 25 => ⟨S4096x16, .f32⟩
  | 26 => ⟨S4096x1024, .f32⟩
  | 27 => ⟨S4096x1024, .f32⟩
  | 28 => ⟨S4096x1024, .f32⟩
  | 29 => ⟨S4096x16x64, .f32⟩
  | 30 => ⟨S16x4096x64, .f32⟩
  | 31 => ⟨S4096x16x64, .f32⟩
  | 32 => ⟨S16x4096x64, .f32⟩
  | 33 => ⟨S4096x16x64, .f32⟩
  | 34 => ⟨S16x4096x64, .f32⟩
  | 35 => ⟨S16x4096x4096, .f32⟩
  | 36 => ⟨S_, .f32⟩
  | 37 => ⟨S16x4096x4096, .f32⟩
  | 38 => ⟨S16x4096x4096, .f32⟩
  | 39 => ⟨S16x4096, .f32⟩
  | 40 => ⟨S16x4096x1, .f32⟩
  | 41 => ⟨S16x4096x4096, .f32⟩
  | 42 => ⟨S16x4096x4096, .f32⟩
  | 43 => ⟨S16x4096, .f32⟩
  | 44 => ⟨S16x1x4096, .f32⟩
  | 45 => ⟨S16x4096x4096, .f32⟩
  | 46 => ⟨S16x4096x4096, .f32⟩
  | 47 => ⟨S4096, .i32⟩
  | 48 => ⟨S4096x1, .i32⟩
  | 49 => ⟨S1x4096, .i32⟩
  | 50 => ⟨S4096x4096, .i32⟩
  | 51 => ⟨S4096x4096, .i32⟩
  | 52 => ⟨S4096x4096, .i1⟩
  | 53 => ⟨S1x4096x4096, .i1⟩
  | 54 => ⟨S_, .f32⟩
  | 55 => ⟨S_, .f32⟩
  | 56 => ⟨S16x4096x4096, .i1⟩
  | 57 => ⟨S16x4096x4096, .f32⟩
  | 58 => ⟨S16x4096x4096, .f32⟩
  | 59 => ⟨S_, .f32⟩
  | 60 => ⟨S16x4096x4096, .f32⟩
  | 61 => ⟨S_, .f32⟩
  | 62 => ⟨S16x4096, .f32⟩
  | 63 => ⟨S16x4096x1, .f32⟩
  | 64 => ⟨S16x4096x4096, .f32⟩
  | 65 => ⟨S16x4096x4096, .i1⟩
  | 66 => ⟨S16x4096x4096, .f32⟩
  | 67 => ⟨S_, .f32⟩
  | 68 => ⟨S16x4096, .f32⟩
  | 69 => ⟨S_, .f32⟩
  | 70 => ⟨S16x4096, .f32⟩
  | 71 => ⟨S16x4096, .f32⟩
  | 72 => ⟨S_, .f32⟩
  | 73 => ⟨S16x4096, .f32⟩
  | 74 => ⟨S16x4096, .i1⟩
  | 75 => ⟨S_, .f32⟩
  | 76 => ⟨S16x4096, .f32⟩
  | 77 => ⟨S16x4096, .i1⟩
  | 78 => ⟨S_, .f32⟩
  | 79 => ⟨S16x4096, .f32⟩
  | 80 => ⟨S_, .f32⟩
  | 81 => ⟨S16x4096, .f32⟩
  | 82 => ⟨S_, .f32⟩
  | 83 => ⟨S16x4096, .f32⟩
  | 84 => ⟨S16x4096, .f32⟩
  | 85 => ⟨S16x4096, .f32⟩
  | 86 => ⟨S16x4096x1, .f32⟩
  | 87 => ⟨S16x4096x4096, .f32⟩
  | 88 => ⟨S16x4096x4096, .f32⟩
  | 89 => ⟨S16x4096x4096, .f32⟩
  | 90 => ⟨S_, .f32⟩
  | 91 => ⟨S16x4096, .f32⟩
  | 92 => ⟨S16x4096x1, .f32⟩
  | 93 => ⟨S16x4096x4096, .f32⟩
  | 94 => ⟨S16x4096x4096, .f32⟩
  | 95 => ⟨S16x4096x1, .f32⟩
  | 96 => ⟨S_, .f32⟩
  | 97 => ⟨S16x4096x1, .f32⟩
  | 98 => ⟨S16x4096x1, .f32⟩
  | 99 => ⟨S16x4096x64, .f32⟩
  | 100 => ⟨S4096x16x64, .f32⟩
  | 101 => ⟨S4096x1024, .f32⟩
  | 102 => ⟨S4096x1024, .f32⟩
  | 103 => ⟨S4096x16x64, .f32⟩
  | 104 => ⟨S16x4096x64, .f32⟩
  | 105 => ⟨S16x64x4096, .f32⟩
  | 106 => ⟨S16x4096x64, .f32⟩
  | 107 => ⟨S16x4096x4096, .f32⟩
  | 108 => ⟨S16x4096x4096, .f32⟩
  | 109 => ⟨S16x4096x4096, .f32⟩
  | 110 => ⟨S16x4096x4096, .f32⟩
  | 111 => ⟨S_, .f32⟩
  | 112 => ⟨S16x4096, .f32⟩
  | 113 => ⟨S16x4096x1, .f32⟩
  | 114 => ⟨S16x4096x1, .f32⟩
  | 115 => ⟨S16x4096x4096, .f32⟩
  | 116 => ⟨S16x4096x4096, .f32⟩
  | 117 => ⟨S_, .f32⟩
  | 118 => ⟨S16x4096, .f32⟩
  | 119 => ⟨S16x4096x4096, .f32⟩
  | 120 => ⟨S16x4096x4096, .f32⟩
  | 121 => ⟨S16x4096x4096, .f32⟩
  | 122 => ⟨S_, .f32⟩
  | 123 => ⟨S16x4096x4096, .f32⟩
  | 124 => ⟨S16x4096x4096, .f32⟩
  | 125 => ⟨S16x4096x4096, .f32⟩
  | 126 => ⟨S_, .f32⟩
  | 127 => ⟨S16x4096, .f32⟩
  | _ => ⟨S4096x5136, .f32⟩

abbrev hbmTy0_1 (i : Nat) : BufTy := match i % 128 with
  | 0 => ⟨S16x1x4096, .f32⟩
  | 1 => ⟨S_, .f32⟩
  | 2 => ⟨S16x4096, .f32⟩
  | 3 => ⟨S4096x16, .f32⟩
  | 4 => ⟨S_, .f32⟩
  | 5 => ⟨S16x4096, .f32⟩
  | 6 => ⟨S16x4096x1, .f32⟩
  | 7 => ⟨S_, .f32⟩
  | 8 => ⟨S16x4096, .f32⟩
  | 9 => ⟨S4096x16, .f32⟩
  | 10 => ⟨S_, .f32⟩
  | 11 => ⟨S16x4096x4096, .f32⟩
  | 12 => ⟨S16x4096x4096, .f32⟩
  | 13 => ⟨S16x4096x64, .f32⟩
  | 14 => ⟨S16x4096x64, .f32⟩
  | 15 => ⟨S4096x16x64, .f32⟩
  | 16 => ⟨S4096x1024, .f32⟩
  | 17 => ⟨S4096x16x64, .f32⟩
  | 18 => ⟨S4096x1024, .f32⟩
  | 19 => ⟨S4096x16x64, .f32⟩
  | 20 => ⟨S4096x1024, .f32⟩
  | 21 => ⟨S4096x1024, .bf16⟩
  | 22 => ⟨S4096x1024, .bf16⟩
  | 23 => ⟨S4096x16, .f32⟩
  | 24 => ⟨S4096x8x2, .f32⟩
  | 25 => ⟨S4096x8x2, .f32⟩
  | 26 => ⟨S4096x8x2x64, .f32⟩
  | 27 => ⟨S4096x8x128, .f32⟩
  | 28 => ⟨S4096x1024, .f32⟩
  | 29 => ⟨S4096x8x2, .f32⟩
  | 30 => ⟨S4096x8x2, .f32⟩
  | 31 => ⟨S4096x8x2x64, .f32⟩
  | 32 => ⟨S4096x8x128, .f32⟩
  | 33 => ⟨S4096x1024, .f32⟩
  | _ => ⟨S4096x5136, .f32⟩

abbrev hbmTy (i : Nat) : BufTy := match i / 128 with
  | 0 => hbmTy0_0 i
  | 1 => hbmTy0_1 i
  | _ => ⟨S4096x5136, .f32⟩

abbrev bufTy : (tb : Table) → Fin (tcTables nBuf tb) → BufTy
  | .hbm, ⟨i, _⟩ => hbmTy i
  | _, _ => ⟨S4096x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v4 : Ref sig .tc := ⟨.hbm, 22, rfl⟩
abbrev main_call1_call0_cst : Ref sig .tc := ⟨.hbm, 23, rfl⟩
abbrev main_call1_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_0 : Ref sig .tc := ⟨.hbm, 54, rfl⟩
abbrev main_call2_v0 : Ref sig .tc := ⟨.hbm, 55, rfl⟩
abbrev main_v33_1 : Ref sig .tc := ⟨.hbm, 56, rfl⟩
abbrev main_call2_v2 : Ref sig .tc := ⟨.hbm, 57, rfl⟩
abbrev main_v33_0 : Ref sig .tc := ⟨.hbm, 58, rfl⟩
abbrev main_call2_cst : Ref sig .tc := ⟨.hbm, 59, rfl⟩
abbrev main_v33_2 : Ref sig .tc := ⟨.hbm, 60, rfl⟩
abbrev main_cst_1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_2 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_cst_4 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_cst_6 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_cst_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_v84 : Ref sig .tc := ⟨.hbm, 125, rfl⟩
abbrev main_cst_13 : Ref sig .tc := ⟨.hbm, 126, rfl⟩
abbrev main_v85 : Ref sig .tc := ⟨.hbm, 127, rfl⟩
abbrev main_v86 : Ref sig .tc := ⟨.hbm, 128, rfl⟩
abbrev main_cst_14 : Ref sig .tc := ⟨.hbm, 129, rfl⟩
abbrev main_v87 : Ref sig .tc := ⟨.hbm, 130, rfl⟩
abbrev main_v88 : Ref sig .tc := ⟨.hbm, 131, rfl⟩
abbrev main_cst_15 : Ref sig .tc := ⟨.hbm, 132, rfl⟩
abbrev main_v89 : Ref sig .tc := ⟨.hbm, 133, rfl⟩
abbrev main_v90 : Ref sig .tc := ⟨.hbm, 134, rfl⟩
abbrev main_cst_16 : Ref sig .tc := ⟨.hbm, 135, rfl⟩
abbrev main_v91 : Ref sig .tc := ⟨.hbm, 136, rfl⟩
abbrev main_v92 : Ref sig .tc := ⟨.hbm, 137, rfl⟩
abbrev main_cst_17 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩

abbrev nD : Nat := 1
abbrev τ : Topo := Topo.v7x

variable {F : FTy → Type} [FloatOps F]
-- ==== AttnFwdKernel.lean ====
abbrev S4096x5136 : Shape := ⟨2, ![4096, 5136]⟩
abbrev S16 : Shape := ⟨1, ![16]⟩
abbrev S_ : Shape := ⟨0, ![]⟩
abbrev S4096x5632 : Shape := ⟨2, ![4096, 5632]⟩
abbrev S4096x16 : Shape := ⟨2, ![4096, 16]⟩
abbrev S1x16 : Shape := ⟨2, ![1, 16]⟩
abbrev S4096x8x2 : Shape := ⟨3, ![4096, 8, 2]⟩
abbrev S4096x8x2x1 : Shape := ⟨4, ![4096, 8, 2, 1]⟩
abbrev S4096x8x2x4 : Shape := ⟨4, ![4096, 8, 2, 4]⟩
abbrev S4096x8x2x60 : Shape := ⟨4, ![4096, 8, 2, 60]⟩
abbrev S4096x8x2x64 : Shape := ⟨4, ![4096, 8, 2, 64]⟩
abbrev S4096x8x1x64 : Shape := ⟨4, ![4096, 8, 1, 64]⟩
abbrev S4096x8x64 : Shape := ⟨3, ![4096, 8, 64]⟩
abbrev S4096x8x128 : Shape := ⟨3, ![4096, 8, 128]⟩
abbrev S4096x1024 : Shape := ⟨2, ![4096, 1024]⟩
abbrev S512x128 : Shape := ⟨2, ![512, 128]⟩
abbrev S2x512x1 : Shape := ⟨3, ![2, 512, 1]⟩
abbrev S2x512x128 : Shape := ⟨3, ![2, 512, 128]⟩
abbrev S2x512x512 : Shape := ⟨3, ![2, 512, 512]⟩
abbrev S512x512 : Shape := ⟨2, ![512, 512]⟩
abbrev S1x512x512 : Shape := ⟨3, ![1, 512, 512]⟩
abbrev S1x512x1 : Shape := ⟨3, ![1, 512, 1]⟩
abbrev S512x1 : Shape := ⟨2, ![512, 1]⟩
abbrev S512 : Shape := ⟨1, ![512]⟩
abbrev S1x32x512 : Shape := ⟨3, ![1, 32, 512]⟩
abbrev S32x512 : Shape := ⟨2, ![32, 512]⟩
abbrev S1x32x1 : Shape := ⟨3, ![1, 32, 1]⟩
abbrev S32x1 : Shape := ⟨2, ![32, 1]⟩
abbrev S1x512x128 : Shape := ⟨3, ![1, 512, 128]⟩

abbrev nBuf : Space → Nat
  | .hbm => 59
  | .vmem => 18
  | .smem => 0
  | _ => 0

abbrev bufTy : (tb : Table) → Fin (tcTables nBuf tb) → BufTy
  | .hbm, ⟨0, _⟩ => ⟨S4096x5136, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S4096x5632, .f32⟩
  | .hbm, ⟨5, _⟩ => ⟨S4096x16, .f32⟩
  | .hbm, ⟨6, _⟩ => ⟨S1x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S_, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .i1⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S_, .f32⟩
  | .hbm, ⟨27, _⟩ => ⟨S4096x16, .f32⟩
  | .hbm, ⟨28, _⟩ => ⟨S4096x8x2, .f32⟩
  | .hbm, ⟨29, _⟩ => ⟨S4096x8x2, .f32⟩
  | .hbm, ⟨30, _⟩ => ⟨S4096x8x2, .bf16⟩
  | .hbm, ⟨31, _⟩ => ⟨S4096x8x2, .f32⟩
  | .hbm, ⟨32, _⟩ => ⟨S4096x8x2, .f32⟩
  | .hbm, ⟨33, _⟩ => ⟨S4096x8x2, .bf16⟩
  | .hbm, ⟨34, _⟩ => ⟨S4096x8x2, .f32⟩
  | .hbm, ⟨35, _⟩ => ⟨S4096x8x2, .f32⟩
  | .hbm, ⟨36, _⟩ => ⟨S4096x8x2, .f32⟩
  | .hbm, ⟨37, _⟩ => ⟨S4096x8x2, .bf16⟩
  | .hbm, ⟨38, _⟩ => ⟨S4096x8x2, .f32⟩
  | .hbm, ⟨39, _⟩ => ⟨S_, .f32⟩
  | .hbm, ⟨40, _⟩ => ⟨S4096x8x2, .f32⟩
  | .hbm, ⟨41, _⟩ => ⟨S4096x8x2x1, .f32⟩
  | .hbm, ⟨42, _⟩ => ⟨S4096x8x2x1, .f32⟩
  | .hbm, ⟨43, _⟩ => ⟨S4096x8x2x1, .f32⟩
  | .hbm, ⟨44, _⟩ => ⟨S4096x8x2x1, .f32⟩
  | .hbm, ⟨45, _⟩ => ⟨S4096x8x2x4, .f32⟩
  | .hbm, ⟨46, _⟩ => ⟨S_, .f32⟩
  | .hbm, ⟨47, _⟩ => ⟨S4096x8x2x60, .f32⟩
  | .hbm, ⟨48, _⟩ => ⟨S4096x8x2x64, .f32⟩
  | .hbm, ⟨49, _⟩ => ⟨S4096x8x1x64, .f32⟩
  | .hbm, ⟨50, _⟩ => ⟨S4096x8x64, .f32⟩
  | .hbm, ⟨51, _⟩ => ⟨S4096x8x1x64, .f32⟩
  | .hbm, ⟨52, _⟩ => ⟨S4096x8x64, .f32⟩
  | .hbm, ⟨53, _⟩ => ⟨S4096x8x128, .f32⟩
  | .hbm, ⟨54, _⟩ => ⟨S4096x1024, .f32⟩
  | .hbm, ⟨55, _⟩ => ⟨S4096x1024, .bf16⟩
  | .hbm, ⟨56, _⟩ => ⟨S4096x1024, .bf16⟩
  | .hbm, ⟨57, _⟩ => ⟨S4096x1024, .f32⟩
  | .hbm, ⟨58, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2x512x1, .f32⟩
  | .local _ .vmem, ⟨15, _⟩ => ⟨S2x512x128, .f32⟩
  | .local _ .vmem, ⟨16, _⟩ => ⟨S2x512x512, .f32⟩
  | .local _ .vmem, ⟨17, _⟩ => ⟨S2x512x512, .bf16⟩
  | _, _ => ⟨S4096x5136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v33_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c24_i32 : BitVec 32 := 24#32
  let v1 : BitVec 32 := Scalar.addi c24_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c32_i32 : BitVec 32 := 32#32
  let v1 : BitVec 32 := Scalar.addi c32_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnFwdKernelIdeal.lean ====
variable {F : FTy → Type} [FloatOps F] [Named F]
def κ : String → Option EReal := fun
  | "mask" => some ⊥
  | _ => none
-- ==== AttnFwdReferenceIdeal.lean ====
abbrev S4096x5136 : Shape := ⟨2, ![4096, 5136]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩

abbrev nBuf : Space → Nat
  | .hbm => 118
  | .vmem => 0
  | .smem => 0
  | _ => 0

abbrev bufTy : (tb : Table) → Fin (tcTables nBuf tb) → BufTy
  | .hbm, ⟨0, _⟩ => ⟨S4096x5136, .f32⟩
  | .hbm, ⟨1, _⟩ => ⟨S16, .f32⟩
  | .hbm, ⟨2, _⟩ => ⟨S4096x16, .f32⟩
  | .hbm, ⟨3, _⟩ => ⟨S1x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .i1⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S_, .f32⟩
  | .hbm, ⟨24, _⟩ => ⟨S4096x16, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x16x64, .f32⟩
  | .hbm, ⟨29, _⟩ => ⟨S16x4096x64, .f32⟩
  | .hbm, ⟨30, _⟩ => ⟨S4096x16x64, .f32⟩
  | .hbm, ⟨31, _⟩ => ⟨S16x4096x64, .f32⟩
  | .hbm, ⟨32, _⟩ => ⟨S4096x16x64, .f32⟩
  | .hbm, ⟨33, _⟩ => ⟨S16x4096x64, .f32⟩
  | .hbm, ⟨34, _⟩ => ⟨S16x4096x4096, .f32⟩
  | .hbm, ⟨35, _⟩ => ⟨S_, .f32⟩
  | .hbm, ⟨36, _⟩ => ⟨S16x4096x4096, .f32⟩
  | .hbm, ⟨37, _⟩ => ⟨S16x4096x4096, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096, .f32⟩
  | .hbm, ⟨43, _⟩ => ⟨S16x1x4096, .f32⟩
  | .hbm, ⟨44, _⟩ => ⟨S16x4096x4096, .f32⟩
  | .hbm, ⟨45, _⟩ => ⟨S16x4096x4096, .f32⟩
  | .hbm, ⟨46, _⟩ => ⟨S4096, .i32⟩
  | .hbm, ⟨47, _⟩ => ⟨S4096x1, .i32⟩
  | .hbm, ⟨48, _⟩ => ⟨S1x4096, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S1x4096x4096, .i1⟩
  | .hbm, ⟨53, _⟩ => ⟨S_, .f32⟩
  | .hbm, ⟨54, _⟩ => ⟨S_, .f32⟩
  | .hbm, ⟨55, _⟩ => ⟨S16x4096x4096, .i1⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096, .f32⟩
  | .hbm, ⟨60, _⟩ => ⟨S_, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x64, .f32⟩
  | .hbm, ⟨73, _⟩ => ⟨S4096x16x64, .f32⟩
  | .hbm, ⟨74, _⟩ => ⟨S4096x1024, .f32⟩
  | .hbm, ⟨75, _⟩ => ⟨S4096x16x64, .f32⟩
  | .hbm, ⟨76, _⟩ => ⟨S16x4096x64, .f32⟩
  | .hbm, ⟨77, _⟩ => ⟨S4096x16x64, .f32⟩
  | .hbm, ⟨78, _⟩ => ⟨S16x4096x64, .f32⟩
  | .hbm, ⟨79, _⟩ => ⟨S16x4096x4096, .f32⟩
  | .hbm, ⟨80, _⟩ => ⟨S_, .f32⟩
  | .hbm, ⟨81, _⟩ => ⟨S16x4096x4096, .f32⟩
  | .hbm, ⟨82, _⟩ => ⟨S16x4096x4096, .f32⟩
  | .hbm, ⟨83, _⟩ => ⟨S16x4096, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S16x4096, .f32⟩
  | .hbm, ⟨88, _⟩ => ⟨S16x1x4096, .f32⟩
  | .hbm, ⟨89, _⟩ => ⟨S16x4096x4096, .f32⟩
  | .hbm, ⟨90, _⟩ => ⟨S16x4096x4096, .f32⟩
  | .hbm, ⟨91, _⟩ => ⟨S4096, .i32⟩
  | .hbm, ⟨92, _⟩ => ⟨S4096x1, .i32⟩
  | .hbm, ⟨93, _⟩ => ⟨S1x4096, .i32⟩
  | .hbm, ⟨94, _⟩ => ⟨S4096x4096, .i32⟩
  | .hbm, ⟨95, _⟩ => ⟨S4096x4096, .i32⟩
  | .hbm, ⟨96, _⟩ => ⟨S4096x4096, .i1⟩
  | .hbm, ⟨97, _⟩ => ⟨S1x4096x4096, .i1⟩
  | .hbm, ⟨98, _⟩ => ⟨S_, .f32⟩
  | .hbm, ⟨99, _⟩ => ⟨S_, .f32⟩
  | .hbm, ⟨100, _⟩ => ⟨S16x4096x4096, .i1⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096, .f32⟩
  | .hbm, ⟨105, _⟩ => ⟨S16x4096x1, .f32⟩
  | .hbm, ⟨106, _⟩ => ⟨S16x4096x4096, .f32⟩
  | .hbm, ⟨107, _⟩ => ⟨S16x4096x4096, .f32⟩
  | .hbm, ⟨108, _⟩ => ⟨S16x4096x4096, .f32⟩
  | .hbm, ⟨109, _⟩ => ⟨S_, .f32⟩
  | .hbm, ⟨110, _⟩ => ⟨S16x4096, .f32⟩
  | .hbm, ⟨111, _⟩ => ⟨S16x4096, .f32⟩
  | .hbm, ⟨112, _⟩ => ⟨S16x4096, .f32⟩
  | .hbm, ⟨113, _⟩ => ⟨S4096x16, .f32⟩
  | .hbm, ⟨114, _⟩ => ⟨S4096x16, .f32⟩
  | .hbm, ⟨115, _⟩ => ⟨S4096x16x64, .f32⟩
  | .hbm, ⟨116, _⟩ => ⟨S4096x1024, .f32⟩
  | .hbm, ⟨117, _⟩ => ⟨S4096x1024, .bf16⟩
  | _, _ => ⟨S4096x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_4 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_5 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v70 : Ref sig .tc := ⟨.hbm, 102, rfl⟩
abbrev main_cst_6 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_7 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== GatePrepKernel.lean ====
abbrev S4096x5136 : Shape := ⟨2, ![4096, 5136]⟩
abbrev S16 : Shape := ⟨1, ![16]⟩
abbrev S_ : Shape := ⟨0, ![]⟩
abbrev S4096x5632 : Shape := ⟨2, ![4096, 5632]⟩
abbrev S1x16 : Shape := ⟨2, ![1, 16]⟩
abbrev S1x128 : Shape := ⟨2, ![1, 128]⟩
abbrev S4096x1024 : Shape := ⟨2, ![4096, 1024]⟩
abbrev S512x128 : Shape := ⟨2, ![512, 128]⟩
abbrev S512x1024 : Shape := ⟨2, ![512, 1024]⟩
abbrev S512x512 : Shape := ⟨2, ![512, 512]⟩
abbrev S128x1024 : Shape := ⟨2, ![128, 1024]⟩
abbrev S1x1024 : Shape := ⟨2, ![1, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4096x5136, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S4096x5632, .f32⟩
  | .hbm, ⟨5, _⟩ => ⟨S1x16, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4096x1024, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x1024, .bf16⟩
  | .local _ .vmem, ⟨4, _⟩ => ⟨S512x1024, .bf16⟩
  | .local _ .vmem, ⟨5, _⟩ => ⟨S1x128, .f32⟩
  | _, _ => ⟨S4096x5136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatePrepReferenceIdeal.lean ====
abbrev S4096x5136 : Shape := ⟨2, ![4096, 5136]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S4096x8x2 : Shape := ⟨3, ![4096, 8, 2]⟩
abbrev S4096x8x2x1 : Shape := ⟨4, ![4096, 8, 2, 1]⟩
abbrev S4096x8x2x4 : Shape := ⟨4, ![4096, 8, 2, 4]⟩
abbrev S4096x8x2x60 : Shape := ⟨4, ![4096, 8, 2, 60]⟩
abbrev S4096x8x2x64 : Shape := ⟨4, ![4096, 8, 2, 64]⟩
abbrev S4096x8x1x64 : Shape := ⟨4, ![4096, 8, 1, 64]⟩
abbrev S4096x8x64 : Shape := ⟨3, ![4096, 8, 64]⟩
abbrev S4096x8x128 : Shape := ⟨3, ![4096, 8, 128]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5136, .f32⟩
  | .hbm, ⟨1, _⟩ => ⟨S16, .f32⟩
  | .hbm, ⟨2, _⟩ => ⟨S4096x16, .f32⟩
  | .hbm, ⟨3, _⟩ => ⟨S1x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .i1⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S_, .f32⟩
  | .hbm, ⟨24, _⟩ => ⟨S4096x16, .f32⟩
  | .hbm, ⟨25, _⟩ => ⟨S4096x8x2, .f32⟩
  | .hbm, ⟨26, _⟩ => ⟨S4096x8x2, .f32⟩
  | .hbm, ⟨27, _⟩ => ⟨S4096x8x2, .bf16⟩
  | .hbm, ⟨28, _⟩ => ⟨S4096x8x2, .f32⟩
  | .hbm, ⟨29, _⟩ => ⟨S4096x8x2, .f32⟩
  | .hbm, ⟨30, _⟩ => ⟨S4096x8x2, .bf16⟩
  | .hbm, ⟨31, _⟩ => ⟨S4096x8x2, .f32⟩
  | .hbm, ⟨32, _⟩ => ⟨S4096x8x2, .f32⟩
  | .hbm, ⟨33, _⟩ => ⟨S4096x8x2, .f32⟩
  | .hbm, ⟨34, _⟩ => ⟨S4096x8x2, .bf16⟩
  | .hbm, ⟨35, _⟩ => ⟨S4096x8x2, .f32⟩
  | .hbm, ⟨36, _⟩ => ⟨S_, .f32⟩
  | .hbm, ⟨37, _⟩ => ⟨S4096x8x2, .f32⟩
  | .hbm, ⟨38, _⟩ => ⟨S4096x8x2x1, .f32⟩
  | .hbm, ⟨39, _⟩ => ⟨S4096x8x2x1, .f32⟩
  | .hbm, ⟨40, _⟩ => ⟨S4096x8x2x1, .f32⟩
  | .hbm, ⟨41, _⟩ => ⟨S4096x8x2x1, .f32⟩
  | .hbm, ⟨42, _⟩ => ⟨S4096x8x2x4, .f32⟩
  | .hbm, ⟨43, _⟩ => ⟨S_, .f32⟩
  | .hbm, ⟨44, _⟩ => ⟨S4096x8x2x60, .f32⟩
  | .hbm, ⟨45, _⟩ => ⟨S4096x8x2x64, .f32⟩
  | .hbm, ⟨46, _⟩ => ⟨S4096x8x1x64, .f32⟩
  | .hbm, ⟨47, _⟩ => ⟨S4096x8x64, .f32⟩
  | .hbm, ⟨48, _⟩ => ⟨S4096x8x1x64, .f32⟩
  | .hbm, ⟨49, _⟩ => ⟨S4096x8x64, .f32⟩
  | .hbm, ⟨50, _⟩ => ⟨S4096x8x128, .f32⟩
  | .hbm, ⟨51, _⟩ => ⟨S4096x1024, .f32⟩
  | .hbm, ⟨52, _⟩ => ⟨S4096x1024, .bf16⟩
  | _, _ => ⟨S4096x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== FfnUpKernel.lean ====
abbrev S4096x2048 : Shape := ⟨2, ![4096, 2048]⟩
abbrev S2048 : Shape := ⟨1, ![2048]⟩
abbrev S8x704x2048 : Shape := ⟨3, ![8, 704, 2048]⟩
abbrev S1x2048 : Shape := ⟨2, ![1, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S704x2048 : Shape := ⟨2, ![704, 2048]⟩
abbrev S512x704 : Shape := ⟨2, ![512, 704]⟩

abbrev nBuf : Space → Nat
  | .hbm => 9
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x704x2048, .bf16⟩
  | .hbm, ⟨3, _⟩ => ⟨S8x704x2048, .bf16⟩
  | .hbm, ⟨4, _⟩ => ⟨S1x2048, .f32⟩
  | .hbm, ⟨5, _⟩ => ⟨S4096x2048, .bf16⟩
  | .hbm, ⟨6, _⟩ => ⟨S8x4096x704, .f32⟩
  | .hbm, ⟨7, _⟩ => ⟨S8x4096x704, .f32⟩
  | .hbm, ⟨8, _⟩ => ⟨S8x4096x704, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S512x2048, .bf16⟩
  | .local _ .vmem, ⟨8, _⟩ => ⟨S512x2048, .bf16⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .bf16⟩
  | .local _ .vmem, ⟨14, _⟩ => ⟨S1x512x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpReferenceIdeal.lean ====
abbrev S4096x2048 : Shape := ⟨2, ![4096, 2048]⟩
abbrev S2048 : Shape := ⟨1, ![2048]⟩
abbrev S8x704x2048 : Shape := ⟨3, ![8, 704, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x704x4096 : Shape := ⟨3, ![8, 704, 4096]⟩
abbrev S8x4096x704 : Shape := ⟨3, ![8, 4096, 704]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S8x704x2048, .f32⟩
  | .hbm, ⟨21, _⟩ => ⟨S8x704x4096, .f32⟩
  | .hbm, ⟨22, _⟩ => ⟨S8x4096x704, .f32⟩
  | .hbm, ⟨23, _⟩ => ⟨S8x704x2048, .f32⟩
  | .hbm, ⟨24, _⟩ => ⟨S8x704x4096, .f32⟩
  | .hbm, ⟨25, _⟩ => ⟨S8x4096x704, .f32⟩
  | .hbm, ⟨26, _⟩ => ⟨S4096x2048, .bf16⟩
  | .hbm, ⟨27, _⟩ => ⟨S8x4096x704, .f32⟩
  | .hbm, ⟨28, _⟩ => ⟨S8x4096x704, .f32⟩
  | .hbm, ⟨29, _⟩ => ⟨S_, .f32⟩
  | .hbm, ⟨30, _⟩ => ⟨S8x4096x704, .f32⟩
  | .hbm, ⟨31, _⟩ => ⟨S8x4096x704, .f32⟩
  | .hbm, ⟨32, _⟩ => ⟨S_, .f32⟩
  | .hbm, ⟨33, _⟩ => ⟨S8x4096x704, .f32⟩
  | .hbm, ⟨34, _⟩ => ⟨S8x4096x704, .f32⟩
  | .hbm, ⟨35, _⟩ => ⟨S8x4096x704, .f32⟩
  | .hbm, ⟨36, _⟩ => ⟨S8x4096x704, .f32⟩
  | .hbm, ⟨37, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== NormMmKernel.lean ====
abbrev S4096x2048 : Shape := ⟨2, ![4096, 2048]⟩
abbrev S2048 : Shape := ⟨1, ![2048]⟩
abbrev S5632x2048 : Shape := ⟨2, ![5632, 2048]⟩
abbrev S1x2048 : Shape := ⟨2, ![1, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S5632x2048, .bf16⟩
  | .hbm, ⟨3, _⟩ => ⟨S1x2048, .f32⟩
  | .hbm, ⟨4, _⟩ => ⟨S4096x5632, .f32⟩
  | .hbm, ⟨5, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormMmReferenceIdeal.lean ====
abbrev S4096x2048 : Shape := ⟨2, ![4096, 2048]⟩
abbrev S2048 : Shape := ⟨1, ![2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x5632 : Shape := ⟨2, ![2048, 5632]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S5632x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S5632x2048, .f32⟩
  | .hbm, ⟨20, _⟩ => ⟨S2048x5632, .f32⟩
  | .hbm, ⟨21, _⟩ => ⟨S4096x5632, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FfnFwdKernel.lean ====
abbrev S4096x2048 : Shape := ⟨2, ![4096, 2048]⟩
abbrev S2048 : Shape := ⟨1, ![2048]⟩
abbrev S8x704x2048 : Shape := ⟨3, ![8, 704, 2048]⟩
abbrev S1x2048 : Shape := ⟨2, ![1, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S704x2048 : Shape := ⟨2, ![704, 2048]⟩
abbrev S512x704 : Shape := ⟨2, ![512, 704]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S8x4096x704, .f32⟩
  | .hbm, ⟨9, _⟩ => ⟨S8x4096x704, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | .local _ .vmem, ⟨16, _⟩ => ⟨S1x512x704, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_26 : BitVec 32 := 0#32
  let v37 : BitVec 1 := Scalar.cmpi .ne v36 c0_i32_26
  v37

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdReferenceIdeal.lean ====
abbrev S4096x2048 : Shape := ⟨2, ![4096, 2048]⟩
abbrev S2048 : Shape := ⟨1, ![2048]⟩
abbrev S8x704x2048 : Shape := ⟨3, ![8, 704, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x704x4096 : Shape := ⟨3, ![8, 704, 4096]⟩
abbrev S8x4096x704 : Shape := ⟨3, ![8, 4096, 704]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S8x704x2048, .f32⟩
  | .hbm, ⟨22, _⟩ => ⟨S8x704x4096, .f32⟩
  | .hbm, ⟨23, _⟩ => ⟨S8x4096x704, .f32⟩
  | .hbm, ⟨24, _⟩ => ⟨S8x704x2048, .f32⟩
  | .hbm, ⟨25, _⟩ => ⟨S8x704x4096, .f32⟩
  | .hbm, ⟨26, _⟩ => ⟨S8x4096x704, .f32⟩
  | .hbm, ⟨27, _⟩ => ⟨S8x4096x704, .f32⟩
  | .hbm, ⟨28, _⟩ => ⟨S8x4096x704, .f32⟩
  | .hbm, ⟨29, _⟩ => ⟨S_, .f32⟩
  | .hbm, ⟨30, _⟩ => ⟨S8x4096x704, .f32⟩
  | .hbm, ⟨31, _⟩ => ⟨S8x4096x704, .f32⟩
  | .hbm, ⟨32, _⟩ => ⟨S_, .f32⟩
  | .hbm, ⟨33, _⟩ => ⟨S8x4096x704, .f32⟩
  | .hbm, ⟨34, _⟩ => ⟨S8x4096x704, .f32⟩
  | .hbm, ⟨35, _⟩ => ⟨S8x4096x704, .f32⟩
  | .hbm, ⟨36, _⟩ => ⟨S8x4096x704, .f32⟩
  | .hbm, ⟨37, _⟩ => ⟨S8x704x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== ConvFwdKernel.lean ====
abbrev S4096x5632 : Shape := ⟨2, ![4096, 5632]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S4096x1024 : Shape := ⟨2, ![4096, 1024]⟩
abbrev S256x1024 : Shape := ⟨2, ![256, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S128x128 : Shape := ⟨2, ![128, 128]⟩
abbrev S1x128 : Shape := ⟨2, ![1, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S288x1024, .f32⟩
  | .local _ .vmem, ⟨17, _⟩ => ⟨S7x280x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_44 : BitVec 32 := 0#32
  let c8_i32 : BitVec 32 := 8#32
  let v57 : BitVec 32 := Scalar.addi c0_i32_44 c8_i32
  let c1_i32 : BitVec 32 := 1#32
  ⟨c0_i32_44, v57, c1_i32⟩
def k0_mult1 (k0_t1 : Fin k0_t1_loop.trips) : BitVec 32 :=
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  v94
def k0_off1 (k0_t1 : Fin k0_t1_loop.trips) : Fin 2 → Nat :=
  let c0_63 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v97 : Index := Scalar.indexCast v95
  ![0, v97.toNat]
def k0_off2 (k0_t1 : Fin k0_t1_loop.trips) : Fin 3 → Nat :=
  let c1_64 : Index := 1#32
  let c0_65 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v100 : Index := Scalar.indexCast v95
  ![1, 0, v100.toNat]
def k0_off3 (k0_t1 : Fin k0_t1_loop.trips) : Fin 2 → Nat :=
  let c1_66 : Index := 1#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v106 : Index := Scalar.indexCast v95
  ![1, v106.toNat]
def k0_off4 (k0_t1 : Fin k0_t1_loop.trips) : Fin 3 → Nat :=
  let c2_67 : Index := 2#32
  let c0_68 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v109 : Index := Scalar.indexCast v95
  ![2, 0, v109.toNat]
def k0_off5 (k0_t1 : Fin k0_t1_loop.trips) : Fin 2 → Nat :=
  let c2_69 : Index := 2#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v115 : Index := Scalar.indexCast v95
  ![2, v115.toNat]
def k0_off6 (k0_t1 : Fin k0_t1_loop.trips) : Fin 3 → Nat :=
  let c3_70 : Index := 3#32
  let c0_71 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v118 : Index := Scalar.indexCast v95
  ![3, 0, v118.toNat]
def k0_off7 (k0_t1 : Fin k0_t1_loop.trips) : Fin 2 → Nat :=
  let c3_72 : Index := 3#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v124 : Index := Scalar.indexCast v95
  ![3, v124.toNat]
def k0_off8 (k0_t1 : Fin k0_t1_loop.trips) : Fin 3 → Nat :=
  let c4_73 : Index := 4#32
  let c0_74 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v127 : Index := Scalar.indexCast v95
  ![4, 0, v127.toNat]
def k0_off9 (k0_t1 : Fin k0_t1_loop.trips) : Fin 2 → Nat :=
  let c4_75 : Index := 4#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v133 : Index := Scalar.indexCast v95
  ![4, v133.toNat]
def k0_off10 (k0_t1 : Fin k0_t1_loop.trips) : Fin 3 → Nat :=
  let c5_76 : Index := 5#32
  let c0_77 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v136 : Index := Scalar.indexCast v95
  ![5, 0, v136.toNat]
def k0_off11 (k0_t1 : Fin k0_t1_loop.trips) : Fin 2 → Nat :=
  let c5_78 : Index := 5#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v142 : Index := Scalar.indexCast v95
  ![5, v142.toNat]
def k0_off12 (k0_t1 : Fin k0_t1_loop.trips) : Fin 3 → Nat :=
  let c6_79 : Index := 6#32
  let c0_80 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v145 : Index := Scalar.indexCast v95
  ![6, 0, v145.toNat]
def k0_off13 (k0_t1 : Fin k0_t1_loop.trips) : Fin 2 → Nat :=
  let c6_81 : Index := 6#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v151 : Index := Scalar.indexCast v95
  ![6, v151.toNat]
def k0_off14 (k0_t1 : Fin k0_t1_loop.trips) : Fin 2 → Nat :=
  let c8 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v154 : Index := Scalar.indexCast v95
  ![8, v154.toNat]
def k0_off15 (k0_t1 : Fin k0_t1_loop.trips) : Fin 2 → Nat :=
  let c7_82 : Index := 7#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v159 : Index := Scalar.indexCast v95
  ![7, v159.toNat]
def k0_off16 (k0_t1 : Fin k0_t1_loop.trips) : Fin 3 → Nat :=
  let c0_83 : Index := 0#32
  let c8_84 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v162 : Index := Scalar.indexCast v95
  ![0, 8, v162.toNat]
def k0_off17 (k0_t1 : Fin k0_t1_loop.trips) : Fin 2 → Nat :=
  let c8_85 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v168 : Index := Scalar.indexCast v95
  ![8, v168.toNat]
def k0_off18 (k0_t1 : Fin k0_t1_loop.trips) : Fin 3 → Nat :=
  let c1_86 : Index := 1#32
  let c8_87 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v171 : Index := Scalar.indexCast v95
  ![1, 8, v171.toNat]
def k0_off19 (k0_t1 : Fin k0_t1_loop.trips) : Fin 2 → Nat :=
  let c9 : Index := 9#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v177 : Index := Scalar.indexCast v95
  ![9, v177.toNat]
def k0_off20 (k0_t1 : Fin k0_t1_loop.trips) : Fin 3 → Nat :=
  let c2_88 : Index := 2#32
  let c8_89 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v180 : Index := Scalar.indexCast v95
  ![2, 8, v180.toNat]
def k0_off21 (k0_t1 : Fin k0_t1_loop.trips) : Fin 2 → Nat :=
  let c10 : Index := 10#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v186 : Index := Scalar.indexCast v95
  ![10, v186.toNat]
def k0_off22 (k0_t1 : Fin k0_t1_loop.trips) : Fin 3 → Nat :=
  let c3_90 : Index := 3#32
  let c8_91 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v189 : Index := Scalar.indexCast v95
  ![3, 8, v189.toNat]
def k0_off23 (k0_t1 : Fin k0_t1_loop.trips) : Fin 2 → Nat :=
  let c11 : Index := 11#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v195 : Index := Scalar.indexCast v95
  ![11, v195.toNat]
def k0_off24 (k0_t1 : Fin k0_t1_loop.trips) : Fin 3 → Nat :=
  let c4_92 : Index := 4#32
  let c8_93 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v198 : Index := Scalar.indexCast v95
  ![4, 8, v198.toNat]
def k0_off25 (k0_t1 : Fin k0_t1_loop.trips) : Fin 2 → Nat :=
  let c12 : Index := 12#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v204 : Index := Scalar.indexCast v95
  ![12, v204.toNat]
def k0_off26 (k0_t1 : Fin k0_t1_loop.trips) : Fin 3 → Nat :=
  let c5_94 : Index := 5#32
  let c8_95 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v207 : Index := Scalar.indexCast v95
  ![5, 8, v207.toNat]
def k0_off27 (k0_t1 : Fin k0_t1_loop.trips) : Fin 2 → Nat :=
  let c13 : Index := 13#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v213 : Index := Scalar.indexCast v95
  ![13, v213.toNat]
def k0_off28 (k0_t1 : Fin k0_t1_loop.trips) : Fin 3 → Nat :=
  let c6_96 : Index := 6#32
  let c8_97 : Index := 8#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v216 : Index := Scalar.indexCast v95
  ![6, 8, v216.toNat]
def k0_off29 (k0_t1 : Fin k0_t1_loop.trips) : Fin 2 → Nat :=
  let c14 : Index := 14#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v222 : Index := Scalar.indexCast v95
  ![14, v222.toNat]
def k0_off30 (k0_t1 : Fin k0_t1_loop.trips) : Fin 2 → Nat :=
  let c16 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v225 : Index := Scalar.indexCast v95
  ![16, v225.toNat]
def k0_off31 (k0_t1 : Fin k0_t1_loop.trips) : Fin 2 → Nat :=
  let c15 : Index := 15#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v230 : Index := Scalar.indexCast v95
  ![15, v230.toNat]
def k0_off32 (k0_t1 : Fin k0_t1_loop.trips) : Fin 3 → Nat :=
  let c0_98 : Index := 0#32
  let c16_99 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v233 : Index := Scalar.indexCast v95
  ![0, 16, v233.toNat]
def k0_off33 (k0_t1 : Fin k0_t1_loop.trips) : Fin 2 → Nat :=
  let c16_100 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v239 : Index := Scalar.indexCast v95
  ![16, v239.toNat]
def k0_off34 (k0_t1 : Fin k0_t1_loop.trips) : Fin 3 → Nat :=
  let c1_101 : Index := 1#32
  let c16_102 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v242 : Index := Scalar.indexCast v95
  ![1, 16, v242.toNat]
def k0_off35 (k0_t1 : Fin k0_t1_loop.trips) : Fin 2 → Nat :=
  let c17 : Index := 17#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v248 : Index := Scalar.indexCast v95
  ![17, v248.toNat]
def k0_off36 (k0_t1 : Fin k0_t1_loop.trips) : Fin 3 → Nat :=
  let c2_103 : Index := 2#32
  let c16_104 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v251 : Index := Scalar.indexCast v95
  ![2, 16, v251.toNat]
def k0_off37 (k0_t1 : Fin k0_t1_loop.trips) : Fin 2 → Nat :=
  let c18 : Index := 18#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v257 : Index := Scalar.indexCast v95
  ![18, v257.toNat]
def k0_off38 (k0_t1 : Fin k0_t1_loop.trips) : Fin 3 → Nat :=
  let c3_105 : Index := 3#32
  let c16_106 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v260 : Index := Scalar.indexCast v95
  ![3, 16, v260.toNat]
def k0_off39 (k0_t1 : Fin k0_t1_loop.trips) : Fin 2 → Nat :=
  let c19 : Index := 19#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v266 : Index := Scalar.indexCast v95
  ![19, v266.toNat]
def k0_off40 (k0_t1 : Fin k0_t1_loop.trips) : Fin 3 → Nat :=
  let c4_107 : Index := 4#32
  let c16_108 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v269 : Index := Scalar.indexCast v95
  ![4, 16, v269.toNat]
def k0_off41 (k0_t1 : Fin k0_t1_loop.trips) : Fin 2 → Nat :=
  let c20 : Index := 20#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v275 : Index := Scalar.indexCast v95
  ![20, v275.toNat]
def k0_off42 (k0_t1 : Fin k0_t1_loop.trips) : Fin 3 → Nat :=
  let c5_109 : Index := 5#32
  let c16_110 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v278 : Index := Scalar.indexCast v95
  ![5, 16, v278.toNat]
def k0_off43 (k0_t1 : Fin k0_t1_loop.trips) : Fin 2 → Nat :=
  let c21 : Index := 21#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v284 : Index := Scalar.indexCast v95
  ![21, v284.toNat]
def k0_off44 (k0_t1 : Fin k0_t1_loop.trips) : Fin 3 → Nat :=
  let c6_111 : Index := 6#32
  let c16_112 : Index := 16#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v287 : Index := Scalar.indexCast v95
  ![6, 16, v287.toNat]
def k0_off45 (k0_t1 : Fin k0_t1_loop.trips) : Fin 2 → Nat :=
  let c22 : Index := 22#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v293 : Index := Scalar.indexCast v95
  ![22, v293.toNat]
def k0_off46 (k0_t1 : Fin k0_t1_loop.trips) : Fin 2 → Nat :=
  let c24 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v296 : Index := Scalar.indexCast v95
  ![24, v296.toNat]
def k0_off47 (k0_t1 : Fin k0_t1_loop.trips) : Fin 2 → Nat :=
  let c23 : Index := 23#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v301 : Index := Scalar.indexCast v95
  ![23, v301.toNat]
def k0_off48 (k0_t1 : Fin k0_t1_loop.trips) : Fin 3 → Nat :=
  let c0_113 : Index := 0#32
  let c24_114 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v304 : Index := Scalar.indexCast v95
  ![0, 24, v304.toNat]
def k0_off49 (k0_t1 : Fin k0_t1_loop.trips) : Fin 2 → Nat :=
  let c24_115 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v310 : Index := Scalar.indexCast v95
  ![24, v310.toNat]
def k0_off50 (k0_t1 : Fin k0_t1_loop.trips) : Fin 3 → Nat :=
  let c1_116 : Index := 1#32
  let c24_117 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v313 : Index := Scalar.indexCast v95
  ![1, 24, v313.toNat]
def k0_off51 (k0_t1 : Fin k0_t1_loop.trips) : Fin 2 → Nat :=
  let c25 : Index := 25#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v319 : Index := Scalar.indexCast v95
  ![25, v319.toNat]
def k0_off52 (k0_t1 : Fin k0_t1_loop.trips) : Fin 3 → Nat :=
  let c2_118 : Index := 2#32
  let c24_119 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v322 : Index := Scalar.indexCast v95
  ![2, 24, v322.toNat]
def k0_off53 (k0_t1 : Fin k0_t1_loop.trips) : Fin 2 → Nat :=
  let c26 : Index := 26#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v328 : Index := Scalar.indexCast v95
  ![26, v328.toNat]
def k0_off54 (k0_t1 : Fin k0_t1_loop.trips) : Fin 3 → Nat :=
  let c3_120 : Index := 3#32
  let c24_121 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v331 : Index := Scalar.indexCast v95
  ![3, 24, v331.toNat]
def k0_off55 (k0_t1 : Fin k0_t1_loop.trips) : Fin 2 → Nat :=
  let c27 : Index := 27#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v337 : Index := Scalar.indexCast v95
  ![27, v337.toNat]
def k0_off56 (k0_t1 : Fin k0_t1_loop.trips) : Fin 3 → Nat :=
  let c4_122 : Index := 4#32
  let c24_123 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v340 : Index := Scalar.indexCast v95
  ![4, 24, v340.toNat]
def k0_off57 (k0_t1 : Fin k0_t1_loop.trips) : Fin 2 → Nat :=
  let c28 : Index := 28#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v346 : Index := Scalar.indexCast v95
  ![28, v346.toNat]
def k0_off58 (k0_t1 : Fin k0_t1_loop.trips) : Fin 3 → Nat :=
  let c5_124 : Index := 5#32
  let c24_125 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v349 : Index := Scalar.indexCast v95
  ![5, 24, v349.toNat]
def k0_off59 (k0_t1 : Fin k0_t1_loop.trips) : Fin 2 → Nat :=
  let c29 : Index := 29#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v355 : Index := Scalar.indexCast v95
  ![29, v355.toNat]
def k0_off60 (k0_t1 : Fin k0_t1_loop.trips) : Fin 3 → Nat :=
  let c6_126 : Index := 6#32
  let c24_127 : Index := 24#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v358 : Index := Scalar.indexCast v95
  ![6, 24, v358.toNat]
def k0_off61 (k0_t1 : Fin k0_t1_loop.trips) : Fin 2 → Nat :=
  let c30 : Index := 30#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v364 : Index := Scalar.indexCast v95
  ![30, v364.toNat]
def k0_off62 (k0_t1 : Fin k0_t1_loop.trips) : Fin 2 → Nat :=
  let c32_128 : Index := 32#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v367 : Index := Scalar.indexCast v95
  ![32, v367.toNat]
def k0_off63 (k0_t1 : Fin k0_t1_loop.trips) : Fin 2 → Nat :=
  let c0_129 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v372 : Index := Scalar.indexCast v95
  ![0, v372.toNat]
def k0_off64 (k0_t1 : Fin k0_t1_loop.trips) : Fin 2 → Nat :=
  let c0_130 : Index := 0#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v377 : Index := Scalar.indexCast v95
  ![0, v377.toNat]
def k0_off65 (k0_t1 : Fin k0_t1_loop.trips) : Fin 3 → Nat :=
  let c1_133 : Index := 1#32
  let c128 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v383 : Index := Scalar.indexCast v95
  ![1, 128, v383.toNat]
def k0_off66 (k0_t1 : Fin k0_t1_loop.trips) : Fin 3 → Nat :=
  let c2_135 : Index := 2#32
  let c128_136 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v392 : Index := Scalar.indexCast v95
  ![2, 128, v392.toNat]
def k0_off67 (k0_t1 : Fin k0_t1_loop.trips) : Fin 3 → Nat :=
  let c3_138 : Index := 3#32
  let c128_139 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v401 : Index := Scalar.indexCast v95
  ![3, 128, v401.toNat]
def k0_off68 (k0_t1 : Fin k0_t1_loop.trips) : Fin 3 → Nat :=
  let c4_141 : Index := 4#32
  let c128_142 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v410 : Index := Scalar.indexCast v95
  ![4, 128, v410.toNat]
def k0_off69 (k0_t1 : Fin k0_t1_loop.trips) : Fin 3 → Nat :=
  let c5_144 : Index := 5#32
  let c128_145 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v419 : Index := Scalar.indexCast v95
  ![5, 128, v419.toNat]
def k0_off70 (k0_t1 : Fin k0_t1_loop.trips) : Fin 3 → Nat :=
  let c6_147 : Index := 6#32
  let c128_148 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v428 : Index := Scalar.indexCast v95
  ![6, 128, v428.toNat]
def k0_off71 (k0_t1 : Fin k0_t1_loop.trips) : Fin 2 → Nat :=
  let c136 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v437 : Index := Scalar.indexCast v95
  ![136, v437.toNat]
def k0_off72 (k0_t1 : Fin k0_t1_loop.trips) : Fin 3 → Nat :=
  let c0_151 : Index := 0#32
  let c136_152 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v445 : Index := Scalar.indexCast v95
  ![0, 136, v445.toNat]
def k0_off73 (k0_t1 : Fin k0_t1_loop.trips) : Fin 3 → Nat :=
  let c1_154 : Index := 1#32
  let c136_155 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v454 : Index := Scalar.indexCast v95
  ![1, 136, v454.toNat]
def k0_off74 (k0_t1 : Fin k0_t1_loop.trips) : Fin 3 → Nat :=
  let c2_157 : Index := 2#32
  let c136_158 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v463 : Index := Scalar.indexCast v95
  ![2, 136, v463.toNat]
def k0_off75 (k0_t1 : Fin k0_t1_loop.trips) : Fin 3 → Nat :=
  let c3_160 : Index := 3#32
  let c136_161 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v472 : Index := Scalar.indexCast v95
  ![3, 136, v472.toNat]
def k0_off76 (k0_t1 : Fin k0_t1_loop.trips) : Fin 3 → Nat :=
  let c4_163 : Index := 4#32
  let c136_164 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v481 : Index := Scalar.indexCast v95
  ![4, 136, v481.toNat]
def k0_off77 (k0_t1 : Fin k0_t1_loop.trips) : Fin 3 → Nat :=
  let c5_166 : Index := 5#32
  let c136_167 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v490 : Index := Scalar.indexCast v95
  ![5, 136, v490.toNat]
def k0_off78 (k0_t1 : Fin k0_t1_loop.trips) : Fin 3 → Nat :=
  let c6_169 : Index := 6#32
  let c136_170 : Index := 136#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v499 : Index := Scalar.indexCast v95
  ![6, 136, v499.toNat]
def k0_off79 (k0_t1 : Fin k0_t1_loop.trips) : Fin 2 → Nat :=
  let c144 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v508 : Index := Scalar.indexCast v95
  ![144, v508.toNat]
def k0_off80 (k0_t1 : Fin k0_t1_loop.trips) : Fin 3 → Nat :=
  let c0_173 : Index := 0#32
  let c144_174 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v516 : Index := Scalar.indexCast v95
  ![0, 144, v516.toNat]
def k0_off81 (k0_t1 : Fin k0_t1_loop.trips) : Fin 3 → Nat :=
  let c1_176 : Index := 1#32
  let c144_177 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v525 : Index := Scalar.indexCast v95
  ![1, 144, v525.toNat]
def k0_off82 (k0_t1 : Fin k0_t1_loop.trips) : Fin 3 → Nat :=
  let c2_179 : Index := 2#32
  let c144_180 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v534 : Index := Scalar.indexCast v95
  ![2, 144, v534.toNat]
def k0_off83 (k0_t1 : Fin k0_t1_loop.trips) : Fin 3 → Nat :=
  let c3_182 : Index := 3#32
  let c144_183 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v543 : Index := Scalar.indexCast v95
  ![3, 144, v543.toNat]
def k0_off84 (k0_t1 : Fin k0_t1_loop.trips) : Fin 3 → Nat :=
  let c4_185 : Index := 4#32
  let c144_186 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v552 : Index := Scalar.indexCast v95
  ![4, 144, v552.toNat]
def k0_off85 (k0_t1 : Fin k0_t1_loop.trips) : Fin 3 → Nat :=
  let c5_188 : Index := 5#32
  let c144_189 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v561 : Index := Scalar.indexCast v95
  ![5, 144, v561.toNat]
def k0_off86 (k0_t1 : Fin k0_t1_loop.trips) : Fin 3 → Nat :=
  let c6_191 : Index := 6#32
  let c144_192 : Index := 144#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v570 : Index := Scalar.indexCast v95
  ![6, 144, v570.toNat]
def k0_off87 (k0_t1 : Fin k0_t1_loop.trips) : Fin 2 → Nat :=
  let c152 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v579 : Index := Scalar.indexCast v95
  ![152, v579.toNat]
def k0_off88 (k0_t1 : Fin k0_t1_loop.trips) : Fin 3 → Nat :=
  let c0_195 : Index := 0#32
  let c152_196 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v587 : Index := Scalar.indexCast v95
  ![0, 152, v587.toNat]
def k0_off89 (k0_t1 : Fin k0_t1_loop.trips) : Fin 3 → Nat :=
  let c1_198 : Index := 1#32
  let c152_199 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v596 : Index := Scalar.indexCast v95
  ![1, 152, v596.toNat]
def k0_off90 (k0_t1 : Fin k0_t1_loop.trips) : Fin 3 → Nat :=
  let c2_201 : Index := 2#32
  let c152_202 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v605 : Index := Scalar.indexCast v95
  ![2, 152, v605.toNat]
def k0_off91 (k0_t1 : Fin k0_t1_loop.trips) : Fin 3 → Nat :=
  let c3_204 : Index := 3#32
  let c152_205 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v614 : Index := Scalar.indexCast v95
  ![3, 152, v614.toNat]
def k0_off92 (k0_t1 : Fin k0_t1_loop.trips) : Fin 3 → Nat :=
  let c4_207 : Index := 4#32
  let c152_208 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v623 : Index := Scalar.indexCast v95
  ![4, 152, v623.toNat]
def k0_off93 (k0_t1 : Fin k0_t1_loop.trips) : Fin 3 → Nat :=
  let c5_210 : Index := 5#32
  let c152_211 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v632 : Index := Scalar.indexCast v95
  ![5, 152, v632.toNat]
def k0_off94 (k0_t1 : Fin k0_t1_loop.trips) : Fin 3 → Nat :=
  let c6_213 : Index := 6#32
  let c152_214 : Index := 152#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v641 : Index := Scalar.indexCast v95
  ![6, 152, v641.toNat]
def k0_off95 (k0_t1 : Fin k0_t1_loop.trips) : Fin 2 → Nat :=
  let c160 : Index := 160#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v650 : Index := Scalar.indexCast v95
  ![160, v650.toNat]
def k0_off96 (k0_t1 : Fin k0_t1_loop.trips) : Fin 2 → Nat :=
  let c128_217 : Index := 128#32
  let c0_i32_44 : BitVec 32 := 0#32
  let c1_i32 : BitVec 32 := 1#32
  let arg13 : BitVec 32 := Scf.iv c0_i32_44 c1_i32 k0_t1
  let c128_i32 : BitVec 32 := 128#32
  let v94 : BitVec 32 := Scalar.muli arg13 c128_i32
  let v95 : BitVec 32 := v94
  let v660 : Index := Scalar.indexCast v95
  ![128, v660.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFwdReferenceIdeal.lean ====
abbrev S4096x5632 : Shape := ⟨2, ![4096, 5632]⟩
abbrev S31x1024 : Shape := ⟨2, ![31, 1024]⟩
abbrev S1024 : Shape := ⟨1, ![1024]⟩
abbrev S4096x2048 : Shape := ⟨2, ![4096, 2048]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 281
  | .vmem => 0
  | .smem => 0
  | _ => 0

abbrev hbmTy0_0 (i : Nat) : BufTy := match i % 128 with
  | 0 => ⟨S4096x5632, .f32⟩
  | 1 => ⟨S31x1024, .f32⟩
  | 2 => ⟨S1024, .f32⟩
  | 3 => ⟨S1024, .f32⟩
  | 4 => ⟨S1024, .f32⟩
  | 5 => ⟨S4096x2048, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S30x1024, .f32⟩
  | 19 => ⟨S4126x1024, .f32⟩
  | 20 => ⟨S_, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S1x1024, .f32⟩
  | 54 => ⟨S4096x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S1x1024, .f32⟩
  | 68 => ⟨S4096x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S1x1024, .f32⟩
  | 82 => ⟨S4096x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S1x1024, .f32⟩
  | 89 => ⟨S4096x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S1x1024, .f32⟩
  | 110 => ⟨S4096x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S4096x1024, .f32⟩
  | 121 => ⟨S1x1024, .f32⟩
  | 122 => ⟨S1024, .f32⟩
  | 123 => ⟨S1x1024, .f32⟩
  | 124 => ⟨S4096x1024, .f32⟩
  | 125 => ⟨S4096x1024, .f32⟩
  | 126 => ⟨S4096x1024, .f32⟩
  | 127 => ⟨S4096x1024, .f32⟩
  | _ => ⟨S4096x5632, .f32⟩

abbrev hbmTy0_1 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S4096x1024, .f32⟩
  | 7 => ⟨S1x1024, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S4096x1024, .f32⟩
  | 14 => ⟨S1x1024, .f32⟩
  | 15 => ⟨S1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S1x1024, .f32⟩
  | 22 => ⟨S1024, .f32⟩
  | 23 => ⟨S1x1024, .f32⟩
  | 24 => ⟨S4096x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S1x1024, .f32⟩
  | 38 => ⟨S4096x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S1x1024, .f32⟩
  | 59 => ⟨S4096x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S1x1024, .f32⟩
  | 66 => ⟨S4096x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S1x1024, .f32⟩
  | 85 => ⟨S1024, .f32⟩
  | 86 => ⟨S1x1024, .f32⟩
  | 87 => ⟨S4096x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S4096x1024, .f32⟩
  | 105 => ⟨S1x1024, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S1x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x5632, .f32⟩

abbrev hbmTy0_2 (i : Nat) : BufTy := match i % 128 with
  | 0 => ⟨S4096x1, .f32⟩
  | 1 => ⟨S4096x1024, .f32⟩
  | 2 => ⟨S4096x1024, .f32⟩
  | 3 => ⟨S_, .f32⟩
  | 4 => ⟨S4096x1, .f32⟩
  | 5 => ⟨S4096x1, .f32⟩
  | 6 => ⟨S4096x1, .f32⟩
  | 7 => ⟨S4096x1024, .f32⟩
  | 8 => ⟨S4096x1024, .f32⟩
  | 9 => ⟨S1x1024, .f32⟩
  | 10 => ⟨S4096x1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S4096x1024, .bf16⟩
  | _ => ⟨S4096x5632, .f32⟩

abbrev hbmTy (i : Nat) : BufTy := match i / 128 with
  | 0 => hbmTy0_0 i
  | 1 => hbmTy0_1 i
  | 2 => hbmTy0_2 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_7 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call0_v0 : Ref sig .tc := ⟨.hbm, 271, rfl⟩
abbrev main_call0_v1 : Ref sig .tc := ⟨.hbm, 272, rfl⟩
abbrev main_call0_cst : Ref sig .tc := ⟨.hbm, 273, rfl⟩
abbrev main_call0_v2 : Ref sig .tc := ⟨.hbm, 274, rfl⟩
abbrev main_call0_v3 : Ref sig .tc := ⟨.hbm, 275, rfl⟩
abbrev main_call0_cst_0 : Ref sig .tc := ⟨.hbm, 276, rfl⟩
abbrev main_call0_v4 : Ref sig .tc := ⟨.hbm, 277, rfl⟩
abbrev main_call0_v5 : Ref sig .tc := ⟨.hbm, 278, rfl⟩
abbrev main_v257 : Ref sig .tc := ⟨.hbm, 279, rfl⟩
abbrev main_v258 : Ref sig .tc := ⟨.hbm, 280, rfl⟩

abbrev nD : Nat := 1
abbrev τ : Topo := Topo.v7x

variable {F : FTy → Type} [FloatOps F]
-- ==== Proof.Reals.lean ====
/-
  Finite extended reals: the operations of `Ideal` on values that are real numbers are the operations of the reals. Every
  block and every reference of this directory is read at an index by these lemmas, so that the equations are equations of
  real numbers.
-/
module

public import Idealize.ShloMosaic.Lib.Pointwise
public import Idealize.ShloMosaic.PureOps.Ideal
public import Mathlib.Algebra.BigOperators.Field
public import Mathlib.Tactic.Ring
public import Mathlib.Tactic.FieldSimp
public import Mathlib.Tactic.Linarith
public import Mathlib.Tactic.Positivity

@[expose] public section

noncomputable section

namespace Cert.Reals

open Idealize.ShloMosaic

/-- A finite sum of reals, read as extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum of the extended reals of real terms, each term given by an equation. -/
theorem sum_eq_coe {ι : Type} {s : Finset ι} {g : ι → EReal} {f : ι → ℝ} (h : ∀ k ∈ s, g k = (f k : EReal)) :
    (∑ k ∈ s, g k) = ((∑ k ∈ s, f k : ℝ) : EReal) := by
  rw [← coe_sum]; exact Finset.sum_congr rfl h

/-- The quotient of two reals whose divisor is not zero. -/
theorem div_coe {x y : ℝ} (h : y ≠ 0) : Ideal.div (x : EReal) (y : EReal) = ((x / y : ℝ) : EReal) := by
  rw [Ideal.div_coe h, ← EReal.coe_mul]; congr 1; ring

/-- The reciprocal root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The word of the infinity a precondition compares with, of either width. -/
theorem wInf : Ideal.ofBits .f32 0x7F800000#32 = (⊤ : EReal) := by simp [Ideal.ofBits, Ideal.ieee]

theorem wInf16 : Ideal.ofBits .bf16 0x7F80#16 = (⊤ : EReal) := by simp [Ideal.ofBits, Ideal.ieee]

/-- "Smaller than infinity in absolute value" holds of the real numbers only. -/
theorem finite_of_lt {a t : EReal} (ht : t = ⊤) (h : BitVec.ofBool (decide (max a (-a) < t)) = 1#1) : ∃ r : ℝ, a = (r : EReal) := by
  subst ht
  have h' : max a (-a) < (⊤ : EReal) := by
    by_contra hn
    rw [decide_eq_false hn] at h
    exact absurd h (by decide)
  induction a using EReal.rec with
  | bot => exact absurd h' (by simp)
  | coe r => exact ⟨r, rfl⟩
  | top => exact absurd h' (by simp)

/-- "Smaller than infinity in absolute value", as the preconditions test it of a 32-bit float. -/
theorem finite_of_test {a : Ideal .f32} {b : BitVec 32} (hb : b = 0x7F800000#32)
    (h : FloatOps.cmpf .olt (FloatOps.hostAbsf a) (Ideal.ofBits .f32 b : Ideal .f32) = 1#1) : ∃ r : ℝ, (a : EReal) = (r : EReal) :=
  finite_of_lt (hb ▸ wInf) h

/-- "Smaller than infinity in absolute value", as the preconditions test it of a 16-bit float. -/
theorem finite_of_test16 {a : Ideal .bf16} {b : BitVec 16} (hb : b = 0x7F80#16)
    (h : FloatOps.cmpf .olt (FloatOps.hostAbsf a) (Ideal.ofBits .bf16 b : Ideal .bf16) = 1#1) : ∃ r : ℝ, (a : EReal) = (r : EReal) :=
  finite_of_lt (hb ▸ wInf16) h

/-- The word `2048.0`. -/
theorem w2048 : Ideal.ofBits .f32 0x45000000#32 = ((2048 : ℝ) : EReal) := by
  simp [Ideal.ofBits, Ideal.ieee, -EReal.coe_mul]; norm_num

/-- The word `1 / 2048`, exactly. -/
theorem wInv2048 : Ideal.ofBits .f32 0x3A000000#32 = ((1 / 2048 : ℝ) : EReal) := by
  simp [Ideal.ofBits, Ideal.ieee, -EReal.coe_mul]; norm_num

/-- The word `0.5`. -/
theorem wHalf : Ideal.ofBits .f32 0x3F000000#32 = ((1 / 2 : ℝ) : EReal) := by
  simp [Ideal.ofBits, Ideal.ieee, -EReal.coe_mul]; norm_num

/-- The word `-0.5`. -/
theorem wNegHalf : Ideal.ofBits .f32 0xBF000000#32 = ((-1 / 2 : ℝ) : EReal) := by
  simp [Ideal.ofBits, Ideal.ieee, -EReal.coe_mul]; norm_num

/-- The word `2.0`. -/
theorem w2 : Ideal.ofBits .f32 0x40000000#32 = ((2 : ℝ) : EReal) := by
  simp [Ideal.ofBits, Ideal.ieee, -EReal.coe_mul]; norm_num

/-- The real that the word of the norms' `1e-6` denotes. -/
def eps : ℝ := 8796093 / 2 ^ 43

/-- The word of the norms' `1e-6`. -/
theorem wEps : Ideal.ofBits .f32 0x358637BD#32 = (eps : EReal) := by
  simp [Ideal.ofBits, Ideal.ieee, eps, -EReal.coe_mul]; norm_num

theorem eps_pos : 0 < eps := by unfold eps; norm_num

end Cert.Reals

end
-- ==== Proof.Norm.lean ====
/-
  The root-mean-square norm of a row of 2048 reals and the gradient of it: `inv x` is the reciprocal root mean square,
  `grad x e` the gradient of `∑ d, e d * (x d * inv x)` by `x`. The step's kernels compute `grad` in closed form; its
  references sum the gradient's three contributions, which `grad_sum` collects.
-/
module

public import proofs.«01_k».proof.Proof.Reals

@[expose] public section

noncomputable section

namespace Cert.Norm

open Idealize.ShloMosaic Cert.Reals

/-- The mean square of a row, and the norm's small constant. -/
def mean (x : Fin 2048 → ℝ) : ℝ := (∑ k, x k * x k) / 2048 + eps

/-- The reciprocal root of it. -/
def inv (x : Fin 2048 → ℝ) : ℝ := (Real.sqrt (mean x))⁻¹

/-- The gradient of `∑ d, e d * (x d * inv x)` by `x d`. -/
def grad (x e : Fin 2048 → ℝ) (d : Fin 2048) : ℝ := inv x * (e d - x d * inv x * ((∑ k, e k * (x k * inv x)) / 2048))

theorem mean_pos (x : Fin 2048 → ℝ) : 0 < mean x := by
  have h : 0 ≤ ∑ k, x k * x k := Finset.sum_nonneg fun k _ => mul_self_nonneg _
  have := eps_pos
  unfold mean
  positivity

/-- The cube of the reciprocal root is the reciprocal root divided by the mean. -/
theorem inv_div_mean (x : Fin 2048 → ℝ) : inv x / mean x = inv x * inv x * inv x := by
  have h := mean_pos x
  have hs : Real.sqrt (mean x) * Real.sqrt (mean x) = mean x := Real.mul_self_sqrt h.le
  have hn : Real.sqrt (mean x) ≠ 0 := (Real.sqrt_pos.mpr h).ne'
  unfold inv
  conv_lhs => rw [← hs, Real.sqrt_mul_self (Real.sqrt_nonneg _)]
  field_simp

/-- The three contributions to the gradient, two of them through the mean of squares, add up to `grad`. -/
theorem grad_sum (x e : Fin 2048 → ℝ) (d : Fin 2048) :
    e d * inv x + x d * ((∑ k, x k * e k) * (-1 / 2 * (inv x / mean x)) / 2048)
      + ((∑ k, x k * e k) * (-1 / 2 * (inv x / mean x)) / 2048) * x d = grad x e d := by
  have hk : ∑ k, e k * (x k * inv x) = (∑ k, x k * e k) * inv x := by
    rw [Finset.sum_mul]; exact Finset.sum_congr rfl fun k _ => by ring
  rw [grad, hk, inv_div_mean]
  ring

/-- `mean`, as the programs write it over extended reals. -/
theorem mean_word {x : Fin 2048 → EReal} {X : Fin 2048 → ℝ} (h : ∀ k, x k = (X k : EReal)) :
    Ideal.div (∑ k, x k * x k) (Ideal.ofBits .f32 0x45000000#32) + Ideal.ofBits .f32 0x358637BD#32 = (mean X : EReal) := by
  simp only [h, ← EReal.coe_mul, coe_sum, w2048, wEps, div_coe (by norm_num : (2048 : ℝ) ≠ 0), ← EReal.coe_add, mean]

/-- `inv`, as the programs write it over extended reals. -/
theorem inv_word {x : Fin 2048 → EReal} {X : Fin 2048 → ℝ} (h : ∀ k, x k = (X k : EReal)) :
    Ideal.rsqrt (Ideal.div (∑ k, x k * x k) (Ideal.ofBits .f32 0x45000000#32) + Ideal.ofBits .f32 0x358637BD#32) = (inv X : EReal) := by
  rw [mean_word h, rsqrt_coe (mean_pos X), inv]

/-- `grad`, as the kernels write it over extended reals. -/
theorem grad_word {x e : Fin 2048 → EReal} {s : EReal} {X E : Fin 2048 → ℝ} (h : ∀ k, x k = (X k : EReal))
    (he : ∀ k, e k = (E k : EReal)) (hs : s = (inv X : EReal)) (d : Fin 2048) :
    s * (e d - x d * s * Ideal.div (∑ k, e k * (x k * s)) (Ideal.ofBits .f32 0x45000000#32)) = (grad X E d : EReal) := by
  simp only [h, he, hs, ← EReal.coe_mul, coe_sum, w2048, div_coe (by norm_num : (2048 : ℝ) ≠ 0), ← EReal.coe_sub, grad]

/-- `grad`, as the references write it over extended reals. -/
theorem grad_sum_word {x e : Fin 2048 → EReal} {s μ : EReal} {X E : Fin 2048 → ℝ} (h : ∀ k, x k = (X k : EReal))
    (he : ∀ k, e k = (E k : EReal)) (hs : s = (inv X : EReal)) (hμ : μ = (mean X : EReal)) (d : Fin 2048) :
    e d * s + x d * Ideal.div ((∑ k, x k * e k) * (Ideal.ofBits .f32 0xBF000000#32 * Ideal.div s μ)) (Ideal.ofBits .f32 0x45000000#32)
      + Ideal.div ((∑ k, x k * e k) * (Ideal.ofBits .f32 0xBF000000#32 * Ideal.div s μ)) (Ideal.ofBits .f32 0x45000000#32) * x d
      = (grad X E d : EReal) := by
  simp only [h, he, hs, hμ, wNegHalf, ← EReal.coe_mul, coe_sum, w2048, div_coe (by norm_num : (2048 : ℝ) ≠ 0),
    div_coe (mean_pos X).ne', ← EReal.coe_add, ← grad_sum]

end Cert.Norm

end
-- ==== Proof.FinalSpec.lean ====
/-
  The loss and the gradient of the final norm, over reals and row by row: `err` the norm's error against the target,
  `dx` the gradient by the input, `dg` a row's part of the gain's gradient, `loss` a row's part of the loss.
-/
module

public import proofs.«01_k».proof.Proof.Norm

@[expose] public section

noncomputable section

namespace Cert.FinalSpec

open Cert.Norm

variable (x g t : Fin 2048 → ℝ)

/-- The norm of a row times the gain, less the target. -/
def err (d : Fin 2048) : ℝ := x d * inv x * g d - t d

/-- The gradient of the row's loss by the norm's output. -/
def dy (d : Fin 2048) : ℝ := err x g t d * (1 / 2048)

/-- The gradient of the row's loss by the row. -/
def dx (d : Fin 2048) : ℝ := grad x (fun k => dy x g t k * g k) d

/-- The row's part of the gradient by the gain. -/
def dg (d : Fin 2048) : ℝ := dy x g t d * (x d * inv x)

/-- The row's part of the loss. -/
def loss : ℝ := (∑ k, err x g t k * err x g t k) / 2048

end Cert.FinalSpec

end
-- ==== Proof.FinalOut.lean ====
/-
  The call of the loss and of the final norm's gradient, one grid point: what the body leaves in its three output blocks,
  as the functions it computes of its input blocks and of what the blocks held before.
-/
module

public import proofs.«01_k».proof.Proof.Reals
public import proofs.«01_k».proof.Proof.Gen.FinalKernelIdeal.Value
public import Idealize.ShloMosaic.Lib.Pipeline.Value
public import Idealize.ShloMosaic.Lib.Tactic

@[expose] public section

set_option maxRecDepth 16384

noncomputable section

namespace Cert.FinalKernelIdeal.Body

open Cert.FinalKernelIdeal Cert.FinalKernelIdeal.Gen Idealize.ShloMosaic Idealize.ShloMosaic.TcCoe

variable {F : FTy → Type} [FloatOps F]
variable (c : Dev nD) (i : grid0.Coords) (a1 : Memref sig .tc .vmem S512x2048 .f32) (h1 : a1.IsWhole) (a2 : Memref sig .tc .vmem S1x2048 .f32) (h2 : a2.IsWhole)
  (a3 : Memref sig .tc .vmem S512x2048 .f32) (h3 : a3.IsWhole) (a4 : Memref sig .tc .vmem S512x2048 .f32) (h4 : a4.IsWhole)
  (a5 : Memref sig .tc .vmem S1x2048 .f32) (h5 : a5.IsWhole) (a6 : Memref sig .tc .vmem S1x128 .f32) (h6 : a6.IsWhole)
  (x : Vec F S512x2048 .f32) (g : Vec F S1x2048 .f32) (t : Vec F S512x2048 .f32) (og : Vec F S1x2048 .f32) (ol : Vec F S1x128 .f32)

theorem hz : (![0, 0] : Fin 2 → Nat) = fun _ => 0 := funext fun a => by fin_cases a <;> rfl

/-- The first point leaves the block of the input's gradient. -/
theorem dx_A (hc : cond0_0 i) : out0_A_3 c i a1 h1 a2 h2 a3 h3 a4 h4 a5 h5 a6 h6 hc x g t = k0_pay3 x (k0_pay9 x g t) g := by
  unfold out0_A_3
  rw [View.read_writes_eq_canon _ _ _ (cover0_A_3 c i a1 h1 a2 h2 a3 h3 a4 h4 a5 h5 a6 h6 hc x g t)]
  unfold kernelRun0_A
  dsimp only
  sl_unfold_words
  rw [View.canon_unit_zero hz]
  simp only [View.readAt_eq_ld, h1.read_unread, h2.read_unread, h3.read_unread, View.ld_unit_zero (S := S512x2048) hz, View.ld_unit_zero (S := S1x2048) hz]

/-- The first point leaves the gain's gradient of its own rows, added to zero. -/
theorem dg_A (hc : cond0_0 i) : out0_A_4 c i a1 h1 a2 h2 a3 h3 a4 h4 a5 h5 a6 h6 hc x g t = k0_pay4 x (k0_pay9 x g t) k0_pay5 := by
  unfold out0_A_4
  rw [View.read_writes_eq_canon _ _ _ (cover0_A_4 c i a1 h1 a2 h2 a3 h3 a4 h4 a5 h5 a6 h6 hc x g t)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, View.ld_unit_zero (S := S512x2048) hz, View.ld_unit_zero (S := S1x2048) hz]

/-- The first point leaves the loss of its own rows, added to zero. -/
theorem loss_A (hc : cond0_0 i) : out0_A_5 c i a1 h1 a2 h2 a3 h3 a4 h4 a5 h5 a6 h6 hc x g t = k0_pay8 x g t k0_pay6 := by
  unfold out0_A_5
  rw [View.read_writes_eq_canon _ _ _ (cover0_A_5 c i a1 h1 a2 h2 a3 h3 a4 h4 a5 h5 a6 h6 hc x g t)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S512x2048) hz, View.ld_unit_zero (S := S1x2048) hz]

/-- A later point leaves the block of the input's gradient. -/
theorem dx_B (hc : ¬cond0_0 i) : out0_B_3 c i a1 h1 a2 h2 a3 h3 a4 h4 a5 h5 a6 h6 hc x g t og ol = k0_pay3 x (k0_pay9 x g t) g := by
  unfold out0_B_3
  rw [View.read_writes_eq_canon _ _ _ (cover0_B_3 c i a1 h1 a2 h2 a3 h3 a4 h4 a5 h5 a6 h6 hc x g t og ol)]
  unfold kernelRun0_B
  dsimp only
  sl_unfold_words
  rw [View.canon_unit_zero hz]
  simp only [View.readAt_eq_ld, h1.read_unread, h2.read_unread, h3.read_unread, View.ld_unit_zero (S := S512x2048) hz, View.ld_unit_zero (S := S1x2048) hz]

/-- A later point adds the gain's gradient of its rows to what the block held. -/
theorem dg_B (hc : ¬cond0_0 i) : out0_B_4 c i a1 h1 a2 h2 a3 h3 a4 h4 a5 h5 a6 h6 hc x g t og ol = k0_pay4 x (k0_pay9 x g t) og := by
  unfold out0_B_4
  rw [View.read_writes_eq_canon _ _ _ (cover0_B_4 c i a1 h1 a2 h2 a3 h3 a4 h4 a5 h5 a6 h6 hc x g t og ol)]
  unfold kernelRun0_B
  dsimp only
  sl_unfold_words
  rw [View.canon_unit_zero hz]
  simp only [View.readAt_eq_ld, h1.read_unread, h2.read_unread, h3.read_unread, h5.read_unread, View.ld_unit_zero (S := S512x2048) hz, View.ld_unit_zero (S := S1x2048) hz]

/-- A later point adds the loss of its rows to what the block held. -/
theorem loss_B (hc : ¬cond0_0 i) : out0_B_5 c i a1 h1 a2 h2 a3 h3 a4 h4 a5 h5 a6 h6 hc x g t og ol = k0_pay8 x g t ol := by
  unfold out0_B_5
  rw [View.read_writes_eq_canon _ _ _ (cover0_B_5 c i a1 h1 a2 h2 a3 h3 a4 h4 a5 h5 a6 h6 hc x g t og ol)]
  unfold kernelRun0_B
  dsimp only
  sl_unfold_words
  rw [View.canon_unit_zero hz]
  simp only [View.readAt_eq_ld, h1.read_unread, h2.read_unread, h3.read_unread, h6.read_unread, View.ld_unit_zero (S := S512x2048) hz, View.ld_unit_zero (S := S1x2048) hz, View.ld_unit_zero (S := S1x128) hz]

end Cert.FinalKernelIdeal.Body

end
-- ==== Proof.FinalBlock.lean ====
/-
  One block of the call of the loss and of the final norm's gradient, over reals: what the body computes of 512 rows of real
  numbers, read at an index.
-/
module

public import proofs.«01_k».proof.Proof.FinalSpec
public import proofs.«01_k».proof.Proof.FinalOut

@[expose] public section

set_option maxRecDepth 16384

noncomputable section

namespace Cert.FinalKernelIdeal.Body

open Cert.FinalKernelIdeal Cert.FinalKernelIdeal.Gen Idealize.ShloMosaic Idealize.ShloMosaic.TcCoe Cert.Reals Cert.Norm Cert.FinalSpec

variable {x : Vec Ideal S512x2048 .f32} {g : Vec Ideal S1x2048 .f32} {t : Vec Ideal S512x2048 .f32} {og : Vec Ideal S1x2048 .f32} {ol : Vec Ideal S1x128 .f32}
variable {X T : Fin 512 → Fin 2048 → ℝ} {G : Fin 2048 → ℝ}

/-- The reciprocal root mean square of a row. -/
theorem inv_block (hx : ∀ r d, (x (ix2 r d) : EReal) = (X r d : EReal)) (r : Fin 512) : (k0_pay1 x (ix2 r 0) : EReal) = (inv (X r) : EReal) := by
  pointwise [k0_pay1]
  exact inv_word (x := fun k => x (ix2 r k)) (hx r)

/-- The error of a row. -/
theorem err_block (hx : ∀ r d, (x (ix2 r d) : EReal) = (X r d : EReal)) (hg : ∀ d, (g (ix2 0 d) : EReal) = (G d : EReal))
    (ht : ∀ r d, (t (ix2 r d) : EReal) = (T r d : EReal)) (r : Fin 512) (d : Fin 2048) :
    (k0_pay7 x g t (ix2 r d) : EReal) = (err (X r) G (T r) d : EReal) := by
  pointwise [k0_pay7]
  rw [inv_word (x := fun k => x (ix2 r k)) (hx r), hx, hg, ht, ← EReal.coe_mul, ← EReal.coe_mul, ← EReal.coe_sub, err]

/-- The gradient of a row's loss by the norm's output. -/
theorem dy_block (hx : ∀ r d, (x (ix2 r d) : EReal) = (X r d : EReal)) (hg : ∀ d, (g (ix2 0 d) : EReal) = (G d : EReal))
    (ht : ∀ r d, (t (ix2 r d) : EReal) = (T r d : EReal)) (r : Fin 512) (d : Fin 2048) :
    (k0_pay9 x g t (ix2 r d) : EReal) = (dy (X r) G (T r) d : EReal) := by
  pointwise [k0_pay9]
  rw [err_block hx hg ht, wInv2048, ← EReal.coe_mul, dy]

/-- The gradient of a row's loss by the row. -/
theorem dx_block (hx : ∀ r d, (x (ix2 r d) : EReal) = (X r d : EReal)) (hg : ∀ d, (g (ix2 0 d) : EReal) = (G d : EReal))
    (ht : ∀ r d, (t (ix2 r d) : EReal) = (T r d : EReal)) (r : Fin 512) (d : Fin 2048) :
    (k0_pay3 x (k0_pay9 x g t) g (ix2 r d) : EReal) = (dx (X r) G (T r) d : EReal) := by
  pointwise [k0_pay3, k0_pay2]
  exact grad_word (x := fun k => x (ix2 r k)) (e := fun k => k0_pay9 x g t (ix2 r k) * g (ix2 0 k)) (hx r)
    (fun k => by rw [dy_block hx hg ht, hg, ← EReal.coe_mul]) (inv_block hx r) d

/-- The rows' part of the gradient by the gain, added to what the block held. -/
theorem dg_block (hx : ∀ r d, (x (ix2 r d) : EReal) = (X r d : EReal)) (hg : ∀ d, (g (ix2 0 d) : EReal) = (G d : EReal))
    (ht : ∀ r d, (t (ix2 r d) : EReal) = (T r d : EReal)) (d : Fin 2048) :
    (k0_pay4 x (k0_pay9 x g t) og (ix2 0 d) : EReal) = og (ix2 0 d) + ((∑ r, dg (X r) G (T r) d : ℝ) : EReal) := by
  pointwise [k0_pay4, k0_pay2]
  refine congrArg (og (ix2 0 d) + ·) (sum_eq_coe fun r _ => ?_)
  rw [dy_block hx hg ht, hx, inv_block hx, ← EReal.coe_mul, ← EReal.coe_mul, dg]

/-- The rows' part of the loss, added to what the block held. -/
theorem loss_block (hx : ∀ r d, (x (ix2 r d) : EReal) = (X r d : EReal)) (hg : ∀ d, (g (ix2 0 d) : EReal) = (G d : EReal))
    (ht : ∀ r d, (t (ix2 r d) : EReal) = (T r d : EReal)) (d : Fin 128) :
    (k0_pay8 x g t ol (ix2 0 d) : EReal) = ol (ix2 0 d) + ((1 / 2 * ∑ r, loss (X r) G (T r) : ℝ) : EReal) := by
  pointwise [k0_pay8]
  refine congrArg (ol (ix2 0 d) + ·) ?_
  rw [wHalf, EReal.coe_mul]
  refine congrArg (((1 / 2 : ℝ) : EReal) * ·) (sum_eq_coe fun r _ => ?_)
  simp only [err_block hx hg ht, ← EReal.coe_mul, coe_sum, w2048, div_coe (by norm_num : (2048 : ℝ) ≠ 0), loss]

end Cert.FinalKernelIdeal.Body

end
-- ==== Proof.FinalArray.lean ====
/-
  The call of the loss and of the final norm's gradient: its three result arrays after the run, over reals. The eight
  points' blocks of the input's gradient tile the array; the gain's gradient and the loss are accumulated over the points.
-/
module

public import proofs.«01_k».proof.Proof.FinalBlock
public import Idealize.ShloMosaic.Lib.Pipeline.ValueKit

@[expose] public section

set_option maxRecDepth 16384

noncomputable section

namespace Cert.FinalKernelIdeal.Body

open Cert.FinalKernelIdeal Cert.FinalKernelIdeal.Gen Idealize.ShloMosaic Idealize.ShloMosaic.TcCoe Cert.Reals Cert.Norm Cert.FinalSpec

variable (m : (ℓ : Loc nD τ sig) → Buf (Elt Ideal) ℓ) (c : Dev nD)
variable {X T : Fin 4096 → Fin 2048 → ℝ} {G : Fin 2048 → ℝ}

/-- Row `r` of the block of point `t`. -/
def row (t : Fin cfg0.N) (r : Fin 512) : Fin 4096 := ⟨t.val * 512 + r.val, by have := t.isLt; have h : cfg0.N = 8 := N_0; omega⟩

/-- The rows of the eight blocks are the rows of the array. -/
theorem rows_sum (f : Fin 4096 → ℝ) : ∑ t : Fin cfg0.N, ∑ r : Fin 512, f (row t r) = ∑ r, f r :=
  Fin.sum_mul_add_congr fun _ _ _ => rfl

theorem index : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem x_read (hx : ∀ r d, (m ((c.tc : Thread nD τ).loc main_arg0) (ix2 r d) : EReal) = (X r d : EReal)) (t : Fin cfg0.N) (r : Fin 512) (d : Fin 2048) :
    (iblk m c 0 t (ix2 r d) : EReal) = (X (row t r) d : EReal) := by
  rw [← hx]
  blk_ext [iblk, V, index t, row]

theorem t_read (ht : ∀ r d, (m ((c.tc : Thread nD τ).loc main_arg2) (ix2 r d) : EReal) = (T r d : EReal)) (t : Fin cfg0.N) (r : Fin 512) (d : Fin 2048) :
    (iblk m c 2 t (ix2 r d) : EReal) = (T (row t r) d : EReal) := by
  rw [← ht]
  blk_ext [iblk, V, index t, row]

theorem g_read (hg : ∀ d, (m ((c.tc : Thread nD τ).loc main_arg1) (ix1 d) : EReal) = (G d : EReal)) (t : Fin cfg0.N) (d : Fin 2048) :
    (iblk m c 1 t (ix2 0 d) : EReal) = (G d : EReal) := by
  rw [← hg]
  blk_simp [iblk]
  entry_read
  pointwise
  blk_ext [index t]

variable (hx : ∀ r d, (m ((c.tc : Thread nD τ).loc main_arg0) (ix2 r d) : EReal) = (X r d : EReal))
  (hg : ∀ d, (m ((c.tc : Thread nD τ).loc main_arg1) (ix1 d) : EReal) = (G d : EReal))
  (ht : ∀ r d, (m ((c.tc : Thread nD τ).loc main_arg2) (ix2 r d) : EReal) = (T r d : EReal))

include hx hg ht in
/-- What a point leaves of the input's gradient. -/
theorem outs_dx (t : Fin cfg0.N) (r : Fin 512) (d : Fin 2048) :
    ((outsAt0 m c t.val t.isLt).1 (ix2 r d) : EReal) = (dx (X (row t r)) G (T (row t r)) d : EReal) := by
  by_cases h : t.val % 8 = 0
  · rw [outsAt0_A m c t h, dx_A]
    exact dx_block (x_read m c hx t) (g_read m c hg t) (t_read m c ht t) r d
  · rw [outsAt0_B m c t h, dx_B]
    exact dx_block (x_read m c hx t) (g_read m c hg t) (t_read m c ht t) r d

include hx hg ht in
/-- The array of the input's gradient. -/
theorem array_dx : (dats m 0 c).arrAt 3 cfg0.N = fun i : S4096x2048.Idx => (dx (X (i 0)) G (T (i 0)) (i 1) : EReal) := by
  refine (dats m 0 c).arrAt_eq_of_covers 3 _ (by decide +kernel) fun t hf y => ?_
  idx_vars y
  blk_simp
  have e : (win0_3.blk t).view.emb (ix2 y0 y1) = ix2 (row t y0) y1 := by blk_ext [index t, row]
  rw [after0_3, outs_dx m c hx hg ht, e]
  rfl

include hx hg ht in
/-- The block of the gain's gradient after the last point. -/
theorem outs_dg (d : Fin 2048) :
    ((outsAt0 m c t0_7.val t0_7.isLt).2.1 (ix2 0 d) : EReal) = ((∑ r, dg (X r) G (T r) d : ℝ) : EReal) := by
  have h := Pipeline.eq_sum_fin_of_reset_step_apply_last (M := EReal) (ι := Fin 2048) (fun n h d => (outsAt0 m c n h).2.1 (ix2 0 d)) 8 (fun _ => 0)
    (fun t d => ((∑ r, dg (X (row t r)) G (T (row t r)) d : ℝ) : EReal))
    (fun t h d => by
      rw [outsAt0_A m c t h, dg_A]
      refine (dg_block (x_read m c hx t) (g_read m c hg t) (t_read m c ht t) d).trans ?_
      pointwise [k0_pay5])
    (fun t h d => by
      rw [outsAt0_B m c t h, dg_B]
      exact dg_block (x_read m c hx t) (g_read m c hg t) (t_read m c ht t) d)
    (le_of_eq N_0) t0_7 rfl d
  refine h.trans ?_
  rw [zero_add, coe_sum, rows_sum fun r => dg (X r) G (T r) d]

include hx hg ht in
/-- The block of the loss after the last point. -/
theorem outs_loss (d : Fin 128) :
    ((outsAt0 m c t0_7.val t0_7.isLt).2.2 (ix2 0 d) : EReal) = ((1 / 2 * ∑ r, loss (X r) G (T r) : ℝ) : EReal) := by
  have h := Pipeline.eq_sum_fin_of_reset_step_apply_last (M := EReal) (ι := Fin 128) (fun n h d => (outsAt0 m c n h).2.2 (ix2 0 d)) 8 (fun _ => 0)
    (fun t d => ((1 / 2 * ∑ r, loss (X (row t r)) G (T (row t r)) : ℝ) : EReal))
    (fun t h d => by
      rw [outsAt0_A m c t h, loss_A]
      refine (loss_block (x_read m c hx t) (g_read m c hg t) (t_read m c ht t) d).trans ?_
      pointwise [k0_pay6])
    (fun t h d => by
      rw [outsAt0_B m c t h, loss_B]
      exact loss_block (x_read m c hx t) (g_read m c hg t) (t_read m c ht t) d)
    (le_of_eq N_0) t0_7 rfl d
  refine h.trans ?_
  rw [zero_add, coe_sum, ← Finset.mul_sum, rows_sum fun r => loss (X r) G (T r)]

include hx hg ht in
/-- The array of the gain's gradient. -/
theorem array_dg : (dats m 0 c).arrAt 4 cfg0.N = fun i : S1x2048.Idx => ((∑ r, dg (X r) G (T r) (i 1) : ℝ) : EReal) := by
  refine (dats m 0 c).arrAt_eq_of_after_last 4 t0_7 (by decide +kernel) _ fun j => ?_
  idx_vars j
  blk_simp
  obtain rfl : j0 = 0 := Subsingleton.elim _ _
  rw [after0_4, outs_dg m c hx hg ht]
  rfl

include hx hg ht in
/-- The array of the loss. -/
theorem array_loss : (dats m 0 c).arrAt 5 cfg0.N = fun _ : S1x128.Idx => ((1 / 2 * ∑ r, loss (X r) G (T r) : ℝ) : EReal) := by
  refine (dats m 0 c).arrAt_eq_of_after_last 5 t0_7 (by decide +kernel) _ fun j => ?_
  idx_vars j
  blk_simp
  obtain rfl : j0 = 0 := Subsingleton.elim _ _
  rw [after0_5, outs_loss m c hx hg ht]

end Cert.FinalKernelIdeal.Body

end
-- ==== Proof.FinalReference.lean ====
/-
  The reference of the loss and of the final norm's gradient, over reals: its three results, read at an index.
-/
module

public import proofs.«01_k».proof.Proof.FinalSpec
public import proofs.«01_k».proof.Proof.Gen.FinalReferenceIdeal.Read

@[expose] public section

set_option maxRecDepth 16384

noncomputable section

namespace Cert.FinalReferenceIdeal.Read

open Cert.FinalReferenceIdeal Cert.FinalReferenceIdeal.Gen Idealize.ShloMosaic Idealize.ShloMosaic.TcCoe Cert.Reals Cert.Norm Cert.FinalSpec

variable {x t : (⟨S4096x2048, .f32⟩ : BufTy).Contents (Elt Ideal)} {g : (⟨S2048, .f32⟩ : BufTy).Contents (Elt Ideal)}
variable {X T : Fin 4096 → Fin 2048 → ℝ} {G : Fin 2048 → ℝ}

/-- The mean square of a row and the small constant. -/
theorem mean_ref (hx : ∀ r d, (x (ix2 r d) : EReal) = (X r d : EReal)) (r : Fin 4096) : (val_main_v6 x (ix2 r 0) : EReal) = (mean (X r) : EReal) := by
  pointwise [val_main_v6, val_main_v5, val_main_v4, val_main_v3, val_main_v2, val_main_v1, val_main_v0, val_main_cst, val_main_cst_0, val_main_cst_1]
  exact mean_word (x := fun k => x (ix2 r k)) (hx r)

/-- The reciprocal root mean square of a row. -/
theorem inv_ref (hx : ∀ r d, (x (ix2 r d) : EReal) = (X r d : EReal)) (r : Fin 4096) : (val_main_v7 x (ix2 r 0) : EReal) = (inv (X r) : EReal) := by
  pointwise [val_main_v7]
  rw [mean_ref hx, rsqrt_coe (mean_pos _)]; rfl

/-- The error of a row. -/
theorem err_ref (hx : ∀ r d, (x (ix2 r d) : EReal) = (X r d : EReal)) (hg : ∀ d, (g (ix1 d) : EReal) = (G d : EReal))
    (ht : ∀ r d, (t (ix2 r d) : EReal) = (T r d : EReal)) (r : Fin 4096) (d : Fin 2048) :
    (val_main_v16 x g t (ix2 r d) : EReal) = (err (X r) G (T r) d : EReal) := by
  pointwise [val_main_v16, val_main_v15, val_main_v14, val_main_v13, val_main_v12, val_main_v11]
  rw [inv_ref hx, hx, hg, ht, ← EReal.coe_mul, ← EReal.coe_mul, ← EReal.coe_sub, err]

/-- The gradient of a row's loss by the norm's output. -/
theorem dy_ref (hx : ∀ r d, (x (ix2 r d) : EReal) = (X r d : EReal)) (hg : ∀ d, (g (ix1 d) : EReal) = (G d : EReal))
    (ht : ∀ r d, (t (ix2 r d) : EReal) = (T r d : EReal)) (r : Fin 4096) (d : Fin 2048) :
    (val_main_v30 x g t (ix2 r d) : EReal) = (dy (X r) G (T r) d : EReal) := by
  pointwise [val_main_v30, val_main_v29, val_main_v28, val_main_v27, val_main_v26, val_main_v25, val_main_v19, val_main_v18, val_main_cst_3,
    val_main_cst_8, val_main_cst_9, val_main_cst_10]
  rw [err_ref hx hg ht, wHalf, w2, w2048, div_coe (by norm_num : (2048 : ℝ) ≠ 0), ← EReal.coe_mul, ← EReal.coe_mul, dy]
  congr 1; ring

/-- The gradient of a row's loss by the norm's output, times the gain. -/
theorem dyg_ref (hx : ∀ r d, (x (ix2 r d) : EReal) = (X r d : EReal)) (hg : ∀ d, (g (ix1 d) : EReal) = (G d : EReal))
    (ht : ∀ r d, (t (ix2 r d) : EReal) = (T r d : EReal)) (r : Fin 4096) (d : Fin 2048) :
    (val_main_v35 x g t (ix2 r d) : EReal) = (dy (X r) G (T r) d * G d : ℝ) := by
  pointwise [val_main_v35, val_main_v34, val_main_v13]
  rw [dy_ref hx hg ht, hg, ← EReal.coe_mul]

/-- The gradient by the input. -/
theorem dx_ref (hx : ∀ r d, (x (ix2 r d) : EReal) = (X r d : EReal)) (hg : ∀ d, (g (ix1 d) : EReal) = (G d : EReal))
    (ht : ∀ r d, (t (ix2 r d) : EReal) = (T r d : EReal)) (r : Fin 4096) (d : Fin 2048) :
    (val_main_v50 x g t (ix2 r d) : EReal) = (dx (X r) G (T r) d : EReal) := by
  pointwise [val_main_v50, val_main_v49, val_main_v48, val_main_v47, val_main_v46, val_main_v45, val_main_v44, val_main_v43, val_main_v42,
    val_main_v41, val_main_v40, val_main_v39, val_main_v38, val_main_v37, val_main_v10, val_main_v9, val_main_v8, val_main_cst_15,
    val_main_cst_14, val_main_cst_13, val_main_cst_2]
  simp only [Finset.univ_unique, Finset.sum_singleton, Fin.default_eq_zero]
  exact grad_sum_word (x := fun k => x (ix2 r k)) (e := fun k => val_main_v35 x g t (ix2 r k)) (hx r) (dyg_ref hx hg ht r) (inv_ref hx r)
    (mean_ref hx r) d

/-- The gradient by the gain. -/
theorem dg_ref (hx : ∀ r d, (x (ix2 r d) : EReal) = (X r d : EReal)) (hg : ∀ d, (g (ix1 d) : EReal) = (G d : EReal))
    (ht : ∀ r d, (t (ix2 r d) : EReal) = (T r d : EReal)) (d : Fin 2048) :
    (val_main_v51 x g t (ix2 0 d) : EReal) = ((∑ r, dg (X r) G (T r) d : ℝ) : EReal) := by
  pointwise [val_main_v51, val_main_v36, val_main_v35, val_main_v34, val_main_v33, val_main_v32, val_main_v31, val_main_v12, val_main_v11,
    val_main_cst_11, val_main_cst_12]
  simp only [Finset.univ_unique, Finset.sum_singleton]
  refine sum_eq_coe fun r _ => ?_
  rw [dy_ref hx hg ht, hx, inv_ref hx, ← EReal.coe_mul, ← EReal.coe_mul, dg]
  congr 1; ring

/-- The loss. -/
theorem loss_ref (hx : ∀ r d, (x (ix2 r d) : EReal) = (X r d : EReal)) (hg : ∀ d, (g (ix1 d) : EReal) = (G d : EReal))
    (ht : ∀ r d, (t (ix2 r d) : EReal) = (T r d : EReal)) (d : Fin 128) :
    (val_main_v52 x g t (ix2 0 d) : EReal) = ((1 / 2 * ∑ r, loss (X r) G (T r) : ℝ) : EReal) := by
  pointwise [val_main_v52, val_main_v24, val_main_v23, val_main_v22, val_main_v21, val_main_v20, val_main_v17, val_main_cst_4, val_main_cst_5,
    val_main_cst_6, val_main_cst_7]
  rw [wHalf, EReal.coe_mul]
  refine congrArg (((1 / 2 : ℝ) : EReal) * ·) (sum_eq_coe fun r _ => ?_)
  simp only [err_ref hx hg ht, ← EReal.coe_mul, coe_sum, w2048, div_coe (by norm_num : (2048 : ℝ) ≠ 0), loss]

end Cert.FinalReferenceIdeal.Read

end
-- ==== Proof.Final.lean ====
/-
  The loss and the final norm's gradient: on finite arguments the call's three result arrays are the reference's.
-/
module

public import proofs.«01_k».proof.Proof.FinalArray
public import proofs.«01_k».proof.Proof.FinalReference
public import proofs.«01_k».proof.Proof.Gen.Pre_final_finite

@[expose] public section

set_option maxRecDepth 16384

noncomputable section

namespace Cert.Final

open Idealize.ShloMosaic Idealize.ShloMosaic.TcCoe Idealize.SL.Sem Cert.Reals Cert.FinalKernelIdeal Cert.FinalKernelIdeal.Gen

variable (m : (ℓ : Loc nD τ sig) → Buf (Elt Ideal) ℓ)

/-- The arguments of the call on device `c`. -/
abbrev x (c : Dev nD) := m ((c.tc : Thread nD τ).loc main_arg0)
abbrev g (c : Dev nD) := m ((c.tc : Thread nD τ).loc main_arg1)
abbrev t (c : Dev nD) := m ((c.tc : Thread nD τ).loc main_arg2)

/-- The precondition: every element of the three arguments is smaller than infinity in absolute value. -/
def Finite (c : Dev nD) : Prop :=
  (Cert.Pre_final_finite.fn (F := Ideal) (x m c) (g m c) (t m c)).1 = (fun _ => 1#1)
    ∧ (Cert.Pre_final_finite.fn (F := Ideal) (x m c) (g m c) (t m c)).2.1 = (fun _ => 1#1)
    ∧ (Cert.Pre_final_finite.fn (F := Ideal) (x m c) (g m c) (t m c)).2.2 = (fun _ => 1#1)

/-- On finite arguments the three arrays after the call are the reference's three results. -/
theorem tie (c : Dev nD) (h : Finite m c) :
    (dats m 0 c).arrAt 3 cfg0.N = Cert.FinalReferenceIdeal.Read.val_main_v50 (x m c) (g m c) (t m c)
      ∧ (dats m 0 c).arrAt 4 cfg0.N = Cert.FinalReferenceIdeal.Read.val_main_v51 (x m c) (g m c) (t m c)
      ∧ (dats m 0 c).arrAt 5 cfg0.N = Cert.FinalReferenceIdeal.Read.val_main_v52 (x m c) (g m c) (t m c) := by
  have fx : ∀ r d, ∃ a : ℝ, (x m c (ix2 r d) : EReal) = (a : EReal) := fun r d => finite_of_test rfl (congrFun h.1 (ix2 r d))
  have fg : ∀ d, ∃ a : ℝ, (g m c (ix1 d) : EReal) = (a : EReal) := fun d => finite_of_test rfl (congrFun h.2.1 (ix1 d))
  have ft : ∀ r d, ∃ a : ℝ, (t m c (ix2 r d) : EReal) = (a : EReal) := fun r d => finite_of_test rfl (congrFun h.2.2 (ix2 r d))
  choose X hx using fx
  choose G hg using fg
  choose T ht using ft
  rw [Body.array_dx m c hx hg ht, Body.array_dg m c hx hg ht, Body.array_loss m c hx hg ht]
  refine ⟨funext fun i => ?_, funext fun i => ?_, funext fun i => ?_⟩ <;> idx_vars i
  · exact (Cert.FinalReferenceIdeal.Read.dx_ref hx hg ht i0 i1).symm
  · obtain rfl : i0 = 0 := Subsingleton.elim _ _
    exact (Cert.FinalReferenceIdeal.Read.dg_ref hx hg ht i1).symm
  · obtain rfl : i0 = 0 := Subsingleton.elim _ _
    exact (Cert.FinalReferenceIdeal.Read.loss_ref hx hg ht i1).symm

end Cert.Final

end
-- ==== Proof.GateSpec.lean ====
/-
  The gradient of the gate `silu(g) * u` of a SwiGLU, `silu(g) = g * logistic g`: at an element `g` any extended real, the
  product rule's two terms, which the reference adds, are the one product the call computes.
-/
module

public import proofs.«01_k».proof.Proof.Reals

@[expose] public section

noncomputable section

namespace Cert.GateSpec

open Idealize.ShloMosaic Cert.Reals

/-- The logistic function, as the programs write it. -/
theorem logistic_word (g : EReal) : Ideal.div 1 (1 + Ideal.exp (-g)) = Ideal.logistic g := rfl

theorem logistic_word' (g : EReal) : Ideal.div 1 (1 + Ideal.exp (0 - g)) = Ideal.logistic g := by
  rw [zero_sub, logistic_word]

/-- The gradient of `a * silu(g)` by `g`: one product, or the sum of the product rule's two terms. -/
theorem slope (a : ℝ) (g : EReal) :
    (a : EReal) * (Ideal.logistic g * (1 + g * (1 - Ideal.logistic g)))
      = a * Ideal.logistic g + g * a * (Ideal.logistic g * (1 - Ideal.logistic g)) := by
  induction g using EReal.rec with
  | bot => simp
  | coe g =>
    have h1 : (1 : EReal) = ((1 : ℝ) : EReal) := rfl
    rw [Ideal.logistic_coe, h1]
    simp only [← EReal.coe_mul, ← EReal.coe_add, ← EReal.coe_sub]
    congr 1
    ring
  | top =>
    have h : (1 : EReal) - 1 = 0 := by rw [← EReal.coe_one, ← EReal.coe_sub, sub_self, EReal.coe_zero]
    simp [h]

/-- The gated product, of the gate's argument and the factor. -/
def gated (g u : EReal) : EReal := g * Ideal.logistic g * u

/-- The gradient by the factor, of the gated product's gradient. -/
def byFactor (a : ℝ) (g : EReal) : EReal := a * (g * Ideal.logistic g)

/-- The gradient by the gate's argument, of the gated product's gradient times the factor. -/
def byGate (a : ℝ) (g : EReal) : EReal := a * (Ideal.logistic g * (1 + g * (1 - Ideal.logistic g)))

/-- Half the product of a row of the output's gradient and a row of the weights. -/
def dot (x w : Fin 2048 → ℝ) : ℝ := 1 / 2 * ∑ k, x k * w k

/-- The kernel's product: the half multiplies the sum. -/
theorem dot_word {x w : Fin 2048 → EReal} {X W : Fin 2048 → ℝ} (hx : ∀ k, x k = (X k : EReal)) (hw : ∀ k, w k = (W k : EReal)) :
    Ideal.ofBits .f32 0x3F000000#32 * ∑ k, x k * w k = (dot X W : EReal) := by
  rw [wHalf, sum_eq_coe fun k _ => by rw [hx, hw, ← EReal.coe_mul], ← EReal.coe_mul, dot]

/-- The reference's product: the half multiplies each term. -/
theorem dot_terms {x w : Fin 2048 → EReal} {X W : Fin 2048 → ℝ} (hx : ∀ k, x k = (X k : EReal)) (hw : ∀ k, w k = (W k : EReal)) :
    ∑ k, Ideal.ofBits .f32 0x3F000000#32 * x k * w k = (dot X W : EReal) := by
  rw [dot, Finset.mul_sum, wHalf]
  exact sum_eq_coe fun k _ => by rw [hx, hw, ← EReal.coe_mul, ← EReal.coe_mul, mul_assoc]

end Cert.GateSpec

end
-- ==== Proof.GateArray.lean ====
/-
  The call of the SwiGLU gate's gradient: its three result arrays after the run. Point `t` of the grid computes the block of
  group `t % 8` and of row block `t / 8`; the output's gradient, kept in a scratch over the eight points of a row block,
  is the one read at the first of them.
-/
module

public import proofs.«01_k».proof.Proof.GateSpec
public import proofs.«01_k».proof.Proof.Gen.GateKernelIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.GateKernelIdeal.Body

open Cert.GateKernelIdeal Cert.GateKernelIdeal.Gen Idealize.ShloMosaic Idealize.ShloMosaic.TcCoe Cert.Reals Cert.GateSpec

variable (m : (ℓ : Loc nD τ sig) → Buf (Elt Ideal) ℓ) (c : Dev nD)
variable {X : Fin 4096 → Fin 2048 → ℝ} {U : Fin 8 → Fin 4096 → Fin 704 → ℝ} {W : Fin 8 → Fin 704 → Fin 2048 → ℝ}

/-- Row `r` of the row block of point `t`. -/
def row (t : Fin cfg0.N) (r : Fin 512) : Fin 4096 := ⟨t.val / 8 * 512 + r.val, by have := t.isLt; have h : cfg0.N = 64 := N_0; omega⟩

/-- The group of point `t`. -/
def group (t : Fin cfg0.N) : Fin 8 := ⟨t.val % 8, by omega⟩

theorem index : ∀ t : Fin cfg0.N, win0_0.index t = ![t.val / 8, 0] ∧ win0_1.index t = ![t.val % 8, t.val / 8, 0]
    ∧ win0_2.index t = ![t.val % 8, t.val / 8, 0] ∧ win0_3.index t = ![t.val % 8, 0, 0] ∧ win0_4.index t = ![t.val % 8, t.val / 8, 0]
    ∧ win0_5.index t = ![t.val % 8, t.val / 8, 0] ∧ win0_6.index t = ![t.val % 8, t.val / 8, 0] :=
  (by decide +kernel : ∀ t : Fin grid0.N, _)

/-- The gate's argument and the factor, as point `t` reads them. -/
theorem g_read (t : Fin cfg0.N) (r : Fin 512) (f : Fin 704) :
    (iblk m c 1 t (ix3 0 r f) : EReal) = m ((c.tc : Thread nD τ).loc main_arg1) (ix3 (group t) (row t r) f) := by
  blk_ext [iblk, V, index t, row, group]

theorem u_read (t : Fin cfg0.N) (r : Fin 512) (f : Fin 704) :
    (iblk m c 2 t (ix3 0 r f) : EReal) = m ((c.tc : Thread nD τ).loc main_arg2) (ix3 (group t) (row t r) f) := by
  blk_ext [iblk, V, index t, row, group]

variable (hx : ∀ r d, (m ((c.tc : Thread nD τ).loc main_arg0) (ix2 r d) : EReal) = (X r d : EReal))
  (hu : ∀ j r f, (m ((c.tc : Thread nD τ).loc main_arg2) (ix3 j r f) : EReal) = (U j r f : EReal))
  (hw : ∀ j f d, (m ((c.tc : Thread nD τ).loc main_arg3) (ix3 j f d) : EReal) = (W j f d : EReal))

include hx in
theorem x_read (t : Fin cfg0.N) (r : Fin 512) (d : Fin 2048) : (k0_pay3 (iblk m c 0 t) (ix2 r d) : EReal) = (X (row t r) d : EReal) := by
  rw [← hx]
  pointwise [k0_pay3]
  blk_ext [iblk, V, index t, row]

include hw in
theorem w_read (t : Fin cfg0.N) (f : Fin 704) (d : Fin 2048) : (iblk m c 3 t (ix3 0 f d) : EReal) = (W (group t) f d : EReal) := by
  rw [← hw]
  blk_ext [iblk, V, index t, group]

include hx in
/-- What the scratch holds after point `t`: the rows of its row block. -/
theorem scratch (t : Fin cfg0.N) (r : Fin 512) (d : Fin 2048) :
    ((outsAt0 m c t.val t.isLt).2.2.2 (ix2 r d) : EReal) = (X (row t r) d : EReal) := by
  have h := Pipeline.eq_of_write_hold_apply (fun n h i => (outsAt0 m c n h).2.2.2 i) 8 (fun t i => k0_pay3 (iblk m c 0 t) i)
    (fun t h i => by rw [outsAt0_A m c t h]; frame_out) (fun t h i => by rw [outsAt0_B m c t h]; rfl) t (ix2 r d)
  refine h.trans ((x_read m c hx _ r d).trans ?_)
  have e : row ⟨8 * (t.val / 8), Nat.lt_of_le_of_lt (Nat.mul_div_le _ _) t.isLt⟩ r = row t r := Fin.ext (by simp [row])
  rw [e]

/-- A point's three blocks, of the scratch as the point leaves it. -/
theorem outs (t : Fin cfg0.N) :
    (outsAt0 m c t.val t.isLt).1 = k0_pay9 (outsAt0 m c t.val t.isLt).2.2.2 (iblk m c 3 t) (iblk m c 1 t) (iblk m c 2 t)
      ∧ (outsAt0 m c t.val t.isLt).2.1 = k0_pay1 (k0_pay4 (outsAt0 m c t.val t.isLt).2.2.2 (iblk m c 3 t)) (k0_pay8 (iblk m c 1 t))
      ∧ (outsAt0 m c t.val t.isLt).2.2.1 = k0_pay2 (k0_pay6 (iblk m c 2 t)) (k0_pay8 (iblk m c 1 t)) := by
  by_cases h : t.val % 8 = 0
  · rw [outsAt0_A m c t h]; frame_out; exact ⟨trivial, trivial, trivial⟩
  · rw [outsAt0_B m c t h]; frame_out; simp only [read_unread_whole]; exact ⟨rfl, rfl, trivial⟩

variable {xs : Vec Ideal S512x2048 .bf16} {g u : Vec Ideal S1x512x704 .f32} {w : Vec Ideal S1x704x2048 .bf16}

/-- The gradient of the gated product. -/
theorem da_block {X : Fin 512 → Fin 2048 → ℝ} {W : Fin 704 → Fin 2048 → ℝ} (hx : ∀ r d, (xs (ix2 r d) : EReal) = (X r d : EReal))
    (hw : ∀ f d, (w (ix3 0 f d) : EReal) = (W f d : EReal)) (r : Fin 512) (f : Fin 704) :
    (k0_pay4 xs w (ix2 r f) : EReal) = (dot (X r) (W f) : EReal) := by
  pointwise [k0_pay4]
  exact dot_word (hx r) (hw f)

theorem logistic_block (r : Fin 512) (f : Fin 704) : (k0_pay7 g (ix2 r f) : EReal) = Ideal.logistic (g (ix3 0 r f)) := by
  pointwise [k0_pay7, k0_pay5]
  rw [logistic_word']

include hx hu hw in
/-- The array of the gradient by the gate's argument. -/
theorem array_dg : (dats m 0 c).arrAt 4 cfg0.N = fun i : S8x4096x704.Idx =>
    byGate (dot (X (i 1)) (W (i 0) (i 2)) * U (i 0) (i 1) (i 2)) (m ((c.tc : Thread nD τ).loc main_arg1) (ix3 (i 0) (i 1) (i 2))) := by
  refine (dats m 0 c).arrAt_eq_of_covers 4 _ (by decide +kernel) fun t hf y => ?_
  idx_vars y
  blk_simp
  obtain rfl : y0 = 0 := Subsingleton.elim _ _
  have e : (win0_4.blk t).view.emb (ix3 0 y1 y2) = ix3 (group t) (row t y1) y2 := by blk_ext [index t, row, group]
  rw [after0_4, (outs m c t).1, e]
  pointwise [k0_pay9, k0_pay5, k0_pay6]
  rw [da_block (scratch m c hx t) (w_read m c hw t), logistic_block, g_read, u_read, hu, ← EReal.coe_mul]
  rfl

include hx hw in
/-- The array of the gradient by the factor. -/
theorem array_du : (dats m 0 c).arrAt 5 cfg0.N = fun i : S8x4096x704.Idx =>
    byFactor (dot (X (i 1)) (W (i 0) (i 2))) (m ((c.tc : Thread nD τ).loc main_arg1) (ix3 (i 0) (i 1) (i 2))) := by
  refine (dats m 0 c).arrAt_eq_of_covers 5 _ (by decide +kernel) fun t hf y => ?_
  idx_vars y
  blk_simp
  obtain rfl : y0 = 0 := Subsingleton.elim _ _
  have e : (win0_5.blk t).view.emb (ix3 0 y1 y2) = ix3 (group t) (row t y1) y2 := by blk_ext [index t, row, group]
  rw [after0_5, (outs m c t).2.1, e]
  pointwise [k0_pay1, k0_pay8, k0_pay5]
  rw [da_block (scratch m c hx t) (w_read m c hw t), logistic_block, g_read]
  rfl

/-- The array of the gated product. -/
theorem array_a : (dats m 0 c).arrAt 6 cfg0.N = fun i : S8x4096x704.Idx =>
    gated (m ((c.tc : Thread nD τ).loc main_arg1) (ix3 (i 0) (i 1) (i 2))) (m ((c.tc : Thread nD τ).loc main_arg2) (ix3 (i 0) (i 1) (i 2))) := by
  refine (dats m 0 c).arrAt_eq_of_covers 6 _ (by decide +kernel) fun t hf y => ?_
  idx_vars y
  blk_simp
  obtain rfl : y0 = 0 := Subsingleton.elim _ _
  have e : (win0_6.blk t).view.emb (ix3 0 y1 y2) = ix3 (group t) (row t y1) y2 := by blk_ext [index t, row, group]
  rw [after0_6, (outs m c t).2.2, e]
  pointwise [k0_pay2, k0_pay8, k0_pay5, k0_pay6]
  rw [logistic_block, g_read, u_read]
  rfl

end Cert.GateKernelIdeal.Body

end
-- ==== Proof.GateReference.lean ====
/-
  The reference of the SwiGLU gate's gradient: its three results, read at an index.
-/
module

public import proofs.«01_k».proof.Proof.GateSpec
public import proofs.«01_k».proof.Proof.Gen.GateReferenceIdeal.Read

@[expose] public section

set_option maxRecDepth 16384

noncomputable section

namespace Cert.GateReferenceIdeal.Read

open Cert.GateReferenceIdeal Cert.GateReferenceIdeal.Gen Idealize.ShloMosaic Idealize.ShloMosaic.TcCoe Cert.Reals Cert.GateSpec

variable {x : (⟨S4096x2048, .f32⟩ : BufTy).Contents (Elt Ideal)} {g u : (⟨S8x4096x704, .f32⟩ : BufTy).Contents (Elt Ideal)}
  {w : (⟨S8x704x2048, .bf16⟩ : BufTy).Contents (Elt Ideal)}
variable {X : Fin 4096 → Fin 2048 → ℝ} {U : Fin 8 → Fin 4096 → Fin 704 → ℝ} {W : Fin 8 → Fin 704 → Fin 2048 → ℝ}

/-- The logistic function of the gate's argument. -/
theorem logistic_ref (j : Fin 8) (r : Fin 4096) (f : Fin 704) : (val_main_v0_2 g (ix3 j r f) : EReal) = Ideal.logistic (g (ix3 j r f)) := by
  pointwise [val_main_v0_2, val_main_call0_v4, val_main_call0_v3, val_main_call0_v2, val_main_call0_v1, val_main_call0_v0, val_main_call0_cst,
    val_main_call0_cst_0]
  rw [logistic_word]

/-- The gradient of the gated product. -/
theorem da_ref (hx : ∀ r d, (x (ix2 r d) : EReal) = (X r d : EReal)) (hw : ∀ j f d, (w (ix3 j f d) : EReal) = (W j f d : EReal)) (j : Fin 8)
    (r : Fin 4096) (f : Fin 704) : (val_main_v9 x w (ix3 j r f) : EReal) = (dot (X r) (W j f) : EReal) := by
  pointwise [val_main_v9, val_main_v8, val_main_v7, val_main_v6, val_main_v2, val_main_cst]
  exact dot_terms (hx r) (hw j f)

/-- The gradient by the gate's argument. -/
theorem dg_ref (hx : ∀ r d, (x (ix2 r d) : EReal) = (X r d : EReal)) (hu : ∀ j r f, (u (ix3 j r f) : EReal) = (U j r f : EReal))
    (hw : ∀ j f d, (w (ix3 j f d) : EReal) = (W j f d : EReal)) (j : Fin 8) (r : Fin 4096) (f : Fin 704) :
    (val_main_v13 x g u w (ix3 j r f) : EReal) = byGate (dot (X r) (W j f) * U j r f) (g (ix3 j r f)) := by
  pointwise [val_main_v13, val_main_v12, val_main_v11, val_main_v0_1, val_main_call0_v7, val_main_call0_v6, val_main_call1_v2, val_main_call1_v1,
    val_main_call1_v0, val_main_call0_cst_1]
  rw [da_ref hx hw, hu, logistic_ref, ← EReal.coe_mul, byGate, slope]

/-- The gradient by the factor. -/
theorem du_ref (hx : ∀ r d, (x (ix2 r d) : EReal) = (X r d : EReal)) (hw : ∀ j f d, (w (ix3 j f d) : EReal) = (W j f d : EReal)) (j : Fin 8)
    (r : Fin 4096) (f : Fin 704) :
    (val_main_v14 x g w (ix3 j r f) : EReal) = byFactor (dot (X r) (W j f)) (g (ix3 j r f)) := by
  pointwise [val_main_v14, val_main_v10, val_main_v0_0]
  rw [da_ref hx hw, logistic_ref, mul_comm, byFactor]

/-- The gated product itself. -/
theorem a_ref (j : Fin 8) (r : Fin 4096) (f : Fin 704) :
    (val_main_v15 g u (ix3 j r f) : EReal) = gated (g (ix3 j r f)) (u (ix3 j r f)) := by
  pointwise [val_main_v15, val_main_v1, val_main_v0_0]
  rw [logistic_ref, gated]

end Cert.GateReferenceIdeal.Read

end
-- ==== Proof.Gate.lean ====
/-
  The SwiGLU gate's gradient: where the output's gradient, the factor and the weights are finite, the call's three result
  arrays are the reference's. Of the gate's argument nothing is asked.
-/
module

public import proofs.«01_k».proof.Proof.GateArray
public import proofs.«01_k».proof.Proof.GateReference
public import proofs.«01_k».proof.Proof.Gen.Pre_gate_finite

@[expose] public section

set_option maxRecDepth 16384

noncomputable section

namespace Cert.Gate

open Idealize.ShloMosaic Idealize.ShloMosaic.TcCoe Idealize.SL.Sem Cert.Reals Cert.GateKernelIdeal Cert.GateKernelIdeal.Gen

variable (m : (ℓ : Loc nD τ sig) → Buf (Elt Ideal) ℓ)

/-- The arguments of the call on device `c`: the output's gradient, the gate's argument, the factor, the weights. -/
abbrev x (c : Dev nD) := m ((c.tc : Thread nD τ).loc main_arg0)
abbrev g (c : Dev nD) := m ((c.tc : Thread nD τ).loc main_arg1)
abbrev u (c : Dev nD) := m ((c.tc : Thread nD τ).loc main_arg2)
abbrev w (c : Dev nD) := m ((c.tc : Thread nD τ).loc main_arg3)

/-- The precondition: every element of three of the arguments is smaller than infinity in absolute value. -/
def Finite (c : Dev nD) : Prop :=
  (Cert.Pre_gate_finite.fn (F := Ideal) (x m c) (g m c) (u m c) (w m c)).1 = (fun _ => 1#1)
    ∧ (Cert.Pre_gate_finite.fn (F := Ideal) (x m c) (g m c) (u m c) (w m c)).2.1 = (fun _ => 1#1)
    ∧ (Cert.Pre_gate_finite.fn (F := Ideal) (x m c) (g m c) (u m c) (w m c)).2.2 = (fun _ => 1#1)

/-- On such arguments the three arrays after the call are the reference's three results. -/
theorem tie (c : Dev nD) (h : Finite m c) :
    (dats m 0 c).arrAt 4 cfg0.N = Cert.GateReferenceIdeal.Read.val_main_v13 (x m c) (g m c) (u m c) (w m c)
      ∧ (dats m 0 c).arrAt 5 cfg0.N = Cert.GateReferenceIdeal.Read.val_main_v14 (x m c) (g m c) (w m c)
      ∧ (dats m 0 c).arrAt 6 cfg0.N = Cert.GateReferenceIdeal.Read.val_main_v15 (g m c) (u m c) := by
  have fx : ∀ r d, ∃ a : ℝ, (x m c (ix2 r d) : EReal) = (a : EReal) := fun r d => finite_of_test rfl (congrFun h.1 (ix2 r d))
  have fu : ∀ j r f, ∃ a : ℝ, (u m c (ix3 j r f) : EReal) = (a : EReal) := fun j r f => finite_of_test rfl (congrFun h.2.1 (ix3 j r f))
  have fw : ∀ j f d, ∃ a : ℝ, (w m c (ix3 j f d) : EReal) = (a : EReal) := fun j f d => finite_of_test16 rfl (congrFun h.2.2 (ix3 j f d))
  choose X hx using fx
  choose U hu using fu
  choose W hw using fw
  rw [Body.array_dg m c hx hu hw, Body.array_du m c hx hw, Body.array_a m c]
  refine ⟨funext fun i => ?_, funext fun i => ?_, funext fun i => ?_⟩ <;> idx_vars i
  · exact (Cert.GateReferenceIdeal.Read.dg_ref hx hu hw i0 i1 i2).symm
  · exact (Cert.GateReferenceIdeal.Read.du_ref hx hw i0 i1 i2).symm
  · exact (Cert.GateReferenceIdeal.Read.a_ref i0 i1 i2).symm

end Cert.Gate

end
-- ==== Proof.Masks.lean ====
/-
  Masks made of comparisons of small counters: what the comparisons say of the counters, and a mask's bit as a number.
-/
module

public import Idealize.ShloMosaic.Lib.Affine
public import Idealize.ShloMosaic.PureOps.Ideal

@[expose] public section

noncomputable section

namespace Cert.Masks

open Idealize.ShloMosaic

/-- A mask's bit, widened to a word and converted to a number. -/
theorem bit (b : BitVec 1) : (FloatOps.sitofp (F := Ideal) .f32 (BitVec.setWidth 32 b) : EReal) = if b = 1#1 then 1 else 0 := by
  have h : b = 0#1 ∨ b = 1#1 := by revert b; decide
  rcases h with rfl | rfl
  · rw [if_neg (by decide)]
    show ((((BitVec.setWidth 32 0#1 : BitVec 32).toInt : ℤ) : ℝ) : EReal) = 0
    rw [show (BitVec.setWidth 32 0#1 : BitVec 32).toInt = 0 from by decide]; simp
  · rw [if_pos rfl]
    show ((((BitVec.setWidth 32 1#1 : BitVec 32).toInt : ℤ) : ℝ) : EReal) = 1
    rw [show (BitVec.setWidth 32 1#1 : BitVec 32).toInt = 1 from by decide]; simp

theorem ofNat_inj {a b : ℕ} (ha : a < 2147483648) (hb : b < 2147483648) : BitVec.ofNat 32 a = BitVec.ofNat 32 b ↔ a = b := by
  rw [← BitVec.toNat_inj, BitVec.toNat_ofNat, BitVec.toNat_ofNat]; omega

theorem toInt_ofNat {a : ℕ} (ha : a < 2147483648) : (BitVec.ofNat 32 a).toInt = a := by
  rw [BitVec.toInt_eq_toNat_of_lt (by rw [BitVec.toNat_ofNat]; omega), BitVec.toNat_ofNat]; omega

/-- The lower triangle's comparison: the column's counter is at least the row's. -/
theorem sge {a b : ℕ} (ha : a < 2147483648) (hb : b < 2147483648) :
    IntOp.cmpi .sge (BitVec.ofNat 32 a) (BitVec.ofNat 32 b) = 1#1 ↔ b ≤ a := by
  rw [IntOp.cmpi_sge, toInt_ofNat ha, toInt_ofNat hb]; omega

theorem slt {a b : ℕ} (ha : a < 2147483648) (hb : b < 2147483648) :
    IntOp.cmpi .slt (BitVec.ofNat 32 a) (BitVec.ofNat 32 b) = 1#1 ↔ a < b := by
  rw [IntOp.cmpi_slt, toInt_ofNat ha, toInt_ofNat hb]; omega

theorem eq {a b : ℕ} (ha : a < 2147483648) (hb : b < 2147483648) :
    IntOp.cmpi .eq (BitVec.ofNat 32 a) (BitVec.ofNat 32 b) = 1#1 ↔ a = b := by
  rw [IntOp.cmpi_eq, ofNat_inj ha hb]

end Cert.Masks

end
-- ==== Proof.GateBiasSpec.lean ====
/-
  The gradient of the forgetting gate in terms of numbers: a sum from a position on, the slope of the logarithm of the
  logistic function, and the lanes that hold the two heads of a pair.
-/
module

public import proofs.«01_k».proof.Proof.Reals
public import Mathlib.Algebra.BigOperators.Intervals

@[expose] public section

noncomputable section

namespace Cert.GateBias

open Idealize.ShloMosaic

/-- The lane of head `h`: pairs lie 128 lanes apart, the first head of a pair at lane `a`, the second at lane `b`. -/
def lane (a b h : ℕ) : ℕ := h / 2 * 128 + if h % 2 < 1 then a else b

theorem lane_lt {a b h : ℕ} (ha : a < 128) (hb : b < 128) (hh : h < 16) : lane a b h < 1024 := by
  unfold lane; split <;> omega

/-- A function of the rows of 4096, by row number, zero past the last. -/
def ext (f : Fin 4096 → EReal) (n : ℕ) : EReal := if h : n < 4096 then f ⟨n, h⟩ else 0

/-- The sum of `f` from row `a` on. -/
def tail (f : Fin 4096 → EReal) (a : ℕ) : EReal := ∑ n ∈ Finset.Ico a 4096, ext f n

/-- A sum over the positions of a block not before `r`, as a sum over an interval. -/
theorem sum_from (g : ℕ → EReal) (n r b : ℕ) :
    ∑ c : Fin n, (if r ≤ c.val then g (b + c.val) else 0) = ∑ k ∈ Finset.Ico (b + r) (b + n), g k := by
  rw [Fin.sum_univ_eq_sum_range (fun c => if r ≤ c then g (b + c) else 0), ← Finset.sum_filter, Nat.add_comm b r, Nat.add_comm b n,
    ← Finset.sum_Ico_add' g r n b]
  refine Finset.sum_congr ?_ fun k _ => by rw [Nat.add_comm]
  ext k; simp only [Finset.mem_filter, Finset.mem_range, Finset.mem_Ico]; omega

/-- The sum from row `r` of a block on: the rest of the block, and all that follows it. -/
theorem tail_split (f : Fin 4096 → EReal) {n r b : ℕ} (hr : r ≤ n) (hb : b + n ≤ 4096) :
    ∑ c : Fin n, (if r ≤ c.val then ext f (b + c.val) else 0) + tail f (b + n) = tail f (b + r) := by
  rw [sum_from, tail, tail, Finset.sum_Ico_consecutive _ (by omega) hb]

/-- The sum from row `r` on, counted from `r`. -/
theorem tail_shift (f : Fin 4096 → EReal) (r : ℕ) : ∑ n : Fin 4096, ext f (r + n.val) = tail f r := by
  have e := sum_from (ext f) 4096 0 r
  simp only [Nat.zero_le, if_true, Nat.add_zero] at e
  rw [e, tail]
  rcases Nat.lt_or_ge 4096 r with h | h
  · rw [Finset.Ico_eq_empty (by omega : ¬r < 4096), Finset.sum_empty]
    exact Finset.sum_eq_zero fun k hk => dif_neg (by rw [Finset.mem_Ico] at hk; omega)
  · rw [← Finset.sum_Ico_consecutive _ h (by omega : 4096 ≤ r + 4096)]
    rw [Finset.sum_eq_zero (s := Finset.Ico 4096 (r + 4096)) fun k hk => dif_neg (by rw [Finset.mem_Ico] at hk; omega), add_zero]

theorem tail_end (f : Fin 4096 → EReal) : tail f 4096 = 0 := by rw [tail, Finset.Ico_self, Finset.sum_empty]

/-- The slope of the logarithm of the logistic function at `f`. -/
def slope (f : EReal) : EReal := Ideal.div 1 (1 + Ideal.exp (0 - (0 - f)))

/-- The slope as the derivative of a stable form of `log (1 + exp g)` at `g = -f`: `exp` of `g` less that logarithm, with
    infinity replaced by zero in both. -/
theorem slope_eq (f : EReal) {g out : EReal} (hg : g = -f) (ho : out = max g 0 + Ideal.log1p (Ideal.exp (-max g (-g)))) :
    Ideal.exp ((if g = ⊤ then 0 else g) - if out = ⊤ then 0 else out) = slope f := by
  subst hg
  have l1 : Ideal.log 1 = 0 := by rw [← EReal.coe_one, Ideal.log_coe]; simp
  have t1 : (1 : EReal) + ⊤ = ⊤ := EReal.coe_add_top 1
  have e0 : Ideal.exp 0 = 1 := by rw [← EReal.coe_zero, Ideal.exp_coe, Real.exp_zero]; rfl
  induction f with
  | bot => subst ho; simp [slope, Ideal.log1p, Ideal.div, l1, e0]
  | top => subst ho; simp [slope, Ideal.log1p, Ideal.div, l1, t1]
  | coe x =>
    have e : out = ((Real.log (1 + Real.exp (-x)) : ℝ) : EReal) := by
      have hp : (0 : ℝ) < 1 + Real.exp (-max (-x) x) := by positivity
      have h1 : max (-(x : EReal)) 0 = ((max (-x) 0 : ℝ) : EReal) := by rw [EReal.coe_strictMono.monotone.map_max]; rfl
      have h2 : -max (-(x : EReal)) (- -(x : EReal)) = ((-max (-x) x : ℝ) : EReal) := by
        rw [neg_neg, EReal.coe_neg, EReal.coe_strictMono.monotone.map_max]; rfl
      rw [ho, h1, h2, Ideal.exp_coe, Ideal.log1p, ← EReal.coe_one, ← EReal.coe_add, Ideal.log_coe, if_neg (not_le.mpr hp), ← EReal.coe_add]
      refine congrArg _ ?_
      rcases le_total 0 x with hx | hx
      · rw [max_eq_right (by linarith), max_eq_right (by linarith), zero_add]
      · rw [max_eq_left (by linarith), max_eq_left (by linarith), neg_neg]
        have : (1 : ℝ) + Real.exp (-x) = Real.exp (-x) * (1 + Real.exp x) := by
          rw [mul_add, mul_one, ← Real.exp_add]; simp [add_comm]
        rw [this, Real.log_mul (Real.exp_pos _).ne' (by positivity), Real.log_exp]
    have hq : (0 : ℝ) < 1 + Real.exp (-x) := by positivity
    rw [e, if_neg (by rw [← EReal.coe_neg]; exact EReal.coe_ne_top _), if_neg (EReal.coe_ne_top _), ← EReal.coe_neg, ← EReal.coe_sub,
      Ideal.exp_coe, Real.exp_sub, Real.exp_log hq, slope, zero_sub, zero_sub, neg_neg, Ideal.exp_coe, ← EReal.coe_one, ← EReal.coe_add,
      Cert.Reals.div_coe (by positivity)]
    refine congrArg _ ?_
    rw [div_eq_div_iff hq.ne' (by positivity), Real.exp_neg]
    field_simp
    ring

end Cert.GateBias

end
-- ==== Proof.GateBiasBlock.lean ====
/-
  The body of the call of the forgetting gate's gradient: the rows of a block that the masks' products pick, and their sum
  from a row on.
-/
module

public import proofs.«01_k».proof.Proof.Masks
public import proofs.«01_k».proof.Proof.GateBiasSpec
public import proofs.«01_k».proof.Proof.Gen.GateBiasKernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateBiasKernelIdeal.Body

open Cert.GateBiasKernelIdeal Cert.GateBiasKernelIdeal.Gen Idealize.ShloMosaic Idealize.ShloMosaic.TcCoe Cert.GateBias

theorem and_lane (l : Fin 1024) : IntOp.andi (BitVec.ofNat 32 l.val) 127#32 = BitVec.ofNat 32 (l.val % 128) := by revert l; decide +kernel

theorem pair (l : Fin 1024) : IntOp.muli 2#32 (IntOp.shrsi .vector (BitVec.ofNat 32 l.val) 7#32) = BitVec.ofNat 32 (2 * (l.val / 128)) := by
  revert l; decide +kernel

theorem pair_succ (l : Fin 1024) :
    IntOp.addi (IntOp.muli 2#32 (IntOp.shrsi .vector (BitVec.ofNat 32 l.val) 7#32)) 1#32 = BitVec.ofNat 32 (2 * (l.val / 128) + 1) := by
  revert l; decide +kernel

/-- The mask of the two heads' lanes: one where the lane is the head's, zero elsewhere. -/
theorem mask {a b : ℕ} (ha : a < 128) (hb : b < 128) (l : Fin 1024) (h : Fin 128) (hh : h.val < 16) :
    (FloatOps.sitofp (F := Ideal) .f32 (BitVec.setWidth 32
      (IntOp.ori (IntOp.andi (IntOp.cmpi .eq (k0_pay7 (ix2 l h)) (BitVec.ofNat 32 a)) (k0_pay8 (ix2 l h)))
        (IntOp.andi (IntOp.cmpi .eq (k0_pay7 (ix2 l h)) (BitVec.ofNat 32 b)) (k0_pay9 (ix2 l h))))) : EReal)
      = if l = ⟨lane a b h.val, lane_lt ha hb hh⟩ then 1 else 0 := by
  have hl := l.isLt
  rw [Masks.bit]
  refine if_congr ?_ rfl rfl
  pointwise [k0_pay7, k0_pay8, k0_pay9, k0_pay6]
  rw [and_lane, pair_succ, pair, IntOp.ori_eq_one, IntOp.andi_eq_one, IntOp.andi_eq_one, Masks.eq (by omega) (by omega), Masks.eq (by omega) (by omega),
    Masks.eq (by omega) (by omega), Masks.eq (by omega) (by omega), Fin.ext_iff]
  show _ ↔ l.val = lane a b h.val
  unfold lane
  split <;> omega

variable {z w : Vec Ideal S512x1024 .f32} {u : Vec Ideal S1x128 .f32} {Z W : Fin 512 → Fin 1024 → ℝ}

/-- A row's sum against the mask picks the head's lane. -/
theorem pick (Z : Fin 1024 → ℝ) (n : Fin 1024) : ∑ l, (Z l : EReal) * (if l = n then 1 else 0) = (Z n : EReal) := by
  simp only [mul_ite, mul_one, mul_zero, Finset.sum_ite_eq', Finset.mem_univ, if_true]

theorem pay10 (hz : ∀ r l, (z (ix2 r l) : EReal) = (Z r l : EReal)) (r : Fin 512) (h : Fin 128) (hh : h.val < 16) :
    (k0_pay10 z (ix2 r h) : EReal) = (Z r ⟨lane 67 3 h.val, lane_lt (by omega) (by omega) hh⟩ : EReal) := by
  pointwise [k0_pay10]
  simp only [mask (a := 67) (b := 3) (by omega) (by omega) _ h hh, hz, ← EReal.coe_sub, sub_self, EReal.coe_zero, sub_zero, zero_mul, Finset.sum_const_zero, add_zero, pick]

/-- A row's sums from it on, of the block's rows and of what follows the block. -/
theorem pay12 (hz : ∀ r l, (z (ix2 r l) : EReal) = (Z r l : EReal)) (hw : ∀ r l, (w (ix2 r l) : EReal) = (W r l : EReal))
    (r : Fin 512) (h : Fin 128) (hh : h.val < 16) :
    (k0_pay12 k0_pay7 k0_pay9 (k0_pay10 z) k0_pay11 w u (ix2 r h) : EReal)
      = ∑ c : Fin 512, (if r.val ≤ c.val then (Z c ⟨lane 67 3 h.val, lane_lt (by omega) (by omega) hh⟩ : EReal)
          - (W c ⟨lane 64 0 h.val, lane_lt (by omega) (by omega) hh⟩ : EReal) else 0) + u (ix2 0 h) := by
  have hm : ∀ l : Fin 1024, (FloatOps.sitofp (F := Ideal) .f32 (BitVec.setWidth 32
      (IntOp.ori (k0_pay11 (ix2 l h)) (IntOp.andi (IntOp.cmpi .eq (k0_pay7 (ix2 l h)) 0#32) (k0_pay9 (ix2 l h))))) : EReal)
        = if l = ⟨lane 64 0 h.val, lane_lt (by omega) (by omega) hh⟩ then 1 else 0 := fun l => by
    rw [← mask (a := 64) (b := 0) (by omega) (by omega) l h hh]; rfl
  pointwise [k0_pay12]
  simp only [pay10 hz _ h hh, hm, hw, ← EReal.coe_sub, sub_self, EReal.coe_zero, sub_zero, zero_mul, Finset.sum_const_zero, add_zero, pick]
  simp only [mul_zero, Finset.sum_const_zero, add_zero]
  refine congrArg (· + _) ?_
  refine Finset.sum_congr rfl fun c _ => ?_
  have hc := c.isLt; have hr := r.isLt
  rw [Masks.bit, if_congr (Masks.sge (by omega) (by omega)) rfl rfl]
  split <;> simp

end Cert.GateBiasKernelIdeal.Body

end
-- ==== Proof.GateBiasArray.lean ====
/-
  The call of the forgetting gate's gradient: its two result arrays after the run. The blocks are taken from the last to the
  first; a row of scratch carries each head's sum over the rows of the blocks already taken.
-/
module

public import proofs.«01_k».proof.Proof.GateBiasBlock

@[expose] public section

set_option maxRecDepth 16384

noncomputable section

namespace Cert.GateBiasKernelIdeal.Body

open Cert.GateBiasKernelIdeal Cert.GateBiasKernelIdeal.Gen Idealize.ShloMosaic Idealize.ShloMosaic.TcCoe Cert.GateBias

variable (m : (ℓ : Loc nD τ sig) → Buf (Elt Ideal) ℓ) (c : Dev nD)
variable {P R : Fin 4096 → Fin 1024 → ℝ} {J : Fin 4096 → Fin 5632 → EReal} {B : Fin 16 → EReal}

/-- Row `r` of the block of point `t`: the blocks from the last to the first. -/
def row (t : Fin cfg0.N) (r : Fin 512) : Fin 4096 := ⟨(7 - t.val) * 512 + r.val, by omega⟩

/-- The gradient by the running sum of head `h`, at each row. -/
def rows (P R : Fin 4096 → Fin 1024 → ℝ) (h : Fin 16) (r : Fin 4096) : EReal :=
  (R r ⟨lane 67 3 h.val, lane_lt (by omega) (by omega) h.isLt⟩ : EReal) - (P r ⟨lane 64 0 h.val, lane_lt (by omega) (by omega) h.isLt⟩ : EReal)

/-- The gradient by the gate's argument at row `r` and head `h`. -/
def grad (P R : Fin 4096 → Fin 1024 → ℝ) (J : Fin 4096 → Fin 5632 → EReal) (B : Fin 16 → EReal) (r : Fin 4096) (h : Fin 16) : EReal :=
  tail (rows P R h) r.val * slope (J r ⟨5120 + h.val, by omega⟩ + B h)

/-- The same, padded to 128 columns. -/
def padded (P R : Fin 4096 → Fin 1024 → ℝ) (J : Fin 4096 → Fin 5632 → EReal) (B : Fin 16 → EReal) (r : Fin 4096) (h : Fin 128) : EReal :=
  if hh : h.val < 16 then grad P R J B r ⟨h.val, hh⟩ else 0

theorem index : ∀ t : Fin cfg0.N, win0_0.index t = ![7 - t.val, 0] ∧ win0_1.index t = ![7 - t.val, 0] ∧ win0_2.index t = ![7 - t.val, 40]
    ∧ win0_3.index t = ![0, 0] ∧ win0_4.index t = ![7 - t.val, 0] ∧ win0_5.index t = ![0, 0] :=
  (by decide +kernel : ∀ t : Fin grid0.N, _)

variable (hp : ∀ r l, (m ((c.tc : Thread nD τ).loc main_arg0) (ix2 r l) : EReal) = (P r l : EReal))
  (hr : ∀ r l, (m ((c.tc : Thread nD τ).loc main_arg1) (ix2 r l) : EReal) = (R r l : EReal))
  (hj : ∀ r l, (m ((c.tc : Thread nD τ).loc main_arg2) (ix2 r l) : EReal) = J r l)
  (hb : ∀ h, (m ((c.tc : Thread nD τ).loc main_arg3) (ix1 h) : EReal) = B h)

include hp in
theorem p_read (t : Fin cfg0.N) (r : Fin 512) (l : Fin 1024) : (iblk m c 0 t (ix2 r l) : EReal) = (P (row t r) l : EReal) := by
  rw [← hp]; blk_ext [iblk, V, index t, row]

include hr in
theorem r_read (t : Fin cfg0.N) (r : Fin 512) (l : Fin 1024) : (iblk m c 1 t (ix2 r l) : EReal) = (R (row t r) l : EReal) := by
  rw [← hr]; blk_ext [iblk, V, index t, row]

include hj in
theorem j_read (t : Fin cfg0.N) (r : Fin 512) (h : Fin 128) : (iblk m c 2 t (ix2 r h) : EReal) = J (row t r) ⟨5120 + h.val, by omega⟩ := by
  rw [← hj]; blk_ext [iblk, V, index t, row]

/-- The bias's row as the region finds it: the bias, at its 16 columns. -/
theorem bias (h : Fin 128) (hh : h.val < 16) :
    (V m c main_v1 (ix2 0 h) : EReal) = m ((c.tc : Thread nD τ).loc main_arg3) (ix1 ⟨h.val, hh⟩) := by
  unfold V
  simp only [List.flatten_cons, List.flatten_nil, List.append_nil, hostOps0, hostOps0_1, List.cons_append, List.nil_append]
  after_results
  pointwise
  show (pad S1x128 ![0, 0] ![0, 112] ![0, 0] (fun i : S1x16.Idx => (m ((c.tc : Thread nD τ).loc main_arg3) (ix1 (i 1)) : EReal))
    (sitofp (F := Ideal) .f32 (constantI S_ 32 0#32)) pads_S1x16_S1x128_000_01120 h_S_ (ix2 0 h) : EReal) = _
  pointwise
  exact dif_pos hh

include hb in
theorem b_read (t : Fin cfg0.N) (h : Fin 128) (hh : h.val < 16) : (iblk m c 3 t (ix2 0 h) : EReal) = B ⟨h.val, hh⟩ := by
  rw [← hb, ← bias m c h hh]; blk_ext [iblk, index t]

include hp hr in
/-- A point's sums from each row on, where the carried row holds the sums of what follows the block. -/
theorem sums {u : Vec Ideal S1x128 .f32} (t : Fin cfg0.N) (r : Fin 512) (h : Fin 128) (hh : h.val < 16)
    (hu : (u (ix2 0 h) : EReal) = tail (rows P R ⟨h.val, hh⟩) ((7 - t.val) * 512 + 512)) :
    (k0_pay12 k0_pay7 k0_pay9 (k0_pay10 (iblk m c 1 t)) k0_pay11 (iblk m c 0 t) u (ix2 r h) : EReal)
      = tail (rows P R ⟨h.val, hh⟩) (row t r).val := by
  refine (pay12 (r_read m c hr t) (p_read m c hp t) r h hh).trans ?_
  rw [hu]
  refine Eq.trans ?_ (tail_split (rows P R ⟨h.val, hh⟩) (n := 512) (b := (7 - t.val) * 512) (Nat.le_of_lt r.isLt) (by omega))
  refine congrArg (· + _) (Finset.sum_congr rfl fun k _ => ?_)
  have e : ext (rows P R ⟨h.val, hh⟩) ((7 - t.val) * 512 + k.val) = rows P R ⟨h.val, hh⟩ (row t k) := dif_pos (by omega)
  rw [e]; rfl

theorem first_row (s : IVec S1024x128 32) (x : IVec S1024x128 1) (y : FVec Ideal S512x128 .f32) (z : IVec S1024x128 1) (w : Vec Ideal S512x1024 .f32)
    (u : Vec Ideal S1x128 .f32) (h : Fin 128) : (k0_pay13 s x y z w u (ix2 0 h) : EReal) = k0_pay12 s x y z w u (ix2 0 h) := by
  pointwise [k0_pay13]

include hp hr in
/-- The carried row after each point: each head's sum from the point's block on. -/
theorem carry (h : Fin 128) (hh : h.val < 16) : ∀ (n : ℕ) (hn : n < cfg0.N),
    ((outsAt0 m c n hn).2.2 (ix2 0 h) : EReal) = tail (rows P R ⟨h.val, hh⟩) ((7 - n) * 512)
  | 0, hn => by
    rw [outsAt0_A m c ⟨0, hn⟩ rfl]; frame_out
    refine (first_row _ _ _ _ _ _ h).trans ((sums m c hp hr ⟨0, hn⟩ 0 h hh ?_).trans rfl)
    rw [show (7 - 0) * 512 + 512 = 4096 from rfl, tail_end]
    pointwise [k0_pay4]
  | n + 1, hn => by
    have hN : cfg0.N = 8 := N_0
    rw [outsAt0_B m c ⟨n + 1, hn⟩ (by dsimp only; omega)]; frame_out; simp only [read_unread_whole]
    refine (first_row _ _ _ _ _ _ h).trans ((sums m c hp hr ⟨n + 1, hn⟩ 0 h hh ?_).trans rfl)
    refine (carry h hh n (by omega)).trans (congrArg _ ?_)
    dsimp only; omega

include hj hb in
/-- The gradient by the gate's argument, of the sums. -/
theorem grad_block {s : Vec Ideal S512x128 .f32} (t : Fin cfg0.N)
    (hs : ∀ (r : Fin 512) (h : Fin 128) (hh : h.val < 16), (s (ix2 r h) : EReal) = tail (rows P R ⟨h.val, hh⟩) (row t r).val) (r : Fin 512) (h : Fin 128) :
    (k0_pay1 s (iblk m c 2 t) (iblk m c 3 t) (ix2 r h) : EReal) = padded P R J B (row t r) h := by
  pointwise [k0_pay1]
  rw [padded, Scalar.select]
  refine (if_congr (Masks.slt (a := h.val) (b := 16) (by omega) (by omega)) rfl rfl).trans ?_
  split
  · next hh => rw [hs r h hh, j_read m c hj, b_read m c hb t h hh]; rfl
  · rfl

include hp hr hj hb in
/-- What each point leaves: the block's gradient, and the gradient by the bias with the block's sum added. -/
theorem outs (t : Fin cfg0.N) :
    (∀ r h, ((outsAt0 m c t.val t.isLt).1 (ix2 r h) : EReal) = padded P R J B (row t r) h)
      ∧ ∀ h, ((outsAt0 m c t.val t.isLt).2.1 (ix2 0 h) : EReal)
        = (if t.val % 8 = 0 then 0 else (outsAt0 m c (t.val - 1) (Nat.lt_of_le_of_lt (Nat.sub_le _ _) t.isLt)).2.1 (ix2 0 h))
          + ∑ r : Fin 512, padded P R J B (row t r) h := by
  have hN : cfg0.N = 8 := N_0
  have ht := t.isLt
  by_cases h0 : t.val % 8 = 0
  · rw [outsAt0_A m c t h0]; frame_out
    have g := grad_block m c hj hb t (fun r h hh => sums m c hp hr t r h hh (u := k0_pay4 (F := Ideal)) (by
      rw [show (7 - t.val) * 512 + 512 = 4096 by omega, tail_end]; pointwise [k0_pay4]))
    refine ⟨g, fun h => ?_⟩
    rw [if_pos h0]
    pointwise [k0_pay3]
    simp only [g]
    pointwise [k0_pay5]
  · rw [outsAt0_B m c t h0]; frame_out; simp only [read_unread_whole]
    have g := grad_block m c hj hb t (fun r h hh => sums m c hp hr t r h hh
      (u := (outsAt0 m c (t.val - 1) (Nat.lt_of_le_of_lt (Nat.sub_le _ _) t.isLt)).2.2) (by
        rw [carry m c hp hr h hh]; congr 1; omega))
    refine ⟨g, fun h => ?_⟩
    rw [if_neg h0]
    pointwise [k0_pay3]
    simp only [g]

include hp hr hj hb in
/-- The array of the gradient by the gate's argument, padded to 128 columns. -/
theorem array_df : (dats m 0 c).arrAt 4 cfg0.N = fun i : S4096x128.Idx => padded P R J B (i 0) (i 1) := by
  refine (dats m 0 c).arrAt_eq_of_covers 4 _ (by decide +kernel) fun t hf y => ?_
  idx_vars y
  blk_simp
  have e : (win0_4.blk t).view.emb (ix2 y0 y1) = ix2 (row t y0) y1 := by blk_ext [index t, row]
  rw [after0_4, (outs m c hp hr hj hb t).1, e]
  rfl

/-- The last point of the grid. -/
abbrev last : Fin cfg0.N := ⟨7, by decide +kernel⟩

include hp hr hj hb in
theorem outs_db (h : Fin 128) :
    ((outsAt0 m c last.val last.isLt).2.1 (ix2 0 h) : EReal) = ∑ r : Fin 4096, padded P R J B r h := by
  have e := Pipeline.eq_sum_fin_of_reset_step_apply_last (M := EReal) (ι := Fin 128) (fun n hn h => (outsAt0 m c n hn).2.1 (ix2 0 h)) 8 (fun _ => 0)
    (fun t h => ∑ r : Fin 512, padded P R J B (row t r) h)
    (fun t h0 h => by rw [(outs m c hp hr hj hb t).2 h, if_pos h0])
    (fun t h0 h => by rw [(outs m c hp hr hj hb t).2 h, if_neg h0])
    (le_of_eq N_0) last rfl h
  refine e.trans ((zero_add _).trans ?_)
  refine (Equiv.sum_comp Fin.revPerm _).symm.trans ?_
  refine Fin.sum_mul_add_congr (S := 8) (n := 512) (f := fun r => padded P R J B r h) fun s r hl => ?_
  have h7 : (Fin.revPerm s : Fin 8).val = 7 - s.val := by rw [Fin.revPerm_apply, Fin.val_rev]; omega
  have hs := s.isLt
  have e1 : row (Fin.revPerm s) r = ⟨s.val * 512 + r.val, hl⟩ := Fin.ext (by
    show (7 - (Fin.revPerm s : Fin 8).val) * 512 + r.val = _
    rw [h7]; show (7 - (7 - s.val)) * 512 + r.val = s.val * 512 + r.val; omega)
  rw [e1]

include hp hr hj hb in
/-- The array of the gradient by the bias, padded to 128 columns. -/
theorem array_db : (dats m 0 c).arrAt 5 cfg0.N
    = fun i : S1x128.Idx => ∑ r : Fin 4096, padded P R J B r (i 1) := by
  refine (dats m 0 c).arrAt_eq_of_after_last 5 last (by decide +kernel) _ fun j => ?_
  idx_vars j
  blk_simp
  obtain rfl : j0 = 0 := Subsingleton.elim _ _
  rw [after0_5, outs_db m c hp hr hj hb]
  rfl

end Cert.GateBiasKernelIdeal.Body

end
-- ==== Proof.GateBiasReference.lean ====
/-
  The reference of the forgetting gate's gradient: its two results, read at an index.
-/
module

public import proofs.«01_k».proof.Proof.GateBiasSpec
public import proofs.«01_k».proof.Proof.Gen.GateBiasReferenceIdeal.Read

@[expose] public section

set_option maxRecDepth 16384

noncomputable section

namespace Cert.GateBiasReferenceIdeal.Read

open Cert.GateBiasReferenceIdeal Cert.GateBiasReferenceIdeal.Gen Idealize.ShloMosaic Idealize.ShloMosaic.TcCoe Cert.Reals Cert.GateBias

variable {p s : (⟨S4096x1024, .f32⟩ : BufTy).Contents (Elt Ideal)} {x : (⟨S4096x5632, .f32⟩ : BufTy).Contents (Elt Ideal)}
  {b : (⟨S16, .f32⟩ : BufTy).Contents (Elt Ideal)}

/-- A left fold of additions is its start and a sum. -/
theorem foldl_add {ι : Type} (f : ι → EReal) (l : List ι) (v : EReal) : l.foldl (fun r n => r + f n) v = v + (l.map f).sum := by
  induction l generalizing v with
  | nil => simp
  | cons a l ih => simp only [List.foldl_cons, List.map_cons, List.sum_cons, ih, add_assoc]

/-- A window of all the rows that starts at each row: the column's sum from that row on. -/
theorem window {n w : ℕ} {hi : Fin 2 → ℕ} (y : (⟨2, ![n, w]⟩ : Shape).Idx → EReal) (init : (⟨0, ![]⟩ : Shape).Idx → EReal)
    (hf : (⟨2, ![n, w]⟩ : Shape).ReduceWindows ![n, 1] ![1, 1] ![0, 0] hi ⟨2, ![n, w]⟩) (hu : 0 < (⟨0, ![]⟩ : Shape).numel)
    (h0 : init (Shape.Idx.first hu) = 0) (r : Fin n) (h : Fin w) :
    Host.reduceWindow (fun a b : EReal => a + b) ![n, 1] ![1, 1] ![0, 0] hi y init hf hu (ix2 r h)
      = ∑ k : Fin n, if hk : r.val + k.val < n then y (ix2 ⟨r.val + k.val, hk⟩ h) else 0 := by
  unfold Host.reduceWindow
  simp only [h0]
  rw [foldl_add, zero_add, ← Fin.sum_univ_def]
  refine (Equiv.sum_comp (Shape.rowMajor ⟨2, ![n, 1]⟩) _).symm.trans ?_
  simp only [Equiv.symm_apply_apply]
  refine (sum_idx2 _).trans (Finset.sum_congr rfl fun k _ => ?_)
  simp only [Finset.univ_unique, Finset.sum_singleton, Fin.default_eq_zero]
  by_cases hk : r.val + k.val < n
  · rw [dif_pos hk, dif_pos (by
      intro a; refine Fin.cases ?_ (fun b => ?_) a
      · show 0 ≤ r.val * 1 + k.val ∧ r.val * 1 + k.val - 0 < n; omega
      · obtain rfl : b = 0 := Subsingleton.elim _ _
        show 0 ≤ h.val * 1 + 0 ∧ h.val * 1 + 0 - 0 < w; have := h.isLt; omega)]
    refine congrArg y (funext fun a => ?_)
    refine Fin.cases ?_ (fun b => ?_) a
    · exact Fin.ext (show r.val * 1 + k.val - 0 = r.val + k.val by omega)
    · obtain rfl : b = 0 := Subsingleton.elim _ _
      exact Fin.ext (show h.val * 1 + 0 - 0 = h.val by omega)
  · rw [dif_neg hk, dif_neg fun hin => hk ?_]
    have h2 : r.val * 1 + k.val - 0 < n := (hin 0).2
    omega

/-- The running sum from the end: at each row the column's sum from that row on. -/
theorem sums_ref (r : Fin 4096) (h : Fin 16) : (val_main_v27 p s (ix2 r h) : EReal) = tail (fun k => val_main_v26 p s (ix2 k h)) r.val := by
  unfold val_main_v27 Host.reduceWindowAdd
  generalize val_main_v26 p s = y
  have h0 : (val_main_call2_call0_v0 (F := Ideal) (Shape.Idx.first h_S_) : EReal) = 0 := by
    pointwise [val_main_call2_call0_v0, val_main_call2_call0_cst]
  rw [Ideal.hostReduceWindowAdd_def, Ideal.hostReduceWindowAdd, window y (fun _ => val_main_call2_call0_v0 (F := Ideal) (Shape.Idx.first h_S_)) _ _ h0 r h, ← tail_shift]
  rfl

/-- The zero a pad takes, converted from an integer. -/
theorem zero_word {φ : FTy} : (FloatOps.sitofp φ 0#32 : Ideal φ) = (0 : EReal) :=
  (congrArg (fun n : ℤ => ((n : ℝ) : EReal)) (show (0#32).toInt = 0 by decide)).trans (by simp)

/-- The gradient by the running sum: the row's part less the column's part. -/
theorem rows_ref (r : Fin 4096) (h : Fin 16) :
    (val_main_v26 p s (ix2 r h) : EReal) = s (ix2 r ⟨lane 67 3 h.val, lane_lt (by omega) (by omega) h.isLt⟩)
      - p (ix2 r ⟨lane 64 0 h.val, lane_lt (by omega) (by omega) h.isLt⟩) := by
  pointwise [val_main_v26, val_main_v25, val_main_v9, val_main_v8, val_main_v7, val_main_v6, val_main_v5, val_main_v4, val_main_v3, val_main_v2,
    val_main_v1, val_main_v0, val_main_v17, val_main_v16, val_main_v15, val_main_v14, val_main_v13, val_main_v12, val_main_v11, val_main_v10]
  refine Eq.trans ?_ (sub_eq_add_neg _ _).symm
  refine congrArg₂ (fun a b : EReal => a + b) ?_ ?_
  · split
    · next e => exact congrArg s (congrArg (ix2 r) (Fin.ext (by simp only [lane, if_pos e])))
    · next e => exact congrArg s (congrArg (ix2 r) (Fin.ext (by simp only [lane, if_neg e])))
  · split
    · next e => exact congrArg (fun i => -p i) (congrArg (ix2 r) (Fin.ext (by simp only [lane, if_pos e])))
    · next e => exact congrArg (fun i => -p i) (congrArg (ix2 r) (Fin.ext (by simp only [lane, if_neg e, Nat.add_zero])))

/-- The slope that the derivative of the logarithm of the logistic function multiplies with. -/
theorem slope_ref (r : Fin 4096) (h : Fin 16) :
    (val_main_v22_1 x b (ix2 r h) : EReal) = slope (x (ix2 r ⟨5120 + h.val, by omega⟩) + b (ix1 h)) := by
  pointwise [val_main_v22_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0,
    val_main_call0_v1_0, val_main_call0_v0, val_main_v21, val_main_v20, val_main_v19, val_main_v18, val_main_call0_call0_cst, val_main_call0_call0_cst_0, val_main_call0_call0_cst_1, val_main_call0_call0_cst_2, val_main_call0_call0_cst_3, val_main_call0_call0_cst_4]
  generalize x (ix2 r ⟨5120 + h.val, _⟩) + b (ix1 h) = f
  rw [wInf]
  simp only [ne_eq, not_true_eq_false, if_false]
  exact slope_eq f rfl rfl

/-- The gradient by the gate's argument. -/
theorem grad_ref (r : Fin 4096) (h : Fin 16) :
    (val_main_v28 p s x b (ix2 r h) : EReal) = val_main_v27 p s (ix2 r h) * val_main_v22_1 x b (ix2 r h) := by
  rw [val_main_v28_apply, val_main_call3_v1_apply, val_main_call3_v0_apply]
  exact (congrArg _ (EReal.neg_mul _ _)).trans (neg_neg _)

/-- The first result: the gradient by the gate's argument, zero past its 16 columns. -/
theorem df_ref (r : Fin 4096) (h : Fin 128) :
    (val_main_v33 p s x b (ix2 r h) : EReal) = if hh : h.val < 16 then val_main_v28 p s x b (ix2 r ⟨h.val, hh⟩) else 0 := by
  unfold val_main_v33 val_main_v32
  generalize val_main_v28 p s x b = y
  pointwise [val_main_call4_v0, val_main_c]
  rw [zero_word]

/-- The second result: the gradient by the bias, zero past its 16 columns. -/
theorem db_ref (h : Fin 128) :
    (val_main_v35 p s x b (ix2 0 h) : EReal) = ∑ r : Fin 4096, if hh : h.val < 16 then val_main_v28 p s x b (ix2 r ⟨h.val, hh⟩) else 0 := by
  unfold val_main_v35 val_main_v34 val_main_v31 val_main_v30 val_main_v29
  generalize val_main_v28 p s x b = y
  pointwise [val_main_call5_v0, val_main_c_1, val_main_cst, val_main_cst_0]
  simp only [Finset.univ_unique, Finset.sum_singleton, zero_word]
  split
  · rfl
  · exact Finset.sum_const_zero.symm

end Cert.GateBiasReferenceIdeal.Read

end
-- ==== Proof.GateBias.lean ====
/-
  The forgetting gate's gradient: where the two arrays of sums over the attention's scores are finite, the call's two result
  arrays are the reference's. Of the gate's argument and bias nothing is asked.
-/
module

public import proofs.«01_k».proof.Proof.GateBiasArray
public import proofs.«01_k».proof.Proof.GateBiasReference
public import proofs.«01_k».proof.Proof.Gen.Pre_gate_bias_finite

@[expose] public section

set_option maxRecDepth 16384

noncomputable section

namespace Cert.GateBias

open Idealize.ShloMosaic Idealize.ShloMosaic.TcCoe Idealize.SL.Sem Cert.Reals Cert.GateBiasKernelIdeal Cert.GateBiasKernelIdeal.Gen

variable (m : (ℓ : Loc nD τ sig) → Buf (Elt Ideal) ℓ)

/-- The arguments of the call on device `c`: the sums by column, the sums by row, the projections, the bias. -/
abbrev p (c : Dev nD) := m ((c.tc : Thread nD τ).loc main_arg0)
abbrev s (c : Dev nD) := m ((c.tc : Thread nD τ).loc main_arg1)
abbrev x (c : Dev nD) := m ((c.tc : Thread nD τ).loc main_arg2)
abbrev b (c : Dev nD) := m ((c.tc : Thread nD τ).loc main_arg3)

/-- The precondition: every element of the two arrays of sums is smaller than infinity in absolute value. -/
def Finite (c : Dev nD) : Prop :=
  (Cert.Pre_gate_bias_finite.fn (F := Ideal) (p m c) (s m c) (x m c) (b m c)).1 = (fun _ => 1#1)
    ∧ (Cert.Pre_gate_bias_finite.fn (F := Ideal) (p m c) (s m c) (x m c) (b m c)).2 = (fun _ => 1#1)

/-- On such arguments the two arrays after the call are the reference's two results. -/
theorem tie (c : Dev nD) (h : Finite m c) :
    (dats m 0 c).arrAt 4 cfg0.N = Cert.GateBiasReferenceIdeal.Read.val_main_v33 (p m c) (s m c) (x m c) (b m c)
      ∧ (dats m 0 c).arrAt 5 cfg0.N = Cert.GateBiasReferenceIdeal.Read.val_main_v35 (p m c) (s m c) (x m c) (b m c) := by
  have fp : ∀ r d, ∃ a : ℝ, (p m c (ix2 r d) : EReal) = (a : EReal) := fun r d => finite_of_test rfl (congrFun h.1 (ix2 r d))
  have fs : ∀ r d, ∃ a : ℝ, (s m c (ix2 r d) : EReal) = (a : EReal) := fun r d => finite_of_test rfl (congrFun h.2 (ix2 r d))
  choose P hp using fp
  choose R hs using fs
  have e : ∀ (r : Fin 4096) (h : Fin 16), (Cert.GateBiasReferenceIdeal.Read.val_main_v28 (p m c) (s m c) (x m c) (b m c) (ix2 r h) : EReal)
      = Body.grad P R (fun r l => x m c (ix2 r l)) (fun h => b m c (ix1 h)) r h := fun r h => by
    rw [Cert.GateBiasReferenceIdeal.Read.grad_ref, Cert.GateBiasReferenceIdeal.Read.sums_ref, Cert.GateBiasReferenceIdeal.Read.slope_ref]
    refine congrArg (tail · _ * _) (funext fun k => ?_)
    rw [Cert.GateBiasReferenceIdeal.Read.rows_ref, hp, hs]; rfl
  rw [Body.array_df m c hp hs (fun _ _ => rfl) (fun _ => rfl), Body.array_db m c hp hs (fun _ _ => rfl) (fun _ => rfl)]
  refine ⟨funext fun i => ?_, funext fun i => ?_⟩ <;> idx_vars i
  · refine Eq.trans ?_ (Cert.GateBiasReferenceIdeal.Read.df_ref i0 i1).symm
    simp only [e]; rfl
  · obtain rfl : i0 = 0 := Subsingleton.elim _ _
    refine Eq.trans ?_ (Cert.GateBiasReferenceIdeal.Read.db_ref i1).symm
    simp only [e]; rfl

end Cert.GateBias

end
-- ==== Proof.NormRow.lean ====
/-
  The gradient of the root-mean-square norm of a row of 2048 extended reals, in the closed form the step's kernels compute:
  it is the sum of the gradient's three contributions whatever the row is, the gradient by the norm's output being real. A
  row that holds an infinite element has the reciprocal root `0`, and both sides are `0`.
-/
module

public import proofs.«01_k».proof.Proof.Norm

@[expose] public section

noncomputable section

namespace Cert.NormRow

open Idealize.ShloMosaic Cert.Reals

variable (x e : Fin 2048 → EReal)

/-- The mean square of the row, and the norm's small constant. -/
def mean : EReal := Ideal.div (∑ k, x k * x k) (Ideal.ofBits .f32 0x45000000#32) + Ideal.ofBits .f32 0x358637BD#32

/-- The reciprocal root of it. -/
def inv : EReal := Ideal.rsqrt (mean x)

/-- The row times the reciprocal root. -/
def unit (d : Fin 2048) : EReal := x d * inv x

/-- The gradient of `∑ d, e d * unit x d` by `x d`. -/
def grad (d : Fin 2048) : EReal := inv x * (e d - unit x d * Ideal.div (∑ k, e k * unit x k) (Ideal.ofBits .f32 0x45000000#32))

/-- The part of the gradient that passes through the mean of squares: what multiplies twice the row. -/
def through : EReal :=
  Ideal.div ((∑ k, x k * e k) * (Ideal.ofBits .f32 0xBF000000#32 * Ideal.div (inv x) (mean x))) (Ideal.ofBits .f32 0x45000000#32)

variable {x}

theorem square_nonneg (a : EReal) : 0 ≤ a * a := by
  rcases le_total 0 a with h | h
  · exact mul_nonneg h h
  · rw [← neg_mul_neg]; exact mul_nonneg (EReal.neg_nonneg.mpr h) (EReal.neg_nonneg.mpr h)

/-- A row with an infinite element has the mean square `⊤`. -/
theorem mean_top {k : Fin 2048} (h : x k * x k = ⊤) : mean x = ⊤ := by
  have hs : ∑ k, x k * x k = ⊤ :=
    top_le_iff.mp (h ▸ Finset.single_le_sum (f := fun k => x k * x k) (fun k _ => square_nonneg _) (Finset.mem_univ k))
  rw [mean, hs, w2048, wEps]
  have h0 : Ideal.div (⊤ : EReal) ((2048 : ℝ) : EReal) = ⊤ := by
    rw [Ideal.div, if_neg (by norm_num), ← EReal.coe_inv]
    exact EReal.top_mul_coe_of_pos (by norm_num)
  rw [h0, EReal.top_add_coe]

/-- Its reciprocal root is `0`. -/
theorem inv_zero {k : Fin 2048} (h : x k * x k = ⊤) : inv x = 0 := by
  rw [inv, mean_top h]; exact Ideal.rsqrt_top

/-- A row is of reals, or the square of an element is `⊤`. -/
theorem real_or_top (x : Fin 2048 → EReal) : (∃ X : Fin 2048 → ℝ, ∀ k, x k = (X k : EReal)) ∨ ∃ k, x k * x k = ⊤ := by
  by_cases h : ∀ k, ∃ a : ℝ, x k = (a : EReal)
  · exact Or.inl (Classical.axiomOfChoice h)
  · obtain ⟨k, hk⟩ := not_forall.mp h
    refine Or.inr ⟨k, ?_⟩
    generalize x k = a at hk ⊢
    induction a using EReal.rec with
    | bot => rfl
    | coe a => exact absurd ⟨a, rfl⟩ hk
    | top => rfl

variable {e}

/-- The closed form is the sum of the three contributions. -/
theorem grad_eq_sum {E : Fin 2048 → ℝ} (he : ∀ k, e k = (E k : EReal)) (d : Fin 2048) :
    grad x e d = e d * inv x + x d * through x e + through x e * x d := by
  rcases real_or_top x with ⟨X, hx⟩ | ⟨k, hk⟩
  · exact (Cert.Norm.grad_word hx he (Cert.Norm.inv_word hx) d).trans
      (Cert.Norm.grad_sum_word hx he (Cert.Norm.inv_word hx) (Cert.Norm.mean_word hx) d).symm
  · have ht : through x e = 0 := by
      rw [through, inv_zero hk, mean_top hk, w2048]
      simp [Ideal.div]
    rw [grad, ht, inv_zero hk]
    simp

end Cert.NormRow

end
-- ==== Proof.RowTiles.lean ====
/-
  A buffer of 512 rows treated 128 rows at a time by a loop of four trips: what the four stored tiles leave in it, and
  what a sum over rows that the loop carries has come to.
-/
module

public import Idealize.ShloMosaic.Lib.Pipeline.ValueKit
public import Idealize.ShloMosaic.Lib.Pipeline.ReadBack
public import Idealize.ShloMosaic.Lib.Pointwise

@[expose] public section

noncomputable section

namespace Cert.RowTiles

open Idealize.ShloMosaic Idealize.ShloMosaic.TcCoe

/-- The buffer. -/
abbrev S : Shape := ⟨2, ![512, 2048]⟩

/-- Row `p` of tile `k`. -/
def row (k : Fin 4) (p : Fin 128) : Fin 512 := ⟨k.val * 128 + p.val, by omega⟩

/-- Where the tile's index lies in the buffer. -/
theorem emb {off : Fin 2 → ℕ} {inb} {k : Fin 4} (h : off = ![k.val * 128, 0]) (p : Fin 128) (j : Fin 2048) :
    (Rect.unit (s := S) off ![128, 2048] inb).emb (ix2 p j) = ix2 (row k p) j := by
  subst h
  funext a
  apply Fin.ext
  match a with
  | ⟨0, _⟩ => exact ValueKit.rect_emb_unit_val _ _ _ _ _
  | ⟨1, _⟩ => exact (ValueKit.rect_emb_unit_val _ _ _ _ _).trans (Nat.zero_add _)

/-- What a load of the tile reads. -/
theorem load {off : Fin 2 → ℕ} {inb} {k : Fin 4} (h : off = ![k.val * 128, 0]) (X : S.Idx → EReal) (p : Fin 128) (j : Fin 2048) :
    X ((Rect.unit (s := S) off ![128, 2048] inb).toLoadRect.idx (ix2 p j)) = X (ix2 (row k p) j) :=
  congrArg X (emb h p j)

/-- What a load of a buffer of one row reads. -/
theorem load_row {inb} (X : (⟨2, ![1, 2048]⟩ : Shape).Idx → EReal) (j : Fin 2048) :
    X ((Rect.unit (s := ⟨2, ![1, 2048]⟩) ![0, 0] ![1, 2048] inb).toLoadRect.idx (ix2 0 j)) = X (ix2 0 j) := by
  refine congrArg X (funext fun a => Fin.ext ?_)
  match a with
  | ⟨0, _⟩ => exact ValueKit.rect_emb_unit_val _ _ _ _ _
  | ⟨1, _⟩ => exact (ValueKit.rect_emb_unit_val _ _ _ _ _).trans (Nat.zero_add _)

/-- Four stores whose payloads are the rows of `G` leave `G`. -/
theorem canon {P : ℕ → List (View.Piece (Elt Ideal) S .f32)} {off : Fin 4 → Fin 2 → ℕ} {inb : ∀ k a, off k a + ![128, 2048] a ≤ S.size a}
    {w : ∀ k, (Rect.unit (s := S) (off k) ![128, 2048] (inb k)).shape.Idx → Elt Ideal .f32} (G : Fin 512 → Fin 2048 → EReal)
    (h0 : P 0 = []) (hs : ∀ k : Fin 4, P (k.val + 1) = ⟨Rect.unit (s := S) (off k) ![128, 2048] (inb k), w k⟩ :: P k.val)
    (ho : ∀ k : Fin 4, off k = ![k.val * 128, 0]) (hw : ∀ k p j, (w k (ix2 p j) : EReal) = G (row k p) j) (r : Fin 512) (j : Fin 2048) :
    (View.canon (P 4) (ix2 r j) : EReal) = G r j := by
  have hP : ∀ n : ℕ, n ≤ 4 → View.PiecesOf (Val := Elt Ideal) (e := .f32) (fun i : S.Idx => G (i 0) (i 1)) (P n)
      ∧ ∀ k : Fin 4, k.val < n → ∃ p ∈ P n, ∀ q j, ix2 (row k q) j ∈ p.1.set := by
    intro n
    induction n with
    | zero => intro _; rw [h0]; exact ⟨trivial, fun k h => absurd h (Nat.not_lt_zero _)⟩
    | succ n ih =>
      intro hn
      obtain ⟨i1, i2⟩ := ih (by omega)
      rw [hs ⟨n, by omega⟩]
      refine ⟨⟨fun x => ?_, i1⟩, fun k hk => ?_⟩
      · idx_vars x
        exact (hw _ x0 x1).trans (by rw [emb (ho _)]; rfl)
      · rcases Nat.lt_succ_iff_lt_or_eq.mp hk with hk | hk
        · obtain ⟨p, hp, hq⟩ := i2 k hk
          exact ⟨p, List.mem_cons_of_mem _ hp, hq⟩
        · refine ⟨_, List.mem_cons_self, fun q j => ?_⟩
          obtain ⟨k, _⟩ := k
          obtain rfl : k = n := hk
          rw [← emb (inb := inb _) (ho _)]
          exact (Rect.unit (s := S) _ _ _).idx_mem _
  obtain ⟨h1, h2⟩ := hP 4 le_rfl
  obtain ⟨p, hp, hq⟩ := h2 ⟨r.val / 128, by omega⟩ (by show r.val / 128 < 4; omega)
  have e : r = row ⟨r.val / 128, by omega⟩ ⟨r.val % 128, by omega⟩ := Fin.ext (by simp only [row]; omega)
  have h := View.canon_append_of_piecesOf (Val := Elt Ideal) (e := .f32) (fun i : S.Idx => G (i 0) (i 1)) [] (P 4) h1 (ix2 r j)
    ⟨p, hp, by rw [e]; exact hq _ _⟩
  rw [List.append_nil] at h
  exact h

/-- A sum over the rows, carried tile by tile. -/
theorem carried {f : ℕ → EReal} (t : Fin 512 → EReal) (h0 : f 0 = 0) (hs : ∀ k : Fin 4, f (k.val + 1) = f k.val + ∑ p, t (row k p)) :
    f 4 = ∑ r, t r := by
  have h : ∑ k : Fin 4, ∑ p : Fin 128, t (row k p) = ∑ r, t r := Fin.sum_mul_add_congr fun _ _ _ => rfl
  have e0 : f 1 = f 0 + _ := hs 0
  have e1 : f 2 = f 1 + _ := hs 1
  have e2 : f 3 = f 2 + _ := hs 2
  have e3 : f 4 = f 3 + _ := hs 3
  rw [← h, Fin.sum_univ_four, e3, e2, e1, e0, h0, zero_add]

/-- A sum over the points of a grid in runs of `n`, of terms that are zero but at the last point of a run. -/
theorem sum_last {N S n : ℕ} (hN : N = S * n) (hn : 0 < n) (f : Fin N → EReal) :
    ∑ t : Fin N, (if t.val % n = n - 1 then f t else 0)
      = ∑ s : Fin S, f ⟨s.val * n + (n - 1), by subst hN; have := s.isLt; calc s.val * n + (n - 1) < (s.val + 1) * n := by rw [Nat.succ_mul]; omega
                                                          _ ≤ S * n := Nat.mul_le_mul_right _ this⟩ := by
  refine (Fin.sum_mul_add_congr (S := S) (n := n) (F := fun s k => if k.val = n - 1 then f ⟨s.val * n + (n - 1), ?_⟩ else 0) (fun s k hl => ?_) hN).symm.trans
    (Finset.sum_congr rfl fun s _ => ?_)
  · subst hN
    calc s.val * n + (n - 1) < (s.val + 1) * n := by rw [Nat.succ_mul]; omega
      _ ≤ S * n := Nat.mul_le_mul_right _ s.isLt
  · have e : (s.val * n + k.val) % n = k.val := by rw [Nat.mul_comm, Nat.mul_add_mod, Nat.mod_eq_of_lt k.isLt]
    simp only [e]
    split_ifs with h
    · exact congrArg f (Fin.ext (by simp only [h]))
    · rfl
  · rw [Finset.sum_eq_single (⟨n - 1, by omega⟩ : Fin n) (fun k _ hk => if_neg fun h => hk (Fin.ext h)) (fun h => absurd (Finset.mem_univ _) h), if_pos rfl]

end Cert.RowTiles

end
-- ==== Proof.NormLoop.lean ====
/-
  The loop in which the calls of a norm's gradient finish a row block: four trips of 128 rows, each storing the gradient by
  its rows and adding its rows' part of the gradient by the gain to the sum it carries.
-/
module

public import proofs.«01_k».proof.Proof.NormRow
public import proofs.«01_k».proof.Proof.RowTiles

@[expose] public section

noncomputable section

namespace Cert.NormLoop

open Idealize.ShloMosaic Idealize.ShloMosaic.TcCoe Cert.RowTiles

/-- A tile of rows, and one row. -/
abbrev Tile := Vec Ideal ⟨2, ![128, 2048]⟩ .f32
abbrev Row := Vec Ideal ⟨2, ![1, 2048]⟩ .f32

/-- The state after the four trips, by what a trip stores (`f`) and carries (`s`) of the tiles it reads: the gradient by the
    512 rows, and the rows' part of the gradient by the gain. -/
theorem result {st : ℕ → Row × List (View.Piece (Elt Ideal) S .f32)} {z : Row} {off : Fin 4 → Fin 2 → ℕ}
    {inb : ∀ k a, off k a + ![128, 2048] a ≤ S.size a} {a x d : Fin 4 → Tile} {g : Row} {f : Tile → Tile → Row → Tile → Tile} {s : Row → Tile → Tile → Row}
    {A X D : Fin 512 → Fin 2048 → EReal} {G : Fin 2048 → EReal} (hz : ∀ j, (z (ix2 0 j) : EReal) = 0) (h0 : st 0 = (z, []))
    (hs : ∀ k : Fin 4, st (k.val + 1) = (s (st k.val).1 (a k) (x k), [⟨Rect.unit (s := S) (off k) ![128, 2048] (inb k), f (a k) (x k) g (d k)⟩] ++ (st k.val).2))
    (ho : ∀ k : Fin 4, off k = ![k.val * 128, 0])
    (hf : ∀ a x g d p j, (f a x g d (ix2 p j) : EReal) = d (ix2 p j) + NormRow.grad (fun k => x (ix2 p k)) (fun k => a (ix2 p k) * g (ix2 0 k)) j)
    (hc : ∀ o a x j, (s o a x (ix2 0 j) : EReal) = o (ix2 0 j) + ∑ p, a (ix2 p j) * NormRow.unit (fun k => x (ix2 p k)) j)
    (ra : ∀ k p j, (a k (ix2 p j) : EReal) = A (row k p) j) (rx : ∀ k p j, (x k (ix2 p j) : EReal) = X (row k p) j)
    (rd : ∀ k p j, (d k (ix2 p j) : EReal) = D (row k p) j) (rg : ∀ j, (g (ix2 0 j) : EReal) = G j) :
    (∀ r j, (View.canon (st 4).2 (ix2 r j) : EReal) = D r j + NormRow.grad (X r) (fun k => A r k * G k) j)
      ∧ ∀ j, ((st 4).1 (ix2 0 j) : EReal) = ∑ r, A r j * NormRow.unit (X r) j := by
  refine ⟨canon (P := fun n => (st n).2) (fun r j => D r j + NormRow.grad (X r) (fun k => A r k * G k) j) (congrArg Prod.snd h0)
    (fun k => congrArg Prod.snd (hs k)) ho (fun k p j => ?_), fun j => carried (f := fun n => (st n).1 (ix2 0 j)) _ ?_ fun k => ?_⟩
  · rw [hf, rd]
    simp only [rx, ra, rg]
  · rw [h0]; exact hz j
  · refine (congrFun (congrArg Prod.fst (hs k)) (ix2 0 j)).trans ((hc _ _ _ _).trans ?_)
    simp only [rx, ra]

end Cert.NormLoop

end
-- ==== Proof.FfnInBlock.lean ====
/-
  The body of the call of the gradient of the norm before the feed-forward layer: what the last point of a row block computes of the
  512 rows of accumulated products, of the rows of the norm's input and of the gradient that passes by it. A loop of four
  trips treats 128 rows at a time.
-/
module

public import proofs.«01_k».proof.Proof.NormLoop
public import proofs.«01_k».proof.Proof.Gen.FfnInKernelIdeal.Value

@[expose] public section

set_option maxRecDepth 16384

noncomputable section

namespace Cert.FfnInKernelIdeal.Body

open Cert.FfnInKernelIdeal Cert.FfnInKernelIdeal.Gen Idealize.ShloMosaic Idealize.ShloMosaic.TcCoe

section Tile

variable {a x d : Vec Ideal S128x2048 .f32} {g s : Vec Ideal S1x2048 .f32}

/-- A tile of the gradient by the input. -/
theorem dx_tile (p : Fin 128) (j : Fin 2048) :
    (k0_pay7 a x g d (ix2 p j) : EReal)
      = d (ix2 p j) + NormRow.grad (fun k => x (ix2 p k)) (fun k => a (ix2 p k) * g (ix2 0 k)) j := by
  pointwise [k0_pay7, k0_pay6, k0_pay5]
  rfl

/-- A tile's part of the gradient by the gain, added to what the loop carries. -/
theorem dg_tile (j : Fin 2048) :
    (k0_pay8 s a x (ix2 0 j) : EReal) = s (ix2 0 j) + ∑ p, a (ix2 p j) * NormRow.unit (fun k => x (ix2 p k)) j := by
  pointwise [k0_pay8, k0_pay6, k0_pay5]
  rfl

end Tile

variable (c : Dev nD) (𝒱 : Variants) (bd : Option 𝒱.V) (i : grid0.Coords) (arg2 : Memref sig .tc .vmem S1x512x704 .bf16) (harg2 : arg2.IsWhole) (arg3 : Memref sig .tc .vmem S1x512x704 .bf16) (harg3 : arg3.IsWhole) (arg4 : Memref sig .tc .vmem S1x704x2048 .bf16) (harg4 : arg4.IsWhole) (arg5 : Memref sig .tc .vmem S1x704x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (k0_h3 : k0_cond3 i = 1#1)

theorem trips : k0_t1_loop.trips = 4 := by decide +kernel

theorem off (k : Fin 4) : k0_off1 (k.cast trips.symm) = ![k.val * 128, 0] := by revert k; decide +kernel

/-- The loop's result: what its four trips leave in the block of the input's gradient, and the sum it carries. -/
theorem loop {X6 : BufTy.Contents (Elt Ideal) arg6.view.ty} {X7 : BufTy.Contents (Elt Ideal) arg7.view.ty}
    {X8 : BufTy.Contents (Elt Ideal) arg8.view.ty} {X11 : BufTy.Contents (Elt Ideal) arg11.view.ty} {A X D : Fin 512 → Fin 2048 → EReal} {G : Fin 2048 → EReal}
    (ha : ∀ r j, (arg11.view.read (Elt Ideal) X11 (ix2 r j) : EReal) = A r j) (hx : ∀ r j, (arg7.view.read (Elt Ideal) X7 (ix2 r j) : EReal) = X r j)
    (hd : ∀ r j, (arg6.view.read (Elt Ideal) X6 (ix2 r j) : EReal) = D r j) (hg : ∀ j, (arg8.view.read (Elt Ideal) X8 (ix2 0 j) : EReal) = G j) :
    (∀ r j, (View.canon (st_k0_t1 (F := Ideal) 𝒱 c bd i arg2 harg2 arg3 harg3 arg4 harg4 arg5 harg5 arg6 harg6 arg7 harg7 arg8 harg8 arg9 harg9 arg10 harg10 arg11 harg11 k0_h3 X6 X7 X8 X11 k0_pay4 4).2 (ix2 r j) : EReal)
        = D r j + NormRow.grad (X r) (fun k => A r k * G k) j)
      ∧ ∀ j, ((st_k0_t1 (F := Ideal) 𝒱 c bd i arg2 harg2 arg3 harg3 arg4 harg4 arg5 harg5 arg6 harg6 arg7 harg7 arg8 harg8 arg9 harg9 arg10 harg10 arg11 harg11 k0_h3 X6 X7 X8 X11 k0_pay4 4).1 (ix2 0 j) : EReal)
        = ∑ r, A r j * NormRow.unit (X r) j := by
  have hs := fun k : Fin 4 => st_k0_t1_succ (F := Ideal) 𝒱 c bd i arg2 harg2 arg3 harg3 arg4 harg4 arg5 harg5 arg6 harg6 arg7 harg7 arg8 harg8 arg9 harg9 arg10 harg10 arg11 harg11 k0_h3 X6 X7 X8 X11 k0_pay4 (k.cast trips.symm)
  unfold tripR_k0_t1 tripL_k0_t1 trip_k0_t1 at hs
  dsimp only at hs
  exact NormLoop.result (fun j => by pointwise [k0_pay4]) rfl (f := k0_pay7 (F := Ideal)) (s := k0_pay8 (F := Ideal)) (fun k => hs k) off (fun _ _ _ _ => dx_tile) (fun _ _ _ => dg_tile)
    (fun k p j => (RowTiles.load (off k) (arg11.view.read (Elt Ideal) X11) p j).trans (ha _ j))
    (fun k p j => (RowTiles.load (off k) (arg7.view.read (Elt Ideal) X7) p j).trans (hx _ j))
    (fun k p j => (RowTiles.load (off k) (arg6.view.read (Elt Ideal) X6) p j).trans (hd _ j))
    (fun j => (RowTiles.load_row (arg8.view.read (Elt Ideal) X8) j).trans (hg j))

end Cert.FfnInKernelIdeal.Body

end
-- ==== Proof.FfnInArray.lean ====
/-
  The call of the gradient of the norm before the feed-forward layer: its two result arrays after the run. The eight points
  of a row block accumulate the products with the matrices of gate and up in a scratch, one group of columns a point; the
  last of them computes the gradients of it.
-/
module

public import proofs.«01_k».proof.Proof.FfnInBlock

@[expose] public section

set_option maxRecDepth 16384

noncomputable section

namespace Cert.FfnInKernelIdeal.Body

open Cert.FfnInKernelIdeal Cert.FfnInKernelIdeal.Gen Idealize.ShloMosaic Idealize.ShloMosaic.TcCoe

variable (m : (ℓ : Loc nD τ sig) → Buf (Elt Ideal) ℓ) (c : Dev nD)
variable {A B : Fin 8 → Fin 4096 → Fin 704 → EReal} {P Q : Fin 8 → Fin 704 → Fin 2048 → EReal} {X D : Fin 4096 → Fin 2048 → EReal} {G : Fin 2048 → EReal}

/-- Row `r` of the row block of point `t`, and the point's group. -/
def row (t : Fin cfg0.N) (r : Fin 512) : Fin 4096 := ⟨t.val / 8 * 512 + r.val, by have := t.isLt; have h : cfg0.N = 64 := N_0; omega⟩
def group (t : Fin cfg0.N) : Fin 8 := ⟨t.val % 8, by omega⟩

/-- The last point of the grid. -/
abbrev last : Fin cfg0.N := ⟨63, by decide +kernel⟩

theorem index : ∀ t : Fin cfg0.N, win0_0.index t = ![t.val % 8, t.val / 8, 0] ∧ win0_1.index t = ![t.val % 8, t.val / 8, 0]
    ∧ win0_2.index t = ![t.val % 8, 0, 0] ∧ win0_3.index t = ![t.val % 8, 0, 0] ∧ win0_4.index t = ![t.val / 8, 0]
    ∧ win0_5.index t = ![t.val / 8, 0] ∧ win0_6.index t = ![0, 0] ∧ win0_7.index t = ![t.val / 8, 0] :=
  (by decide +kernel : ∀ t : Fin grid0.N, _)

variable (ha : ∀ s r k, (m ((c.tc : Thread nD τ).loc main_arg0) (ix3 s r k) : EReal) = A s r k)
  (hb : ∀ s r k, (m ((c.tc : Thread nD τ).loc main_arg1) (ix3 s r k) : EReal) = B s r k)
  (hp : ∀ s k j, (m ((c.tc : Thread nD τ).loc main_arg2) (ix3 s k j) : EReal) = P s k j)
  (hq : ∀ s k j, (m ((c.tc : Thread nD τ).loc main_arg3) (ix3 s k j) : EReal) = Q s k j)
  (hd : ∀ r j, (m ((c.tc : Thread nD τ).loc main_arg4) (ix2 r j) : EReal) = D r j)
  (hx : ∀ r j, (m ((c.tc : Thread nD τ).loc main_arg5) (ix2 r j) : EReal) = X r j)
  (hg : ∀ j, (m ((c.tc : Thread nD τ).loc main_arg6) (ix1 j) : EReal) = G j)

include ha in
theorem a_read (t : Fin cfg0.N) (r : Fin 512) (k : Fin 704) : (iblk m c 0 t (ix3 0 r k) : EReal) = A (group t) (row t r) k := by
  rw [← ha]; blk_ext [iblk, V, index t, row, group]

include hb in
theorem b_read (t : Fin cfg0.N) (r : Fin 512) (k : Fin 704) : (iblk m c 1 t (ix3 0 r k) : EReal) = B (group t) (row t r) k := by
  rw [← hb]; blk_ext [iblk, V, index t, row, group]

include hp in
theorem p_read (t : Fin cfg0.N) (k : Fin 704) (j : Fin 2048) : (iblk m c 2 t (ix3 0 k j) : EReal) = P (group t) k j := by
  rw [← hp]; blk_ext [iblk, V, index t, group]

include hq in
theorem q_read (t : Fin cfg0.N) (k : Fin 704) (j : Fin 2048) : (iblk m c 3 t (ix3 0 k j) : EReal) = Q (group t) k j := by
  rw [← hq]; blk_ext [iblk, V, index t, group]

include hx in
theorem x_read (t : Fin cfg0.N) (r : Fin 512) (j : Fin 2048) : (iblk m c 5 t (ix2 r j) : EReal) = X (row t r) j := by
  rw [← hx]; blk_ext [iblk, V, index t, row]

include hd in
theorem d_read (t : Fin cfg0.N) (r : Fin 512) (j : Fin 2048) : (iblk m c 4 t (ix2 r j) : EReal) = D (row t r) j := by
  rw [← hd]; blk_ext [iblk, V, index t, row]

include hg in
theorem g_read (t : Fin cfg0.N) (j : Fin 2048) : (iblk m c 6 t (ix2 0 j) : EReal) = G j := by
  rw [← hg]; blk_simp [iblk]; entry_read; pointwise; blk_ext [index t]

include ha hb hp hq in
/-- A point's part of the products, added to what the scratch held. -/
theorem step_block {s : Vec Ideal S512x2048 .f32} (t : Fin cfg0.N) (r : Fin 512) (j : Fin 2048) :
    (k0_pay3 s (iblk m c 0 t) (iblk m c 2 t) (iblk m c 1 t) (iblk m c 3 t) (ix2 r j) : EReal)
      = s (ix2 r j) + (∑ k, A (group t) (row t r) k * P (group t) k j + ∑ k, B (group t) (row t r) k * Q (group t) k j) := by
  pointwise [k0_pay3]
  simp only [a_read m c ha, b_read m c hb, p_read m c hp, q_read m c hq]

include ha hb hp hq in
/-- The scratch at the last point of a row block: the rows of the sum of the two products over the groups. -/
theorem scratch (t : Fin cfg0.N) (h : t.val % 8 = 7) (r : Fin 512) (j : Fin 2048) :
    ((outsAt0 m c t.val t.isLt).2.2 (ix2 r j) : EReal) = ∑ s, (∑ k, A s (row t r) k * P s k j + ∑ k, B s (row t r) k * Q s k j) := by
  have e := Pipeline.eq_sum_fin_of_reset_step_apply_of_flush (M := EReal) (ι := Fin 512 × Fin 2048)
    (fun n h i => (outsAt0 m c n h).2.2 (ix2 i.1 i.2)) 8 (fun _ => 0)
    (fun t i => ∑ k, A (group t) (row t i.1) k * P (group t) k i.2 + ∑ k, B (group t) (row t i.1) k * Q (group t) k i.2)
    (fun t h0 i => by
      by_cases h1 : t.val % 64 = 0
      · rw [outsAt0_A m c t h0 h1 (by omega)]; frame_out
        refine (step_block m c ha hb hp hq t i.1 i.2).trans ?_
        pointwise [k0_pay1]
      · rw [outsAt0_D m c t h0 h1 (by omega)]; frame_out
        refine (step_block m c ha hb hp hq t i.1 i.2).trans ?_
        pointwise [k0_pay1])
    (fun t h0 i => by
      by_cases h2 : t.val % 8 = 7
      · rw [outsAt0_C m c t h0 (by omega) h2]; frame_out; simp only [read_unread_whole]
        exact step_block m c ha hb hp hq t i.1 i.2
      · rw [outsAt0_B m c t h0 (by omega) h2]; frame_out; simp only [read_unread_whole]
        exact step_block m c ha hb hp hq t i.1 i.2)
    t h (r, j)
  refine e.trans ((zero_add _).trans ?_)
  refine Finset.sum_congr rfl fun s _ => ?_
  have e1 : row ⟨8 * (t.val / 8) + s.val, Pipeline.run_point_lt_of_flush t h s⟩ r = row t r := Fin.ext (by simp only [row]; omega)
  have e2 : group ⟨8 * (t.val / 8) + s.val, Pipeline.run_point_lt_of_flush t h s⟩ = s := Fin.ext (by simp only [group]; omega)
  rw [e1, e2]

/-- What the scratch reads as after a store of all of it. -/
theorem written (z : Vec Ideal S512x2048 .f32) (r : Fin 512) (j : Fin 2048) :
    (scM0_0.view.read (Elt Ideal) ((View.whole cc0_scratch0).writes (Elt Ideal) (View.whole cc0_scratch0).junk
      [⟨Rect.unit (s := S512x2048) ![0, 0] ![512, 2048] inb_S512x2048_S512x2048_0_0, z⟩]) (ix2 r j) : EReal) = z (ix2 r j) :=
  congrFun ((View.read_writes_junk_eq_canon (Val := Elt Ideal) (View.whole cc0_scratch0) _).trans (View.canon_cons_unit_lit _ _ _ (by decide))) (ix2 r j)

include hd hx hg in
/-- What the last point of a row block leaves, of the scratch as it leaves it. -/
theorem outs_last (t : Fin cfg0.N) (h : t.val % 8 = 7) :
    (∀ r j, ((outsAt0 m c t.val t.isLt).1 (ix2 r j) : EReal)
        = D (row t r) j + NormRow.grad (X (row t r)) (fun k => (outsAt0 m c t.val t.isLt).2.2 (ix2 r k) * G k) j)
      ∧ ∀ j, ((outsAt0 m c t.val t.isLt).2.1 (ix2 0 j) : EReal)
        = (outsAt0 m c (t.val - 1) (Nat.lt_of_le_of_lt (Nat.sub_le _ _) t.isLt)).2.1 (ix2 0 j)
          + ∑ r, (outsAt0 m c t.val t.isLt).2.2 (ix2 r j) * NormRow.unit (X (row t r)) j := by
  rw [outsAt0_C m c t (by omega) (by omega) h]
  frame_out
  simp only [read_unread_whole]
  have l := fun {X11} ha => loop c Variants.none none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0 (Memref.isWhole_whole _) ((hcond0_2 t).mpr h)
    (X6 := (hs0_4 t).unread (iblk m c 4 t)) (X7 := (hs0_5 t).unread (iblk m c 5 t)) (X8 := (hs0_6 t).unread (iblk m c 6 t)) (X11 := X11)
    (A := fun r j => k0_pay3 (outsAt0 m c (t.val - 1) (Nat.lt_of_le_of_lt (Nat.sub_le _ _) t.isLt)).2.2 (iblk m c 0 t) (iblk m c 2 t) (iblk m c 1 t) (iblk m c 3 t) (ix2 r j)) ha
    (fun r j => (congrFun ((hs0_5 t).read_unread _) _).trans (x_read m c hx t r j)) (fun r j => (congrFun ((hs0_4 t).read_unread _) _).trans (d_read m c hd t r j))
    (fun j => (congrFun ((hs0_6 t).read_unread _) _).trans (g_read m c hg t j))
  refine ⟨fun r j => (l fun r j => written _ r j).1 r j, fun j => ?_⟩
  pointwise [k0_pay9]
  exact congrArg _ ((l fun r j => written _ r j).2 j)

include ha hb hp hq hd hx hg in
/-- The array of the gradient by the norm's input. -/
theorem array_dx : (dats m 0 c).arrAt 7 cfg0.N = fun i : S4096x2048.Idx =>
    D (i 0) (i 1) + NormRow.grad (X (i 0)) (fun j => (∑ s, (∑ k, A s (i 0) k * P s k j + ∑ k, B s (i 0) k * Q s k j)) * G j) (i 1) := by
  refine (dats m 0 c).arrAt_eq_of_covers 7 _ (by decide +kernel) fun t hf y => ?_
  have h : t.val % 8 = 7 := (by decide +kernel : ∀ t : Fin cfg0.N, win0_7.flush t = true → t.val % 8 = 7) t hf
  idx_vars y
  blk_simp
  have e : (win0_7.blk t).view.emb (ix2 y0 y1) = ix2 (row t y0) y1 := by blk_ext [index t, row]
  rw [after0_7, (outs_last m c hd hx hg t h).1, e]
  simp only [scratch m c ha hb hp hq t h]
  rfl

include ha hb hp hq hd hx hg in
/-- The block of the gradient by the gain after the last point. -/
theorem outs_dg (j : Fin 2048) :
    ((outsAt0 m c last.val last.isLt).2.1 (ix2 0 j) : EReal) = ∑ r, (∑ s, (∑ k, A s r k * P s k j + ∑ k, B s r k * Q s k j)) * NormRow.unit (X r) j := by
  have e := Pipeline.eq_sum_fin_of_reset_step_apply_last (M := EReal) (ι := Fin 2048) (fun n h j => (outsAt0 m c n h).2.1 (ix2 0 j)) 64 (fun _ => 0)
    (fun t j => if t.val % 8 = 7 then ∑ r : Fin 512, (∑ s, (∑ k, A s (row t r) k * P s k j + ∑ k, B s (row t r) k * Q s k j)) * NormRow.unit (X (row t r)) j else 0)
    (fun t h j => by
      rw [outsAt0_A m c t (by omega) h (by omega), if_neg (by omega)]; frame_out
      pointwise [k0_pay2])
    (fun t h j => by
      by_cases h2 : t.val % 8 = 7
      · rw [if_pos h2, (outs_last m c hd hx hg t h2).2 j]
        simp only [scratch m c ha hb hp hq t h2]
      · rw [if_neg h2, add_zero]
        by_cases h0 : t.val % 8 = 0
        · rw [outsAt0_D m c t h0 h h2]; rfl
        · rw [outsAt0_B m c t h0 h h2]; rfl)
    (le_of_eq N_0) last rfl j
  refine e.trans ((zero_add _).trans ?_)
  refine (RowTiles.sum_last (S := 8) (n := 8) N_0 (by decide) fun t => ∑ r : Fin 512, (∑ s, (∑ k, A s (row t r) k * P s k j + ∑ k, B s (row t r) k * Q s k j)) * NormRow.unit (X (row t r)) j).trans ?_
  refine Fin.sum_mul_add_congr (S := 8) (n := 512) (f := fun r => (∑ s, (∑ k, A s r k * P s k j + ∑ k, B s r k * Q s k j)) * NormRow.unit (X r) j) fun s r hl => ?_
  have e1 : row ⟨s.val * 8 + (8 - 1), by have h : cfg0.N = 64 := N_0; omega⟩ r = ⟨s.val * 512 + r.val, hl⟩ := Fin.ext (by simp only [row]; omega)
  rw [e1]

include ha hb hp hq hd hx hg in
/-- The array of the gradient by the gain. -/
theorem array_dg : (dats m 0 c).arrAt 8 cfg0.N = fun i : S1x2048.Idx => ∑ r, (∑ s, (∑ k, A s r k * P s k (i 1) + ∑ k, B s r k * Q s k (i 1))) * NormRow.unit (X r) (i 1) := by
  refine (dats m 0 c).arrAt_eq_of_after_last 8 last (by decide +kernel) _ fun j => ?_
  idx_vars j
  blk_simp
  obtain rfl : j0 = 0 := Subsingleton.elim _ _
  rw [after0_8, outs_dg m c ha hb hp hq hd hx hg]
  rfl

end Cert.FfnInKernelIdeal.Body

end
-- ==== Proof.FfnInReference.lean ====
/-
  The reference of the gradient of the norm before the feed-forward layer: its two results, read at an index.
-/
module

public import proofs.«01_k».proof.Proof.NormRow
public import proofs.«01_k».proof.Proof.Gen.FfnInReferenceIdeal.Read
public import Idealize.ShloMosaic.Lib.Pointwise

@[expose] public section

set_option maxRecDepth 16384

noncomputable section

namespace Cert.FfnInReferenceIdeal.Read

open Cert.FfnInReferenceIdeal Cert.FfnInReferenceIdeal.Gen Idealize.ShloMosaic Idealize.ShloMosaic.TcCoe Cert.Reals

variable (a b : (⟨S8x4096x704, .bf16⟩ : BufTy).Contents (Elt Ideal)) (p q : (⟨S8x704x2048, .bf16⟩ : BufTy).Contents (Elt Ideal))
  (d x : (⟨S4096x2048, .f32⟩ : BufTy).Contents (Elt Ideal)) (g : (⟨S2048, .f32⟩ : BufTy).Contents (Elt Ideal))

/-- The gradient by the normalised rows: the two products, summed over the groups. -/
def prod (r : Fin 4096) (j : Fin 2048) : EReal :=
  ∑ s : Fin 8, (∑ k : Fin 704, a (ix3 s r k) * p (ix3 s k j) + ∑ k : Fin 704, b (ix3 s r k) * q (ix3 s k j))

theorem mean_ref (r : Fin 4096) : (val_main_v6 x (ix2 r 0) : EReal) = NormRow.mean fun j => x (ix2 r j) := by
  pointwise [val_main_v6, val_main_v5, val_main_v4, val_main_v3, val_main_v2, val_main_v1, val_main_v0, val_main_cst, val_main_cst_0, val_main_cst_1]
  rfl

theorem inv_ref (r : Fin 4096) : (val_main_v7 x (ix2 r 0) : EReal) = NormRow.inv fun j => x (ix2 r j) := by
  pointwise [val_main_v7]
  rw [mean_ref]; rfl

theorem prod_ref (r : Fin 4096) (j : Fin 2048) : (val_main_v28 a b p q (ix2 r j) : EReal) = prod a b p q r j := by
  pointwise [val_main_v28, val_main_v27, val_main_v26, val_main_v25, val_main_v24, val_main_v23, val_main_v22, val_main_v19, val_main_v16]
  rw [prod, Finset.sum_add_distrib, add_comm]

/-- The gradient by the gain. -/
theorem dg_ref (j : Fin 2048) :
    (val_main_v50 a b p q x (ix2 0 j) : EReal) = ∑ r : Fin 4096, prod a b p q r j * NormRow.unit (fun j => x (ix2 r j)) j := by
  pointwise [val_main_v50, val_main_v34, val_main_v31, val_main_v30, val_main_v29, val_main_v12, val_main_v11, val_main_cst_3, val_main_cst_4]
  simp only [Finset.univ_unique, Finset.sum_singleton, Fin.default_eq_zero, prod_ref, inv_ref]
  exact Finset.sum_congr rfl fun r _ => mul_comm _ _

/-- The gradient by the norm's input. -/
theorem dx_ref (ha : ∀ s r k, ∃ z : ℝ, (a (ix3 s r k) : EReal) = (z : EReal)) (hb : ∀ s r k, ∃ z : ℝ, (b (ix3 s r k) : EReal) = (z : EReal))
    (hp : ∀ s k j, ∃ z : ℝ, (p (ix3 s k j) : EReal) = (z : EReal)) (hq : ∀ s k j, ∃ z : ℝ, (q (ix3 s k j) : EReal) = (z : EReal))
    (hg : ∀ j, ∃ z : ℝ, (g (ix1 j) : EReal) = (z : EReal)) (r : Fin 4096) (j : Fin 2048) :
    (val_main_v49 a b p q d x g (ix2 r j) : EReal)
      = d (ix2 r j) + NormRow.grad (fun j => x (ix2 r j)) (fun j => prod a b p q r j * g (ix1 j)) j := by
  choose A hA using ha
  choose B hB using hb
  choose P hP using hp
  choose Q hQ using hq
  choose G hG using hg
  rw [NormRow.grad_eq_sum (E := fun j => (∑ s, (∑ k, A s r k * P s k j + ∑ k, B s r k * Q s k j)) * G j) fun k => by
    simp only [prod, hA, hB, hP, hQ, hG, ← EReal.coe_mul, coe_sum, ← EReal.coe_add]]
  pointwise [val_main_v49, val_main_v48, val_main_v47, val_main_v46, val_main_v45, val_main_v44, val_main_v43, val_main_v42, val_main_v41,
    val_main_v40, val_main_v39, val_main_v38, val_main_v37, val_main_v36, val_main_v35, val_main_v33, val_main_v32, val_main_v13, val_main_v10,
    val_main_v9, val_main_v8, val_main_cst_2, val_main_cst_5, val_main_cst_6, val_main_cst_7]
  simp only [Finset.univ_unique, Finset.sum_singleton, Fin.default_eq_zero, prod_ref, inv_ref, mean_ref]
  simp only [NormRow.through, add_assoc]

end Cert.FfnInReferenceIdeal.Read

end
-- ==== Proof.FfnIn.lean ====
/-
  The gradient of the norm before the feed-forward layer: on finite gradients of gate and up, finite matrices and a finite
  gain the call's two result arrays are the reference's. Of the norm's input and of the gradient that passes by the norm
  nothing is asked.
-/
module

public import proofs.«01_k».proof.Proof.FfnInArray
public import proofs.«01_k».proof.Proof.FfnInReference
public import proofs.«01_k».proof.Proof.Gen.Pre_ffn_in_finite

@[expose] public section

set_option maxRecDepth 16384

noncomputable section

namespace Cert.FfnIn

open Idealize.ShloMosaic Idealize.ShloMosaic.TcCoe Idealize.SL.Sem Cert.Reals Cert.FfnInKernelIdeal Cert.FfnInKernelIdeal.Gen

variable (m : (ℓ : Loc nD τ sig) → Buf (Elt Ideal) ℓ)

/-- The arguments of the call on device `c`. -/
abbrev a (c : Dev nD) := m ((c.tc : Thread nD τ).loc main_arg0)
abbrev b (c : Dev nD) := m ((c.tc : Thread nD τ).loc main_arg1)
abbrev p (c : Dev nD) := m ((c.tc : Thread nD τ).loc main_arg2)
abbrev q (c : Dev nD) := m ((c.tc : Thread nD τ).loc main_arg3)
abbrev d (c : Dev nD) := m ((c.tc : Thread nD τ).loc main_arg4)
abbrev x (c : Dev nD) := m ((c.tc : Thread nD τ).loc main_arg5)
abbrev g (c : Dev nD) := m ((c.tc : Thread nD τ).loc main_arg6)

/-- The precondition's five tests. -/
abbrev tests (c : Dev nD) := Cert.Pre_ffn_in_finite.fn (F := Ideal) (a m c) (b m c) (p m c) (q m c) (d m c) (x m c) (g m c)

/-- The precondition: every element of the gradients of gate and up, of their matrices and of the gain is smaller than
    infinity in absolute value. -/
def Finite (c : Dev nD) : Prop :=
  (tests m c).1 = (fun _ => 1#1) ∧ (tests m c).2.1 = (fun _ => 1#1) ∧ (tests m c).2.2.1 = (fun _ => 1#1)
    ∧ (tests m c).2.2.2.1 = (fun _ => 1#1) ∧ (tests m c).2.2.2.2 = (fun _ => 1#1)

/-- Under it the two arrays after the call are the reference's two results. -/
theorem tie (c : Dev nD) (h : Finite m c) :
    (dats m 0 c).arrAt 7 cfg0.N = Cert.FfnInReferenceIdeal.Read.val_main_v49 (a m c) (b m c) (p m c) (q m c) (d m c) (x m c) (g m c)
      ∧ (dats m 0 c).arrAt 8 cfg0.N = Cert.FfnInReferenceIdeal.Read.val_main_v50 (a m c) (b m c) (p m c) (q m c) (x m c) := by
  have fa : ∀ s r k, ∃ z : ℝ, (a m c (ix3 s r k) : EReal) = (z : EReal) := fun s r k => finite_of_test16 rfl (congrFun h.1 (ix3 s r k))
  have fb : ∀ s r k, ∃ z : ℝ, (b m c (ix3 s r k) : EReal) = (z : EReal) := fun s r k => finite_of_test16 rfl (congrFun h.2.1 (ix3 s r k))
  have fp : ∀ s k j, ∃ z : ℝ, (p m c (ix3 s k j) : EReal) = (z : EReal) := fun s k j => finite_of_test16 rfl (congrFun h.2.2.1 (ix3 s k j))
  have fq : ∀ s k j, ∃ z : ℝ, (q m c (ix3 s k j) : EReal) = (z : EReal) := fun s k j => finite_of_test16 rfl (congrFun h.2.2.2.1 (ix3 s k j))
  have fg : ∀ j, ∃ z : ℝ, (g m c (ix1 j) : EReal) = (z : EReal) := fun j => finite_of_test rfl (congrFun h.2.2.2.2 (ix1 j))
  rw [Body.array_dx m c (fun _ _ _ => rfl) (fun _ _ _ => rfl) (fun _ _ _ => rfl) (fun _ _ _ => rfl) (fun _ _ => rfl) (fun _ _ => rfl) (fun _ => rfl),
    Body.array_dg m c (fun _ _ _ => rfl) (fun _ _ _ => rfl) (fun _ _ _ => rfl) (fun _ _ _ => rfl) (fun _ _ => rfl) (fun _ _ => rfl) (fun _ => rfl)]
  refine ⟨funext fun i => ?_, funext fun i => ?_⟩ <;> idx_vars i
  · exact (Cert.FfnInReferenceIdeal.Read.dx_ref _ _ _ _ _ _ _ fa fb fp fq fg i0 i1).symm
  · obtain rfl : i0 = 0 := Subsingleton.elim _ _
    exact (Cert.FfnInReferenceIdeal.Read.dg_ref _ _ _ _ _ i1).symm

end Cert.FfnIn

end
-- ==== Proof.DhBlock.lean ====
/-
  The body of the call of the gradient of the norm before the mixers: what the last point of a row block computes of the
  512 rows of accumulated products, of the rows of the norm's input and of the gradient that passes by it. A loop of four
  trips treats 128 rows at a time.
-/
module

public import proofs.«01_k».proof.Proof.NormLoop
public import proofs.«01_k».proof.Proof.Gen.DhKernelIdeal.Value

@[expose] public section

set_option maxRecDepth 16384

noncomputable section

namespace Cert.DhKernelIdeal.Body

open Cert.DhKernelIdeal Cert.DhKernelIdeal.Gen Idealize.ShloMosaic Idealize.ShloMosaic.TcCoe

section Tile

variable {a x d : Vec Ideal S128x2048 .f32} {g s : Vec Ideal S1x2048 .f32}

/-- A tile of the gradient by the input. -/
theorem dx_tile (p : Fin 128) (j : Fin 2048) :
    (k0_pay7 a x g d (ix2 p j) : EReal)
      = d (ix2 p j) + NormRow.grad (fun k => x (ix2 p k)) (fun k => a (ix2 p k) * g (ix2 0 k)) j := by
  pointwise [k0_pay7, k0_pay6, k0_pay5]
  rfl

/-- A tile's part of the gradient by the gain, added to what the loop carries. -/
theorem dg_tile (j : Fin 2048) :
    (k0_pay8 s a x (ix2 0 j) : EReal) = s (ix2 0 j) + ∑ p, a (ix2 p j) * NormRow.unit (fun k => x (ix2 p k)) j := by
  pointwise [k0_pay8, k0_pay6, k0_pay5]
  rfl

end Tile

variable (c : Dev nD) (𝒱 : Variants) (bd : Option 𝒱.V) (i : grid0.Coords) (arg2 : Memref sig .tc .vmem S512x1408 .bf16) (harg2 : arg2.IsWhole) (arg3 : Memref sig .tc .vmem S1408x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole) (k0_h3 : k0_cond3 i = 1#1)

theorem trips : k0_t1_loop.trips = 4 := by decide +kernel

theorem off (k : Fin 4) : k0_off1 (k.cast trips.symm) = ![k.val * 128, 0] := by revert k; decide +kernel

/-- The loop's result: what its four trips leave in the block of the input's gradient, and the sum it carries. -/
theorem loop {X4 : BufTy.Contents (Elt Ideal) arg4.view.ty} {X5 : BufTy.Contents (Elt Ideal) arg5.view.ty}
    {X6 : BufTy.Contents (Elt Ideal) arg6.view.ty} {X9 : BufTy.Contents (Elt Ideal) arg9.view.ty} {A X D : Fin 512 → Fin 2048 → EReal} {G : Fin 2048 → EReal}
    (ha : ∀ r j, (arg9.view.read (Elt Ideal) X9 (ix2 r j) : EReal) = A r j) (hx : ∀ r j, (arg4.view.read (Elt Ideal) X4 (ix2 r j) : EReal) = X r j)
    (hd : ∀ r j, (arg6.view.read (Elt Ideal) X6 (ix2 r j) : EReal) = D r j) (hg : ∀ j, (arg5.view.read (Elt Ideal) X5 (ix2 0 j) : EReal) = G j) :
    (∀ r j, (View.canon (st_k0_t1 (F := Ideal) 𝒱 c bd i arg2 harg2 arg3 harg3 arg4 harg4 arg5 harg5 arg6 harg6 arg7 harg7 arg8 harg8 arg9 harg9 k0_h3 X4 X5 X6 X9 k0_pay4 4).2 (ix2 r j) : EReal)
        = D r j + NormRow.grad (X r) (fun k => A r k * G k) j)
      ∧ ∀ j, ((st_k0_t1 (F := Ideal) 𝒱 c bd i arg2 harg2 arg3 harg3 arg4 harg4 arg5 harg5 arg6 harg6 arg7 harg7 arg8 harg8 arg9 harg9 k0_h3 X4 X5 X6 X9 k0_pay4 4).1 (ix2 0 j) : EReal)
        = ∑ r, A r j * NormRow.unit (X r) j := by
  have hs := fun k : Fin 4 => st_k0_t1_succ (F := Ideal) 𝒱 c bd i arg2 harg2 arg3 harg3 arg4 harg4 arg5 harg5 arg6 harg6 arg7 harg7 arg8 harg8 arg9 harg9 k0_h3 X4 X5 X6 X9 k0_pay4 (k.cast trips.symm)
  unfold tripR_k0_t1 tripL_k0_t1 trip_k0_t1 at hs
  dsimp only at hs
  exact NormLoop.result (fun j => by pointwise [k0_pay4]) rfl (f := k0_pay7 (F := Ideal)) (s := k0_pay8 (F := Ideal)) (fun k => hs k) off (fun _ _ _ _ => dx_tile) (fun _ _ _ => dg_tile)
    (fun k p j => (RowTiles.load (off k) (arg9.view.read (Elt Ideal) X9) p j).trans (ha _ j))
    (fun k p j => (RowTiles.load (off k) (arg4.view.read (Elt Ideal) X4) p j).trans (hx _ j))
    (fun k p j => (RowTiles.load (off k) (arg6.view.read (Elt Ideal) X6) p j).trans (hd _ j))
    (fun j => (RowTiles.load_row (arg5.view.read (Elt Ideal) X5) j).trans (hg j))

end Cert.DhKernelIdeal.Body

end
-- ==== Proof.DhArray.lean ====
/-
  The call of the gradient of the norm before the mixers: its two result arrays after the run. The four points of a row
  block accumulate the product with the projection's matrix in a scratch; the last of them computes the gradients of it.
-/
module

public import proofs.«01_k».proof.Proof.DhBlock

@[expose] public section

set_option maxRecDepth 16384

noncomputable section

namespace Cert.DhKernelIdeal.Body

open Cert.DhKernelIdeal Cert.DhKernelIdeal.Gen Idealize.ShloMosaic Idealize.ShloMosaic.TcCoe

variable (m : (ℓ : Loc nD τ sig) → Buf (Elt Ideal) ℓ) (c : Dev nD)
variable {A : Fin 4096 → Fin 5632 → EReal} {W : Fin 5632 → Fin 2048 → EReal} {X D : Fin 4096 → Fin 2048 → EReal} {G : Fin 2048 → EReal}

/-- Row `r` of the row block of point `t`, and column `k` of its column block. -/
def row (t : Fin cfg0.N) (r : Fin 512) : Fin 4096 := ⟨t.val / 4 * 512 + r.val, by have := t.isLt; have h : cfg0.N = 32 := N_0; omega⟩
def col (t : Fin cfg0.N) (k : Fin 1408) : Fin 5632 := ⟨t.val % 4 * 1408 + k.val, by omega⟩

/-- The last point of the grid. -/
abbrev last : Fin cfg0.N := ⟨31, by decide +kernel⟩

theorem index : ∀ t : Fin cfg0.N, win0_0.index t = ![t.val / 4, t.val % 4] ∧ win0_1.index t = ![t.val % 4, 0] ∧ win0_2.index t = ![t.val / 4, 0]
    ∧ win0_3.index t = ![0, 0] ∧ win0_4.index t = ![t.val / 4, 0] ∧ win0_5.index t = ![t.val / 4, 0] :=
  (by decide +kernel : ∀ t : Fin grid0.N, _)

variable (ha : ∀ r k, (m ((c.tc : Thread nD τ).loc main_arg0) (ix2 r k) : EReal) = A r k)
  (hw : ∀ k j, (m ((c.tc : Thread nD τ).loc main_arg1) (ix2 k j) : EReal) = W k j)
  (hx : ∀ r j, (m ((c.tc : Thread nD τ).loc main_arg2) (ix2 r j) : EReal) = X r j)
  (hg : ∀ j, (m ((c.tc : Thread nD τ).loc main_arg3) (ix1 j) : EReal) = G j)
  (hd : ∀ r j, (m ((c.tc : Thread nD τ).loc main_arg4) (ix2 r j) : EReal) = D r j)

include ha in
theorem a_read (t : Fin cfg0.N) (r : Fin 512) (k : Fin 1408) : (iblk m c 0 t (ix2 r k) : EReal) = A (row t r) (col t k) := by
  rw [← ha]; blk_ext [iblk, V, index t, row, col]

include hw in
theorem w_read (t : Fin cfg0.N) (k : Fin 1408) (j : Fin 2048) : (iblk m c 1 t (ix2 k j) : EReal) = W (col t k) j := by
  rw [← hw]; blk_ext [iblk, V, index t, col]

include hx in
theorem x_read (t : Fin cfg0.N) (r : Fin 512) (j : Fin 2048) : (iblk m c 2 t (ix2 r j) : EReal) = X (row t r) j := by
  rw [← hx]; blk_ext [iblk, V, index t, row]

include hd in
theorem d_read (t : Fin cfg0.N) (r : Fin 512) (j : Fin 2048) : (iblk m c 4 t (ix2 r j) : EReal) = D (row t r) j := by
  rw [← hd]; blk_ext [iblk, V, index t, row]

include hg in
theorem g_read (t : Fin cfg0.N) (j : Fin 2048) : (iblk m c 3 t (ix2 0 j) : EReal) = G j := by
  rw [← hg]; blk_simp [iblk]; entry_read; pointwise; blk_ext [index t]

include ha hw in
/-- A point's part of the product, added to what the scratch held. -/
theorem step_block {s : Vec Ideal S512x2048 .f32} (t : Fin cfg0.N) (r : Fin 512) (j : Fin 2048) :
    (k0_pay2 (iblk m c 0 t) s (iblk m c 1 t) (ix2 r j) : EReal) = s (ix2 r j) + ∑ k, A (row t r) (col t k) * W (col t k) j := by
  pointwise [k0_pay2]
  simp only [a_read m c ha, w_read m c hw]

include ha hw in
/-- The scratch at the last point of a row block: the product's rows. -/
theorem scratch (t : Fin cfg0.N) (h : t.val % 4 = 3) (r : Fin 512) (j : Fin 2048) :
    ((outsAt0 m c t.val t.isLt).2.2 (ix2 r j) : EReal) = ∑ k, A (row t r) k * W k j := by
  have e := Pipeline.eq_sum_fin_of_reset_step_apply_of_flush (M := EReal) (ι := Fin 512 × Fin 2048)
    (fun n h i => (outsAt0 m c n h).2.2 (ix2 i.1 i.2)) 4 (fun _ => 0)
    (fun t i => ∑ k, A (row t i.1) (col t k) * W (col t k) i.2)
    (fun t h0 i => by
      by_cases h1 : t.val % 32 = 0
      · rw [outsAt0_A m c t h0 h1 (by omega)]; frame_out
        refine (step_block m c ha hw t i.1 i.2).trans ?_
        pointwise [k0_pay1]
      · rw [outsAt0_D m c t h0 h1 (by omega)]; frame_out
        refine (step_block m c ha hw t i.1 i.2).trans ?_
        pointwise [k0_pay1])
    (fun t h0 i => by
      by_cases h2 : t.val % 4 = 3
      · rw [outsAt0_C m c t h0 (by omega) h2]; frame_out; simp only [read_unread_whole]
        exact step_block m c ha hw t i.1 i.2
      · rw [outsAt0_B m c t h0 (by omega) h2]; frame_out; simp only [read_unread_whole]
        exact step_block m c ha hw t i.1 i.2)
    t h (r, j)
  refine e.trans ((zero_add _).trans ?_)
  refine Fin.sum_mul_add_congr (f := fun k => A (row t r) k * W k j) fun s k hl => ?_
  have e1 : row ⟨4 * (t.val / 4) + s.val, Pipeline.run_point_lt_of_flush t h s⟩ r = row t r := Fin.ext (by simp only [row]; omega)
  have e2 : col ⟨4 * (t.val / 4) + s.val, Pipeline.run_point_lt_of_flush t h s⟩ k = ⟨s.val * 1408 + k.val, hl⟩ := Fin.ext (by simp only [col]; omega)
  rw [← e1, ← e2]

/-- What the scratch reads as after a store of all of it. -/
theorem written (z : Vec Ideal S512x2048 .f32) (r : Fin 512) (j : Fin 2048) :
    (scM0_0.view.read (Elt Ideal) ((View.whole cc0_scratch0).writes (Elt Ideal) (View.whole cc0_scratch0).junk
      [⟨Rect.unit (s := S512x2048) ![0, 0] ![512, 2048] inb_S512x2048_S512x2048_0_0, z⟩]) (ix2 r j) : EReal) = z (ix2 r j) :=
  congrFun ((View.read_writes_junk_eq_canon (Val := Elt Ideal) (View.whole cc0_scratch0) _).trans (View.canon_cons_unit_lit _ _ _ (by decide))) (ix2 r j)

include hx hg hd in
/-- What the last point of a row block leaves, of the scratch as it leaves it. -/
theorem outs_last (t : Fin cfg0.N) (h : t.val % 4 = 3) :
    (∀ r j, ((outsAt0 m c t.val t.isLt).1 (ix2 r j) : EReal)
        = D (row t r) j + NormRow.grad (X (row t r)) (fun k => (outsAt0 m c t.val t.isLt).2.2 (ix2 r k) * G k) j)
      ∧ ∀ j, ((outsAt0 m c t.val t.isLt).2.1 (ix2 0 j) : EReal)
        = (outsAt0 m c (t.val - 1) (Nat.lt_of_le_of_lt (Nat.sub_le _ _) t.isLt)).2.1 (ix2 0 j)
          + ∑ r, (outsAt0 m c t.val t.isLt).2.2 (ix2 r j) * NormRow.unit (X (row t r)) j := by
  rw [outsAt0_C m c t (by omega) (by omega) h]
  frame_out
  simp only [read_unread_whole]
  have l := fun {X9} ha => loop c Variants.none none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) ((hcond0_2 t).mpr h)
    (X4 := (hs0_2 t).unread (iblk m c 2 t)) (X5 := (hs0_3 t).unread (iblk m c 3 t)) (X6 := (hs0_4 t).unread (iblk m c 4 t)) (X9 := X9)
    (A := fun r j => k0_pay2 (iblk m c 0 t) (outsAt0 m c (t.val - 1) (Nat.lt_of_le_of_lt (Nat.sub_le _ _) t.isLt)).2.2 (iblk m c 1 t) (ix2 r j)) ha
    (fun r j => (congrFun ((hs0_2 t).read_unread _) _).trans (x_read m c hx t r j)) (fun r j => (congrFun ((hs0_4 t).read_unread _) _).trans (d_read m c hd t r j))
    (fun j => (congrFun ((hs0_3 t).read_unread _) _).trans (g_read m c hg t j))
  refine ⟨fun r j => (l fun r j => written _ r j).1 r j, fun j => ?_⟩
  pointwise [k0_pay9]
  exact congrArg _ ((l fun r j => written _ r j).2 j)

include ha hw hx hg hd in
/-- The array of the gradient by the norm's input. -/
theorem array_dx : (dats m 0 c).arrAt 5 cfg0.N = fun i : S4096x2048.Idx =>
    D (i 0) (i 1) + NormRow.grad (X (i 0)) (fun j => (∑ k, A (i 0) k * W k j) * G j) (i 1) := by
  refine (dats m 0 c).arrAt_eq_of_covers 5 _ (by decide +kernel) fun t hf y => ?_
  have h : t.val % 4 = 3 := (by decide +kernel : ∀ t : Fin cfg0.N, win0_5.flush t = true → t.val % 4 = 3) t hf
  idx_vars y
  blk_simp
  have e : (win0_5.blk t).view.emb (ix2 y0 y1) = ix2 (row t y0) y1 := by blk_ext [index t, row]
  rw [after0_5, (outs_last m c hx hg hd t h).1, e]
  simp only [scratch m c ha hw t h]
  rfl

include ha hw hx hg hd in
/-- The block of the gradient by the gain after the last point. -/
theorem outs_dg (j : Fin 2048) :
    ((outsAt0 m c last.val last.isLt).2.1 (ix2 0 j) : EReal) = ∑ r, (∑ k, A r k * W k j) * NormRow.unit (X r) j := by
  have e := Pipeline.eq_sum_fin_of_reset_step_apply_last (M := EReal) (ι := Fin 2048) (fun n h j => (outsAt0 m c n h).2.1 (ix2 0 j)) 32 (fun _ => 0)
    (fun t j => if t.val % 4 = 3 then ∑ r : Fin 512, (∑ k, A (row t r) k * W k j) * NormRow.unit (X (row t r)) j else 0)
    (fun t h j => by
      rw [outsAt0_A m c t (by omega) h (by omega), if_neg (by omega)]; frame_out
      pointwise [k0_pay3])
    (fun t h j => by
      by_cases h2 : t.val % 4 = 3
      · rw [if_pos h2, (outs_last m c hx hg hd t h2).2 j]
        simp only [scratch m c ha hw t h2]
      · rw [if_neg h2, add_zero]
        by_cases h0 : t.val % 4 = 0
        · rw [outsAt0_D m c t h0 h h2]; rfl
        · rw [outsAt0_B m c t h0 h h2]; rfl)
    (le_of_eq N_0) last rfl j
  refine e.trans ((zero_add _).trans ?_)
  refine (RowTiles.sum_last (S := 8) (n := 4) N_0 (by decide) fun t => ∑ r : Fin 512, (∑ k, A (row t r) k * W k j) * NormRow.unit (X (row t r)) j).trans ?_
  refine Fin.sum_mul_add_congr (S := 8) (n := 512) (f := fun r => (∑ k, A r k * W k j) * NormRow.unit (X r) j) fun s r hl => ?_
  have e1 : row ⟨s.val * 4 + (4 - 1), by have h : cfg0.N = 32 := N_0; omega⟩ r = ⟨s.val * 512 + r.val, hl⟩ := Fin.ext (by simp only [row]; omega)
  rw [e1]

include ha hw hx hg hd in
/-- The array of the gradient by the gain. -/
theorem array_dg : (dats m 0 c).arrAt 6 cfg0.N = fun i : S1x2048.Idx => ∑ r, (∑ k, A r k * W k (i 1)) * NormRow.unit (X r) (i 1) := by
  refine (dats m 0 c).arrAt_eq_of_after_last 6 last (by decide +kernel) _ fun j => ?_
  idx_vars j
  blk_simp
  obtain rfl : j0 = 0 := Subsingleton.elim _ _
  rw [after0_6, outs_dg m c ha hw hx hg hd]
  rfl

end Cert.DhKernelIdeal.Body

end
-- ==== Proof.DhReference.lean ====
/-
  The reference of the gradient of the norm before the mixers: its two results, read at an index.
-/
module

public import proofs.«01_k».proof.Proof.NormRow
public import proofs.«01_k».proof.Proof.Gen.DhReferenceIdeal.Read
public import Idealize.ShloMosaic.Lib.Pointwise

@[expose] public section

set_option maxRecDepth 16384

noncomputable section

namespace Cert.DhReferenceIdeal.Read

open Cert.DhReferenceIdeal Cert.DhReferenceIdeal.Gen Idealize.ShloMosaic Idealize.ShloMosaic.TcCoe Cert.Reals

variable (a : (⟨S4096x5632, .bf16⟩ : BufTy).Contents (Elt Ideal)) (w : (⟨S5632x2048, .bf16⟩ : BufTy).Contents (Elt Ideal))
  (x : (⟨S4096x2048, .f32⟩ : BufTy).Contents (Elt Ideal)) (g : (⟨S2048, .f32⟩ : BufTy).Contents (Elt Ideal)) (d : (⟨S4096x2048, .f32⟩ : BufTy).Contents (Elt Ideal))

theorem mean_ref (r : Fin 4096) : (val_main_v6 x (ix2 r 0) : EReal) = NormRow.mean fun j => x (ix2 r j) := by
  pointwise [val_main_v6, val_main_v5, val_main_v4, val_main_v3, val_main_v2, val_main_v1, val_main_v0, val_main_cst, val_main_cst_0, val_main_cst_1]
  rfl

theorem inv_ref (r : Fin 4096) : (val_main_v7 x (ix2 r 0) : EReal) = NormRow.inv fun j => x (ix2 r j) := by
  pointwise [val_main_v7]
  rw [mean_ref]; rfl

theorem prod_ref (r : Fin 4096) (j : Fin 2048) : (val_main_v20 a w (ix2 r j) : EReal) = ∑ k : Fin 5632, a (ix2 r k) * w (ix2 k j) := by
  pointwise [val_main_v20, val_main_v17, val_main_v19, val_main_v16]

/-- The gradient by the gain. -/
theorem dg_ref (j : Fin 2048) :
    (val_main_v42 a w x (ix2 0 j) : EReal) = ∑ r : Fin 4096, (∑ k : Fin 5632, a (ix2 r k) * w (ix2 k j)) * NormRow.unit (fun j => x (ix2 r j)) j := by
  pointwise [val_main_v42, val_main_v26, val_main_v23, val_main_v22, val_main_v21, val_main_v12, val_main_v11, val_main_cst_3, val_main_cst_4]
  simp only [Finset.univ_unique, Finset.sum_singleton, Fin.default_eq_zero, prod_ref, inv_ref]
  exact Finset.sum_congr rfl fun r _ => mul_comm _ _

/-- The gradient by the norm's input. -/
theorem dx_ref (ha : ∀ r k, ∃ b : ℝ, (a (ix2 r k) : EReal) = (b : EReal)) (hw : ∀ k j, ∃ b : ℝ, (w (ix2 k j) : EReal) = (b : EReal))
    (hg : ∀ j, ∃ b : ℝ, (g (ix1 j) : EReal) = (b : EReal)) (r : Fin 4096) (j : Fin 2048) :
    (val_main_v41 a w x g d (ix2 r j) : EReal)
      = d (ix2 r j) + NormRow.grad (fun j => x (ix2 r j)) (fun j => (∑ k : Fin 5632, a (ix2 r k) * w (ix2 k j)) * g (ix1 j)) j := by
  choose A hA using ha
  choose W hW using hw
  choose G hG using hg
  rw [NormRow.grad_eq_sum (E := fun j => (∑ k, A r k * W k j) * G j) fun k => by
    simp only [hA, hW, hG, ← EReal.coe_mul, coe_sum]]
  pointwise [val_main_v41, val_main_v40, val_main_v39, val_main_v38, val_main_v37, val_main_v36, val_main_v35, val_main_v34, val_main_v33,
    val_main_v32, val_main_v31, val_main_v30, val_main_v29, val_main_v28, val_main_v27, val_main_v25, val_main_v24, val_main_v13, val_main_v10,
    val_main_v9, val_main_v8, val_main_cst_2, val_main_cst_5, val_main_cst_6, val_main_cst_7]
  simp only [Finset.univ_unique, Finset.sum_singleton, Fin.default_eq_zero, prod_ref, inv_ref, mean_ref]
  simp only [NormRow.through, add_assoc]

end Cert.DhReferenceIdeal.Read

end
-- ==== Proof.Dh.lean ====
/-
  The gradient of the norm before the mixers: on finite gradients of the projection, matrix and gain the call's two result
  arrays are the reference's. Of the norm's input and of the gradient that passes by the norm nothing is asked.
-/
module

public import proofs.«01_k».proof.Proof.DhArray
public import proofs.«01_k».proof.Proof.DhReference
public import proofs.«01_k».proof.Proof.Gen.Pre_dh_finite

@[expose] public section

set_option maxRecDepth 16384

noncomputable section

namespace Cert.Dh

open Idealize.ShloMosaic Idealize.ShloMosaic.TcCoe Idealize.SL.Sem Cert.Reals Cert.DhKernelIdeal Cert.DhKernelIdeal.Gen

variable (m : (ℓ : Loc nD τ sig) → Buf (Elt Ideal) ℓ)

/-- The arguments of the call on device `c`. -/
abbrev a (c : Dev nD) := m ((c.tc : Thread nD τ).loc main_arg0)
abbrev w (c : Dev nD) := m ((c.tc : Thread nD τ).loc main_arg1)
abbrev x (c : Dev nD) := m ((c.tc : Thread nD τ).loc main_arg2)
abbrev g (c : Dev nD) := m ((c.tc : Thread nD τ).loc main_arg3)
abbrev d (c : Dev nD) := m ((c.tc : Thread nD τ).loc main_arg4)

/-- The precondition: every element of the projection's gradient, of its matrix and of the gain is smaller than infinity in
    absolute value. -/
def Finite (c : Dev nD) : Prop :=
  (Cert.Pre_dh_finite.fn (F := Ideal) (a m c) (w m c) (x m c) (g m c) (d m c)).1 = (fun _ => 1#1)
    ∧ (Cert.Pre_dh_finite.fn (F := Ideal) (a m c) (w m c) (x m c) (g m c) (d m c)).2.1 = (fun _ => 1#1)
    ∧ (Cert.Pre_dh_finite.fn (F := Ideal) (a m c) (w m c) (x m c) (g m c) (d m c)).2.2 = (fun _ => 1#1)

/-- Under it the two arrays after the call are the reference's two results. -/
theorem tie (c : Dev nD) (h : Finite m c) :
    (dats m 0 c).arrAt 5 cfg0.N = Cert.DhReferenceIdeal.Read.val_main_v41 (a m c) (w m c) (x m c) (g m c) (d m c)
      ∧ (dats m 0 c).arrAt 6 cfg0.N = Cert.DhReferenceIdeal.Read.val_main_v42 (a m c) (w m c) (x m c) := by
  have fa : ∀ r k, ∃ b : ℝ, (a m c (ix2 r k) : EReal) = (b : EReal) := fun r k => finite_of_test16 rfl (congrFun h.1 (ix2 r k))
  have fw : ∀ k j, ∃ b : ℝ, (w m c (ix2 k j) : EReal) = (b : EReal) := fun k j => finite_of_test16 rfl (congrFun h.2.1 (ix2 k j))
  have fg : ∀ j, ∃ b : ℝ, (g m c (ix1 j) : EReal) = (b : EReal) := fun j => finite_of_test rfl (congrFun h.2.2 (ix1 j))
  rw [Body.array_dx m c (fun _ _ => rfl) (fun _ _ => rfl) (fun _ _ => rfl) (fun _ => rfl) (fun _ _ => rfl),
    Body.array_dg m c (fun _ _ => rfl) (fun _ _ => rfl) (fun _ _ => rfl) (fun _ => rfl) (fun _ _ => rfl)]
  refine ⟨funext fun i => ?_, funext fun i => ?_⟩ <;> idx_vars i
  · exact (Cert.DhReferenceIdeal.Read.dx_ref _ _ _ _ _ fa fw fg i0 i1).symm
  · obtain rfl : i0 = 0 := Subsingleton.elim _ _
    exact (Cert.DhReferenceIdeal.Read.dg_ref _ _ _ i1).symm

end Cert.Dh

end
-- ==== Proof.AttnTile.lean ====
/-
  One tile of the attention's gradient: 512 query rows against 512 key rows of one pair of heads, in numbers. The lanes of
  a row are two heads side by side; a head's operands are zero, or carry the bias, in the other head's lanes.
-/
module

public import proofs.«01_k».proof.Proof.Masks
public import proofs.«01_k».proof.Proof.Gen.AttnKernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnKernelIdeal.Tile

open Cert.AttnKernelIdeal Cert.AttnKernelIdeal.Gen Idealize.ShloMosaic Idealize.ShloMosaic.TcCoe

/-- Rows of a block, as a function of row and lane. -/
abbrev Rows := Fin 512 → Fin 128 → EReal

/-- A square of scores, as a function of query row and key row. -/
abbrev Square := Fin 512 → Fin 512 → EReal

/-- A head's queries, scaled, with ones in the three lanes that meet the bias. -/
def query (h : Fin 2) (q : Rows) : Rows := fun r l =>
  if l.val / 64 = h.val then q r l * Ideal.ofBits .f32 1040187392#32 else if l.val % 64 < 3 then 1 else 0

/-- A head's keys, with the bias in the other head's lanes. -/
def key (h : Fin 2) (k a : Rows) : Rows := fun r l => if l.val / 64 = h.val then k r l else a r l

/-- A head's lanes of the rows, zero elsewhere. -/
def own (h : Fin 2) (x : Rows) : Rows := fun r l => if l.val / 64 = h.val then x r l else 0

/-- Every query row's product with every key row. -/
def dots (a b : Rows) : Square := fun r k => ∑ l, a r l * b k l

/-- The weights of a tile: the exponentials of the scores less the row's logarithm. -/
def prob (h : Fin 2) (lse : Rows) (s : Square) : Square := fun r k => Ideal.exp (s r k - lse r ⟨64 * h.val, by omega⟩)

/-- The scores of a tile on the diagonal: no key row after the query row. -/
def causal (s : Square) : Square := fun r k => if k.val ≤ r.val then s r k else ⊥

/-- A row's product of the cotangent with the output, over a head's lanes. -/
def rowDot (h : Fin 2) (g o : Rows) : Fin 512 → EReal := fun r => ∑ l, own h g r l * o r l

/-- The scores' gradient. -/
def dscore (p dp : Square) (d : Fin 512 → EReal) : Square := fun r k => p r k * (dp r k - d r)

/-- A function of row and column as an array. -/
def vec {φ : FTy} {a b : ℕ} (X : Fin a → Fin b → EReal) : FVec Ideal (⟨2, ![a, b]⟩ : Shape) φ := fun x => X (x 0) (x 1)

/-- A block's rows as a function of row and lane. -/
def rows {φ : FTy} (X : FVec Ideal S512x128 φ) : Rows := fun r l => X (ix2 r l)

/-- A head's lanes, as the body's comparison marks them. -/
def Marks (h : Fin 2) (M : IVec S512x128 1) : Prop := ∀ r l, M (ix2 r l) = 1#1 ↔ l.val / 64 = h.val

theorem marks0 (hi : _) : Marks 0 (cmpi .slt (iota .tc S512x128 32 [1] hi) (broadcast S512x128 64#32)) := fun r l => by
  pointwise []
  revert l; decide +kernel

theorem marks1 (hi : _) : Marks 1 (cmpi .sge (iota .tc S512x128 32 [1] hi) (broadcast S512x128 64#32)) := fun r l => by
  pointwise []
  revert l; decide +kernel

variable {h : Fin 2} {M N : IVec S512x128 1}

theorem query_eq (hM : Marks h M) (hN : ∀ r l, l.val / 64 ≠ h.val → (N (ix2 r l) = 1#1 ↔ l.val % 64 < 3)) (q : FVec Ideal S512x128 .f32) (hc : _) (he : _) (ht : _) :
    truncf (F := Ideal) .bf16 (select M (mulf (shapeCast S512x128 q hc) (broadcast S512x128 (FloatOps.ofBits .f32 1040187392#32)))
        (sitofp .f32 (extui 32 N he))) ht = vec (query h (rows q)) := by
  funext x; idx_vars x
  pointwise [vec, query, rows]
  refine (if_congr (hM x0 x1) rfl rfl).trans ?_
  split
  · rfl
  · rename_i hl
    exact (Masks.bit _).trans (if_congr (hN x0 x1 hl) rfl rfl)

theorem key_eq (hM : Marks h M) (k : FVec Ideal S512x128 .f32) (a : FVec Ideal S512x128 .bf16) (hc : _) (hc' : _) (ht : _) :
    select M (truncf (F := Ideal) .bf16 (shapeCast S512x128 k hc) ht) (shapeCast S512x128 a hc') = vec (key h (rows k) (rows a)) := by
  funext x; idx_vars x
  pointwise [vec, key, rows]
  exact if_congr (hM x0 x1) rfl rfl

theorem own_eq (hM : Marks h M) (x : FVec Ideal S512x128 .f32) (ht : _) :
    truncf (F := Ideal) .bf16 (select M x (broadcast S512x128 (FloatOps.ofBits .f32 0#32))) ht = vec (own h (rows x)) := by
  funext y; idx_vars y
  pointwise [vec, own, rows]
  exact if_congr (hM y0 y1) rfl rfl

theorem ones0 (hi hi' : _) (r : Fin 512) (l : Fin 128) (hl : l.val / 64 ≠ (0 : Fin 2).val) :
    andi (cmpi .sge (iota .tc S512x128 32 [1] hi) (broadcast S512x128 64#32)) (cmpi .slt (iota .tc S512x128 32 [1] hi') (broadcast S512x128 67#32)) (ix2 r l) = 1#1
      ↔ l.val % 64 < 3 := by
  pointwise []
  revert l; decide +kernel

theorem ones1 (hi hi' : _) (r : Fin 512) (l : Fin 128) (hl : l.val / 64 ≠ (1 : Fin 2).val) :
    andi (cmpi .sge (iota .tc S512x128 32 [1] hi) (broadcast S512x128 0#32)) (cmpi .slt (iota .tc S512x128 32 [1] hi') (broadcast S512x128 3#32)) (ix2 r l) = 1#1
      ↔ l.val % 64 < 3 := by
  pointwise []
  revert l; decide +kernel

/-- The product of two blocks' rows. -/
theorem dots_eq (a b : Rows) :
    matmul dot_S512x128_S512x128_S512x512_1_1_0_0_n_n none (vec (φ := .bf16) a) (vec (φ := .bf16) b) (constant S512x512 .f32 0#32) = vec (φ := .f32) (dots a b) := by
  funext y; idx_vars y
  pointwise [vec, dots]

/-! Thirty-two rows of a square at a time. -/

/-- A square as one of a pair's two planes. -/
def plane {φ : FTy} (A : Square) : FVec Ideal (⟨3, ![1, 512, 512]⟩ : Shape) φ := fun x => A (x 1) (x 2)

/-- A square's row, at a count. -/
def row (A : Square) (n : ℕ) : Fin 512 → EReal := A (Fin.ofNat 512 n)

/-- Thirty-two of a square's rows, as a part of a plane. -/
def part {φ : FTy} (A : Square) (ρ : ℕ) : FVec Ideal (⟨3, ![1, 32, 512]⟩ : Shape) φ := fun x => row A (ρ + (x 1).val) (x 2)

theorem plane_eq (A : Square) (hc : _) : shapeCast (⟨3, ![1, 512, 512]⟩ : Shape) (vec (φ := .f32) A) hc = plane A := by
  funext y; idx_vars y
  pointwise [vec, plane]

/-- Rows read from a plane just stored are the square's rows. -/
theorem part_eq {sig : RefSig} {κ : Kind} {sp : Space} (v : View sig κ sp (⟨3, ![2, 512, 512]⟩ : Shape) .f32) (A : Square) (j ρ : ℕ) (hb : _) (hb' : _)
    (L : List (View.Piece (Elt Ideal) (⟨3, ![2, 512, 512]⟩ : Shape) .f32)) :
    v.readCov (⟨Rect.unit ![j, 0, 0] ![1, 512, 512] hb, plane (φ := .f32) A⟩ :: L) (Rect.unit ![j, ρ, 0] ![1, 32, 512] hb').toLoadRect = part (φ := .f32) A ρ := by
  refine (View.readCov_eq_canon' (Val := Elt Ideal) v _ _).trans ?_
  funext y
  have h1 : ρ + 32 ≤ 512 := hb' 1
  have e : (Rect.unit (s := (⟨3, ![2, 512, 512]⟩ : Shape)) ![j, ρ, 0] ![1, 32, 512] hb').toLoadRect.idx y
      = (Rect.unit (s := (⟨3, ![2, 512, 512]⟩ : Shape)) ![j, 0, 0] ![1, 512, 512] hb).emb (ix3 (y 0) (Fin.ofNat 512 (ρ + (y 1).val)) (y 2)) := by
    have hy : (y 1).val < 32 := (y 1).isLt
    funext a; refine Fin.ext ?_
    fin_cases a
    · rfl
    · show ρ + 1 * (y 1).val = 0 + 1 * ((ρ + (y 1).val) % 512); omega
    · rfl
  rw [e]
  exact View.canon_cons_emb (Val := Elt Ideal) _ _ _ _

theorem part_cast (A : Square) (ρ : ℕ) (hc : _) : shapeCast S32x512 (part (φ := .f32) A ρ) hc = vec (φ := .f32) (fun r : Fin 32 => row A (ρ + r.val)) := by
  funext y; idx_vars y
  pointwise [vec, part]

/-- A number a row, as one of a pair's two columns. -/
def col (D : Fin 512 → EReal) : FVec Ideal (⟨3, ![1, 512, 1]⟩ : Shape) .f32 := fun x => D (x 1)

/-- Thirty-two of a column's numbers. -/
def bit (D : Fin 512 → EReal) (ρ : ℕ) : FVec Ideal (⟨3, ![1, 32, 1]⟩ : Shape) .f32 := fun x => D (Fin.ofNat 512 (ρ + (x 1).val))

theorem col_eq (hM : Marks h M) (g o : FVec Ideal S512x128 .f32) (hc hc' hc'' h1 : _) :
    shapeCast (⟨3, ![1, 512, 1]⟩ : Shape) (shapeCast S512x1 (multiReduction .add [1] S512
      (mulf (F := Ideal) (select M g (broadcast S512x128 (FloatOps.ofBits .f32 0#32))) (shapeCast S512x128 o hc)) 0#32 h1 (.inl rfl) rfl) hc') hc''
      = col (rowDot h (rows g) (rows o)) := by
  funext y; idx_vars y
  pointwise [col, rowDot, own, rows]
  refine Finset.sum_congr rfl fun x _ => (if_congr (hM y1 x) rfl rfl).trans ?_
  split
  · rfl
  · rw [zero_mul]

theorem bit_eq {sig : RefSig} {κ : Kind} {sp : Space} (v : View sig κ sp (⟨3, ![2, 512, 1]⟩ : Shape) .f32) (D : Fin 512 → EReal) (j ρ : ℕ) (hb : _) (hb' : _)
    (L : List (View.Piece (Elt Ideal) (⟨3, ![2, 512, 1]⟩ : Shape) .f32)) :
    v.readCov (⟨Rect.unit ![j, 0, 0] ![1, 512, 1] hb, col D⟩ :: L) (Rect.unit ![j, ρ, 0] ![1, 32, 1] hb').toLoadRect = bit D ρ := by
  refine (View.readCov_eq_canon' (Val := Elt Ideal) v _ _).trans ?_
  funext y
  have h1 : ρ + 32 ≤ 512 := hb' 1
  have e : (Rect.unit (s := (⟨3, ![2, 512, 1]⟩ : Shape)) ![j, ρ, 0] ![1, 32, 1] hb').toLoadRect.idx y
      = (Rect.unit (s := (⟨3, ![2, 512, 1]⟩ : Shape)) ![j, 0, 0] ![1, 512, 1] hb).emb (ix3 (y 0) (Fin.ofNat 512 (ρ + (y 1).val)) (y 2)) := by
    have hy : (y 1).val < 32 := (y 1).isLt
    funext a; refine Fin.ext ?_
    fin_cases a
    · rfl
    · show ρ + 1 * (y 1).val = 0 + 1 * ((ρ + (y 1).val) % 512); omega
    · rfl
  rw [e]
  exact View.canon_cons_emb (Val := Elt Ideal) _ _ _ _

theorem prob_rows {o : ℕ} (ho : o = 64 * h.val) (lse : FVec Ideal S512x128 .f32) (A : Square) (ρ : ℕ) (hb hc hs ht : _) :
    exp (F := Ideal) (s := S32x512) (subf (s := S32x512) (vec (φ := .f32) (fun r : Fin 32 => row A (ρ + r.val)))
      (broadcastTo S32x512 (extractStridedSlice S32x1 ![0, o] (shapeCast (s := S32x128) S32x128 (View.ld (Val := Elt Ideal) (e' := .f32) lse (Rect.unit (s := S512x128) ![ρ, 0] ![32, 128] hb)) hc) hs) ht))
      = vec (φ := .f32) (fun r : Fin 32 => row (prob h (rows lse) A) (ρ + r.val)) := by
  subst ho
  funext y; idx_vars y
  pointwise [vec, row, prob, rows]
  have h1 : ρ + 32 ≤ 512 := hb 0
  have hy := y0.isLt
  exact congrArg (fun i : Fin 512 => Ideal.exp (A (Fin.ofNat 512 (ρ + y0.val)) y1 - lse (ix2 i ⟨64 * h.val, by omega⟩)))
    (Fin.ext (Nat.mod_eq_of_lt (by omega)).symm)

theorem prob_part (A : Square) (ρ : ℕ) (ht hc : _) :
    shapeCast (⟨3, ![1, 32, 512]⟩ : Shape) (truncf (F := Ideal) (s := S32x512) .bf16 (vec (φ := .f32) (fun r : Fin 32 => row A (ρ + r.val))) ht) hc = part (φ := .bf16) A ρ := by
  funext y; idx_vars y
  pointwise [vec, part]

theorem dscore_part (P A : Square) (D : Fin 512 → EReal) (ρ : ℕ) (h1 h2 h3 h4 : _) :
    shapeCast (⟨3, ![1, 32, 512]⟩ : Shape) (truncf (F := Ideal) (s := S32x512) .bf16 (mulf (s := S32x512) (vec (φ := .f32) (fun r : Fin 32 => row P (ρ + r.val)))
      (subf (s := S32x512) (vec (φ := .f32) (fun r : Fin 32 => row A (ρ + r.val))) (broadcastTo S32x512 (shapeCast S32x1 (bit D ρ) h1) h2))) h3) h4
      = part (φ := .bf16) (dscore P A D) ρ := by
  funext y; idx_vars y
  pointwise [vec, part, bit, row, dscore]

/-- Thirty-two rows of a plane, as the body stores them. -/
abbrev piece (j : ℕ) (hj : j + 1 ≤ 2) (A : Square) (ρ : ℕ) (hρ : ρ + 32 ≤ 512) : View.Piece (Elt Ideal) (⟨3, ![2, 512, 512]⟩ : Shape) .bf16 :=
  ⟨Rect.unit ![j, ρ, 0] ![1, 32, 512] (fun a => by fin_cases a; exacts [hj, hρ, le_rfl]), part (φ := .bf16) A ρ⟩

/-- A plane stored thirty-two rows at a time and read whole. -/
theorem plane_read {sig : RefSig} {κ : Kind} {sp : Space} (v : View sig κ sp (⟨3, ![2, 512, 512]⟩ : Shape) .bf16) (A : Square) (j : ℕ) (hj : j + 1 ≤ 2) (hb : _)
    (L : List (View.Piece (Elt Ideal) (⟨3, ![2, 512, 512]⟩ : Shape) .bf16)) :
    v.readCov (piece j hj A 480 (by omega) :: piece j hj A 448 (by omega) :: piece j hj A 416 (by omega) :: piece j hj A 384 (by omega)
      :: piece j hj A 352 (by omega) :: piece j hj A 320 (by omega) :: piece j hj A 288 (by omega) :: piece j hj A 256 (by omega)
      :: piece j hj A 224 (by omega) :: piece j hj A 192 (by omega) :: piece j hj A 160 (by omega) :: piece j hj A 128 (by omega)
      :: piece j hj A 96 (by omega) :: piece j hj A 64 (by omega) :: piece j hj A 32 (by omega) :: piece j hj A 0 (by omega) :: L)
      (Rect.unit ![j, 0, 0] ![1, 512, 512] hb).toLoadRect = plane (φ := .bf16) A := by
  refine (View.readCov_eq_canon' (Val := Elt Ideal) v _ _).trans ?_
  funext y
  have hp : ∀ ρ hρ, ∀ x : (piece j hj A ρ hρ).1.shape.Idx,
      (piece j hj A ρ hρ).2 x = row A ((piece j hj A ρ hρ).1.emb x 1).val ((piece j hj A ρ hρ).1.emb x 2) := fun ρ hρ x => by
    show row A (ρ + (x 1).val) (x 2) = row A (ρ + 1 * (x 1).val) ⟨0 + 1 * (x 2).val, _⟩
    rw [one_mul]
    refine congrArg _ (Fin.ext ?_)
    show (x 2).val = 0 + 1 * (x 2).val
    omega
  have hy1 : (y 1).val < 512 := (y 1).isLt
  refine (View.canon_append_of_piecesOf (Val := Elt Ideal) (fun i => row A (i 1).val (i 2)) L [_, _, _, _, _, _, _, _, _, _, _, _, _, _, _, _]
    ⟨hp _ _, hp _ _, hp _ _, hp _ _, hp _ _, hp _ _, hp _ _, hp _ _, hp _ _, hp _ _, hp _ _, hp _ _, hp _ _, hp _ _, hp _ _, hp _ _, trivial⟩ _ ?_).trans ?_
  · obtain ⟨n, hn⟩ : ∃ n, n = (y 1).val / 32 := ⟨_, rfl⟩
    have h16 : n < 16 := by omega
    refine ⟨piece j hj A (32 * n) (by omega), by interval_cases n <;> simp, ?_⟩
    rw [← Rect.map_emb_univ]
    refine Finset.mem_map.mpr ⟨ix3 (y 0) (⟨(y 1).val - 32 * n, by omega⟩ : Fin 32) (y 2), Finset.mem_univ _, ?_⟩
    funext a; refine Fin.ext ?_
    fin_cases a
    · rfl
    · show 32 * n + 1 * ((y 1).val - 32 * n) = 0 + 1 * (y 1).val; omega
    · rfl
  · show A ⟨(0 + 1 * (y 1).val) % 512, _⟩ ⟨0 + 1 * (y 2).val, _⟩ = A (y 1) (y 2)
    refine congrArg₂ A (Fin.ext ?_) (Fin.ext ?_)
    · show (0 + 1 * (y 1).val) % 512 = (y 1).val; omega
    · show 0 + 1 * (y 2).val = (y 2).val; omega

theorem plane_cast (A : Square) (hc : _) : shapeCast S512x512 (plane (φ := .bf16) A) hc = vec (φ := .bf16) A := by
  funext y; idx_vars y
  pointwise [vec, plane]

/-- A square's columns against a block's lanes. -/
def down (A : Square) (b : Rows) : Rows := fun k l => ∑ r, A r k * b r l

/-- A square's rows against a block's lanes. -/
def across (A : Square) (b : Rows) : Rows := fun r l => ∑ k, A r k * b k l

theorem down_eq (A : Square) (b : Rows) :
    matmul dot_S512x512_S512x128_S512x128_0_0_1_1_n_n none (vec (φ := .bf16) A) (vec (φ := .bf16) b) (constant S512x128 .f32 0#32) = vec (φ := .f32) (down A b) := by
  funext y; idx_vars y
  pointwise [vec, down]

theorem across_eq (A : Square) (b : Rows) :
    matmul dot_S512x512_S512x128_S512x128_1_0_0_1_n_n none (vec (φ := .bf16) A) (vec (φ := .bf16) b) (constant S512x128 .f32 0#32) = vec (φ := .f32) (across A b) := by
  funext y; idx_vars y
  pointwise [vec, across]

/-- The triangle that the body keeps on the diagonal, thirty-two rows at a time. -/
theorem causal_rows (A : Square) (ρ : ℕ) (n : BitVec 32) (hn : n = BitVec.ofNat 32 ρ) (hρ : ρ + 32 ≤ 512) (hi hi' : _) :
    select (s := S32x512) (cmpi .sge (addi (iota .tc S32x512 32 [0] hi) (broadcast S32x512 n)) (iota .tc S32x512 32 [1] hi'))
      (vec (φ := .f32) (fun r : Fin 32 => row A (ρ + r.val))) (broadcast S32x512 (Named.named κ "mask" (F := Ideal) (φ := .f32) 4048155338#32))
      = vec (φ := .f32) (fun r : Fin 32 => row (causal A) (ρ + r.val)) := by
  funext y; idx_vars y
  have h0 := y0.isLt
  have h1 := y1.isLt
  subst hn
  pointwise [vec, row, causal]
  refine if_congr ?_ rfl rfl
  rw [show IntOp.addi (BitVec.ofNat 32 y0.val) (BitVec.ofNat 32 ρ) = BitVec.ofNat 32 (y0.val + ρ) from (BitVec.ofNat_add ..).symm, show (1 : BitVec 1) = 1#1 from rfl, Masks.sge (by omega) (by omega)]
  show _ ↔ y1.val ≤ (ρ + y0.val) % 512
  omega

/-- Two heads' rows side by side. -/
def mix (X Y : Rows) : Rows := fun r l => if l.val < 64 then X r l else Y r l

theorem mix_eq {φ : FTy} (hi : _) (X Y : Rows) :
    select (s := S512x128) (cmpi .slt (iota .tc S512x128 32 [1] hi) (broadcast S512x128 64#32)) (vec (φ := φ) X) (vec (φ := φ) Y) = vec (φ := φ) (mix X Y) := by
  funext y; idx_vars y
  have h1 := y1.isLt
  pointwise [vec, mix]
  exact if_congr (Masks.slt (by omega) (by omega)) rfl rfl

/-- Two heads' rows, one over the other. -/
def pair (X Y : Rows) : FVec Ideal (⟨3, ![2, 512, 128]⟩ : Shape) .f32 := fun x => if (x 0).val = 0 then X (x 1) (x 2) else Y (x 1) (x 2)

/-- A block's rows in an array of four thousand: zero in the others. -/
def strip (i : ℕ) (X : Rows) : FVec Ideal S4096x128 .f32 := fun x => if (x 0).val / 512 = i then X (Fin.ofNat 512 (x 0).val) (x 1) else 0

/-- An array stored in its two halves reads the half of its first coordinate. -/
theorem halves (w w' : FVec Ideal (⟨3, ![1, 512, 128]⟩ : Shape) .f32) (b1 b2 : _) (L) (i : Fin 2) (r : Fin 512) (l : Fin 128) :
    View.canon (Val := Elt Ideal) (e := .f32) (s := (⟨3, ![2, 512, 128]⟩ : Shape))
      (⟨Rect.unit ![1, 0, 0] ![1, 512, 128] b1, w'⟩ :: ⟨Rect.unit ![0, 0, 0] ![1, 512, 128] b2, w⟩ :: L) (ix3 i r l)
      = if i.val = 0 then w (ix3 0 r l) else w' (ix3 0 r l) := by
  have e : ∀ (j : Fin 2) (b : _), ix3 j r l = (Rect.unit (s := (⟨3, ![2, 512, 128]⟩ : Shape)) ![j.val, 0, 0] ![1, 512, 128] b).emb (ix3 0 r l) := fun j b => by
    funext a; refine Fin.ext ?_
    fin_cases a
    · show j.val = j.val + 1 * 0; omega
    · show r.val = 0 + 1 * r.val; omega
    · show l.val = 0 + 1 * l.val; omega
  obtain rfl | rfl : i = 0 ∨ i = 1 := by omega
  · rw [if_pos (show (0 : Fin 2).val = 0 from rfl), View.canon_cons_of_not_mem _ _ (fun hm => ?_)]
    · exact (congrArg _ (e 0 b2)).trans (View.canon_cons_emb (Val := Elt Ideal) _ _ _ _)
    · rw [← Rect.map_emb_univ] at hm
      obtain ⟨x, -, hx⟩ := Finset.mem_map.mp hm
      have h1 : 1 + 1 * (x 0).val = 0 := congrArg Fin.val (congrFun hx 0)
      omega
  · rw [if_neg (by decide)]
    exact (congrArg _ (e 1 b1)).trans (View.canon_cons_emb (Val := Elt Ideal) _ _ _ _)

theorem half (Z : FVec Ideal (⟨3, ![1, 512, 128]⟩ : Shape) .f32) (X : Rows) (c1 c2 : _) (r : Fin 512) (l : Fin 128) :
    shapeCast (⟨3, ![1, 512, 128]⟩ : Shape) (addf (F := Ideal) (s := S512x128) (shapeCast S512x128 Z c1) (vec (φ := .f32) X)) c2 (ix3 0 r l) = Z (ix3 0 r l) + X r l := by
  pointwise [vec]

/-- Both heads' sums, added to what was there. -/
theorem pair_add (P : FVec Ideal (⟨3, ![2, 512, 128]⟩ : Shape) .f32) (X Y : Rows) (b1 b2 b3 b4 c1 c2 c3 c4 : _) (L) :
    View.canon (Val := Elt Ideal) (e := .f32) (s := (⟨3, ![2, 512, 128]⟩ : Shape)) (
        ⟨Rect.unit ![1, 0, 0] ![1, 512, 128] b1, shapeCast (⟨3, ![1, 512, 128]⟩ : Shape) (addf (F := Ideal) (s := S512x128) (shapeCast S512x128
          (View.ld (Val := Elt Ideal) (e' := .f32) P (Rect.unit (s := (⟨3, ![2, 512, 128]⟩ : Shape)) ![1, 0, 0] ![1, 512, 128] b2)) c1) (vec (φ := .f32) Y)) c2⟩ ::
        ⟨Rect.unit ![0, 0, 0] ![1, 512, 128] b3, shapeCast (⟨3, ![1, 512, 128]⟩ : Shape) (addf (F := Ideal) (s := S512x128) (shapeCast S512x128
          (View.ld (Val := Elt Ideal) (e' := .f32) P (Rect.unit (s := (⟨3, ![2, 512, 128]⟩ : Shape)) ![0, 0, 0] ![1, 512, 128] b4)) c3) (vec (φ := .f32) X)) c4⟩ :: L)
      = addf P (pair X Y) := by
  funext y; idx_vars y
  rw [halves]
  have e : ∀ (j : Fin 2) (b : _), (Rect.unit (s := (⟨3, ![2, 512, 128]⟩ : Shape)) ![j.val, 0, 0] ![1, 512, 128] b).emb (ix3 0 y1 y2) = ix3 j y1 y2 := fun j b => by
    funext a; refine Fin.ext ?_
    fin_cases a
    · show j.val + 1 * 0 = j.val; omega
    · show 0 + 1 * y1.val = y1.val; omega
    · show 0 + 1 * y2.val = y2.val; omega
  obtain rfl | rfl : y0 = 0 ∨ y0 = 1 := by omega
  · rw [if_pos (show (0 : Fin 2).val = 0 from rfl), half]
    exact congrArg₂ (· + ·) (congrArg P (e 0 b4)) rfl
  · rw [if_neg (by decide), half]
    exact congrArg₂ (· + ·) (congrArg P (e 1 b2)) rfl

theorem rows_cast {φ : FTy} (x : FVec Ideal S512x128 φ) (hc : _) : rows (shapeCast S512x128 x hc) = rows x := by
  funext r l
  pointwise [rows]

theorem rows_vec {φ : FTy} (x : Rows) : rows (vec (φ := φ) x) = x := rfl

end Cert.AttnKernelIdeal.Tile

end
-- ==== Proof.AttnWrite.lean ====
module

public import proofs.«01_k».proof.Proof.AttnTile
public import Idealize.ShloMosaic.Lib.WritesUnit

@[expose] public section

set_option maxRecDepth 16384

noncomputable section

namespace Cert.AttnKernelIdeal.Tile

open Cert.AttnKernelIdeal Cert.AttnKernelIdeal.Gen Idealize.ShloMosaic Idealize.ShloMosaic.TcCoe

theorem off1 (t : Fin cfg0.N) : k0_off1 (grid0.coords t) = ![512 * (t.val % 8), 0] := by
  have h : ∀ i : Fin 8, (Scalar.indexCast (Scalar.muli (BitVec.ofNat 32 i.val) 512#32)).toNat = 512 * i.val := by decide
  have e : ∀ t : Fin grid0.N, (grid0.coords t 2).val = t.val % 8 := by decide +kernel
  exact (congrArg (fun n => ![n, 0]) (h (grid0.coords t 2))).trans (congrArg (fun n => ![512 * n, 0]) (e t))

theorem off2 (t : Fin cfg0.N) : k0_off2 (grid0.coords t) = ![512 * (t.val % 8), 0] := off1 t

/-- What one row of a block's strip holds. -/
theorem strip_at (P : FVec Ideal S4096x128 .f32) {i : ℕ} (X : Rows) (y : S4096x128.Idx) {b : _} (x : S512x128.Idx) (h0 : (y 0).val = 512 * i + (x 0).val) (h1 : (y 1).val = (x 1).val) :
    addf (F := Ideal) (s := S512x128) (View.ld (Val := Elt Ideal) (e' := .f32) P (Rect.unit (s := S4096x128) ![512 * i, 0] ![512, 128] b)) (vec (φ := .f32) X) x = addf P (strip i X) y := by
  idx_vars x
  pointwise [vec, strip]
  have h0 : (y 0).val = 512 * i + x0.val := h0
  have h1 : (y 1).val = x1.val := h1
  have := x0.isLt
  have e : ∀ h, ix2 (⟨512 * i + x0.val, h⟩ : Fin 4096) x1 = y := fun h => by
    funext a; refine Fin.ext ?_
    fin_cases a
    · exact h0.symm
    · exact h1.symm
  have e0 : Fin.ofNat 512 (y 0).val = x0 := Fin.ext (by show (y 0).val % 512 = x0.val; omega)
  have e1 : (y 1 : Fin 128) = x1 := Fin.ext h1
  rw [if_pos (show (y 0).val / 512 = i by omega), e0, e1]
  exact congrArg (· + X x0 x1) (congrArg P (e _))

/-- The rows of a block added to those of an array, through a view of the whole of it. -/
theorem strip_read {κ : Kind} {sp : Space} (v : View sig κ sp S4096x128 .f32) (f) (P : FVec Ideal S4096x128 .f32) (hf : v.read (Elt Ideal) f = P) {off : Fin 2 → ℕ} {i : ℕ}
    (ho : off = ![512 * i, 0]) (b1 b2 : _) (X : Rows) :
    v.read (Elt Ideal) (v.writes (Elt Ideal) f [⟨Rect.unit off ![512, 128] b1, addf (F := Ideal) (s := S512x128) (View.ld (Val := Elt Ideal) (e' := .f32) P (Rect.unit off ![512, 128] b2)) (vec (φ := .f32) X)⟩])
      = addf P (strip i X) := by
  subst ho
  funext y
  refine (View.read_writes_cons_rows v f b1 _ [] y rfl rfl rfl).trans ?_
  split
  case isTrue h => exact strip_at P X y _ (by show _ = 512 * i + ((y 0).val - 512 * i); omega) (by show _ = (y 1).val - 0; omega)
  case isFalse h =>
    show v.read (Elt Ideal) f y = P y + (if (y 0).val / 512 = i then _ else 0)
    have h : ¬(512 * i ≤ (y 0).val ∧ (y 0).val < 512 * i + 512) := h
    rw [hf, if_neg (by omega), add_zero]

/-- The same of an array freshly filled. -/
theorem strip_fill (P : FVec Ideal S4096x128 .f32) {off : Fin 2 → ℕ} {i : ℕ} (ho : off = ![512 * i, 0]) (b1 b2 : _) (b3 : _) (X : Rows) :
    View.canon (Val := Elt Ideal) (e := .f32) (s := S4096x128) [⟨Rect.unit off ![512, 128] b1, addf (F := Ideal) (s := S512x128) (View.ld (Val := Elt Ideal) (e' := .f32) P (Rect.unit off ![512, 128] b2)) (vec (φ := .f32) X)⟩,
        ⟨Rect.unit ![0, 0] ![4096, 128] b3, P⟩]
      = addf P (strip i X) := by
  subst ho
  funext y
  by_cases h : (y 0).val / 512 = i
  · have h0 : (y 0).val < 4096 := (y 0).isLt
    have e : (Rect.unit (s := S4096x128) ![512 * i, 0] ![512, 128] b1).emb (ix2 (⟨(y 0).val - 512 * i, by omega⟩ : Fin 512) (y 1)) = y := by
      funext a; refine Fin.ext ?_
      fin_cases a
      · show 512 * i + 1 * ((y 0).val - 512 * i) = (y 0).val; omega
      · show 0 + 1 * (y 1).val = (y 1).val; omega
    refine (congrArg _ e.symm).trans ((View.canon_cons_emb (Val := Elt Ideal) _ _ _ _).trans ?_)
    exact strip_at P X y _ (by show _ = 512 * i + ((y 0).val - 512 * i); omega) rfl
  · rw [View.canon_cons_of_not_mem _ _ (fun hm => ?_)]
    · refine (congrFun (View.canon_cons_unit_lit (Val := Elt Ideal) (S := S4096x128) (e := .f32) (off := ![0, 0]) b3 P [] (fun a => by fin_cases a <;> rfl)) y).trans ?_
      show P y = P y + (if (y 0).val / 512 = i then _ else 0)
      rw [if_neg h, add_zero]
    · rw [← Rect.map_emb_univ] at hm
      obtain ⟨x, -, hx⟩ := Finset.mem_map.mp hm
      have h1 : 512 * i + 1 * (x 0).val = (y 0).val := congrArg Fin.val (congrFun hx 0)
      have h2 : (x 0).val < 512 := (x 0).isLt
      omega

theorem vec_add (P : FVec Ideal S512x128 .f32) (X Y : Rows) : addf (addf P (vec X)) (vec Y) = addf P (vec fun r l => X r l + Y r l) := by
  funext y; idx_vars y
  pointwise [vec]
  exact add_assoc _ _ _

/-- One head's plane of the pair. -/
def head (j : Fin 2) (P : FVec Ideal S2x512x128 .f32) : Rows := fun r l => P (ix3 j r l)

theorem half_cast (Z : FVec Ideal (⟨3, ![1, 512, 128]⟩ : Shape) .f32) (X : Rows) (c1 c2 c3 : _) :
    shapeCast S512x128 (shapeCast (⟨3, ![1, 512, 128]⟩ : Shape) (addf (F := Ideal) (s := S512x128) (shapeCast S512x128 Z c1) (vec (φ := .f32) X)) c2) c3 = vec (φ := .f32) fun r l => Z (ix3 0 r l) + X r l := by
  funext y; idx_vars y
  pointwise [vec]

theorem head_add (j : ℕ) (h : j < 2) (P : FVec Ideal (⟨3, ![2, 512, 128]⟩ : Shape) .f32) (X : Rows) (b c1 c2 c3 : _) :
    shapeCast S512x128 (shapeCast (⟨3, ![1, 512, 128]⟩ : Shape) (addf (F := Ideal) (s := S512x128) (shapeCast S512x128
      (View.ld (Val := Elt Ideal) (e' := .f32) P (Rect.unit (s := (⟨3, ![2, 512, 128]⟩ : Shape)) ![j, 0, 0] ![1, 512, 128] b)) c1) (vec (φ := .f32) X)) c2) c3
      = vec (φ := .f32) fun r l => head ⟨j, h⟩ P r l + X r l := by
  refine (half_cast _ _ _ _ _).trans (congrArg (vec (φ := .f32)) (funext fun r => funext fun l => congrArg (· + X r l) (congrArg P ?_)))
  funext a; refine Fin.ext ?_
  fin_cases a
  · show j + 1 * 0 = j; omega
  · show 0 + 1 * r.val = r.val; omega
  · show 0 + 1 * l.val = l.val; omega

end Cert.AttnKernelIdeal.Tile

end
-- ==== Proof.AttnStep.lean ====
module

public import proofs.«01_k».proof.Proof.AttnWrite

@[expose] public section

set_option maxRecDepth 16384

noncomputable section

namespace Cert.AttnKernelIdeal.Tile

open Cert.AttnKernelIdeal Cert.AttnKernelIdeal.Gen Idealize.ShloMosaic Idealize.ShloMosaic.TcCoe

variable (m : (ℓ : Loc nD τ sig) → Buf (Elt Ideal) ℓ) (c : Dev nD)

/-- The tiles of a grid point: queries, keys, values, the lanes that carry the keys' bias, the output, the rows' log-sum and the cotangent. -/
abbrev tq (t : Fin cfg0.N) : Rows := rows (φ := .f32) (iblk m c 0 t)
abbrev tk (t : Fin cfg0.N) : Rows := rows (φ := .f32) (iblk m c 1 t)
abbrev tv (t : Fin cfg0.N) : Rows := rows (φ := .f32) (iblk m c 2 t)
abbrev ta (t : Fin cfg0.N) : Rows := rows (φ := .bf16) (iblk m c 3 t)
abbrev tz (t : Fin cfg0.N) : Rows := rows (φ := .f32) (iblk m c 4 t)
abbrev tl (t : Fin cfg0.N) : Rows := rows (φ := .f32) (iblk m c 5 t)
abbrev tg (t : Fin cfg0.N) : Rows := rows (φ := .f32) (iblk m c 6 t)

/-- The scores of a pair of tiles, one head's. -/
def score (h : Fin 2) (t : Fin cfg0.N) : Square := dots (query h (tq m c t)) (key h (tk m c t) (ta m c t))

/-- Their weights, with nothing above the diagonal left out. -/
def full (h : Fin 2) (t : Fin cfg0.N) : Square := prob h (tl m c t) (score m c h t)

/-- The weights of a tile on the diagonal. -/
def diag (h : Fin 2) (t : Fin cfg0.N) : Square := prob h (tl m c t) (causal (score m c h t))

/-- The gradient of the scores, the weights given. -/
def grad (h : Fin 2) (t : Fin cfg0.N) (P : Square) : Square := dscore P (dots (own h (tg m c t)) (own h (tv m c t))) (rowDot h (tg m c t) (tz m c t))

/-- What a pair of tiles adds: to the queries' rows, … -/
def addQ (t : Fin cfg0.N) (P : Fin 2 → Square) : Rows :=
  mix (across (grad m c 0 t (P 0)) (key 0 (tk m c t) (ta m c t))) (across (grad m c 1 t (P 1)) (key 1 (tk m c t) (ta m c t)))

/-- … to the row sums, … -/
def addR (t : Fin cfg0.N) (P : Fin 2 → Square) : Rows :=
  mix (across (grad m c 1 t (P 1)) (key 1 (tk m c t) (ta m c t))) (across (grad m c 0 t (P 0)) (key 0 (tk m c t) (ta m c t)))

/-- … to the keys' rows of one head, … -/
def addK (h : Fin 2) (t : Fin cfg0.N) (P : Fin 2 → Square) : Rows := down (grad m c h t (P h)) (query h (tq m c t))

/-- … and to the values'. -/
def addV (t : Fin cfg0.N) (P : Fin 2 → Square) : Rows := fun r l => down (P 0) (own 0 (tg m c t)) r l + down (P 1) (own 1 (tg m c t)) r l

abbrev Sums := FVec Ideal S4096x128 .f32 × FVec Ideal S4096x128 .f32 × FVec Ideal S2x512x128 .f32 × FVec Ideal S512x128 .f32

/-- The four sums kept from point to point: the queries' rows, the row sums, the keys' rows of both heads, the values' rows. -/
def sums (n : ℕ) (h : n < cfg0.N) : Sums :=
  ((outsAt0 m c n h).1, (outsAt0 m c n h).2.2.2.2.1, (outsAt0 m c n h).2.2.2.2.2.1, (outsAt0 m c n h).2.2.2.2.2.2)

/-- Those sums after one pair of tiles. -/
def next (t : Fin cfg0.N) (P : Fin 2 → Square) (s : Sums) : Sums :=
  (addf s.1 (strip (t.val % 8) (addQ m c t P)), addf s.2.1 (strip (t.val % 8) (addR m c t P)), addf s.2.2.1 (pair (addK m c 0 t P) (addK m c 1 t P)), addf s.2.2.2 (vec (addV m c t P)))

/-- What the last step of a tile of keys writes: the keys' rows, each head's in its lanes, the values' rows, and the other head's lanes. -/
def written (s : Sums) : FVec Ideal S512x128 .bf16 × FVec Ideal S512x128 .bf16 × FVec Ideal S512x128 .f32 :=
  (truncf .bf16 (vec (mix (head 0 s.2.2.1) (head 1 s.2.2.1))) bitsLt_bf16_f32, truncf .bf16 s.2.2.2 bitsLt_bf16_f32, vec (mix (head 1 s.2.2.1) (head 0 s.2.2.1)))

def outs (t : Fin cfg0.N) : FVec Ideal S512x128 .bf16 × FVec Ideal S512x128 .bf16 × FVec Ideal S512x128 .f32 :=
  ((outsAt0 m c t.val t.isLt).2.1, (outsAt0 m c t.val t.isLt).2.2.1, (outsAt0 m c t.val t.isLt).2.2.2.1)

/-- The sums before anything is added. -/
def zeros : Sums :=
  (broadcast S4096x128 (FloatOps.ofBits (F := Ideal) .f32 0#32), broadcast S4096x128 (FloatOps.ofBits (F := Ideal) .f32 0#32), broadcast S2x512x128 (FloatOps.ofBits (F := Ideal) .f32 0#32),
    broadcast S512x128 (FloatOps.ofBits (F := Ideal) .f32 0#32))

/-- The sums with the queries' rows scaled. -/
def scaled (s : Sums) : Sums := (mulf s.1 (broadcast S4096x128 (FloatOps.ofBits (F := Ideal) .f32 1040187392#32)), s.2)

set_option maxHeartbeats 2000000 in
/-- A tile of queries below the tile of keys adds its pairs in full. -/
theorem below (t : Fin cfg0.N) (h2 : t.val / 8 % 8 + 1 ≤ t.val % 8) :
    (¬t.val % 8 = 7 → sums m c t.val t.isLt = next m c t (fun h => full m c h t) (sums m c (t.val - 1) (by omega)))
    ∧ (t.val % 8 = 7 → sums m c t.val t.isLt = next m c t (fun h => full m c h t) (sums m c (t.val - 1) (by omega))
      ∧ outs m c t = written (next m c t (fun h => full m c h t) (sums m c (t.val - 1) (by omega)))) := by
  refine ⟨fun h4 => ?_, fun h4 => ?_⟩
  rw [sums, outsAt0_B m c t (by omega) (by omega) h2 (by omega) h4 (by omega)]; frame_out
  rotate_left
  rw [sums, outs, outsAt0_C m c t (by omega) (by omega) h2 (by omega) h4 (by omega)]; frame_out
  rotate_left
  all_goals simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307]
  all_goals try simp (disch := decide) only [↓ View.readCov_skip, ↓ View.readCov_cons_toLoadRect, ↓ View.readCov_fill]
  all_goals simp only [read_unread_whole, query_eq (marks0 _) (ones0 _ _), query_eq (marks1 _) (ones1 _ _), key_eq (marks0 _), key_eq (marks1 _), own_eq (marks0 _), own_eq (marks1 _), dots_eq, plane_eq,
    col_eq (marks0 _), col_eq (marks1 _), rows_cast]
  all_goals simp (disch := decide) only [part_eq, part_cast, bit_eq, causal_rows _, prob_rows (h := 0) (o := 0) rfl, prob_rows (h := 1) (o := 64) rfl, prob_part, dscore_part]
  all_goals simp only [plane_read _ _ 0 (by decide), plane_read _ _ 1 (by decide), plane_cast, down_eq, across_eq, mix_eq _, pair_add _, shapeCast_self, vec_add, head_add 0 (by decide), head_add 1 (by decide)]
  all_goals simp only [strip_read _ _ _ ((hs0_7 t).read_unread _) (off1 t), strip_read _ _ _ ((hs0_7 t).read_unread _) (off2 t), strip_read _ _ _ ((hs0_11 t).read_unread _) (off1 t),
    strip_read _ _ _ ((hs0_11 t).read_unread _) (off2 t), strip_fill _ (off2 t), mix_eq _]
  · rfl
  · exact ⟨rfl, rfl⟩

set_option maxHeartbeats 2000000 in
/-- A tile on the diagonal adds its pairs up to the diagonal: to nothing at first, and at the end the queries' rows are scaled. -/
theorem diagonal (t : Fin cfg0.N) (h3 : t.val / 8 % 8 = t.val % 8) :
    (t.val % 64 = 0 → sums m c t.val t.isLt = next m c t (fun h => diag m c h t) zeros)
    ∧ (¬t.val % 64 = 0 → ¬t.val % 64 = 63 → sums m c t.val t.isLt = next m c t (fun h => diag m c h t) (sums m c (t.val - 1) (by omega)))
    ∧ (t.val % 64 = 63 → sums m c t.val t.isLt = scaled (next m c t (fun h => diag m c h t) (sums m c (t.val - 1) (by omega)))
      ∧ outs m c t = written (next m c t (fun h => diag m c h t) (sums m c (t.val - 1) (by omega)))) := by
  have hN : t.val < 512 := lt_of_lt_of_eq t.isLt (show cfg0.N = 512 from N_0)
  refine ⟨fun h0 => ?_, fun h0 h5 => ?_, fun h5 => ?_⟩
  rw [sums, outsAt0_A m c t h0 (by omega) (by omega) h3 (by omega) (by omega)]; frame_out
  rotate_left
  rw [sums, outsAt0_E m c t h0 (by omega) (by omega) h3 (by omega) h5]; frame_out
  rotate_left
  rw [sums, outs, outsAt0_G m c t (by omega) (by omega) (by omega) h3 (by omega) h5]; frame_out
  rotate_left
  all_goals simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307]
  all_goals try simp (disch := decide) only [↓ View.readCov_skip, ↓ View.readCov_cons_toLoadRect, ↓ View.readCov_fill]
  all_goals simp only [read_unread_whole, query_eq (marks0 _) (ones0 _ _), query_eq (marks1 _) (ones1 _ _), key_eq (marks0 _), key_eq (marks1 _), own_eq (marks0 _), own_eq (marks1 _), dots_eq, plane_eq,
    col_eq (marks0 _), col_eq (marks1 _), rows_cast]
  all_goals simp (disch := decide) only [part_eq, part_cast, bit_eq, causal_rows _, prob_rows (h := 0) (o := 0) rfl, prob_rows (h := 1) (o := 64) rfl, prob_part, dscore_part]
  all_goals simp only [plane_read _ _ 0 (by decide), plane_read _ _ 1 (by decide), plane_cast, down_eq, across_eq, mix_eq _, pair_add _, shapeCast_self, vec_add, head_add 0 (by decide), head_add 1 (by decide)]
  all_goals simp only [strip_read _ _ _ ((hs0_7 t).read_unread _) (off1 t), strip_read _ _ _ ((hs0_7 t).read_unread _) (off2 t), strip_read _ _ _ ((hs0_11 t).read_unread _) (off1 t),
    strip_read _ _ _ ((hs0_11 t).read_unread _) (off2 t), strip_fill _ (off2 t), mix_eq _]
  · rfl
  · rfl
  · exact ⟨rfl, rfl⟩

/-- A tile of queries above the tile of keys adds nothing; the keys' sums begin anew with each tile. -/
theorem above (t : Fin cfg0.N) (h : t.val % 8 < t.val / 8 % 8) :
    (t.val % 8 = 0 → sums m c t.val t.isLt = ((sums m c (t.val - 1) (by omega)).1, (sums m c (t.val - 1) (by omega)).2.1, zeros.2.2))
    ∧ (¬t.val % 8 = 0 → sums m c t.val t.isLt = sums m c (t.val - 1) (by omega)) := by
  refine ⟨fun h1 => ?_, fun h1 => ?_⟩
  · rw [sums, outsAt0_D m c t (by omega) h1 (by omega) (by omega) (by omega) (by omega)]; dsimp only; unfold out0_D_7 out0_D_11; frame_out
    simp only [k0_pay3, k0_pay4, shapeCast_self, sums, zeros]
  · rw [sums, outsAt0_F m c t (by omega) h1 (by omega) (by omega) (by omega) (by omega)]; dsimp only; unfold out0_F_7 out0_F_11 sout0_F_0 sout0_F_1; rfl

end Cert.AttnKernelIdeal.Tile

end
-- ==== Proof.AttnBlock.lean ====
module

public import proofs.«01_k».proof.Proof.AttnStep

@[expose] public section

set_option maxRecDepth 16384

noncomputable section

namespace Cert.AttnKernelIdeal.Tile

open Cert.AttnKernelIdeal Cert.AttnKernelIdeal.Gen Idealize.ShloMosaic Idealize.ShloMosaic.TcCoe

/-- The operands of the gradient by pair of heads, row and lane: queries, keys, values, the lanes that carry the keys' bias, the output, the rows' log-sum
    and the cotangent. -/
structure Ops where
  q : Fin 8 → Fin 4096 → Fin 128 → EReal
  k : Fin 8 → Fin 4096 → Fin 128 → EReal
  v : Fin 8 → Fin 4096 → Fin 128 → EReal
  a : Fin 8 → Fin 4096 → Fin 128 → EReal
  o : Fin 8 → Fin 4096 → Fin 128 → EReal
  l : Fin 8 → Fin 4096 → Fin 128 → EReal
  g : Fin 8 → Fin 4096 → Fin 128 → EReal

/-- A head's query row, key row and own lanes of a row, as in a tile. -/
def queryRow (h : Fin 2) (q : Fin 128 → EReal) (l : Fin 128) : EReal :=
  if l.val / 64 = h.val then q l * Ideal.ofBits .f32 1040187392#32 else if l.val % 64 < 3 then 1 else 0
def keyRow (h : Fin 2) (k a : Fin 128 → EReal) (l : Fin 128) : EReal := if l.val / 64 = h.val then k l else a l
def ownRow (h : Fin 2) (x : Fin 128 → EReal) (l : Fin 128) : EReal := if l.val / 64 = h.val then x l else 0

namespace Ops

variable (x : Ops) (p : Fin 8) (h : Fin 2) (R C : Fin 4096)

/-- The weight of key row `C` for query row `R`. -/
def weight : EReal :=
  if C.val ≤ R.val then Ideal.exp ((∑ l, queryRow h (x.q p R) l * keyRow h (x.k p C) (x.a p C) l) - x.l p R ⟨64 * h.val, by omega⟩) else 0

/-- The gradient of the score. -/
def ds : EReal := x.weight p h R C * ((∑ l, ownRow h (x.g p R) l * ownRow h (x.v p C) l) - ∑ l, ownRow h (x.g p R) l * x.o p R l)

end Ops

variable (m : (ℓ : Loc nD τ sig) → Buf (Elt Ideal) ℓ) (c : Dev nD)

/-- The pair of heads, the query row and the key row of a grid point. -/
def heads (t : Fin cfg0.N) : Fin 8 := Fin.ofNat 8 (t.val / 64)
def qrow (t : Fin cfg0.N) (r : Fin 512) : Fin 4096 := ⟨t.val % 8 * 512 + r.val, by omega⟩
def krow (t : Fin cfg0.N) (r : Fin 512) : Fin 4096 := ⟨t.val / 8 % 8 * 512 + r.val, by omega⟩

/-- The operands as the region finds them. -/
def ops : Ops where
  q p R l := V m c main_v0 (ix2 R ⟨2048 + 128 * p.val + l.val, by omega⟩)
  k p R l := V m c main_v0 (ix2 R ⟨3072 + 128 * p.val + l.val, by omega⟩)
  v p R l := V m c main_v0 (ix2 R ⟨4096 + 128 * p.val + l.val, by omega⟩)
  a p R l := V m c main_v32 (ix2 R ⟨128 * p.val + l.val, by omega⟩)
  o p R l := V m c main_v68 (ix2 R ⟨128 * p.val + l.val, by omega⟩)
  l p R l := V m c main_v73 (ix2 R ⟨128 * p.val + l.val, by omega⟩)
  g p R l := V m c main_arg2 (ix2 R ⟨1024 + 128 * p.val + l.val, by omega⟩)

theorem index : ∀ t : Fin cfg0.N, win0_0.index t = ![max (t.val % 8) (t.val / 8 % 8), 16 + t.val / 64] ∧ win0_1.index t = ![t.val / 8 % 8, 24 + t.val / 64]
    ∧ win0_2.index t = ![t.val / 8 % 8, 32 + t.val / 64] ∧ win0_3.index t = ![t.val / 8 % 8, t.val / 64] ∧ win0_4.index t = ![max (t.val % 8) (t.val / 8 % 8), t.val / 64]
    ∧ win0_5.index t = ![max (t.val % 8) (t.val / 8 % 8), t.val / 64] ∧ win0_6.index t = ![max (t.val % 8) (t.val / 8 % 8), 8 + t.val / 64]
    ∧ win0_7.index t = ![0, t.val / 64] ∧ win0_8.index t = ![t.val / 8 % 8, t.val / 64] ∧ win0_9.index t = ![t.val / 8 % 8, t.val / 64]
    ∧ win0_10.index t = ![t.val / 8 % 8, t.val / 64] ∧ win0_11.index t = ![0, t.val / 64] :=
  (by decide +kernel : ∀ t : Fin grid0.N, _)

theorem ix2_of {a b : ℕ} (y : (⟨2, ![a, b]⟩ : Shape).Idx) (R : Fin a) (w : Fin b) (h0 : (y 0).val = R.val) (h1 : (y 1).val = w.val) : y = ix2 R w := by
  funext i; refine Fin.ext ?_
  fin_cases i
  · exact h0
  · exact h1

theorem block_q {X : S4096x5632.Idx → EReal} (t : Fin cfg0.N) (hij : t.val / 8 % 8 ≤ t.val % 8) (r : Fin 512) (l : Fin 128) (w : Fin 5632) (hw : w.val = 2048 + 128 * (heads t).val + l.val) :
    View.read (Elt Ideal) (win0_0.blk t).view X (ix2 r l) = X (ix2 (qrow t r) w) := by
  have hN : t.val < 512 := lt_of_lt_of_eq t.isLt (show cfg0.N = 512 from N_0)
  have hh : (heads t).val = t.val / 64 := Nat.mod_eq_of_lt (by omega)
  refine congrArg X (ix2_of ((win0_0.blk t).view.emb (ix2 r l)) _ _ ?_ ?_)
  · show win0_0.index t 0 * 512 + 1 * r.val = t.val % 8 * 512 + r.val
    rw [(index t).1]
    show max (t.val % 8) (t.val / 8 % 8) * 512 + 1 * r.val = _
    omega
  · show win0_0.index t 1 * 128 + 1 * l.val = w.val
    rw [(index t).1]
    show (16 + t.val / 64) * 128 + 1 * l.val = _
    omega

theorem read_q (t : Fin cfg0.N) (hij : t.val / 8 % 8 ≤ t.val % 8) (r : Fin 512) : tq m c t r = (ops m c).q (heads t) (qrow t r) := by
  have e : iblk m c 0 t = (win0_0.blk t).view.read (Elt Ideal) (V m c main_v0) := rfl
  funext l
  simp only [tq, rows, e, ops]
  exact block_q t hij r l _ rfl

theorem block_k {X : S4096x5632.Idx → EReal} (t : Fin cfg0.N) (r : Fin 512) (l : Fin 128) (w : Fin 5632) (hw : w.val = 3072 + 128 * (heads t).val + l.val) :
    View.read (Elt Ideal) (win0_1.blk t).view X (ix2 r l) = X (ix2 (krow t r) w) := by
  have hN : t.val < 512 := lt_of_lt_of_eq t.isLt (show cfg0.N = 512 from N_0)
  have hh : (heads t).val = t.val / 64 := Nat.mod_eq_of_lt (by omega)
  refine congrArg X (ix2_of ((win0_1.blk t).view.emb (ix2 r l)) _ _ ?_ ?_)
  · show win0_1.index t 0 * 512 + 1 * r.val = t.val / 8 % 8 * 512 + r.val
    rw [(index t).2.1]
    show t.val / 8 % 8 * 512 + 1 * r.val = _
    omega
  · show win0_1.index t 1 * 128 + 1 * l.val = w.val
    rw [(index t).2.1]
    show (24 + t.val / 64) * 128 + 1 * l.val = _
    omega

theorem read_k (t : Fin cfg0.N) (r : Fin 512) : tk m c t r = (ops m c).k (heads t) (krow t r) := by
  have e : iblk m c 1 t = (win0_1.blk t).view.read (Elt Ideal) (V m c main_v0) := rfl
  funext l
  simp only [tk, rows, e, ops]
  exact block_k t r l _ rfl

theorem block_v {X : S4096x5632.Idx → EReal} (t : Fin cfg0.N) (r : Fin 512) (l : Fin 128) (w : Fin 5632) (hw : w.val = 4096 + 128 * (heads t).val + l.val) :
    View.read (Elt Ideal) (win0_2.blk t).view X (ix2 r l) = X (ix2 (krow t r) w) := by
  have hN : t.val < 512 := lt_of_lt_of_eq t.isLt (show cfg0.N = 512 from N_0)
  have hh : (heads t).val = t.val / 64 := Nat.mod_eq_of_lt (by omega)
  refine congrArg X (ix2_of ((win0_2.blk t).view.emb (ix2 r l)) _ _ ?_ ?_)
  · show win0_2.index t 0 * 512 + 1 * r.val = t.val / 8 % 8 * 512 + r.val
    rw [(index t).2.2.1]
    show t.val / 8 % 8 * 512 + 1 * r.val = _
    omega
  · show win0_2.index t 1 * 128 + 1 * l.val = w.val
    rw [(index t).2.2.1]
    show (32 + t.val / 64) * 128 + 1 * l.val = _
    omega

theorem read_v (t : Fin cfg0.N) (r : Fin 512) : tv m c t r = (ops m c).v (heads t) (krow t r) := by
  have e : iblk m c 2 t = (win0_2.blk t).view.read (Elt Ideal) (V m c main_v0) := rfl
  funext l
  simp only [tv, rows, e, ops]
  exact block_v t r l _ rfl

theorem block_a {X : S4096x1024.Idx → EReal} (t : Fin cfg0.N) (r : Fin 512) (l : Fin 128) (w : Fin 1024) (hw : w.val = 128 * (heads t).val + l.val) :
    View.read (Elt Ideal) (win0_3.blk t).view X (ix2 r l) = X (ix2 (krow t r) w) := by
  have hN : t.val < 512 := lt_of_lt_of_eq t.isLt (show cfg0.N = 512 from N_0)
  have hh : (heads t).val = t.val / 64 := Nat.mod_eq_of_lt (by omega)
  refine congrArg X (ix2_of ((win0_3.blk t).view.emb (ix2 r l)) _ _ ?_ ?_)
  · show win0_3.index t 0 * 512 + 1 * r.val = t.val / 8 % 8 * 512 + r.val
    rw [(index t).2.2.2.1]
    show t.val / 8 % 8 * 512 + 1 * r.val = _
    omega
  · show win0_3.index t 1 * 128 + 1 * l.val = w.val
    rw [(index t).2.2.2.1]
    show (t.val / 64) * 128 + 1 * l.val = _
    omega

theorem read_a (t : Fin cfg0.N) (r : Fin 512) : ta m c t r = (ops m c).a (heads t) (krow t r) := by
  have e : iblk m c 3 t = (win0_3.blk t).view.read (Elt Ideal) (V m c main_v32) := rfl
  funext l
  simp only [ta, rows, e, ops]
  exact block_a t r l _ rfl

theorem block_o {X : S4096x1024.Idx → EReal} (t : Fin cfg0.N) (hij : t.val / 8 % 8 ≤ t.val % 8) (r : Fin 512) (l : Fin 128) (w : Fin 1024) (hw : w.val = 128 * (heads t).val + l.val) :
    View.read (Elt Ideal) (win0_4.blk t).view X (ix2 r l) = X (ix2 (qrow t r) w) := by
  have hN : t.val < 512 := lt_of_lt_of_eq t.isLt (show cfg0.N = 512 from N_0)
  have hh : (heads t).val = t.val / 64 := Nat.mod_eq_of_lt (by omega)
  refine congrArg X (ix2_of ((win0_4.blk t).view.emb (ix2 r l)) _ _ ?_ ?_)
  · show win0_4.index t 0 * 512 + 1 * r.val = t.val % 8 * 512 + r.val
    rw [(index t).2.2.2.2.1]
    show max (t.val % 8) (t.val / 8 % 8) * 512 + 1 * r.val = _
    omega
  · show win0_4.index t 1 * 128 + 1 * l.val = w.val
    rw [(index t).2.2.2.2.1]
    show (t.val / 64) * 128 + 1 * l.val = _
    omega

theorem read_o (t : Fin cfg0.N) (hij : t.val / 8 % 8 ≤ t.val % 8) (r : Fin 512) : tz m c t r = (ops m c).o (heads t) (qrow t r) := by
  have e : iblk m c 4 t = (win0_4.blk t).view.read (Elt Ideal) (V m c main_v68) := rfl
  funext l
  simp only [tz, rows, e, ops]
  exact block_o t hij r l _ rfl

theorem block_l {X : S4096x1024.Idx → EReal} (t : Fin cfg0.N) (hij : t.val / 8 % 8 ≤ t.val % 8) (r : Fin 512) (l : Fin 128) (w : Fin 1024) (hw : w.val = 128 * (heads t).val + l.val) :
    View.read (Elt Ideal) (win0_5.blk t).view X (ix2 r l) = X (ix2 (qrow t r) w) := by
  have hN : t.val < 512 := lt_of_lt_of_eq t.isLt (show cfg0.N = 512 from N_0)
  have hh : (heads t).val = t.val / 64 := Nat.mod_eq_of_lt (by omega)
  refine congrArg X (ix2_of ((win0_5.blk t).view.emb (ix2 r l)) _ _ ?_ ?_)
  · show win0_5.index t 0 * 512 + 1 * r.val = t.val % 8 * 512 + r.val
    rw [(index t).2.2.2.2.2.1]
    show max (t.val % 8) (t.val / 8 % 8) * 512 + 1 * r.val = _
    omega
  · show win0_5.index t 1 * 128 + 1 * l.val = w.val
    rw [(index t).2.2.2.2.2.1]
    show (t.val / 64) * 128 + 1 * l.val = _
    omega

theorem read_l (t : Fin cfg0.N) (hij : t.val / 8 % 8 ≤ t.val % 8) (r : Fin 512) : tl m c t r = (ops m c).l (heads t) (qrow t r) := by
  have e : iblk m c 5 t = (win0_5.blk t).view.read (Elt Ideal) (V m c main_v73) := rfl
  funext l
  simp only [tl, rows, e, ops]
  exact block_l t hij r l _ rfl

theorem block_g {X : S4096x2048.Idx → EReal} (t : Fin cfg0.N) (hij : t.val / 8 % 8 ≤ t.val % 8) (r : Fin 512) (l : Fin 128) (w : Fin 2048) (hw : w.val = 1024 + 128 * (heads t).val + l.val) :
    View.read (Elt Ideal) (win0_6.blk t).view X (ix2 r l) = X (ix2 (qrow t r) w) := by
  have hN : t.val < 512 := lt_of_lt_of_eq t.isLt (show cfg0.N = 512 from N_0)
  have hh : (heads t).val = t.val / 64 := Nat.mod_eq_of_lt (by omega)
  refine congrArg X (ix2_of ((win0_6.blk t).view.emb (ix2 r l)) _ _ ?_ ?_)
  · show win0_6.index t 0 * 512 + 1 * r.val = t.val % 8 * 512 + r.val
    rw [(index t).2.2.2.2.2.2.1]
    show max (t.val % 8) (t.val / 8 % 8) * 512 + 1 * r.val = _
    omega
  · show win0_6.index t 1 * 128 + 1 * l.val = w.val
    rw [(index t).2.2.2.2.2.2.1]
    show (8 + t.val / 64) * 128 + 1 * l.val = _
    omega

theorem read_g (t : Fin cfg0.N) (hij : t.val / 8 % 8 ≤ t.val % 8) (r : Fin 512) : tg m c t r = (ops m c).g (heads t) (qrow t r) := by
  have e : iblk m c 6 t = (win0_6.blk t).view.read (Elt Ideal) (V m c main_arg2) := rfl
  funext l
  simp only [tg, rows, e, ops]
  exact block_g t hij r l _ rfl

end Cert.AttnKernelIdeal.Tile

end
-- ==== Proof.AttnSum.lean ====
module

public import proofs.«01_k».proof.Proof.AttnBlock

@[expose] public section

set_option maxRecDepth 16384

noncomputable section

namespace Cert.AttnKernelIdeal.Tile

open Cert.AttnKernelIdeal Cert.AttnKernelIdeal.Gen Idealize.ShloMosaic Idealize.ShloMosaic.TcCoe

variable (m : (ℓ : Loc nD τ sig) → Buf (Elt Ideal) ℓ) (c : Dev nD)

/-- The weights of a pair of tiles, zero above the diagonal. -/
def weights (t : Fin cfg0.N) (h : Fin 2) : Square := fun r k => (ops m c).weight (heads t) h (qrow t r) (krow t k)

theorem score_eq (t : Fin cfg0.N) (hij : t.val / 8 % 8 ≤ t.val % 8) (h : Fin 2) (r k : Fin 512) :
    score m c h t r k = ∑ l, queryRow h ((ops m c).q (heads t) (qrow t r)) l * keyRow h ((ops m c).k (heads t) (krow t k)) ((ops m c).a (heads t) (krow t k)) l := by
  rw [← read_q m c t hij r, ← read_k m c t k, ← read_a m c t k]; rfl

theorem full_eq (t : Fin cfg0.N) (hij : t.val / 8 % 8 + 1 ≤ t.val % 8) (h : Fin 2) : full m c h t = weights m c t h := by
  funext r k
  rw [weights, Ops.weight, if_pos (show (krow t k).val ≤ (qrow t r).val by simp only [krow, qrow]; omega), full, prob, score_eq m c t (by omega), ← read_l m c t (by omega) r]

theorem diag_eq (t : Fin cfg0.N) (hij : t.val / 8 % 8 = t.val % 8) (h : Fin 2) : diag m c h t = weights m c t h := by
  funext r k
  rw [weights, Ops.weight, diag, prob, causal]
  by_cases hk : k.val ≤ r.val
  · rw [if_pos (show (krow t k).val ≤ (qrow t r).val by simp only [krow, qrow]; omega), if_pos hk, score_eq m c t (by omega), ← read_l m c t (by omega) r]
  · rw [if_neg (show ¬(krow t k).val ≤ (qrow t r).val by simp only [krow, qrow]; omega), if_neg hk, EReal.bot_sub, Ideal.exp_bot]

theorem grad_eq (t : Fin cfg0.N) (hij : t.val / 8 % 8 ≤ t.val % 8) (h : Fin 2) (r k : Fin 512) :
    grad m c h t (weights m c t h) r k = (ops m c).ds (heads t) h (qrow t r) (krow t k) := by
  rw [Ops.ds, ← read_g m c t hij r, ← read_o m c t hij r, ← read_v m c t k]; rfl

/-- A pair of tiles above the diagonal weighs nothing. -/
theorem weights_above (t : Fin cfg0.N) (hij : t.val % 8 < t.val / 8 % 8) (h : Fin 2) (r k : Fin 512) : (ops m c).weight (heads t) h (qrow t r) (krow t k) = 0 :=
  if_neg (show ¬(krow t k).val ≤ (qrow t r).val by simp only [krow, qrow]; omega)

theorem ds_above (t : Fin cfg0.N) (hij : t.val % 8 < t.val / 8 % 8) (h : Fin 2) (r k : Fin 512) : (ops m c).ds (heads t) h (qrow t r) (krow t k) = 0 := by
  rw [Ops.ds, weights_above m c t hij, zero_mul]

/-- What a pair of tiles adds to the keys' rows of a head, to the values' rows, to the queries' rows and to the row sums. -/
def termK (t : Fin cfg0.N) (h : Fin 2) (k : Fin 512) (l : Fin 128) : EReal :=
  ∑ r, (ops m c).ds (heads t) h (qrow t r) (krow t k) * queryRow h ((ops m c).q (heads t) (qrow t r)) l

def termV (t : Fin cfg0.N) (k : Fin 512) (l : Fin 128) : EReal :=
  (∑ r, (ops m c).weight (heads t) 0 (qrow t r) (krow t k) * ownRow 0 ((ops m c).g (heads t) (qrow t r)) l)
    + ∑ r, (ops m c).weight (heads t) 1 (qrow t r) (krow t k) * ownRow 1 ((ops m c).g (heads t) (qrow t r)) l

def contrib (t : Fin cfg0.N) (h : Fin 2) (R : Fin 4096) (l : Fin 128) : EReal :=
  ∑ k, (ops m c).ds (heads t) h R (krow t k) * keyRow h ((ops m c).k (heads t) (krow t k)) ((ops m c).a (heads t) (krow t k)) l

def termQ (t : Fin cfg0.N) (R : Fin 4096) (l : Fin 128) : EReal :=
  if R.val / 512 = t.val % 8 then (if l.val < 64 then contrib m c t 0 R l else contrib m c t 1 R l) else 0

def termR (t : Fin cfg0.N) (R : Fin 4096) (l : Fin 128) : EReal :=
  if R.val / 512 = t.val % 8 then (if l.val < 64 then contrib m c t 1 R l else contrib m c t 0 R l) else 0

theorem addK_eq (t : Fin cfg0.N) (hij : t.val / 8 % 8 ≤ t.val % 8) (h : Fin 2) (k : Fin 512) (l : Fin 128) : addK m c h t (weights m c t) k l = termK m c t h k l := by
  simp only [addK, termK, down, grad_eq m c t hij, ← read_q m c t hij]; rfl

theorem addV_eq (t : Fin cfg0.N) (hij : t.val / 8 % 8 ≤ t.val % 8) (k : Fin 512) (l : Fin 128) : addV m c t (weights m c t) k l = termV m c t k l := by
  simp only [addV, termV, down, ← read_g m c t hij]; rfl

theorem across_term (t : Fin cfg0.N) (hij : t.val / 8 % 8 ≤ t.val % 8) (h : Fin 2) (R : Fin 4096) (hR : R.val / 512 = t.val % 8) (l : Fin 128) :
    across (grad m c h t (weights m c t h)) (key h (tk m c t) (ta m c t)) (Fin.ofNat 512 R.val) l = contrib m c t h R l := by
  have e : qrow t (Fin.ofNat 512 R.val) = R := Fin.ext (by show t.val % 8 * 512 + R.val % 512 = R.val; omega)
  refine Finset.sum_congr rfl fun k _ => ?_
  rw [grad_eq m c t hij, e, ← read_k m c t k, ← read_a m c t k]; rfl

/-- The sums after a pair of tiles, at an index. -/
structure Adds (t : Fin cfg0.N) (s s' : Sums) : Prop where
  q : ∀ R l, s'.1 (ix2 R l) = s.1 (ix2 R l) + termQ m c t R l
  r : ∀ R l, s'.2.1 (ix2 R l) = s.2.1 (ix2 R l) + termR m c t R l
  k : ∀ h k l, s'.2.2.1 (ix3 h k l) = s.2.2.1 (ix3 h k l) + termK m c t h k l
  v : ∀ k l, s'.2.2.2 (ix2 k l) = s.2.2.2 (ix2 k l) + termV m c t k l

theorem next_adds (t : Fin cfg0.N) (hij : t.val / 8 % 8 ≤ t.val % 8) (s : Sums) : Adds m c t s (next m c t (weights m c t) s) where
  q R l := by
    refine congrArg (s.1 (ix2 R l) + ·) ?_
    show (if R.val / 512 = t.val % 8 then addQ m c t (weights m c t) (Fin.ofNat 512 R.val) l else 0) = _
    rw [termQ]
    refine if_ctx_congr Iff.rfl (fun hR => ?_) fun _ => rfl
    rw [addQ, mix, across_term m c t hij 0 R hR, across_term m c t hij 1 R hR]
  r R l := by
    refine congrArg (s.2.1 (ix2 R l) + ·) ?_
    show (if R.val / 512 = t.val % 8 then addR m c t (weights m c t) (Fin.ofNat 512 R.val) l else 0) = _
    rw [termR]
    refine if_ctx_congr Iff.rfl (fun hR => ?_) fun _ => rfl
    rw [addR, mix, across_term m c t hij 0 R hR, across_term m c t hij 1 R hR]
  k h k l := by
    refine congrArg (s.2.2.1 (ix3 h k l) + ·) ?_
    show (if h.val = 0 then addK m c 0 t (weights m c t) k l else addK m c 1 t (weights m c t) k l) = _
    obtain rfl | rfl : h = 0 ∨ h = 1 := by omega
    · rw [if_pos (show (0 : Fin 2).val = 0 from rfl), addK_eq m c t hij]
    · rw [if_neg (by decide), addK_eq m c t hij]
  v k l := congrArg (s.2.2.2 (ix2 k l) + ·) (addV_eq m c t hij k l)

/-- The sums a pair of tiles adds to: the rows' sums begin with a pair of heads, the keys' with a tile of keys. -/
def start (t : Fin cfg0.N) : Sums :=
  (if t.val % 64 = 0 then zeros.1 else (sums m c (t.val - 1) (by omega)).1, if t.val % 64 = 0 then zeros.2.1 else (sums m c (t.val - 1) (by omega)).2.1,
    if t.val % 8 = 0 then zeros.2.2 else (sums m c (t.val - 1) (by omega)).2.2)

theorem start_eq (t : Fin cfg0.N) (h : ¬t.val % 8 = 0) : start m c t = sums m c (t.val - 1) (by omega) := by
  rw [start, if_neg (show ¬t.val % 64 = 0 by omega), if_neg (show ¬t.val % 64 = 0 by omega), if_neg h]

/-- Every pair of tiles adds its terms, and what the last pair of a tile of keys writes is read off the sums. -/
theorem step (t : Fin cfg0.N) : ∃ s, Adds m c t (start m c t) s ∧ sums m c t.val t.isLt = (if t.val % 64 = 63 then scaled s else s) ∧ (t.val % 8 = 7 → outs m c t = written s) := by
  have hN : t.val < 512 := lt_of_lt_of_eq t.isLt (show cfg0.N = 512 from N_0)
  rcases lt_trichotomy (t.val / 8 % 8) (t.val % 8) with h | h | h
  · obtain ⟨h1, h2⟩ := below m c t h
    rw [show (fun i => full m c i t) = weights m c t from funext (full_eq m c t h), ← start_eq m c t (by omega)] at h1 h2
    refine ⟨_, next_adds m c t h.le _, ?_, fun h7 => (h2 h7).2⟩
    rw [if_neg (show ¬t.val % 64 = 63 by omega)]
    by_cases h7 : t.val % 8 = 7
    · exact (h2 h7).1
    · exact h1 h7
  · obtain ⟨h1, h2, h3⟩ := diagonal m c t h
    rw [show (fun i => diag m c i t) = weights m c t from funext (diag_eq m c t h)] at h1 h2 h3
    refine ⟨_, next_adds m c t h.le _, ?_, fun h7 => ?_⟩
    · by_cases h0 : t.val % 64 = 0
      · rw [if_neg (show ¬t.val % 64 = 63 by omega), h1 h0, start, if_pos h0, if_pos h0, if_pos (show t.val % 8 = 0 by omega)]
      · rw [start_eq m c t (by omega)]
        by_cases h63 : t.val % 64 = 63
        · rw [if_pos h63, (h3 h63).1]
        · rw [if_neg h63, h2 h0 h63]
    · rw [start_eq m c t (by omega)]
      exact (h3 (by omega)).2
  · obtain ⟨h1, h2⟩ := above m c t h
    refine ⟨sums m c t.val t.isLt, ?_, by rw [if_neg (show ¬t.val % 64 = 63 by omega)], fun h7 => absurd h (by omega)⟩
    have e : sums m c t.val t.isLt = start m c t := by
      by_cases h8 : t.val % 8 = 0
      · rw [h1 h8, start, if_neg (show ¬t.val % 64 = 0 by omega), if_neg (show ¬t.val % 64 = 0 by omega), if_pos h8]
      · rw [h2 h8, start_eq m c t h8]
    rw [e]
    have z : ∀ i R l, R.val / 512 = t.val % 8 → contrib m c t i R l = 0 := fun i R l hR => Finset.sum_eq_zero fun k _ => by
      rw [← show qrow t (Fin.ofNat 512 R.val) = R from Fin.ext (by show t.val % 8 * 512 + R.val % 512 = R.val; omega), ds_above m c t h, zero_mul]
    refine ⟨fun R l => ?_, fun R l => ?_, fun i k l => ?_, fun k l => ?_⟩
    · rw [termQ]
      split_ifs with hR
      · rw [z 0 R l hR, add_zero]
      · rw [z 1 R l hR, add_zero]
      · rw [add_zero]
    · rw [termR]
      split_ifs with hR
      · rw [z 1 R l hR, add_zero]
      · rw [z 0 R l hR, add_zero]
      · rw [add_zero]
    · rw [termK, Finset.sum_eq_zero fun r _ => by rw [ds_above m c t h, zero_mul], add_zero]
    · rw [termV, Finset.sum_eq_zero fun r _ => by rw [weights_above m c t h, zero_mul], Finset.sum_eq_zero fun r _ => by rw [weights_above m c t h, zero_mul], add_zero, add_zero]

end Cert.AttnKernelIdeal.Tile

end
-- ==== Proof.AttnArray.lean ====
module

public import proofs.«01_k».proof.Proof.AttnSum

@[expose] public section

set_option maxRecDepth 16384

noncomputable section

namespace Cert.AttnKernelIdeal.Tile

open Cert.AttnKernelIdeal Cert.AttnKernelIdeal.Gen Idealize.ShloMosaic Idealize.ShloMosaic.TcCoe

namespace Ops

variable (x : Ops) (p : Fin 8) (h : Fin 2)

/-- A head's sums over the queries: the keys' rows … -/
def dk (C : Fin 4096) (l : Fin 128) : EReal := ∑ R, x.ds p h R C * queryRow h (x.q p R) l

/-- … and the values', both heads'; -/
def dv (C : Fin 4096) (l : Fin 128) : EReal := (∑ R, x.weight p 0 R C * ownRow 0 (x.g p R) l) + ∑ R, x.weight p 1 R C * ownRow 1 (x.g p R) l

/-- its sum over the keys. -/
def dq (R : Fin 4096) (l : Fin 128) : EReal := ∑ C, x.ds p h R C * keyRow h (x.k p C) (x.a p C) l

end Ops

variable (m : (ℓ : Loc nD τ sig) → Buf (Elt Ideal) ℓ) (c : Dev nD)

theorem sums_snd (t : Fin cfg0.N) : ∃ s, Adds m c t (start m c t) s ∧ (sums m c t.val t.isLt).2 = s.2 ∧ (t.val % 8 = 7 → outs m c t = written s) := by
  obtain ⟨s, a, e, w⟩ := step m c t
  refine ⟨s, a, ?_, w⟩
  rw [e]; split_ifs <;> rfl

/-- The points of a tile of keys. -/
theorem run_keys (t t' : Fin cfg0.N) (s : Fin 8) (r k : Fin 512) (hl : s.val * 512 + r.val < 4096) (e : t'.val = 8 * (t.val / 8) + s.val) :
    heads t' = heads t ∧ krow t' k = krow t k ∧ qrow t' r = ⟨s.val * 512 + r.val, hl⟩ := by
  refine ⟨Fin.ext ?_, Fin.ext ?_, Fin.ext ?_⟩
  · show t'.val / 64 % 8 = t.val / 64 % 8; omega
  · show t'.val / 8 % 8 * 512 + k.val = t.val / 8 % 8 * 512 + k.val; omega
  · show t'.val % 8 * 512 + r.val = s.val * 512 + r.val; omega

/-- The keys' sums at the last tile of queries. -/
theorem last_k (t : Fin cfg0.N) (h7 : t.val % 8 = 7) (h : Fin 2) (k : Fin 512) (l : Fin 128) : (sums m c t.val t.isLt).2.2.1 (ix3 h k l) = (ops m c).dk (heads t) h (krow t k) l := by
  have e := Pipeline.eq_sum_fin_of_reset_step_apply_of_flush (M := EReal) (ι := Fin 2 × Fin 512 × Fin 128) (fun n hn i => (sums m c n hn).2.2.1 (ix3 i.1 i.2.1 i.2.2)) 8 (fun _ => 0)
    (fun t i => termK m c t i.1 i.2.1 i.2.2)
    (fun t h0 i => by
      obtain ⟨s, a, e, -⟩ := sums_snd m c t
      rw [e, a.k, start, if_pos h0]; exact congrArg (· + _) Ideal.ofBits_zero_f32)
    (fun t h0 i => by
      obtain ⟨s, a, e, -⟩ := sums_snd m c t
      rw [e, a.k, start_eq m c t h0])
    t h7 (h, k, l)
  refine e.trans ((zero_add _).trans ?_)
  refine Fin.sum_mul_add_congr (S := 8) (n := 512) (f := fun R => (ops m c).ds (heads t) h R (krow t k) * queryRow h ((ops m c).q (heads t) R) l) fun s r hl => ?_
  obtain ⟨e1, e2, e3⟩ := run_keys t ⟨8 * (t.val / 8) + s.val, Pipeline.run_point_lt_of_flush t h7 s⟩ s r k hl rfl
  simp only [e1, e2, e3]

/-- The values' sums at the last tile of queries. -/
theorem last_v (t : Fin cfg0.N) (h7 : t.val % 8 = 7) (k : Fin 512) (l : Fin 128) : (sums m c t.val t.isLt).2.2.2 (ix2 k l) = (ops m c).dv (heads t) (krow t k) l := by
  have e := Pipeline.eq_sum_fin_of_reset_step_apply_of_flush (M := EReal) (ι := Fin 512 × Fin 128) (fun n hn i => (sums m c n hn).2.2.2 (ix2 i.1 i.2)) 8 (fun _ => 0)
    (fun t i => termV m c t i.1 i.2)
    (fun t h0 i => by
      obtain ⟨s, a, e, -⟩ := sums_snd m c t
      rw [e, a.v, start, if_pos h0]; exact congrArg (· + _) Ideal.ofBits_zero_f32)
    (fun t h0 i => by
      obtain ⟨s, a, e, -⟩ := sums_snd m c t
      rw [e, a.v, start_eq m c t h0])
    t h7 (k, l)
  refine e.trans ((zero_add _).trans (Finset.sum_add_distrib.trans (congrArg₂ (fun a b : EReal => a + b) ?_ ?_)))
  · refine Fin.sum_mul_add_congr (S := 8) (n := 512) (f := fun R => (ops m c).weight (heads t) 0 R (krow t k) * ownRow 0 ((ops m c).g (heads t) R) l) fun s r hl => ?_
    obtain ⟨e1, e2, e3⟩ := run_keys t ⟨8 * (t.val / 8) + s.val, Pipeline.run_point_lt_of_flush t h7 s⟩ s r k hl rfl
    simp only [e1, e2, e3]
  · refine Fin.sum_mul_add_congr (S := 8) (n := 512) (f := fun R => (ops m c).weight (heads t) 1 R (krow t k) * ownRow 1 ((ops m c).g (heads t) R) l) fun s r hl => ?_
    obtain ⟨e1, e2, e3⟩ := run_keys t ⟨8 * (t.val / 8) + s.val, Pipeline.run_point_lt_of_flush t h7 s⟩ s r k hl rfl
    simp only [e1, e2, e3]

/-- A row's sum over the points of a pair of heads: the points of its own tile of queries alone count. -/
theorem run_rows (t : Fin cfg0.N) (h : t.val % 64 = 63) (R : Fin 4096) (l : Fin 128) (i : Fin 2) :
    (∑ s : Fin 64, if R.val / 512 = (64 * (t.val / 64) + s.val) % 8 then contrib m c ⟨64 * (t.val / 64) + s.val, Pipeline.run_point_lt_of_flush t h s⟩ i R l else 0)
      = (ops m c).dq (heads t) i R l := by
  have hR := R.isLt
  refine (Fin.sum_mul_add_congr (S := 8) (n := 8) (F := fun j r => if R.val / 512 = (64 * (t.val / 64) + (j.val * 8 + r.val)) % 8 then contrib m c ⟨64 * (t.val / 64) + (j.val * 8 + r.val),
      Pipeline.run_point_lt_of_flush t h ⟨j.val * 8 + r.val, by omega⟩⟩ i R l else 0) (f := fun s : Fin 64 => if R.val / 512 = (64 * (t.val / 64) + s.val) % 8 then contrib m c ⟨64 * (t.val / 64) + s.val,
    Pipeline.run_point_lt_of_flush t h s⟩ i R l else 0) fun j r hl => rfl).symm.trans ?_
  refine Eq.trans (Finset.sum_congr rfl fun j _ => ?_) (Fin.sum_mul_add_congr (S := 8) (n := 512)
    (F := fun j k => (ops m c).ds (heads t) i R ⟨j.val * 512 + k.val, by omega⟩ * keyRow i ((ops m c).k (heads t) ⟨j.val * 512 + k.val, by omega⟩) ((ops m c).a (heads t) ⟨j.val * 512 + k.val, by omega⟩) l)
    fun j k hl => rfl)
  rw [Finset.sum_eq_single (⟨R.val / 512, by omega⟩ : Fin 8) (fun r _ hr => if_neg fun e => hr (Fin.ext (by
    have e : R.val / 512 = (64 * (t.val / 64) + (j.val * 8 + r.val)) % 8 := e
    show r.val = R.val / 512; omega))) (fun hm => absurd (Finset.mem_univ _) hm)]
  rw [if_pos (show R.val / 512 = (64 * (t.val / 64) + (j.val * 8 + R.val / 512)) % 8 by omega)]
  have e1 : ∀ t' : Fin cfg0.N, t'.val = 64 * (t.val / 64) + (j.val * 8 + R.val / 512) → heads t' = heads t := fun t' e => Fin.ext (by
    show t'.val / 64 % 8 = t.val / 64 % 8; omega)
  have e2 : ∀ (t' : Fin cfg0.N) k, t'.val = 64 * (t.val / 64) + (j.val * 8 + R.val / 512) → krow t' k = ⟨j.val * 512 + k.val, by omega⟩ := fun t' k e => Fin.ext (by
    show t'.val / 8 % 8 * 512 + k.val = j.val * 512 + k.val; omega)
  simp only [contrib]
  rw [e1 _ rfl]
  refine Finset.sum_congr rfl fun k _ => ?_
  rw [e2 _ k rfl]

/-- A run of additions over the points of a pair of heads: of one head's terms in the first lanes and of the other's in the rest. -/
theorem run_pair (t : Fin cfg0.N) (h : t.val % 64 = 63) (a b : Fin 2) (f : (n : ℕ) → n < cfg0.N → Fin 4096 × Fin 128 → EReal)
    (h0 : ∀ t : Fin cfg0.N, t.val % 64 = 0 → ∀ i, f t.val t.isLt i = 0 + if i.1.val / 512 = t.val % 8 then (if i.2.val < 64 then contrib m c t a i.1 i.2 else contrib m c t b i.1 i.2) else 0)
    (hs : ∀ t : Fin cfg0.N, ¬t.val % 64 = 0 → ∀ i, f t.val t.isLt i = f (t.val - 1) (by omega) i
      + if i.1.val / 512 = t.val % 8 then (if i.2.val < 64 then contrib m c t a i.1 i.2 else contrib m c t b i.1 i.2) else 0) (R : Fin 4096) (l : Fin 128) :
    f t.val t.isLt (R, l) = if l.val < 64 then (ops m c).dq (heads t) a R l else (ops m c).dq (heads t) b R l := by
  have e := Pipeline.eq_sum_fin_of_reset_step_apply_of_flush (M := EReal) (ι := Fin 4096 × Fin 128) f 64 (fun _ => 0) _ h0 hs t h (R, l)
  refine e.trans ((zero_add _).trans ?_)
  split_ifs with hl
  · exact run_rows m c t h R l a
  · exact run_rows m c t h R l b

/-- The row sums at the last point of a pair of heads. -/
theorem last_r (t : Fin cfg0.N) (h : t.val % 64 = 63) (R : Fin 4096) (l : Fin 128) :
    (sums m c t.val t.isLt).2.1 (ix2 R l) = if l.val < 64 then (ops m c).dq (heads t) 1 R l else (ops m c).dq (heads t) 0 R l := by
  refine run_pair m c t h 1 0 (fun n hn i => (sums m c n hn).2.1 (ix2 i.1 i.2)) (fun t h0 i => ?_) (fun t h0 i => ?_) R l
  · obtain ⟨s, a, e, -⟩ := sums_snd m c t
    rw [e, a.r, start, if_pos h0, if_pos h0]; exact congrArg (· + _) Ideal.ofBits_zero_f32
  · obtain ⟨s, a, e, -⟩ := sums_snd m c t
    rw [e, a.r, start, if_neg h0, if_neg h0]; rfl

/-- The queries' rows at the last point of a pair of heads, scaled. -/
theorem last_q (t : Fin cfg0.N) (h : t.val % 64 = 63) (R : Fin 4096) (l : Fin 128) :
    (sums m c t.val t.isLt).1 (ix2 R l) = (if l.val < 64 then (ops m c).dq (heads t) 0 R l else (ops m c).dq (heads t) 1 R l) * Ideal.ofBits .f32 1040187392#32 := by
  have e := run_pair m c t h 0 1 (fun n hn i => if n % 64 = 63 then (start m c ⟨n, hn⟩).1 (ix2 i.1 i.2) + termQ m c ⟨n, hn⟩ i.1 i.2 else (sums m c n hn).1 (ix2 i.1 i.2)) (fun t h0 i => ?_) (fun t h0 i => ?_) R l
  · rw [← e, if_pos h]
    obtain ⟨s, a, e, -⟩ := step m c t
    rw [e, if_pos h]
    exact congrArg (· * _) (a.q R l)
  · obtain ⟨s, a, e, -⟩ := step m c t
    rw [if_neg (show ¬t.val % 64 = 63 by omega), e, if_neg (show ¬t.val % 64 = 63 by omega), a.q, start, if_pos h0]; exact congrArg (· + _) Ideal.ofBits_zero_f32
  · rw [if_neg (show ¬(t.val - 1) % 64 = 63 by omega)]
    have e1 : (start m c t).1 = (sums m c (t.val - 1) (by omega)).1 := by rw [start, if_neg h0]
    by_cases h63 : t.val % 64 = 63
    · rw [if_pos h63, e1]; rfl
    · obtain ⟨s, a, e, -⟩ := step m c t
      rw [if_neg h63, e, if_neg h63, a.q, e1]; rfl

/-- The pair of heads and the lane of a column. -/
def pairOf (w : Fin 1024) : Fin 8 := Fin.ofNat 8 (w.val / 128)
def laneOf (w : Fin 1024) : Fin 128 := Fin.ofNat 128 w.val

/-- Of two heads' rows, the first's in the lanes of the first and the second's in those of the second. -/
def lanes (f : Fin 8 → Fin 2 → Fin 4096 → Fin 128 → EReal) (a b : Fin 2) (R : Fin 4096) (w : Fin 1024) : EReal :=
  if w.val % 128 < 64 then f (pairOf w) a R (laneOf w) else f (pairOf w) b R (laneOf w)

theorem column (t : Fin cfg0.N) (w : Fin 1024) (l : Fin 128) (e : w.val = t.val / 64 * 128 + l.val) : pairOf w = heads t ∧ laneOf w = l :=
  ⟨Fin.ext (by show w.val / 128 % 8 = t.val / 64 % 8; omega), Fin.ext (by show w.val % 128 = l.val; omega)⟩

theorem flushes : ∀ t : Fin cfg0.N, (win0_7.flush t = true → t.val % 64 = 63) ∧ (win0_8.flush t = true → t.val % 8 = 7) ∧ (win0_9.flush t = true → t.val % 8 = 7)
    ∧ (win0_10.flush t = true → t.val % 8 = 7) ∧ (win0_11.flush t = true → t.val % 64 = 63) :=
  (by decide +kernel : ∀ t : Fin grid0.N, _)

/-- The array of the queries' gradient. -/
theorem array_q : (dats m 0 c).arrAt 7 cfg0.N = fun i : S4096x1024.Idx => lanes (ops m c).dq 0 1 (i 0) (i 1) * Ideal.ofBits .f32 1040187392#32 := by
  refine (dats m 0 c).arrAt_eq_of_covers 7 _ (by decide +kernel) fun t hf y => ?_
  have hN : t.val < 512 := lt_of_lt_of_eq t.isLt (show cfg0.N = 512 from N_0)
  have h7 := (flushes t).1 hf
  have i := (index t).2.2.2.2.2.2.2.1
  idx_vars y
  blk_simp
  have e : (win0_7.blk t).view.emb (ix2 y0 y1) = ix2 (y0) (⟨t.val / 64 * 128 + y1.val, by omega⟩ : Fin 1024) := by
    refine ix2_of _ _ _ ?_ ?_
    · show win0_7.index t 0 * 4096 + 1 * y0.val = _
      rw [i]; show 0 * 4096 + 1 * y0.val = y0.val; omega
    · show win0_7.index t 1 * 128 + 1 * y1.val = _
      rw [i]; show t.val / 64 * 128 + 1 * y1.val = t.val / 64 * 128 + y1.val; omega
  obtain ⟨e1, e2⟩ := column t ⟨t.val / 64 * 128 + y1.val, by omega⟩ y1 rfl
  have e3 : (t.val / 64 * 128 + y1.val) % 128 = y1.val := by omega
  rw [after0_7, e]
  refine (last_q m c t h7 y0 y1).trans ?_
  show _ = lanes (ops m c).dq 0 1 y0 ⟨t.val / 64 * 128 + y1.val, _⟩ * _
  rw [lanes, e1, e2]; simp only [e3]

/-- The array of the keys' gradient. -/
theorem array_k : (dats m 0 c).arrAt 8 cfg0.N = fun i : S4096x1024.Idx => lanes (ops m c).dk 0 1 (i 0) (i 1) := by
  refine (dats m 0 c).arrAt_eq_of_covers 8 _ (by decide +kernel) fun t hf y => ?_
  have hN : t.val < 512 := lt_of_lt_of_eq t.isLt (show cfg0.N = 512 from N_0)
  have h7 := (flushes t).2.1 hf
  have i := (index t).2.2.2.2.2.2.2.2.1
  idx_vars y
  blk_simp
  have e : (win0_8.blk t).view.emb (ix2 y0 y1) = ix2 (krow t y0) (⟨t.val / 64 * 128 + y1.val, by omega⟩ : Fin 1024) := by
    refine ix2_of _ _ _ ?_ ?_
    · show win0_8.index t 0 * 512 + 1 * y0.val = _
      rw [i]; show t.val / 8 % 8 * 512 + 1 * y0.val = t.val / 8 % 8 * 512 + y0.val; omega
    · show win0_8.index t 1 * 128 + 1 * y1.val = _
      rw [i]; show t.val / 64 * 128 + 1 * y1.val = t.val / 64 * 128 + y1.val; omega
  obtain ⟨e1, e2⟩ := column t ⟨t.val / 64 * 128 + y1.val, by omega⟩ y1 rfl
  have e3 : (t.val / 64 * 128 + y1.val) % 128 = y1.val := by omega
  rw [after0_8, e]
  obtain ⟨s, -, es, o⟩ := sums_snd m c t
  refine (congrFun (congrArg (fun x => x.1) (o h7)) (ix2 y0 y1)).trans ?_
  show (if y1.val < 64 then s.2.2.1 (ix3 0 y0 y1) else s.2.2.1 (ix3 1 y0 y1)) = lanes (ops m c).dk 0 1 (krow t y0) ⟨t.val / 64 * 128 + y1.val, _⟩
  rw [lanes, e1, e2, ← es, last_k m c t h7, last_k m c t h7]; simp only [e3]

/-- The array of the values' gradient. -/
theorem array_v : (dats m 0 c).arrAt 9 cfg0.N = fun i : S4096x1024.Idx => (ops m c).dv (pairOf (i 1)) (i 0) (laneOf (i 1)) := by
  refine (dats m 0 c).arrAt_eq_of_covers 9 _ (by decide +kernel) fun t hf y => ?_
  have hN : t.val < 512 := lt_of_lt_of_eq t.isLt (show cfg0.N = 512 from N_0)
  have h7 := (flushes t).2.2.1 hf
  have i := (index t).2.2.2.2.2.2.2.2.2.1
  idx_vars y
  blk_simp
  have e : (win0_9.blk t).view.emb (ix2 y0 y1) = ix2 (krow t y0) (⟨t.val / 64 * 128 + y1.val, by omega⟩ : Fin 1024) := by
    refine ix2_of _ _ _ ?_ ?_
    · show win0_9.index t 0 * 512 + 1 * y0.val = _
      rw [i]; show t.val / 8 % 8 * 512 + 1 * y0.val = t.val / 8 % 8 * 512 + y0.val; omega
    · show win0_9.index t 1 * 128 + 1 * y1.val = _
      rw [i]; show t.val / 64 * 128 + 1 * y1.val = t.val / 64 * 128 + y1.val; omega
  obtain ⟨e1, e2⟩ := column t ⟨t.val / 64 * 128 + y1.val, by omega⟩ y1 rfl
  have e3 : (t.val / 64 * 128 + y1.val) % 128 = y1.val := by omega
  rw [after0_9, e]
  obtain ⟨s, -, es, o⟩ := sums_snd m c t
  refine (congrFun (congrArg (fun x => x.2.1) (o h7)) (ix2 y0 y1)).trans ((congrFun (congrArg (fun x => x.2.2) es.symm) (ix2 y0 y1)).trans ((last_v m c t h7 y0 y1).trans ?_))
  show _ = (ops m c).dv (pairOf ⟨t.val / 64 * 128 + y1.val, _⟩) (krow t y0) (laneOf ⟨t.val / 64 * 128 + y1.val, _⟩)
  rw [e1, e2]

/-- The array of the column sums. -/
theorem array_s : (dats m 0 c).arrAt 10 cfg0.N = fun i : S4096x1024.Idx => lanes (ops m c).dk 1 0 (i 0) (i 1) := by
  refine (dats m 0 c).arrAt_eq_of_covers 10 _ (by decide +kernel) fun t hf y => ?_
  have hN : t.val < 512 := lt_of_lt_of_eq t.isLt (show cfg0.N = 512 from N_0)
  have h7 := (flushes t).2.2.2.1 hf
  have i := (index t).2.2.2.2.2.2.2.2.2.2.1
  idx_vars y
  blk_simp
  have e : (win0_10.blk t).view.emb (ix2 y0 y1) = ix2 (krow t y0) (⟨t.val / 64 * 128 + y1.val, by omega⟩ : Fin 1024) := by
    refine ix2_of _ _ _ ?_ ?_
    · show win0_10.index t 0 * 512 + 1 * y0.val = _
      rw [i]; show t.val / 8 % 8 * 512 + 1 * y0.val = t.val / 8 % 8 * 512 + y0.val; omega
    · show win0_10.index t 1 * 128 + 1 * y1.val = _
      rw [i]; show t.val / 64 * 128 + 1 * y1.val = t.val / 64 * 128 + y1.val; omega
  obtain ⟨e1, e2⟩ := column t ⟨t.val / 64 * 128 + y1.val, by omega⟩ y1 rfl
  have e3 : (t.val / 64 * 128 + y1.val) % 128 = y1.val := by omega
  rw [after0_10, e]
  obtain ⟨s, -, es, o⟩ := sums_snd m c t
  refine (congrFun (congrArg (fun x => x.2.2) (o h7)) (ix2 y0 y1)).trans ?_
  show (if y1.val < 64 then s.2.2.1 (ix3 1 y0 y1) else s.2.2.1 (ix3 0 y0 y1)) = lanes (ops m c).dk 1 0 (krow t y0) ⟨t.val / 64 * 128 + y1.val, _⟩
  rw [lanes, e1, e2, ← es, last_k m c t h7, last_k m c t h7]; simp only [e3]

/-- The array of the row sums. -/
theorem array_r : (dats m 0 c).arrAt 11 cfg0.N = fun i : S4096x1024.Idx => lanes (ops m c).dq 1 0 (i 0) (i 1) := by
  refine (dats m 0 c).arrAt_eq_of_covers 11 _ (by decide +kernel) fun t hf y => ?_
  have hN : t.val < 512 := lt_of_lt_of_eq t.isLt (show cfg0.N = 512 from N_0)
  have h7 := (flushes t).2.2.2.2 hf
  have i := (index t).2.2.2.2.2.2.2.2.2.2.2
  idx_vars y
  blk_simp
  have e : (win0_11.blk t).view.emb (ix2 y0 y1) = ix2 (y0) (⟨t.val / 64 * 128 + y1.val, by omega⟩ : Fin 1024) := by
    refine ix2_of _ _ _ ?_ ?_
    · show win0_11.index t 0 * 4096 + 1 * y0.val = _
      rw [i]; show 0 * 4096 + 1 * y0.val = y0.val; omega
    · show win0_11.index t 1 * 128 + 1 * y1.val = _
      rw [i]; show t.val / 64 * 128 + 1 * y1.val = t.val / 64 * 128 + y1.val; omega
  obtain ⟨e1, e2⟩ := column t ⟨t.val / 64 * 128 + y1.val, by omega⟩ y1 rfl
  have e3 : (t.val / 64 * 128 + y1.val) % 128 = y1.val := by omega
  rw [after0_11, e]
  refine (last_r m c t h7 y0 y1).trans ?_
  show _ = lanes (ops m c).dq 1 0 y0 ⟨t.val / 64 * 128 + y1.val, _⟩
  rw [lanes, e1, e2]; simp only [e3]

end Cert.AttnKernelIdeal.Tile

end
-- ==== Proof.AttnSpec.lean ====
/-
  The attention of one head as a function of real numbers, and its gradients: what the blocked pass and the plain gradient
  both come to. The scores of a row are those of the columns up to the row; every shift of the scores cancels.
-/
module

public import proofs.«01_k».proof.Proof.Reals
public import Mathlib.Algebra.BigOperators.Fin
public import Mathlib.Analysis.SpecialFunctions.Log.Basic

@[expose] public section

noncomputable section

namespace Cert.Attn

open Idealize.ShloMosaic Cert.Reals

variable {n : ℕ} (s : Fin n → ℝ) (R C : Fin n)

/-- The exponential of a row's score, zero past the row. -/
def e : ℝ := if C ≤ R then Real.exp (s C) else 0

/-- The row's sum of exponentials. -/
def den : ℝ := ∑ K, e s R K

/-- The row's probabilities. -/
def prob : ℝ := e s R C / den s R

theorem e_nonneg : 0 ≤ e s R C := by
  unfold e; split
  · exact (Real.exp_pos _).le
  · exact le_rfl

theorem den_pos : 0 < den s R :=
  Finset.sum_pos' (fun K _ => e_nonneg s R K) ⟨R, Finset.mem_univ _, by rw [e, if_pos le_rfl]; exact Real.exp_pos _⟩

/-- A shift of the scores is a factor of the exponentials. -/
theorem e_shift (a : ℝ) : e (fun K => s K + a) R C = e s R C * Real.exp a := by
  unfold e; split
  · exact Real.exp_add _ _
  · exact (zero_mul _).symm

/-- The exponential of a masked score less a real. -/
theorem masked_exp (M : ℝ) {x : EReal} (hx : x = if C ≤ R then ((s C : ℝ) : EReal) else ⊥) :
    Ideal.exp (x - (M : EReal)) = ((e s R C * Real.exp (-M) : ℝ) : EReal) := by
  by_cases h : C ≤ R
  · rw [hx, if_pos h, ← EReal.coe_sub, Ideal.exp_coe, e, if_pos h, sub_eq_add_neg, Real.exp_add]
  · rw [hx, if_neg h, EReal.bot_sub, Ideal.exp_bot, e, if_neg h, zero_mul, EReal.coe_zero]

/-- The largest of values none of which is `⊤` and one of which is a real is a real. -/
theorem max_real {ι : Type} (t : Finset ι) (f : ι → EReal) (ht : ∀ i, f i ≠ ⊤) (hb : ∃ i ∈ t, f i ≠ ⊥) :
    ∃ M : ℝ, t.fold (fun a b : EReal => max a b) ⊥ f = (M : EReal) := by
  have top : t.fold (fun a b : EReal => max a b) ⊥ f ≠ ⊤ := by
    refine (Finset.fold_max_lt (b := (⊥ : EReal)) (f := f) (s := t) ⊤).mpr ⟨bot_lt_top, fun i _ => lt_top_iff_ne_top.mpr (ht i)⟩ |>.ne
  have bot : t.fold (fun a b : EReal => max a b) ⊥ f ≠ ⊥ := by
    obtain ⟨i, hi, h⟩ := hb
    exact (lt_of_lt_of_le (bot_lt_iff_ne_bot.mpr h) ((Finset.le_fold_max (b := (⊥ : EReal)) (f := f) (s := t) _).mpr (Or.inr ⟨i, hi, le_rfl⟩))).ne'
  exact ⟨_, (EReal.coe_toReal top bot).symm⟩

/-- The row's log-sum as the largest score and the logarithm of a shifted sum. -/
theorem lse_real (M : ℝ) : ((M : ℝ) : EReal) + Ideal.log (((den s R * Real.exp (-M) : ℝ)) : EReal) = ((Real.log (den s R) : ℝ) : EReal) := by
  have h := den_pos s R
  rw [Ideal.log_coe, if_neg (not_le.mpr (mul_pos h (Real.exp_pos _))), ← EReal.coe_add, Real.log_mul h.ne' (Real.exp_pos _).ne', Real.log_exp]
  congr 1; ring

/-- The exponential of a score less the row's log-sum is the probability. -/
theorem weight_real (h : C ≤ R) : Ideal.exp ((s C : EReal) - ((Real.log (den s R) : ℝ) : EReal)) = ((prob s R C : ℝ) : EReal) := by
  rw [← EReal.coe_sub, Ideal.exp_coe, Real.exp_sub, Real.exp_log (den_pos s R), prob, e, if_pos h]

theorem prob_past (h : ¬C ≤ R) : prob s R C = 0 := by rw [prob, e, if_neg h, zero_div]

/-- A sum against shifted exponentials over their sum is a sum against the probabilities. -/
theorem mean_shift (M : ℝ) (v : Fin n → ℝ) :
    (∑ K, e s R K * Real.exp (-M) * v K) / (den s R * Real.exp (-M)) = ∑ K, prob s R K * v K := by
  have h := (den_pos s R).ne'
  have h2 := (Real.exp_pos (-M)).ne'
  rw [Finset.sum_div]
  refine Finset.sum_congr rfl fun K _ => ?_
  rw [prob]; field_simp

/-- The gradient of a score, of the gradients `d` of the probabilities. -/
def ds (d : Fin n → ℝ) : ℝ := prob s R C * (d C - ∑ K, prob s R K * d K)

/-- The gradient of a score as the quotient's two parts give it, with shifted exponentials. -/
theorem ds_quotient (t : ℝ) (ht : 0 < t) (d : Fin n → ℝ) :
    (d C / (den s R * t) + -(0 + ∑ K, d K * (1 / (den s R * t * (den s R * t))) * (e s R K * t))) * (e s R C * t) = ds s R C d := by
  have h := (den_pos s R).ne'
  have e1 : (∑ K, d K * (1 / (den s R * t * (den s R * t))) * (e s R K * t)) = (∑ K, prob s R K * d K) * (1 / (den s R * t)) := by
    rw [Finset.sum_mul]
    refine Finset.sum_congr rfl fun K _ => ?_
    rw [prob]; field_simp
  rw [e1, ds]
  generalize (∑ K, prob s R K * d K) = D
  rw [prob]; field_simp; ring

/-- The sum over two heads' 128 lanes: the head's own and the other's. -/
theorem sum_lanes (h : Fin 2) (f u : Fin 64 → ℝ) :
    (∑ l : Fin 128, if l.val / 64 = h.val then f ⟨l.val % 64, by omega⟩ else u ⟨l.val % 64, by omega⟩) = (∑ d, f d) + ∑ d, u d := by
  rw [show (∑ l : Fin 128, if l.val / 64 = h.val then f ⟨l.val % 64, by omega⟩ else u ⟨l.val % 64, by omega⟩)
      = ∑ l : Fin (64 + 64), if l.val / 64 = h.val then f ⟨l.val % 64, by omega⟩ else u ⟨l.val % 64, by omega⟩ from rfl, Fin.sum_univ_add]
  have a (d : Fin 64) : (Fin.castAdd 64 d).val / 64 = 0 := by simp only [Fin.val_castAdd]; omega
  have b (d : Fin 64) : (Fin.natAdd 64 d).val / 64 = 1 := by simp only [Fin.val_natAdd]; omega
  have a' (d : Fin 64) (w) : (⟨(Fin.castAdd 64 d).val % 64, w⟩ : Fin 64) = d := Fin.ext (by simp only [Fin.val_castAdd]; omega)
  have b' (d : Fin 64) (w) : (⟨(Fin.natAdd 64 d).val % 64, w⟩ : Fin 64) = d := Fin.ext (by simp only [Fin.val_natAdd]; omega)
  simp only [a, b, a', b']
  match h with
  | 0 => simp
  | 1 => simp [add_comm]

/-- The gradient of the mean of values' rows: the mean of the products' sums. -/
theorem mean_dot {k : ℕ} (g : Fin k → ℝ) (v : Fin n → Fin k → ℝ) :
    (∑ d, g d * ∑ K, prob s R K * v K d) = ∑ K, prob s R K * ∑ d, g d * v K d := by
  simp only [Finset.mul_sum]
  rw [Finset.sum_comm]
  exact Finset.sum_congr rfl fun K _ => Finset.sum_congr rfl fun d _ => by ring

end Cert.Attn

end
-- ==== Proof.AttnReference.lean ====
/-
  The reference of the attention's gradients: its stages, read at an index, over real operands.
-/
module

public import proofs.«01_k».proof.Proof.AttnSpec
public import proofs.«01_k».proof.Proof.Masks
public import proofs.«01_k».proof.Proof.Gen.AttnReferenceIdeal.Read
public import Idealize.ShloMosaic.PureOps.Ideal.Laws

@[expose] public section

set_option maxRecDepth 16384

noncomputable section

namespace Cert.AttnReferenceIdeal.Read

open Cert.AttnReferenceIdeal Cert.AttnReferenceIdeal.Gen Idealize.ShloMosaic Idealize.ShloMosaic.TcCoe Cert.Reals Cert.Attn

/-- The word `1 / 8`. -/
theorem wEighth : Ideal.ofBits .f32 1040187392#32 = ((1 / 8 : ℝ) : EReal) := by
  simp [Ideal.ofBits, Ideal.ieee, -EReal.coe_mul]; norm_num

/-- The word of minus infinity. -/
theorem wBot : Ideal.ofBits .f32 0xFF800000#32 = (⊥ : EReal) := by simp [Ideal.ofBits, Ideal.ieee]

/-- The largest of a row of scores, from minus infinity, where no value is infinity and one is a real. -/
theorem row_max (y : S16x4096x4096.Idx → EReal) (init : S_.Idx → EReal)
    {hr : S16x4096x4096.ReducesTo [2] S16x4096} {hu : 0 < S_.numel} (h0 : init (Shape.Idx.first hu) = ⊥)
    (h : Fin 16) (R : Fin 4096) (hb : ∃ C, y (ix3 h R C) ≠ ⊥) (ht : ∀ C, y (ix3 h R C) ≠ ⊤) :
    ∃ M : ℝ, Host.reduce (FloatOps.maximumf (F := Ideal) (φ := .f32)) y init hr hu (ix2 h R) = (M : EReal) := by
  have hs : S16x4096x4096.Reduces [2] S16x4096 := by decide
  rw [Host.reduce_eq_fold_single _ _ _ hr hs]
  have e : ∀ C : Fin 4096, hs.lift (ix2 h R) C = ix3 h R C := fun C => funext fun i => by
    match i with
    | 0 => rfl
    | 1 => rfl
    | 2 => rfl
  rw [h0]
  refine max_real Finset.univ (fun C : Fin 4096 => y (hs.lift (ix2 h R) C)) (fun C => ?_) ?_
  · show y (hs.lift (ix2 h R) C) ≠ ⊤
    rw [e]; exact ht C
  · obtain ⟨C, hC⟩ := hb
    refine ⟨C, Finset.mem_univ _, ?_⟩
    show y (hs.lift (ix2 h R) C) ≠ ⊥
    rw [e]; exact hC

/-- A fold of additions over reals, from a real, is a real. -/
theorem foldl_real {ι : Type} (f : ι → EReal) (l : List ι) (a : EReal) (ha : ∃ r : ℝ, a = (r : EReal)) (hf : ∀ i, ∃ r : ℝ, f i = (r : EReal)) :
    ∃ r : ℝ, l.foldl (fun r i => r + f i) a = (r : EReal) := by
  induction l generalizing a with
  | nil => exact ha
  | cons x l ih =>
    obtain ⟨r, rfl⟩ := ha
    obtain ⟨b, hb⟩ := hf x
    exact ih _ ⟨r + b, (congrArg (fun z : EReal => (r : EReal) + z) hb).trans (EReal.coe_add _ _).symm⟩

/-- A sum of reals over windows is a real. -/
theorem window_real {s t u : Shape} {w st lo hi : Fin s.rank → ℕ} (y : s.Idx → EReal) (init : u.Idx → EReal)
    (hf : s.ReduceWindows w st lo hi t) (hu : 0 < u.numel) (h0 : ∃ r : ℝ, init (Shape.Idx.first hu) = (r : EReal))
    (hy : ∀ i, ∃ r : ℝ, y i = (r : EReal)) (j : t.Idx) :
    ∃ r : ℝ, Host.reduceWindow (fun a b : EReal => a + b) w st lo hi y init hf hu j = (r : EReal) := by
  unfold Host.reduceWindow
  refine foldl_real _ _ _ h0 fun i => ?_
  simp only []
  split
  · exact hy _
  · exact h0

variable {X : (⟨S4096x5136, .f32⟩ : BufTy).Contents (Elt Ideal)} {B : (⟨S16, .f32⟩ : BufTy).Contents (Elt Ideal)}
  {G : (⟨S4096x2048, .f32⟩ : BufTy).Contents (Elt Ideal)} {q k v g : Fin 16 → Fin 4096 → Fin 64 → ℝ} {cs : Fin 16 → Fin 4096 → ℝ}

/-- The logarithm of the gate is a real where the projection and the bias are. -/
theorem log_gate_real (hx : ∀ (r : Fin 4096) (h : Fin 16), ∃ x : ℝ, (X (ix2 r ⟨5120 + h.val, by omega⟩) : EReal) = (x : EReal))
    (hb : ∀ h : Fin 16, ∃ b : ℝ, (B (ix1 h) : EReal) = (b : EReal)) (i : S4096x16.Idx) : ∃ y : ℝ, (val_main_v4 X B i : EReal) = (y : EReal) := by
  idx_vars i
  obtain ⟨x, hx⟩ := hx i0 i1
  obtain ⟨b, hb⟩ := hb i1
  pointwise [val_main_v4, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, val_main_call0_v0, val_main_v3, val_main_v2, val_main_v1, val_main_v0]
  rw [hx, hb, ← EReal.coe_add, if_neg (fun h => h rfl)]
  generalize x + b = f
  have hp : (0 : ℝ) < 1 + Real.exp (-max (-f) f) := by positivity
  have h1 : max (-(f : EReal)) 0 = ((max (-f) 0 : ℝ) : EReal) := by rw [EReal.coe_strictMono.monotone.map_max]; rfl
  have h2 : -FloatOps.absf (F := Ideal) (φ := .f32) (-(f : EReal)) = ((-max (-f) f : ℝ) : EReal) := by
    show -max (-(f : EReal)) (- -(f : EReal)) = _
    rw [neg_neg, EReal.coe_neg, EReal.coe_strictMono.monotone.map_max]; rfl
  refine ⟨-(max (-f) 0 + Real.log (1 + Real.exp (-max (-f) f))), ?_⟩
  rw [h1]
  refine (congrArg (fun z : EReal => -(((max (-f) 0 : ℝ) : EReal) + Ideal.log1p (Ideal.exp z))) h2).trans ?_
  rw [Ideal.exp_coe, Ideal.log1p, ← EReal.coe_one, ← EReal.coe_add, Ideal.log_coe, if_neg (not_le.mpr hp), ← EReal.coe_add, ← EReal.coe_neg]

/-- The running sum of the gate's logarithm is a real. -/
theorem sums_real (hx : ∀ (r : Fin 4096) (h : Fin 16), ∃ x : ℝ, (X (ix2 r ⟨5120 + h.val, by omega⟩) : EReal) = (x : EReal))
    (hb : ∀ h : Fin 16, ∃ b : ℝ, (B (ix1 h) : EReal) = (b : EReal)) (i : S4096x16.Idx) : ∃ y : ℝ, (val_main_v5 X B i : EReal) = (y : EReal) := by
  unfold val_main_v5 Host.reduceWindowAdd
  have h0 : (val_main_call1_call0_v0 (F := Ideal) (Shape.Idx.first h_S_) : EReal) = 0 := by
    pointwise [val_main_call1_call0_v0, val_main_call1_call0_cst]
  have hy := log_gate_real hx hb
  generalize val_main_v4 X B = y at hy ⊢
  rw [Ideal.hostReduceWindowAdd_def, Ideal.hostReduceWindowAdd]
  exact window_real y (fun _ => val_main_call1_call0_v0 (F := Ideal) (Shape.Idx.first h_S_)) _ _ ⟨0, h0⟩ hy i

/-- The heads of the projection's columns from `2048` on: queries, keys, values. -/
theorem queries (h : Fin 16) (r : Fin 4096) (d : Fin 64) :
    (val_main_v10 X (ix3 h r d) : EReal) = X (ix2 r ⟨2048 + (h.val * 64 + d.val), by omega⟩) := by
  pointwise [val_main_v10, val_main_v9, val_main_v6]

theorem keys (h : Fin 16) (r : Fin 4096) (d : Fin 64) :
    (val_main_v12 X (ix3 h r d) : EReal) = X (ix2 r ⟨3072 + (h.val * 64 + d.val), by omega⟩) := by
  pointwise [val_main_v12, val_main_v11, val_main_v7]

theorem values (h : Fin 16) (r : Fin 4096) (d : Fin 64) :
    (val_main_v14 X (ix3 h r d) : EReal) = X (ix2 r ⟨4096 + (h.val * 64 + d.val), by omega⟩) := by
  pointwise [val_main_v14, val_main_v13, val_main_v8]

/-- The cotangent's heads. -/
theorem cotangents (h : Fin 16) (r : Fin 4096) (d : Fin 64) :
    (val_main_v67 G (ix3 h r d) : EReal) = G (ix2 r ⟨1024 + (h.val * 64 + d.val), by omega⟩) := by
  pointwise [val_main_v67, val_main_v66, val_main_v65]

/-- The mask: the columns up to the row. -/
theorem mask (h : Fin 16) (R C : Fin 4096) : val_main_v33_1 (F := Ideal) (ix3 h R C) = 1#1 ↔ C ≤ R := by
  pointwise [val_main_v33_1, val_main_v32, val_main_v31, val_main_v30, val_main_v29, val_main_v28, val_main_v27, val_main_v26]
  exact (Masks.sge (by omega) (by omega)).trans Iff.rfl

/-- A row's score but for the row's own term. -/
def rowScore (q k : Fin 16 → Fin 4096 → Fin 64 → ℝ) (cs : Fin 16 → Fin 4096 → ℝ) (h : Fin 16) (R C : Fin 4096) : ℝ :=
  (∑ d, q h R d * k h C d) * (1 / 8) - cs h C

/-- The gradient of a probability. -/
def dprob (g v : Fin 16 → Fin 4096 → Fin 64 → ℝ) (h : Fin 16) (R C : Fin 4096) : ℝ := ∑ d, g h R d * v h C d

/-- The gradient of a score. -/
def dscore (q k v g : Fin 16 → Fin 4096 → Fin 64 → ℝ) (cs : Fin 16 → Fin 4096 → ℝ) (h : Fin 16) (R C : Fin 4096) : ℝ :=
  ds (rowScore q k cs h R) R C (dprob g v h R)

/-- The operands are real numbers. -/
structure Real4 (X : (⟨S4096x5136, .f32⟩ : BufTy).Contents (Elt Ideal)) (B : (⟨S16, .f32⟩ : BufTy).Contents (Elt Ideal))
    (G : (⟨S4096x2048, .f32⟩ : BufTy).Contents (Elt Ideal)) (q k v g : Fin 16 → Fin 4096 → Fin 64 → ℝ) (cs : Fin 16 → Fin 4096 → ℝ) : Prop where
  q : ∀ h r d, (val_main_v10 X (ix3 h r d) : EReal) = (q h r d : EReal)
  k : ∀ h r d, (val_main_v12 X (ix3 h r d) : EReal) = (k h r d : EReal)
  v : ∀ h r d, (val_main_v14 X (ix3 h r d) : EReal) = (v h r d : EReal)
  g : ∀ h r d, (val_main_v67 G (ix3 h r d) : EReal) = (g h r d : EReal)
  c : ∀ h r, (val_main_v5 X B (ix2 r h) : EReal) = (cs h r : EReal)

variable (o : Real4 X B G q k v g cs)

/-- Products of real rows. -/
theorem dot_real {ι : Type} [Fintype ι] {a b : ι → EReal} {x y : ι → ℝ} (ha : ∀ i, a i = (x i : EReal)) (hb : ∀ i, b i = (y i : EReal)) :
    (∑ i, a i * b i) = ((∑ i, x i * y i : ℝ) : EReal) :=
  sum_eq_coe fun i _ => by rw [ha, hb, EReal.coe_mul]

include o in
theorem scores (h : Fin 16) (R C : Fin 4096) : (val_main_v25 X B (ix3 h R C) : EReal) = ((rowScore q k cs h R C + cs h R : ℝ) : EReal) := by
  have hq := o.q; have hk := o.k; have hc := o.c
  unfold val_main_v25 val_main_v24 val_main_v23 val_main_v22 val_main_v21 val_main_v20 val_main_v19 val_main_v18 val_main_v17 val_main_v16 val_main_v15
  generalize val_main_v10 X = a at hq ⊢
  generalize val_main_v12 X = b at hk ⊢
  generalize val_main_v5 X B = e at hc ⊢
  pointwise [val_main_cst]
  rw [wEighth, dot_real (hq h R) (hk h C), hc, hc, ← EReal.coe_mul, ← EReal.coe_add, ← EReal.coe_sub, rowScore]
  congr 1; ring

include o in
/-- The masked score. -/
theorem masked (h : Fin 16) (R C : Fin 4096) :
    (val_main_v33_0 X B (ix3 h R C) : EReal) = if C ≤ R then ((rowScore q k cs h R C + cs h R : ℝ) : EReal) else ⊥ := by
  have e2 : (val_main_call2_v2 (F := Ideal) (ix3 h R C) : EReal) = ⊥ := by
    pointwise [val_main_call2_v2, val_main_call2_v0, val_main_cst_0]
    exact wBot
  rw [val_main_v33_0_apply]
  refine (if_congr (mask h R C) (scores o h R C) e2)

include o in
/-- The row's largest score is a real. -/
theorem largest (h : Fin 16) (R : Fin 4096) : ∃ M : ℝ, (val_main_v34 X B (ix2 h R) : EReal) = (M : EReal) := by
  have hm := masked o h R
  unfold val_main_v34
  generalize val_main_v33_0 X B = y at hm ⊢
  exact row_max y _ wBot h R ⟨R, by rw [hm, if_pos le_rfl]; exact EReal.coe_ne_bot _⟩ fun C => by
    rw [hm]; split
    · exact EReal.coe_ne_top _
    · exact bot_ne_top

theorem largest_at (h : Fin 16) (R C : Fin 4096) {M : ℝ} (hM : (val_main_v34 X B (ix2 h R) : EReal) = (M : EReal)) :
    (val_main_v52 X B (ix3 h R C) : EReal) = (M : EReal) := by
  have h0 : (val_main_v40 (F := Ideal) (ix2 h R) : EReal) = ⊥ := by rw [val_main_v40_apply, val_main_cst_3_apply]; exact wBot
  rw [val_main_v52_apply, val_main_v51_apply]
  have hi : idx_main_v51 (idx_main_v52 (ix3 h R C)) = ix2 h R := funext fun a => Fin.ext (by
    match a with
    | 0 => rfl
    | 1 => rfl)
  rw [hi, val_main_v41_apply]
  generalize val_main_v34 X B (ix2 h R) = z at hM ⊢
  generalize val_main_v40 (F := Ideal) (ix2 h R) = y at h0 ⊢
  subst hM h0
  exact max_eq_right bot_le

/-- The exponential of a masked score less the row's largest. -/
theorem shifted (h : Fin 16) (R C : Fin 4096) {M : ℝ} {x : EReal} (hM : (val_main_v34 X B (ix2 h R) : EReal) = (M : EReal))
    (hx : (val_main_v33_0 X B (ix3 h R C) : EReal) = x) : (val_main_v54 X B (ix3 h R C) : EReal) = Ideal.exp (x - (M : EReal)) := by
  have hl := largest_at h R C hM
  unfold val_main_v54 val_main_v53
  generalize val_main_v33_0 X B = y at hx ⊢
  generalize val_main_v52 X B = z at hl ⊢
  pointwise
  rw [hx, hl]

include o in
theorem exponential_at (h : Fin 16) (R C : Fin 4096) (M : ℝ) (hM : (val_main_v34 X B (ix2 h R) : EReal) = (M : EReal)) :
    (val_main_v54 X B (ix3 h R C) : EReal) = ((e (rowScore q k cs h R) R C * (Real.exp (cs h R) * Real.exp (-M)) : ℝ) : EReal) := by
  refine (shifted h R C hM (masked o h R C)).trans ?_
  refine (masked_exp (fun C => rowScore q k cs h R C + cs h R) R C M rfl).trans (congrArg Real.toEReal ?_)
  rw [e_shift, mul_assoc]

include o in
/-- The shifted exponentials: the unshifted ones times a positive factor of the row. -/
theorem exponentials : ∃ t : Fin 16 → Fin 4096 → ℝ, (∀ h R, 0 < t h R) ∧
    ∀ h R C, (val_main_v54 X B (ix3 h R C) : EReal) = ((e (rowScore q k cs h R) R C * t h R : ℝ) : EReal) := by
  choose M hM using largest o
  refine ⟨fun h R => Real.exp (cs h R) * Real.exp (-M h R), fun h R => mul_pos (Real.exp_pos _) (Real.exp_pos _), fun h R C => ?_⟩
  exact exponential_at o h R C (M h R) (hM h R)

variable {t : Fin 16 → Fin 4096 → ℝ} (ht : ∀ h R, 0 < t h R)
  (he : ∀ h R C, (val_main_v54 X B (ix3 h R C) : EReal) = ((e (rowScore q k cs h R) R C * t h R : ℝ) : EReal))

include he in
/-- The row's sum of shifted exponentials. -/
theorem sums (h : Fin 16) (R : Fin 4096) : (val_main_v56 X B (ix3 h R 0) : EReal) = ((den (rowScore q k cs h R) R * t h R : ℝ) : EReal) := by
  unfold val_main_v56 val_main_v55
  generalize val_main_v54 X B = y at he ⊢
  pointwise [val_main_cst_9]
  rw [sum_eq_coe fun C _ => he h R C, ← Finset.sum_mul, den]

include ht he in
/-- The probabilities. -/
theorem probs (h : Fin 16) (R C : Fin 4096) : (val_main_v58 X B (ix3 h R C) : EReal) = ((prob (rowScore q k cs h R) R C : ℝ) : EReal) := by
  have hs := sums he h R
  have ht := (ht h R).ne'
  have hd := (den_pos (rowScore q k cs h R) R).ne'
  have he := he h R C
  unfold val_main_v58 val_main_v57
  generalize val_main_v54 X B = y at he ⊢
  generalize val_main_v56 X B = z at hs ⊢
  pointwise
  rw [hs, he, div_coe (mul_ne_zero hd ht), prob, mul_div_mul_right _ _ ht]

include o in
/-- The gradient of a probability: the cotangent's row against the value's. -/
theorem dprobs (h : Fin 16) (R C : Fin 4096) : (val_main_v70 X G (ix3 h R C) : EReal) = ((dprob g v h R C : ℝ) : EReal) := by
  have hg := o.g; have hv := o.v
  unfold val_main_v70
  generalize val_main_v67 G = a at hg ⊢
  generalize val_main_v14 X = b at hv ⊢
  pointwise
  exact dot_real (hg h R) (hv h C)

include o ht he in
/-- The gradient of a score. -/
theorem dscores (h : Fin 16) (R C : Fin 4096) : (val_main_v83 X B G (ix3 h R C) : EReal) = ((dscore q k v g cs h R C : ℝ) : EReal) := by
  have hs := sums he h R
  have hd := dprobs o h R
  have hn : den (rowScore q k cs h R) R * t h R ≠ 0 := (mul_pos (den_pos _ _) (ht h R)).ne'
  have he := he h R
  have e0 : (val_main_call3_v0 (F := Ideal) (ix3 h R C) : EReal) = 0 := by
    pointwise [val_main_call3_v0, val_main_call3_cst]
  have e1 : (val_main_v82 X B G (ix3 h R C) : EReal) = ((dscore q k v g cs h R C : ℝ) : EReal) := by
    unfold val_main_v82 val_main_v81 val_main_v80 val_main_v79 val_main_v78 val_main_v77 val_main_v76 val_main_v75 val_main_v74 val_main_v73 val_main_v72 val_main_v71 val_main_v61 val_main_v60 val_main_v59
    generalize val_main_v54 X B = y at he ⊢
    generalize val_main_v56 X B = z at hs ⊢
    generalize val_main_v70 X G = w at hd ⊢
    pointwise [val_main_cst_10, val_main_cst_11, val_main_cst_12]
    have hs2 : (∑ K, w (ix3 h R K) * Ideal.div 1 (z (ix3 h R 0) * z (ix3 h R 0)) * y (ix3 h R K) : EReal)
        = ((∑ K, dprob g v h R K * (1 / (den (rowScore q k cs h R) R * t h R * (den (rowScore q k cs h R) R * t h R))) * (e (rowScore q k cs h R) R K * t h R) : ℝ) : EReal) := by
      refine sum_eq_coe fun K _ => ?_
      rw [hd, he, hs, ← EReal.coe_mul, ← EReal.coe_one, div_coe (mul_ne_zero hn hn), ← EReal.coe_mul, ← EReal.coe_mul]
    simp only [Finset.univ_unique, Finset.sum_singleton]
    rw [hs2, hd, hs, he, div_coe hn, ← EReal.coe_neg, ← EReal.coe_add, ← EReal.coe_mul, dscore, ← ds_quotient _ _ _ (t h R) (ht h R), zero_add]
  rw [val_main_v83_apply]
  refine (if_congr (mask h R C) e1 e0).trans ?_
  split
  · rfl
  · next hp => rw [dscore, ds, prob_past _ _ _ hp, zero_mul, EReal.coe_zero]

include o ht he in
/-- The gradient of the queries. -/
theorem dq_ref (h : Fin 16) (R : Fin 4096) (d : Fin 64) :
    (val_main_v96 X B G (ix3 h R d) : EReal) = ((∑ C, dscore q k v g cs h R C * (1 / 8) * k h C d : ℝ) : EReal) := by
  have hd := dscores o ht he h R
  have hk := o.k h
  unfold val_main_v96 val_main_v94 val_main_v93
  generalize val_main_v83 X B G = y at hd ⊢
  generalize val_main_v12 X = z at hk ⊢
  pointwise [val_main_cst_17]
  exact dot_real (fun C => by rw [wEighth, hd, ← EReal.coe_mul]) (fun C => hk C d)

include o ht he in
/-- The gradient of the keys. -/
theorem dk_ref (h : Fin 16) (C : Fin 4096) (d : Fin 64) :
    (val_main_v95 X B G (ix3 h C d) : EReal) = ((∑ R, dscore q k v g cs h R C * (1 / 8) * q h R d : ℝ) : EReal) := by
  have hd := fun R => dscores o ht he h R C
  have hq := o.q h
  unfold val_main_v95 val_main_v94 val_main_v93
  generalize val_main_v83 X B G = y at hd ⊢
  generalize val_main_v10 X = z at hq ⊢
  pointwise [val_main_cst_17]
  exact dot_real (fun R => by rw [wEighth, hd, ← EReal.coe_mul]) (fun R => hq R d)

include o ht he in
/-- The gradient of the values. -/
theorem dv_ref (h : Fin 16) (C : Fin 4096) (d : Fin 64) :
    (val_main_v69 X B G (ix3 h C d) : EReal) = ((∑ R, prob (rowScore q k cs h R) R C * g h R d : ℝ) : EReal) := by
  have hp := fun R => probs ht he h R C
  have hg := o.g h
  unfold val_main_v69 val_main_v68
  generalize val_main_v58 X B = y at hp ⊢
  generalize val_main_v67 G = z at hg ⊢
  pointwise
  refine (dot_real (fun R => hg R d) hp).trans ?_
  exact congrArg _ (Finset.sum_congr rfl fun R _ => mul_comm _ _)

include o ht he in
/-- The column sums of the scores' gradients, with the sign of the bias's column part. -/
theorem dcol_ref (h : Fin 16) (C : Fin 4096) :
    (val_main_v105 X B G (ix2 C h) : EReal) = ((∑ R, dscore q k v g cs h R C : ℝ) : EReal) := by
  have hd := fun R => dscores o ht he h R C
  unfold val_main_v105 val_main_v88 val_main_v87 val_main_v86 val_main_v85 val_main_v84
  generalize val_main_v83 X B G = y at hd ⊢
  pointwise [val_main_cst_13, val_main_cst_14]
  simp only [Finset.univ_unique, Finset.sum_singleton, zero_add]
  rw [sum_eq_coe fun R _ => (congrArg (fun z : EReal => -z) (hd R)).trans (EReal.coe_neg _).symm, ← EReal.coe_neg, Finset.sum_neg_distrib, neg_neg]

include o ht he in
/-- The row sums of the scores' gradients. -/
theorem drow_ref (h : Fin 16) (R : Fin 4096) :
    (val_main_v92 X B G (ix2 R h) : EReal) = ((∑ C, dscore q k v g cs h R C : ℝ) : EReal) := by
  have hd := dscores o ht he h R
  unfold val_main_v92 val_main_v91 val_main_v90 val_main_v89
  generalize val_main_v83 X B G = y at hd ⊢
  pointwise [val_main_cst_15, val_main_cst_16]
  simp only [Finset.univ_unique, Finset.sum_singleton, zero_add]
  exact sum_eq_coe fun C _ => hd C

/-- The head of a result's column, and the head whose sum a column of the sums' results holds. -/
def headOf (w : Fin 1024) : Fin 16 := ⟨w.val / 64, by omega⟩
def dimOf (w : Fin 1024) : Fin 64 := ⟨w.val % 64, by omega⟩
def otherHead (w : Fin 1024) : Fin 16 := ⟨w.val / 128 * 2 + (1 - w.val / 64 % 2), by omega⟩

theorem heads_q (r : Fin 4096) (w : Fin 1024) : (val_main_v102 X B G (ix2 r w) : EReal) = val_main_v96 X B G (ix3 (headOf w) r (dimOf w)) := by
  unfold val_main_v102 val_main_v101
  generalize val_main_v96 X B G = y
  pointwise [headOf, dimOf]

theorem heads_k (r : Fin 4096) (w : Fin 1024) : (val_main_v103 X B G (ix2 r w) : EReal) = val_main_v95 X B G (ix3 (headOf w) r (dimOf w)) := by
  unfold val_main_v103 val_main_v100 val_main_v99
  generalize val_main_v95 X B G = y
  pointwise [headOf, dimOf]

theorem heads_v (r : Fin 4096) (w : Fin 1024) : (val_main_v104 X B G (ix2 r w) : EReal) = val_main_v69 X B G (ix3 (headOf w) r (dimOf w)) := by
  unfold val_main_v104 val_main_v98 val_main_v97
  generalize val_main_v69 X B G = y
  pointwise [headOf, dimOf]

theorem lanes_s (r : Fin 4096) (w : Fin 1024) : (val_main_v110 X B G (ix2 r w) : EReal) = val_main_v105 X B G (ix2 r (otherHead w)) := by
  unfold val_main_v110 val_main_v109 val_main_v108 val_main_v107 val_main_v106
  generalize val_main_v105 X B G = y
  pointwise
  refine congrArg y (congrArg₂ ix2 (if_neg (by decide)) (Fin.ext ?_))
  show (if (1 : Fin 3) ∈ ([2] : List (Fin 3)) then Fin.rev (⟨w.val / 128, _⟩ : Fin 8) else ⟨w.val / 128, _⟩).val * 2
    + (if (2 : Fin 3) ∈ ([2] : List (Fin 3)) then Fin.rev (⟨w.val / 64 % 2, _⟩ : Fin 2) else ⟨w.val / 64 % 2, _⟩).val = (otherHead w).val
  rw [if_neg (by decide), if_pos (by decide), Fin.val_rev, otherHead]
  dsimp only
  omega

theorem lanes_r (r : Fin 4096) (w : Fin 1024) : (val_main_v115 X B G (ix2 r w) : EReal) = val_main_v92 X B G (ix2 r (otherHead w)) := by
  unfold val_main_v115 val_main_v114 val_main_v113 val_main_v112 val_main_v111
  generalize val_main_v92 X B G = y
  pointwise
  refine congrArg y (congrArg₂ ix2 (if_neg (by decide)) (Fin.ext ?_))
  show (if (1 : Fin 3) ∈ ([2] : List (Fin 3)) then Fin.rev (⟨w.val / 128, _⟩ : Fin 8) else ⟨w.val / 128, _⟩).val * 2
    + (if (2 : Fin 3) ∈ ([2] : List (Fin 3)) then Fin.rev (⟨w.val / 64 % 2, _⟩ : Fin 2) else ⟨w.val / 64 % 2, _⟩).val = (otherHead w).val
  rw [if_neg (by decide), if_pos (by decide), Fin.val_rev, otherHead]
  dsimp only
  omega

end Cert.AttnReferenceIdeal.Read

end
-- ==== Proof.AttnHost.lean ====
/-
  The attention's backward call: what its host lines prepare. The forward's scores, their largest, the shifted exponentials and
  their sums, the output and the log-sum; the running sum of the gate in three parts beside each head's keys.
-/
module

public import proofs.«01_k».proof.Proof.AttnArray
public import proofs.«01_k».proof.Proof.AttnReference

@[expose] public section

set_option maxRecDepth 16384

noncomputable section

namespace Cert.AttnKernelIdeal.Tile

open Cert.AttnKernelIdeal Cert.AttnKernelIdeal.Gen Idealize.ShloMosaic Idealize.ShloMosaic.TcCoe
open Cert.AttnReferenceIdeal.Read Cert.Reals Cert.Attn

variable (m : (ℓ : Loc nD τ sig) → Buf (Elt Ideal) ℓ) (c : Dev nD)

/-- The projection and the bias. -/
abbrev proj : S4096x5136.Idx → EReal := m ((c.tc : Thread nD τ).loc main_arg0)
abbrev fbias : S16.Idx → EReal := m ((c.tc : Thread nD τ).loc main_arg1)

/-- The projection, padded to whole blocks. -/
def hostProj (X : S4096x5136.Idx → EReal) : S4096x5632.Idx → EReal :=
  pad S4096x5632 ![0, 0] ![0, 496] ![0, 0] X (sitofp (F := Ideal) .f32 (constantI S_ 32 0#32)) pads_S4096x5136_S4096x5632_000_04960 h_S_

/-- The masked scores, without the row's own term. -/
def hostScores (X : S4096x5136.Idx → EReal) (C : S4096x16.Idx → EReal) : S16x4096x4096.Idx → EReal :=
  select (val_main_v33_1 (F := Ideal))
    (subf (F := Ideal) (φ := .f32) (mulf (F := Ideal) (φ := .f32) (val_main_v15 (F := Ideal) X) (val_main_v16 (F := Ideal)))
      (broadcastInDim S16x4096x4096 ![0, 1, 2] bcast_S16x1x4096_S16x4096x4096_0_1_2
        (broadcastInDim S16x1x4096 ![0, 2] bcast_S16x4096_S16x1x4096_0_2 (transpose S16x4096 [1, 0] C transposes_S4096x16_S16x4096_1_0))))
    (val_main_call2_v2 (F := Ideal))

/-- Each row's largest score. -/
def hostMax (S : S16x4096x4096.Idx → EReal) : S16x4096.Idx → EReal :=
  Host.reduce (FloatOps.maximumf (F := Ideal) (φ := .f32)) S (constant (F := Ideal) S_ .f32 0xFF800000#32) reducesTo_S16x4096x4096_S16x4096_d2 h_S_

def hostMaxCol (S : S16x4096x4096.Idx → EReal) : S16x4096x1.Idx → EReal :=
  broadcastInDim S16x4096x1 ![0, 1] bcast_S16x4096_S16x4096x1_0_1 (hostMax S)

/-- The exponentials of the scores less the row's largest, and their sums. -/
def hostExp (S : S16x4096x4096.Idx → EReal) : S16x4096x4096.Idx → EReal :=
  Host.exp (F := Ideal) (φ := .f32) (subf (F := Ideal) (φ := .f32) S (broadcastInDim S16x4096x4096 ![0, 1, 2] bcast_S16x4096x1_S16x4096x4096_0_1_2 (hostMaxCol S)))

def hostSum (E : S16x4096x4096.Idx → EReal) : S16x4096x1.Idx → EReal :=
  broadcastInDim S16x4096x1 ![0, 1] bcast_S16x4096_S16x4096x1_0_1
    (Host.reduceAdd (F := Ideal) (φ := .f32) E (constant (F := Ideal) S_ .f32 0x00000000#32) reducesTo_S16x4096x4096_S16x4096_d2 h_S_)

/-- The output. -/
def hostOut (E : S16x4096x4096.Idx → EReal) (W : S16x4096x64.Idx → EReal) : S4096x1024.Idx → EReal :=
  shapeCast S4096x1024 (transpose S4096x16x64 [1, 0, 2]
    (Host.divf (F := Ideal) (φ := .f32) (Host.dotGeneral (F := Ideal) (φ₁ := .f32) (φ₂ := .f32) dot_S16x4096x4096_S16x4096x64_S16x4096x64_2_1_1_2_0_0 none E W)
      (broadcastInDim S16x4096x64 ![0, 1, 2] bcast_S16x4096x1_S16x4096x64_0_1_2 (hostSum E)))
    transposes_S16x4096x64_S4096x16x64_1_0_2) shapeCasts_S4096x16x64_S4096x1024

/-- The log-sum. -/
def hostLse (M D : S16x4096x1.Idx → EReal) : S4096x1024.Idx → EReal :=
  shapeCast S4096x1024 (transpose S4096x16x64 [1, 0, 2]
    (broadcastInDim S16x4096x64 ![0, 1, 2] bcast_S16x4096x1_S16x4096x64_0_1_2 (addf (F := Ideal) (φ := .f32) M (Host.log (F := Ideal) (φ := .f32) D)))
    transposes_S16x4096x64_S4096x16x64_1_0_2) shapeCasts_S4096x16x64_S4096x1024

/-- A narrowing and a widening. -/
def hostHalf (x : S4096x8x2.Idx → EReal) : S4096x8x2.Idx → EReal :=
  extf (F := Ideal) (φ := .bf16) .f32 (truncf (F := Ideal) (φ := .f32) .bf16 x bitsLt_bf16_f32) bitsLt_bf16_f32

/-- The negated running sum by pairs of heads. -/
def hostNeg (C : S4096x16.Idx → EReal) : S4096x8x2.Idx → EReal :=
  Host.negf (F := Ideal) (φ := .f32) (shapeCast S4096x8x2 C shapeCasts_S4096x16_S4096x8x2)

/-- Its three parts, a one, and zeros. -/
def hostParts (n : S4096x8x2.Idx → EReal) : S4096x8x2x64.Idx → EReal :=
  concatenate S4096x8x2x64 3 [⟨S4096x8x2x4,
    concatenate S4096x8x2x4 3 [⟨S4096x8x2x1, broadcastInDim S4096x8x2x1 ![0, 1, 2] bcast_S4096x8x2_S4096x8x2x1_0_1_2 (hostHalf n)⟩,
      ⟨S4096x8x2x1, broadcastInDim S4096x8x2x1 ![0, 1, 2] bcast_S4096x8x2_S4096x8x2x1_0_1_2 (hostHalf (subf (F := Ideal) (φ := .f32) n (hostHalf n)))⟩,
      ⟨S4096x8x2x1, broadcastInDim S4096x8x2x1 ![0, 1, 2] bcast_S4096x8x2_S4096x8x2x1_0_1_2
        (hostHalf (subf (F := Ideal) (φ := .f32) (subf (F := Ideal) (φ := .f32) n (hostHalf n)) (hostHalf (subf (F := Ideal) (φ := .f32) n (hostHalf n)))))⟩,
      ⟨S4096x8x2x1, broadcastInDim S4096x8x2x1 ![0, 1, 2] bcast_S4096x8x2_S4096x8x2x1_0_1_2
        (broadcastInDim S4096x8x2 ![] bcast_S_S4096x8x2 (constant (F := Ideal) S_ .f32 0x3F800000#32))⟩]
      concatenates_S4096x8x2x1_S4096x8x2x1_S4096x8x2x1_S4096x8x2x1_S4096x8x2x4_d3⟩,
    ⟨S4096x8x2x60, broadcastInDim S4096x8x2x60 ![] bcast_S_S4096x8x2x60 (constant (F := Ideal) S_ .f32 0x00000000#32)⟩]
    concatenates_S4096x8x2x4_S4096x8x2x60_S4096x8x2x64_d3

/-- The parts beside the keys: in each pair's lanes the other head's. -/
def hostAug (P : S4096x8x2x64.Idx → EReal) : S4096x1024.Idx → EReal :=
  truncf (F := Ideal) (φ := .f32) .bf16 (shapeCast S4096x1024 (concatenate S4096x8x128 2
    [⟨S4096x8x64, shapeCast S4096x8x64 (extractStridedSlice S4096x8x1x64 ![0, 0, 1, 0] P slices_S4096x8x2x64_S4096x8x1x64_0_0_1_0) shapeCasts_S4096x8x1x64_S4096x8x64⟩,
     ⟨S4096x8x64, shapeCast S4096x8x64 (extractStridedSlice S4096x8x1x64 ![0, 0, 0, 0] P slices_S4096x8x2x64_S4096x8x1x64_0_0_0_0) shapeCasts_S4096x8x1x64_S4096x8x64⟩]
    concatenates_S4096x8x64_S4096x8x64_S4096x8x128_d2) shapeCasts_S4096x8x128_S4096x1024) bitsLt_bf16_f32

/-- The array of the running sum, which the reference computes by the same lines. -/
abbrev hostGate : S4096x16.Idx → EReal := val_main_v5 (F := Ideal) (proj m c) (fbias m c)

theorem host_proj : (V m c main_v0 : S4096x5632.Idx → EReal) = hostProj (proj m c) := by
  unfold V
  simp only [List.flatten_cons, List.flatten_nil, List.append_nil, hostOps0, hostOps0_1, hostOps0_2, hostOps0_3, hostOps0_4, hostOps0_5, hostOps0_6, hostOps0_7, List.cons_append, List.nil_append]
  after_results
  rfl

theorem host_aug : (V m c main_v32 : S4096x1024.Idx → EReal) = hostAug (hostParts (hostNeg (hostGate m c))) := by
  unfold V
  simp only [List.flatten_cons, List.flatten_nil, List.append_nil, hostOps0, hostOps0_1, hostOps0_2, hostOps0_3, hostOps0_4, hostOps0_5, hostOps0_6, hostOps0_7, List.cons_append, List.nil_append]
  after_results
  rfl

theorem host_out : (V m c main_v68 : S4096x1024.Idx → EReal) = hostOut (hostExp (hostScores (proj m c) (hostGate m c))) (val_main_v14 (F := Ideal) (proj m c)) := by
  unfold V
  simp only [List.flatten_cons, List.flatten_nil, List.append_nil, hostOps0, hostOps0_1, hostOps0_2, hostOps0_3, hostOps0_4, hostOps0_5, hostOps0_6, hostOps0_7, List.cons_append, List.nil_append]
  after_results
  rfl

theorem host_lse : (V m c main_v73 : S4096x1024.Idx → EReal) = hostLse (hostMaxCol (hostScores (proj m c) (hostGate m c))) (hostSum (hostExp (hostScores (proj m c) (hostGate m c)))) := by
  unfold V
  simp only [List.flatten_cons, List.flatten_nil, List.append_nil, hostOps0, hostOps0_1, hostOps0_2, hostOps0_3, hostOps0_4, hostOps0_5, hostOps0_6, hostOps0_7, List.cons_append, List.nil_append]
  after_results
  rfl

end Cert.AttnKernelIdeal.Tile

end
-- ==== Proof.AttnOps.lean ====
/-
  The operands of the attention's backward call over real inputs.
-/
module

public import proofs.«01_k».proof.Proof.AttnHost

@[expose] public section

set_option maxRecDepth 16384

noncomputable section

namespace Cert.AttnKernelIdeal.Tile

open Cert.AttnKernelIdeal Cert.AttnKernelIdeal.Gen Idealize.ShloMosaic Idealize.ShloMosaic.TcCoe
open Cert.AttnReferenceIdeal.Read Cert.Reals Cert.Attn

variable {X : S4096x5136.Idx → EReal} {B : S16.Idx → EReal} {G : S4096x2048.Idx → EReal} {q k v g : Fin 16 → Fin 4096 → Fin 64 → ℝ} {cs : Fin 16 → Fin 4096 → ℝ}
variable (o : Real4 X B G q k v g cs)

theorem proj_read (r : Fin 4096) (w : ℕ) (hw : w < 5136) : hostProj X (ix2 r ⟨w, by omega⟩) = X (ix2 r ⟨w, hw⟩) := by
  unfold hostProj
  pointwise
  exact dif_pos hw

include o in
theorem scores_read (h : Fin 16) (R C : Fin 4096) :
    hostScores X (val_main_v5 (F := Ideal) X B) (ix3 h R C) = if C ≤ R then ((rowScore q k cs h R C : ℝ) : EReal) else ⊥ := by
  have hq := o.q; have hk := o.k; have hc := o.c
  have e1 : (val_main_v15 (F := Ideal) X (ix3 h R C) : EReal) = ((∑ d, q h R d * k h C d : ℝ) : EReal) := by
    unfold val_main_v15
    generalize val_main_v10 (F := Ideal) X = a at hq ⊢
    generalize val_main_v12 (F := Ideal) X = b at hk ⊢
    pointwise
    exact dot_real (hq h R) (hk h C)
  have e2 : (val_main_call2_v2 (F := Ideal) (ix3 h R C) : EReal) = ⊥ := by
    pointwise [val_main_call2_v2, val_main_call2_v0, val_main_cst_0]
    exact wBot
  have e3 : (val_main_v16 (F := Ideal) (ix3 h R C) : EReal) = ((1 / 8 : ℝ) : EReal) := by
    pointwise [val_main_v16, val_main_cst]
    exact wEighth
  have hm := mask h R C
  unfold hostScores
  generalize val_main_v15 (F := Ideal) X = a at e1 ⊢
  generalize val_main_v16 (F := Ideal) = b at e3 ⊢
  generalize val_main_call2_v2 (F := Ideal) = z at e2 ⊢
  generalize val_main_v33_1 (F := Ideal) = u at hm ⊢
  generalize val_main_v5 (F := Ideal) X B = y at hc ⊢
  pointwise
  refine if_congr hm ?_ e2
  rw [e1, e3, hc, ← EReal.coe_mul, ← EReal.coe_sub, rowScore]

variable {S : S16x4096x4096.Idx → EReal} (hs : ∀ h R C, S (ix3 h R C) = if C ≤ R then ((rowScore q k cs h R C : ℝ) : EReal) else ⊥)

include hs in
theorem max_read (h : Fin 16) (R : Fin 4096) : ∃ M : ℝ, hostMaxCol S (ix3 h R 0) = (M : EReal) := by
  obtain ⟨M, hM⟩ : ∃ M : ℝ, hostMax S (ix2 h R) = (M : EReal) := row_max S _ wBot h R ⟨R, by rw [hs, if_pos le_rfl]; exact EReal.coe_ne_bot _⟩ fun C => by
    rw [hs]; split
    · exact EReal.coe_ne_top _
    · exact bot_ne_top
  refine ⟨M, ?_⟩
  unfold hostMaxCol
  generalize hostMax S = y at hM ⊢
  pointwise
  exact hM

variable {M : Fin 16 → Fin 4096 → ℝ} (hM : ∀ h R, hostMaxCol S (ix3 h R 0) = (M h R : EReal))

include hs hM in
theorem exp_read (h : Fin 16) (R C : Fin 4096) : hostExp S (ix3 h R C) = ((e (rowScore q k cs h R) R C * Real.exp (-M h R) : ℝ) : EReal) := by
  unfold hostExp
  generalize hostMaxCol S = y at hM ⊢
  pointwise
  rw [hM]
  exact masked_exp _ R C _ (hs h R C)

variable {E : S16x4096x4096.Idx → EReal} {W : S16x4096x64.Idx → EReal} (hE : ∀ h R C, E (ix3 h R C) = ((e (rowScore q k cs h R) R C * Real.exp (-M h R) : ℝ) : EReal))
  (hW : ∀ h r d, W (ix3 h r d) = (v h r d : EReal))

include hE in
theorem sum_read (h : Fin 16) (R : Fin 4096) : hostSum E (ix3 h R 0) = ((den (rowScore q k cs h R) R * Real.exp (-M h R) : ℝ) : EReal) := by
  unfold hostSum
  pointwise
  rw [sum_eq_coe fun C _ => hE h R C, ← Finset.sum_mul, den]

include hE hW in
theorem out_read (r : Fin 4096) (w : Fin 1024) :
    hostOut E W (ix2 r w) = ((∑ K : Fin 4096, Attn.prob (rowScore q k cs (headOf w) r) r K * v (headOf w) K (dimOf w) : ℝ) : EReal) := by
  have hD := sum_read hE (headOf w) r
  unfold hostOut
  generalize hostSum E = D at hD ⊢
  pointwise
  refine (congrArg₂ (fun a b : EReal => Ideal.div a b) (dot_real (hE (headOf w) r) fun K => hW (headOf w) K (dimOf w)) hD).trans ?_
  rw [div_coe (mul_pos (den_pos _ _) (Real.exp_pos _)).ne', mean_shift]

theorem log_sum (A D : S16x4096x1.Idx → EReal) (i : S16x4096x1.Idx) :
    addf (F := Ideal) (φ := .f32) A (Host.log (F := Ideal) (φ := .f32) D) i = A i + Ideal.log (D i) := rfl

theorem rows_read (L : S16x4096x1.Idx → EReal) (r : Fin 4096) (w : Fin 1024) :
    shapeCast S4096x1024 (transpose S4096x16x64 [1, 0, 2] (broadcastInDim S16x4096x64 ![0, 1, 2] bcast_S16x4096x1_S16x4096x64_0_1_2 L)
      transposes_S16x4096x64_S4096x16x64_1_0_2) shapeCasts_S4096x16x64_S4096x1024 (ix2 r w) = L (ix3 (headOf w) r 0) := by
  pointwise
  rfl

include hs hM in
theorem lse_read (r : Fin 4096) (w : Fin 1024) :
    hostLse (hostMaxCol S) (hostSum (hostExp S)) (ix2 r w) = ((Real.log (den (rowScore q k cs (headOf w) r) r) : ℝ) : EReal) := by
  have hD := sum_read (exp_read hs hM) (headOf w) r
  have hM := hM (headOf w) r
  unfold hostLse
  generalize hostSum (hostExp S) = D at hD ⊢
  generalize hostMaxCol S = A at hM ⊢
  rw [rows_read, log_sum]
  exact (congrArg₂ (fun a b : EReal => a + Ideal.log b) hM hD).trans (lse_real _ _ _)

variable {C : S4096x16.Idx → EReal} (hC : ∀ h r, C (ix2 r h) = (cs h r : EReal))

include hC in
theorem neg_read (r : Fin 4096) (p : Fin 8) (j : Fin 2) : hostNeg C (ix3 r p j) = ((-cs ⟨p.val * 2 + j.val, by omega⟩ r : ℝ) : EReal) := by
  unfold hostNeg
  pointwise
  rw [hC, EReal.coe_neg]

variable {n : S4096x8x2.Idx → EReal} {x : ℝ}

theorem half_read (i : S4096x8x2.Idx) : hostHalf n i = n i := rfl

theorem parts_read (r : Fin 4096) (p : Fin 8) (j : Fin 2) (hn : n (ix3 r p j) = (x : EReal)) (d : Fin 64) :
    hostParts n (ix4 r p j d) = if d.val = 0 then (x : EReal) else if d.val = 3 then 1 else 0 := by
  have h0 : subf (F := Ideal) (φ := .f32) n (hostHalf n) (ix3 r p j) = (0 : EReal) := by
    show n (ix3 r p j) - n (ix3 r p j) = (0 : EReal)
    rw [hn, ← EReal.coe_sub, sub_self, EReal.coe_zero]
  have h1 : subf (F := Ideal) (φ := .f32) (subf (F := Ideal) (φ := .f32) n (hostHalf n)) (hostHalf (subf (F := Ideal) (φ := .f32) n (hostHalf n))) (ix3 r p j) = (0 : EReal) := by
    show subf (F := Ideal) (φ := .f32) n (hostHalf n) (ix3 r p j) - subf (F := Ideal) (φ := .f32) n (hostHalf n) (ix3 r p j) = (0 : EReal)
    rw [h0]; exact sub_zero (0 : EReal)
  unfold hostParts
  pointwise
  simp only [half_read]
  rw [h1, h0, hn]
  split_ifs <;> first | rfl | omega

theorem aug_read {P : S4096x8x2x64.Idx → EReal} (r : Fin 4096) (w : Fin 1024) :
    hostAug P (ix2 r w) = P (ix4 r ⟨w.val / 128, by omega⟩ ⟨1 - w.val / 64 % 2, by omega⟩ (dimOf w)) := by
  unfold hostAug
  pointwise
  split
  · next hw => exact congrArg P (congrArg₂ (ix4 r _) (Fin.ext (show 1 = 1 - w.val / 64 % 2 by omega)) (Fin.ext (show w.val % 128 = w.val % 64 by omega)))
  · next hw => exact congrArg P (congrArg₂ (ix4 r _) (Fin.ext (show 0 = 1 - w.val / 64 % 2 by omega)) (Fin.ext (show w.val % 128 - 64 = w.val % 64 by omega)))

end Cert.AttnKernelIdeal.Tile

end
-- ==== Proof.AttnReal.lean ====
/-
  The attention's backward call over real operands: its sums are the sums of the plain gradient.
-/
module

public import proofs.«01_k».proof.Proof.AttnOps

@[expose] public section

set_option maxRecDepth 16384

noncomputable section

namespace Cert.AttnKernelIdeal.Tile

open Cert.AttnKernelIdeal Idealize.ShloMosaic
open Cert.AttnReferenceIdeal.Read Cert.Reals Cert.Attn

/-- The head of a pair. -/
def headAt (p : Fin 8) (j : ℕ) (hj : j < 2) : Fin 16 := ⟨p.val * 2 + j, by omega⟩

theorem headAt_congr (p : Fin 8) {i j : ℕ} (h : i = j) (hi : i < 2) (hj : j < 2) : headAt p i hi = headAt p j hj := by subst h; rfl

/-- The operands of a pair of heads, as reals. -/
structure RealOps (x : Ops) (q k v g : Fin 16 → Fin 4096 → Fin 64 → ℝ) (cs : Fin 16 → Fin 4096 → ℝ) : Prop where
  xq : ∀ p R l, x.q p R l = (q (headAt p (l.val / 64) (by omega)) R ⟨l.val % 64, by omega⟩ : EReal)
  xk : ∀ p R l, x.k p R l = (k (headAt p (l.val / 64) (by omega)) R ⟨l.val % 64, by omega⟩ : EReal)
  xv : ∀ p R l, x.v p R l = (v (headAt p (l.val / 64) (by omega)) R ⟨l.val % 64, by omega⟩ : EReal)
  xg : ∀ p R l, x.g p R l = (g (headAt p (l.val / 64) (by omega)) R ⟨l.val % 64, by omega⟩ : EReal)
  xa : ∀ p R l, x.a p R l = if l.val % 64 = 0 then ((-cs (headAt p (1 - l.val / 64) (by omega)) R : ℝ) : EReal) else if l.val % 64 = 3 then 1 else 0
  xo : ∀ p R l, x.o p R l = ((∑ K : Fin 4096, Attn.prob (rowScore q k cs (headAt p (l.val / 64) (by omega)) R) R K
    * v (headAt p (l.val / 64) (by omega)) K ⟨l.val % 64, by omega⟩ : ℝ) : EReal)
  xl : ∀ p R l, x.l p R l = ((Real.log (Attn.den (rowScore q k cs (headAt p (l.val / 64) (by omega)) R) R) : ℝ) : EReal)

variable {x : Ops} {q k v g : Fin 16 → Fin 4096 → Fin 64 → ℝ} {cs : Fin 16 → Fin 4096 → ℝ} (o : RealOps x q k v g cs) (p : Fin 8) (h : Fin 2) (R C : Fin 4096)

/-- The lanes' factors of the scores, as reals. -/
def qReal (q : Fin 64 → ℝ) (h : Fin 2) (l : Fin 128) : ℝ := if l.val / 64 = h.val then q ⟨l.val % 64, by omega⟩ * (1 / 8) else if l.val % 64 < 3 then 1 else 0
def kReal (k : Fin 64 → ℝ) (n : ℝ) (h : Fin 2) (l : Fin 128) : ℝ :=
  if l.val / 64 = h.val then k ⟨l.val % 64, by omega⟩ else if l.val % 64 = 0 then n else if l.val % 64 = 3 then 1 else 0

include o in
theorem query_real (l : Fin 128) : queryRow h (x.q p R) l = (qReal (q (headAt p h.val h.isLt) R) h l : EReal) := by
  unfold queryRow qReal
  by_cases e : l.val / 64 = h.val
  · rw [if_pos e, if_pos e, o.xq, wEighth, ← EReal.coe_mul, headAt_congr p e]
  · rw [if_neg e, if_neg e]
    split <;> simp

include o in
theorem key_real (l : Fin 128) : keyRow h (x.k p C) (x.a p C) l = (kReal (k (headAt p h.val h.isLt) C) (-cs (headAt p h.val h.isLt) C) h l : EReal) := by
  unfold keyRow kReal
  by_cases e : l.val / 64 = h.val
  · rw [if_pos e, if_pos e, o.xk, headAt_congr p e]
  · have e2 : 1 - l.val / 64 = h.val := by omega
    rw [if_neg e, if_neg e, o.xa, headAt_congr p e2 _ h.isLt]
    split_ifs <;> simp

include o in
/-- The products' sum over the lanes: the score. -/
theorem score_real : (∑ l, queryRow h (x.q p R) l * keyRow h (x.k p C) (x.a p C) l) = (rowScore q k cs (headAt p h.val h.isLt) R C : EReal) := by
  rw [dot_real (query_real o p h R) (key_real o p h C)]
  refine congrArg Real.toEReal ?_
  rw [rowScore]
  have e : ∀ l : Fin 128, qReal (q (headAt p h.val h.isLt) R) h l * kReal (k (headAt p h.val h.isLt) C) (-cs (headAt p h.val h.isLt) C) h l
      = if l.val / 64 = h.val then (fun d => q (headAt p h.val h.isLt) R d * k (headAt p h.val h.isLt) C d * (1 / 8)) ⟨l.val % 64, by omega⟩
        else (fun d : Fin 64 => if d = 0 then -cs (headAt p h.val h.isLt) C else 0) ⟨l.val % 64, by omega⟩ := by
    intro l
    unfold qReal kReal
    have e0 : ((⟨l.val % 64, by omega⟩ : Fin 64) = 0) ↔ l.val % 64 = 0 := by rw [Fin.ext_iff]; rfl
    simp only [e0]
    split_ifs <;> first | omega | ring
  rw [Finset.sum_congr rfl fun l _ => e l,
    sum_lanes h (fun d => q (headAt p h.val h.isLt) R d * k (headAt p h.val h.isLt) C d * (1 / 8)) (fun d : Fin 64 => if d = 0 then -cs (headAt p h.val h.isLt) C else 0),
    Finset.sum_ite_eq' Finset.univ (0 : Fin 64), if_pos (Finset.mem_univ _), ← Finset.sum_mul]
  ring

include o in
/-- The weights are the probabilities. -/
theorem weight_read : x.weight p h R C = (Attn.prob (rowScore q k cs (headAt p h.val h.isLt) R) R C : EReal) := by
  unfold Ops.weight
  have e : (64 * h.val) / 64 = h.val := by omega
  by_cases hc : C ≤ R
  · rw [if_pos (show C.val ≤ R.val from hc), score_real o, o.xl]
    rw [headAt_congr p (show (⟨64 * h.val, by omega⟩ : Fin 128).val / 64 = h.val from e) _ h.isLt]
    exact weight_real _ _ _ hc
  · rw [if_neg (show ¬C.val ≤ R.val from hc), prob_past _ _ _ hc, EReal.coe_zero]

/-- The sum of products over a head's own lanes. -/
theorem own_real {y z : Fin 128 → EReal} {a b : Fin 64 → ℝ} (hy : ∀ l : Fin 128, l.val / 64 = h.val → y l = (a ⟨l.val % 64, by omega⟩ : EReal))
    (hz : ∀ l : Fin 128, l.val / 64 = h.val → z l = (b ⟨l.val % 64, by omega⟩ : EReal)) :
    (∑ l, ownRow h y l * z l) = ((∑ d, a d * b d : ℝ) : EReal) := by
  have e : ∀ l ∈ Finset.univ, ownRow h y l * z l = ((if l.val / 64 = h.val then (fun d => a d * b d) ⟨l.val % 64, by omega⟩ else (fun _ : Fin 64 => (0 : ℝ)) ⟨l.val % 64, by omega⟩ : ℝ) : EReal) := by
    intro l _
    unfold ownRow
    by_cases c : l.val / 64 = h.val
    · rw [if_pos c, if_pos c, hy l c, hz l c, EReal.coe_mul]
    · rw [if_neg c, if_neg c, zero_mul, EReal.coe_zero]
  rw [sum_eq_coe e, sum_lanes h (fun d => a d * b d) (fun _ => 0), Finset.sum_const_zero, add_zero]

include o in
/-- The scores' gradients. -/
theorem ds_read : x.ds p h R C = (AttnReferenceIdeal.Read.dscore q k v g cs (headAt p h.val h.isLt) R C : EReal) := by
  have hg : ∀ l : Fin 128, l.val / 64 = h.val → x.g p R l = (g (headAt p h.val h.isLt) R ⟨l.val % 64, by omega⟩ : EReal) := fun l c => by rw [o.xg, headAt_congr p c]
  have hv : ∀ l : Fin 128, l.val / 64 = h.val → ownRow h (x.v p C) l = (v (headAt p h.val h.isLt) C ⟨l.val % 64, by omega⟩ : EReal) := fun l c => by
    rw [ownRow, if_pos c, o.xv, headAt_congr p c]
  have ho : ∀ l : Fin 128, l.val / 64 = h.val → x.o p R l = ((fun d => ∑ K : Fin 4096, Attn.prob (rowScore q k cs (headAt p h.val h.isLt) R) R K
      * v (headAt p h.val h.isLt) K d) ⟨l.val % 64, by omega⟩ : EReal) := fun l c => by rw [o.xo]; simp only [headAt_congr p c _ h.isLt]
  unfold Ops.ds
  rw [weight_read o, own_real h hg hv, own_real h (b := fun d => ∑ K : Fin 4096, Attn.prob (rowScore q k cs (headAt p h.val h.isLt) R) R K
    * v (headAt p h.val h.isLt) K d) hg ho, mean_dot, ← EReal.coe_sub, ← EReal.coe_mul]
  rfl

include o in
/-- The weighted sums of the keys over a head's own lanes. -/
theorem dq_own (l : Fin 128) (c : l.val / 64 = h.val) : x.dq p h R l * Ideal.ofBits .f32 1040187392#32
    = ((∑ C, AttnReferenceIdeal.Read.dscore q k v g cs (headAt p h.val h.isLt) R C * (1 / 8) * k (headAt p h.val h.isLt) C ⟨l.val % 64, by omega⟩ : ℝ) : EReal) := by
  unfold Ops.dq
  rw [dot_real (fun C => ds_read o p h R C) (fun C => key_real o p h C l), wEighth, ← EReal.coe_mul, Finset.sum_mul]
  refine congrArg Real.toEReal (Finset.sum_congr rfl fun C _ => ?_)
  rw [kReal, if_pos c]; ring

include o in
/-- The scores' gradients summed over the keys, in another head's lane. -/
theorem dq_other (l : Fin 128) (c : ¬l.val / 64 = h.val) (c3 : l.val % 64 = 3) : x.dq p h R l
    = ((∑ C, AttnReferenceIdeal.Read.dscore q k v g cs (headAt p h.val h.isLt) R C : ℝ) : EReal) := by
  unfold Ops.dq
  rw [dot_real (fun C => ds_read o p h R C) (fun C => key_real o p h C l)]
  refine congrArg Real.toEReal (Finset.sum_congr rfl fun C _ => ?_)
  rw [kReal, if_neg c, if_neg (by omega), if_pos c3, mul_one]

include o in
/-- The weighted sums of the queries over a head's own lanes. -/
theorem dk_own (l : Fin 128) (c : l.val / 64 = h.val) : x.dk p h C l
    = ((∑ R, AttnReferenceIdeal.Read.dscore q k v g cs (headAt p h.val h.isLt) R C * (1 / 8) * q (headAt p h.val h.isLt) R ⟨l.val % 64, by omega⟩ : ℝ) : EReal) := by
  unfold Ops.dk
  rw [dot_real (fun R => ds_read o p h R C) (fun R => query_real o p h R l)]
  refine congrArg Real.toEReal (Finset.sum_congr rfl fun R _ => ?_)
  rw [qReal, if_pos c]; ring

include o in
/-- The scores' gradients summed over the queries, in another head's lane. -/
theorem dk_other (l : Fin 128) (c : ¬l.val / 64 = h.val) (c0 : l.val % 64 = 0) : x.dk p h C l
    = ((∑ R, AttnReferenceIdeal.Read.dscore q k v g cs (headAt p h.val h.isLt) R C : ℝ) : EReal) := by
  unfold Ops.dk
  rw [dot_real (fun R => ds_read o p h R C) (fun R => query_real o p h R l)]
  refine congrArg Real.toEReal (Finset.sum_congr rfl fun R _ => ?_)
  rw [qReal, if_neg c, if_pos (by omega), mul_one]

include o in
/-- One head's weighted sum of the cotangents, over its own lanes and over the other's. -/
theorem dv_own (l : Fin 128) (c : l.val / 64 = h.val) : (∑ R, x.weight p h R C * ownRow h (x.g p R) l)
    = ((∑ R, Attn.prob (rowScore q k cs (headAt p h.val h.isLt) R) R C * g (headAt p h.val h.isLt) R ⟨l.val % 64, by omega⟩ : ℝ) : EReal) :=
  dot_real (fun R => weight_read o p h R C) fun R => by rw [ownRow, if_pos c, o.xg, headAt_congr p c]

theorem dv_other (l : Fin 128) (c : ¬l.val / 64 = h.val) : (∑ R, x.weight p h R C * ownRow h (x.g p R) l) = 0 :=
  Finset.sum_eq_zero fun R _ => by rw [ownRow, if_neg c, mul_zero]

include o in
/-- The weighted sums of the cotangents. -/
theorem dv_read (l : Fin 128) : x.dv p C l
    = ((∑ R, Attn.prob (rowScore q k cs (headAt p (l.val / 64) (by omega)) R) R C * g (headAt p (l.val / 64) (by omega)) R ⟨l.val % 64, by omega⟩ : ℝ) : EReal) := by
  unfold Ops.dv
  by_cases c : l.val / 64 = (0 : Fin 2).val
  · rw [dv_own o p 0 C l c, dv_other p 1 C l (by rw [c]; decide), add_zero]
    simp only [headAt_congr p c _ (by decide)]
  · have c1 : l.val / 64 = (1 : Fin 2).val := by
      have : ¬l.val / 64 = 0 := c
      show l.val / 64 = 1
      omega
    rw [dv_own o p 1 C l c1, dv_other p 0 C l c, zero_add]
    simp only [headAt_congr p c1 _ (by decide)]

end Cert.AttnKernelIdeal.Tile

end
-- ==== Proof.AttnTie.lean ====
/-
  The attention's gradient where the forward's values are real numbers: the call's results are the reference's. Of the two
  arrays of sums the lanes that hold them are compared.
-/
module

public import proofs.«01_k».proof.Proof.AttnReal

@[expose] public section

set_option maxRecDepth 16384

noncomputable section

namespace Cert.AttnKernelIdeal.Tile

open Cert.AttnKernelIdeal Cert.AttnKernelIdeal.Gen Idealize.ShloMosaic Idealize.ShloMosaic.TcCoe
open Cert.AttnReferenceIdeal.Read Cert.Reals Cert.Attn

variable (m : (ℓ : Loc nD τ sig) → Buf (Elt Ideal) ℓ) (c : Dev nD)
variable {q k v g : Fin 16 → Fin 4096 → Fin 64 → ℝ} {cs : Fin 16 → Fin 4096 → ℝ}

/-- The cotangent. -/
abbrev dmix : S4096x2048.Idx → EReal := m ((c.tc : Thread nD τ).loc main_arg2)

/-- A column of a pair of heads is a head's and a dimension's. -/
theorem column_head (p : Fin 8) (l : Fin 128) : headOf ⟨128 * p.val + l.val, by omega⟩ = headAt p (l.val / 64) (by omega) :=
  Fin.ext (show (128 * p.val + l.val) / 64 = p.val * 2 + l.val / 64 by omega)
theorem column_dim (p : Fin 8) (l : Fin 128) : dimOf ⟨128 * p.val + l.val, by omega⟩ = ⟨l.val % 64, by omega⟩ :=
  Fin.ext (show (128 * p.val + l.val) % 64 = l.val % 64 by omega)

/-- The operands are the host's arrays, read. -/
theorem ops_q (p : Fin 8) (R : Fin 4096) (l : Fin 128) : (ops m c).q p R l = proj m c (ix2 R ⟨2048 + 128 * p.val + l.val, by omega⟩) :=
  (congrFun (host_proj m c) (ix2 R ⟨2048 + 128 * p.val + l.val, by omega⟩)).trans (proj_read R _ _)
theorem ops_k (p : Fin 8) (R : Fin 4096) (l : Fin 128) : (ops m c).k p R l = proj m c (ix2 R ⟨3072 + 128 * p.val + l.val, by omega⟩) :=
  (congrFun (host_proj m c) (ix2 R ⟨3072 + 128 * p.val + l.val, by omega⟩)).trans (proj_read R _ _)
theorem ops_v (p : Fin 8) (R : Fin 4096) (l : Fin 128) : (ops m c).v p R l = proj m c (ix2 R ⟨4096 + 128 * p.val + l.val, by omega⟩) :=
  (congrFun (host_proj m c) (ix2 R ⟨4096 + 128 * p.val + l.val, by omega⟩)).trans (proj_read R _ _)
theorem ops_g (p : Fin 8) (R : Fin 4096) (l : Fin 128) : (ops m c).g p R l = dmix m c (ix2 R ⟨1024 + 128 * p.val + l.val, by omega⟩) :=
  congrFun (V_main_arg2 m c) (ix2 R ⟨1024 + 128 * p.val + l.val, by omega⟩)
theorem ops_a (p : Fin 8) (R : Fin 4096) (l : Fin 128) : (ops m c).a p R l = hostAug (hostParts (hostNeg (hostGate m c))) (ix2 R ⟨128 * p.val + l.val, by omega⟩) :=
  congrFun (host_aug m c) _
theorem ops_o (p : Fin 8) (R : Fin 4096) (l : Fin 128) : (ops m c).o p R l
    = hostOut (hostExp (hostScores (proj m c) (hostGate m c))) (val_main_v14 (F := Ideal) (proj m c)) (ix2 R ⟨128 * p.val + l.val, by omega⟩) :=
  congrFun (host_out m c) _
theorem ops_l (p : Fin 8) (R : Fin 4096) (l : Fin 128) : (ops m c).l p R l
    = hostLse (hostMaxCol (hostScores (proj m c) (hostGate m c))) (hostSum (hostExp (hostScores (proj m c) (hostGate m c)))) (ix2 R ⟨128 * p.val + l.val, by omega⟩) :=
  congrFun (host_lse m c) _

/-- What the call finds is the operands of real numbers. -/
theorem real_ops (o : Real4 (proj m c) (fbias m c) (dmix m c) q k v g cs) : RealOps (ops m c) q k v g cs := by
  have hS := scores_read o
  choose M hM using max_read hS
  have hE := exp_read hS hM
  have hO := out_read hE o.v
  have hL := lse_read hS hM
  have hA := fun R p j => parts_read R p j (neg_read o.c R p j)
  refine ⟨fun p R l => ?_, fun p R l => ?_, fun p R l => ?_, fun p R l => ?_, fun p R l => ?_, fun p R l => ?_, fun p R l => ?_⟩
  · rw [ops_q, ← o.q, queries]
    exact congrArg (fun w => proj m c (ix2 R w)) (Fin.ext (show 2048 + 128 * p.val + l.val = 2048 + ((p.val * 2 + l.val / 64) * 64 + l.val % 64) by omega))
  · rw [ops_k, ← o.k, keys]
    exact congrArg (fun w => proj m c (ix2 R w)) (Fin.ext (show 3072 + 128 * p.val + l.val = 3072 + ((p.val * 2 + l.val / 64) * 64 + l.val % 64) by omega))
  · rw [ops_v, ← o.v, values]
    exact congrArg (fun w => proj m c (ix2 R w)) (Fin.ext (show 4096 + 128 * p.val + l.val = 4096 + ((p.val * 2 + l.val / 64) * 64 + l.val % 64) by omega))
  · rw [ops_g, ← o.g, cotangents]
    exact congrArg (fun w => dmix m c (ix2 R w)) (Fin.ext (show 1024 + 128 * p.val + l.val = 1024 + ((p.val * 2 + l.val / 64) * 64 + l.val % 64) by omega))
  · rw [ops_a, aug_read, hA, column_dim]
    have e : (⟨(⟨(128 * p.val + l.val) / 128, by omega⟩ : Fin 8).val * 2 + (⟨1 - (128 * p.val + l.val) / 64 % 2, by omega⟩ : Fin 2).val, by omega⟩ : Fin 16)
        = headAt p (1 - l.val / 64) (by omega) := Fin.ext (show (128 * p.val + l.val) / 128 * 2 + (1 - (128 * p.val + l.val) / 64 % 2) = p.val * 2 + (1 - l.val / 64) by omega)
    rw [e]
  · rw [ops_o, hO, column_head, column_dim]
  · rw [ops_l, hL, column_head]

/-- A column's head within its pair, and the other one. -/
theorem lanes_own (f : Fin 8 → Fin 2 → Fin 4096 → Fin 128 → EReal) (R : Fin 4096) (w : Fin 1024) :
    lanes f 0 1 R w = f (pairOf w) ⟨w.val / 64 % 2, by omega⟩ R (laneOf w) := by
  unfold lanes
  split
  · next h => rw [show (⟨w.val / 64 % 2, by omega⟩ : Fin 2) = 0 from Fin.ext (show w.val / 64 % 2 = 0 by omega)]
  · next h => rw [show (⟨w.val / 64 % 2, by omega⟩ : Fin 2) = 1 from Fin.ext (show w.val / 64 % 2 = 1 by omega)]

theorem lanes_other (f : Fin 8 → Fin 2 → Fin 4096 → Fin 128 → EReal) (R : Fin 4096) (w : Fin 1024) :
    lanes f 1 0 R w = f (pairOf w) ⟨1 - w.val / 64 % 2, by omega⟩ R (laneOf w) := by
  unfold lanes
  split
  · next h => rw [show (⟨1 - w.val / 64 % 2, by omega⟩ : Fin 2) = 1 from Fin.ext (show 1 - w.val / 64 % 2 = 1 by omega)]
  · next h => rw [show (⟨1 - w.val / 64 % 2, by omega⟩ : Fin 2) = 0 from Fin.ext (show 1 - w.val / 64 % 2 = 0 by omega)]

theorem pair_own (w : Fin 1024) (h : w.val / 64 % 2 < 2) : headAt (pairOf w) (w.val / 64 % 2) h = headOf w :=
  Fin.ext (show w.val / 128 % 8 * 2 + w.val / 64 % 2 = w.val / 64 by omega)
theorem pair_other (w : Fin 1024) (h : 1 - w.val / 64 % 2 < 2) : headAt (pairOf w) (1 - w.val / 64 % 2) h = otherHead w :=
  Fin.ext (show w.val / 128 % 8 * 2 + (1 - w.val / 64 % 2) = w.val / 128 * 2 + (1 - w.val / 64 % 2) by omega)
theorem lane_half (w : Fin 1024) : (laneOf w).val / 64 = w.val / 64 % 2 := show w.val % 128 / 64 = _ by omega
theorem lane_dim (w : Fin 1024) (h : (laneOf w).val % 64 < 64) : (⟨(laneOf w).val % 64, h⟩ : Fin 64) = dimOf w :=
  Fin.ext (show w.val % 128 % 64 = w.val % 64 by omega)

/-- The call's results are the reference's. -/
theorem tie_real (o : Real4 (proj m c) (fbias m c) (dmix m c) q k v g cs) (r : Fin 4096) (w : Fin 1024) :
    (dats m 0 c).arrAt 7 cfg0.N (ix2 r w) = val_main_v102 (F := Ideal) (proj m c) (fbias m c) (dmix m c) (ix2 r w)
    ∧ (dats m 0 c).arrAt 8 cfg0.N (ix2 r w) = val_main_v103 (F := Ideal) (proj m c) (fbias m c) (dmix m c) (ix2 r w)
    ∧ (dats m 0 c).arrAt 9 cfg0.N (ix2 r w) = val_main_v104 (F := Ideal) (proj m c) (fbias m c) (dmix m c) (ix2 r w)
    ∧ (w.val % 64 = 0 → (dats m 0 c).arrAt 10 cfg0.N (ix2 r w) = val_main_v110 (F := Ideal) (proj m c) (fbias m c) (dmix m c) (ix2 r w))
    ∧ (w.val % 64 = 3 → (dats m 0 c).arrAt 11 cfg0.N (ix2 r w) = val_main_v115 (F := Ideal) (proj m c) (fbias m c) (dmix m c) (ix2 r w)) := by
  have x := real_ops m c o
  obtain ⟨t, ht, he⟩ := exponentials o
  have hw := w.isLt
  have c1 := lane_half w
  have c2 : ¬(laneOf w).val / 64 = 1 - w.val / 64 % 2 := by omega
  refine ⟨?_, ?_, ?_, fun h0 => ?_, fun h3 => ?_⟩
  · refine (congrFun (array_q m c) (ix2 r w)).trans ?_
    show lanes (ops m c).dq 0 1 r w * _ = _
    rw [lanes_own, dq_own x _ _ _ _ c1, heads_q, dq_ref o ht he, pair_own, lane_dim]
  · refine (congrFun (array_k m c) (ix2 r w)).trans ?_
    show lanes (ops m c).dk 0 1 r w = _
    rw [lanes_own, dk_own x _ _ _ _ c1, heads_k, dk_ref o ht he, pair_own, lane_dim]
  · refine (congrFun (array_v m c) (ix2 r w)).trans ?_
    show (ops m c).dv (pairOf w) r (laneOf w) = _
    rw [dv_read x, heads_v, dv_ref o ht he, lane_dim]
    simp only [headAt_congr (pairOf w) c1 _ (by omega), pair_own]
  · refine (congrFun (array_s m c) (ix2 r w)).trans ?_
    show lanes (ops m c).dk 1 0 r w = _
    rw [lanes_other, dk_other x _ _ _ _ c2 (show w.val % 128 % 64 = 0 by omega), lanes_s, dcol_ref o ht he, pair_other]
  · refine (congrFun (array_r m c) (ix2 r w)).trans ?_
    show lanes (ops m c).dq 1 0 r w = _
    rw [lanes_other, dq_other x _ _ _ _ c2 (show w.val % 128 % 64 = 3 by omega), lanes_r, drow_ref o ht he, pair_other]

end Cert.AttnKernelIdeal.Tile

end
-- ==== Proof.Attn.lean ====
/-
  The attention's gradient: where the projection's columns of queries, keys, values and gates, the gate's bias and the
  cotangent's second half are finite, the call's results are the reference's. Of the two arrays of sums the lanes that hold
  them are compared.
-/
module

public import proofs.«01_k».proof.Proof.AttnTie
public import proofs.«01_k».proof.Proof.Gen.Pre_attn_finite
public import proofs.«01_k».proof.Proof.Gen.On_bias_lanes

@[expose] public section

set_option maxRecDepth 16384

noncomputable section

namespace Cert.Attn

open Idealize.ShloMosaic Idealize.ShloMosaic.TcCoe Idealize.SL.Sem Cert.Reals Cert.AttnKernelIdeal Cert.AttnKernelIdeal.Gen
open Cert.AttnKernelIdeal.Tile Cert.AttnReferenceIdeal.Read

variable (m : (ℓ : Loc nD τ sig) → Buf (Elt Ideal) ℓ)

/-- The precondition: every element of the tested columns, of the bias and of the tested half of the cotangent is smaller than
    infinity in absolute value. -/
def Finite (c : Dev nD) : Prop :=
  (Cert.Pre_attn_finite.fn (F := Ideal) (proj m c) (fbias m c) (dmix m c)).1 = (fun _ => 1#1)
    ∧ (Cert.Pre_attn_finite.fn (F := Ideal) (proj m c) (fbias m c) (dmix m c)).2.1 = (fun _ => 1#1)
    ∧ (Cert.Pre_attn_finite.fn (F := Ideal) (proj m c) (fbias m c) (dmix m c)).2.2 = (fun _ => 1#1)

/-- The tested columns read in the whole array. -/
theorem columns (X : S4096x5136.Idx → EReal) (h : Cert.Pre_attn_finite.S4096x5136.Slices ![0, 2048] Cert.Pre_attn_finite.S4096x3088) (r : Fin 4096) (w : Fin 3088) :
    extractStridedSlice Cert.Pre_attn_finite.S4096x3088 ![0, 2048] X h (ix2 r w) = X (ix2 r ⟨2048 + w.val, by omega⟩) := by
  pointwise
theorem second_half (G : S4096x2048.Idx → EReal) (h : Cert.Pre_attn_finite.S4096x2048.Slices ![0, 1024] Cert.Pre_attn_finite.S4096x1024) (r : Fin 4096) (w : Fin 1024) :
    extractStridedSlice Cert.Pre_attn_finite.S4096x1024 ![0, 1024] G h (ix2 r w) = G (ix2 r ⟨1024 + w.val, by omega⟩) := by
  pointwise

/-- On such arguments the forward's values are real numbers. -/
theorem reals (c : Dev nD) (h : Finite m c) : ∃ q k v g cs, Real4 (proj m c) (fbias m c) (dmix m c) q k v g cs := by
  have fx : ∀ (r : Fin 4096) (w : ℕ) (h0 : 2048 ≤ w) (hw : w < 5136), ∃ a : ℝ, (proj m c (ix2 r ⟨w, hw⟩) : EReal) = (a : EReal) := fun r w h0 hw => by
    have e := finite_of_test rfl (congrFun h.1 (ix2 r (⟨w - 2048, by omega⟩ : Fin 3088)))
    beta_reduce at e
    rw [columns] at e
    obtain ⟨a, ha⟩ := e
    exact ⟨a, by rw [← ha]; exact congrArg (fun x => proj m c (ix2 r x)) (Fin.ext (show w = 2048 + (w - 2048) by omega))⟩
  have fb : ∀ h : Fin 16, ∃ a : ℝ, (fbias m c (ix1 h) : EReal) = (a : EReal) := fun j => finite_of_test rfl (congrFun h.2.1 (ix1 j))
  have fg : ∀ (r : Fin 4096) (w : Fin 1024), ∃ a : ℝ, (dmix m c (ix2 r ⟨1024 + w.val, by omega⟩) : EReal) = (a : EReal) := fun r w => by
    have e := finite_of_test rfl (congrFun h.2.2 (ix2 r w))
    beta_reduce at e
    rwa [second_half] at e
  have fq : ∀ (h : Fin 16) (r : Fin 4096) (d : Fin 64), ∃ a : ℝ, (val_main_v10 (F := Ideal) (proj m c) (ix3 h r d) : EReal) = (a : EReal) := fun h r d => by
    rw [queries]; exact fx r _ (by omega) _
  have fk : ∀ (h : Fin 16) (r : Fin 4096) (d : Fin 64), ∃ a : ℝ, (val_main_v12 (F := Ideal) (proj m c) (ix3 h r d) : EReal) = (a : EReal) := fun h r d => by
    rw [keys]; exact fx r _ (by omega) _
  have fv : ∀ (h : Fin 16) (r : Fin 4096) (d : Fin 64), ∃ a : ℝ, (val_main_v14 (F := Ideal) (proj m c) (ix3 h r d) : EReal) = (a : EReal) := fun h r d => by
    rw [values]; exact fx r _ (by omega) _
  have fd : ∀ (h : Fin 16) (r : Fin 4096) (d : Fin 64), ∃ a : ℝ, (val_main_v67 (F := Ideal) (dmix m c) (ix3 h r d) : EReal) = (a : EReal) := fun h r d => by
    rw [cotangents]; exact fg r ⟨h.val * 64 + d.val, by omega⟩
  have fc : ∀ (h : Fin 16) (r : Fin 4096), ∃ a : ℝ, (val_main_v5 (F := Ideal) (proj m c) (fbias m c) (ix2 r h) : EReal) = (a : EReal) :=
    fun h r => sums_real (fun r h => fx r _ (by omega) _) fb (ix2 r h)
  choose q hq using fq
  choose k hk using fk
  choose v hv using fv
  choose g hg using fd
  choose cs hc using fc
  exact ⟨q, k, v, g, cs, hq, hk, hv, hg, hc⟩

/-- The lanes the two arrays of sums are compared in. -/
abbrev mask (c : Dev nD) := Cert.On_bias_lanes.fn (F := Ideal) (proj m c) (fbias m c) (dmix m c)

theorem lane_first : ∀ w : Fin 1024, BitVec.ofBool (BitVec.ofNat 32 w.val &&& 63#32 == 0#32) = 1#1 → w.val % 64 = 0 := by decide +kernel
theorem lane_fourth : ∀ w : Fin 1024, BitVec.ofBool (BitVec.ofNat 32 w.val &&& 63#32 == 3#32) = 1#1 → w.val % 64 = 3 := by decide +kernel

/-- On such arguments the arrays after the call are the reference's results. -/
theorem tie (c : Dev nD) (h : Finite m c) :
    (∀ i, (mask m c).1 i = 1#1 → (dats m 0 c).arrAt 7 cfg0.N i = val_main_v102 (F := Ideal) (proj m c) (fbias m c) (dmix m c) i)
    ∧ (∀ i, (mask m c).2.1 i = 1#1 → (dats m 0 c).arrAt 8 cfg0.N i = val_main_v103 (F := Ideal) (proj m c) (fbias m c) (dmix m c) i)
    ∧ (∀ i, (mask m c).2.2.1 i = 1#1 → (dats m 0 c).arrAt 9 cfg0.N i = val_main_v104 (F := Ideal) (proj m c) (fbias m c) (dmix m c) i)
    ∧ (∀ i, (mask m c).2.2.2.1 i = 1#1 → (dats m 0 c).arrAt 10 cfg0.N i = val_main_v110 (F := Ideal) (proj m c) (fbias m c) (dmix m c) i)
    ∧ (∀ i, (mask m c).2.2.2.2 i = 1#1 → (dats m 0 c).arrAt 11 cfg0.N i = val_main_v115 (F := Ideal) (proj m c) (fbias m c) (dmix m c) i) := by
  obtain ⟨q, k, v, g, cs, o⟩ := reals m c h
  refine ⟨fun i _ => ?_, fun i _ => ?_, fun i _ => ?_, fun i hi => ?_, fun i hi => ?_⟩ <;> idx_vars i
  · exact (tie_real m c o i0 i1).1
  · exact (tie_real m c o i0 i1).2.1
  · exact (tie_real m c o i0 i1).2.2.1
  · exact (tie_real m c o i0 i1).2.2.2.1 (lane_first i1 hi)
  · exact (tie_real m c o i0 i1).2.2.2.2 (lane_fourth i1 hi)

/-- The call's run: each result ends at the array after the last grid point, the arguments end unchanged. -/
theorem run (ρ : Dev nD → PrngReg) :
    θ_run (Cert.AttnKernelIdeal.defs (F := Ideal)) (onTc (τ := τ) (Cert.AttnKernelIdeal.main (F := Ideal))) ⟨m, fun _ => 0, ρ⟩ fun r => ∀ c : Dev nD,
      r.2.mem ((c.tc : Thread nD τ).loc main_v74_0) = (dats m 0 c).arrAt 7 cfg0.N
      ∧ r.2.mem ((c.tc : Thread nD τ).loc main_v74_1) = (dats m 0 c).arrAt 8 cfg0.N
      ∧ r.2.mem ((c.tc : Thread nD τ).loc main_v74_2) = (dats m 0 c).arrAt 9 cfg0.N
      ∧ r.2.mem ((c.tc : Thread nD τ).loc main_v74_3) = (dats m 0 c).arrAt 10 cfg0.N
      ∧ r.2.mem ((c.tc : Thread nD τ).loc main_v74_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 7, (h c).1 8, (h c).1 9, (h c).1 10, (h c).1 11,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 6).trans (((dats m 0 c).arrAt_in 6 rfl _).trans ((A_eq m c 6).trans (V_main_arg2 m c)))⟩) (run_main m ρ)

/-- Five arrays at which the call's results end and which, on such arguments, are the reference's results. -/
theorem results (ρ : Dev nD → PrngReg) : ∃ v0 v1 v2 v3 v4 : Dev nD → S4096x1024.Idx → EReal,
    (θ_run (Cert.AttnKernelIdeal.defs (F := Ideal)) (onTc (τ := τ) (Cert.AttnKernelIdeal.main (F := Ideal))) ⟨m, fun _ => 0, ρ⟩ fun r => ∀ c : Dev nD,
      r.2.mem ((c.tc : Thread nD τ).loc main_v74_0) = v0 c
      ∧ r.2.mem ((c.tc : Thread nD τ).loc main_v74_1) = v1 c
      ∧ r.2.mem ((c.tc : Thread nD τ).loc main_v74_2) = v2 c
      ∧ r.2.mem ((c.tc : Thread nD τ).loc main_v74_3) = v3 c
      ∧ r.2.mem ((c.tc : Thread nD τ).loc main_v74_4) = v4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ ∀ c, Finite m c →
      (∀ i, (mask m c).1 i = 1#1 → v0 c i = val_main_v102 (F := Ideal) (proj m c) (fbias m c) (dmix m c) i)
      ∧ (∀ i, (mask m c).2.1 i = 1#1 → v1 c i = val_main_v103 (F := Ideal) (proj m c) (fbias m c) (dmix m c) i)
      ∧ (∀ i, (mask m c).2.2.1 i = 1#1 → v2 c i = val_main_v104 (F := Ideal) (proj m c) (fbias m c) (dmix m c) i)
      ∧ (∀ i, (mask m c).2.2.2.1 i = 1#1 → v3 c i = val_main_v110 (F := Ideal) (proj m c) (fbias m c) (dmix m c) i)
      ∧ (∀ i, (mask m c).2.2.2.2 i = 1#1 → v4 c i = val_main_v115 (F := Ideal) (proj m c) (fbias m c) (dmix m c) i) :=
  ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, run m ρ, tie m⟩

end Cert.Attn

end
-- ==== Proof.AttnFwdRun.lean ====
/-
  The attention's forward body, run once: what a grid point's stores leave in the buffers, in each of its five cases.
-/
module

public import proofs.«01_k».proof.Proof.Gen.AttnFwdKernelIdeal.Launch
public import proofs.«01_k».proof.Proof.Gen.AttnFwdKernelIdeal.Skeleton
public import proofs.«01_k».proof.Proof.Gen.AttnFwdKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.AttnFwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of a run of this program. -/
abbrev Res (F : FTy → Type) [FloatOps F] [Named F] := MT nD τ sig Unit (Elt F) ℕ (UR sig nD τ) ℕ

/-- The first step of a row of tiles. -/
abbrev Starts (i : grid0.Coords) : Prop := Scalar.cmpi .ne (Scalar.extui (Scalar.cmpi .eq (BitVec.ofNat 32 (i 2).val) 0#32)) 0#32 = 1#1
/-- A step below the diagonal. -/
abbrev Below (i : grid0.Coords) : Prop := Scalar.cmpi .ne (Scalar.extui (Scalar.cmpi .slt (BitVec.ofNat 32 (i 2).val) (BitVec.ofNat 32 (i 1).val))) 0#32 = 1#1
/-- The step on the diagonal, the last that does anything. -/
abbrev Ends (i : grid0.Coords) : Prop := k0_cond3 i = 1#1

/-- A buffer at some contents. -/
abbrev Any (F : FTy → Type) [FloatOps F] [Named F] (c : Dev nD) {s : Shape} {e : EltTy} (arg : Memref sig .tc .vmem s e) : sProp (Res F) := iprop(∃ d, owns (c : Thread nD τ) arg fullShare d)
/-- A buffer with pieces written over whatever was in it. -/
abbrev Wrote (c : Dev nD) {s : Shape} {e : EltTy} (arg : Memref sig .tc .vmem s e) (L : List (View.Piece (Elt F) s e)) : sProp (Res F) :=
  iprop(∃ f, arg.view.loc (c : Thread nD τ) ↦[arg.view.set]{fullShare} arg.view.writes (Elt F) f L)

variable (c : Dev nD) (i : grid0.Coords)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S2x512x1 .f32) (harg10 : arg10.IsWhole)
  (arg11 : Memref sig .tc .vmem S2x512x128 .f32) (harg11 : arg11.IsWhole)
  (arg12 : Memref sig .tc .vmem S2x512x512 .f32) (harg12 : arg12.IsWhole)
  (arg13 : Memref sig .tc .vmem S2x512x512 .bf16) (harg13 : arg13.IsWhole)
  (x0 x1 x2 : Vec F S512x128 .f32) (x3 : Vec F S512x128 .bf16)

/-- The body, from the four blocks and the seven other buffers to the same four blocks and whatever the seven have become. -/
abbrev Runs (o7 o8 o9 m a : sProp (Res F)) (o7' o8' o9' m' a' : sProp (Res F)) : Prop :=
  ∀ (E : Set ℕ) (K : PUnit → sProp (Res F)),
    iprop(owns (c : Thread nD τ) arg3 fullShare x0 ∗ owns (c : Thread nD τ) arg4 fullShare x1 ∗ owns (c : Thread nD τ) arg5 fullShare x2 ∗ owns (c : Thread nD τ) arg6 fullShare x3
        ∗ o7 ∗ o8 ∗ o9 ∗ m ∗ a ∗ Any F c arg12 ∗ Any F c arg13
        ∗ (iprop(owns (c : Thread nD τ) arg3 fullShare x0 ∗ owns (c : Thread nD τ) arg4 fullShare x1 ∗ owns (c : Thread nD τ) arg5 fullShare x2 ∗ owns (c : Thread nD τ) arg6 fullShare x3
            ∗ o7' ∗ o8' ∗ o9' ∗ m' ∗ a' ∗ Any F c arg12 ∗ Any F c arg13) -∗ K ⟨⟩))
      ⊢ wp frame (wpE (defs₀ (F := F)) Variants.none c none) E (cc0_attn_fwd i arg3 harg3 arg4 harg4 arg5 harg5 arg6 harg6 arg7 harg7 arg8 harg8 arg9 harg9 arg10 harg10 arg11 harg11 arg12 harg12 arg13 harg13) K

set_option maxHeartbeats 1000000 in
/-- A step below the diagonal that is not a row's first: both heads' maxima and sums are stored anew. -/
noncomputable def runStep (hc0 : ¬Starts i) (hc1 : Below i) (hc2 : ¬Ends i) (xs0 : Vec F S2x512x1 .f32) (xs1 : Vec F S2x512x128 .f32) :
    Σ' (LM : List (View.Piece (Elt F) S2x512x1 .f32)), { LA : List (View.Piece (Elt F) S2x512x128 .f32) //
      ∀ (xi7 : Vec F S512x128 .bf16) (xi8 xi9 : Vec F S512x128 .f32), Runs c i arg3 harg3 arg4 harg4 arg5 harg5 arg6 harg6 arg7 harg7 arg8 harg8 arg9 harg9 arg10 harg10 arg11 harg11 arg12 harg12 arg13 harg13 x0 x1 x2 x3
        (owns (c : Thread nD τ) arg7 fullShare xi7) (owns (c : Thread nD τ) arg8 fullShare xi8) (owns (c : Thread nD τ) arg9 fullShare xi9) (owns (c : Thread nD τ) arg10 fullShare xs0) (owns (c : Thread nD τ) arg11 fullShare xs1)
        (owns (c : Thread nD τ) arg7 fullShare xi7) (owns (c : Thread nD τ) arg8 fullShare xi8) (owns (c : Thread nD τ) arg9 fullShare xi9) (Wrote c arg10 LM) (Wrote c arg11 LA) } := by
  refine ⟨?_, ?_, fun xi7 xi8 xi9 => fun E K => ?run⟩
  case run =>
    simp only [cc0_attn_fwd_eq_skeleton]; unfold cc0_attn_fwd_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold Any owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hf8; obtain rfl := harg9.eq_unread hf9; obtain rfl := harg10.eq_unread hf10; obtain rfl := harg11.eq_unread hf11
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _, _; isplitr; swap; · iexact H12
      ipureintro; rfl
    iexists _, _; isplitr; swap; · iexact H13
    ipureintro; rfl

set_option maxHeartbeats 1000000 in
/-- The step on the diagonal, when a row has more than one: the outputs are stored too. -/
noncomputable def runLast (hc0 : ¬Starts i) (hc1 : ¬Below i) (hc2 : Ends i) (xs0 : Vec F S2x512x1 .f32) (xs1 : Vec F S2x512x128 .f32) :
    Σ' (L7 : List (View.Piece (Elt F) S512x128 .bf16)), Σ' (L8 : List (View.Piece (Elt F) S512x128 .f32)), Σ' (L9 : List (View.Piece (Elt F) S512x128 .f32)), Σ' (LM : List (View.Piece (Elt F) S2x512x1 .f32)), { LA : List (View.Piece (Elt F) S2x512x128 .f32) //
      Runs c i arg3 harg3 arg4 harg4 arg5 harg5 arg6 harg6 arg7 harg7 arg8 harg8 arg9 harg9 arg10 harg10 arg11 harg11 arg12 harg12 arg13 harg13 x0 x1 x2 x3
        (Any F c arg7) (Any F c arg8) (Any F c arg9) (owns (c : Thread nD τ) arg10 fullShare xs0) (owns (c : Thread nD τ) arg11 fullShare xs1)
        (Wrote c arg7 L7) (Wrote c arg8 L8) (Wrote c arg9 L9) (Wrote c arg10 LM) (Wrote c arg11 LA) } := by
  refine ⟨?_, ?_, ?_, ?_, ?_, fun E K => ?run⟩
  case run =>
    simp only [cc0_attn_fwd_eq_skeleton]; unfold cc0_attn_fwd_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold Any owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, ⟨%f10, %hf10, H10⟩, ⟨%f11, %hf11, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3
    obtain rfl := harg10.eq_unread hf10; obtain rfl := harg11.eq_unread hf11
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexists _; iexact H9
    isplitl [H10]; · iexists _; iexact H10
    isplitl [H11]; · iexists _; iexact H11
    isplitl [H12]
    · iexists _, _; isplitr; swap; · iexact H12
      ipureintro; rfl
    iexists _, _; isplitr; swap; · iexact H13
    ipureintro; rfl

set_option maxHeartbeats 1000000 in
/-- A row's first step, below the diagonal: maxima and sums start anew. -/
noncomputable def runFirst (hc0 : Starts i) (hc1 : Below i) (hc2 : ¬Ends i) :
    Σ' (LM : List (View.Piece (Elt F) S2x512x1 .f32)), { LA : List (View.Piece (Elt F) S2x512x128 .f32) //
      ∀ (xi7 : Vec F S512x128 .bf16) (xi8 xi9 : Vec F S512x128 .f32), Runs c i arg3 harg3 arg4 harg4 arg5 harg5 arg6 harg6 arg7 harg7 arg8 harg8 arg9 harg9 arg10 harg10 arg11 harg11 arg12 harg12 arg13 harg13 x0 x1 x2 x3
        (owns (c : Thread nD τ) arg7 fullShare xi7) (owns (c : Thread nD τ) arg8 fullShare xi8) (owns (c : Thread nD τ) arg9 fullShare xi9) (Any F c arg10) (Any F c arg11)
        (owns (c : Thread nD τ) arg7 fullShare xi7) (owns (c : Thread nD τ) arg8 fullShare xi8) (owns (c : Thread nD τ) arg9 fullShare xi9) (Wrote c arg10 LM) (Wrote c arg11 LA) } := by
  refine ⟨?_, ?_, fun xi7 xi8 xi9 => fun E K => ?run⟩
  case run =>
    simp only [cc0_attn_fwd_eq_skeleton]; unfold cc0_attn_fwd_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold Any owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3
    obtain rfl := harg7.eq_unread hf7; obtain rfl := harg8.eq_unread hf8; obtain rfl := harg9.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _, _; isplitr; swap; · iexact H12
      ipureintro; rfl
    iexists _, _; isplitr; swap; · iexact H13
    ipureintro; rfl

set_option maxHeartbeats 1000000 in
/-- The one step of a row of a single tile. -/
noncomputable def runOnly (hc0 : Starts i) (hc1 : ¬Below i) (hc2 : Ends i) :
    Σ' (L7 : List (View.Piece (Elt F) S512x128 .bf16)), Σ' (L8 : List (View.Piece (Elt F) S512x128 .f32)), Σ' (L9 : List (View.Piece (Elt F) S512x128 .f32)), Σ' (LM : List (View.Piece (Elt F) S2x512x1 .f32)), { LA : List (View.Piece (Elt F) S2x512x128 .f32) //
      Runs c i arg3 harg3 arg4 harg4 arg5 harg5 arg6 harg6 arg7 harg7 arg8 harg8 arg9 harg9 arg10 harg10 arg11 harg11 arg12 harg12 arg13 harg13 x0 x1 x2 x3
        (Any F c arg7) (Any F c arg8) (Any F c arg9) (Any F c arg10) (Any F c arg11)
        (Wrote c arg7 L7) (Wrote c arg8 L8) (Wrote c arg9 L9) (Wrote c arg10 LM) (Wrote c arg11 LA) } := by
  refine ⟨?_, ?_, ?_, ?_, ?_, fun E K => ?run⟩
  case run =>
    simp only [cc0_attn_fwd_eq_skeleton]; unfold cc0_attn_fwd_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold Any owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexists _; iexact H9
    isplitl [H10]; · iexists _; iexact H10
    isplitl [H11]; · iexists _; iexact H11
    isplitl [H12]
    · iexists _, _; isplitr; swap; · iexact H12
      ipureintro; rfl
    iexists _, _; isplitr; swap; · iexact H13
    ipureintro; rfl

end Cert.AttnFwdKernelIdeal.Gen

end
-- ==== Proof.AttnFwdFrame.lean ====
/-
  The attention's forward pipeline: what every grid point leaves, and the run of the whole.
-/
module

public import proofs.«01_k».proof.Proof.AttnFwdRun
public import proofs.«01_k».proof.Proof.Gen.AttnFwdKernelIdeal.Frame
public import Idealize.ShloMosaic.Lib.Claim

@[expose] public section

set_option maxRecDepth 16384

noncomputable section

namespace Cert.AttnFwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg) (c : Dev nD)

/-! The four cases, by the two coordinates of the tile. -/

theorem starts_iff : ∀ t : Fin cfg0.N, Starts (grid0.coords t) ↔ t.val % 8 = 0 :=
  (by decide +kernel : ∀ t : Fin grid0.N, Starts (grid0.coords t) ↔ t.val % 8 = 0)
theorem below_iff : ∀ t : Fin cfg0.N, Below (grid0.coords t) ↔ t.val % 8 < t.val / 8 % 8 :=
  (by decide +kernel : ∀ t : Fin grid0.N, Below (grid0.coords t) ↔ t.val % 8 < t.val / 8 % 8)
theorem ends_iff : ∀ t : Fin cfg0.N, Ends (grid0.coords t) ↔ t.val % 8 = t.val / 8 % 8 :=
  (by decide +kernel : ∀ t : Fin grid0.N, Ends (grid0.coords t) ↔ t.val % 8 = t.val / 8 % 8)

/-- Before point `n` an output's buffer holds nothing of its row's: the row's diagonal is still to come. -/
def unset (n : ℕ) : Bool := decide (n % 8 ≤ n / 8 % 8)

theorem unset_step4 : ∀ t : Fin cfg0.N, unset (t.val + 1) = ((cfg0.win 4).flush t || (cfg0.idle 4 (cfg0.grid.coords t) && unset t.val)) := by decide +kernel
theorem unset_step5 : ∀ t : Fin cfg0.N, unset (t.val + 1) = ((cfg0.win 5).flush t || (cfg0.idle 5 (cfg0.grid.coords t) && unset t.val)) := by decide +kernel
theorem unset_step6 : ∀ t : Fin cfg0.N, unset (t.val + 1) = ((cfg0.win 6).flush t || (cfg0.idle 6 (cfg0.grid.coords t) && unset t.val)) := by decide +kernel

/-- An output is written back at the last column of tiles. -/
theorem flush_iff : ∀ t : Fin cfg0.N, ((cfg0.win 4).flush t = decide (t.val % 8 = 7) ∧ (cfg0.win 5).flush t = decide (t.val % 8 = 7)) ∧ (cfg0.win 6).flush t = decide (t.val % 8 = 7) := by decide +kernel

/-! What is carried from point to point. -/

/-- The run of a step below the diagonal that is not its row's first, at point `t`. -/
abbrev atStep (t : Fin cfg0.N) (h0 : ¬Starts (grid0.coords t)) (h1 : Below (grid0.coords t)) (h2 : ¬Ends (grid0.coords t)) (xs0 : Vec F S2x512x1 .f32) (xs1 : Vec F S2x512x128 .f32) :=
  runStep c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) h0 h1 h2 xs0 xs1

/-- The run of the diagonal step of a row with several, at point `t`. -/
abbrev atLast (t : Fin cfg0.N) (h0 : ¬Starts (grid0.coords t)) (h1 : ¬Below (grid0.coords t)) (h2 : Ends (grid0.coords t)) (xs0 : Vec F S2x512x1 .f32) (xs1 : Vec F S2x512x128 .f32) :=
  runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) h0 h1 h2 xs0 xs1

/-- The run of the first of several steps, at point `t`. -/
abbrev atFirst (t : Fin cfg0.N) (h0 : Starts (grid0.coords t)) (h1 : Below (grid0.coords t)) (h2 : ¬Ends (grid0.coords t)) :=
  runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) h0 h1 h2

/-- The run of the only step of the first row of tiles, at point `t`. -/
abbrev atOnly (t : Fin cfg0.N) (h0 : Starts (grid0.coords t)) (h1 : ¬Below (grid0.coords t)) (h2 : Ends (grid0.coords t)) :=
  runOnly c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) h0 h1 h2

/-- Both heads' maxima and sums, and the three outputs' blocks. -/
abbrev St (F : FTy → Type) [FloatOps F] [Named F] :=
  (Vec F S2x512x1 .f32 × Vec F S2x512x128 .f32) × Vec F S512x128 .bf16 × Vec F S512x128 .f32 × Vec F S512x128 .f32

/-- A point's effect on what is carried. -/
def next (t : Fin cfg0.N) (s : St F) : St F :=
  if h0 : Starts (grid0.coords t) then
    if h1 : Below (grid0.coords t) then
      if h2 : Ends (grid0.coords t) then s else
        ((View.canon (Val := Elt F) (atFirst m c t h0 h1 h2).1, View.canon (Val := Elt F) (atFirst m c t h0 h1 h2).2.1), s.2)
    else if h2 : Ends (grid0.coords t) then
      ((View.canon (Val := Elt F) (atOnly m c t h0 h1 h2).2.2.2.1, View.canon (Val := Elt F) (atOnly m c t h0 h1 h2).2.2.2.2.1),
        View.canon (Val := Elt F) (atOnly m c t h0 h1 h2).1, View.canon (Val := Elt F) (atOnly m c t h0 h1 h2).2.1, View.canon (Val := Elt F) (atOnly m c t h0 h1 h2).2.2.1)
    else s
  else if h1 : Below (grid0.coords t) then
    if h2 : Ends (grid0.coords t) then s else
      ((View.canon (Val := Elt F) (atStep m c t h0 h1 h2 s.1.1 s.1.2).1, View.canon (Val := Elt F) (atStep m c t h0 h1 h2 s.1.1 s.1.2).2.1), s.2)
  else if h2 : Ends (grid0.coords t) then
    ((View.canon (Val := Elt F) (atLast m c t h0 h1 h2 s.1.1 s.1.2).2.2.2.1, View.canon (Val := Elt F) (atLast m c t h0 h1 h2 s.1.1 s.1.2).2.2.2.2.1),
      View.canon (Val := Elt F) (atLast m c t h0 h1 h2 s.1.1 s.1.2).1, View.canon (Val := Elt F) (atLast m c t h0 h1 h2 s.1.1 s.1.2).2.1, View.canon (Val := Elt F) (atLast m c t h0 h1 h2 s.1.1 s.1.2).2.2.1)
  else s

/-- What is carried into point `n`. -/
def carried : ℕ → St F
  | 0 => ((View.canon [], View.canon []), View.canon [], View.canon [], View.canon [])
  | n + 1 => if h : n < cfg0.N then next m c ⟨n, h⟩ (carried n) else carried n

theorem carried_succ (t : Fin cfg0.N) : carried m c (t.val + 1) = next m c t (carried m c t.val) := by
  rw [carried, dif_pos t.isLt]

/-- A point off the diagonal leaves the outputs alone. -/
theorem next_outs (t : Fin cfg0.N) (s : St F) (h : ¬Ends (grid0.coords t)) : (next m c t s).2 = s.2 := by
  unfold next; split_ifs <;> rfl

theorem coverStep_max (t : Fin cfg0.N) (h0 : ¬Starts (grid0.coords t)) (h1 : Below (grid0.coords t)) (h2 : ¬Ends (grid0.coords t)) (xs0 : Vec F S2x512x1 .f32) (xs1 : Vec F S2x512x128 .f32) (y : S2x512x1.Idx) : ∃ pc ∈ (atStep m c t h0 h1 h2 xs0 xs1).1, y ∈ pc.1.set :=
  View.cover_of_tiledL (s := S2x512x1) _ S1x512x1.size (by sl_kernel_rfl) y
theorem coverStep_acc (t : Fin cfg0.N) (h0 : ¬Starts (grid0.coords t)) (h1 : Below (grid0.coords t)) (h2 : ¬Ends (grid0.coords t)) (xs0 : Vec F S2x512x1 .f32) (xs1 : Vec F S2x512x128 .f32) (y : S2x512x128.Idx) : ∃ pc ∈ (atStep m c t h0 h1 h2 xs0 xs1).2.1, y ∈ pc.1.set :=
  View.cover_of_tiledL (s := S2x512x128) _ S1x512x128.size (by sl_kernel_rfl) y
theorem coverLast_out (t : Fin cfg0.N) (h0 : ¬Starts (grid0.coords t)) (h1 : ¬Below (grid0.coords t)) (h2 : Ends (grid0.coords t)) (xs0 : Vec F S2x512x1 .f32) (xs1 : Vec F S2x512x128 .f32) (y : S512x128.Idx) : ∃ pc ∈ (atLast m c t h0 h1 h2 xs0 xs1).1, y ∈ pc.1.set :=
  View.cover_of_tiledL (s := S512x128) _ S512x128.size (by sl_kernel_rfl) y
theorem coverLast_mean (t : Fin cfg0.N) (h0 : ¬Starts (grid0.coords t)) (h1 : ¬Below (grid0.coords t)) (h2 : Ends (grid0.coords t)) (xs0 : Vec F S2x512x1 .f32) (xs1 : Vec F S2x512x128 .f32) (y : S512x128.Idx) : ∃ pc ∈ (atLast m c t h0 h1 h2 xs0 xs1).2.1, y ∈ pc.1.set :=
  View.cover_of_tiledL (s := S512x128) _ S512x128.size (by sl_kernel_rfl) y
theorem coverLast_lse (t : Fin cfg0.N) (h0 : ¬Starts (grid0.coords t)) (h1 : ¬Below (grid0.coords t)) (h2 : Ends (grid0.coords t)) (xs0 : Vec F S2x512x1 .f32) (xs1 : Vec F S2x512x128 .f32) (y : S512x128.Idx) : ∃ pc ∈ (atLast m c t h0 h1 h2 xs0 xs1).2.2.1, y ∈ pc.1.set :=
  View.cover_of_tiledL (s := S512x128) _ S512x128.size (by sl_kernel_rfl) y
theorem coverLast_max (t : Fin cfg0.N) (h0 : ¬Starts (grid0.coords t)) (h1 : ¬Below (grid0.coords t)) (h2 : Ends (grid0.coords t)) (xs0 : Vec F S2x512x1 .f32) (xs1 : Vec F S2x512x128 .f32) (y : S2x512x1.Idx) : ∃ pc ∈ (atLast m c t h0 h1 h2 xs0 xs1).2.2.2.1, y ∈ pc.1.set :=
  View.cover_of_tiledL (s := S2x512x1) _ S1x512x1.size (by sl_kernel_rfl) y
theorem coverLast_acc (t : Fin cfg0.N) (h0 : ¬Starts (grid0.coords t)) (h1 : ¬Below (grid0.coords t)) (h2 : Ends (grid0.coords t)) (xs0 : Vec F S2x512x1 .f32) (xs1 : Vec F S2x512x128 .f32) (y : S2x512x128.Idx) : ∃ pc ∈ (atLast m c t h0 h1 h2 xs0 xs1).2.2.2.2.1, y ∈ pc.1.set :=
  View.cover_of_tiledL (s := S2x512x128) _ S1x512x128.size (by sl_kernel_rfl) y
theorem coverFirst_max (t : Fin cfg0.N) (h0 : Starts (grid0.coords t)) (h1 : Below (grid0.coords t)) (h2 : ¬Ends (grid0.coords t)) (y : S2x512x1.Idx) : ∃ pc ∈ (atFirst m c t h0 h1 h2).1, y ∈ pc.1.set :=
  View.cover_of_tiledL (s := S2x512x1) _ S2x512x1.size (by sl_kernel_rfl) y
theorem coverFirst_acc (t : Fin cfg0.N) (h0 : Starts (grid0.coords t)) (h1 : Below (grid0.coords t)) (h2 : ¬Ends (grid0.coords t)) (y : S2x512x128.Idx) : ∃ pc ∈ (atFirst m c t h0 h1 h2).2.1, y ∈ pc.1.set :=
  View.cover_of_tiledL (s := S2x512x128) _ S2x512x128.size (by sl_kernel_rfl) y
theorem coverOnly_out (t : Fin cfg0.N) (h0 : Starts (grid0.coords t)) (h1 : ¬Below (grid0.coords t)) (h2 : Ends (grid0.coords t)) (y : S512x128.Idx) : ∃ pc ∈ (atOnly m c t h0 h1 h2).1, y ∈ pc.1.set :=
  View.cover_of_tiledL (s := S512x128) _ S512x128.size (by sl_kernel_rfl) y
theorem coverOnly_mean (t : Fin cfg0.N) (h0 : Starts (grid0.coords t)) (h1 : ¬Below (grid0.coords t)) (h2 : Ends (grid0.coords t)) (y : S512x128.Idx) : ∃ pc ∈ (atOnly m c t h0 h1 h2).2.1, y ∈ pc.1.set :=
  View.cover_of_tiledL (s := S512x128) _ S512x128.size (by sl_kernel_rfl) y
theorem coverOnly_lse (t : Fin cfg0.N) (h0 : Starts (grid0.coords t)) (h1 : ¬Below (grid0.coords t)) (h2 : Ends (grid0.coords t)) (y : S512x128.Idx) : ∃ pc ∈ (atOnly m c t h0 h1 h2).2.2.1, y ∈ pc.1.set :=
  View.cover_of_tiledL (s := S512x128) _ S512x128.size (by sl_kernel_rfl) y
theorem coverOnly_max (t : Fin cfg0.N) (h0 : Starts (grid0.coords t)) (h1 : ¬Below (grid0.coords t)) (h2 : Ends (grid0.coords t)) (y : S2x512x1.Idx) : ∃ pc ∈ (atOnly m c t h0 h1 h2).2.2.2.1, y ∈ pc.1.set :=
  View.cover_of_tiledL (s := S2x512x1) _ S2x512x1.size (by sl_kernel_rfl) y
theorem coverOnly_acc (t : Fin cfg0.N) (h0 : Starts (grid0.coords t)) (h1 : ¬Below (grid0.coords t)) (h2 : Ends (grid0.coords t)) (y : S2x512x128.Idx) : ∃ pc ∈ (atOnly m c t h0 h1 h2).2.2.2.2.1, y ∈ pc.1.set :=
  View.cover_of_tiledL (s := S2x512x128) _ S2x512x128.size (by sl_kernel_rfl) y

/-- Pieces that cover a buffer determine what it holds. -/
theorem wrote {s : Shape} {e : EltTy} (arg : Memref sig .tc .vmem s e) (L : List (View.Piece (Elt F) s e)) (h : ∀ y, ∃ pc ∈ L, y ∈ pc.1.set) :
    Wrote c arg L ⊢ (owns (c : Thread nD τ) arg fullShare (View.canon (Val := Elt F) L) : sProp (Res F)) := by
  unfold owns
  iintro ⟨%f, H⟩
  iexists _; isplitr
  swap
  · iexact H
  ipureintro; exact View.read_writes_eq_canon _ _ _ h

/-! The invariant and the proof data. -/

/-- The scratch at anything. -/
def loose : sProp (Res F) :=
  iprop(iprop(Any F c (Memref.whole cc0_scratch0) ∗ Any F c (Memref.whole cc0_scratch1) ∗ Any F c (Memref.whole cc0_scratch2) ∗ Any F c (Memref.whole cc0_scratch3)) ∗ (∃ r, prngReg c r))

theorem loose_eq : (Pipeline.ΦA spec0 c : sProp (Res F)) = loose c := by
  unfold Pipeline.ΦA loose; rw [scopedRest0_eq]
  simp only [Any, owns_whole]; try rfl

/-- Before point `n`: the maxima and the sums as carried, the two work buffers at anything. -/
def Inv : ℕ → sProp (Res F)
  | 0 => loose c
  | n + 1 => iprop(iprop(owns (c : Thread nD τ) (Memref.whole cc0_scratch0) fullShare (carried m c (n + 1)).1.1 ∗ owns (c : Thread nD τ) (Memref.whole cc0_scratch1) fullShare (carried m c (n + 1)).1.2
      ∗ Any F c (Memref.whole cc0_scratch2) ∗ Any F c (Memref.whole cc0_scratch3)) ∗ (∃ r, prngReg c r))

theorem Inv_pos (n : ℕ) (h : n ≠ 0) : Inv m c n = iprop(iprop(owns (c : Thread nD τ) (Memref.whole cc0_scratch0) fullShare (carried m c n).1.1 ∗ owns (c : Thread nD τ) (Memref.whole cc0_scratch1) fullShare (carried m c n).1.2
      ∗ Any F c (Memref.whole cc0_scratch2) ∗ Any F c (Memref.whole cc0_scratch3)) ∗ (∃ r, prngReg c r)) := by
  cases n with
  | zero => exact absurd rfl h
  | succ n => rfl

theorem Inv_loose (n : ℕ) : Inv m c n ⊢ loose c := by
  cases n with
  | zero => exact Entails.refl _
  | succ n =>
    unfold Inv loose
    iintro ⟨⟨H0, H1, H2, H3⟩, Hg⟩
    isplitl [H0 H1 H2 H3]
    · isplitl [H0]
      · iexists _; iexact H0
      isplitl [H1]
      · iexists _; iexact H1
      isplitl [H2]
      · iexact H2
      iexact H3
    iexact Hg

/-- The pipeline's proof data: inputs at their blocks, outputs as carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (carried m c (t.val + 1)).2.1
    | ⟨5, _⟩ => (carried m c (t.val + 1)).2.2.1
    | ⟨6, _⟩ => (carried m c (t.val + 1)).2.2.2
  Φ t := Inv m c t.val
  q w := Pipeline.shareOf spec0 w
  owed _ := 0

theorem A_eq (w : Fin cfg0.W) : (dats m 0 c).A w = V m c (Pipeline.arrRef spec0 w) := by dsimp only [dats]

variable (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = (carried m c (t.val + 1)).2.1 := by dsimp only [dats]
theorem after5 : (dats m 0 c).after 5 t = (carried m c (t.val + 1)).2.2.1 := by dsimp only [dats]
theorem after6 : (dats m 0 c).after 6 t = (carried m c (t.val + 1)).2.2.2 := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d

/-- Where an output is idle, the tile is off the diagonal. -/
theorem idle4 : cfg0.idle 4 (grid0.coords t) = true ↔ ¬Ends (grid0.coords t) := by
  show (!(k0_cond3 (grid0.coords t) == 1#1)) = true ↔ _
  simp
theorem idle5 : cfg0.idle 5 (grid0.coords t) = true ↔ ¬Ends (grid0.coords t) := by
  show (!(k0_cond3 (grid0.coords t) == 1#1)) = true ↔ _
  simp
theorem idle6 : cfg0.idle 6 (grid0.coords t) = true ↔ ¬Ends (grid0.coords t) := by
  show (!(k0_cond3 (grid0.coords t) == 1#1)) = true ↔ _
  simp

/-- Off the diagonal what is carried of the outputs stays. -/
theorem outs_stay (h : ¬Ends (grid0.coords t)) (h0 : t.val ≠ 0) : (carried m c (t.val + 1)).2 = (carried m c (t.val - 1 + 1)).2 := by
  rw [carried_succ, next_outs m c t _ h, Nat.sub_add_cancel (Nat.pos_of_ne_zero h0)]

theorem stay4 : ∀ (t : Fin cfg0.N) (_ : t.val ≠ 0), cfg0.idle 4 (grid0.coords t) = true → cfg0.fresh 4 t.val = false →
    (dats m 0 c).after 4 t = (dats m 0 c).after 4 ⟨t.val - 1, lt_of_le_of_lt (Nat.sub_le _ _) t.isLt⟩ := fun t h0 h _ => by
  rw [after4, after4, outs_stay m c t ((idle4 t).mp h) h0]
theorem stay5 : ∀ (t : Fin cfg0.N) (_ : t.val ≠ 0), cfg0.idle 5 (grid0.coords t) = true → cfg0.fresh 5 t.val = false →
    (dats m 0 c).after 5 t = (dats m 0 c).after 5 ⟨t.val - 1, lt_of_le_of_lt (Nat.sub_le _ _) t.isLt⟩ := fun t h0 h _ => by
  rw [after5, after5, outs_stay m c t ((idle5 t).mp h) h0]
theorem stay6 : ∀ (t : Fin cfg0.N) (_ : t.val ≠ 0), cfg0.idle 6 (grid0.coords t) = true → cfg0.fresh 6 t.val = false →
    (dats m 0 c).after 6 t = (dats m 0 c).after 6 ⟨t.val - 1, lt_of_le_of_lt (Nat.sub_le _ _) t.isLt⟩ := fun t h0 h _ => by
  rw [after6, after6, outs_stay m c t ((idle6 t).mp h) h0]

theorem flush4 : (cfg0.win 4).flush t = decide (t.val % 8 = 7) := (flush_iff t).1.1
theorem flush5 : (cfg0.win 5).flush t = decide (t.val % 8 = 7) := (flush_iff t).1.2
theorem flush6 : (cfg0.win 6).flush t = decide (t.val % 8 = 7) := (flush_iff t).2

/-- Past the diagonal a row's outputs are set. -/
theorem set_at (h : ¬Ends (grid0.coords t)) (h7 : t.val % 8 = 7) : unset t.val = false := by
  rw [ends_iff] at h
  unfold unset; rw [decide_eq_false_iff_not]; omega

/-- An output a point leaves alone is left as it should be. -/
theorem keep4 (h : ¬Ends (grid0.coords t)) : iprop(∃ d, owns (c : Thread nD τ) (st0_4 t) fullShare ((dats m 0 c).before 4 t d)) ⊢ (dats m 0 c).leavesExact 4 t := by
  by_cases h7 : t.val % 8 = 7
  · unfold Dat.leavesExact; rw [(idle4 t).mpr h, flush4, decide_eq_true h7, after4, outs_stay m c t h (by omega)]
    iintro ⟨%d, H⟩
    rw [Dat.before_out_traj _ 4 rfl (fun _ _ => rfl) (stay4 m c) t.val t rfl d,
      if_neg (by rw [Pipeline.Cfg.fresh_tab cfg0 4 unset rfl unset_step4 t.val (Nat.le_of_lt t.isLt), set_at t h h7]; exact Bool.false_ne_true), after4]
    iexact H
  · rw [Dat.leavesExact_idle (dats m 0 c) 4 t ((idle4 t).mpr h) (by rw [flush4]; exact decide_eq_false h7)]
theorem keep5 (h : ¬Ends (grid0.coords t)) : iprop(∃ d, owns (c : Thread nD τ) (st0_5 t) fullShare ((dats m 0 c).before 5 t d)) ⊢ (dats m 0 c).leavesExact 5 t := by
  by_cases h7 : t.val % 8 = 7
  · unfold Dat.leavesExact; rw [(idle5 t).mpr h, flush5, decide_eq_true h7, after5, outs_stay m c t h (by omega)]
    iintro ⟨%d, H⟩
    rw [Dat.before_out_traj _ 5 rfl (fun _ _ => rfl) (stay5 m c) t.val t rfl d,
      if_neg (by rw [Pipeline.Cfg.fresh_tab cfg0 5 unset rfl unset_step5 t.val (Nat.le_of_lt t.isLt), set_at t h h7]; exact Bool.false_ne_true), after5]
    iexact H
  · rw [Dat.leavesExact_idle (dats m 0 c) 5 t ((idle5 t).mpr h) (by rw [flush5]; exact decide_eq_false h7)]
theorem keep6 (h : ¬Ends (grid0.coords t)) : iprop(∃ d, owns (c : Thread nD τ) (st0_6 t) fullShare ((dats m 0 c).before 6 t d)) ⊢ (dats m 0 c).leavesExact 6 t := by
  by_cases h7 : t.val % 8 = 7
  · unfold Dat.leavesExact; rw [(idle6 t).mpr h, flush6, decide_eq_true h7, after6, outs_stay m c t h (by omega)]
    iintro ⟨%d, H⟩
    rw [Dat.before_out_traj _ 6 rfl (fun _ _ => rfl) (stay6 m c) t.val t rfl d,
      if_neg (by rw [Pipeline.Cfg.fresh_tab cfg0 6 unset rfl unset_step6 t.val (Nat.le_of_lt t.isLt), set_at t h h7]; exact Bool.false_ne_true), after6]
    iexact H
  · rw [Dat.leavesExact_idle (dats m 0 c) 6 t ((idle6 t).mpr h) (by rw [flush6]; exact decide_eq_false h7)]

theorem live0 : (dats m 0 c).leavesExact 0 t = owns (c : Thread nD τ) (st0_0 t) fullShare (iblk m c 0 t) := by
  unfold Dat.leavesExact; rw [show cfg0.idle 0 (cfg0.grid.coords t) = false from rfl, after0]
theorem live1 : (dats m 0 c).leavesExact 1 t = owns (c : Thread nD τ) (st0_1 t) fullShare (iblk m c 1 t) := by
  unfold Dat.leavesExact; rw [show cfg0.idle 1 (cfg0.grid.coords t) = false from rfl, after1]
theorem live2 : (dats m 0 c).leavesExact 2 t = owns (c : Thread nD τ) (st0_2 t) fullShare (iblk m c 2 t) := by
  unfold Dat.leavesExact; rw [show cfg0.idle 2 (cfg0.grid.coords t) = false from rfl, after2]
theorem live3 : (dats m 0 c).leavesExact 3 t = owns (c : Thread nD τ) (st0_3 t) fullShare (iblk m c 3 t) := by
  unfold Dat.leavesExact; rw [show cfg0.idle 3 (cfg0.grid.coords t) = false from rfl, after3]
theorem live4 (h : Ends (grid0.coords t)) : (dats m 0 c).leavesExact 4 t = owns (c : Thread nD τ) (st0_4 t) fullShare (carried m c (t.val + 1)).2.1 := by
  unfold Dat.leavesExact; rw [Bool.eq_false_iff.mpr fun e => (idle4 t).mp e h, after4]
theorem live5 (h : Ends (grid0.coords t)) : (dats m 0 c).leavesExact 5 t = owns (c : Thread nD τ) (st0_5 t) fullShare (carried m c (t.val + 1)).2.2.1 := by
  unfold Dat.leavesExact; rw [Bool.eq_false_iff.mpr fun e => (idle5 t).mp e h, after5]
theorem live6 (h : Ends (grid0.coords t)) : (dats m 0 c).leavesExact 6 t = owns (c : Thread nD τ) (st0_6 t) fullShare (carried m c (t.val + 1)).2.2.2 := by
  unfold Dat.leavesExact; rw [Bool.eq_false_iff.mpr fun e => (idle6 t).mp e h, after6]

/-- What a point's body starts from. -/
def Pre : sProp (Res F) :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it ends in. -/
def Post : sProp (Res F) :=
  iprop(Inv m c (t.val + 1) ∗ (dats m 0 c).owesAt () t.castSucc
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A point's body does its work. -/
abbrev Sound : Prop := Pre m c t ⊢ wp frame (wpE (defs₀ (F := F)) Variants.none c none) Set.univ (bodyAt0 t) (fun _ => Post m c t)

variable {m c t} in
/-- A run of the body from what the point finds to what is carried on is all a point has to do. -/
theorem sound_of (o4 o4' : Vec F S512x128 .bf16 → sProp (Res F)) (o5 o5' o6 o6' : Vec F S512x128 .f32 → sProp (Res F)) (M A M' A' : sProp (Res F))
    (run : ∀ d4 d5 d6, Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (iblk m c 0 t) (iblk m c 1 t) (iblk m c 2 t) (iblk m c 3 t) (o4 d4) (o5 d5) (o6 d6) M A (o4' d4) (o5' d5) (o6' d6) M' A')
    (hin : Inv m c t.val ⊢ iprop(iprop(M ∗ A ∗ Any F c (Memref.whole cc0_scratch2) ∗ Any F c (Memref.whole cc0_scratch3)) ∗ (∃ r, prngReg c r)))
    (h4 : ∀ d, owns (c : Thread nD τ) (st0_4 t) fullShare d ⊢ o4 d) (h5 : ∀ d, owns (c : Thread nD τ) (st0_5 t) fullShare d ⊢ o5 d) (h6 : ∀ d, owns (c : Thread nD τ) (st0_6 t) fullShare d ⊢ o6 d)
    (k4 : ∀ d, o4' ((dats m 0 c).before 4 t d) ⊢ (dats m 0 c).leavesExact 4 t) (k5 : ∀ d, o5' ((dats m 0 c).before 5 t d) ⊢ (dats m 0 c).leavesExact 5 t) (k6 : ∀ d, o6' ((dats m 0 c).before 6 t d) ⊢ (dats m 0 c).leavesExact 6 t)
    (hM : M' ⊢ owns (c : Thread nD τ) (Memref.whole cc0_scratch0) fullShare (carried m c (t.val + 1)).1.1)
    (hA : A' ⊢ owns (c : Thread nD τ) (Memref.whole cc0_scratch1) fullShare (carried m c (t.val + 1)).1.2) : Sound m c t := by
  unfold Sound Pre Post bodyAt0
  simp only [before0, before1, before2, before3, live0, live1, live2, live3]
  rw [Inv]
  iintro ⟨HI, Ho, ⟨%d0, H0⟩, ⟨%d1, H1⟩, ⟨%d2, H2⟩, ⟨%d3, H3⟩, ⟨%d4, H4⟩, ⟨%d5, H5⟩, ⟨%d6, H6⟩⟩
  ihave HI := hin $$ HI
  icases HI with ⟨⟨HS0, HS1, HS2, HS3⟩, Hg⟩
  iapply (run ((dats m 0 c).before 4 t d4) ((dats m 0 c).before 5 t d5) ((dats m 0 c).before 6 t d6) Set.univ _)
  isplitl [H0]
  · iexact H0
  isplitl [H1]
  · iexact H1
  isplitl [H2]
  · iexact H2
  isplitl [H3]
  · iexact H3
  isplitl [H4]
  · iapply (h4 _); iexact H4
  isplitl [H5]
  · iapply (h5 _); iexact H5
  isplitl [H6]
  · iapply (h6 _); iexact H6
  isplitl [HS0]
  · iexact HS0
  isplitl [HS1]
  · iexact HS1
  isplitl [HS2]
  · iexact HS2
  isplitl [HS3]
  · iexact HS3
  iintro ⟨H0, H1, H2, H3, H4, H5, H6, HS0, HS1, HS2, HS3⟩
  isplitl [HS0 HS1 HS2 HS3 Hg]
  · isplitl [HS0 HS1 HS2 HS3]
    · isplitl [HS0]
      · iapply hM; iexact HS0
      isplitl [HS1]
      · iapply hA; iexact HS1
      isplitl [HS2]
      · iexact HS2
      iexact HS3
    iexact Hg
  isplitl [Ho]
  · iexact Ho
  isplitl [H0]
  · iexact H0
  isplitl [H1]
  · iexact H1
  isplitl [H2]
  · iexact H2
  isplitl [H3]
  · iexact H3
  isplitl [H4]
  · iapply (k4 d4); iexact H4
  isplitl [H5]
  · iapply (k5 d5); iexact H5
  iapply (k6 d6); iexact H6

theorem some_at {s : Shape} {e : EltTy} (c : Dev nD) (arg : Memref sig .tc .vmem s e) (d) : owns (c : Thread nD τ) arg fullShare d ⊢ Any F c arg := by
  iintro H; iexists _; iexact H

theorem carried_in (h : t.val ≠ 0) : Inv m c t.val ⊢ iprop(iprop(owns (c : Thread nD τ) (Memref.whole cc0_scratch0) fullShare (carried m c t.val).1.1 ∗ owns (c : Thread nD τ) (Memref.whole cc0_scratch1) fullShare (carried m c t.val).1.2
      ∗ Any F c (Memref.whole cc0_scratch2) ∗ Any F c (Memref.whole cc0_scratch3)) ∗ (∃ r, prngReg c r)) :=
  (Inv_pos m c t.val h).le

theorem not_zero (h0 : ¬Starts (grid0.coords t)) : t.val ≠ 0 := fun e => h0 ((starts_iff t).mpr (by rw [e]))

theorem kept4 (h : ¬Ends (grid0.coords t)) (d) : owns (c : Thread nD τ) (st0_4 t) fullShare ((dats m 0 c).before 4 t d) ⊢ (dats m 0 c).leavesExact 4 t := by
  iintro H; iapply (keep4 m c t h); iexists _; iexact H
theorem kept5 (h : ¬Ends (grid0.coords t)) (d) : owns (c : Thread nD τ) (st0_5 t) fullShare ((dats m 0 c).before 5 t d) ⊢ (dats m 0 c).leavesExact 5 t := by
  iintro H; iapply (keep5 m c t h); iexists _; iexact H
theorem kept6 (h : ¬Ends (grid0.coords t)) (d) : owns (c : Thread nD τ) (st0_6 t) fullShare ((dats m 0 c).before 6 t d) ⊢ (dats m 0 c).leavesExact 6 t := by
  iintro H; iapply (keep6 m c t h); iexists _; iexact H

/-- A step below the diagonal that is not its row's first. -/
theorem soundStep (h0 : ¬Starts (grid0.coords t)) (h1 : Below (grid0.coords t)) (h2 : ¬Ends (grid0.coords t)) : Sound m c t := by
  have hs := carried_succ m c t
  rw [next, dif_neg h0, dif_pos h1, dif_neg h2] at hs
  have cm := coverStep_max m c t h0 h1 h2 (carried m c t.val).1.1 (carried m c t.val).1.2
  have ca := coverStep_acc m c t h0 h1 h2 (carried m c t.val).1.1 (carried m c t.val).1.2
  generalize atStep m c t h0 h1 h2 (carried m c t.val).1.1 (carried m c t.val).1.2 = L at hs cm ca
  exact sound_of (fun d => owns (c : Thread nD τ) (st0_4 t) fullShare d) (fun d => owns (c : Thread nD τ) (st0_4 t) fullShare d) (fun d => owns (c : Thread nD τ) (st0_5 t) fullShare d) (fun d => owns (c : Thread nD τ) (st0_5 t) fullShare d) (fun d => owns (c : Thread nD τ) (st0_6 t) fullShare d) (fun d => owns (c : Thread nD τ) (st0_6 t) fullShare d) _ _ _ _
    L.2.2 (carried_in m c t (not_zero t h0)) (fun _ => .rfl) (fun _ => .rfl) (fun _ => .rfl) (kept4 m c t h2) (kept5 m c t h2) (kept6 m c t h2)
    (by rw [hs]; exact wrote c _ _ cm) (by rw [hs]; exact wrote c _ _ ca)

/-- The first of several steps. -/
theorem soundFirst (h0 : Starts (grid0.coords t)) (h1 : Below (grid0.coords t)) (h2 : ¬Ends (grid0.coords t)) : Sound m c t := by
  have hs := carried_succ m c t
  rw [next, dif_pos h0, dif_pos h1, dif_neg h2] at hs
  have cm := coverFirst_max m c t h0 h1 h2
  have ca := coverFirst_acc m c t h0 h1 h2
  generalize atFirst m c t h0 h1 h2 = L at hs cm ca
  exact sound_of (fun d => owns (c : Thread nD τ) (st0_4 t) fullShare d) (fun d => owns (c : Thread nD τ) (st0_4 t) fullShare d) (fun d => owns (c : Thread nD τ) (st0_5 t) fullShare d) (fun d => owns (c : Thread nD τ) (st0_5 t) fullShare d) (fun d => owns (c : Thread nD τ) (st0_6 t) fullShare d) (fun d => owns (c : Thread nD τ) (st0_6 t) fullShare d) _ _ _ _
    L.2.2 (Inv_loose m c t.val) (fun _ => .rfl) (fun _ => .rfl) (fun _ => .rfl) (kept4 m c t h2) (kept5 m c t h2) (kept6 m c t h2)
    (by rw [hs]; exact wrote c _ _ cm) (by rw [hs]; exact wrote c _ _ ca)

/-- The diagonal step of a row with several. -/
theorem soundLast (h0 : ¬Starts (grid0.coords t)) (h1 : ¬Below (grid0.coords t)) (h2 : Ends (grid0.coords t)) : Sound m c t := by
  have hs := carried_succ m c t
  rw [next, dif_neg h0, dif_neg h1, dif_pos h2] at hs
  have cm := coverLast_max m c t h0 h1 h2 (carried m c t.val).1.1 (carried m c t.val).1.2
  have ca := coverLast_acc m c t h0 h1 h2 (carried m c t.val).1.1 (carried m c t.val).1.2
  have co := coverLast_out m c t h0 h1 h2 (carried m c t.val).1.1 (carried m c t.val).1.2
  have cw := coverLast_mean m c t h0 h1 h2 (carried m c t.val).1.1 (carried m c t.val).1.2
  have cl := coverLast_lse m c t h0 h1 h2 (carried m c t.val).1.1 (carried m c t.val).1.2
  generalize atLast m c t h0 h1 h2 (carried m c t.val).1.1 (carried m c t.val).1.2 = L at hs cm ca co cw cl
  exact sound_of (fun _ => Any F c (st0_4 t)) (fun _ => Wrote c (st0_4 t) L.1) (fun _ => Any F c (st0_5 t)) (fun _ => Wrote c (st0_5 t) L.2.1) (fun _ => Any F c (st0_6 t)) (fun _ => Wrote c (st0_6 t) L.2.2.1) _ _ _ _
    (fun _ _ _ => L.2.2.2.2.2) (carried_in m c t (not_zero t h0)) (some_at c _) (some_at c _) (some_at c _)
    (fun _ => by rw [live4 m c t h2, hs]; exact wrote c _ _ co) (fun _ => by rw [live5 m c t h2, hs]; exact wrote c _ _ cw) (fun _ => by rw [live6 m c t h2, hs]; exact wrote c _ _ cl)
    (by rw [hs]; exact wrote c _ _ cm) (by rw [hs]; exact wrote c _ _ ca)

/-- The only step of the first row of tiles. -/
theorem soundOnly (h0 : Starts (grid0.coords t)) (h1 : ¬Below (grid0.coords t)) (h2 : Ends (grid0.coords t)) : Sound m c t := by
  have hs := carried_succ m c t
  rw [next, dif_pos h0, dif_neg h1, dif_pos h2] at hs
  have cm := coverOnly_max m c t h0 h1 h2
  have ca := coverOnly_acc m c t h0 h1 h2
  have co := coverOnly_out m c t h0 h1 h2
  have cw := coverOnly_mean m c t h0 h1 h2
  have cl := coverOnly_lse m c t h0 h1 h2
  generalize atOnly m c t h0 h1 h2 = L at hs cm ca co cw cl
  exact sound_of (fun _ => Any F c (st0_4 t)) (fun _ => Wrote c (st0_4 t) L.1) (fun _ => Any F c (st0_5 t)) (fun _ => Wrote c (st0_5 t) L.2.1) (fun _ => Any F c (st0_6 t)) (fun _ => Wrote c (st0_6 t) L.2.2.1) _ _ _ _
    (fun _ _ _ => L.2.2.2.2.2) (Inv_loose m c t.val) (some_at c _) (some_at c _) (some_at c _)
    (fun _ => by rw [live4 m c t h2, hs]; exact wrote c _ _ co) (fun _ => by rw [live5 m c t h2, hs]; exact wrote c _ _ cw) (fun _ => by rw [live6 m c t h2, hs]; exact wrote c _ _ cl)
    (by rw [hs]; exact wrote c _ _ cm) (by rw [hs]; exact wrote c _ _ ca)

/-- Past the diagonal a point does nothing. -/
theorem soundPast (h0 : ¬Starts (grid0.coords t)) (h1 : ¬Below (grid0.coords t)) (h2 : ¬Ends (grid0.coords t)) : Sound m c t := by
  have hs := carried_succ m c t
  rw [next, dif_neg h0, dif_neg h1, dif_neg h2] at hs
  refine sound_of (fun d => owns (c : Thread nD τ) (st0_4 t) fullShare d) (fun d => owns (c : Thread nD τ) (st0_4 t) fullShare d) (fun d => owns (c : Thread nD τ) (st0_5 t) fullShare d) (fun d => owns (c : Thread nD τ) (st0_5 t) fullShare d) (fun d => owns (c : Thread nD τ) (st0_6 t) fullShare d) (fun d => owns (c : Thread nD τ) (st0_6 t) fullShare d) _ _ _ _
    (fun d4 d5 d6 E K => ?_) (carried_in m c t (not_zero t h0)) (fun _ => .rfl) (fun _ => .rfl) (fun _ => .rfl) (kept4 m c t h2) (kept5 m c t h2) (kept6 m c t h2)
    (by rw [hs]) (by rw [hs])
  simp only [cc0_attn_fwd_eq_skeleton]; unfold cc0_attn_fwd_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  iintro ⟨H0, H1, H2, H3, H4, H5, H6, HS0, HS1, HS2, HS3, Hk⟩
  sl_exec (disch := first | sl_exact h0 | sl_exact h1 | sl_exact h2)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [HS0]
  · iexact HS0
  isplitl [HS1]
  · iexact HS1
  isplitl [HS2]
  · iexact HS2
  iexact HS3

/-- Every point's body does its work. -/
theorem sound_body : Sound m c t := by
  have hS := starts_iff t
  have hB := below_iff t
  have hE := ends_iff t
  by_cases h0 : Starts (grid0.coords t) <;> by_cases h1 : Below (grid0.coords t) <;> by_cases h2 : Ends (grid0.coords t)
  · exfalso; rw [hB] at h1; rw [hE] at h2; omega
  · exact soundFirst m c t h0 h1 h2
  · exact soundOnly m c t h0 h1 h2
  · exfalso; rw [hS] at h0; rw [hB] at h1; rw [hE] at h2; omega
  · exfalso; rw [hB] at h1; rw [hE] at h2; omega
  · exact soundStep m c t h0 h1 h2
  · exact soundLast m c t h0 h1 h2
  · exact soundPast m c t h0 h1 h2

/-- The same, as the pipeline's rule asks for it. -/
theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! The run and the frame. -/

set_option backward.isDefEq.respectTransparency.types false in
/-- The program ends with the pipeline's arrays as its proof data says, the rest as found, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => (loose_eq c).le) (hout := fun c => (Inv_loose m c cfg0.N).trans (loose_eq c).ge)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.AttnFwdKernelIdeal.Gen

end
-- ==== Proof.AttnFwdPlain.lean ====
/-
  The attention's forward pass as the version has it, the mask a number: it is the program whose mask is a named constant, the
  constant read as that number. What is proved of the runs of the one for every reading of the constant is so of the other.
-/
module

public import proofs.«01_k».proof.Proof.AttnFwdFrame
public import proofs.«01_k».proof.Proof.Gen.AttnFwdKernel

@[expose] public section

set_option maxRecDepth 16384

noncomputable section

namespace Cert.AttnFwdKernel.Gen

open Cert.AttnFwdKernel Idealize.ShloMosaic Idealize.ShloMosaic.TcCoe Idealize.SL.Sem

variable {F : FTy → Type} [FloatOps F]

/-- A named constant read as the number its bits say. -/
abbrev plain : Named F := ⟨fun _ _ _ b => Scalar.ofBits _ b⟩

/-- The body is the other's, … -/
theorem body_same : @cc0_attn_fwd F _ _ = @Cert.AttnFwdKernelIdeal.cc0_attn_fwd F _ plain _ := rfl

set_option maxHeartbeats 4000000 in
/-- … so is the table of bodies, … -/
theorem defs0_same : @defs₀ F _ _ = @Cert.AttnFwdKernelIdeal.defs₀ F _ plain _ := by
  unfold defs₀ Cert.AttnFwdKernelIdeal.defs₀
  refine congrArg Defs.onTc ?_
  funext l x
  obtain ⟨l, hl⟩ := l
  match l, hl, x with
  | 0, _, (t, s) => rfl

set_option maxHeartbeats 4000000 in
/-- … and so is the host's program. -/
theorem main_same : @main F _ _ = @Cert.AttnFwdKernelIdeal.main F _ _ := rfl

/-- The arguments end as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Eq.mpr (congrArg₂ (fun d p => θ_run (Pipeline.defs pcfgs d) (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)) defs0_same main_same) (@Cert.AttnFwdKernelIdeal.Gen.frame F _ plain m ρ)

end Cert.AttnFwdKernel.Gen

end
-- ==== Proof.AttnFwdTile.lean ====
/-
  One step of the attention's forward pass: 512 query rows against 512 key rows of one pair of heads, in numbers.
-/
module

public import proofs.«01_k».proof.Proof.AttnTile
public import proofs.«01_k».proof.Proof.AttnFwdFrame

@[expose] public section

set_option maxRecDepth 16384

noncomputable section

namespace Cert.AttnFwdKernelIdeal.Tile

open Cert.AttnFwdKernelIdeal Cert.AttnFwdKernelIdeal.Gen Idealize.ShloMosaic Idealize.ShloMosaic.TcCoe
open Cert.AttnKernelIdeal.Tile (Rows Square query key dots causal across mix vec rows row plane part col bit pair Marks marks0 marks1 ones0 ones1 query_eq key_eq plane_eq part_eq part_cast bit_eq plane_read plane_cast
  mix_eq halves rows_cast)

/-- A number a row. -/
abbrev Col := Fin 512 → EReal

/-- A row's largest score. -/
def top (A : Square) : Col := fun r => Finset.univ.fold (fun a b : EReal => max a b) ⊥ (fun k => A r k)

/-- The exponentials of the scores, each row's less a number of its own. -/
def weights (A : Square) (D : Col) : Square := fun r k => Ideal.exp (A r k - D r)

/-- A head's lane that counts. -/
def spare (h : Fin 2) : ℕ := if h = 0 then 64 else 0

/-- A head's values: its lanes, a one in the lane that counts, zero elsewhere. -/
def vals (h : Fin 2) (v : Rows) : Rows := fun k l => if l.val / 64 = h.val then v k l else if l.val = spare h then 1 else 0

/-- A row's largest score so far. -/
def newMax (A : Square) (M : Col) : Col := fun r => max (M r) (top A r)

/-- A head's sums so far, brought to the new maximum, with the tile's added. -/
def newSum (h : Fin 2) (A : Square) (M : Col) (B v : Rows) : Rows := fun r l => Ideal.exp (M r - newMax A M r) * B r l + across (weights A (newMax A M)) (vals h v) r l

/-- A column. -/
def colv (X : Col) : FVec Ideal (⟨2, ![512, 1]⟩ : Shape) .f32 := fun x => X (x 0)

/-- Two heads' columns. -/
def cols (X Y : Col) : FVec Ideal (⟨3, ![2, 512, 1]⟩ : Shape) .f32 := fun x => if (x 0).val = 0 then X (x 1) else Y (x 1)

/-- A block as one of a pair's two planes. -/
def slab (X : Rows) : FVec Ideal (⟨3, ![1, 512, 128]⟩ : Shape) .f32 := fun x => X (x 1) (x 2)

theorem dots_eq (a b : Rows) :
    matmul dot_S512x128_S512x128_S512x512_1_1_0_0_n_n none (vec (φ := .bf16) a) (vec (φ := .bf16) b) (constant S512x512 .f32 0#32) = vec (φ := .f32) (dots a b) := by
  funext y; idx_vars y
  pointwise [vec, dots]

theorem across_eq (A : Square) (b : Rows) :
    matmul dot_S512x512_S512x128_S512x128_1_0_0_1_n_n none (vec (φ := .bf16) A) (vec (φ := .bf16) b) (constant S512x128 .f32 0#32) = vec (φ := .f32) (across A b) := by
  funext y; idx_vars y
  pointwise [vec, across]

/-- One head's column of a pair. -/
theorem ld_col (j : ℕ) (hj : j < 2) (P : FVec Ideal (⟨3, ![2, 512, 1]⟩ : Shape) .f32) (hb hc : _) :
    shapeCast S512x1 (View.ld (Val := Elt Ideal) (e' := .f32) P (Rect.unit (s := (⟨3, ![2, 512, 1]⟩ : Shape)) ![j, 0, 0] ![1, 512, 1] hb)) hc = colv (fun r => P (ix3 ⟨j, hj⟩ r 0)) := by
  have e : ∀ r : Fin 512, (Rect.unit (s := (⟨3, ![2, 512, 1]⟩ : Shape)) ![j, 0, 0] ![1, 512, 1] hb).emb (ix3 0 r 0) = ix3 ⟨j, hj⟩ r 0 := fun r => by
    funext a; refine Fin.ext ?_
    fin_cases a
    · show j + 1 * 0 = j; omega
    · show 0 + 1 * r.val = r.val; omega
    · rfl
  funext y; idx_vars y
  obtain rfl : y1 = 0 := by omega
  pointwise [colv]

theorem cast_slab (X : Rows) (hc : _) : shapeCast S512x128 (slab X) hc = vec (φ := .f32) X := by
  funext y; idx_vars y
  pointwise [vec, slab]

/-- One head's plane of a pair. -/
theorem ld_blk (j : ℕ) (hj : j < 2) (P : FVec Ideal (⟨3, ![2, 512, 128]⟩ : Shape) .f32) (hb hc : _) :
    shapeCast S512x128 (View.ld (Val := Elt Ideal) (e' := .f32) P (Rect.unit (s := (⟨3, ![2, 512, 128]⟩ : Shape)) ![j, 0, 0] ![1, 512, 128] hb)) hc = vec (φ := .f32) (fun r l => P (ix3 ⟨j, hj⟩ r l)) := by
  refine (congrArg (fun z => shapeCast S512x128 z hc) (?_ : _ = slab (fun r l => P (ix3 ⟨j, hj⟩ r l)))).trans (cast_slab _ hc)
  funext y
  refine congrArg P ?_
  funext a; refine Fin.ext ?_
  have h0 : (y 0).val < 1 := (y 0).isLt
  fin_cases a
  · show j + 1 * (y 0).val = j; omega
  · show 0 + 1 * (y 1).val = (y 1).val; omega
  · show 0 + 1 * (y 2).val = (y 2).val; omega

/-- Each row's largest score, in a line. -/
def tops (X : FVec Ideal S512x512 .f32) : FVec Ideal S512 .f32 := multiReduction (F := Ideal) (s := S512x512) (φ := .f32) .maximumf [1] S512 X 0xFF800000#32 reduces_S512x512_S512 (.inl rfl) rfl

theorem tops_form (X : FVec Ideal S512x512 .f32) : multiReduction (F := Ideal) (s := S512x512) (φ := .f32) .maximumf [1] S512 X 0xFF800000#32 reduces_S512x512_S512 (.inl rfl) rfl = tops X := rfl

theorem cast_tops (A : Square) (hc : _) : shapeCast S512x1 (tops (vec (φ := .f32) A)) hc = colv (top A) := by
  funext y; idx_vars y
  unfold tops
  pointwise [colv, vec, top]
  rw [show Ideal.ofBits .f32 4286578688#32 = (⊥ : EReal) from by simp [Ideal.ofBits, Ideal.ieee]]

theorem max_col (X Y : Col) : maximumf (F := Ideal) (s := S512x1) (colv X) (colv Y) = colv (fun r => max (X r) (Y r)) := by
  funext y; idx_vars y
  pointwise [colv]

theorem cast_col (X : Col) (hc : _) : shapeCast (⟨3, ![1, 512, 1]⟩ : Shape) (colv X) hc = col X := by
  funext y; idx_vars y
  pointwise [colv, col]

theorem weights_part (A : Square) (D : Col) (ρ : ℕ) (h1 h2 h3 h4 : _) :
    shapeCast (⟨3, ![1, 32, 512]⟩ : Shape) (truncf (F := Ideal) (s := S32x512) .bf16 (exp (s := S32x512) (subf (s := S32x512) (vec (φ := .f32) (fun r : Fin 32 => row A (ρ + r.val)))
      (broadcastTo S32x512 (shapeCast S32x1 (bit D ρ) h1) h2))) h3) h4 = part (φ := .bf16) (weights A D) ρ := by
  funext y; idx_vars y
  pointwise [vec, part, bit, row, weights]

theorem vals_eq {h : Fin 2} {M N : IVec S512x128 1} (hM : Marks h M) (hN : ∀ r l, N (ix2 r l) = 1#1 ↔ l.val = spare h) (v : FVec Ideal S512x128 .f32) (hc he ht : _) :
    truncf (F := Ideal) .bf16 (select M (shapeCast S512x128 v hc) (sitofp .f32 (extui 32 N he))) ht = vec (φ := .bf16) (vals h (rows v)) := by
  funext x; idx_vars x
  pointwise [vec, vals, rows]
  refine (if_congr (hM x0 x1) rfl rfl).trans ?_
  split
  · rfl
  · exact (Masks.bit _).trans (if_congr (hN x0 x1) rfl rfl)

theorem counts0 (hi : _) (r : Fin 512) (l : Fin 128) : cmpi .eq (iota .tc S512x128 32 [1] hi) (broadcast S512x128 64#32) (ix2 r l) = 1#1 ↔ l.val = spare 0 := by
  pointwise []
  revert l; decide +kernel

theorem counts1 (hi : _) (r : Fin 512) (l : Fin 128) : cmpi .eq (iota .tc S512x128 32 [1] hi) (broadcast S512x128 0#32) (ix2 r l) = 1#1 ↔ l.val = spare 1 := by
  pointwise []
  revert l; decide +kernel

theorem sum_eq (X Y : Col) (B C : Rows) (hb : _) :
    addf (F := Ideal) (s := S512x128) (mulf (s := S512x128) (broadcastTo S512x128 (exp (s := S512x1) (subf (s := S512x1) (colv X) (colv Y))) hb) (vec (φ := .f32) B)) (vec (φ := .f32) C)
      = vec (φ := .f32) (fun r l => Ideal.exp (X r - Y r) * B r l + C r l) := by
  funext y; idx_vars y
  pointwise [vec, colv]

theorem cast_blk (X : Rows) (hc : _) : shapeCast (⟨3, ![1, 512, 128]⟩ : Shape) (vec (φ := .f32) X) hc = slab X := by
  funext y; idx_vars y
  pointwise [vec, slab]

/-- Two columns stored one after the other are a pair's. -/
theorem canon_cols (X Y : Col) (b1 b2 : _) (L) :
    View.canon (Val := Elt Ideal) (e := .f32) (s := (⟨3, ![2, 512, 1]⟩ : Shape)) (⟨Rect.unit ![1, 0, 0] ![1, 512, 1] b1, col Y⟩ :: ⟨Rect.unit ![0, 0, 0] ![1, 512, 1] b2, col X⟩ :: L) = cols X Y := by
  funext y; idx_vars y
  obtain rfl : y2 = 0 := by omega
  have e : ∀ (j : Fin 2) (b : _), ix3 j y1 0 = (Rect.unit (s := (⟨3, ![2, 512, 1]⟩ : Shape)) ![j.val, 0, 0] ![1, 512, 1] b).emb (ix3 0 y1 0) := fun j b => by
    funext a; refine Fin.ext ?_
    fin_cases a
    · show j.val = j.val + 1 * 0; omega
    · show y1.val = 0 + 1 * y1.val; omega
    · rfl
  obtain rfl | rfl : y0 = 0 ∨ y0 = 1 := by omega
  · rw [View.canon_cons_of_not_mem _ _ (fun hm => ?_)]
    · exact (congrArg _ (e 0 b2)).trans (View.canon_cons_emb (Val := Elt Ideal) _ _ _ _)
    · rw [← Rect.map_emb_univ] at hm
      obtain ⟨x, -, hx⟩ := Finset.mem_map.mp hm
      have h1 : 1 + 1 * (x 0).val = 0 := congrArg Fin.val (congrFun hx 0)
      omega
  · exact (congrArg _ (e 1 b1)).trans (View.canon_cons_emb (Val := Elt Ideal) _ _ _ _)

/-- Two blocks stored one after the other are a pair's. -/
theorem canon_pair (X Y : Rows) (b1 b2 : _) (L) :
    View.canon (Val := Elt Ideal) (e := .f32) (s := (⟨3, ![2, 512, 128]⟩ : Shape)) (⟨Rect.unit ![1, 0, 0] ![1, 512, 128] b1, slab Y⟩ :: ⟨Rect.unit ![0, 0, 0] ![1, 512, 128] b2, slab X⟩ :: L) = pair X Y := by
  funext y; idx_vars y
  rw [halves]; rfl

/-- The triangle that the body keeps on the diagonal. -/
def kept (X : FVec Ideal S512x512 .f32) : FVec Ideal S512x512 .f32 :=
  select (cmpi .sge (iota .tc S512x512 32 [0] iota_S512x512_d0_w32) (iota .tc S512x512 32 [1] iota_S512x512_d1_w32)) X (broadcast S512x512 (Named.named κ "mask" (F := Ideal) (φ := .f32) 4048155338#32))

theorem kept_form (X : FVec Ideal S512x512 .f32) : select (cmpi .sge (iota .tc S512x512 32 [0] iota_S512x512_d0_w32) (iota .tc S512x512 32 [1] iota_S512x512_d1_w32)) X (broadcast S512x512 (Named.named κ "mask" (F := Ideal) (φ := .f32) 4048155338#32))
    = kept X := rfl

theorem causal_eq (A : Square) : kept (vec (φ := .f32) A) = vec (φ := .f32) (causal A) := by
  funext y; idx_vars y
  have h0 := y0.isLt
  have h1 := y1.isLt
  unfold kept
  pointwise [vec, causal]
  exact if_congr (Masks.sge (by omega) (by omega)) rfl rfl

/-- The two halves of a row: each head's sums, divided by the lane that counts. -/
theorem out_eq {M : IVec S512x128 1} (hM : Marks 0 M) (X Y : Rows) (hc hd hs hs' hb : _) :
    select (s := S512x128) M (divf (F := Ideal) (s := S512x128) (shapeCast S512x128 (slab X) hc) (broadcastTo S512x128 (extractStridedSlice S512x1 ![0, 64] (shapeCast S512x128 (slab X) hd) hs) hb))
        (divf (F := Ideal) (s := S512x128) (shapeCast S512x128 (slab Y) hc) (broadcastTo S512x128 (extractStridedSlice S512x1 ![0, 0] (shapeCast S512x128 (slab Y) hd) hs') hb))
      = vec (φ := .f32) (fun r l => if l.val < 64 then Ideal.div (X r l) (X r 64) else Ideal.div (Y r l) (Y r 0)) := by
  rw [cast_slab, cast_slab]
  funext y; idx_vars y
  pointwise [vec]
  refine if_congr ((hM y0 y1).trans ?_) rfl rfl
  show y1.val / 64 = 0 ↔ y1.val < 64
  omega

/-- And each head's maximum with the logarithm of that lane. -/
theorem log_eq {M : IVec S512x128 1} (hM : Marks 0 M) (X Y : Rows) (C D : Col) (hc hd hs hs' hb hp hq : _) :
    select (s := S512x128) M (broadcastTo S512x128 (shapeCast S512x1 (addf (F := Ideal) (s := S512x1) (shapeCast S512x1 (col C) hp) (log (s := S512x1) (extractStridedSlice S512x1 ![0, 64] (shapeCast S512x128 (slab X) hd) hs))) hq) hb)
        (broadcastTo S512x128 (shapeCast S512x1 (addf (F := Ideal) (s := S512x1) (shapeCast S512x1 (col D) hp) (log (s := S512x1) (extractStridedSlice S512x1 ![0, 0] (shapeCast S512x128 (slab Y) hc) hs'))) hq) hb)
      = vec (φ := .f32) (fun r l => if l.val < 64 then C r + Ideal.log (X r 64) else D r + Ideal.log (Y r 0)) := by
  rw [cast_slab, cast_slab]
  funext y; idx_vars y
  pointwise [vec, col]
  refine if_congr ((hM y0 y1).trans ?_) rfl rfl
  show y1.val / 64 = 0 ↔ y1.val < 64
  omega

/-- The maxima that the body takes on the diagonal. -/
theorem top75 (a b x q) : k0_pay75 (F := Ideal) a b x q = maximumf (k0_pay74 q) (shapeCast S512x1 (tops (k0_pay72 a b x)) shapeCasts_S512_S512x1) := rfl
theorem top104 (n a b x q) : k0_pay104 (F := Ideal) n a b x q = maximumf (k0_pay103 q) (shapeCast S512x1 (tops (k0_pay101 n a b x)) shapeCasts_S512_S512x1) := rfl

/-- No maximum yet, and no sum yet. -/
theorem no_top (x : S2x512x1.Idx) (hc : _) : shapeCast S2x512x1 (broadcast S2x512x1 (Named.named κ "mask" (F := Ideal) (φ := .f32) 4048155338#32)) hc x = (⊥ : EReal) := rfl

theorem no_sum (x : S2x512x128.Idx) (hc : _) : shapeCast S2x512x128 (broadcast S2x512x128 (FloatOps.ofBits (F := Ideal) .f32 0#32)) hc x = (0 : EReal) := by
  show Ideal.ofBits .f32 0#32 = 0
  simp [Ideal.ofBits, Ideal.ieee]

variable (c : Dev nD) (i : grid0.Coords)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S2x512x1 .f32) (harg10 : arg10.IsWhole)
  (arg11 : Memref sig .tc .vmem S2x512x128 .f32) (harg11 : arg11.IsWhole)
  (arg12 : Memref sig .tc .vmem S2x512x512 .f32) (harg12 : arg12.IsWhole)
  (arg13 : Memref sig .tc .vmem S2x512x512 .bf16) (harg13 : arg13.IsWhole)
  (x0 x1 x2 : Vec Ideal S512x128 .f32) (x3 : Vec Ideal S512x128 .bf16)

/-- The scores of a pair of tiles, one head's. -/
def score (h : Fin 2) : Square := dots (query h (rows (φ := .f32) x0)) (key h (rows (φ := .f32) x1) (rows (φ := .bf16) x3))

/-- A head's maxima and sums, in a pair's arrays. -/
def mcol (P : FVec Ideal (⟨3, ![2, 512, 1]⟩ : Shape) .f32) (h : Fin 2) : Col := fun r => P (ix3 h r 0)
def arow (P : FVec Ideal (⟨3, ![2, 512, 128]⟩ : Shape) .f32) (h : Fin 2) : Rows := fun r l => P (ix3 h r l)

/-- The maxima and the sums after a step with scores `A`. -/
def maxs (A : Fin 2 → Square) (M : Fin 2 → Col) : FVec Ideal (⟨3, ![2, 512, 1]⟩ : Shape) .f32 := cols (newMax (A 0) (M 0)) (newMax (A 1) (M 1))
def accs (A : Fin 2 → Square) (M : Fin 2 → Col) (B : Fin 2 → Rows) (v : Rows) : FVec Ideal (⟨3, ![2, 512, 128]⟩ : Shape) .f32 := pair (newSum 0 (A 0) (M 0) (B 0) v) (newSum 1 (A 1) (M 1) (B 1) v)

/-- The two halves of a row: the sums of each head divided by the head's lane that counts, and the maximum with the logarithm of that lane. -/
def outs {φ : FTy} (A : Fin 2 → Square) (M : Fin 2 → Col) (B : Fin 2 → Rows) (v : Rows) : FVec Ideal (⟨2, ![512, 128]⟩ : Shape) φ := vec (fun r l =>
  if l.val < 64 then Ideal.div (newSum 0 (A 0) (M 0) (B 0) v r l) (newSum 0 (A 0) (M 0) (B 0) v r 64) else Ideal.div (newSum 1 (A 1) (M 1) (B 1) v r l) (newSum 1 (A 1) (M 1) (B 1) v r 0))
def lses (A : Fin 2 → Square) (M : Fin 2 → Col) (B : Fin 2 → Rows) (v : Rows) : FVec Ideal (⟨2, ![512, 128]⟩ : Shape) .f32 := vec (fun r l =>
  if l.val < 64 then newMax (A 0) (M 0) r + Ideal.log (newSum 0 (A 0) (M 0) (B 0) v r 64) else newMax (A 1) (M 1) r + Ideal.log (newSum 1 (A 1) (M 1) (B 1) v r 0))

set_option maxHeartbeats 2000000 in
/-- A step below the diagonal. -/
theorem step_eq (h0 : ¬Starts i) (h1 : Below i) (h2 : ¬Ends i) (M : Vec Ideal S2x512x1 .f32) (B : Vec Ideal S2x512x128 .f32) :
    (View.canon (Val := Elt Ideal) (runStep c i arg3 harg3 arg4 harg4 arg5 harg5 arg6 harg6 arg7 harg7 arg8 harg8 arg9 harg9 arg10 harg10 arg11 harg11 arg12 harg12 arg13 harg13 x0 x1 x2 x3 h0 h1 h2 M B).1, View.canon (Val := Elt Ideal) (runStep c i arg3 harg3 arg4 harg4 arg5 harg5 arg6 harg6 arg7 harg7 arg8 harg8 arg9 harg9 arg10 harg10 arg11 harg11 arg12 harg12 arg13 harg13 x0 x1 x2 x3 h0 h1 h2 M B).2.1)
      = (maxs (fun h => score x0 x1 x3 h) (mcol M), accs (fun h => score x0 x1 x3 h) (mcol M) (arow B) (rows (φ := .f32) x2)) := by
  frame_out
  rw [tops_form, tops_form]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
  try simp (disch := decide) only [↓ View.readCov_skip, ↓ View.readCov_cons_toLoadRect, ↓ View.readCov_fill]
  simp only [read_unread_whole, query_eq (marks0 _) (ones0 _ _), query_eq (marks1 _) (ones1 _ _), key_eq (marks0 _), key_eq (marks1 _), vals_eq (marks0 _) (counts0 _), vals_eq (marks1 _) (counts1 _), dots_eq, plane_eq, rows_cast,
    ld_col 0 (by decide), ld_col 1 (by decide), ld_blk 0 (by decide), ld_blk 1 (by decide), cast_tops, max_col, cast_col]
  simp (disch := decide) only [part_eq, part_cast, bit_eq, weights_part]
  simp only [plane_read _ _ 0 (by decide), plane_read _ _ 1 (by decide), plane_cast, across_eq, sum_eq, cast_blk, canon_cols, canon_pair]
  rfl

set_option maxHeartbeats 2000000 in
/-- A query tile's first step of several: from nothing. -/
theorem first_eq (h0 : Starts i) (h1 : Below i) (h2 : ¬Ends i) :
    (View.canon (Val := Elt Ideal) (runFirst c i arg3 harg3 arg4 harg4 arg5 harg5 arg6 harg6 arg7 harg7 arg8 harg8 arg9 harg9 arg10 harg10 arg11 harg11 arg12 harg12 arg13 harg13 x0 x1 x2 x3 h0 h1 h2).1, View.canon (Val := Elt Ideal) (runFirst c i arg3 harg3 arg4 harg4 arg5 harg5 arg6 harg6 arg7 harg7 arg8 harg8 arg9 harg9 arg10 harg10 arg11 harg11 arg12 harg12 arg13 harg13 x0 x1 x2 x3 h0 h1 h2).2.1)
      = (maxs (fun h => score x0 x1 x3 h) (fun _ _ => ⊥), accs (fun h => score x0 x1 x3 h) (fun _ _ => ⊥) (fun _ _ _ => 0) (rows (φ := .f32) x2)) := by
  frame_out
  rw [tops_form, tops_form]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
  try simp (disch := decide) only [↓ View.readCov_skip, ↓ View.readCov_cons_toLoadRect, ↓ View.readCov_fill]
  simp only [read_unread_whole, query_eq (marks0 _) (ones0 _ _), query_eq (marks1 _) (ones1 _ _), key_eq (marks0 _), key_eq (marks1 _), vals_eq (marks0 _) (counts0 _), vals_eq (marks1 _) (counts1 _), dots_eq, plane_eq, rows_cast,
    ld_col 0 (by decide), ld_col 1 (by decide), ld_blk 0 (by decide), ld_blk 1 (by decide), cast_tops, max_col, cast_col]
  simp (disch := decide) only [part_eq, part_cast, bit_eq, weights_part]
  simp only [plane_read _ _ 0 (by decide), plane_read _ _ 1 (by decide), plane_cast, across_eq, sum_eq, cast_blk, canon_cols, canon_pair]
  simp only [no_top, no_sum]
  rfl

set_option maxHeartbeats 2000000 in
/-- The diagonal step of a query tile with several. -/
theorem last_eq (h0 : ¬Starts i) (h1 : ¬Below i) (h2 : Ends i) (M : Vec Ideal S2x512x1 .f32) (B : Vec Ideal S2x512x128 .f32) :
    (View.canon (Val := Elt Ideal) (runLast c i arg3 harg3 arg4 harg4 arg5 harg5 arg6 harg6 arg7 harg7 arg8 harg8 arg9 harg9 arg10 harg10 arg11 harg11 arg12 harg12 arg13 harg13 x0 x1 x2 x3 h0 h1 h2 M B).2.2.2.1, View.canon (Val := Elt Ideal) (runLast c i arg3 harg3 arg4 harg4 arg5 harg5 arg6 harg6 arg7 harg7 arg8 harg8 arg9 harg9 arg10 harg10 arg11 harg11 arg12 harg12 arg13 harg13 x0 x1 x2 x3 h0 h1 h2 M B).2.2.2.2.1, View.canon (Val := Elt Ideal) (runLast c i arg3 harg3 arg4 harg4 arg5 harg5 arg6 harg6 arg7 harg7 arg8 harg8 arg9 harg9 arg10 harg10 arg11 harg11 arg12 harg12 arg13 harg13 x0 x1 x2 x3 h0 h1 h2 M B).1, View.canon (Val := Elt Ideal) (runLast c i arg3 harg3 arg4 harg4 arg5 harg5 arg6 harg6 arg7 harg7 arg8 harg8 arg9 harg9 arg10 harg10 arg11 harg11 arg12 harg12 arg13 harg13 x0 x1 x2 x3 h0 h1 h2 M B).2.1, View.canon (Val := Elt Ideal) (runLast c i arg3 harg3 arg4 harg4 arg5 harg5 arg6 harg6 arg7 harg7 arg8 harg8 arg9 harg9 arg10 harg10 arg11 harg11 arg12 harg12 arg13 harg13 x0 x1 x2 x3 h0 h1 h2 M B).2.2.1)
      = (maxs (fun h => causal (score x0 x1 x3 h)) (mcol M), accs (fun h => causal (score x0 x1 x3 h)) (mcol M) (arow B) (rows (φ := .f32) x2), outs (φ := .bf16) (fun h => causal (score x0 x1 x3 h)) (mcol M) (arow B) (rows (φ := .f32) x2),
        outs (φ := .f32) (fun h => causal (score x0 x1 x3 h)) (mcol M) (arow B) (rows (φ := .f32) x2), lses (fun h => causal (score x0 x1 x3 h)) (mcol M) (arow B) (rows (φ := .f32) x2)) := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, top75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, top104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
  rw [kept_form, kept_form]
  try simp (disch := decide) only [↓ View.readCov_skip, ↓ View.readCov_cons_toLoadRect, ↓ View.readCov_fill]
  simp only [read_unread_whole, query_eq (marks0 _) (ones0 _ _), query_eq (marks1 _) (ones1 _ _), key_eq (marks0 _), key_eq (marks1 _), vals_eq (marks0 _) (counts0 _), vals_eq (marks1 _) (counts1 _), dots_eq, plane_eq, rows_cast,
    ld_col 0 (by decide), ld_col 1 (by decide), ld_blk 0 (by decide), ld_blk 1 (by decide), causal_eq, cast_tops, max_col, cast_col]
  simp (disch := decide) only [part_eq, part_cast, bit_eq, weights_part]
  simp only [plane_read _ _ 0 (by decide), plane_read _ _ 1 (by decide), plane_cast, across_eq, sum_eq, cast_blk, canon_cols, canon_pair]
  refine Prod.ext rfl (Prod.ext rfl (Prod.ext (?_ : truncf .bf16 _ _ = _) (Prod.ext (out_eq (marks0 _) _ _ _ _ _ _ _) (log_eq (marks0 _) _ _ _ _ _ _ _ _ _ _ _))))
  exact congrArg (fun z => truncf (F := Ideal) (s := S512x128) .bf16 z bitsLt_bf16_f32) (out_eq (marks0 _) _ _ _ _ _ _ _)

set_option maxHeartbeats 2000000 in
/-- The only step of the first query tile. -/
theorem only_eq (h0 : Starts i) (h1 : ¬Below i) (h2 : Ends i) :
    (View.canon (Val := Elt Ideal) (runOnly c i arg3 harg3 arg4 harg4 arg5 harg5 arg6 harg6 arg7 harg7 arg8 harg8 arg9 harg9 arg10 harg10 arg11 harg11 arg12 harg12 arg13 harg13 x0 x1 x2 x3 h0 h1 h2).2.2.2.1, View.canon (Val := Elt Ideal) (runOnly c i arg3 harg3 arg4 harg4 arg5 harg5 arg6 harg6 arg7 harg7 arg8 harg8 arg9 harg9 arg10 harg10 arg11 harg11 arg12 harg12 arg13 harg13 x0 x1 x2 x3 h0 h1 h2).2.2.2.2.1, View.canon (Val := Elt Ideal) (runOnly c i arg3 harg3 arg4 harg4 arg5 harg5 arg6 harg6 arg7 harg7 arg8 harg8 arg9 harg9 arg10 harg10 arg11 harg11 arg12 harg12 arg13 harg13 x0 x1 x2 x3 h0 h1 h2).1, View.canon (Val := Elt Ideal) (runOnly c i arg3 harg3 arg4 harg4 arg5 harg5 arg6 harg6 arg7 harg7 arg8 harg8 arg9 harg9 arg10 harg10 arg11 harg11 arg12 harg12 arg13 harg13 x0 x1 x2 x3 h0 h1 h2).2.1, View.canon (Val := Elt Ideal) (runOnly c i arg3 harg3 arg4 harg4 arg5 harg5 arg6 harg6 arg7 harg7 arg8 harg8 arg9 harg9 arg10 harg10 arg11 harg11 arg12 harg12 arg13 harg13 x0 x1 x2 x3 h0 h1 h2).2.2.1)
      = (maxs (fun h => causal (score x0 x1 x3 h)) (fun _ _ => ⊥), accs (fun h => causal (score x0 x1 x3 h)) (fun _ _ => ⊥) (fun _ _ _ => 0) (rows (φ := .f32) x2), outs (φ := .bf16) (fun h => causal (score x0 x1 x3 h)) (fun _ _ => ⊥) (fun _ _ _ => 0) (rows (φ := .f32) x2),
        outs (φ := .f32) (fun h => causal (score x0 x1 x3 h)) (fun _ _ => ⊥) (fun _ _ _ => 0) (rows (φ := .f32) x2), lses (fun h => causal (score x0 x1 x3 h)) (fun _ _ => ⊥) (fun _ _ _ => 0) (rows (φ := .f32) x2)) := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, top75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, top104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
  rw [kept_form, kept_form]
  try simp (disch := decide) only [↓ View.readCov_skip, ↓ View.readCov_cons_toLoadRect, ↓ View.readCov_fill]
  simp only [read_unread_whole, query_eq (marks0 _) (ones0 _ _), query_eq (marks1 _) (ones1 _ _), key_eq (marks0 _), key_eq (marks1 _), vals_eq (marks0 _) (counts0 _), vals_eq (marks1 _) (counts1 _), dots_eq, plane_eq, rows_cast,
    ld_col 0 (by decide), ld_col 1 (by decide), ld_blk 0 (by decide), ld_blk 1 (by decide), causal_eq, cast_tops, max_col, cast_col]
  simp (disch := decide) only [part_eq, part_cast, bit_eq, weights_part]
  simp only [plane_read _ _ 0 (by decide), plane_read _ _ 1 (by decide), plane_cast, across_eq, sum_eq, cast_blk, canon_cols, canon_pair]
  simp only [no_top, no_sum]
  refine Prod.ext rfl (Prod.ext rfl (Prod.ext (?_ : truncf .bf16 _ _ = _) (Prod.ext (out_eq (marks0 _) _ _ _ _ _ _ _) (log_eq (marks0 _) _ _ _ _ _ _ _ _ _ _ _))))
  exact congrArg (fun z => truncf (F := Ideal) (s := S512x128) .bf16 z bitsLt_bf16_f32) (out_eq (marks0 _) _ _ _ _ _ _ _)

end Cert.AttnFwdKernelIdeal.Tile

end
-- ==== Proof.AttnFwdNext.lean ====
/-
  The attention's forward pass: what a grid point makes of the maxima, the sums and the outputs carried into it.
-/
module

public import proofs.«01_k».proof.Proof.AttnFwdTile

@[expose] public section

set_option maxRecDepth 16384

noncomputable section

namespace Cert.AttnFwdKernelIdeal.Tile

open Cert.AttnFwdKernelIdeal Cert.AttnFwdKernelIdeal.Gen Idealize.ShloMosaic Idealize.ShloMosaic.TcCoe
open Cert.AttnKernelIdeal.Tile (Rows Square causal rows)

variable (m : (ℓ : Loc nD τ sig) → Buf (Elt Ideal) ℓ) (c : Dev nD) (t : Fin cfg0.N) (s : St Ideal)

/-- A point's scores, masked where its tile is on the diagonal. -/
def shown (h : Fin 2) : Square :=
  if t.val % 8 = t.val / 8 % 8 then causal (score (iblk m c 0 t) (iblk m c 1 t) (iblk m c 3 t) h) else score (iblk m c 0 t) (iblk m c 1 t) (iblk m c 3 t) h

/-- The maxima and the sums a point starts from. -/
def fromMax (h : Fin 2) : Col := if t.val % 8 = 0 then fun _ => ⊥ else mcol s.1.1 h
def fromSum (h : Fin 2) : Rows := if t.val % 8 = 0 then fun _ _ => 0 else arow s.1.2 h

/-- A point's values. -/
def tileVals : Rows := rows (φ := .f32) (iblk m c 2 t)

/-! The four runs at a point. -/

theorem step_at (h0 : ¬Starts (grid0.coords t)) (h1 : Below (grid0.coords t)) (h2 : ¬Ends (grid0.coords t)) (M : Vec Ideal S2x512x1 .f32) (B : Vec Ideal S2x512x128 .f32) :
    (View.canon (Val := Elt Ideal) (atStep m c t h0 h1 h2 M B).1, View.canon (Val := Elt Ideal) (atStep m c t h0 h1 h2 M B).2.1)
      = (maxs (score (iblk m c 0 t) (iblk m c 1 t) (iblk m c 3 t)) (mcol M), accs (score (iblk m c 0 t) (iblk m c 1 t) (iblk m c 3 t)) (mcol M) (arow B) (tileVals m c t)) :=
  step_eq c _ _ _ _ _ _ _ _ _ _ _ _ _ _ _ _ _ _ _ _ _ _ _ _ _ _ _ h0 h1 h2 M B

theorem first_at (h0 : Starts (grid0.coords t)) (h1 : Below (grid0.coords t)) (h2 : ¬Ends (grid0.coords t)) :
    (View.canon (Val := Elt Ideal) (atFirst m c t h0 h1 h2).1, View.canon (Val := Elt Ideal) (atFirst m c t h0 h1 h2).2.1)
      = (maxs (score (iblk m c 0 t) (iblk m c 1 t) (iblk m c 3 t)) (fun _ _ => ⊥), accs (score (iblk m c 0 t) (iblk m c 1 t) (iblk m c 3 t)) (fun _ _ => ⊥) (fun _ _ _ => 0) (tileVals m c t)) :=
  first_eq c _ _ _ _ _ _ _ _ _ _ _ _ _ _ _ _ _ _ _ _ _ _ _ _ _ _ _ h0 h1 h2

theorem last_at (h0 : ¬Starts (grid0.coords t)) (h1 : ¬Below (grid0.coords t)) (h2 : Ends (grid0.coords t)) (M : Vec Ideal S2x512x1 .f32) (B : Vec Ideal S2x512x128 .f32) :
    (View.canon (Val := Elt Ideal) (atLast m c t h0 h1 h2 M B).2.2.2.1, View.canon (Val := Elt Ideal) (atLast m c t h0 h1 h2 M B).2.2.2.2.1, View.canon (Val := Elt Ideal) (atLast m c t h0 h1 h2 M B).1, View.canon (Val := Elt Ideal) (atLast m c t h0 h1 h2 M B).2.1, View.canon (Val := Elt Ideal) (atLast m c t h0 h1 h2 M B).2.2.1)
      = (maxs (fun h => causal (score (iblk m c 0 t) (iblk m c 1 t) (iblk m c 3 t) h)) (mcol M), accs (fun h => causal (score (iblk m c 0 t) (iblk m c 1 t) (iblk m c 3 t) h)) (mcol M) (arow B) (tileVals m c t), outs (φ := .bf16) (fun h => causal (score (iblk m c 0 t) (iblk m c 1 t) (iblk m c 3 t) h)) (mcol M) (arow B) (tileVals m c t), outs (φ := .f32) (fun h => causal (score (iblk m c 0 t) (iblk m c 1 t) (iblk m c 3 t) h)) (mcol M) (arow B) (tileVals m c t), lses (fun h => causal (score (iblk m c 0 t) (iblk m c 1 t) (iblk m c 3 t) h)) (mcol M) (arow B) (tileVals m c t)) :=
  last_eq c _ _ _ _ _ _ _ _ _ _ _ _ _ _ _ _ _ _ _ _ _ _ _ _ _ _ _ h0 h1 h2 M B

theorem only_at (h0 : Starts (grid0.coords t)) (h1 : ¬Below (grid0.coords t)) (h2 : Ends (grid0.coords t)) :
    (View.canon (Val := Elt Ideal) (atOnly m c t h0 h1 h2).2.2.2.1, View.canon (Val := Elt Ideal) (atOnly m c t h0 h1 h2).2.2.2.2.1, View.canon (Val := Elt Ideal) (atOnly m c t h0 h1 h2).1, View.canon (Val := Elt Ideal) (atOnly m c t h0 h1 h2).2.1, View.canon (Val := Elt Ideal) (atOnly m c t h0 h1 h2).2.2.1)
      = (maxs (fun h => causal (score (iblk m c 0 t) (iblk m c 1 t) (iblk m c 3 t) h)) (fun _ _ => ⊥), accs (fun h => causal (score (iblk m c 0 t) (iblk m c 1 t) (iblk m c 3 t) h)) (fun _ _ => ⊥) (fun _ _ _ => 0) (tileVals m c t), outs (φ := .bf16) (fun h => causal (score (iblk m c 0 t) (iblk m c 1 t) (iblk m c 3 t) h)) (fun _ _ => ⊥) (fun _ _ _ => 0) (tileVals m c t), outs (φ := .f32) (fun h => causal (score (iblk m c 0 t) (iblk m c 1 t) (iblk m c 3 t) h)) (fun _ _ => ⊥) (fun _ _ _ => 0) (tileVals m c t), lses (fun h => causal (score (iblk m c 0 t) (iblk m c 1 t) (iblk m c 3 t) h)) (fun _ _ => ⊥) (fun _ _ _ => 0) (tileVals m c t)) :=
  only_eq c _ _ _ _ _ _ _ _ _ _ _ _ _ _ _ _ _ _ _ _ _ _ _ _ _ _ _ h0 h1 h2

/-- At the diagonal or below: the maxima and the sums with the tile's. -/
theorem next_sums (hij : t.val % 8 ≤ t.val / 8 % 8) :
    (next m c t s).1 = (maxs (shown m c t) (fromMax t s), accs (shown m c t) (fromMax t s) (fromSum t s) (tileVals m c t)) := by
  have hS := starts_iff t
  have hB := below_iff t
  have hE := ends_iff t
  unfold shown fromMax fromSum
  by_cases e : t.val % 8 = t.val / 8 % 8
  · have h1 : ¬Below (grid0.coords t) := fun h => by rw [hB] at h; omega
    have h2 : Ends (grid0.coords t) := hE.mpr e
    by_cases z : t.val % 8 = 0
    · simp only [if_pos e, if_pos z]
      rw [next, dif_pos (hS.mpr z), dif_neg h1, dif_pos h2]
      have w := only_at m c t (hS.mpr z) h1 h2
      exact Prod.ext (congrArg (fun x => x.1) w) (congrArg (fun x => x.2.1) w)
    · have h0 : ¬Starts (grid0.coords t) := fun h => z (hS.mp h)
      simp only [if_pos e, if_neg z]
      rw [next, dif_neg h0, dif_neg h1, dif_pos h2]
      have w := last_at m c t h0 h1 h2 s.1.1 s.1.2
      exact Prod.ext (congrArg (fun x => x.1) w) (congrArg (fun x => x.2.1) w)
  · have h1 : Below (grid0.coords t) := hB.mpr (by omega)
    have h2 : ¬Ends (grid0.coords t) := fun h => e (hE.mp h)
    by_cases z : t.val % 8 = 0
    · simp only [if_neg e, if_pos z]
      rw [next, dif_pos (hS.mpr z), dif_pos h1, dif_neg h2]
      exact first_at m c t (hS.mpr z) h1 h2
    · have h0 : ¬Starts (grid0.coords t) := fun h => z (hS.mp h)
      simp only [if_neg e, if_neg z]
      rw [next, dif_neg h0, dif_pos h1, dif_neg h2]
      exact step_at m c t h0 h1 h2 s.1.1 s.1.2

/-- At the diagonal: the outputs' blocks. -/
theorem next_outs (e : t.val % 8 = t.val / 8 % 8) :
    (next m c t s).2 = (outs (φ := .bf16) (shown m c t) (fromMax t s) (fromSum t s) (tileVals m c t), outs (φ := .f32) (shown m c t) (fromMax t s) (fromSum t s) (tileVals m c t),
      lses (shown m c t) (fromMax t s) (fromSum t s) (tileVals m c t)) := by
  have hS := starts_iff t
  have hB := below_iff t
  have h1 : ¬Below (grid0.coords t) := fun h => by rw [hB] at h; omega
  have h2 : Ends (grid0.coords t) := (ends_iff t).mpr e
  unfold shown fromMax fromSum
  by_cases z : t.val % 8 = 0
  · simp only [if_pos e, if_pos z]
    rw [next, dif_pos (hS.mpr z), dif_neg h1, dif_pos h2]
    exact congrArg (fun x => x.2.2) (only_at m c t (hS.mpr z) h1 h2)
  · have h0 : ¬Starts (grid0.coords t) := fun h => z (hS.mp h)
    simp only [if_pos e, if_neg z]
    rw [next, dif_neg h0, dif_neg h1, dif_pos h2]
    exact congrArg (fun x => x.2.2) (last_at m c t h0 h1 h2 s.1.1 s.1.2)

/-- Past the diagonal: nothing changes. -/
theorem next_past (h : t.val / 8 % 8 < t.val % 8) : next m c t s = s := by
  have h0 : ¬Starts (grid0.coords t) := fun e => by rw [starts_iff t] at e; omega
  have h1 : ¬Below (grid0.coords t) := fun e => by rw [below_iff t] at e; omega
  have h2 : ¬Ends (grid0.coords t) := fun e => by rw [ends_iff t] at e; omega
  rw [next, dif_neg h0, dif_neg h1, dif_neg h2]

end Cert.AttnFwdKernelIdeal.Tile

end
-- ==== Proof.AttnFwdSpec.lean ====
/-
  The softmax of a row by tiles of 512 columns: the largest score so far, the sums of the exponentials less it, and how the
  shift cancels when the row's last tile has been added.
-/
module

public import proofs.«01_k».proof.Proof.AttnSpec
public import Idealize.ShloMosaic.Lib.Pipeline.ValueKit.Acc

@[expose] public section

noncomputable section

namespace Cert.Attn

open Idealize.ShloMosaic Cert.Reals

/-- Column `k` of tile `j`. -/
def colAt (j : ℕ) (k : Fin 512) : Fin 4096 := ⟨(j * 512 + k.val) % 4096, Nat.mod_lt _ (by norm_num)⟩

variable (s : Fin 4096 → ℝ) (R : Fin 4096)

/-- The sum of a column's values against the row's exponentials over the first tiles. -/
def upto (f : Fin 4096 → ℝ) (n : ℕ) : ℝ := ∑ j ∈ Finset.range n, ∑ k : Fin 512, e s R (colAt j k) * f (colAt j k)

/-- The largest score and the sums after some tiles: none yet, or the sums over these tiles, each times the exponential of less
    the largest score. -/
def Held {ι : Type} (f : ι → Fin 4096 → ℝ) (n : ℕ) (M : EReal) (B : ι → EReal) : Prop :=
  (n = 0 ∧ M = ⊥ ∧ ∀ l, B l = 0) ∨ ∃ μ : ℝ, M = (μ : EReal) ∧ ∀ l, B l = ((upto s R (f l) n * Real.exp (-μ) : ℝ) : EReal)

variable {s R} {ι : Type} {f : ι → Fin 4096 → ℝ} {n : ℕ} {M : EReal} {B : ι → EReal}

/-- A tile's sum with the scores less a real. -/
theorem tile_sum {A : Fin 512 → EReal} {V : Fin 512 → ι → EReal} (hA : ∀ k, A k = if colAt n k ≤ R then ((s (colAt n k) : ℝ) : EReal) else ⊥)
    (hV : ∀ k l, V k l = ((f l (colAt n k) : ℝ) : EReal)) (ν : ℝ) (l : ι) :
    (∑ k, Ideal.exp (A k - (ν : EReal)) * V k l) = (((∑ k : Fin 512, e s R (colAt n k) * f l (colAt n k)) * Real.exp (-ν) : ℝ) : EReal) := by
  rw [Finset.sum_mul]
  refine sum_eq_coe fun k _ => ?_
  rw [masked_exp s R (colAt n k) ν (hA k), hV, ← EReal.coe_mul]
  congr 1; ring

/-- One tile more. -/
theorem held_succ (hn : n * 512 ≤ R.val) {A : Fin 512 → EReal} {V : Fin 512 → ι → EReal}
    (hA : ∀ k, A k = if colAt n k ≤ R then ((s (colAt n k) : ℝ) : EReal) else ⊥) (hV : ∀ k l, V k l = ((f l (colAt n k) : ℝ) : EReal))
    (h : Held s R f n M B) :
    Held s R f (n + 1) (max M (Finset.univ.fold (fun a b : EReal => max a b) ⊥ A))
      (fun l => Ideal.exp (M - max M (Finset.univ.fold (fun a b : EReal => max a b) ⊥ A)) * B l
        + ∑ k, Ideal.exp (A k - max M (Finset.univ.fold (fun a b : EReal => max a b) ⊥ A)) * V k l) := by
  obtain ⟨τ, hτ⟩ := max_real Finset.univ A (fun k => by
    rw [hA]; split
    · exact EReal.coe_ne_top _
    · exact bot_ne_top) ⟨0, Finset.mem_univ _, by
      rw [hA, if_pos (show colAt n 0 ≤ R from (Nat.mod_le _ _).trans (by simpa using hn))]
      exact EReal.coe_ne_bot _⟩
  rw [hτ]
  right
  rcases h with ⟨rfl, rfl, hB⟩ | ⟨μ, rfl, hB⟩
  · refine ⟨τ, max_eq_right bot_le, fun l => ?_⟩
    beta_reduce
    rw [max_eq_right (bot_le : (⊥ : EReal) ≤ τ), EReal.bot_sub, Ideal.exp_bot, zero_mul, zero_add, tile_sum hA hV, upto, Finset.sum_range_one]
  · have e0 : max (μ : EReal) (τ : EReal) = ((max μ τ : ℝ) : EReal) := (EReal.coe_strictMono.monotone.map_max).symm
    refine ⟨max μ τ, e0, fun l => ?_⟩
    beta_reduce
    rw [e0, tile_sum hA hV, hB, ← EReal.coe_sub, Ideal.exp_coe, ← EReal.coe_mul, ← EReal.coe_add, upto, upto, Finset.sum_range_succ]
    refine congrArg Real.toEReal ?_
    rw [add_mul, sub_eq_add_neg, Real.exp_add]
    have : Real.exp μ * Real.exp (-μ) = 1 := by rw [← Real.exp_add, add_neg_cancel, Real.exp_zero]
    linear_combination (Real.exp (-max μ τ) * ∑ j ∈ Finset.range n, ∑ k : Fin 512, e s R (colAt j k) * f l (colAt j k)) * this

/-- The tiles up to the row's give the whole sum. -/
theorem upto_all (g : Fin 4096 → ℝ) (hn : n ≤ 8) (hR : R.val < n * 512) : upto s R g n = ∑ C, e s R C * g C := by
  have h8 : (∑ j ∈ Finset.range 8, ∑ k : Fin 512, e s R (colAt j k) * g (colAt j k)) = ∑ C, e s R C * g C := by
    rw [Finset.sum_range]
    refine Fin.sum_mul_add_congr (S := 8) (n := 512) (f := fun C => e s R C * g C) fun j k hl => ?_
    have : colAt j.val k = ⟨j.val * 512 + k.val, hl⟩ := Fin.ext (Nat.mod_eq_of_lt hl)
    rw [this]
  rw [← h8, upto]
  refine Finset.sum_subset (Finset.range_mono hn) fun j hj hjn => Finset.sum_eq_zero fun k _ => ?_
  rw [Finset.mem_range] at hj hjn
  have hc : ¬colAt j k ≤ R := by
    show ¬(j * 512 + k.val) % 4096 ≤ R.val
    have := k.isLt
    omega
  rw [e, if_neg hc, zero_mul]

/-- With the row's tiles added the quotient by the sum of ones is the mean against the probabilities. -/
theorem held_mean (h : Held s R f n M B) (h0 : 0 < n) (hn : n ≤ 8) (hR : R.val < n * 512) (l l1 : ι) (h1 : ∀ C, f l1 C = 1) :
    Ideal.div (B l) (B l1) = ((∑ C, prob s R C * f l C : ℝ) : EReal) := by
  rcases h with ⟨rfl, -, -⟩ | ⟨μ, -, hB⟩
  · exact absurd h0 (lt_irrefl _)
  · have hd : upto s R (f l1) n = den s R := by
      rw [upto_all _ hn hR, den]
      exact Finset.sum_congr rfl fun C _ => by rw [h1, mul_one]
    rw [hB, hB, hd, div_coe (mul_pos (den_pos s R) (Real.exp_pos _)).ne', upto_all _ hn hR, ← mean_shift s R μ, Finset.sum_mul]
    exact congrArg Real.toEReal (congrArg (· / _) (Finset.sum_congr rfl fun C _ => by ring))

/-- And the largest score with the logarithm of the sum of ones is the row's log-sum. -/
theorem held_log (h : Held s R f n M B) (h0 : 0 < n) (hn : n ≤ 8) (hR : R.val < n * 512) (l1 : ι) (h1 : ∀ C, f l1 C = 1) :
    M + Ideal.log (B l1) = ((Real.log (den s R) : ℝ) : EReal) := by
  rcases h with ⟨rfl, -, -⟩ | ⟨μ, rfl, hB⟩
  · exact absurd h0 (lt_irrefl _)
  · have hd : upto s R (f l1) n = den s R := by
      rw [upto_all _ hn hR, den]
      exact Finset.sum_congr rfl fun C _ => by rw [h1, mul_one]
    rw [hB, hd, lse_real]

end Cert.Attn

end
-- ==== Proof.AttnFwdHeld.lean ====
/-
  The attention's forward pass over real operands: what is carried from point to point are the row's largest score so far and
  the sums of the exponentials less it, and the outputs' blocks are the means against the probabilities and the log-sums.
-/
module

public import proofs.«01_k».proof.Proof.AttnFwdNext
public import proofs.«01_k».proof.Proof.AttnFwdSpec
public import proofs.«01_k».proof.Proof.AttnReal

@[expose] public section

set_option maxRecDepth 16384

noncomputable section

namespace Cert.AttnFwdKernelIdeal.Tile

open Cert.AttnFwdKernelIdeal Cert.AttnFwdKernelIdeal.Gen Idealize.ShloMosaic Idealize.ShloMosaic.TcCoe
open Cert.AttnKernelIdeal.Tile (Rows Square causal rows Ops RealOps headAt headAt_congr queryRow keyRow score_real pair ix2_of)
open Cert.AttnReferenceIdeal.Read (rowScore)
open Cert.Attn (colAt Held held_succ held_mean held_log)

variable (m : (ℓ : Loc nD τ sig) → Buf (Elt Ideal) ℓ) (c : Dev nD)
variable (q k v : Fin 16 → Fin 4096 → Fin 64 → ℝ) (cs : Fin 16 → Fin 4096 → ℝ)

/-- The mean of a column of the values against a row's probabilities, and the row's log-sum. -/
def meanOf (h : Fin 16) (R : Fin 4096) (d : Fin 64) : ℝ := ∑ C, Attn.prob (rowScore q k cs h R) R C * v h C d
def logOf (h : Fin 16) (R : Fin 4096) : ℝ := Real.log (Attn.den (rowScore q k cs h R) R)

/-- The operands as the region finds them, with the output and the log-sum they ask for. -/
def ops : Ops where
  q p R l := V m c main_v0 (ix2 R ⟨2048 + 128 * p.val + l.val, by omega⟩)
  k p R l := V m c main_v0 (ix2 R ⟨3072 + 128 * p.val + l.val, by omega⟩)
  v p R l := V m c main_v0 (ix2 R ⟨4096 + 128 * p.val + l.val, by omega⟩)
  a p R l := V m c main_v32 (ix2 R ⟨128 * p.val + l.val, by omega⟩)
  o p R l := (meanOf q k v cs (headAt p (l.val / 64) (by omega)) R ⟨l.val % 64, by omega⟩ : ℝ)
  l p R l := (logOf q k cs (headAt p (l.val / 64) (by omega)) R : ℝ)
  g _ _ _ := ((0 : ℝ) : EReal)

/-- The pair of heads of a grid point. -/
def heads (t : Fin cfg0.N) : Fin 8 := Fin.ofNat 8 (t.val / 64)

theorem index : ∀ t : Fin cfg0.N, win0_0.index t = ![t.val / 8 % 8, 16 + t.val / 64] ∧ win0_1.index t = ![min (t.val % 8) (t.val / 8 % 8), 24 + t.val / 64]
    ∧ win0_2.index t = ![min (t.val % 8) (t.val / 8 % 8), 32 + t.val / 64] ∧ win0_3.index t = ![min (t.val % 8) (t.val / 8 % 8), t.val / 64]
    ∧ win0_4.index t = ![t.val / 8 % 8, t.val / 64] ∧ win0_5.index t = ![t.val / 8 % 8, t.val / 64] ∧ win0_6.index t = ![t.val / 8 % 8, t.val / 64] :=
  (by decide +kernel : ∀ t : Fin grid0.N, _)

theorem colAt_val (j : ℕ) (r : Fin 512) : (colAt (j % 8) r).val = j % 8 * 512 + r.val := Nat.mod_eq_of_lt (by omega)

/-- A block of an array that starts at a whole block, read. -/
theorem row_of (j : ℕ) (r : Fin 512) (n b : ℕ) (h : n = j % 8) (hb : b = 512) : n * b + 1 * r.val = (colAt (j % 8) r).val := by
  rw [colAt_val, h, hb, one_mul]

variable (t : Fin cfg0.N)

theorem heads_val : (heads t).val = t.val / 64 := by
  have hN : t.val < 512 := lt_of_lt_of_eq t.isLt (show cfg0.N = 512 from N_0)
  exact Nat.mod_eq_of_lt (by omega)

theorem read_q (r : Fin 512) : rows (φ := .f32) (iblk m c 0 t) r = (ops m c q k v cs).q (heads t) (colAt (t.val / 8 % 8) r) := by
  have hh := heads_val t
  have e : iblk m c 0 t = (win0_0.blk t).view.read (Elt Ideal) (V m c main_v0) := rfl
  funext l
  simp only [rows, e, ops]
  generalize V m c main_v0 = X
  refine congrArg X (ix2_of ((win0_0.blk t).view.emb (ix2 r l)) _ _ ?_ ?_)
  · show win0_0.index t 0 * 512 + 1 * r.val = _
    rw [(index t).1]
    exact row_of (t.val / 8) r _ _ rfl rfl
  · show win0_0.index t 1 * 128 + 1 * l.val = 2048 + 128 * (heads t).val + l.val
    rw [(index t).1]
    show (16 + t.val / 64) * 128 + 1 * l.val = _
    omega

theorem read_k (hij : t.val % 8 ≤ t.val / 8 % 8) (r : Fin 512) : rows (φ := .f32) (iblk m c 1 t) r = (ops m c q k v cs).k (heads t) (colAt (t.val % 8) r) := by
  have hh := heads_val t
  have e : iblk m c 1 t = (win0_1.blk t).view.read (Elt Ideal) (V m c main_v0) := rfl
  funext l
  simp only [rows, e, ops]
  generalize V m c main_v0 = X
  refine congrArg X (ix2_of ((win0_1.blk t).view.emb (ix2 r l)) _ _ ?_ ?_)
  · show win0_1.index t 0 * 512 + 1 * r.val = _
    rw [(index t).2.1]
    exact row_of t.val r _ _ (min_eq_left hij) rfl
  · show win0_1.index t 1 * 128 + 1 * l.val = 3072 + 128 * (heads t).val + l.val
    rw [(index t).2.1]
    show (24 + t.val / 64) * 128 + 1 * l.val = _
    omega

theorem read_v (hij : t.val % 8 ≤ t.val / 8 % 8) (r : Fin 512) : tileVals m c t r = (ops m c q k v cs).v (heads t) (colAt (t.val % 8) r) := by
  have hh := heads_val t
  have e : iblk m c 2 t = (win0_2.blk t).view.read (Elt Ideal) (V m c main_v0) := rfl
  funext l
  simp only [tileVals, rows, e, ops]
  generalize V m c main_v0 = X
  refine congrArg X (ix2_of ((win0_2.blk t).view.emb (ix2 r l)) _ _ ?_ ?_)
  · show win0_2.index t 0 * 512 + 1 * r.val = _
    rw [(index t).2.2.1]
    exact row_of t.val r _ _ (min_eq_left hij) rfl
  · show win0_2.index t 1 * 128 + 1 * l.val = 4096 + 128 * (heads t).val + l.val
    rw [(index t).2.2.1]
    show (32 + t.val / 64) * 128 + 1 * l.val = _
    omega

theorem read_a (hij : t.val % 8 ≤ t.val / 8 % 8) (r : Fin 512) : rows (φ := .bf16) (iblk m c 3 t) r = (ops m c q k v cs).a (heads t) (colAt (t.val % 8) r) := by
  have hh := heads_val t
  have e : iblk m c 3 t = (win0_3.blk t).view.read (Elt Ideal) (V m c main_v32) := rfl
  funext l
  simp only [rows, e, ops]
  generalize V m c main_v32 = X
  refine congrArg X (ix2_of ((win0_3.blk t).view.emb (ix2 r l)) _ _ ?_ ?_)
  · show win0_3.index t 0 * 512 + 1 * r.val = _
    rw [(index t).2.2.2.1]
    exact row_of t.val r _ _ (min_eq_left hij) rfl
  · show win0_3.index t 1 * 128 + 1 * l.val = 128 * (heads t).val + l.val
    rw [(index t).2.2.2.1]
    show (t.val / 64) * 128 + 1 * l.val = _
    omega

/-- A head's values with the lane that counts. -/
def laneVals (p : Fin 8) (h : Fin 2) (l : Fin 128) (C : Fin 4096) : ℝ :=
  if l.val / 64 = h.val then v (headAt p h.val h.isLt) C ⟨l.val % 64, by omega⟩ else if l.val = spare h then 1 else 0

variable {m c q k v cs} (o : RealOps (ops m c q k v cs) q k v (fun _ _ _ => 0) cs)

include o in
/-- A point's scores are the reference's, those past the row masked. -/
theorem shown_real (hij : t.val % 8 ≤ t.val / 8 % 8) (h : Fin 2) (r n : Fin 512) :
    shown m c t h r n = if colAt (t.val % 8) n ≤ colAt (t.val / 8 % 8) r
      then ((rowScore q k cs (headAt (heads t) h.val h.isLt) (colAt (t.val / 8 % 8) r) (colAt (t.val % 8) n) : ℝ) : EReal) else ⊥ := by
  have es : score (iblk m c 0 t) (iblk m c 1 t) (iblk m c 3 t) h r n = ((rowScore q k cs (headAt (heads t) h.val h.isLt) (colAt (t.val / 8 % 8) r) (colAt (t.val % 8) n) : ℝ) : EReal) := by
    rw [← score_real o, ← read_q m c q k v cs t r, ← read_k m c q k v cs t hij n, ← read_a m c q k v cs t hij n]; rfl
  have e1 := colAt_val t.val n
  have e2 := colAt_val (t.val / 8) r
  unfold shown
  by_cases e : t.val % 8 = t.val / 8 % 8
  · rw [if_pos e, causal, es]
    refine if_congr ?_ rfl rfl
    rw [Fin.le_def, e1, e2, e]
    omega
  · rw [if_neg e, es, if_pos (show colAt (t.val % 8) n ≤ colAt (t.val / 8 % 8) r by rw [Fin.le_def, e1, e2]; omega)]

include o in
theorem vals_real (hij : t.val % 8 ≤ t.val / 8 % 8) (h : Fin 2) (n : Fin 512) (l : Fin 128) :
    vals h (tileVals m c t) n l = ((laneVals v (heads t) h l (colAt (t.val % 8) n) : ℝ) : EReal) := by
  unfold vals laneVals
  by_cases e : l.val / 64 = h.val
  · rw [if_pos e, if_pos e, read_v m c q k v cs t hij, o.xv, headAt_congr (heads t) e]
  · rw [if_neg e, if_neg e]
    split <;> simp

/-- Both heads' rows of a tile of queries after some tiles of keys. -/
def HeldAt (q k v : Fin 16 → Fin 4096 → Fin 64 → ℝ) (cs : Fin 16 → Fin 4096 → ℝ) (p : Fin 8) (i n : ℕ) (M : Fin 2 → Col) (B : Fin 2 → Rows) : Prop :=
  ∀ (h : Fin 2) (r : Fin 512), Held (rowScore q k cs (headAt p h.val h.isLt) (colAt i r)) (colAt i r) (laneVals v p h) n (M h r) (B h r)

include o in
/-- A point adds a tile. -/
theorem held_tile (hij : t.val % 8 ≤ t.val / 8 % 8) (s : St Ideal)
    (hs : HeldAt q k v cs (heads t) (t.val / 8 % 8) (t.val % 8) (fromMax t s) (fromSum t s)) :
    HeldAt q k v cs (heads t) (t.val / 8 % 8) (t.val % 8 + 1) (fun h => newMax (shown m c t h) (fromMax t s h))
      (fun h => newSum h (shown m c t h) (fromMax t s h) (fromSum t s h) (tileVals m c t)) := fun h r =>
  held_succ (by rw [colAt_val]; have := Nat.mul_le_mul_right 512 hij; omega) (shown_real t o hij h r) (fun n l => vals_real t o hij h n l) (hs h r)

theorem maxs_read (A : Fin 2 → Square) (M : Fin 2 → Col) (h : Fin 2) : mcol (maxs A M) h = newMax (A h) (M h) := by
  match h with
  | 0 => rfl
  | 1 => rfl
theorem accs_read (A : Fin 2 → Square) (M : Fin 2 → Col) (B : Fin 2 → Rows) (w : Rows) (h : Fin 2) : arow (accs A M B w) h = newSum h (A h) (M h) (B h) w := by
  match h with
  | 0 => rfl
  | 1 => rfl

include o in
/-- What a point starts from holds the tiles before it. -/
theorem held_from : ∀ (n : ℕ) (t : Fin cfg0.N), t.val % 8 = n → t.val % 8 ≤ t.val / 8 % 8 →
    HeldAt q k v cs (heads t) (t.val / 8 % 8) (t.val % 8) (fromMax t (carried m c t.val)) (fromSum t (carried m c t.val))
  | 0, t, h, hij => fun j r => by
    rw [fromMax, fromSum, if_pos h, if_pos h, h]
    exact Or.inl ⟨rfl, rfl, fun _ => rfl⟩
  | n + 1, t, h, hij => fun j r => by
    have hN : t.val < cfg0.N := t.isLt
    have e1 : (⟨t.val - 1, by omega⟩ : Fin cfg0.N).val % 8 = n := show (t.val - 1) % 8 = n by omega
    have e2 : (t.val - 1) / 8 % 8 = t.val / 8 % 8 := by omega
    have hij' : (t.val - 1) % 8 ≤ (t.val - 1) / 8 % 8 := by omega
    have w := held_tile ⟨t.val - 1, by omega⟩ o hij' _ (held_from n ⟨t.val - 1, by omega⟩ e1 hij') j r
    have a := next_sums m c ⟨t.val - 1, by omega⟩ (carried m c (t.val - 1)) hij'
    rw [← carried_succ m c ⟨t.val - 1, by omega⟩] at a
    have et : (⟨t.val - 1, by omega⟩ : Fin cfg0.N).val + 1 = t.val := show t.val - 1 + 1 = t.val by omega
    rw [et] at a
    have eh : heads ⟨t.val - 1, by omega⟩ = heads t := Fin.ext (show (t.val - 1) / 64 % 8 = t.val / 64 % 8 by omega)
    have z : ¬t.val % 8 = 0 := by omega
    rw [fromMax, fromSum, if_neg z, if_neg z, congrArg (fun x => x.1) a, congrArg (fun x => x.2) a, maxs_read, accs_read]
    rw [eh] at w
    have en : (⟨t.val - 1, by omega⟩ : Fin cfg0.N).val % 8 + 1 = t.val % 8 := by omega
    rw [en] at w
    have e2' : (⟨t.val - 1, by omega⟩ : Fin cfg0.N).val / 8 % 8 = t.val / 8 % 8 := e2
    rw [e2'] at w
    exact w

theorem counts (p : Fin 8) (C : Fin 4096) : laneVals v p 0 64 C = 1 ∧ laneVals v p 1 0 C = 1 := ⟨rfl, rfl⟩

/-- The outputs' blocks of a tile of queries. -/
def OutAt (q k v : Fin 16 → Fin 4096 → Fin 64 → ℝ) (cs : Fin 16 → Fin 4096 → ℝ) (p : Fin 8) (i : ℕ)
    (s : Vec Ideal S512x128 .bf16 × Vec Ideal S512x128 .f32 × Vec Ideal S512x128 .f32) : Prop := ∀ (r : Fin 512) (l : Fin 128),
  s.1 (ix2 r l) = ((meanOf q k v cs (headAt p (l.val / 64) (by omega)) (colAt i r) ⟨l.val % 64, by omega⟩ : ℝ) : EReal)
  ∧ s.2.1 (ix2 r l) = ((meanOf q k v cs (headAt p (l.val / 64) (by omega)) (colAt i r) ⟨l.val % 64, by omega⟩ : ℝ) : EReal)
  ∧ s.2.2 (ix2 r l) = ((logOf q k cs (headAt p (l.val / 64) (by omega)) (colAt i r) : ℝ) : EReal)

/-- A head's mean and log-sum once the row's tiles are added. -/
theorem held_out {p : Fin 8} {i : ℕ} {M : Fin 2 → Col} {B : Fin 2 → Rows} (hs : HeldAt q k v cs p (i % 8) (i % 8 + 1) M B) (h : Fin 2) (w : Fin 128)
    (hw : ∀ C, laneVals v p h w C = 1) (r : Fin 512) (l : Fin 128) (hl : l.val / 64 = h.val) :
    Ideal.div (B h r l) (B h r w) = ((meanOf q k v cs (headAt p (l.val / 64) (by omega)) (colAt (i % 8) r) ⟨l.val % 64, by omega⟩ : ℝ) : EReal)
    ∧ M h r + Ideal.log (B h r w) = ((logOf q k cs (headAt p (l.val / 64) (by omega)) (colAt (i % 8) r) : ℝ) : EReal) := by
  have hR : (colAt (i % 8) r).val < (i % 8 + 1) * 512 := by rw [colAt_val]; have := r.isLt; omega
  rw [headAt_congr p hl _ h.isLt]
  refine ⟨?_, held_log (hs h r) (Nat.succ_pos _) (by omega) hR w hw⟩
  rw [held_mean (hs h r) (Nat.succ_pos _) (by omega) hR l w hw, meanOf]
  refine congrArg Real.toEReal (Finset.sum_congr rfl fun C _ => ?_)
  rw [laneVals, if_pos hl]

include o in
/-- From the diagonal on the outputs' blocks hold the row's means and log-sums. -/
theorem out_at : ∀ (n : ℕ) (t : Fin cfg0.N), t.val % 8 = t.val / 8 % 8 + n → OutAt q k v cs (heads t) (t.val / 8 % 8) (carried m c (t.val + 1)).2
  | 0, t, h => by
    have hs := held_tile t o (le_of_eq h) _ (held_from o _ t rfl (le_of_eq h))
    have e : t.val % 8 = t.val / 8 % 8 := h
    rw [carried_succ, next_outs m c t _ e]
    generalize fromMax t (carried m c t.val) = M at hs ⊢
    generalize fromSum t (carried m c t.val) = B at hs ⊢
    generalize tileVals m c t = w at hs ⊢
    generalize shown m c t = A at hs ⊢
    rw [e] at hs
    have u0 := fun r l hl => held_out hs 0 64 (fun C => (counts _ C).1) r l hl
    have u1 := fun r l hl => held_out hs 1 0 (fun C => (counts _ C).2) r l hl
    intro r l
    show (if l.val < 64 then _ else _) = _ ∧ (if l.val < 64 then _ else _) = _ ∧ (if l.val < 64 then _ else _) = _
    by_cases hl : l.val < 64
    · rw [if_pos hl, if_pos hl]
      have u := u0 r l (show l.val / 64 = 0 by omega)
      exact ⟨u.1, u.1, u.2⟩
    · rw [if_neg hl, if_neg hl]
      have u := u1 r l (show l.val / 64 = 1 by omega)
      exact ⟨u.1, u.1, u.2⟩
  | n + 1, t, h => by
    have hN : t.val < cfg0.N := t.isLt
    have e8 : (t.val - 1) / 8 = t.val / 8 := by omega
    have w := out_at n ⟨t.val - 1, by omega⟩ (show (t.val - 1) % 8 = (t.val - 1) / 8 % 8 + n by rw [e8]; omega)
    have et : (⟨t.val - 1, by omega⟩ : Fin cfg0.N).val + 1 = t.val := show t.val - 1 + 1 = t.val by omega
    have eh : heads ⟨t.val - 1, by omega⟩ = heads t := Fin.ext (show (t.val - 1) / 64 % 8 = t.val / 64 % 8 by omega)
    have e2' : (⟨t.val - 1, by omega⟩ : Fin cfg0.N).val / 8 % 8 = t.val / 8 % 8 := show (t.val - 1) / 8 % 8 = _ by omega
    rw [et, eh, e2'] at w
    rw [carried_succ, next_past m c t _ (by omega)]
    exact w

end Cert.AttnFwdKernelIdeal.Tile

end
-- ==== Proof.AttnFwdReference.lean ====
/-
  The reference of the attention's forward pass, read at an index over real operands: the means of the values and the rows'
  log-sums. Its scores and probabilities are computed by the lines the gradient's reference computes them by.
-/
module

public import proofs.«01_k».proof.Proof.AttnReference
public import proofs.«01_k».proof.Proof.Gen.AttnFwdReferenceIdeal.Read

@[expose] public section

set_option maxRecDepth 16384

noncomputable section

namespace Cert.AttnFwdReferenceIdeal.Read

open Cert.AttnFwdReferenceIdeal Cert.AttnFwdReferenceIdeal.Gen Idealize.ShloMosaic Idealize.ShloMosaic.TcCoe Cert.Reals Cert.Attn
open Cert.AttnReferenceIdeal.Read (Real4 rowScore headOf dimOf)

variable {X : (⟨S4096x5136, .f32⟩ : BufTy).Contents (Elt Ideal)} {B : (⟨S16, .f32⟩ : BufTy).Contents (Elt Ideal)}
  {G : (⟨⟨2, ![4096, 2048]⟩, .f32⟩ : BufTy).Contents (Elt Ideal)} {q k v g : Fin 16 → Fin 4096 → Fin 64 → ℝ} {cs : Fin 16 → Fin 4096 → ℝ}

variable (X B) in
theorem same_probs : (val_main_v44 X B : S16x4096x4096.Idx → EReal) = Cert.AttnReferenceIdeal.Read.val_main_v58 (F := Ideal) X B := rfl
variable (X) in
theorem same_values : (val_main_v14 X : S16x4096x64.Idx → EReal) = Cert.AttnReferenceIdeal.Read.val_main_v14 (F := Ideal) X := rfl
variable (X B) in
theorem same_scores : (val_main_v70 X B : S16x4096x4096.Idx → EReal) = Cert.AttnReferenceIdeal.Read.val_main_v33_0 (F := Ideal) X B := rfl
variable (X B) in
theorem same_largest : (val_main_v71 X B : S16x4096.Idx → EReal) = Cert.AttnReferenceIdeal.Read.val_main_v34 (F := Ideal) X B := rfl
variable (X B) in
theorem same_gate : (val_main_v5 X B : S4096x16.Idx → EReal) = Cert.AttnReferenceIdeal.Read.val_main_v5 (F := Ideal) X B := rfl

variable (o : Real4 X B G q k v g cs)

include o in
/-- The means of the values, before the heads are put side by side. -/
theorem mean_at (h : Fin 16) (R : Fin 4096) (d : Fin 64) : (val_main_v45 X B (ix3 h R d) : EReal) = ((∑ C, prob (rowScore q k cs h R) R C * v h C d : ℝ) : EReal) := by
  obtain ⟨t, ht, he⟩ := Cert.AttnReferenceIdeal.Read.exponentials o
  have hp := fun C => Cert.AttnReferenceIdeal.Read.probs ht he h R C
  have hv := o.v h
  unfold val_main_v45
  rw [same_probs, same_values]
  generalize Cert.AttnReferenceIdeal.Read.val_main_v58 (F := Ideal) X B = y at hp ⊢
  generalize Cert.AttnReferenceIdeal.Read.val_main_v14 (F := Ideal) X = z at hv ⊢
  pointwise
  exact Cert.AttnReferenceIdeal.Read.dot_real hp (fun C => hv C d)

include o in
/-- The output. -/
theorem out_read (R : Fin 4096) (w : Fin 1024) : (val_main_v47 X B (ix2 R w) : EReal)
    = ((∑ C, prob (rowScore q k cs (headOf w) R) R C * v (headOf w) C (dimOf w) : ℝ) : EReal) := by
  have hm := mean_at o (headOf w) R (dimOf w)
  rw [← hm]
  unfold val_main_v47 val_main_v46
  generalize val_main_v45 X B = y
  pointwise [headOf, dimOf]

include o in
/-- The output narrowed. -/
theorem narrow_read (R : Fin 4096) (w : Fin 1024) : (val_main_v83 X B (ix2 R w) : EReal)
    = ((∑ C, prob (rowScore q k cs (headOf w) R) R C * v (headOf w) C (dimOf w) : ℝ) : EReal) := by
  have h := out_read o R w
  unfold val_main_v83
  generalize val_main_v47 X B = y at h ⊢
  exact h

/-- The exponential of a masked score less the row's largest. -/
theorem exp_at (h : Fin 16) (R C : Fin 4096) : (val_main_v75 X B (ix3 h R C) : EReal)
    = Ideal.exp (Cert.AttnReferenceIdeal.Read.val_main_v33_0 (F := Ideal) X B (ix3 h R C) - Cert.AttnReferenceIdeal.Read.val_main_v34 (F := Ideal) X B (ix2 h R)) := by
  unfold val_main_v75 val_main_v74 val_main_v73 val_main_v72
  rw [same_scores, same_largest]
  generalize Cert.AttnReferenceIdeal.Read.val_main_v33_0 (F := Ideal) X B = y
  generalize Cert.AttnReferenceIdeal.Read.val_main_v34 (F := Ideal) X B = z
  pointwise

/-- The sums of a row. -/
theorem sum_at (h : Fin 16) (R : Fin 4096) : (val_main_v76 X B (ix2 h R) : EReal) = ∑ C, val_main_v75 X B (ix3 h R C) := by
  unfold val_main_v76
  generalize val_main_v75 X B = y
  pointwise [val_main_cst_7]

/-- The log-sum less the row's own term, stage by stage. -/
theorem log_stage (h : Fin 16) (R : Fin 4096) : (val_main_v80 X B (ix2 R h) : EReal)
    = Cert.AttnReferenceIdeal.Read.val_main_v34 (F := Ideal) X B (ix2 h R) + Ideal.log (val_main_v76 X B (ix2 h R)) - Cert.AttnReferenceIdeal.Read.val_main_v5 (F := Ideal) X B (ix2 R h) := by
  have e : idx_main_v79 (ix2 R h) = ix2 h R := funext fun a => Fin.ext (by
    match a with
    | 0 => rfl
    | 1 => rfl)
  rw [val_main_v80_apply, val_main_v79_apply, e, val_main_v78_apply, val_main_v77_apply, ← same_largest, ← same_gate]
  generalize val_main_v76 X B (ix2 h R) = y
  generalize val_main_v71 X B (ix2 h R) = z
  generalize val_main_v5 X B (ix2 R h) = u
  rfl

include o in
/-- A row's log-sum less its own term. -/
theorem log_at (h : Fin 16) (R : Fin 4096) : (val_main_v80 X B (ix2 R h) : EReal) = ((Real.log (den (rowScore q k cs h R) R) : ℝ) : EReal) := by
  obtain ⟨M, hM⟩ := Cert.AttnReferenceIdeal.Read.largest o h R
  have hs := fun C => Cert.AttnReferenceIdeal.Read.masked o h R C
  have hc := o.c h R
  have hd := den_pos (rowScore q k cs h R) R
  have e0 : (val_main_v76 X B (ix2 h R) : EReal) = ((den (fun C => rowScore q k cs h R C + cs h R) R * Real.exp (-M) : ℝ) : EReal) := by
    rw [sum_at, den, Finset.sum_mul]
    exact sum_eq_coe fun C _ => by rw [exp_at, hM]; exact masked_exp (fun C => rowScore q k cs h R C + cs h R) R C M (hs C)
  rw [log_stage, e0, hM, hc, lse_real, ← EReal.coe_sub]
  refine congrArg Real.toEReal ?_
  have e1 : den (fun C => rowScore q k cs h R C + cs h R) R = den (rowScore q k cs h R) R * Real.exp (cs h R) := by
    rw [den, den, Finset.sum_mul]
    exact Finset.sum_congr rfl fun C _ => e_shift _ _ _ _
  rw [e1, Real.log_mul hd.ne' (Real.exp_pos _).ne', Real.log_exp]
  ring

include o in
/-- The log-sum, in each of a head's lanes. -/
theorem log_read (R : Fin 4096) (w : Fin 1024) : (val_main_v82 X B (ix2 R w) : EReal) = ((Real.log (den (rowScore q k cs (headOf w) R) R) : ℝ) : EReal) := by
  have hm := log_at o (headOf w) R
  rw [← hm]
  unfold val_main_v82 val_main_v81
  generalize val_main_v80 X B = y
  pointwise [headOf]

end Cert.AttnFwdReferenceIdeal.Read

end
-- ==== Proof.AttnFwd.lean ====
/-
  The attention's forward pass: where the projection's columns of queries, keys, values and gates and the gate's bias are
  finite, the call's output, in both formats, and its log-sums are the reference's.
-/
module

public import proofs.«01_k».proof.Proof.AttnFwdHeld
public import proofs.«01_k».proof.Proof.AttnFwdReference
public import proofs.«01_k».proof.Proof.Attn
public import proofs.«01_k».proof.Proof.Gen.Pre_attn_fwd_finite

@[expose] public section

set_option maxRecDepth 16384

noncomputable section

namespace Cert.AttnFwd

open Cert.AttnFwdKernelIdeal Cert.AttnFwdKernelIdeal.Gen Cert.AttnFwdKernelIdeal.Tile Idealize.ShloMosaic Idealize.ShloMosaic.TcCoe Idealize.SL.Sem
open Cert.AttnKernelIdeal.Tile (hostProj hostNeg hostParts hostAug proj_read neg_read parts_read aug_read column_head column_dim headAt headAt_congr ix2_of RealOps)
open Cert.AttnReferenceIdeal.Read (Real4 headOf dimOf rowScore queries keys values cotangents sums_real)
open Cert.AttnFwdReferenceIdeal.Read (val_main_v83 val_main_v47 val_main_v82 out_read narrow_read log_read)
open Cert.Reals Cert.Attn

variable (m : (ℓ : Loc nD τ sig) → Buf (Elt Ideal) ℓ) (c : Dev nD)
variable {q k v : Fin 16 → Fin 4096 → Fin 64 → ℝ} {cs : Fin 16 → Fin 4096 → ℝ}

/-- The projection and the gate's bias. -/
abbrev proj : S4096x5136.Idx → EReal := m ((c.tc : Thread nD τ).loc main_arg0)
abbrev fbias : S16.Idx → EReal := m ((c.tc : Thread nD τ).loc main_arg1)

/-- The host's padded projection … -/
theorem host_proj : (V m c main_v0 : S4096x5632.Idx → EReal) = hostProj (proj m c) := by
  unfold V
  simp only [List.flatten_cons, List.flatten_nil, List.append_nil, hostOps0, hostOps0_1, hostOps0_2, hostOps0_3, hostOps0_4, hostOps0_5, List.cons_append, List.nil_append]
  after_results
  rfl

/-- … and its array of the gate's running sums, split in parts. -/
theorem host_aug : (V m c main_v32 : S4096x1024.Idx → EReal)
    = hostAug (hostParts (hostNeg (Cert.AttnReferenceIdeal.Read.val_main_v5 (F := Ideal) (proj m c) (fbias m c)))) := by
  unfold V
  simp only [List.flatten_cons, List.flatten_nil, List.append_nil, hostOps0, hostOps0_1, hostOps0_2, hostOps0_3, hostOps0_4, hostOps0_5, List.cons_append, List.nil_append]
  after_results
  rfl

/-- A column of the padded projection. -/
theorem read_proj (R : Fin 4096) (w : ℕ) (hw : w < 5136) (h : w < 5632) : (V m c main_v0 : S4096x5632.Idx → EReal) (ix2 R ⟨w, h⟩) = proj m c (ix2 R ⟨w, hw⟩) :=
  (congrFun (host_proj m c) (ix2 R ⟨w, h⟩)).trans (proj_read R w hw)

/-- The operands with no cotangent are real numbers where the forward's values are. -/
abbrev Real (q k v : Fin 16 → Fin 4096 → Fin 64 → ℝ) (cs : Fin 16 → Fin 4096 → ℝ) : Prop :=
  Real4 (proj m c) (fbias m c) (fun _ => ((0 : ℝ) : EReal)) q k v (fun _ _ _ => 0) cs

/-- What the call finds is the operands of real numbers. -/
theorem real_ops (o : Real m c q k v cs) : RealOps (ops m c q k v cs) q k v (fun _ _ _ => 0) cs := by
  have hA := fun R p j => parts_read R p j (neg_read o.c R p j)
  refine ⟨fun p R l => ?_, fun p R l => ?_, fun p R l => ?_, fun p R l => rfl, fun p R l => ?_, fun p R l => rfl, fun p R l => rfl⟩
  · refine (read_proj m c R _ (by omega) _).trans ?_
    rw [← o.q, queries]
    exact congrArg (fun w => proj m c (ix2 R w)) (Fin.ext (show 2048 + 128 * p.val + l.val = 2048 + ((p.val * 2 + l.val / 64) * 64 + l.val % 64) by omega))
  · refine (read_proj m c R _ (by omega) _).trans ?_
    rw [← o.k, keys]
    exact congrArg (fun w => proj m c (ix2 R w)) (Fin.ext (show 3072 + 128 * p.val + l.val = 3072 + ((p.val * 2 + l.val / 64) * 64 + l.val % 64) by omega))
  · refine (read_proj m c R _ (by omega) _).trans ?_
    rw [← o.v, values]
    exact congrArg (fun w => proj m c (ix2 R w)) (Fin.ext (show 4096 + 128 * p.val + l.val = 4096 + ((p.val * 2 + l.val / 64) * 64 + l.val % 64) by omega))
  · refine (congrFun (host_aug m c) (ix2 R ⟨128 * p.val + l.val, by omega⟩)).trans ?_
    rw [aug_read, hA, column_dim]
    have e : (⟨(⟨(128 * p.val + l.val) / 128, by omega⟩ : Fin 8).val * 2 + (⟨1 - (128 * p.val + l.val) / 64 % 2, by omega⟩ : Fin 2).val, by omega⟩ : Fin 16)
        = headAt p (1 - l.val / 64) (by omega) := Fin.ext (show (128 * p.val + l.val) / 128 * 2 + (1 - (128 * p.val + l.val) / 64 % 2) = p.val * 2 + (1 - l.val / 64) by omega)
    rw [e]

/-- Where an output's block lies in its array. -/
theorem place (t : Fin cfg0.N) (e : S4096x1024.Idx) (y0 : Fin 512) (y1 : Fin 128) (n0 n1 : ℕ) (h0 : n0 = t.val / 8 % 8) (h1 : n1 = t.val / 64)
    (e0 : (e 0).val = n0 * 512 + 1 * y0.val) (e1 : (e 1).val = n1 * 128 + 1 * y1.val) :
    e = ix2 (colAt (t.val / 8 % 8) y0) (⟨128 * (heads t).val + y1.val, by omega⟩ : Fin 1024) := by
  refine ix2_of _ _ _ (e0.trans (row_of _ y0 _ _ h0 rfl)) ?_
  show (e 1).val = 128 * (heads t).val + y1.val
  rw [e1, h1, heads_val]; omega

/-- What the outputs' blocks hold when they are written back. -/
theorem blocks (o : Real m c q k v cs) (t : Fin cfg0.N) (h : t.val % 8 = 7) (r : Fin 512) (l : Fin 128) :
    (carried m c (t.val + 1)).2.1 (ix2 r l) = ((meanOf q k v cs (headOf ⟨128 * (heads t).val + l.val, by omega⟩) (colAt (t.val / 8 % 8) r) (dimOf ⟨128 * (heads t).val + l.val, by omega⟩) : ℝ) : EReal)
    ∧ (carried m c (t.val + 1)).2.2.1 (ix2 r l) = ((meanOf q k v cs (headOf ⟨128 * (heads t).val + l.val, by omega⟩) (colAt (t.val / 8 % 8) r) (dimOf ⟨128 * (heads t).val + l.val, by omega⟩) : ℝ) : EReal)
    ∧ (carried m c (t.val + 1)).2.2.2 (ix2 r l) = ((logOf q k cs (headOf ⟨128 * (heads t).val + l.val, by omega⟩) (colAt (t.val / 8 % 8) r) : ℝ) : EReal) := by
  rw [column_head, column_dim]
  exact out_at (real_ops m c o) (7 - t.val / 8 % 8) t (by omega) r l

/-- The array of the output in the narrow format, … -/
theorem array_narrow (o : Real m c q k v cs) : (dats m 0 c).arrAt 4 cfg0.N = fun i : S4096x1024.Idx => ((meanOf q k v cs (headOf (i 1)) (i 0) (dimOf (i 1)) : ℝ) : EReal) := by
  refine (dats m 0 c).arrAt_eq_of_covers 4 _ (by decide +kernel) fun t hf y => ?_
  have h7 : t.val % 8 = 7 := of_decide_eq_true ((flush_iff t).1.1.symm.trans hf)
  have i := (index t).2.2.2.2.1
  idx_vars y
  blk_simp
  rw [after4, place t ((win0_4.blk t).view.emb (ix2 y0 y1)) y0 y1 _ _ (congrFun i 0) (congrFun i 1) rfl rfl]
  exact (blocks m c o t h7 y0 y1).1

/-- … in the wide one … -/
theorem array_wide (o : Real m c q k v cs) : (dats m 0 c).arrAt 5 cfg0.N = fun i : S4096x1024.Idx => ((meanOf q k v cs (headOf (i 1)) (i 0) (dimOf (i 1)) : ℝ) : EReal) := by
  refine (dats m 0 c).arrAt_eq_of_covers 5 _ (by decide +kernel) fun t hf y => ?_
  have h7 : t.val % 8 = 7 := of_decide_eq_true ((flush_iff t).1.2.symm.trans hf)
  have i := (index t).2.2.2.2.2.1
  idx_vars y
  blk_simp
  rw [after5, place t ((win0_5.blk t).view.emb (ix2 y0 y1)) y0 y1 _ _ (congrFun i 0) (congrFun i 1) rfl rfl]
  exact (blocks m c o t h7 y0 y1).2.1

/-- … and of the rows' log-sums. -/
theorem array_log (o : Real m c q k v cs) : (dats m 0 c).arrAt 6 cfg0.N = fun i : S4096x1024.Idx => ((logOf q k cs (headOf (i 1)) (i 0) : ℝ) : EReal) := by
  refine (dats m 0 c).arrAt_eq_of_covers 6 _ (by decide +kernel) fun t hf y => ?_
  have h7 : t.val % 8 = 7 := of_decide_eq_true ((flush_iff t).2.symm.trans hf)
  have i := (index t).2.2.2.2.2.2
  idx_vars y
  blk_simp
  rw [after6, place t ((win0_6.blk t).view.emb (ix2 y0 y1)) y0 y1 _ _ (congrFun i 0) (congrFun i 1) rfl rfl]
  exact (blocks m c o t h7 y0 y1).2.2

/-- The precondition: every element of the tested columns and of the bias is smaller than infinity in absolute value. -/
def Finite : Prop :=
  (Cert.Pre_attn_fwd_finite.fn (F := Ideal) (proj m c) (fbias m c)).1 = (fun _ => 1#1)
    ∧ (Cert.Pre_attn_fwd_finite.fn (F := Ideal) (proj m c) (fbias m c)).2 = (fun _ => 1#1)

/-- On such arguments the forward's values are real numbers. -/
theorem reals (h : Finite m c) : ∃ q k v cs, Real m c q k v cs := by
  have fx : ∀ (r : Fin 4096) (w : ℕ) (h0 : 2048 ≤ w) (hw : w < 5136), ∃ a : ℝ, (proj m c (ix2 r ⟨w, hw⟩) : EReal) = (a : EReal) := fun r w h0 hw => by
    have e := finite_of_test rfl (congrFun h.1 (ix2 r (⟨w - 2048, by omega⟩ : Fin 3088)))
    beta_reduce at e
    rw [columns] at e
    obtain ⟨a, ha⟩ := e
    exact ⟨a, by rw [← ha]; exact congrArg (fun x => proj m c (ix2 r x)) (Fin.ext (show w = 2048 + (w - 2048) by omega))⟩
  have fb : ∀ h : Fin 16, ∃ a : ℝ, (fbias m c (ix1 h) : EReal) = (a : EReal) := fun j => finite_of_test rfl (congrFun h.2 (ix1 j))
  have fq : ∀ (h : Fin 16) (r : Fin 4096) (d : Fin 64), ∃ a : ℝ, (Cert.AttnReferenceIdeal.Read.val_main_v10 (F := Ideal) (proj m c) (ix3 h r d) : EReal) = (a : EReal) :=
    fun h r d => by rw [queries]; exact fx r _ (by omega) _
  have fk : ∀ (h : Fin 16) (r : Fin 4096) (d : Fin 64), ∃ a : ℝ, (Cert.AttnReferenceIdeal.Read.val_main_v12 (F := Ideal) (proj m c) (ix3 h r d) : EReal) = (a : EReal) :=
    fun h r d => by rw [keys]; exact fx r _ (by omega) _
  have fv : ∀ (h : Fin 16) (r : Fin 4096) (d : Fin 64), ∃ a : ℝ, (Cert.AttnReferenceIdeal.Read.val_main_v14 (F := Ideal) (proj m c) (ix3 h r d) : EReal) = (a : EReal) :=
    fun h r d => by rw [values]; exact fx r _ (by omega) _
  have fc : ∀ (h : Fin 16) (r : Fin 4096), ∃ a : ℝ, (Cert.AttnReferenceIdeal.Read.val_main_v5 (F := Ideal) (proj m c) (fbias m c) (ix2 r h) : EReal) = (a : EReal) :=
    fun h r => sums_real (fun r h => fx r _ (by omega) _) fb (ix2 r h)
  choose q hq using fq
  choose k hk using fk
  choose v hv using fv
  choose cs hc using fc
  exact ⟨q, k, v, cs, hq, hk, hv, fun h r d => by rw [cotangents], hc⟩

/-- On such arguments the arrays after the call are the reference's results. -/
theorem tie (h : Finite m c) :
    (dats m 0 c).arrAt 4 cfg0.N = val_main_v83 (F := Ideal) (proj m c) (fbias m c)
    ∧ (dats m 0 c).arrAt 5 cfg0.N = val_main_v47 (F := Ideal) (proj m c) (fbias m c)
    ∧ (dats m 0 c).arrAt 6 cfg0.N = val_main_v82 (F := Ideal) (proj m c) (fbias m c) := by
  obtain ⟨q, k, v, cs, o⟩ := reals m c h
  refine ⟨(array_narrow m c o).trans (funext fun i => ?_), (array_wide m c o).trans (funext fun i => ?_), (array_log m c o).trans (funext fun i => ?_)⟩ <;> idx_vars i
  · exact (narrow_read o i0 i1).symm
  · exact (out_read o i0 i1).symm
  · exact (log_read o i0 i1).symm

/-- Three arrays at which the call's results end, its arguments unchanged, and which on such arguments are the reference's results. -/
theorem results (ρ : Dev nD → PrngReg) : ∃ v0 v1 v2 : Dev nD → S4096x1024.Idx → EReal,
    (θ_run (Cert.AttnFwdKernelIdeal.defs (F := Ideal)) (onTc (τ := τ) (Cert.AttnFwdKernelIdeal.main (F := Ideal))) ⟨m, fun _ => 0, ρ⟩ fun r => ∀ c : Dev nD,
      r.2.mem ((c.tc : Thread nD τ).loc main_v33_0) = v0 c
      ∧ r.2.mem ((c.tc : Thread nD τ).loc main_v33_1) = v1 c
      ∧ r.2.mem ((c.tc : Thread nD τ).loc main_v33_2) = v2 c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ ∀ c, Finite m c → v0 c = val_main_v83 (F := Ideal) (proj m c) (fbias m c) ∧ v1 c = val_main_v47 (F := Ideal) (proj m c) (fbias m c)
      ∧ v2 c = val_main_v82 (F := Ideal) (proj m c) (fbias m c) :=
  ⟨fun c => (dats m 0 c).arrAt 4 cfg0.N, fun c => (dats m 0 c).arrAt 5 cfg0.N, fun c => (dats m 0 c).arrAt 6 cfg0.N,
    (θ_run defs _ _).mono (fun r h c => ⟨(h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ), tie m⟩

end Cert.AttnFwd

end
-- ==== Proof.GatePrepSpec.lean ====
/-
  The gate's running sum in terms of numbers: the logarithm of the logistic function at a real, in the two forms the programs
  write it, and the sum of a function of the rows up to a row.
-/
module

public import proofs.«01_k».proof.Proof.GateBiasSpec

@[expose] public section

noncomputable section

namespace Cert.GatePrep

open Idealize.ShloMosaic Cert.GateBias

/-- The logarithm of the logistic function. -/
def logGate (f : ℝ) : ℝ := min f 0 - Real.log (1 + Real.exp (-max f (-f)))

/-- The form with the smaller of the argument and zero, … -/
theorem log_min (f : ℝ) : min (f : EReal) 0 - Ideal.log (1 + Ideal.exp (0 - max (f : EReal) (-f))) = (logGate f : EReal) := by
  have hp : (0 : ℝ) < 1 + Real.exp (-max f (-f)) := by positivity
  have h1 : min (f : EReal) 0 = ((min f 0 : ℝ) : EReal) := by rw [EReal.coe_strictMono.monotone.map_min]; rfl
  have h2 : 0 - max (f : EReal) (-f) = ((-max f (-f) : ℝ) : EReal) := by
    rw [zero_sub, EReal.coe_neg, EReal.coe_strictMono.monotone.map_max]; rfl
  rw [h1, h2, Ideal.exp_coe, ← EReal.coe_one, ← EReal.coe_add, Ideal.log_coe, if_neg (not_le.mpr hp), ← EReal.coe_sub, logGate]

/-- … and the form with the larger of its negation and zero. -/
theorem log_max (f : ℝ) : -(max (-(f : EReal)) 0 + Ideal.log1p (Ideal.exp (-max (-(f : EReal)) (- -(f : EReal))))) = (logGate f : EReal) := by
  have hp : (0 : ℝ) < 1 + Real.exp (-max f (-f)) := by positivity
  have h1 : max (-(f : EReal)) 0 = ((max (-f) 0 : ℝ) : EReal) := by rw [EReal.coe_strictMono.monotone.map_max]; rfl
  have h2 : -max (-(f : EReal)) (- -(f : EReal)) = ((-max f (-f) : ℝ) : EReal) := by
    rw [neg_neg, max_comm, EReal.coe_neg, EReal.coe_strictMono.monotone.map_max]; rfl
  rw [h1, h2, Ideal.exp_coe, Ideal.log1p, ← EReal.coe_one, ← EReal.coe_add, Ideal.log_coe, if_neg (not_le.mpr hp), ← EReal.coe_add, ← EReal.coe_neg]
  refine congrArg Real.toEReal ?_
  rw [logGate, neg_add, ← sub_eq_add_neg]
  congr 1
  rcases le_total 0 f with h | h
  · rw [max_eq_right (by linarith), min_eq_right h, neg_zero]
  · rw [max_eq_left (by linarith), min_eq_left h, neg_neg]

/-- The sum of `f` over the rows before row `a`. -/
def head (f : Fin 4096 → EReal) (a : ℕ) : EReal := ∑ n ∈ Finset.range a, ext f n

theorem head_zero (f : Fin 4096 → EReal) : head f 0 = 0 := Finset.sum_range_zero _

/-- The sum up to row `r` of a block: the block's rows up to it, and all that precedes the block. -/
theorem head_split (f : Fin 4096 → EReal) {n r b : ℕ} (hr : r < n) :
    ∑ c : Fin n, (if c.val ≤ r then ext f (b + c.val) else 0) + head f b = head f (b + r + 1) := by
  rw [Fin.sum_univ_eq_sum_range (fun c => if c ≤ r then ext f (b + c) else 0), ← Finset.sum_filter, head, head, add_comm, Nat.add_assoc,
    Finset.sum_range_add]
  refine congrArg (_ + ·) (Finset.sum_congr ?_ fun _ _ => rfl)
  ext k; simp only [Finset.mem_filter, Finset.mem_range]; omega

/-- The sum up to row `r`, counted back from `r`. -/
theorem head_back (f : Fin 4096 → EReal) (r : Fin 4096) :
    ∑ j : Fin 4096, (if j.val ≤ r.val then ext f (r.val - j.val) else 0) = head f (r.val + 1) := by
  rw [Fin.sum_univ_eq_sum_range (fun j => if j ≤ r.val then ext f (r.val - j) else 0), ← Finset.sum_filter, head,
    ← Finset.sum_range_reflect (ext f) (r.val + 1)]
  refine Finset.sum_congr ?_ fun k _ => ?_
  · ext k; simp only [Finset.mem_filter, Finset.mem_range]; omega
  · congr 1

/-- A sum of reals is a real. -/
theorem head_real (f : Fin 4096 → ℝ) (a : ℕ) : head (fun r => (f r : EReal)) a = ((∑ n ∈ Finset.range a, if h : n < 4096 then f ⟨n, h⟩ else 0 : ℝ) : EReal) := by
  rw [head]
  refine Cert.Reals.sum_eq_coe fun n _ => ?_
  unfold ext
  split
  · rfl
  · exact EReal.coe_zero.symm

/-- The head whose parts stand in a lane: of the lane's pair, the one whose keys stand in the other half. -/
def headOf (l : ℕ) : ℕ := 2 * (l / 128) + (1 - l / 64 % 2)

/-- What stands in a lane, of the heads' negated sums: the sum itself in the first lane of 64, a one in the fourth, nought else. -/
def place (z : ℕ → EReal) (l : ℕ) : EReal := if l % 64 = 0 then -z (headOf l) else if l % 64 = 3 then 1 else 0

end Cert.GatePrep

end
-- ==== Proof.GatePrepBlock.lean ====
/-
  The body of the call that forms the gate's running sum: the sums up to each row of a block, and the lanes the masks' products
  put them in.
-/
module

public import proofs.«01_k».proof.Proof.GatePrepSpec
public import proofs.«01_k».proof.Proof.GateBiasBlock
public import proofs.«01_k».proof.Proof.Gen.GatePrepKernelIdeal.Value

@[expose] public section

set_option maxRecDepth 16384

noncomputable section

namespace Cert.GatePrepKernelIdeal.Body

open Cert.GatePrepKernelIdeal Cert.GatePrepKernelIdeal.Gen Idealize.ShloMosaic Idealize.ShloMosaic.TcCoe Cert.GateBias Cert.GatePrep
open Cert.GateBiasKernelIdeal.Body (and_lane pair pair_succ)

theorem sle {a b : ℕ} (ha : a < 2147483648) (hb : b < 2147483648) :
    IntOp.cmpi .sle (BitVec.ofNat 32 a) (BitVec.ofNat 32 b) = 1#1 ↔ a ≤ b := by
  rw [IntOp.cmpi_sle, Masks.toInt_ofNat ha, Masks.toInt_ofNat hb]; omega

/-- The sums up to each row of a block, of the logarithms of the gate in the block's rows and of what precedes the block. -/
theorem pay2 {x : Vec Ideal S512x128 .f32} {b u : Vec Ideal S1x128 .f32} {h : Fin 128} {f : Fin 512 → ℝ} {y : Fin 512 → EReal} {v : EReal}
    (hx : ∀ r, (x (ix2 r h) : EReal) = y r) (hb : (b (ix2 0 h) : EReal) = v) (hf : ∀ r, y r + v = (f r : EReal)) (r : Fin 512) :
    (k0_pay2 x b u (ix2 r h) : EReal) = ∑ c : Fin 512, (if c.val ≤ r.val then (logGate (f c) : EReal) else 0) + u (ix2 0 h) := by
  have ha : ∀ y : EReal, (FloatOps.absf (F := Ideal) (φ := .f32) y : EReal) = max y (-y) := fun _ => rfl
  pointwise [k0_pay2]
  simp only [hx, hb, hf, ha, log_min, ← EReal.coe_sub, sub_self, EReal.coe_zero, sub_zero, mul_zero, Finset.sum_const_zero, add_zero]
  refine congrArg (· + _) (Finset.sum_congr rfl fun c _ => ?_)
  have hc := c.isLt; have hr := r.isLt
  rw [Masks.bit, if_congr (sle (by omega) (by omega)) rfl rfl]
  split <;> simp

/-- The mask that puts a head's part in lane `p` of the other half of its pair's lanes. -/
theorem mask {p : ℕ} (hp : p < 64) (h : Fin 128) (l : Fin 1024) :
    (FloatOps.sitofp (F := Ideal) .f32 (BitVec.setWidth 32
      (IntOp.ori (IntOp.andi (IntOp.cmpi .eq (k0_pay6 (ix2 h l)) (BitVec.ofNat 32 (64 + p)))
          (IntOp.cmpi .eq (BitVec.ofNat 32 h.val) (IntOp.muli 2#32 (k0_pay5 (ix2 h l)))))
        (IntOp.andi (IntOp.cmpi .eq (k0_pay6 (ix2 h l)) (BitVec.ofNat 32 p))
          (IntOp.cmpi .eq (BitVec.ofNat 32 h.val) (IntOp.addi (IntOp.muli 2#32 (k0_pay5 (ix2 h l))) 1#32))))) : EReal)
      = if l.val % 64 = p ∧ h.val = headOf l.val then 1 else 0 := by
  have hl := l.isLt; have hh := h.isLt
  rw [Masks.bit]
  refine if_congr ?_ rfl rfl
  pointwise [k0_pay5, k0_pay6]
  rw [and_lane, pair_succ, pair, IntOp.ori_eq_one, IntOp.andi_eq_one, IntOp.andi_eq_one, Masks.eq (by omega) (by omega), Masks.eq (by omega) (by omega),
    Masks.eq (by omega) (by omega), Masks.eq (by omega) (by omega), headOf]
  omega

theorem headOf_lt (l : Fin 1024) : headOf l.val < 16 := by have := l.isLt; unfold headOf; omega

/-- A sum against the mask picks the lane's head, in lane `p` of 64. -/
theorem pick (x : Fin 128 → EReal) (l : Fin 1024) (p : ℕ) :
    ∑ h : Fin 128, x h * (if l.val % 64 = p ∧ h.val = headOf l.val then 1 else 0)
      = if l.val % 64 = p then x ⟨headOf l.val, (headOf_lt l).trans (by norm_num)⟩ else 0 := by
  by_cases hl : l.val % 64 = p
  · rw [if_pos hl, Finset.sum_eq_single ⟨headOf l.val, (headOf_lt l).trans (by norm_num)⟩, if_pos ⟨hl, rfl⟩, mul_one]
    · intro h _ hne
      rw [if_neg fun e => hne (Fin.ext e.2), mul_zero]
    · exact fun h => absurd (Finset.mem_univ _) h
  · rw [if_neg hl]
    exact Finset.sum_eq_zero fun h _ => by rw [if_neg fun e => hl e.1, mul_zero]

/-- The ones: in the fourth lane of each 64. -/
theorem ones (l : Fin 1024) :
    (FloatOps.sitofp (F := Ideal) .f32 (BitVec.setWidth 32
      (IntOp.ori (IntOp.cmpi .eq (IntOp.andi (BitVec.ofNat 32 l.val) 127#32) (BitVec.ofNat 32 67))
        (IntOp.cmpi .eq (IntOp.andi (BitVec.ofNat 32 l.val) 127#32) (BitVec.ofNat 32 3)))) : EReal)
      = if l.val % 64 = 3 then 1 else 0 := by
  have hl := l.isLt
  rw [Masks.bit]
  refine if_congr ?_ rfl rfl
  rw [and_lane, IntOp.ori_eq_one, Masks.eq (by omega) (by omega), Masks.eq (by omega) (by omega)]
  omega

/-- The lanes of a row, of the 16 heads' sums. -/
theorem pay15 {s : Vec Ideal S512x128 .f32} {r : Fin 512} {z : ℕ → ℝ} (hz : ∀ h : Fin 128, h.val < 16 → (s (ix2 r h) : EReal) = (z h.val : EReal)) (l : Fin 1024) :
    (k0_pay15 (F := Ideal) (iota .tc S128x1024 32 [0] iota_S128x1024_d0_w32) k0_pay5 k0_pay6 (k0_pay10 s) (k0_pay11 s) (k0_pay12 s) k0_pay13 k0_pay14 (ix2 r l) : EReal)
      = place (fun h => (z h : EReal)) l.val := by
  have h0 := fun h => mask (p := 0) (by omega) h l
  have h1 := fun h => mask (p := 1) (by omega) h l
  have h2 := fun h => mask (p := 2) (by omega) h l
  have ho := ones l
  norm_num only at h0 h1 h2 ho
  pointwise [k0_pay15, k0_pay10, k0_pay11, k0_pay12, k0_pay13, k0_pay14, k0_pay9, k0_pay8, k0_pay7]
  have hz' := hz ⟨headOf l.val, (headOf_lt l).trans (by norm_num)⟩ (headOf_lt l)
  simp only [h0, h1, h2, ho, pick, hz', zero_sub, ← EReal.coe_neg, ← EReal.coe_sub, sub_self, EReal.coe_zero, neg_zero, ite_self, add_zero]
  rw [place]
  by_cases e0 : l.val % 64 = 0
  · rw [if_pos e0, if_pos e0, if_neg (by omega), add_zero, EReal.coe_neg]
  · rw [if_neg e0, if_neg e0, zero_add]

end Cert.GatePrepKernelIdeal.Body

end
-- ==== Proof.GatePrepArray.lean ====
/-
  The call that forms the gate's running sum: its result array after the run. The blocks are taken from the first to the last;
  a row of scratch carries each head's sum over the rows of the blocks already taken.
-/
module

public import proofs.«01_k».proof.Proof.GatePrepBlock

@[expose] public section

set_option maxRecDepth 16384

noncomputable section

namespace Cert.GatePrepKernelIdeal.Body

open Cert.GatePrepKernelIdeal Cert.GatePrepKernelIdeal.Gen Idealize.ShloMosaic Idealize.ShloMosaic.TcCoe Cert.GateBias Cert.GatePrep

variable (m : (ℓ : Loc nD τ sig) → Buf (Elt Ideal) ℓ) (c : Dev nD) {J : Fin 4096 → Fin 16 → EReal} {B : Fin 16 → EReal}
  {G : Fin 4096 → Fin 16 → ℝ}

/-- Row `r` of the block of point `t`. -/
def row (t : Fin cfg0.N) (r : Fin 512) : Fin 4096 := ⟨t.val * 512 + r.val, by have := t.isLt; have hN : cfg0.N = 8 := N_0; omega⟩

/-- The logarithms of the gate of head `h`, at each row; none at the columns past the heads. -/
def logs (G : Fin 4096 → Fin 16 → ℝ) (h : ℕ) (r : Fin 4096) : ℝ := if hh : h < 16 then logGate (G r ⟨h, hh⟩) else 0

/-- The sum of the logarithms of the gate of head `h` up to row `r`. -/
def upto (G : Fin 4096 → Fin 16 → ℝ) (r h : ℕ) : ℝ := ∑ n ∈ Finset.range (r + 1), if hn : n < 4096 then logs G h ⟨n, hn⟩ else 0

theorem head_upto (r h : ℕ) : head (fun n => (logs G h n : EReal)) (r + 1) = (upto G r h : EReal) := head_real _ _

/-- The lanes of a row. -/
def laid (G : Fin 4096 → Fin 16 → ℝ) (r : Fin 4096) (l : Fin 1024) : EReal := place (fun h => (upto G r.val h : EReal)) l.val

theorem index : ∀ t : Fin cfg0.N, win0_0.index t = ![t.val, 40] ∧ win0_1.index t = ![0, 0] ∧ win0_2.index t = ![t.val, 0] :=
  (by decide +kernel : ∀ t : Fin grid0.N, _)

/-- The padding stands past the gate's columns. -/
theorem padded (x : FVec Ideal S4096x5136 .f32) (v : FVec Ideal S_ .f32) (r : Fin 4096) (h : Fin 16) :
    (pad S4096x5632 ![0, 0] ![0, 496] ![0, 0] x v pads_S4096x5136_S4096x5632_000_04960 h_S_ (ix2 r ⟨5120 + h.val, by omega⟩) : EReal)
      = x (ix2 r ⟨5120 + h.val, by omega⟩) := by
  pointwise
  exact dif_pos (by omega)

/-- The projection as the region finds it, at the gate's columns. -/
theorem columns (r : Fin 4096) (h : Fin 16) : (V m c main_v0 (ix2 r ⟨5120 + h.val, by omega⟩) : EReal)
    = m ((c.tc : Thread nD τ).loc main_arg0) (ix2 r ⟨5120 + h.val, by omega⟩) := by
  unfold V
  simp only [List.flatten_cons, List.flatten_nil, List.append_nil, hostOps0, hostOps0_1, hostOps0_2, hostOps0_3, List.cons_append, List.nil_append]
  after_results
  exact padded _ _ r h

/-- The bias's row as the region finds it: the bias, at its 16 columns. -/
theorem bias (h : Fin 16) : (V m c main_v2 (ix2 0 ⟨h.val, by omega⟩) : EReal) = m ((c.tc : Thread nD τ).loc main_arg1) (ix1 h) := by
  unfold V
  simp only [List.flatten_cons, List.flatten_nil, List.append_nil, hostOps0, hostOps0_1, hostOps0_2, hostOps0_3, List.cons_append, List.nil_append]
  after_results
  pointwise
  show (pad S1x128 ![0, 0] ![0, 112] ![0, 0] (fun i : S1x16.Idx => (m ((c.tc : Thread nD τ).loc main_arg1) (ix1 (i 1)) : EReal))
    (sitofp (F := Ideal) .f32 (constantI S_ 32 0#32)) pads_S1x16_S1x128_000_01120 h_S_ (ix2 0 ⟨h.val, by omega⟩) : EReal) = _
  pointwise

variable (hj : ∀ r (h : Fin 16), (m ((c.tc : Thread nD τ).loc main_arg0) (ix2 r ⟨5120 + h.val, by omega⟩) : EReal) = J r h)
  (hb : ∀ h, (m ((c.tc : Thread nD τ).loc main_arg1) (ix1 h) : EReal) = B h) (hg : ∀ r h, J r h + B h = (G r h : EReal))

include hj in
theorem j_read (t : Fin cfg0.N) (r : Fin 512) (h : Fin 128) (hh : h.val < 16) : (iblk m c 0 t (ix2 r h) : EReal) = J (row t r) ⟨h.val, hh⟩ := by
  rw [← hj, ← columns m c]; blk_ext [iblk, index t, row]

include hb in
theorem b_read (t : Fin cfg0.N) (h : Fin 128) (hh : h.val < 16) : (iblk m c 1 t (ix2 0 h) : EReal) = B ⟨h.val, hh⟩ := by
  rw [← hb, ← bias m c]; blk_ext [iblk, index t]

include hj hb hg in
/-- A point's sums up to each row, where the carried row holds the sums of what precedes the block. -/
theorem sums {u : Vec Ideal S1x128 .f32} (t : Fin cfg0.N) (r : Fin 512) (h : Fin 128) (hh : h.val < 16)
    (hu : (u (ix2 0 h) : EReal) = head (fun n => (logs G h.val n : EReal)) (t.val * 512)) :
    (k0_pay2 (iblk m c 0 t) (iblk m c 1 t) u (ix2 r h) : EReal) = (upto G (row t r).val h.val : EReal) := by
  refine (pay2 (j_read m c hj t · h hh) (b_read m c hb t h hh) (fun r => hg (row t r) ⟨h.val, hh⟩) r).trans ?_
  rw [hu, ← head_upto]
  refine Eq.trans ?_ (head_split (fun n => (logs G h.val n : EReal)) (n := 512) (b := t.val * 512) r.isLt)
  refine congrArg (· + _) (Finset.sum_congr rfl fun k _ => ?_)
  have hk := k.isLt; have ht := t.isLt; have hN : cfg0.N = 8 := N_0
  have e : ext (fun n => (logs G h.val n : EReal)) (t.val * 512 + k.val) = (logs G h.val (row t k) : EReal) := dif_pos (by omega)
  rw [e, logs, dif_pos hh]

theorem last_row (x : Vec Ideal S512x128 .f32) (b u : Vec Ideal S1x128 .f32) (h : Fin 128) :
    (k0_pay4 (k0_pay3 x b u) (ix2 0 h) : EReal) = k0_pay2 x b u (ix2 511 h) := by
  pointwise [k0_pay4, k0_pay3]

theorem none (h : Fin 128) : (k0_pay1 (F := Ideal) (ix2 0 h) : EReal) = 0 := by pointwise [k0_pay1]

include hj hb hg in
/-- The carried row after each point: each head's sum up to the end of the point's block. -/
theorem carry (h : Fin 128) (hh : h.val < 16) : ∀ (n : ℕ) (hn : n < cfg0.N),
    ((outsAt0 m c n hn).2 (ix2 0 h) : EReal) = head (fun n => (logs G h.val n : EReal)) ((n + 1) * 512)
  | 0, hn => by
    rw [outsAt0_A m c ⟨0, hn⟩ rfl]; frame_out
    refine (last_row _ _ _ h).trans ((sums m c hj hb hg ⟨0, hn⟩ 511 h hh ?_).trans (head_upto _ _).symm)
    rw [none, Nat.zero_mul, head_zero]
  | n + 1, hn => by
    have hN : cfg0.N = 8 := N_0
    rw [outsAt0_B m c ⟨n + 1, hn⟩ (by dsimp only; omega)]; frame_out; simp only [read_unread_whole]
    refine (last_row _ _ _ h).trans ((sums m c hj hb hg ⟨n + 1, hn⟩ 511 h hh (carry h hh n (by omega))).trans ((head_upto _ _).symm.trans (congrArg _ ?_)))
    simp only [row]; omega

include hj hb hg in
/-- What each point leaves: the lanes of its block's rows. -/
theorem outs (t : Fin cfg0.N) (r : Fin 512) (l : Fin 1024) :
    ((outsAt0 m c t.val t.isLt).1 (ix2 r l) : EReal) = laid G (row t r) l := by
  have hN : cfg0.N = 8 := N_0
  have ht := t.isLt
  by_cases h0 : t.val % 8 = 0
  · rw [outsAt0_A m c t h0]; frame_out
    refine pay15 (fun h hh => sums m c hj hb hg t r h hh ?_) l
    rw [none, show t.val * 512 = 0 by omega, head_zero]
  · rw [outsAt0_B m c t h0]; frame_out; simp only [read_unread_whole]
    refine pay15 (fun h hh => sums m c hj hb hg t r h hh ?_) l
    rw [carry m c hj hb hg h hh]; congr 1; omega

include hj hb hg in
/-- The array the call returns. -/
theorem array : (dats m 0 c).arrAt 2 cfg0.N = fun i : S4096x1024.Idx => laid G (i 0) (i 1) := by
  refine (dats m 0 c).arrAt_eq_of_covers 2 _ (by decide +kernel) fun t hf y => ?_
  idx_vars y
  blk_simp
  have e : (win0_2.blk t).view.emb (ix2 y0 y1) = ix2 (row t y0) y1 := by blk_ext [index t, row]
  rw [after0_2, outs m c hj hb hg t, e]
  rfl

end Cert.GatePrepKernelIdeal.Body

end
-- ==== Proof.GatePrepReference.lean ====
/-
  The reference of the gate's running sum: its result, read at an index.
-/
module

public import proofs.«01_k».proof.Proof.GatePrepSpec
public import proofs.«01_k».proof.Proof.GateBiasReference
public import proofs.«01_k».proof.Proof.AttnOps
public import proofs.«01_k».proof.Proof.Gen.GatePrepReferenceIdeal.Read

@[expose] public section

set_option maxRecDepth 16384

noncomputable section

namespace Cert.GatePrepReferenceIdeal.Read

open Cert.GatePrepReferenceIdeal Cert.GatePrepReferenceIdeal.Gen Idealize.ShloMosaic Idealize.ShloMosaic.TcCoe Cert.GateBias Cert.GatePrep

variable {X : (⟨S4096x5136, .f32⟩ : BufTy).Contents (Elt Ideal)} {B : (⟨S16, .f32⟩ : BufTy).Contents (Elt Ideal)}

/-- A window of all the rows that ends at each row: the column's sum up to that row, counted back from it. -/
theorem window {n w : ℕ} {hi : Fin 2 → ℕ} (y : (⟨2, ![n, w]⟩ : Shape).Idx → EReal) (init : (⟨0, ![]⟩ : Shape).Idx → EReal)
    (hf : (⟨2, ![n, w]⟩ : Shape).ReduceWindows ![n, 1] ![1, 1] ![n - 1, 0] hi ⟨2, ![n, w]⟩) (hu : 0 < (⟨0, ![]⟩ : Shape).numel)
    (h0 : init (Shape.Idx.first hu) = 0) (r : Fin n) (h : Fin w) :
    Host.reduceWindow (fun a b : EReal => a + b) ![n, 1] ![1, 1] ![n - 1, 0] hi y init hf hu (ix2 r h)
      = ∑ j : Fin n, if j.val ≤ r.val then y (ix2 ⟨r.val - j.val, by omega⟩ h) else 0 := by
  unfold Host.reduceWindow
  simp only [h0]
  rw [Cert.GateBiasReferenceIdeal.Read.foldl_add, zero_add, ← Fin.sum_univ_def]
  refine (Equiv.sum_comp (Shape.rowMajor ⟨2, ![n, 1]⟩) _).symm.trans ?_
  simp only [Equiv.symm_apply_apply]
  refine (sum_idx2 _).trans ((Equiv.sum_comp Fin.revPerm _).symm.trans (Finset.sum_congr rfl fun j _ => ?_))
  have hj := j.isLt
  have hr := r.isLt
  have hv : (Fin.revPerm j : Fin n).val = n - 1 - j.val := by rw [Fin.revPerm_apply, Fin.val_rev]; omega
  simp only [Finset.univ_unique, Finset.sum_singleton, Fin.default_eq_zero]
  by_cases hk : j.val ≤ r.val
  · rw [if_pos hk, dif_pos (by
      intro a; refine Fin.cases ?_ (fun b => ?_) a
      · show n - 1 ≤ r.val * 1 + (Fin.revPerm j : Fin n).val ∧ r.val * 1 + (Fin.revPerm j : Fin n).val - (n - 1) < n; omega
      · obtain rfl : b = 0 := Subsingleton.elim _ _
        show 0 ≤ h.val * 1 + 0 ∧ h.val * 1 + 0 - 0 < w; have := h.isLt; omega)]
    refine congrArg y (funext fun a => ?_)
    refine Fin.cases ?_ (fun b => ?_) a
    · exact Fin.ext (show r.val * 1 + (Fin.revPerm j : Fin n).val - (n - 1) = r.val - j.val by omega)
    · obtain rfl : b = 0 := Subsingleton.elim _ _
      exact Fin.ext (show h.val * 1 + 0 - 0 = h.val by omega)
  · rw [if_neg hk, dif_neg fun hin => hk ?_]
    have h2 : n - 1 ≤ r.val * 1 + (Fin.revPerm j : Fin n).val := (hin 0).1
    omega

/-- The gate's argument: the projection's columns from 5120 on and the bias, where their sum is a real. -/
def Argument (X : FVec Ideal S4096x5136 .f32) (B : FVec Ideal S16 .f32) (G : Fin 4096 → Fin 16 → ℝ) : Prop :=
  ∀ (r : Fin 4096) (h : Fin 16), (X (ix2 r ⟨5120 + h.val, by omega⟩) : EReal) + B (ix1 h) = (G r h : EReal)

variable {G : Fin 4096 → Fin 16 → ℝ} (hg : Argument X B G)

include hg in
/-- The logarithm of the gate. -/
theorem log_gate (r : Fin 4096) (h : Fin 16) : (val_main_v4 X B (ix2 r h) : EReal) = (logGate (G r h) : EReal) := by
  pointwise [val_main_v4, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, val_main_call0_v0, val_main_v3, val_main_v2, val_main_v1, val_main_v0]
  rw [hg r h, if_neg (fun h => h rfl)]
  exact log_max _

include hg in
/-- The running sum of the gate's logarithm. -/
theorem sums (r : Fin 4096) (h : Fin 16) :
    (val_main_v5 X B (ix2 r h) : EReal) = head (fun n => (logGate (G n h) : EReal)) (r.val + 1) := by
  unfold val_main_v5 Host.reduceWindowAdd
  have h0 : (val_main_call1_call0_v0 (F := Ideal) (Shape.Idx.first h_S_) : EReal) = 0 := by
    pointwise [val_main_call1_call0_v0, val_main_call1_call0_cst]
  have hy := fun k => log_gate hg k h
  generalize val_main_v4 X B = y at hy ⊢
  rw [Ideal.hostReduceWindowAdd_def, Ideal.hostReduceWindowAdd]
  refine (window y (fun _ => val_main_call1_call0_v0 (F := Ideal) (Shape.Idx.first h_S_)) _ _ h0 r h).trans ?_
  refine Eq.trans (Finset.sum_congr rfl fun j _ => ?_) (head_back (fun n => (logGate (G n h) : EReal)) r)
  rw [hy]
  refine if_congr Iff.rfl ?_ rfl
  unfold ext
  rw [dif_pos (by omega)]

include hg in
/-- The result: the negated sums, ones and zeros in their lanes. -/
theorem result {U : ℕ → ℕ → ℝ} (hU : ∀ (r : Fin 4096) (h : Fin 16), head (fun n => (logGate (G n h) : EReal)) (r.val + 1) = (U r.val h.val : EReal))
    (r : Fin 4096) (l : Fin 1024) : (val_main_v31 X B (ix2 r l) : EReal) = place (fun h => (U r.val h : EReal)) l.val := by
  have e : val_main_v31 X B = Cert.AttnKernelIdeal.Tile.hostAug (Cert.AttnKernelIdeal.Tile.hostParts (Cert.AttnKernelIdeal.Tile.hostNeg (val_main_v5 X B))) := rfl
  have hC : ∀ (h : Fin 16) (r : Fin 4096), (val_main_v5 X B (ix2 r h) : EReal) = (U r.val h.val : EReal) := fun h r => (sums hg r h).trans (hU r h)
  rw [e]
  generalize val_main_v5 X B = C at hC
  rw [Cert.AttnKernelIdeal.Tile.aug_read, Cert.AttnKernelIdeal.Tile.parts_read _ _ _ (Cert.AttnKernelIdeal.Tile.neg_read (cs := fun h r => U r.val h.val) hC _ _ _), place]
  rw [EReal.coe_neg]
  refine if_congr Iff.rfl (congrArg (fun n => -((U r.val n : ℝ) : EReal)) ?_) rfl
  show l.val / 128 * 2 + (1 - l.val / 64 % 2) = headOf l.val
  unfold headOf; omega

end Cert.GatePrepReferenceIdeal.Read

end
-- ==== Proof.GatePrep.lean ====
/-
  The gate's running sum: where the projection's columns of the gate and the bias are finite, the array the call returns is the
  reference's.
-/
module

public import proofs.«01_k».proof.Proof.GatePrepArray
public import proofs.«01_k».proof.Proof.GatePrepReference
public import proofs.«01_k».proof.Proof.Gen.Pre_gate_prep_finite

@[expose] public section

set_option maxRecDepth 16384

noncomputable section

namespace Cert.GatePrep

open Idealize.ShloMosaic Idealize.ShloMosaic.TcCoe Idealize.SL.Sem Cert.Reals Cert.GatePrepKernelIdeal Cert.GatePrepKernelIdeal.Gen

variable (m : (ℓ : Loc nD τ sig) → Buf (Elt Ideal) ℓ)

/-- The arguments of the call on device `c`: the projections and the bias. -/
abbrev proj (c : Dev nD) := m ((c.tc : Thread nD τ).loc main_arg0)
abbrev fbias (c : Dev nD) := m ((c.tc : Thread nD τ).loc main_arg1)

/-- The precondition: every element of the gate's columns and of the bias is smaller than infinity in absolute value. -/
def Finite (c : Dev nD) : Prop :=
  (Cert.Pre_gate_prep_finite.fn (F := Ideal) (proj m c) (fbias m c)).1 = (fun _ => 1#1)
    ∧ (Cert.Pre_gate_prep_finite.fn (F := Ideal) (proj m c) (fbias m c)).2 = (fun _ => 1#1)

theorem column (X : FVec Ideal S4096x5136 .f32) (hs : S4096x5136.Slices ![0, 5120] ⟨2, ![4096, 16]⟩) (r : Fin 4096) (h : Fin 16) :
    (extractStridedSlice ⟨2, ![4096, 16]⟩ ![0, 5120] X hs (ix2 r h) : EReal) = X (ix2 r ⟨5120 + h.val, by omega⟩) := by
  pointwise

/-- On such arguments the array after the call is the reference's result. -/
theorem tie (c : Dev nD) (h : Finite m c) :
    (dats m 0 c).arrAt 2 cfg0.N = Cert.GatePrepReferenceIdeal.Read.val_main_v31 (proj m c) (fbias m c) := by
  have fp : ∀ (r : Fin 4096) (k : Fin 16), ∃ a : ℝ, (proj m c (ix2 r ⟨5120 + k.val, by omega⟩) : EReal) = (a : EReal) := fun r k => by
    obtain ⟨a, ha⟩ := finite_of_test rfl (congrFun h.1 (ix2 r k))
    exact ⟨a, (column (proj m c) _ r k).symm.trans ha⟩
  have fb : ∀ k : Fin 16, ∃ a : ℝ, (fbias m c (ix1 k) : EReal) = (a : EReal) := fun k => finite_of_test rfl (congrFun h.2 (ix1 k))
  choose P hp using fp
  choose B hb using fb
  have hg : ∀ r k, ((P r k : ℝ) : EReal) + (B k : EReal) = ((P r k + B k : ℝ) : EReal) := fun r k => (EReal.coe_add _ _).symm
  rw [Body.array m c hp hb hg]
  funext i
  idx_vars i
  refine Eq.symm ((Cert.GatePrepReferenceIdeal.Read.result (X := proj m c) (B := fbias m c) (G := fun r k => P r k + B k)
    (U := Body.upto fun r k => P r k + B k) (fun r k => ?_) (fun r k => ?_) i0 i1).trans rfl)
  · rw [hp, hb, hg]
  · rw [← Body.head_upto]
    refine congrArg (head · _) (funext fun n => ?_)
    rw [Body.logs, dif_pos k.isLt]

end Cert.GatePrep

end
-- ==== Proof.Stored.lean ====
/-
  A buffer that is stored over whole.
-/
module

public import Idealize.ShloMosaic.Lib.Pipeline.ValueKit.Acc

@[expose] public section

noncomputable section

namespace Cert

open Idealize.ShloMosaic

variable {F : FTy → Type} [FloatOps F] {sig : RefSig} {κ : Kind} {sp : Space}

/-- A buffer stored over whole holds what was stored last. -/
theorem stored {s : Shape} {e : EltTy} (arg : Memref sig κ sp s e) (f) {off : Fin s.rank → ℕ} (inb : ∀ a, off a + s.size a ≤ s.size a) (h : ∀ a, off a = 0)
    (w : s.Idx → Elt F e) (L : List (View.Piece (Elt F) s e)) :
    View.read (Elt F) arg.view (arg.view.writes (Elt F) f (⟨Rect.unit off s.size inb, w⟩ :: L)) = w := by
  obtain rfl : off = fun _ => 0 := funext h
  rw [View.read_writes_eq_canon _ _ _ fun y => ⟨_, List.mem_cons_self, View.mem_set_unit_zero rfl inb y⟩]
  exact View.canon_cons_unit_zero rfl inb w L

end Cert

end
-- ==== Proof.FfnUpRun.lean ====
/-
  The body of the feed-forward layer's first half, run once: what a grid point leaves in the buffers, at a row's first slice
  of the matrices and at a later one.
-/
module

public import proofs.«01_k».proof.Proof.Gen.FfnUpKernelIdeal.Launch
public import proofs.«01_k».proof.Proof.Gen.FfnUpKernelIdeal.Skeleton
public import proofs.«01_k».proof.Proof.Gen.FfnUpKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Stored

@[expose] public section

set_option maxRecDepth 16384

noncomputable section

namespace Cert.FfnUpKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of a run of this program. -/
abbrev Res (F : FTy → Type) [FloatOps F] := MT nD τ sig Unit (Elt F) ℕ (UR sig nD τ) ℕ

/-- A row's first slice. -/
abbrev Starts (i : grid0.Coords) : Prop := k0_cond1 i = 1#1

/-- A buffer at some contents. -/
abbrev Any (F : FTy → Type) [FloatOps F] (c : Dev nD) {s : Shape} {e : EltTy} (arg : Memref sig .tc .vmem s e) : sProp (Res F) := iprop(∃ d, owns (c : Thread nD τ) arg fullShare d)

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x704x2048 .bf16) (harg4 : arg4.IsWhole)
  (arg5 : Memref sig .tc .vmem S1x704x2048 .bf16) (harg5 : arg5.IsWhole)
  (arg6 : Memref sig .tc .vmem S512x2048 .bf16) (harg6 : arg6.IsWhole)
  (arg7 : Memref sig .tc .vmem S1x512x704 .f32) (harg7 : arg7.IsWhole)
  (arg8 : Memref sig .tc .vmem S1x512x704 .f32) (harg8 : arg8.IsWhole)
  (arg9 : Memref sig .tc .vmem S1x512x704 .bf16) (harg9 : arg9.IsWhole)
  (x0 : Vec F S512x2048 .f32) (x1 : Vec F S1x2048 .f32) (x2 x3 : Vec F S1x704x2048 .bf16)

/-- The body, from the four blocks, the normed rows' buffer and the three others to the same four blocks, the normed rows
    `h`, their two products and the gated product. -/
abbrev Runs (o6 : sProp (Res F)) (h : Vec F S512x2048 .bf16) : Prop :=
  ∀ (E : Set ℕ) (K : PUnit → sProp (Res F)),
    iprop(owns (c : Thread nD τ) arg2 fullShare x0 ∗ owns (c : Thread nD τ) arg3 fullShare x1 ∗ owns (c : Thread nD τ) arg4 fullShare x2 ∗ owns (c : Thread nD τ) arg5 fullShare x3
        ∗ o6 ∗ Any F c arg7 ∗ Any F c arg8 ∗ Any F c arg9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare h ∗ owns (c : Thread nD τ) arg7 fullShare (k0_pay5 h x2) ∗ owns (c : Thread nD τ) arg8 fullShare (k0_pay6 h x3) ∗ owns (c : Thread nD τ) arg9 fullShare (k0_pay7 h x2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K

set_option maxHeartbeats 1000000 in
/-- A row's first slice: the rows are normed. -/
theorem runFirst (hc : Starts i) :
    Runs c i arg2 harg2 arg3 harg3 arg4 harg4 arg5 harg5 arg6 harg6 arg7 harg7 arg8 harg8 arg9 harg9 x0 x1 x2 x3 (Any F c arg6) (k0_pay1 x0 x1) := by
  intro E K
  simp only [cc0_ffn_up_eq_skeleton]; unfold cc0_ffn_up_skel
  simp only [k0_part1_eq_skeleton]
  unfold Any owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; refine (stored _ _ _ (by decide) _ _).trans ?_; simp (disch := decide) only [View.readCov_cons_unit_lit', View.readAt_eq_ld, View.ld_unit_lit', Memref.IsWhole.read_unread]
  isplitl [H7]
  · iexists _; isplitr; swap; · iexact H7
    ipureintro; refine (stored _ _ _ (by decide) _ _).trans ?_; delta runFirst.sl.v3 runFirst.sl.H6_1; simp (disch := decide) only [View.readCov_cons_unit_lit', View.readAt_eq_ld, View.ld_unit_lit', Memref.IsWhole.read_unread]
  isplitl [H8]
  · iexists _; isplitr; swap; · iexact H8
    ipureintro; refine (stored _ _ _ (by decide) _ _).trans ?_; delta runFirst.sl.v3 runFirst.sl.H6_1; simp (disch := decide) only [View.readCov_cons_unit_lit', View.readAt_eq_ld, View.ld_unit_lit', Memref.IsWhole.read_unread]
  iexists _; isplitr; swap; · iexact H9
  ipureintro; refine (stored _ _ _ (by decide) _ _).trans ?_; delta runFirst.sl.v3 runFirst.sl.H6_1; simp (disch := decide) only [View.readCov_cons_unit_lit', View.readAt_eq_ld, View.ld_unit_lit', Memref.IsWhole.read_unread]

set_option maxHeartbeats 1000000 in
/-- A later slice: the normed rows are as they were. -/
theorem runLater (hc : ¬Starts i) (h : Vec F S512x2048 .bf16) :
    Runs c i arg2 harg2 arg3 harg3 arg4 harg4 arg5 harg5 arg6 harg6 arg7 harg7 arg8 harg8 arg9 harg9 x0 x1 x2 x3 (owns (c : Thread nD τ) arg6 fullShare h) h := by
  intro E K
  simp only [cc0_ffn_up_eq_skeleton]; unfold cc0_ffn_up_skel
  simp only [k0_part1_eq_skeleton]
  unfold Any owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  obtain rfl := harg6.eq_unread hf6
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro; exact harg6.read_unread _
  isplitl [H7]
  · iexists _; isplitr; swap; · iexact H7
    ipureintro; refine (stored _ _ _ (by decide) _ _).trans ?_; simp (disch := decide) only [View.readCov_cons_unit_lit', View.readAt_eq_ld, View.ld_unit_lit', Memref.IsWhole.read_unread]
  isplitl [H8]
  · iexists _; isplitr; swap; · iexact H8
    ipureintro; refine (stored _ _ _ (by decide) _ _).trans ?_; simp (disch := decide) only [View.readCov_cons_unit_lit', View.readAt_eq_ld, View.ld_unit_lit', Memref.IsWhole.read_unread]
  iexists _; isplitr; swap; · iexact H9
  ipureintro; refine (stored _ _ _ (by decide) _ _).trans ?_; simp (disch := decide) only [View.readCov_cons_unit_lit', View.readAt_eq_ld, View.ld_unit_lit', Memref.IsWhole.read_unread]

end Cert.FfnUpKernelIdeal.Gen

end
-- ==== Proof.FfnUpFrame.lean ====
/-
  The pipeline of the feed-forward layer's first half: what every grid point leaves, and the run of the whole.
-/
module

public import proofs.«01_k».proof.Proof.FfnUpRun
public import proofs.«01_k».proof.Proof.Gen.FfnUpKernelIdeal.Frame
public import Idealize.ShloMosaic.Lib.Claim

@[expose] public section

set_option maxRecDepth 16384

noncomputable section

namespace Cert.FfnUpKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

theorem starts_iff : ∀ t : Fin cfg0.N, Starts (grid0.coords t) ↔ t.val % 8 = 0 :=
  (by decide +kernel : ∀ t : Fin grid0.N, Starts (grid0.coords t) ↔ t.val % 8 = 0)

/-- Before point `n` the normed rows' buffer holds nothing of its row's. -/
def unset (n : ℕ) : Bool := decide (n % 8 = 0)

theorem unset_step : ∀ t : Fin cfg0.N, unset (t.val + 1) = ((cfg0.win 4).flush t || (cfg0.idle 4 (cfg0.grid.coords t) && unset t.val)) := by decide +kernel

/-- The rows' block, normed, as point `t` would norm it. -/
abbrev normed (t : Fin cfg0.N) : Vec F S512x2048 .bf16 := k0_pay1 (iblk m c 0 t) (iblk m c 1 t)

/-- The normed rows before point `n`: a row's first point norms them, and they stay. -/
def held : ℕ → Vec F S512x2048 .bf16
  | 0 => View.canon []
  | n + 1 => if h : n < cfg0.N then if n % 8 = 0 then normed m c ⟨n, h⟩ else held n else held n

theorem held_first (t : Fin cfg0.N) (h : t.val % 8 = 0) : held m c (t.val + 1) = normed m c t := by
  rw [held, dif_pos t.isLt, if_pos h]

theorem held_later (t : Fin cfg0.N) (h : ¬t.val % 8 = 0) : held m c (t.val + 1) = held m c t.val := by
  rw [held, dif_pos t.isLt, if_neg h]

/-- The pipeline's proof data: inputs at their blocks, the normed rows as held, their products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held m c (t.val + 1)
    | ⟨5, _⟩ => k0_pay5 (held m c (t.val + 1)) (iblk m c 2 t)
    | ⟨6, _⟩ => k0_pay6 (held m c (t.val + 1)) (iblk m c 3 t)
    | ⟨7, _⟩ => k0_pay7 (held m c (t.val + 1)) (iblk m c 2 t) (iblk m c 3 t)
  Φ _ := Pipeline.ΦA spec0 c
  q _ := fullShare
  owed _ := 0

theorem A_eq (w : Fin cfg0.W) : (dats m 0 c).A w = V m c (Pipeline.arrRef spec0 w) := by dsimp only [dats]

variable (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = held m c (t.val + 1) := by dsimp only [dats]
theorem after5 : (dats m 0 c).after 5 t = k0_pay5 (held m c (t.val + 1)) (iblk m c 2 t) := by dsimp only [dats]
theorem after6 : (dats m 0 c).after 6 t = k0_pay6 (held m c (t.val + 1)) (iblk m c 3 t) := by dsimp only [dats]
theorem after7 : (dats m 0 c).after 7 t = k0_pay7 (held m c (t.val + 1)) (iblk m c 2 t) (iblk m c 3 t) := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d

/-- Where the normed rows' buffer is not stored, the slice is a later one. -/
theorem idle4 : cfg0.idle 4 (grid0.coords t) = true ↔ ¬Starts (grid0.coords t) := by
  show (!(k0_cond1 (grid0.coords t) == 1#1)) = true ↔ _
  simp

theorem stay4 : ∀ (t : Fin cfg0.N) (_ : t.val ≠ 0), cfg0.idle 4 (grid0.coords t) = true → cfg0.fresh 4 t.val = false →
    (dats m 0 c).after 4 t = (dats m 0 c).after 4 ⟨t.val - 1, lt_of_le_of_lt (Nat.sub_le _ _) t.isLt⟩ := fun t h0 h _ => by
  rw [after4, after4, held_later m c t fun e => (idle4 t).mp h ((starts_iff t).mpr e)]
  show _ = held m c (t.val - 1 + 1)
  rw [Nat.sub_add_cancel (Nat.pos_of_ne_zero h0)]

/-- What a later slice finds in the normed rows' buffer. -/
theorem before4 (h : ¬t.val % 8 = 0) (d) : (dats m 0 c).before 4 t d = held m c t.val := by
  have h0 : t.val ≠ 0 := fun e => h (by rw [e])
  rw [Dat.before_out_traj _ 4 rfl (fun _ _ => rfl) (stay4 m c) t.val t rfl d,
    if_neg (by rw [Pipeline.Cfg.fresh_tab cfg0 4 unset rfl unset_step t.val (Nat.le_of_lt t.isLt), unset, decide_eq_false h]; exact Bool.false_ne_true), after4]
  show held m c (t.val - 1 + 1) = _
  rw [Nat.sub_add_cancel (Nat.pos_of_ne_zero h0)]

/-- The normed rows in their buffer are left as they should be. -/
theorem keep4 : owns (c : Thread nD τ) (st0_4 t) fullShare (held m c (t.val + 1)) ⊢ (dats m 0 c).leavesExact 4 t := by
  by_cases hs : Starts (grid0.coords t)
  · unfold Dat.leavesExact; rw [Bool.eq_false_iff.mpr fun e => (idle4 t).mp e hs, after4]
  · have h8 : ¬t.val % 8 = 0 := fun e => hs ((starts_iff t).mpr e)
    by_cases h7 : (cfg0.win 4).flush t = true
    · unfold Dat.leavesExact; rw [(idle4 t).mpr hs, h7, after4]
    · rw [Dat.leavesExact_idle (dats m 0 c) 4 t ((idle4 t).mpr hs) (Bool.eq_false_iff.mpr h7)]
      have e := before4 m c t h8
      iintro H
      iexists (View.canon [])
      rw [e, ← held_later m c t h8]
      iexact H

theorem live0 : (dats m 0 c).leavesExact 0 t = owns (c : Thread nD τ) (st0_0 t) fullShare (iblk m c 0 t) := by
  unfold Dat.leavesExact; rw [show cfg0.idle 0 (cfg0.grid.coords t) = false from rfl, after0]
theorem live1 : (dats m 0 c).leavesExact 1 t = owns (c : Thread nD τ) (st0_1 t) fullShare (iblk m c 1 t) := by
  unfold Dat.leavesExact; rw [show cfg0.idle 1 (cfg0.grid.coords t) = false from rfl, after1]
theorem live2 : (dats m 0 c).leavesExact 2 t = owns (c : Thread nD τ) (st0_2 t) fullShare (iblk m c 2 t) := by
  unfold Dat.leavesExact; rw [show cfg0.idle 2 (cfg0.grid.coords t) = false from rfl, after2]
theorem live3 : (dats m 0 c).leavesExact 3 t = owns (c : Thread nD τ) (st0_3 t) fullShare (iblk m c 3 t) := by
  unfold Dat.leavesExact; rw [show cfg0.idle 3 (cfg0.grid.coords t) = false from rfl, after3]
theorem live5 : (dats m 0 c).leavesExact 5 t = owns (c : Thread nD τ) (st0_5 t) fullShare (k0_pay5 (held m c (t.val + 1)) (iblk m c 2 t)) := by
  unfold Dat.leavesExact; rw [show cfg0.idle 5 (cfg0.grid.coords t) = false from rfl, after5]
theorem live6 : (dats m 0 c).leavesExact 6 t = owns (c : Thread nD τ) (st0_6 t) fullShare (k0_pay6 (held m c (t.val + 1)) (iblk m c 3 t)) := by
  unfold Dat.leavesExact; rw [show cfg0.idle 6 (cfg0.grid.coords t) = false from rfl, after6]
theorem live7 : (dats m 0 c).leavesExact 7 t = owns (c : Thread nD τ) (st0_7 t) fullShare (k0_pay7 (held m c (t.val + 1)) (iblk m c 2 t) (iblk m c 3 t)) := by
  unfold Dat.leavesExact; rw [show cfg0.idle 7 (cfg0.grid.coords t) = false from rfl, after7]

/-- What a point's body starts from. -/
def Pre : sProp (Res F) :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it ends in. -/
def Post : sProp (Res F) :=
  iprop(Pipeline.ΦA spec0 c ∗ (dats m 0 c).owesAt () t.castSucc
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- A point's body does its work. -/
abbrev Sound : Prop := Pre m c t ⊢ wp frame (wpE (defs₀ (F := F)) Variants.none c none) Set.univ (bodyAt0 t) (fun _ => Post m c t)

variable {m c t} in
/-- A run of the body from what the point finds to the normed rows is all a point has to do. -/
theorem sound_of (o4 : sProp (Res F))
    (run : Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) o4 (held m c (t.val + 1)))
    (h4 : ∀ d, owns (c : Thread nD τ) (st0_4 t) fullShare ((dats m 0 c).before 4 t d) ⊢ o4) : Sound m c t := by
  unfold Sound Pre Post bodyAt0
  simp only [before0, before1, before2, before3, live0, live1, live2, live3, live5, live6, live7]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run Set.univ _)
  isplitl [H0]
  · iexact H0
  isplitl [H1]
  · iexact H1
  isplitl [H2]
  · iexact H2
  isplitl [H3]
  · iexact H3
  isplitl [H4]
  · iapply (h4 _); iexact H4
  isplitl [H5]
  · iexists _; iexact H5
  isplitl [H6]
  · iexists _; iexact H6
  isplitl [H7]
  · iexists _; iexact H7
  iintro ⟨H0, H1, H2, H3, H4, H5, H6, H7⟩
  isplitl [HI]
  · iexact HI
  isplitl [Ho]
  · iexact Ho
  isplitl [H0]
  · iexact H0
  isplitl [H1]
  · iexact H1
  isplitl [H2]
  · iexact H2
  isplitl [H3]
  · iexact H3
  isplitl [H4]
  · iapply (keep4 m c t); iexact H4
  isplitl [H5]
  · iexact H5
  isplitl [H6]
  · iexact H6
  iexact H7

/-- Every point's body does its work. -/
theorem sound_body : Sound m c t := by
  by_cases hs : Starts (grid0.coords t)
  · refine sound_of (Any F c (st0_4 t)) ?_ fun d => ?_
    · rw [held_first m c t ((starts_iff t).mp hs)]
      exact runFirst c _ _ _ _ _ _ _ _ _ _ _ _ _ _ _ _ _ _ _ _ _ hs
    · iintro H; iexists _; iexact H
  · have h8 : ¬t.val % 8 = 0 := fun e => hs ((starts_iff t).mpr e)
    refine sound_of (owns (c : Thread nD τ) (st0_4 t) fullShare (held m c t.val)) ?_ fun d => ?_
    · rw [held_later m c t h8]
      exact runLater c _ _ _ _ _ _ _ _ _ _ _ _ _ _ _ _ _ _ _ _ _ hs _
    · rw [before4 m c t h8 d]

/-- The same, as the pipeline's rule asks for it. -/
theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! The run and the frame. -/

set_option backward.isDefEq.respectTransparency.types false in
/-- The program ends with the pipeline's arrays as its proof data says, the rest as found, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.refl _) (hout := fun c => Entails.refl _)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.FfnUpKernelIdeal.Gen

end
-- ==== Proof.FfnUpPlain.lean ====
/-
  The feed-forward layer's first half as the version has it is the program its claim of values is about: no operation is
  replaced. What is proved of the runs of the one is so of the other.
-/
module

public import proofs.«01_k».proof.Proof.FfnUpFrame
public import proofs.«01_k».proof.Proof.Gen.FfnUpKernel

@[expose] public section

set_option maxRecDepth 16384

noncomputable section

namespace Cert.FfnUpKernel.Gen

open Cert.FfnUpKernel Idealize.ShloMosaic Idealize.ShloMosaic.TcCoe Idealize.SL.Sem

variable {F : FTy → Type} [FloatOps F]

/-- The body is the other's, … -/
theorem body_same : @cc0_ffn_up F _ _ = @Cert.FfnUpKernelIdeal.cc0_ffn_up F _ _ := rfl

set_option maxHeartbeats 4000000 in
/-- … so is the table of bodies, … -/
theorem defs0_same : @defs₀ F _ _ = @Cert.FfnUpKernelIdeal.defs₀ F _ _ := by
  unfold defs₀ Cert.FfnUpKernelIdeal.defs₀
  refine congrArg Defs.onTc ?_
  funext l x
  obtain ⟨l, hl⟩ := l
  match l, hl, x with
  | 0, _, (t, s) => rfl

set_option maxHeartbeats 4000000 in
/-- … and so is the host's program. -/
theorem main_same : @main F _ = @Cert.FfnUpKernelIdeal.main F _ := rfl

/-- The arguments end as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mpr (congrArg₂ (fun d p => θ_run (Pipeline.defs pcfgs d) (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) defs0_same main_same) (@Cert.FfnUpKernelIdeal.Gen.frame F _ m ρ)

end Cert.FfnUpKernel.Gen

end
-- ==== Proof.NormRows.lean ====
/-
  Rows divided by their root mean square and times a gain.
-/
module

public import proofs.«01_k».proof.Proof.NormRow

@[expose] public section

noncomputable section

namespace Cert.NormRows

/-- The normed rows. -/
def normed (X : Fin 4096 → Fin 2048 → EReal) (G : Fin 2048 → EReal) (r : Fin 4096) (j : Fin 2048) : EReal := NormRow.unit (X r) j * G j

end Cert.NormRows

end
-- ==== Proof.FfnUpReference.lean ====
/-
  The reference of the call of the feed-forward layer's two products: its four results, written by rows. Row `r` of the input
  divided by its root mean square and times the gain; the products of it with the matrices of gate and up; the gated product.
-/
module

public import proofs.«01_k».proof.Proof.NormRows
public import proofs.«01_k».proof.Proof.GateSpec
public import proofs.«01_k».proof.Proof.Gen.FfnUpReferenceIdeal.Read

@[expose] public section

set_option maxRecDepth 16384

noncomputable section

namespace Cert.FfnUp

open Cert.NormRows (normed)

variable (X : Fin 4096 → Fin 2048 → EReal) (G : Fin 2048 → EReal) (W W' : Fin 8 → Fin 704 → Fin 2048 → EReal)

/-- The product of the normed rows with a matrix. -/
def product (s : Fin 8) (r : Fin 4096) (f : Fin 704) : EReal := ∑ k, normed X G r k * W s f k

end Cert.FfnUp

namespace Cert.FfnUpReferenceIdeal.Read

open Cert.FfnUpReferenceIdeal Cert.FfnUpReferenceIdeal.Gen Idealize.ShloMosaic Idealize.ShloMosaic.TcCoe Cert.FfnUp
open Cert.NormRows (normed)

variable {x : (⟨S4096x2048, .f32⟩ : BufTy).Contents (Elt Ideal)} {g : (⟨S2048, .f32⟩ : BufTy).Contents (Elt Ideal)}
  {wg wu : (⟨S8x704x2048, .bf16⟩ : BufTy).Contents (Elt Ideal)}
  {X : Fin 4096 → Fin 2048 → EReal} {G : Fin 2048 → EReal} {A B : Fin 8 → Fin 704 → Fin 2048 → EReal}

variable (hx : ∀ r j, (x (ix2 r j) : EReal) = X r j) (hg : ∀ j, (g (ix1 j) : EReal) = G j)
  (ha : ∀ s f k, (wg (ix3 s f k) : EReal) = A s f k) (hb : ∀ s f k, (wu (ix3 s f k) : EReal) = B s f k)

include hx hg in
/-- The norm in the precision of the input. -/
theorem h_wide (r : Fin 4096) (j : Fin 2048) : (val_main_v12 (F := Ideal) x g (ix2 r j) : EReal) = normed X G r j := by
  have e : X r = fun k => x (ix2 r k) := funext fun k => (hx r k).symm
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [NormRows.normed, e, ← hg]
  rfl

include hx hg in
/-- The norm. -/
theorem h_ref (r : Fin 4096) (j : Fin 2048) : (val_main_v19 (F := Ideal) x g (ix2 r j) : EReal) = normed X G r j :=
  h_wide hx hg r j

include hx hg ha in
/-- The gate's product. -/
theorem g_ref (s : Fin 8) (r : Fin 4096) (f : Fin 704) : (val_main_v15 (F := Ideal) x g wg (ix3 s r f) : EReal) = product X G A s r f := by
  pointwise [val_main_v15, val_main_v14, val_main_v13]
  simp only [h_wide hx hg, ha, product, mul_comm]

include hx hg hb in
/-- The other product. -/
theorem u_ref (s : Fin 8) (r : Fin 4096) (f : Fin 704) : (val_main_v18 (F := Ideal) x g wu (ix3 s r f) : EReal) = product X G B s r f := by
  pointwise [val_main_v18, val_main_v17, val_main_v16]
  simp only [h_wide hx hg, hb, product, mul_comm]

include hx hg ha hb in
/-- The gated product. -/
theorem a_ref (s : Fin 8) (r : Fin 4096) (f : Fin 704) :
    (val_main_v22 (F := Ideal) x g wg wu (ix3 s r f) : EReal) = GateSpec.gated (product X G A s r f) (product X G B s r f) := by
  rw [← g_ref hx hg ha, ← u_ref hx hg hb]
  pointwise [val_main_v22, val_main_v21, val_main_v20, val_main_call0_v5, val_main_call0_v4, val_main_call0_v3, val_main_call0_v2, val_main_call0_v1, val_main_call0_v0,
    val_main_call0_cst, val_main_call0_cst_0]
  simp only [GateSpec.gated, GateSpec.logistic_word]

end Cert.FfnUpReferenceIdeal.Read

end
-- ==== Proof.FfnUp.lean ====
/-
  The feed-forward layer's two products: the call's normed rows, its products with the matrices of gate and up and the gated
  product are the reference's, on all arguments. The eight points of a row block share the rows its first point normed.
-/
module

public import proofs.«01_k».proof.Proof.FfnUpFrame
public import proofs.«01_k».proof.Proof.FfnUpReference
public import Idealize.ShloMosaic.Lib.Pipeline.ValueKit

@[expose] public section

set_option maxRecDepth 16384

noncomputable section

namespace Cert.FfnUp

open Cert.FfnUpKernelIdeal Cert.FfnUpKernelIdeal.Gen Idealize.ShloMosaic Idealize.ShloMosaic.TcCoe Idealize.SL.Sem
open Cert.FfnUpReferenceIdeal.Read (val_main_v19 val_main_v15 val_main_v18 val_main_v22 h_ref g_ref u_ref a_ref)
open Cert.NormRows (normed)

section Body

variable {x : Vec Ideal S512x2048 .f32} {g : Vec Ideal S1x2048 .f32} {h : Vec Ideal S512x2048 .bf16} {w w' : Vec Ideal S1x704x2048 .bf16}

/-- The rows the first point norms. -/
theorem normed_block (r : Fin 512) (j : Fin 2048) :
    (k0_pay1 x g (ix2 r j) : EReal) = NormRow.unit (fun k => x (ix2 r k)) j * g (ix2 0 j) := by
  pointwise [k0_pay1]
  rfl

/-- A point's product with the gate's matrix, … -/
theorem gate_block (r : Fin 512) (f : Fin 704) : (k0_pay5 h w (ix3 0 r f) : EReal) = ∑ k, h (ix2 r k) * w (ix3 0 f k) := by
  pointwise [k0_pay5, k0_pay3, k0_pay2]

/-- … with the other … -/
theorem up_block (r : Fin 512) (f : Fin 704) : (k0_pay6 h w (ix3 0 r f) : EReal) = ∑ k, h (ix2 r k) * w (ix3 0 f k) := by
  pointwise [k0_pay6, k0_pay4, k0_pay2]

/-- … and the gated product. -/
theorem gated_block (r : Fin 512) (f : Fin 704) :
    (k0_pay7 h w w' (ix3 0 r f) : EReal) = GateSpec.gated (∑ k, h (ix2 r k) * w (ix3 0 f k)) (∑ k, h (ix2 r k) * w' (ix3 0 f k)) := by
  pointwise [k0_pay7, k0_pay3, k0_pay4, k0_pay2]
  simp only [GateSpec.gated, ← GateSpec.logistic_word', zero_sub]

end Body

variable (m : (ℓ : Loc nD τ sig) → Buf (Elt Ideal) ℓ) (c : Dev nD)

/-- The arguments. -/
abbrev x : S4096x2048.Idx → EReal := m ((c.tc : Thread nD τ).loc main_arg0)
abbrev g : S2048.Idx → EReal := m ((c.tc : Thread nD τ).loc main_arg1)
abbrev wg : S8x704x2048.Idx → EReal := m ((c.tc : Thread nD τ).loc main_arg2)
abbrev wu : S8x704x2048.Idx → EReal := m ((c.tc : Thread nD τ).loc main_arg3)

/-- Their elements. -/
abbrev X (r : Fin 4096) (j : Fin 2048) : EReal := x m c (ix2 r j)
abbrev N (j : Fin 2048) : EReal := g m c (ix1 j)
abbrev A (s : Fin 8) (f : Fin 704) (k : Fin 2048) : EReal := wg m c (ix3 s f k)
abbrev B (s : Fin 8) (f : Fin 704) (k : Fin 2048) : EReal := wu m c (ix3 s f k)

/-- Row `r` of the row block of point `t`, and the point's group of columns. -/
def row (t : Fin cfg0.N) (r : Fin 512) : Fin 4096 := ⟨t.val / 8 * 512 + r.val, by have := t.isLt; have h : cfg0.N = 64 := N_0; omega⟩
def group (t : Fin cfg0.N) : Fin 8 := ⟨t.val % 8, by omega⟩

theorem index : ∀ t : Fin cfg0.N, win0_0.index t = ![t.val / 8, 0] ∧ win0_1.index t = ![0, 0] ∧ win0_2.index t = ![t.val % 8, 0, 0]
    ∧ win0_3.index t = ![t.val % 8, 0, 0] ∧ win0_4.index t = ![t.val / 8, 0] ∧ win0_5.index t = ![t.val % 8, t.val / 8, 0]
    ∧ win0_6.index t = ![t.val % 8, t.val / 8, 0] ∧ win0_7.index t = ![t.val % 8, t.val / 8, 0] :=
  (by decide +kernel : ∀ t : Fin grid0.N, _)

theorem x_read (t : Fin cfg0.N) (r : Fin 512) (j : Fin 2048) : (iblk m c 0 t (ix2 r j) : EReal) = X m c (row t r) j := by
  blk_ext [iblk, V, index t, row]

theorem g_read (t : Fin cfg0.N) (j : Fin 2048) : (iblk m c 1 t (ix2 0 j) : EReal) = N m c j := by
  blk_simp [iblk]; entry_read; pointwise; blk_ext [index t]

theorem a_read (t : Fin cfg0.N) (f : Fin 704) (k : Fin 2048) : (iblk m c 2 t (ix3 0 f k) : EReal) = A m c (group t) f k := by
  blk_ext [iblk, V, index t, group]

theorem b_read (t : Fin cfg0.N) (f : Fin 704) (k : Fin 2048) : (iblk m c 3 t (ix3 0 f k) : EReal) = B m c (group t) f k := by
  blk_ext [iblk, V, index t, group]

/-- The rows held after a point are its row block's, normed. -/
theorem held_rows (n : ℕ) (hn : n < cfg0.N) (r : Fin 512) (j : Fin 2048) :
    (held m c (n + 1) (ix2 r j) : EReal) = normed (X m c) (N m c) (row ⟨n, hn⟩ r) j := by
  induction n with
  | zero =>
    rw [held_first m c ⟨0, hn⟩ rfl, Gen.normed, normed_block, g_read]
    simp only [x_read, NormRows.normed]
  | succ n ih =>
    by_cases h : (n + 1) % 8 = 0
    · rw [held_first m c ⟨n + 1, hn⟩ h, Gen.normed, normed_block, g_read]
      simp only [x_read, NormRows.normed]
    · rw [held_later m c ⟨n + 1, hn⟩ h]
      refine (ih (by omega)).trans ?_
      have e : row ⟨n, by omega⟩ r = row ⟨n + 1, hn⟩ r := Fin.ext (by simp only [row]; omega)
      rw [e]

/-- The array of the normed rows. -/
theorem array_h : (dats m 0 c).arrAt 4 cfg0.N = fun i : S4096x2048.Idx => normed (X m c) (N m c) (i 0) (i 1) := by
  refine (dats m 0 c).arrAt_eq_of_covers 4 _ (by decide +kernel) fun t _ y => ?_
  idx_vars y
  blk_simp
  have e : (win0_4.blk t).view.emb (ix2 y0 y1) = ix2 (row t y0) y1 := by blk_ext [index t, row]
  rw [after4, e]
  exact held_rows m c t.val t.isLt y0 y1

/-- The array of the products with the gate's matrix, … -/
theorem array_g : (dats m 0 c).arrAt 5 cfg0.N = fun i : S8x4096x704.Idx => product (X m c) (N m c) (A m c) (i 0) (i 1) (i 2) := by
  refine (dats m 0 c).arrAt_eq_of_covers 5 _ (by decide +kernel) fun t _ y => ?_
  idx_vars y
  obtain rfl : y0 = 0 := Subsingleton.elim _ _
  blk_simp
  have e : (win0_5.blk t).view.emb (ix3 0 y1 y2) = ix3 (group t) (row t y1) y2 := by blk_ext [index t, row, group]
  rw [after5, e]
  refine (gate_block y1 y2).trans ?_
  simp only [held_rows m c t.val t.isLt, a_read]
  rfl

/-- … with the other … -/
theorem array_u : (dats m 0 c).arrAt 6 cfg0.N = fun i : S8x4096x704.Idx => product (X m c) (N m c) (B m c) (i 0) (i 1) (i 2) := by
  refine (dats m 0 c).arrAt_eq_of_covers 6 _ (by decide +kernel) fun t _ y => ?_
  idx_vars y
  obtain rfl : y0 = 0 := Subsingleton.elim _ _
  blk_simp
  have e : (win0_6.blk t).view.emb (ix3 0 y1 y2) = ix3 (group t) (row t y1) y2 := by blk_ext [index t, row, group]
  rw [after6, e]
  refine (up_block y1 y2).trans ?_
  simp only [held_rows m c t.val t.isLt, b_read]
  rfl

/-- … and of the gated products. -/
theorem array_a : (dats m 0 c).arrAt 7 cfg0.N = fun i : S8x4096x704.Idx =>
    GateSpec.gated (product (X m c) (N m c) (A m c) (i 0) (i 1) (i 2)) (product (X m c) (N m c) (B m c) (i 0) (i 1) (i 2)) := by
  refine (dats m 0 c).arrAt_eq_of_covers 7 _ (by decide +kernel) fun t _ y => ?_
  idx_vars y
  obtain rfl : y0 = 0 := Subsingleton.elim _ _
  blk_simp
  have e : (win0_7.blk t).view.emb (ix3 0 y1 y2) = ix3 (group t) (row t y1) y2 := by blk_ext [index t, row, group]
  rw [after7, e]
  refine (gated_block y1 y2).trans ?_
  simp only [held_rows m c t.val t.isLt, a_read, b_read]
  rfl

/-- The arrays after the call are the reference's results. -/
theorem tie : (dats m 0 c).arrAt 4 cfg0.N = val_main_v19 (F := Ideal) (x m c) (g m c)
    ∧ (dats m 0 c).arrAt 5 cfg0.N = val_main_v15 (F := Ideal) (x m c) (g m c) (wg m c)
    ∧ (dats m 0 c).arrAt 6 cfg0.N = val_main_v18 (F := Ideal) (x m c) (g m c) (wu m c)
    ∧ (dats m 0 c).arrAt 7 cfg0.N = val_main_v22 (F := Ideal) (x m c) (g m c) (wg m c) (wu m c) := by
  refine ⟨(array_h m c).trans (funext fun i => ?_), (array_g m c).trans (funext fun i => ?_), (array_u m c).trans (funext fun i => ?_),
    (array_a m c).trans (funext fun i => ?_)⟩ <;> idx_vars i
  · exact (h_ref (X := X m c) (G := N m c) (fun _ _ => rfl) (fun _ => rfl) i0 i1).symm
  · exact (g_ref (X := X m c) (G := N m c) (A := A m c) (fun _ _ => rfl) (fun _ => rfl) (fun _ _ _ => rfl) i0 i1 i2).symm
  · exact (u_ref (X := X m c) (G := N m c) (B := B m c) (fun _ _ => rfl) (fun _ => rfl) (fun _ _ _ => rfl) i0 i1 i2).symm
  · exact (a_ref (X := X m c) (G := N m c) (A := A m c) (B := B m c) (fun _ _ => rfl) (fun _ => rfl) (fun _ _ _ => rfl) (fun _ _ _ => rfl) i0 i1 i2).symm

/-- Four arrays at which the call's results end, its arguments unchanged, and which are the reference's results. -/
theorem results (ρ : Dev nD → PrngReg) : ∃ (v0 : Dev nD → S4096x2048.Idx → EReal) (v1 v2 v3 : Dev nD → S8x4096x704.Idx → EReal),
    (θ_run (Cert.FfnUpKernelIdeal.defs (F := Ideal)) (onTc (τ := τ) (Cert.FfnUpKernelIdeal.main (F := Ideal))) ⟨m, fun _ => 0, ρ⟩ fun r => ∀ c : Dev nD,
      r.2.mem ((c.tc : Thread nD τ).loc main_v1_0) = v0 c
      ∧ r.2.mem ((c.tc : Thread nD τ).loc main_v1_1) = v1 c
      ∧ r.2.mem ((c.tc : Thread nD τ).loc main_v1_2) = v2 c
      ∧ r.2.mem ((c.tc : Thread nD τ).loc main_v1_3) = v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ ∀ c, v0 c = val_main_v19 (F := Ideal) (x m c) (g m c) ∧ v1 c = val_main_v15 (F := Ideal) (x m c) (g m c) (wg m c)
      ∧ v2 c = val_main_v18 (F := Ideal) (x m c) (g m c) (wu m c) ∧ v3 c = val_main_v22 (F := Ideal) (x m c) (g m c) (wg m c) (wu m c) :=
  ⟨fun c => (dats m 0 c).arrAt 4 cfg0.N, fun c => (dats m 0 c).arrAt 5 cfg0.N, fun c => (dats m 0 c).arrAt 6 cfg0.N,
    fun c => (dats m 0 c).arrAt 7 cfg0.N,
    (θ_run defs _ _).mono (fun r h c => ⟨(h c).1 4, (h c).1 5, (h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ), tie m⟩

end Cert.FfnUp

end
-- ==== Proof.NormMmRun.lean ====
/-
  The body of the norm before the mixers with the product after it, run once: what a grid point leaves in the buffers, at the
  first slice of the matrix and at a later one.
-/
module

public import proofs.«01_k».proof.Proof.Gen.NormMmKernelIdeal.Launch
public import proofs.«01_k».proof.Proof.Gen.NormMmKernelIdeal.Skeleton
public import proofs.«01_k».proof.Proof.Gen.NormMmKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Stored

@[expose] public section

set_option maxRecDepth 16384

noncomputable section

namespace Cert.NormMmKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of a run of this program. -/
abbrev Res (F : FTy → Type) [FloatOps F] := MT nD τ sig Unit (Elt F) ℕ (UR sig nD τ) ℕ

/-- A row's first slice. -/
abbrev Starts (i : grid0.Coords) : Prop := k0_cond1 i = 1#1

/-- A buffer at some contents. -/
abbrev Any (F : FTy → Type) [FloatOps F] (c : Dev nD) {s : Shape} {e : EltTy} (arg : Memref sig .tc .vmem s e) : sProp (Res F) := iprop(∃ d, owns (c : Thread nD τ) arg fullShare d)

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S512x2048 .bf16) (harg4 : arg4.IsWhole)
  (arg5 : Memref sig .tc .vmem S1024x512 .f32) (harg5 : arg5.IsWhole)
  (arg6 : Memref sig .tc .vmem S1024x2048 .bf16) (harg6 : arg6.IsWhole)
  (x0 : Vec F S1024x2048 .f32) (x1 : Vec F S1x2048 .f32) (x2 : Vec F S512x2048 .bf16)

/-- The body, from the three blocks, the product's buffer and the normed rows' to the same three blocks, the product and the
    normed rows `h`. -/
abbrev Runs (o6 : sProp (Res F)) (h : Vec F S1024x2048 .bf16) : Prop :=
  ∀ (E : Set ℕ) (K : PUnit → sProp (Res F)),
    iprop(owns (c : Thread nD τ) arg2 fullShare x0 ∗ owns (c : Thread nD τ) arg3 fullShare x1 ∗ owns (c : Thread nD τ) arg4 fullShare x2 ∗ Any F c arg5 ∗ o6
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2) ∗ owns (c : Thread nD τ) arg6 fullShare h) -∗ K ⟨⟩))
      ⊢ wp frame (wpE (defs₀ (F := F)) Variants.none c none) E (cc0_proj_in i arg2 harg2 arg3 harg3 arg4 harg4 arg5 harg5 arg6 harg6) K

set_option maxHeartbeats 1000000 in
/-- A row's first slice: the rows are normed. -/
theorem runFirst (hc : Starts i) :
    Runs c i arg2 harg2 arg3 harg3 arg4 harg4 arg5 harg5 arg6 harg6 x0 x1 x2 (Any F c arg6) (k0_pay1 x0 x1) := by
  intro E K
  simp only [cc0_proj_in_eq_skeleton]; unfold cc0_proj_in_skel
  unfold Any owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3; obtain rfl := harg4.eq_unread hf4
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro; refine (stored _ _ _ (by decide) _ _).trans ?_; delta runFirst.sl.v3 runFirst.sl.H6_1; simp (disch := decide) only [View.readCov_cons_unit_lit', View.readAt_eq_ld, View.ld_unit_lit', Memref.IsWhole.read_unread]
  iexists _; isplitr; swap; · iexact H6
  ipureintro; refine (stored _ _ _ (by decide) _ _).trans ?_; simp (disch := decide) only [View.readCov_cons_unit_lit', View.readAt_eq_ld, View.ld_unit_lit', Memref.IsWhole.read_unread]

set_option maxHeartbeats 1000000 in
/-- A later slice: the normed rows are as they were. -/
theorem runLater (hc : ¬Starts i) (h : Vec F S1024x2048 .bf16) :
    Runs c i arg2 harg2 arg3 harg3 arg4 harg4 arg5 harg5 arg6 harg6 x0 x1 x2 (owns (c : Thread nD τ) arg6 fullShare h) h := by
  intro E K
  simp only [cc0_proj_in_eq_skeleton]; unfold cc0_proj_in_skel
  unfold Any owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro; refine (stored _ _ _ (by decide) _ _).trans ?_; simp (disch := decide) only [View.readCov_cons_unit_lit', View.readAt_eq_ld, View.ld_unit_lit', Memref.IsWhole.read_unread]
  iexists _; isplitr; swap; · iexact H6
  ipureintro; exact harg6.read_unread _

end Cert.NormMmKernelIdeal.Gen

end
-- ==== Proof.NormMmFrame.lean ====
/-
  The pipeline of the norm before the mixers with the product after it: what every grid point leaves, and the run of the whole.
-/
module

public import proofs.«01_k».proof.Proof.NormMmRun
public import proofs.«01_k».proof.Proof.Gen.NormMmKernelIdeal.Frame
public import Idealize.ShloMosaic.Lib.Claim

@[expose] public section

set_option maxRecDepth 16384

noncomputable section

namespace Cert.NormMmKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

theorem starts_iff : ∀ t : Fin cfg0.N, Starts (grid0.coords t) ↔ t.val % 11 = 0 :=
  (by decide +kernel : ∀ t : Fin grid0.N, Starts (grid0.coords t) ↔ t.val % 11 = 0)

/-- Before point `n` the normed rows' buffer holds nothing of its row's. -/
def unset (n : ℕ) : Bool := decide (n % 11 = 0)

theorem unset_step : ∀ t : Fin cfg0.N, unset (t.val + 1) = ((cfg0.win 4).flush t || (cfg0.idle 4 (cfg0.grid.coords t) && unset t.val)) := by decide +kernel

/-- The rows' block, normed, as point `t` would norm it. -/
abbrev normed (t : Fin cfg0.N) : Vec F S1024x2048 .bf16 := k0_pay1 (iblk m c 0 t) (iblk m c 1 t)

/-- The normed rows before point `n`: a row's first point norms them, and they stay. -/
def held : ℕ → Vec F S1024x2048 .bf16
  | 0 => View.canon []
  | n + 1 => if h : n < cfg0.N then if n % 11 = 0 then normed m c ⟨n, h⟩ else held n else held n

theorem held_first (t : Fin cfg0.N) (h : t.val % 11 = 0) : held m c (t.val + 1) = normed m c t := by
  rw [held, dif_pos t.isLt, if_pos h]

theorem held_later (t : Fin cfg0.N) (h : ¬t.val % 11 = 0) : held m c (t.val + 1) = held m c t.val := by
  rw [held, dif_pos t.isLt, if_neg h]

/-- The pipeline's proof data: inputs at their blocks, the normed rows as held, their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (held m c (t.val + 1)) (iblk m c 2 t)
    | ⟨4, _⟩ => held m c (t.val + 1)
  Φ _ := Pipeline.ΦA spec0 c
  q _ := fullShare
  owed _ := 0

theorem A_eq (w : Fin cfg0.W) : (dats m 0 c).A w = V m c (Pipeline.arrRef spec0 w) := by dsimp only [dats]

variable (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = k0_pay2 (held m c (t.val + 1)) (iblk m c 2 t) := by dsimp only [dats]
theorem after4 : (dats m 0 c).after 4 t = held m c (t.val + 1) := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d

/-- Where the normed rows' buffer is not stored, the slice is a later one. -/
theorem idle4 : cfg0.idle 4 (grid0.coords t) = true ↔ ¬Starts (grid0.coords t) := by
  show (!(k0_cond1 (grid0.coords t) == 1#1)) = true ↔ _
  simp

theorem stay4 : ∀ (t : Fin cfg0.N) (_ : t.val ≠ 0), cfg0.idle 4 (grid0.coords t) = true → cfg0.fresh 4 t.val = false →
    (dats m 0 c).after 4 t = (dats m 0 c).after 4 ⟨t.val - 1, lt_of_le_of_lt (Nat.sub_le _ _) t.isLt⟩ := fun t h0 h _ => by
  rw [after4, after4, held_later m c t fun e => (idle4 t).mp h ((starts_iff t).mpr e)]
  show _ = held m c (t.val - 1 + 1)
  rw [Nat.sub_add_cancel (Nat.pos_of_ne_zero h0)]

/-- What a later slice finds in the normed rows' buffer. -/
theorem before4 (h : ¬t.val % 11 = 0) (d) : (dats m 0 c).before 4 t d = held m c t.val := by
  have h0 : t.val ≠ 0 := fun e => h (by rw [e])
  rw [Dat.before_out_traj _ 4 rfl (fun _ _ => rfl) (stay4 m c) t.val t rfl d,
    if_neg (by rw [Pipeline.Cfg.fresh_tab cfg0 4 unset rfl unset_step t.val (Nat.le_of_lt t.isLt), unset, decide_eq_false h]; exact Bool.false_ne_true), after4]
  show held m c (t.val - 1 + 1) = _
  rw [Nat.sub_add_cancel (Nat.pos_of_ne_zero h0)]

/-- The normed rows in their buffer are left as they should be. -/
theorem keep4 : owns (c : Thread nD τ) (st0_4 t) fullShare (held m c (t.val + 1)) ⊢ (dats m 0 c).leavesExact 4 t := by
  by_cases hs : Starts (grid0.coords t)
  · unfold Dat.leavesExact; rw [Bool.eq_false_iff.mpr fun e => (idle4 t).mp e hs, after4]
  · have h11 : ¬t.val % 11 = 0 := fun e => hs ((starts_iff t).mpr e)
    by_cases h7 : (cfg0.win 4).flush t = true
    · unfold Dat.leavesExact; rw [(idle4 t).mpr hs, h7, after4]
    · rw [Dat.leavesExact_idle (dats m 0 c) 4 t ((idle4 t).mpr hs) (Bool.eq_false_iff.mpr h7)]
      have e := before4 m c t h11
      iintro H
      iexists (View.canon [])
      rw [e, ← held_later m c t h11]
      iexact H

theorem live0 : (dats m 0 c).leavesExact 0 t = owns (c : Thread nD τ) (st0_0 t) fullShare (iblk m c 0 t) := by
  unfold Dat.leavesExact; rw [show cfg0.idle 0 (cfg0.grid.coords t) = false from rfl, after0]
theorem live1 : (dats m 0 c).leavesExact 1 t = owns (c : Thread nD τ) (st0_1 t) fullShare (iblk m c 1 t) := by
  unfold Dat.leavesExact; rw [show cfg0.idle 1 (cfg0.grid.coords t) = false from rfl, after1]
theorem live2 : (dats m 0 c).leavesExact 2 t = owns (c : Thread nD τ) (st0_2 t) fullShare (iblk m c 2 t) := by
  unfold Dat.leavesExact; rw [show cfg0.idle 2 (cfg0.grid.coords t) = false from rfl, after2]
theorem live3 : (dats m 0 c).leavesExact 3 t = owns (c : Thread nD τ) (st0_3 t) fullShare (k0_pay2 (held m c (t.val + 1)) (iblk m c 2 t)) := by
  unfold Dat.leavesExact; rw [show cfg0.idle 3 (cfg0.grid.coords t) = false from rfl, after3]

/-- What a point's body starts from. -/
def Pre : sProp (Res F) :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it ends in. -/
def Post : sProp (Res F) :=
  iprop(Pipeline.ΦA spec0 c ∗ (dats m 0 c).owesAt () t.castSucc
    ∗ (dats m 0 c).leavesExact 0 t ∗ (dats m 0 c).leavesExact 1 t ∗ (dats m 0 c).leavesExact 2 t ∗ (dats m 0 c).leavesExact 3 t
    ∗ (dats m 0 c).leavesExact 4 t)

/-- A point's body does its work. -/
abbrev Sound : Prop := Pre m c t ⊢ wp frame (wpE (defs₀ (F := F)) Variants.none c none) Set.univ (bodyAt0 t) (fun _ => Post m c t)

variable {m c t} in
/-- A run of the body from what the point finds to the normed rows is all a point has to do. -/
theorem sound_of (o4 : sProp (Res F))
    (run : Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (iblk m c 1 t) (iblk m c 2 t) o4 (held m c (t.val + 1)))
    (h4 : ∀ d, owns (c : Thread nD τ) (st0_4 t) fullShare ((dats m 0 c).before 4 t d) ⊢ o4) : Sound m c t := by
  unfold Sound Pre Post bodyAt0
  simp only [before0, before1, before2, live0, live1, live2, live3]
  iintro ⟨HI, Ho, ⟨%d0, H0⟩, ⟨%d1, H1⟩, ⟨%d2, H2⟩, ⟨%d3, H3⟩, ⟨%d4, H4⟩⟩
  iapply (run Set.univ _)
  isplitl [H0]
  · iexact H0
  isplitl [H1]
  · iexact H1
  isplitl [H2]
  · iexact H2
  isplitl [H3]
  · iexists _; iexact H3
  isplitl [H4]
  · iapply (h4 _); iexact H4
  iintro ⟨H0, H1, H2, H3, H4⟩
  isplitl [HI]
  · iexact HI
  isplitl [Ho]
  · iexact Ho
  isplitl [H0]
  · iexact H0
  isplitl [H1]
  · iexact H1
  isplitl [H2]
  · iexact H2
  isplitl [H3]
  · iexact H3
  iapply (keep4 m c t); iexact H4

/-- Every point's body does its work. -/
theorem sound_body : Sound m c t := by
  by_cases hs : Starts (grid0.coords t)
  · refine sound_of (Any F c (st0_4 t)) ?_ fun d => ?_
    · rw [held_first m c t ((starts_iff t).mp hs)]
      exact runFirst c _ _ _ _ _ _ _ _ _ _ _ _ _ _ hs
    · iintro H; iexists _; iexact H
  · have h11 : ¬t.val % 11 = 0 := fun e => hs ((starts_iff t).mpr e)
    refine sound_of (owns (c : Thread nD τ) (st0_4 t) fullShare (held m c t.val)) ?_ fun d => ?_
    · rw [held_later m c t h11]
      exact runLater c _ _ _ _ _ _ _ _ _ _ _ _ _ _ hs _
    · rw [before4 m c t h11 d]

/-- The same, as the pipeline's rule asks for it. -/
theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! The run and the frame. -/

set_option backward.isDefEq.respectTransparency.types false in
/-- The program ends with the pipeline's arrays as its proof data says, the rest as found, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.refl _) (hout := fun c => Entails.refl _)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.NormMmKernelIdeal.Gen

end
-- ==== Proof.NormMmPlain.lean ====
/-
  The norm before the mixers with the product after it, as the version has it, is the program its claim of values is about: no operation is
  replaced. What is proved of the runs of the one is so of the other.
-/
module

public import proofs.«01_k».proof.Proof.NormMmFrame
public import proofs.«01_k».proof.Proof.Gen.NormMmKernel

@[expose] public section

set_option maxRecDepth 16384

noncomputable section

namespace Cert.NormMmKernel.Gen

open Cert.NormMmKernel Idealize.ShloMosaic Idealize.ShloMosaic.TcCoe Idealize.SL.Sem

variable {F : FTy → Type} [FloatOps F]

/-- The body is the other's, … -/
theorem body_same : @cc0_proj_in F _ _ = @Cert.NormMmKernelIdeal.cc0_proj_in F _ _ := rfl

set_option maxHeartbeats 4000000 in
/-- … so is the table of bodies, … -/
theorem defs0_same : @defs₀ F _ _ = @Cert.NormMmKernelIdeal.defs₀ F _ _ := by
  unfold defs₀ Cert.NormMmKernelIdeal.defs₀
  refine congrArg Defs.onTc ?_
  funext l x
  obtain ⟨l, hl⟩ := l
  match l, hl, x with
  | 0, _, (t, s) => rfl

set_option maxHeartbeats 4000000 in
/-- … and so is the host's program. -/
theorem main_same : @main F _ = @Cert.NormMmKernelIdeal.main F _ := rfl

/-- The arguments end as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Eq.mpr (congrArg₂ (fun d p => θ_run (Pipeline.defs pcfgs d) (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) defs0_same main_same) (@Cert.NormMmKernelIdeal.Gen.frame F _ m ρ)

end Cert.NormMmKernel.Gen

end
-- ==== Proof.NormMmReference.lean ====
/-
  The reference of the call of the norm before the mixers with the product after it: its two results, written by rows. Row `r`
  of the input divided by its root mean square and times the gain; the product of it with the matrix.
-/
module

public import proofs.«01_k».proof.Proof.NormRows
public import proofs.«01_k».proof.Proof.Gen.NormMmReferenceIdeal.Read

@[expose] public section

set_option maxRecDepth 16384

noncomputable section

namespace Cert.NormMm

open Cert.NormRows (normed)

/-- The product of the normed rows with a matrix. -/
def product (X : Fin 4096 → Fin 2048 → EReal) (G : Fin 2048 → EReal) (W : Fin 5632 → Fin 2048 → EReal) (r : Fin 4096) (n : Fin 5632) : EReal :=
  ∑ k, normed X G r k * W n k

end Cert.NormMm

namespace Cert.NormMmReferenceIdeal.Read

open Cert.NormMmReferenceIdeal Cert.NormMmReferenceIdeal.Gen Idealize.ShloMosaic Idealize.ShloMosaic.TcCoe Cert.NormMm
open Cert.NormRows (normed)

variable {x : (⟨S4096x2048, .f32⟩ : BufTy).Contents (Elt Ideal)} {g : (⟨S2048, .f32⟩ : BufTy).Contents (Elt Ideal)}
  {w : (⟨S5632x2048, .bf16⟩ : BufTy).Contents (Elt Ideal)}
  {X : Fin 4096 → Fin 2048 → EReal} {G : Fin 2048 → EReal} {W : Fin 5632 → Fin 2048 → EReal}

variable (hx : ∀ r j, (x (ix2 r j) : EReal) = X r j) (hg : ∀ j, (g (ix1 j) : EReal) = G j) (hw : ∀ n k, (w (ix2 n k) : EReal) = W n k)

include hx hg in
/-- The norm in the precision of the input. -/
theorem h_wide (r : Fin 4096) (j : Fin 2048) : (val_main_v12 (F := Ideal) x g (ix2 r j) : EReal) = normed X G r j := by
  have e : X r = fun k => x (ix2 r k) := funext fun k => (hx r k).symm
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [NormRows.normed, e, ← hg]
  rfl

include hx hg in
/-- The norm. -/
theorem h_ref (r : Fin 4096) (j : Fin 2048) : (val_main_v16 (F := Ideal) x g (ix2 r j) : EReal) = normed X G r j :=
  h_wide hx hg r j

include hx hg hw in
/-- The product. -/
theorem o_ref (r : Fin 4096) (n : Fin 5632) : (val_main_v15 (F := Ideal) x g w (ix2 r n) : EReal) = product X G W r n := by
  pointwise [val_main_v15, val_main_v14, val_main_v13]
  simp only [h_wide hx hg, hw, product]

end Cert.NormMmReferenceIdeal.Read

end
-- ==== Proof.NormMm.lean ====
/-
  The norm before the mixers with the product after it: the call's normed rows and its product are the reference's, on all
  arguments. The eleven points of a row block share the rows its first point normed.
-/
module

public import proofs.«01_k».proof.Proof.NormMmFrame
public import proofs.«01_k».proof.Proof.NormMmReference
public import Idealize.ShloMosaic.Lib.Pipeline.ValueKit

@[expose] public section

set_option maxRecDepth 16384

noncomputable section

namespace Cert.NormMm

open Cert.NormMmKernelIdeal Cert.NormMmKernelIdeal.Gen Idealize.ShloMosaic Idealize.ShloMosaic.TcCoe Idealize.SL.Sem
open Cert.NormMmReferenceIdeal.Read (val_main_v16 val_main_v15 h_ref o_ref)
open Cert.NormRows (normed)

section Body

variable {x : Vec Ideal S1024x2048 .f32} {g : Vec Ideal S1x2048 .f32} {h : Vec Ideal S1024x2048 .bf16} {w : Vec Ideal S512x2048 .bf16}

/-- The rows the first point norms. -/
theorem normed_block (r : Fin 1024) (j : Fin 2048) :
    (k0_pay1 x g (ix2 r j) : EReal) = NormRow.unit (fun k => x (ix2 r k)) j * g (ix2 0 j) := by
  pointwise [k0_pay1]
  rfl

/-- A point's product. -/
theorem product_block (r : Fin 1024) (n : Fin 512) : (k0_pay2 h w (ix2 r n) : EReal) = ∑ k, h (ix2 r k) * w (ix2 n k) := by
  pointwise [k0_pay2]

end Body

variable (m : (ℓ : Loc nD τ sig) → Buf (Elt Ideal) ℓ) (c : Dev nD)

/-- The arguments. -/
abbrev x : S4096x2048.Idx → EReal := m ((c.tc : Thread nD τ).loc main_arg0)
abbrev g : S2048.Idx → EReal := m ((c.tc : Thread nD τ).loc main_arg1)
abbrev w : S5632x2048.Idx → EReal := m ((c.tc : Thread nD τ).loc main_arg2)

/-- Their elements. -/
abbrev X (r : Fin 4096) (j : Fin 2048) : EReal := x m c (ix2 r j)
abbrev N (j : Fin 2048) : EReal := g m c (ix1 j)
abbrev W (n : Fin 5632) (k : Fin 2048) : EReal := w m c (ix2 n k)

/-- Row `r` of the row block of point `t`, and the matrix's row `n` of its slice. -/
def row (t : Fin cfg0.N) (r : Fin 1024) : Fin 4096 := ⟨t.val / 11 * 1024 + r.val, by have := t.isLt; have h : cfg0.N = 44 := N_0; omega⟩
def slice (t : Fin cfg0.N) (n : Fin 512) : Fin 5632 := ⟨t.val % 11 * 512 + n.val, by omega⟩

theorem index : ∀ t : Fin cfg0.N, win0_0.index t = ![t.val / 11, 0] ∧ win0_1.index t = ![0, 0] ∧ win0_2.index t = ![t.val % 11, 0]
    ∧ win0_3.index t = ![t.val / 11, t.val % 11] ∧ win0_4.index t = ![t.val / 11, 0] :=
  (by decide +kernel : ∀ t : Fin grid0.N, _)

theorem x_read (t : Fin cfg0.N) (r : Fin 1024) (j : Fin 2048) : (iblk m c 0 t (ix2 r j) : EReal) = X m c (row t r) j := by
  blk_ext [iblk, V, index t, row]

theorem g_read (t : Fin cfg0.N) (j : Fin 2048) : (iblk m c 1 t (ix2 0 j) : EReal) = N m c j := by
  blk_simp [iblk]; entry_read; pointwise; blk_ext [index t]

theorem w_read (t : Fin cfg0.N) (n : Fin 512) (k : Fin 2048) : (iblk m c 2 t (ix2 n k) : EReal) = W m c (slice t n) k := by
  blk_ext [iblk, V, index t, slice]

/-- The rows held after a point are its row block's, normed. -/
theorem held_rows (n : ℕ) (hn : n < cfg0.N) (r : Fin 1024) (j : Fin 2048) :
    (held m c (n + 1) (ix2 r j) : EReal) = normed (X m c) (N m c) (row ⟨n, hn⟩ r) j := by
  induction n with
  | zero =>
    rw [held_first m c ⟨0, hn⟩ rfl, Gen.normed, normed_block, g_read]
    simp only [x_read, NormRows.normed]
  | succ n ih =>
    by_cases h : (n + 1) % 11 = 0
    · rw [held_first m c ⟨n + 1, hn⟩ h, Gen.normed, normed_block, g_read]
      simp only [x_read, NormRows.normed]
    · rw [held_later m c ⟨n + 1, hn⟩ h]
      refine (ih (by omega)).trans ?_
      have e : row ⟨n, by omega⟩ r = row ⟨n + 1, hn⟩ r := Fin.ext (by simp only [row]; omega)
      rw [e]

/-- The array of the normed rows. -/
theorem array_h : (dats m 0 c).arrAt 4 cfg0.N = fun i : S4096x2048.Idx => normed (X m c) (N m c) (i 0) (i 1) := by
  refine (dats m 0 c).arrAt_eq_of_covers 4 _ (by decide +kernel) fun t _ y => ?_
  idx_vars y
  blk_simp
  have e : (win0_4.blk t).view.emb (ix2 y0 y1) = ix2 (row t y0) y1 := by blk_ext [index t, row]
  rw [after4, e]
  exact held_rows m c t.val t.isLt y0 y1

/-- The array of the products. -/
theorem array_o : (dats m 0 c).arrAt 3 cfg0.N = fun i : S4096x5632.Idx => product (X m c) (N m c) (W m c) (i 0) (i 1) := by
  refine (dats m 0 c).arrAt_eq_of_covers 3 _ (by decide +kernel) fun t _ y => ?_
  idx_vars y
  blk_simp
  have e : (win0_3.blk t).view.emb (ix2 y0 y1) = ix2 (row t y0) (slice t y1) := by blk_ext [index t, row, slice]
  rw [after3, e]
  refine (product_block y0 y1).trans ?_
  simp only [held_rows m c t.val t.isLt, w_read]
  rfl

/-- The arrays after the call are the reference's results. -/
theorem tie : (dats m 0 c).arrAt 3 cfg0.N = val_main_v15 (F := Ideal) (x m c) (g m c) (w m c)
    ∧ (dats m 0 c).arrAt 4 cfg0.N = val_main_v16 (F := Ideal) (x m c) (g m c) := by
  refine ⟨(array_o m c).trans (funext fun i => ?_), (array_h m c).trans (funext fun i => ?_)⟩ <;> idx_vars i
  · exact (o_ref (X := X m c) (G := N m c) (W := W m c) (fun _ _ => rfl) (fun _ => rfl) (fun _ _ => rfl) i0 i1).symm
  · exact (h_ref (X := X m c) (G := N m c) (fun _ _ => rfl) (fun _ => rfl) i0 i1).symm

/-- Two arrays at which the call's results end, its arguments unchanged, and which are the reference's results. -/
theorem results (ρ : Dev nD → PrngReg) : ∃ (v0 : Dev nD → S4096x5632.Idx → EReal) (v1 : Dev nD → S4096x2048.Idx → EReal),
    (θ_run (Cert.NormMmKernelIdeal.defs (F := Ideal)) (onTc (τ := τ) (Cert.NormMmKernelIdeal.main (F := Ideal))) ⟨m, fun _ => 0, ρ⟩ fun r => ∀ c : Dev nD,
      r.2.mem ((c.tc : Thread nD τ).loc main_v1_0) = v0 c
      ∧ r.2.mem ((c.tc : Thread nD τ).loc main_v1_1) = v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ ∀ c, v0 c = val_main_v15 (F := Ideal) (x m c) (g m c) (w m c) ∧ v1 c = val_main_v16 (F := Ideal) (x m c) (g m c) :=
  ⟨fun c => (dats m 0 c).arrAt 3 cfg0.N, fun c => (dats m 0 c).arrAt 4 cfg0.N,
    (θ_run defs _ _).mono (fun r h c => ⟨(h c).1 3, (h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩) (run_main m ρ), tie m⟩

end Cert.NormMm

end
-- ==== Proof.FfnFwdRun.lean ====
/-
  The body of the feed-forward layer's forward pass, run once: what a grid point leaves in the buffers, at a row's first slice of
  the matrices, at a middle one and at the last.
-/
module

public import proofs.«01_k».proof.Proof.Gen.FfnFwdKernelIdeal.Launch
public import proofs.«01_k».proof.Proof.Gen.FfnFwdKernelIdeal.Skeleton
public import proofs.«01_k».proof.Proof.Gen.FfnFwdKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Stored

@[expose] public section

set_option maxRecDepth 16384

noncomputable section

namespace Cert.FfnFwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of a run of this program. -/
abbrev Res (F : FTy → Type) [FloatOps F] := MT nD τ sig Unit (Elt F) ℕ (UR sig nD τ) ℕ

/-- A row's first slice, and its last. -/
abbrev Starts (i : grid0.Coords) : Prop := k0_cond1 i = 1#1
abbrev Ends (i : grid0.Coords) : Prop := k0_cond2 i = 1#1

/-- A buffer at some contents. -/
abbrev Any (F : FTy → Type) [FloatOps F] (c : Dev nD) {s : Shape} {e : EltTy} (arg : Memref sig .tc .vmem s e) : sProp (Res F) := iprop(∃ d, owns (c : Thread nD τ) arg fullShare d)

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x704x2048 .bf16) (harg4 : arg4.IsWhole)
  (arg5 : Memref sig .tc .vmem S1x704x2048 .bf16) (harg5 : arg5.IsWhole)
  (arg6 : Memref sig .tc .vmem S1x704x2048 .bf16) (harg6 : arg6.IsWhole)
  (arg7 : Memref sig .tc .vmem S512x2048 .f32) (harg7 : arg7.IsWhole)
  (arg8 : Memref sig .tc .vmem S512x2048 .bf16) (harg8 : arg8.IsWhole)
  (arg9 : Memref sig .tc .vmem S1x512x704 .f32) (harg9 : arg9.IsWhole)
  (arg10 : Memref sig .tc .vmem S1x512x704 .f32) (harg10 : arg10.IsWhole)
  (arg11 : Memref sig .tc .vmem S512x2048 .f32) (harg11 : arg11.IsWhole)
  (x0 : Vec F S512x2048 .f32) (x1 : Vec F S1x2048 .f32) (x2 x3 x4 : Vec F S1x704x2048 .bf16)

/-- The sum after a slice: the sum before it and the slice's part. -/
abbrev added (h : Vec F S512x2048 .bf16) (a : Vec F S512x2048 .f32) : Vec F S512x2048 .f32 := k0_pay1 a (k0_pay10 h x2 x3) x4

/-- The body, from the five blocks, the results' buffers and the sum's to the same five blocks, the normed rows `h`, their two
    products and the sum `a` with the slice's part added. -/
abbrev Runs (o7 o7' o8 o11 : sProp (Res F)) (h : Vec F S512x2048 .bf16) (a : Vec F S512x2048 .f32) : Prop :=
  ∀ (E : Set ℕ) (K : PUnit → sProp (Res F)),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ o7 ∗ o8 ∗ Any F c arg9 ∗ Any F c arg10 ∗ o11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ o7' ∗ owns (c : Thread nD τ) arg8 fullShare h ∗ owns (c : Thread nD τ) arg9 fullShare (k0_pay8 h x2) ∗ owns (c : Thread nD τ) arg10 fullShare (k0_pay9 h x3) ∗ owns (c : Thread nD τ) arg11 fullShare (added x2 x3 x4 h a)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K

set_option maxHeartbeats 2000000 in
/-- A row's first slice: the rows are normed and the sum starts at zero. -/
theorem runFirst (hs : Starts i) (he : ¬Ends i) (o : sProp (Res F)) :
    Runs c i arg2 harg2 arg3 harg3 arg4 harg4 arg5 harg5 arg6 harg6 arg7 harg7 arg8 harg8 arg9 harg9 arg10 harg10 arg11 harg11 x0 x1 x2 x3 x4 o o (Any F c arg8) (Any F c arg11) (k0_pay3 x0 x1) k0_pay4 := by
  intro E K
  simp only [cc0_ffn_fwd_eq_skeleton]; unfold cc0_ffn_fwd_skel
  simp only [k0_part1_eq_skeleton]
  unfold Any owns
  iintro ⟨⟨%f2, %hf2, H2⟩, ⟨%f3, %hf3, H3⟩, ⟨%f4, %hf4, H4⟩, ⟨%f5, %hf5, H5⟩, ⟨%f6, %hf6, H6⟩, H7, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hs | sl_exact he)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexact H7
  isplitl [H8]
  · iexists _; isplitr; swap; · iexact H8
    ipureintro; refine (stored _ _ _ (by decide) _ _).trans ?_; simp (disch := decide) only [View.readCov_cons_unit_lit', View.readAt_eq_ld, View.ld_unit_lit', Memref.IsWhole.read_unread]
  isplitl [H9]
  · iexists _; isplitr; swap; · iexact H9
    ipureintro; refine (stored _ _ _ (by decide) _ _).trans ?_; delta runFirst.sl.v3 runFirst.sl.H8_1; simp (disch := decide) only [View.readCov_cons_unit_lit', View.readAt_eq_ld, View.ld_unit_lit', Memref.IsWhole.read_unread]
  isplitl [H10]
  · iexists _; isplitr; swap; · iexact H10
    ipureintro; refine (stored _ _ _ (by decide) _ _).trans ?_; delta runFirst.sl.v3 runFirst.sl.H8_1; simp (disch := decide) only [View.readCov_cons_unit_lit', View.readAt_eq_ld, View.ld_unit_lit', Memref.IsWhole.read_unread]
  iexists _; isplitr; swap; · iexact H11
  ipureintro; refine (stored _ _ _ (by decide) _ _).trans ?_; delta runFirst.sl.v26 runFirst.sl.H11_1 runFirst.sl.r runFirst.sl.r_1; delta runFirst.sl.v3 runFirst.sl.H8_1; simp (disch := decide) only [View.readCov_cons_unit_lit', View.readAt_eq_ld, View.ld_unit_lit', Memref.IsWhole.read_unread]

set_option maxHeartbeats 2000000 in
/-- A middle slice: the normed rows are as they were. -/
theorem runMiddle (hs : ¬Starts i) (he : ¬Ends i) (o : sProp (Res F)) (h : Vec F S512x2048 .bf16) (a : Vec F S512x2048 .f32) :
    Runs c i arg2 harg2 arg3 harg3 arg4 harg4 arg5 harg5 arg6 harg6 arg7 harg7 arg8 harg8 arg9 harg9 arg10 harg10 arg11 harg11 x0 x1 x2 x3 x4 o o (owns (c : Thread nD τ) arg8 fullShare h) (owns (c : Thread nD τ) arg11 fullShare a) h a := by
  intro E K
  simp only [cc0_ffn_fwd_eq_skeleton]; unfold cc0_ffn_fwd_skel
  simp only [k0_part1_eq_skeleton]
  unfold Any owns
  iintro ⟨⟨%f2, %hf2, H2⟩, ⟨%f3, %hf3, H3⟩, ⟨%f4, %hf4, H4⟩, ⟨%f5, %hf5, H5⟩, ⟨%f6, %hf6, H6⟩, H7, ⟨%f8, %hf8, H8⟩, ⟨%d9, %f9, -, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact hs | sl_exact he)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexact H7
  isplitl [H8]
  · iexists _; isplitr; swap; · iexact H8
    ipureintro; exact harg8.read_unread _
  isplitl [H9]
  · iexists _; isplitr; swap; · iexact H9
    ipureintro; refine (stored _ _ _ (by decide) _ _).trans ?_; simp (disch := decide) only [View.readCov_cons_unit_lit', View.readAt_eq_ld, View.ld_unit_lit', Memref.IsWhole.read_unread]
  isplitl [H10]
  · iexists _; isplitr; swap; · iexact H10
    ipureintro; refine (stored _ _ _ (by decide) _ _).trans ?_; simp (disch := decide) only [View.readCov_cons_unit_lit', View.readAt_eq_ld, View.ld_unit_lit', Memref.IsWhole.read_unread]
  iexists _; isplitr; swap; · iexact H11
  ipureintro; refine (stored _ _ _ (by decide) _ _).trans ?_; delta runMiddle.sl.r runMiddle.sl.r_1 runMiddle.sl.r_2; simp (disch := decide) only [View.readCov_cons_unit_lit', View.readAt_eq_ld, View.ld_unit_lit', Memref.IsWhole.read_unread]

set_option maxHeartbeats 2000000 in
/-- The last slice: half the sum and the rows make the layer's result. -/
theorem runLast (hs : ¬Starts i) (he : Ends i) (h : Vec F S512x2048 .bf16) (a : Vec F S512x2048 .f32) :
    Runs c i arg2 harg2 arg3 harg3 arg4 harg4 arg5 harg5 arg6 harg6 arg7 harg7 arg8 harg8 arg9 harg9 arg10 harg10 arg11 harg11 x0 x1 x2 x3 x4 (Any F c arg7) (owns (c : Thread nD τ) arg7 fullShare (k0_pay2 x0 (added x2 x3 x4 h a))) (owns (c : Thread nD τ) arg8 fullShare h) (owns (c : Thread nD τ) arg11 fullShare a) h a := by
  intro E K
  simp only [cc0_ffn_fwd_eq_skeleton]; unfold cc0_ffn_fwd_skel
  simp only [k0_part1_eq_skeleton]
  unfold Any owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact hs | sl_exact he)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; refine (stored _ _ _ (by decide) _ _).trans ?_; delta runLast.sl.v39 runLast.sl.H11_1 runLast.sl.r runLast.sl.r_1 runLast.sl.r_2; simp (disch := decide) only [View.readCov_cons_unit_lit', View.readAt_eq_ld, View.ld_unit_lit', Memref.IsWhole.read_unread]
  isplitl [H8]
  · iexists _; isplitr; swap; · iexact H8
    ipureintro; exact harg8.read_unread _
  isplitl [H9]
  · iexists _; isplitr; swap; · iexact H9
    ipureintro; refine (stored _ _ _ (by decide) _ _).trans ?_; simp (disch := decide) only [View.readCov_cons_unit_lit', View.readAt_eq_ld, View.ld_unit_lit', Memref.IsWhole.read_unread]
  isplitl [H10]
  · iexists _; isplitr; swap; · iexact H10
    ipureintro; refine (stored _ _ _ (by decide) _ _).trans ?_; simp (disch := decide) only [View.readCov_cons_unit_lit', View.readAt_eq_ld, View.ld_unit_lit', Memref.IsWhole.read_unread]
  iexists _; isplitr; swap; · iexact H11
  ipureintro; refine (stored _ _ _ (by decide) _ _).trans ?_; delta runLast.sl.H11_1 runLast.sl.r runLast.sl.r_1 runLast.sl.r_2; simp (disch := decide) only [View.readCov_cons_unit_lit', View.readAt_eq_ld, View.ld_unit_lit', Memref.IsWhole.read_unread]

end Cert.FfnFwdKernelIdeal.Gen

end
-- ==== Proof.FfnFwdFrame.lean ====
/-
  The pipeline of the feed-forward layer's forward pass: what every grid point leaves and what it carries on in the sum's buffer, and the run of the whole.
-/
module

public import proofs.«01_k».proof.Proof.FfnFwdRun
public import proofs.«01_k».proof.Proof.Gen.FfnFwdKernelIdeal.Frame
public import Idealize.ShloMosaic.Lib.Claim

@[expose] public section

set_option maxRecDepth 16384

noncomputable section

namespace Cert.FfnFwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

theorem starts_iff : ∀ t : Fin cfg0.N, Starts (grid0.coords t) ↔ t.val % 8 = 0 :=
  (by decide +kernel : ∀ t : Fin grid0.N, Starts (grid0.coords t) ↔ t.val % 8 = 0)

theorem ends_iff : ∀ t : Fin cfg0.N, Ends (grid0.coords t) ↔ t.val % 8 = 7 :=
  (by decide +kernel : ∀ t : Fin grid0.N, Ends (grid0.coords t) ↔ t.val % 8 = 7)

/-- Before point `n` the normed rows' buffer holds nothing of its row's. -/
def unset (n : ℕ) : Bool := decide (n % 8 = 0)

theorem unset_step : ∀ t : Fin cfg0.N, unset (t.val + 1) = ((cfg0.win 6).flush t || (cfg0.idle 6 (cfg0.grid.coords t) && unset t.val)) := by decide +kernel

/-- The result is written back at the last slice. -/
theorem flush5 : ∀ t : Fin cfg0.N, (cfg0.win 5).flush t = decide (t.val % 8 = 7) := by decide +kernel

/-- The rows' block, normed, as point `t` would norm it. -/
abbrev normed (t : Fin cfg0.N) : Vec F S512x2048 .bf16 := k0_pay3 (iblk m c 0 t) (iblk m c 1 t)

/-- The normed rows before point `n`: a row's first point norms them, and they stay. -/
def held : ℕ → Vec F S512x2048 .bf16
  | 0 => View.canon []
  | n + 1 => if h : n < cfg0.N then if n % 8 = 0 then normed m c ⟨n, h⟩ else held n else held n

theorem held_first (t : Fin cfg0.N) (h : t.val % 8 = 0) : held m c (t.val + 1) = normed m c t := by
  rw [held, dif_pos t.isLt, if_pos h]

theorem held_later (t : Fin cfg0.N) (h : ¬t.val % 8 = 0) : held m c (t.val + 1) = held m c t.val := by
  rw [held, dif_pos t.isLt, if_neg h]

/-- The sum before point `n`: a row's first point starts it at zero, and every point adds its slice's part. -/
def summed : ℕ → Vec F S512x2048 .f32
  | 0 => View.canon []
  | n + 1 => if h : n < cfg0.N then added (iblk m c 2 ⟨n, h⟩) (iblk m c 3 ⟨n, h⟩) (iblk m c 4 ⟨n, h⟩) (held m c (n + 1)) (if n % 8 = 0 then k0_pay4 else summed n) else summed n

theorem summed_first (t : Fin cfg0.N) (h : t.val % 8 = 0) :
    summed m c (t.val + 1) = added (iblk m c 2 t) (iblk m c 3 t) (iblk m c 4 t) (held m c (t.val + 1)) k0_pay4 := by
  rw [summed, dif_pos t.isLt, if_pos h]

theorem summed_later (t : Fin cfg0.N) (h : ¬t.val % 8 = 0) :
    summed m c (t.val + 1) = added (iblk m c 2 t) (iblk m c 3 t) (iblk m c 4 t) (held m c (t.val + 1)) (summed m c t.val) := by
  rw [summed, dif_pos t.isLt, if_neg h]

/-! The invariant and the proof data. -/

/-- The sum's buffer at anything. -/
def loose : sProp (Res F) := iprop(Any F c (Memref.whole cc0_scratch0) ∗ (∃ r, prngReg c r))

theorem loose_eq : (Pipeline.ΦA spec0 c : sProp (Res F)) = loose c := by
  unfold Pipeline.ΦA loose; rw [scopedRest0_eq]
  simp only [Any, owns_whole]; try rfl

/-- Before point `n`: the sum. -/
def Inv : ℕ → sProp (Res F)
  | 0 => loose c
  | n + 1 => iprop(owns (c : Thread nD τ) (Memref.whole cc0_scratch0) fullShare (summed m c (n + 1)) ∗ (∃ r, prngReg c r))

theorem Inv_pos (n : ℕ) (h : n ≠ 0) : Inv m c n = iprop(owns (c : Thread nD τ) (Memref.whole cc0_scratch0) fullShare (summed m c n) ∗ (∃ r, prngReg c r)) := by
  cases n with
  | zero => exact absurd rfl h
  | succ n => rfl

theorem Inv_loose (n : ℕ) : Inv m c n ⊢ loose c := by
  cases n with
  | zero => exact Entails.refl _
  | succ n =>
    unfold Inv loose
    iintro ⟨H0, Hg⟩
    isplitl [H0]
    · iexists _; iexact H0
    iexact Hg

/-- The pipeline's proof data: inputs at their blocks, the normed rows as held, their products, and the result of the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (summed m c (t.val + 1))
    | ⟨6, _⟩ => held m c (t.val + 1)
    | ⟨7, _⟩ => k0_pay8 (held m c (t.val + 1)) (iblk m c 2 t)
    | ⟨8, _⟩ => k0_pay9 (held m c (t.val + 1)) (iblk m c 3 t)
  Φ t := Inv m c t.val
  q _ := fullShare
  owed _ := 0

theorem A_eq (w : Fin cfg0.W) : (dats m 0 c).A w = V m c (Pipeline.arrRef spec0 w) := by dsimp only [dats]

variable (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = k0_pay2 (iblk m c 0 t) (summed m c (t.val + 1)) := by dsimp only [dats]
theorem after6 : (dats m 0 c).after 6 t = held m c (t.val + 1) := by dsimp only [dats]
theorem after7 : (dats m 0 c).after 7 t = k0_pay8 (held m c (t.val + 1)) (iblk m c 2 t) := by dsimp only [dats]
theorem after8 : (dats m 0 c).after 8 t = k0_pay9 (held m c (t.val + 1)) (iblk m c 3 t) := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d

/-- Where the normed rows' buffer is not stored, the slice is a later one. -/
theorem idle6 : cfg0.idle 6 (grid0.coords t) = true ↔ ¬Starts (grid0.coords t) := by
  show (!(k0_cond1 (grid0.coords t) == 1#1)) = true ↔ _
  simp

theorem stay6 : ∀ (t : Fin cfg0.N) (_ : t.val ≠ 0), cfg0.idle 6 (grid0.coords t) = true → cfg0.fresh 6 t.val = false →
    (dats m 0 c).after 6 t = (dats m 0 c).after 6 ⟨t.val - 1, lt_of_le_of_lt (Nat.sub_le _ _) t.isLt⟩ := fun t h0 h _ => by
  rw [after6, after6, held_later m c t fun e => (idle6 t).mp h ((starts_iff t).mpr e)]
  show _ = held m c (t.val - 1 + 1)
  rw [Nat.sub_add_cancel (Nat.pos_of_ne_zero h0)]

/-- What a later slice finds in the normed rows' buffer. -/
theorem before6 (h : ¬t.val % 8 = 0) (d) : (dats m 0 c).before 6 t d = held m c t.val := by
  have h0 : t.val ≠ 0 := fun e => h (by rw [e])
  rw [Dat.before_out_traj _ 6 rfl (fun _ _ => rfl) (stay6 m c) t.val t rfl d,
    if_neg (by rw [Pipeline.Cfg.fresh_tab cfg0 6 unset rfl unset_step t.val (Nat.le_of_lt t.isLt), unset, decide_eq_false h]; exact Bool.false_ne_true), after6]
  show held m c (t.val - 1 + 1) = _
  rw [Nat.sub_add_cancel (Nat.pos_of_ne_zero h0)]

/-- The normed rows in their buffer are left as they should be. -/
theorem keep6 : owns (c : Thread nD τ) (st0_6 t) fullShare (held m c (t.val + 1)) ⊢ (dats m 0 c).leavesExact 6 t := by
  by_cases hs : Starts (grid0.coords t)
  · unfold Dat.leavesExact; rw [Bool.eq_false_iff.mpr fun e => (idle6 t).mp e hs, after6]
  · have h8 : ¬t.val % 8 = 0 := fun e => hs ((starts_iff t).mpr e)
    by_cases h7 : (cfg0.win 6).flush t = true
    · unfold Dat.leavesExact; rw [(idle6 t).mpr hs, h7, after6]
    · rw [Dat.leavesExact_idle (dats m 0 c) 6 t ((idle6 t).mpr hs) (Bool.eq_false_iff.mpr h7)]
      have e := before6 m c t h8
      iintro H
      iexists (View.canon [])
      rw [e, ← held_later m c t h8]
      iexact H

/-- Where the result's buffer is not stored, the slice is not the last. -/
theorem idle5 : cfg0.idle 5 (grid0.coords t) = true ↔ ¬Ends (grid0.coords t) := by
  show (!(k0_cond2 (grid0.coords t) == 1#1)) = true ↔ _
  simp

/-- Before the last slice the result's buffer is left as it was found, … -/
theorem keep5 (h : ¬Ends (grid0.coords t)) (d) : owns (c : Thread nD τ) (st0_5 t) fullShare ((dats m 0 c).before 5 t d) ⊢ (dats m 0 c).leavesExact 5 t := by
  rw [Dat.leavesExact_idle (dats m 0 c) 5 t ((idle5 t).mpr h) (by rw [flush5]; exact decide_eq_false fun e => h ((ends_iff t).mpr e))]
  iintro H; iexists _; iexact H

/-- … and at the last with the result in it. -/
theorem live5 (h : Ends (grid0.coords t)) : owns (c : Thread nD τ) (st0_5 t) fullShare (k0_pay2 (iblk m c 0 t) (summed m c (t.val + 1))) ⊢ (dats m 0 c).leavesExact 5 t := by
  unfold Dat.leavesExact; rw [Bool.eq_false_iff.mpr fun e => (idle5 t).mp e h, after5]

theorem live0 : (dats m 0 c).leavesExact 0 t = owns (c : Thread nD τ) (st0_0 t) fullShare (iblk m c 0 t) := by
  unfold Dat.leavesExact; rw [show cfg0.idle 0 (cfg0.grid.coords t) = false from rfl, after0]
theorem live1 : (dats m 0 c).leavesExact 1 t = owns (c : Thread nD τ) (st0_1 t) fullShare (iblk m c 1 t) := by
  unfold Dat.leavesExact; rw [show cfg0.idle 1 (cfg0.grid.coords t) = false from rfl, after1]
theorem live2 : (dats m 0 c).leavesExact 2 t = owns (c : Thread nD τ) (st0_2 t) fullShare (iblk m c 2 t) := by
  unfold Dat.leavesExact; rw [show cfg0.idle 2 (cfg0.grid.coords t) = false from rfl, after2]
theorem live3 : (dats m 0 c).leavesExact 3 t = owns (c : Thread nD τ) (st0_3 t) fullShare (iblk m c 3 t) := by
  unfold Dat.leavesExact; rw [show cfg0.idle 3 (cfg0.grid.coords t) = false from rfl, after3]
theorem live4 : (dats m 0 c).leavesExact 4 t = owns (c : Thread nD τ) (st0_4 t) fullShare (iblk m c 4 t) := by
  unfold Dat.leavesExact; rw [show cfg0.idle 4 (cfg0.grid.coords t) = false from rfl, after4]
theorem live7 : (dats m 0 c).leavesExact 7 t = owns (c : Thread nD τ) (st0_7 t) fullShare (k0_pay8 (held m c (t.val + 1)) (iblk m c 2 t)) := by
  unfold Dat.leavesExact; rw [show cfg0.idle 7 (cfg0.grid.coords t) = false from rfl, after7]
theorem live8 : (dats m 0 c).leavesExact 8 t = owns (c : Thread nD τ) (st0_8 t) fullShare (k0_pay9 (held m c (t.val + 1)) (iblk m c 3 t)) := by
  unfold Dat.leavesExact; rw [show cfg0.idle 8 (cfg0.grid.coords t) = false from rfl, after8]

/-- What a point's body starts from. -/
def Pre : sProp (Res F) :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it ends in. -/
def Post : sProp (Res F) :=
  iprop(Inv m c (t.val + 1) ∗ (dats m 0 c).owesAt () t.castSucc
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- A point's body does its work. -/
abbrev Sound : Prop := Pre m c t ⊢ wp frame (wpE (defs₀ (F := F)) Variants.none c none) Set.univ (bodyAt0 t) (fun _ => Post m c t)

variable {m c t} in
/-- A run of the body from what the point finds to the normed rows and the sum is all a point has to do. -/
theorem sound_of (o7 o7' : Vec F S512x2048 .f32 → sProp (Res F)) (o8 o11 : sProp (Res F)) (a : Vec F S512x2048 .f32)
    (run : ∀ d, Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _)
      (iblk m c 0 t) (iblk m c 1 t) (iblk m c 2 t) (iblk m c 3 t) (iblk m c 4 t) (o7 d) (o7' d) o8 o11 (held m c (t.val + 1)) a)
    (hin : Inv m c t.val ⊢ iprop(o11 ∗ (∃ r, prngReg c r)))
    (ha : added (iblk m c 2 t) (iblk m c 3 t) (iblk m c 4 t) (held m c (t.val + 1)) a = summed m c (t.val + 1))
    (h7 : ∀ d, owns (c : Thread nD τ) (st0_5 t) fullShare d ⊢ o7 d)
    (k7 : ∀ d, o7' ((dats m 0 c).before 5 t d) ⊢ (dats m 0 c).leavesExact 5 t)
    (h8 : ∀ d, owns (c : Thread nD τ) (st0_6 t) fullShare ((dats m 0 c).before 6 t d) ⊢ o8) : Sound m c t := by
  unfold Sound Pre Post bodyAt0
  simp only [before0, before1, before2, before3, before4, live0, live1, live2, live3, live4, live7, live8]
  rw [Inv, ← ha]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HI := hin $$ HI
  icases HI with ⟨HS, Hg⟩
  iapply (run ((dats m 0 c).before 5 t d5) Set.univ _)
  isplitl [H0]
  · iexact H0
  isplitl [H1]
  · iexact H1
  isplitl [H2]
  · iexact H2
  isplitl [H3]
  · iexact H3
  isplitl [H4]
  · iexact H4
  isplitl [H5]
  · iapply (h7 _); iexact H5
  isplitl [H6]
  · iapply (h8 _); iexact H6
  isplitl [H7]
  · iexists _; iexact H7
  isplitl [H8]
  · iexists _; iexact H8
  isplitl [HS]
  · iexact HS
  iintro ⟨H0, H1, H2, H3, H4, H5, H6, H7, H8, HS⟩
  isplitl [HS Hg]
  · isplitl [HS]
    · iexact HS
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iapply (k7 d5); iexact H5
  isplitl [H6]
  · iapply (keep6 m c t); iexact H6
  isplitl [H7]
  · iexact H7
  iexact H8

/-- What a buffer holds is something. -/
theorem some_at {s : Shape} {e : EltTy} (c : Dev nD) (arg : Memref sig .tc .vmem s e) (d) : owns (c : Thread nD τ) arg fullShare d ⊢ Any F c arg := by
  iintro H; iexists _; iexact H

/-- Every point's body does its work. -/
theorem sound_body : Sound m c t := by
  by_cases hs : Starts (grid0.coords t)
  · have h8 := (starts_iff t).mp hs
    have he : ¬Ends (grid0.coords t) := fun e => by have := (ends_iff t).mp e; omega
    refine sound_of (fun d => owns (c : Thread nD τ) (st0_5 t) fullShare d) (fun d => owns (c : Thread nD τ) (st0_5 t) fullShare d) (Any F c (st0_6 t)) (Any F c (Memref.whole cc0_scratch0)) k0_pay4
      (fun d => ?_) (Inv_loose m c t.val) (summed_first m c t h8).symm (fun _ => .rfl) (keep5 m c t he) fun _ => some_at c _ _
    rw [held_first m c t h8]
    exact runFirst c _ _ _ _ _ _ _ _ _ _ _ _ _ _ _ _ _ _ _ _ _ _ _ _ _ _ hs he _
  have h8 : ¬t.val % 8 = 0 := fun e => hs ((starts_iff t).mpr e)
  have hI := (Inv_pos m c t.val fun e => h8 (by rw [e])).le
  by_cases he : Ends (grid0.coords t)
  · refine sound_of (fun _ => Any F c (st0_5 t)) (fun _ => owns (c : Thread nD τ) (st0_5 t) fullShare (k0_pay2 (iblk m c 0 t) (summed m c (t.val + 1)))) (owns (c : Thread nD τ) (st0_6 t) fullShare (held m c t.val)) (owns (c : Thread nD τ) (Memref.whole cc0_scratch0) fullShare (summed m c t.val)) (summed m c t.val)
      (fun d => ?_) hI (summed_later m c t h8).symm (some_at c _) (fun _ => live5 m c t he) fun d => by rw [before6 m c t h8 d]
    rw [summed_later m c t h8, held_later m c t h8]
    exact runLast c _ _ _ _ _ _ _ _ _ _ _ _ _ _ _ _ _ _ _ _ _ _ _ _ _ _ hs he _ _
  · refine sound_of (fun d => owns (c : Thread nD τ) (st0_5 t) fullShare d) (fun d => owns (c : Thread nD τ) (st0_5 t) fullShare d) (owns (c : Thread nD τ) (st0_6 t) fullShare (held m c t.val)) (owns (c : Thread nD τ) (Memref.whole cc0_scratch0) fullShare (summed m c t.val)) (summed m c t.val)
      (fun d => ?_) hI (summed_later m c t h8).symm (fun _ => .rfl) (keep5 m c t he) fun d => by rw [before6 m c t h8 d]
    rw [held_later m c t h8]
    exact runMiddle c _ _ _ _ _ _ _ _ _ _ _ _ _ _ _ _ _ _ _ _ _ _ _ _ _ _ hs he _ _ _

/-- The same, as the pipeline's rule asks for it. -/
theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! The run and the frame. -/

set_option backward.isDefEq.respectTransparency.types false in
/-- The program ends with the pipeline's arrays as its proof data says, the rest as found, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (loose_eq c).le) (hout := fun c => (Inv_loose m c cfg0.N).trans (loose_eq c).ge)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.FfnFwdKernelIdeal.Gen

end
-- ==== Proof.FfnFwdPlain.lean ====
/-
  The feed-forward layer's forward pass as the version has it is the program its claim of values is about: no operation is
  replaced. What is proved of the runs of the one is so of the other.
-/
module

public import proofs.«01_k».proof.Proof.FfnFwdFrame
public import proofs.«01_k».proof.Proof.Gen.FfnFwdKernel

@[expose] public section

set_option maxRecDepth 16384

noncomputable section

namespace Cert.FfnFwdKernel.Gen

open Cert.FfnFwdKernel Idealize.ShloMosaic Idealize.ShloMosaic.TcCoe Idealize.SL.Sem

variable {F : FTy → Type} [FloatOps F]

/-- The body is the other's, … -/
theorem body_same : @cc0_ffn_fwd F _ _ = @Cert.FfnFwdKernelIdeal.cc0_ffn_fwd F _ _ := rfl

set_option maxHeartbeats 4000000 in
/-- … so is the table of bodies, … -/
theorem defs0_same : @defs₀ F _ _ = @Cert.FfnFwdKernelIdeal.defs₀ F _ _ := by
  unfold defs₀ Cert.FfnFwdKernelIdeal.defs₀
  refine congrArg Defs.onTc ?_
  funext l x
  obtain ⟨l, hl⟩ := l
  match l, hl, x with
  | 0, _, (t, s) => rfl

set_option maxHeartbeats 4000000 in
/-- … and so is the host's program. -/
theorem main_same : @main F _ = @Cert.FfnFwdKernelIdeal.main F _ := rfl

/-- The arguments end as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Eq.mpr (congrArg₂ (fun d p => θ_run (Pipeline.defs pcfgs d) (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) defs0_same main_same) (@Cert.FfnFwdKernelIdeal.Gen.frame F _ m ρ)

end Cert.FfnFwdKernel.Gen

end
-- ==== Proof.FfnFwdReference.lean ====
/-
  The reference of the feed-forward layer's forward call: its four results, written by rows. The norm, the two products and the
  gated product are those of the call that stops there; the gated product times the third matrix, summed over the eight groups
  of columns, halved and added to the layer's input is the layer's result.
-/
module

public import proofs.«01_k».proof.Proof.FfnUpReference
public import proofs.«01_k».proof.Proof.Gen.FfnFwdReferenceIdeal.Read

@[expose] public section

set_option maxRecDepth 16384

noncomputable section

namespace Cert.FfnFwd

open Cert.FfnUp (product)

variable (X : Fin 4096 → Fin 2048 → EReal) (G : Fin 2048 → EReal) (A B D : Fin 8 → Fin 704 → Fin 2048 → EReal)

/-- The part of one group of columns in the product with the third matrix. -/
def part (r : Fin 4096) (d : Fin 2048) (s : Fin 8) : EReal := ∑ f, GateSpec.gated (product X G A s r f) (product X G B s r f) * D s f d

/-- The layer's result. -/
def result (r : Fin 4096) (d : Fin 2048) : EReal := X r d + Idealize.ShloMosaic.Ideal.ofBits .f32 0x3F000000#32 * ∑ s, part X G A B D r d s

end Cert.FfnFwd

namespace Cert.FfnFwdReferenceIdeal.Read

open Cert.FfnFwdReferenceIdeal Cert.FfnFwdReferenceIdeal.Gen Idealize.ShloMosaic Idealize.ShloMosaic.TcCoe Cert.FfnFwd
open Cert.FfnUp (product)
open Cert.NormRows (normed)

variable {x : (⟨S4096x2048, .f32⟩ : BufTy).Contents (Elt Ideal)} {g : (⟨S2048, .f32⟩ : BufTy).Contents (Elt Ideal)}
  {wg wu wd : (⟨S8x704x2048, .bf16⟩ : BufTy).Contents (Elt Ideal)}
  {X : Fin 4096 → Fin 2048 → EReal} {G : Fin 2048 → EReal} {A B D : Fin 8 → Fin 704 → Fin 2048 → EReal}

variable (hx : ∀ r j, (x (ix2 r j) : EReal) = X r j) (hg : ∀ j, (g (ix1 j) : EReal) = G j)
  (ha : ∀ s f k, (wg (ix3 s f k) : EReal) = A s f k) (hb : ∀ s f k, (wu (ix3 s f k) : EReal) = B s f k)
  (hd : ∀ s f k, (wd (ix3 s f k) : EReal) = D s f k)

include hx hg in
/-- The norm. -/
theorem h_ref (r : Fin 4096) (j : Fin 2048) : (val_main_v26 (F := Ideal) x g (ix2 r j) : EReal) = normed X G r j :=
  FfnUpReferenceIdeal.Read.h_ref hx hg r j

include hx hg ha in
/-- The gate's product. -/
theorem g_ref (s : Fin 8) (r : Fin 4096) (f : Fin 704) : (val_main_v15 (F := Ideal) x g wg (ix3 s r f) : EReal) = product X G A s r f :=
  FfnUpReferenceIdeal.Read.g_ref hx hg ha s r f

include hx hg hb in
/-- The other product. -/
theorem u_ref (s : Fin 8) (r : Fin 4096) (f : Fin 704) : (val_main_v18 (F := Ideal) x g wu (ix3 s r f) : EReal) = product X G B s r f :=
  FfnUpReferenceIdeal.Read.u_ref hx hg hb s r f

include hx hg ha hb in
/-- The gated product. -/
theorem a_ref (s : Fin 8) (r : Fin 4096) (f : Fin 704) :
    (val_main_v20 (F := Ideal) x g wg wu (ix3 s r f) : EReal) = GateSpec.gated (product X G A s r f) (product X G B s r f) :=
  FfnUpReferenceIdeal.Read.a_ref hx hg ha hb s r f

include hx hg ha hb hd in
/-- The layer's result. -/
theorem x_ref (r : Fin 4096) (d : Fin 2048) : (val_main_v25 (F := Ideal) x g wg wu wd (ix2 r d) : EReal) = result X G A B D r d := by
  pointwise [val_main_v25, val_main_v24, val_main_v23, val_main_v22, val_main_v21, val_main_cst_2]
  simp only [a_ref hx hg ha hb, hx, hd, result, part]
  rw [Finset.sum_comm]

end Cert.FfnFwdReferenceIdeal.Read

end
-- ==== Proof.FfnFwd.lean ====
/-
  The feed-forward layer's forward call: the layer's result, the normed rows and their products with the matrices of gate and up
  are the reference's, on all arguments. The eight points of a row block share the rows its first point normed, and the sum in
  the buffer between them is the sum over the groups of columns met so far.
-/
module

public import proofs.«01_k».proof.Proof.FfnFwdFrame
public import proofs.«01_k».proof.Proof.FfnFwdReference
public import Idealize.ShloMosaic.Lib.Pipeline.ValueKit

@[expose] public section

set_option maxRecDepth 16384

noncomputable section

namespace Cert.FfnFwd

open Cert.FfnFwdKernelIdeal Cert.FfnFwdKernelIdeal.Gen Idealize.ShloMosaic Idealize.ShloMosaic.TcCoe Idealize.SL.Sem
open Cert.FfnFwdReferenceIdeal.Read (val_main_v25 val_main_v26 val_main_v15 val_main_v18 x_ref h_ref g_ref u_ref)
open Cert.NormRows (normed)
open Cert.FfnUp (product)

section Body

variable {x a : Vec Ideal S512x2048 .f32} {g : Vec Ideal S1x2048 .f32} {h : Vec Ideal S512x2048 .bf16} {w w' w'' : Vec Ideal S1x704x2048 .bf16}

/-- The rows the first point norms. -/
theorem normed_block (r : Fin 512) (j : Fin 2048) :
    (k0_pay3 x g (ix2 r j) : EReal) = NormRow.unit (fun k => x (ix2 r k)) j * g (ix2 0 j) := by
  pointwise [k0_pay3]
  rfl

/-- Where the sum starts. -/
theorem zero_block (r : Fin 512) (d : Fin 2048) : (k0_pay4 (F := Ideal) (ix2 r d) : EReal) = 0 := by
  pointwise [k0_pay4]

/-- A point's product with the gate's matrix, … -/
theorem gate_block (r : Fin 512) (f : Fin 704) : (k0_pay8 h w (ix3 0 r f) : EReal) = ∑ k, h (ix2 r k) * w (ix3 0 f k) := by
  pointwise [k0_pay8, k0_pay6, k0_pay5]

/-- … with the other, … -/
theorem up_block (r : Fin 512) (f : Fin 704) : (k0_pay9 h w (ix3 0 r f) : EReal) = ∑ k, h (ix2 r k) * w (ix3 0 f k) := by
  pointwise [k0_pay9, k0_pay7, k0_pay5]

/-- … the gated product … -/
theorem gated_block (r : Fin 512) (f : Fin 704) :
    (k0_pay10 h w w' (ix2 r f) : EReal) = GateSpec.gated (∑ k, h (ix2 r k) * w (ix3 0 f k)) (∑ k, h (ix2 r k) * w' (ix3 0 f k)) := by
  pointwise [k0_pay10, k0_pay7, k0_pay6, k0_pay5]
  simp only [GateSpec.gated, ← GateSpec.logistic_word', zero_sub]

/-- … and the sum with its product with the third matrix added. -/
theorem added_block (r : Fin 512) (d : Fin 2048) :
    (added w w' w'' h a (ix2 r d) : EReal)
      = a (ix2 r d) + ∑ f, GateSpec.gated (∑ k, h (ix2 r k) * w (ix3 0 f k)) (∑ k, h (ix2 r k) * w' (ix3 0 f k)) * w'' (ix3 0 f d) := by
  pointwise [k0_pay1]
  simp only [gated_block]

/-- What the last point makes of the sum. -/
theorem result_block (r : Fin 512) (d : Fin 2048) :
    (k0_pay2 x a (ix2 r d) : EReal) = x (ix2 r d) + Ideal.ofBits .f32 0x3F000000#32 * a (ix2 r d) := by
  pointwise [k0_pay2]

end Body

variable (m : (ℓ : Loc nD τ sig) → Buf (Elt Ideal) ℓ) (c : Dev nD)

/-- The arguments. -/
abbrev x : S4096x2048.Idx → EReal := m ((c.tc : Thread nD τ).loc main_arg0)
abbrev g : S2048.Idx → EReal := m ((c.tc : Thread nD τ).loc main_arg1)
abbrev wg : S8x704x2048.Idx → EReal := m ((c.tc : Thread nD τ).loc main_arg2)
abbrev wu : S8x704x2048.Idx → EReal := m ((c.tc : Thread nD τ).loc main_arg3)
abbrev wd : S8x704x2048.Idx → EReal := m ((c.tc : Thread nD τ).loc main_arg4)

/-- Their elements. -/
abbrev X (r : Fin 4096) (j : Fin 2048) : EReal := x m c (ix2 r j)
abbrev N (j : Fin 2048) : EReal := g m c (ix1 j)
abbrev A (s : Fin 8) (f : Fin 704) (k : Fin 2048) : EReal := wg m c (ix3 s f k)
abbrev B (s : Fin 8) (f : Fin 704) (k : Fin 2048) : EReal := wu m c (ix3 s f k)
abbrev D (s : Fin 8) (f : Fin 704) (k : Fin 2048) : EReal := wd m c (ix3 s f k)

/-- Row `r` of the row block of point `t`, and the point's group of columns. -/
def row (t : Fin cfg0.N) (r : Fin 512) : Fin 4096 := ⟨t.val / 8 * 512 + r.val, by have := t.isLt; have h : cfg0.N = 64 := N_0; omega⟩
def group (t : Fin cfg0.N) : Fin 8 := ⟨t.val % 8, by omega⟩

/-- The next point of a row block is in the same row block. -/
theorem row_next (n : ℕ) (hn : n + 1 < cfg0.N) (h : ¬(n + 1) % 8 = 0) (r : Fin 512) : row ⟨n, by omega⟩ r = row ⟨n + 1, hn⟩ r :=
  Fin.ext (by simp only [row]; omega)

theorem index : ∀ t : Fin cfg0.N, win0_0.index t = ![t.val / 8, 0] ∧ win0_1.index t = ![0, 0] ∧ win0_2.index t = ![t.val % 8, 0, 0]
    ∧ win0_3.index t = ![t.val % 8, 0, 0] ∧ win0_4.index t = ![t.val % 8, 0, 0] ∧ win0_5.index t = ![t.val / 8, 0] ∧ win0_6.index t = ![t.val / 8, 0]
    ∧ win0_7.index t = ![t.val % 8, t.val / 8, 0] ∧ win0_8.index t = ![t.val % 8, t.val / 8, 0] :=
  (by decide +kernel : ∀ t : Fin grid0.N, _)

theorem x_read (t : Fin cfg0.N) (r : Fin 512) (j : Fin 2048) : (iblk m c 0 t (ix2 r j) : EReal) = X m c (row t r) j := by
  blk_ext [iblk, V, index t, row]

theorem g_read (t : Fin cfg0.N) (j : Fin 2048) : (iblk m c 1 t (ix2 0 j) : EReal) = N m c j := by
  blk_simp [iblk]; entry_read; pointwise; blk_ext [index t]

theorem a_read (t : Fin cfg0.N) (f : Fin 704) (k : Fin 2048) : (iblk m c 2 t (ix3 0 f k) : EReal) = A m c (group t) f k := by
  blk_ext [iblk, V, index t, group]

theorem b_read (t : Fin cfg0.N) (f : Fin 704) (k : Fin 2048) : (iblk m c 3 t (ix3 0 f k) : EReal) = B m c (group t) f k := by
  blk_ext [iblk, V, index t, group]

theorem d_read (t : Fin cfg0.N) (f : Fin 704) (k : Fin 2048) : (iblk m c 4 t (ix3 0 f k) : EReal) = D m c (group t) f k := by
  blk_ext [iblk, V, index t, group]

/-- The rows held after a point are its row block's, normed. -/
theorem held_rows (n : ℕ) (hn : n < cfg0.N) (r : Fin 512) (j : Fin 2048) :
    (held m c (n + 1) (ix2 r j) : EReal) = normed (X m c) (N m c) (row ⟨n, hn⟩ r) j := by
  by_cases h : n % 8 = 0
  · rw [held_first m c ⟨n, hn⟩ h, Gen.normed, normed_block, g_read]
    simp only [x_read, NormRows.normed]
  · rw [held_later m c ⟨n, hn⟩ h]
    obtain ⟨n, rfl⟩ := Nat.exists_eq_succ_of_ne_zero fun e : n = 0 => h (by rw [e])
    exact (held_rows n (by omega) r j).trans (by rw [row_next n hn h r])

/-- What a point adds to the sum. -/
theorem added_part (t : Fin cfg0.N) (a : Vec Ideal S512x2048 .f32) (r : Fin 512) (d : Fin 2048) :
    (added (iblk m c 2 t) (iblk m c 3 t) (iblk m c 4 t) (held m c (t.val + 1)) a (ix2 r d) : EReal)
      = a (ix2 r d) + part (X m c) (N m c) (A m c) (B m c) (D m c) (row t r) d (group t) := by
  rw [added_block]
  simp only [held_rows m c t.val t.isLt, a_read, b_read, d_read]
  rfl

/-- The sum after a point is over the groups of columns its row block has met. -/
theorem summed_parts (n : ℕ) (hn : n < cfg0.N) (r : Fin 512) (d : Fin 2048) :
    (summed m c (n + 1) (ix2 r d) : EReal)
      = ∑ s ∈ Finset.range (n % 8 + 1), part (X m c) (N m c) (A m c) (B m c) (D m c) (row ⟨n, hn⟩ r) d (Fin.ofNat 8 s) := by
  have e : group ⟨n, hn⟩ = Fin.ofNat 8 (n % 8) := Fin.ext (by simp [group, Fin.ofNat])
  rw [Finset.sum_range_succ, ← e]
  by_cases h : n % 8 = 0
  · rw [summed_first m c ⟨n, hn⟩ h, added_part, zero_block, h, Finset.sum_range_zero]
  · rw [summed_later m c ⟨n, hn⟩ h, added_part]
    obtain ⟨n, rfl⟩ := Nat.exists_eq_succ_of_ne_zero fun e : n = 0 => h (by rw [e])
    have e8 : (n + 1) % 8 = n % 8 + 1 := by have : ¬(n + 1) % 8 = 0 := h; omega
    congr 1
    refine (summed_parts n (by omega) r d).trans ?_
    rw [row_next n hn h r, e8]

/-- The array of the layer's results. -/
theorem array_x : (dats m 0 c).arrAt 5 cfg0.N = fun i : S4096x2048.Idx => result (X m c) (N m c) (A m c) (B m c) (D m c) (i 0) (i 1) := by
  refine (dats m 0 c).arrAt_eq_of_covers 5 _ (by decide +kernel) fun t ht y => ?_
  have h7 : t.val % 8 = 7 := of_decide_eq_true ((flush5 t).symm.trans ht)
  idx_vars y
  blk_simp
  have e : (win0_5.blk t).view.emb (ix2 y0 y1) = ix2 (row t y0) y1 := by blk_ext [index t, row]
  rw [after5, e]
  refine (result_block y0 y1).trans ?_
  rw [summed_parts m c t.val t.isLt, x_read, h7, Finset.sum_range]
  simp only [Fin.ofNat_val_eq_self]
  rfl

/-- The array of the normed rows. -/
theorem array_h : (dats m 0 c).arrAt 6 cfg0.N = fun i : S4096x2048.Idx => normed (X m c) (N m c) (i 0) (i 1) := by
  refine (dats m 0 c).arrAt_eq_of_covers 6 _ (by decide +kernel) fun t _ y => ?_
  idx_vars y
  blk_simp
  have e : (win0_6.blk t).view.emb (ix2 y0 y1) = ix2 (row t y0) y1 := by blk_ext [index t, row]
  rw [after6, e]
  exact held_rows m c t.val t.isLt y0 y1

/-- The array of the products with the gate's matrix … -/
theorem array_g : (dats m 0 c).arrAt 7 cfg0.N = fun i : S8x4096x704.Idx => product (X m c) (N m c) (A m c) (i 0) (i 1) (i 2) := by
  refine (dats m 0 c).arrAt_eq_of_covers 7 _ (by decide +kernel) fun t _ y => ?_
  idx_vars y
  obtain rfl : y0 = 0 := Subsingleton.elim _ _
  blk_simp
  have e : (win0_7.blk t).view.emb (ix3 0 y1 y2) = ix3 (group t) (row t y1) y2 := by blk_ext [index t, row, group]
  rw [after7, e]
  refine (gate_block y1 y2).trans ?_
  simp only [held_rows m c t.val t.isLt, a_read]
  rfl

/-- … and with the other. -/
theorem array_u : (dats m 0 c).arrAt 8 cfg0.N = fun i : S8x4096x704.Idx => product (X m c) (N m c) (B m c) (i 0) (i 1) (i 2) := by
  refine (dats m 0 c).arrAt_eq_of_covers 8 _ (by decide +kernel) fun t _ y => ?_
  idx_vars y
  obtain rfl : y0 = 0 := Subsingleton.elim _ _
  blk_simp
  have e : (win0_8.blk t).view.emb (ix3 0 y1 y2) = ix3 (group t) (row t y1) y2 := by blk_ext [index t, row, group]
  rw [after8, e]
  refine (up_block y1 y2).trans ?_
  simp only [held_rows m c t.val t.isLt, b_read]
  rfl

/-- The arrays after the call are the reference's results. -/
theorem tie : (dats m 0 c).arrAt 5 cfg0.N = val_main_v25 (F := Ideal) (x m c) (g m c) (wg m c) (wu m c) (wd m c)
    ∧ (dats m 0 c).arrAt 6 cfg0.N = val_main_v26 (F := Ideal) (x m c) (g m c)
    ∧ (dats m 0 c).arrAt 7 cfg0.N = val_main_v15 (F := Ideal) (x m c) (g m c) (wg m c)
    ∧ (dats m 0 c).arrAt 8 cfg0.N = val_main_v18 (F := Ideal) (x m c) (g m c) (wu m c) := by
  refine ⟨(array_x m c).trans (funext fun i => ?_), (array_h m c).trans (funext fun i => ?_), (array_g m c).trans (funext fun i => ?_),
    (array_u m c).trans (funext fun i => ?_)⟩ <;> idx_vars i
  · exact (x_ref (X := X m c) (G := N m c) (A := A m c) (B := B m c) (D := D m c) (fun _ _ => rfl) (fun _ => rfl) (fun _ _ _ => rfl) (fun _ _ _ => rfl) (fun _ _ _ => rfl) i0 i1).symm
  · exact (h_ref (X := X m c) (G := N m c) (fun _ _ => rfl) (fun _ => rfl) i0 i1).symm
  · exact (g_ref (X := X m c) (G := N m c) (A := A m c) (fun _ _ => rfl) (fun _ => rfl) (fun _ _ _ => rfl) i0 i1 i2).symm
  · exact (u_ref (X := X m c) (G := N m c) (B := B m c) (fun _ _ => rfl) (fun _ => rfl) (fun _ _ _ => rfl) i0 i1 i2).symm

/-- Four arrays at which the call's results end, its arguments unchanged, and which are the reference's results. -/
theorem results (ρ : Dev nD → PrngReg) : ∃ (v0 : Dev nD → S4096x2048.Idx → EReal) (v1 : Dev nD → S4096x2048.Idx → EReal) (v2 v3 : Dev nD → S8x4096x704.Idx → EReal),
    (θ_run (Cert.FfnFwdKernelIdeal.defs (F := Ideal)) (onTc (τ := τ) (Cert.FfnFwdKernelIdeal.main (F := Ideal))) ⟨m, fun _ => 0, ρ⟩ fun r => ∀ c : Dev nD,
      r.2.mem ((c.tc : Thread nD τ).loc main_v1_0) = v0 c
      ∧ r.2.mem ((c.tc : Thread nD τ).loc main_v1_1) = v1 c
      ∧ r.2.mem ((c.tc : Thread nD τ).loc main_v1_2) = v2 c
      ∧ r.2.mem ((c.tc : Thread nD τ).loc main_v1_3) = v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ ∀ c, v0 c = val_main_v25 (F := Ideal) (x m c) (g m c) (wg m c) (wu m c) (wd m c) ∧ v1 c = val_main_v26 (F := Ideal) (x m c) (g m c)
      ∧ v2 c = val_main_v15 (F := Ideal) (x m c) (g m c) (wg m c) ∧ v3 c = val_main_v18 (F := Ideal) (x m c) (g m c) (wu m c) :=
  ⟨fun c => (dats m 0 c).arrAt 5 cfg0.N, fun c => (dats m 0 c).arrAt 6 cfg0.N, fun c => (dats m 0 c).arrAt 7 cfg0.N, fun c => (dats m 0 c).arrAt 8 cfg0.N,
    (θ_run defs _ _).mono (fun r h c => ⟨(h c).1 5, (h c).1 6, (h c).1 7, (h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ), tie m⟩

end Cert.FfnFwd

end
-- ==== Proof.lean ====
/-
  The claims about the training step's calls: for each call the frames of the kernel and of its reference, and the equality
  of their results over the extended reals. The mathematics stands in the modules this file imports.
-/
module

public import proofs.«01_k».proof.Defs
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalReferenceIdeal
public import proofs.«01_k».proof.Proof.Gen.Pre_final_finite
public import proofs.«01_k».proof.Proof.Gen.FinalKernelIdeal.Value
public import proofs.«01_k».proof.Proof.Gen.FinalReferenceIdeal.Run
public import proofs.«01_k».proof.Proof.Gen.FinalReferenceIdeal.Read
public import proofs.«01_k».proof.Proof.Final
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.Pre_gate_finite
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gate
public import proofs.«01_k».proof.Proof.Gen.GateBiasKernel
public import proofs.«01_k».proof.Proof.Gen.GateBiasKernel.Skeleton
public import proofs.«01_k».proof.Proof.Gen.GateBiasKernel.Launch
public import proofs.«01_k».proof.Proof.Gen.GateBiasKernel.Points
public import proofs.«01_k».proof.Proof.Gen.GateBiasKernel.Frame
public import proofs.«01_k».proof.Proof.Gen.GateBiasKernelIdeal
public import proofs.«01_k».proof.Proof.Gen.GateBiasKernelIdeal.Skeleton
public import proofs.«01_k».proof.Proof.Gen.GateBiasKernelIdeal.Launch
public import proofs.«01_k».proof.Proof.Gen.GateBiasKernelIdeal.Points
public import proofs.«01_k».proof.Proof.Gen.GateBiasKernelIdeal.Frame
public import proofs.«01_k».proof.Proof.Gen.GateBiasReferenceIdeal
public import proofs.«01_k».proof.Proof.Gen.Pre_gate_bias_finite
public import proofs.«01_k».proof.Proof.Gen.GateBiasKernelIdeal.Value
public import proofs.«01_k».proof.Proof.Gen.GateBiasReferenceIdeal.Run
public import proofs.«01_k».proof.Proof.Gen.GateBiasReferenceIdeal.Read
public import proofs.«01_k».proof.Proof.GateBias
public import proofs.«01_k».proof.Proof.Gen.FfnInKernel
public import proofs.«01_k».proof.Proof.Gen.FfnInKernel.Skeleton
public import proofs.«01_k».proof.Proof.Gen.FfnInKernel.Launch
public import proofs.«01_k».proof.Proof.Gen.FfnInKernel.Points
public import proofs.«01_k».proof.Proof.Gen.FfnInKernel.Frame
public import proofs.«01_k».proof.Proof.Gen.FfnInKernelIdeal
public import proofs.«01_k».proof.Proof.Gen.FfnInKernelIdeal.Skeleton
public import proofs.«01_k».proof.Proof.Gen.FfnInKernelIdeal.Launch
public import proofs.«01_k».proof.Proof.Gen.FfnInKernelIdeal.Points
public import proofs.«01_k».proof.Proof.Gen.FfnInKernelIdeal.Frame
public import proofs.«01_k».proof.Proof.Gen.FfnInReferenceIdeal
public import proofs.«01_k».proof.Proof.Gen.Pre_ffn_in_finite
public import proofs.«01_k».proof.Proof.Gen.FfnInKernelIdeal.Value
public import proofs.«01_k».proof.Proof.Gen.FfnInReferenceIdeal.Run
public import proofs.«01_k».proof.Proof.Gen.FfnInReferenceIdeal.Read
public import proofs.«01_k».proof.Proof.FfnIn
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhReferenceIdeal
public import proofs.«01_k».proof.Proof.Gen.Pre_dh_finite
public import proofs.«01_k».proof.Proof.Gen.DhKernelIdeal.Value
public import proofs.«01_k».proof.Proof.Gen.DhReferenceIdeal.Run
public import proofs.«01_k».proof.Proof.Gen.DhReferenceIdeal.Read
public import proofs.«01_k».proof.Proof.Dh
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.Pre_attn_finite
public import proofs.«01_k».proof.Proof.Gen.On_bias_lanes
public import proofs.«01_k».proof.Proof.Gen.AttnReferenceIdeal.Run
public import proofs.«01_k».proof.Proof.Gen.AttnReferenceIdeal.Read
public import proofs.«01_k».proof.Proof.Attn
public import proofs.«01_k».proof.Proof.Gen.AttnFwdKernel
public import proofs.«01_k».proof.Proof.Gen.AttnFwdKernelIdeal
public import proofs.«01_k».proof.Proof.Gen.AttnFwdKernelIdeal.Skeleton
public import proofs.«01_k».proof.Proof.Gen.AttnFwdKernelIdeal.Launch
public import proofs.«01_k».proof.Proof.Gen.AttnFwdKernelIdeal.Points
public import proofs.«01_k».proof.Proof.Gen.AttnFwdKernelIdeal.Frame
public import proofs.«01_k».proof.Proof.Gen.AttnFwdReferenceIdeal
public import proofs.«01_k».proof.Proof.Gen.Pre_attn_fwd_finite
public import proofs.«01_k».proof.Proof.Gen.AttnFwdReferenceIdeal.Run
public import proofs.«01_k».proof.Proof.Gen.AttnFwdReferenceIdeal.Read
public import proofs.«01_k».proof.Proof.AttnFwdPlain
public import proofs.«01_k».proof.Proof.AttnFwd
public import proofs.«01_k».proof.Proof.Gen.GatePrepKernel
public import proofs.«01_k».proof.Proof.Gen.GatePrepKernel.Skeleton
public import proofs.«01_k».proof.Proof.Gen.GatePrepKernel.Launch
public import proofs.«01_k».proof.Proof.Gen.GatePrepKernel.Points
public import proofs.«01_k».proof.Proof.Gen.GatePrepKernel.Frame
public import proofs.«01_k».proof.Proof.Gen.GatePrepKernelIdeal
public import proofs.«01_k».proof.Proof.Gen.GatePrepKernelIdeal.Skeleton
public import proofs.«01_k».proof.Proof.Gen.GatePrepKernelIdeal.Launch
public import proofs.«01_k».proof.Proof.Gen.GatePrepKernelIdeal.Points
public import proofs.«01_k».proof.Proof.Gen.GatePrepKernelIdeal.Frame
public import proofs.«01_k».proof.Proof.Gen.GatePrepReferenceIdeal
public import proofs.«01_k».proof.Proof.Gen.Pre_gate_prep_finite
public import proofs.«01_k».proof.Proof.Gen.GatePrepKernelIdeal.Value
public import proofs.«01_k».proof.Proof.Gen.GatePrepReferenceIdeal.Run
public import proofs.«01_k».proof.Proof.Gen.GatePrepReferenceIdeal.Read
public import proofs.«01_k».proof.Proof.GatePrep
public import proofs.«01_k».proof.Proof.Gen.FfnUpKernel
public import proofs.«01_k».proof.Proof.Gen.FfnUpKernelIdeal
public import proofs.«01_k».proof.Proof.Gen.FfnUpKernelIdeal.Skeleton
public import proofs.«01_k».proof.Proof.Gen.FfnUpKernelIdeal.Launch
public import proofs.«01_k».proof.Proof.Gen.FfnUpKernelIdeal.Points
public import proofs.«01_k».proof.Proof.Gen.FfnUpKernelIdeal.Frame
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.FfnUpPlain
public import proofs.«01_k».proof.Proof.FfnUp
public import proofs.«01_k».proof.Proof.Gen.NormMmKernel
public import proofs.«01_k».proof.Proof.Gen.NormMmKernelIdeal
public import proofs.«01_k».proof.Proof.Gen.NormMmKernelIdeal.Skeleton
public import proofs.«01_k».proof.Proof.Gen.NormMmKernelIdeal.Launch
public import proofs.«01_k».proof.Proof.Gen.NormMmKernelIdeal.Points
public import proofs.«01_k».proof.Proof.Gen.NormMmKernelIdeal.Frame
public import proofs.«01_k».proof.Proof.Gen.NormMmReferenceIdeal
public import proofs.«01_k».proof.Proof.Gen.NormMmReferenceIdeal.Run
public import proofs.«01_k».proof.Proof.Gen.NormMmReferenceIdeal.Read
public import proofs.«01_k».proof.Proof.NormMmPlain
public import proofs.«01_k».proof.Proof.NormMm
public import proofs.«01_k».proof.Proof.Gen.FfnFwdKernel
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.FfnFwdPlain
public import proofs.«01_k».proof.Proof.FfnFwd
public import proofs.«01_k».proof.Proof.Gen.ConvFwdKernel
public import proofs.«01_k».proof.Proof.Gen.ConvFwdKernel.Skeleton
public import proofs.«01_k».proof.Proof.Gen.ConvFwdKernel.Launch
public import proofs.«01_k».proof.Proof.Gen.ConvFwdKernel.Points
public import proofs.«01_k».proof.Proof.Gen.ConvFwdKernel.Frame
public import proofs.«01_k».proof.Proof.Gen.ConvFwdKernelIdeal
public import proofs.«01_k».proof.Proof.Gen.ConvFwdKernelIdeal.Skeleton
public import proofs.«01_k».proof.Proof.Gen.ConvFwdKernelIdeal.Launch
public import proofs.«01_k».proof.Proof.Gen.ConvFwdKernelIdeal.Points
public import proofs.«01_k».proof.Proof.Gen.ConvFwdKernelIdeal.Frame
public import proofs.«01_k».proof.Proof.Gen.ConvFwdReferenceIdeal
public import proofs.«01_k».proof.Proof.Gen.ConvFwdReferenceIdeal.Run
public import Idealize.ShloMosaic.Adequacy
public import Idealize.ShloMosaic.Init

@[expose] public section

noncomputable section

namespace Cert.Proof

open Idealize.ShloMosaic Idealize.ShloMosaic.TcCoe Idealize.SL.Sem

/-! ## The loss and the final norm's gradient -/

/-- The reference runs, its arguments end unchanged, every counter at zero. -/
theorem final_frame : Cert.quiescent_FinalReferenceIdeal := fun m ρ _ =>
  (θ_run Cert.FinalReferenceIdeal.defs _ _).mono
    (fun r h => ⟨fun c => (h c).2.2.2, sem_eq_zero_of_no_sems (by decide) r.2⟩)
    (Cert.FinalReferenceIdeal.Value.run (F := Ideal) m ρ)

/-- On arguments of the precondition the call's results are the reference's. -/
theorem final_value : Cert.algebraic_FinalKernelIdeal_FinalReferenceIdeal_pre_final_finite := by
  intro m ρ m' ρ' hpre hag
  refine ⟨fun c => _, fun c => _, fun c => _, Cert.FinalKernelIdeal.Value.run_blocks (F := Ideal) m ρ, ?_⟩
  refine (θ_run Cert.FinalReferenceIdeal.defs _ _).mono (fun r h c => ?_) (Cert.FinalReferenceIdeal.Value.run (F := Ideal) m' ρ')
  obtain ⟨h0, h1, h2, h3⟩ := h c
  obtain ⟨e0, e1, e2⟩ := Cert.Final.tie m c (hpre c)
  obtain ⟨a0, a1, a2⟩ := hag c
  refine ⟨h0.trans ?_, h1.trans ?_, h2.trans ?_, h3⟩
  · rw [Cert.FinalReferenceIdeal.Read.val_main_v50_eq, a0, a1, a2]; exact e0.symm
  · rw [Cert.FinalReferenceIdeal.Read.val_main_v51_eq, a0, a1, a2]; exact e1.symm
  · rw [Cert.FinalReferenceIdeal.Read.val_main_v52_eq, a0, a1, a2]; exact e2.symm

/-! ## The gradient of the feed-forward gate -/

/-- The reference runs, its arguments end unchanged, every counter at zero. -/
theorem gate_frame : Cert.quiescent_GateReferenceIdeal := fun m ρ _ =>
  (θ_run Cert.GateReferenceIdeal.defs _ _).mono
    (fun r h => ⟨fun c => (h c).2.2.2, sem_eq_zero_of_no_sems (by decide) r.2⟩)
    (Cert.GateReferenceIdeal.Value.run (F := Ideal) m ρ)

/-- On arguments of the precondition the call's results are the reference's. -/
theorem gate_value : Cert.algebraic_GateKernelIdeal_GateReferenceIdeal_pre_gate_finite := by
  intro m ρ m' ρ' hpre hag
  refine ⟨fun c => _, fun c => _, fun c => _, Cert.GateKernelIdeal.Value.run_blocks (F := Ideal) m ρ, ?_⟩
  refine (θ_run Cert.GateReferenceIdeal.defs _ _).mono (fun r h c => ?_) (Cert.GateReferenceIdeal.Value.run (F := Ideal) m' ρ')
  obtain ⟨h0, h1, h2, h3⟩ := h c
  obtain ⟨e0, e1, e2⟩ := Cert.Gate.tie m c (hpre c)
  obtain ⟨a0, a1, a2, a3⟩ := hag c
  refine ⟨h0.trans ?_, h1.trans ?_, h2.trans ?_, h3⟩
  · rw [Cert.GateReferenceIdeal.Read.val_main_v13_eq, a0, a1, a2, a3]; exact e0.symm
  · rw [Cert.GateReferenceIdeal.Read.val_main_v14_eq, a0, a1, a3]; exact e1.symm
  · rw [Cert.GateReferenceIdeal.Read.val_main_v15_eq, a1, a2]; exact e2.symm

/-! ## The gradient of the forgetting gate -/

/-- The reference runs, its arguments end unchanged, every counter at zero. -/
theorem gate_bias_frame : Cert.quiescent_GateBiasReferenceIdeal := fun m ρ _ =>
  (θ_run Cert.GateBiasReferenceIdeal.defs _ _).mono
    (fun r h => ⟨fun c => (h c).2.2, sem_eq_zero_of_no_sems (by decide) r.2⟩)
    (Cert.GateBiasReferenceIdeal.Value.run (F := Ideal) m ρ)

/-- On arguments of the precondition the call's results are the reference's. -/
theorem gate_bias_value : Cert.algebraic_GateBiasKernelIdeal_GateBiasReferenceIdeal_pre_gate_bias_finite := by
  intro m ρ m' ρ' hpre hag
  refine ⟨fun c => _, fun c => _, Cert.GateBiasKernelIdeal.Value.run_blocks (F := Ideal) m ρ, ?_⟩
  refine (θ_run Cert.GateBiasReferenceIdeal.defs _ _).mono (fun r h c => ?_) (Cert.GateBiasReferenceIdeal.Value.run (F := Ideal) m' ρ')
  obtain ⟨h0, h1, h2⟩ := h c
  obtain ⟨e0, e1⟩ := Cert.GateBias.tie m c (hpre c)
  obtain ⟨a0, a1, a2, a3⟩ := hag c
  refine ⟨h0.trans ?_, h1.trans ?_, h2⟩
  · rw [Cert.GateBiasReferenceIdeal.Read.val_main_v33_eq, a0, a1, a2, a3]; exact e0.symm
  · rw [Cert.GateBiasReferenceIdeal.Read.val_main_v35_eq, a0, a1, a2, a3]; exact e1.symm

/-! ## The gradient of the norm before the feed-forward layer -/

/-- The reference runs, its arguments end unchanged, every counter at zero. -/
theorem ffn_in_frame : Cert.quiescent_FfnInReferenceIdeal := fun m ρ _ =>
  (θ_run Cert.FfnInReferenceIdeal.defs _ _).mono
    (fun r h => ⟨fun c => (h c).2.2, sem_eq_zero_of_no_sems (by decide) r.2⟩)
    (Cert.FfnInReferenceIdeal.Value.run (F := Ideal) m ρ)

/-- On arguments of the precondition the call's results are the reference's. -/
theorem ffn_in_value : Cert.algebraic_FfnInKernelIdeal_FfnInReferenceIdeal_pre_ffn_in_finite := by
  intro m ρ m' ρ' hpre hag
  refine ⟨fun c => _, fun c => _, Cert.FfnInKernelIdeal.Value.run_blocks (F := Ideal) m ρ, ?_⟩
  refine (θ_run Cert.FfnInReferenceIdeal.defs _ _).mono (fun r h c => ?_) (Cert.FfnInReferenceIdeal.Value.run (F := Ideal) m' ρ')
  obtain ⟨h0, h1, h2⟩ := h c
  obtain ⟨e0, e1⟩ := Cert.FfnIn.tie m c (hpre c)
  obtain ⟨a0, a1, a2, a3, a4, a5, a6⟩ := hag c
  refine ⟨h0.trans ?_, h1.trans ?_, h2⟩
  · rw [Cert.FfnInReferenceIdeal.Read.val_main_v49_eq, a0, a1, a2, a3, a4, a5, a6]; exact e0.symm
  · rw [Cert.FfnInReferenceIdeal.Read.val_main_v50_eq, a0, a1, a2, a3, a5]; exact e1.symm

/-! ## The gradient of the norm before the mixers -/

/-- The reference runs, its arguments end unchanged, every counter at zero. -/
theorem dh_frame : Cert.quiescent_DhReferenceIdeal := fun m ρ _ =>
  (θ_run Cert.DhReferenceIdeal.defs _ _).mono
    (fun r h => ⟨fun c => (h c).2.2, sem_eq_zero_of_no_sems (by decide) r.2⟩)
    (Cert.DhReferenceIdeal.Value.run (F := Ideal) m ρ)

/-- On arguments of the precondition the call's results are the reference's. -/
theorem dh_value : Cert.algebraic_DhKernelIdeal_DhReferenceIdeal_pre_dh_finite := by
  intro m ρ m' ρ' hpre hag
  refine ⟨fun c => _, fun c => _, Cert.DhKernelIdeal.Value.run_blocks (F := Ideal) m ρ, ?_⟩
  refine (θ_run Cert.DhReferenceIdeal.defs _ _).mono (fun r h c => ?_) (Cert.DhReferenceIdeal.Value.run (F := Ideal) m' ρ')
  obtain ⟨h0, h1, h2⟩ := h c
  obtain ⟨e0, e1⟩ := Cert.Dh.tie m c (hpre c)
  obtain ⟨a0, a1, a2, a3, a4⟩ := hag c
  refine ⟨h0.trans ?_, h1.trans ?_, h2⟩
  · rw [Cert.DhReferenceIdeal.Read.val_main_v41_eq, a0, a1, a2, a3, a4]; exact e0.symm
  · rw [Cert.DhReferenceIdeal.Read.val_main_v42_eq, a0, a1, a2]; exact e1.symm

/-! ## The gradient of the forgetting attention -/

/-- The reference runs, its arguments end unchanged, every counter at zero. -/
theorem attn_frame : Cert.quiescent_AttnReferenceIdeal := fun m ρ _ =>
  (θ_run Cert.AttnReferenceIdeal.defs _ _).mono
    (fun r h => ⟨fun c => (h c).2.2.2.2.2, sem_eq_zero_of_no_sems (by decide) r.2⟩)
    (Cert.AttnReferenceIdeal.Value.run (F := Ideal) m ρ)

/-- On arguments of the precondition the call's results are the reference's, the sums in the lanes that hold them. -/
theorem attn_value : Cert.algebraic_AttnKernelIdeal_AttnReferenceIdeal_on_bias_lanes_pre_attn_finite := by
  intro m ρ m' ρ' hpre hag
  obtain ⟨v0, v1, v2, v3, v4, run, tie⟩ := Cert.Attn.results m ρ
  refine ⟨v0, v1, v2, v3, v4, (θ_run Cert.AttnKernelIdeal.defs _ _).mono (fun r h c => ?_) run, ?_⟩
  · obtain ⟨h0, h1, h2, h3, h4, h5⟩ := h c
    exact ⟨fun i _ => congrFun h0 i, fun i _ => congrFun h1 i, fun i _ => congrFun h2 i, fun i _ => congrFun h3 i, fun i _ => congrFun h4 i, h5⟩
  refine (θ_run Cert.AttnReferenceIdeal.defs _ _).mono (fun r h c => ?_) (Cert.AttnReferenceIdeal.Value.run (F := Ideal) m' ρ')
  obtain ⟨h0, h1, h2, h3, h4, h5⟩ := h c
  obtain ⟨e0, e1, e2, e3, e4⟩ := tie c (hpre c)
  obtain ⟨a0, a1, a2⟩ := hag c
  refine ⟨fun i hi => (congrFun (h0.trans ?_) i).trans (e0 i hi).symm, fun i hi => (congrFun (h1.trans ?_) i).trans (e1 i hi).symm, fun i hi => (congrFun (h2.trans ?_) i).trans (e2 i hi).symm, fun i hi => (congrFun (h3.trans ?_) i).trans (e3 i hi).symm, fun i hi => (congrFun (h4.trans ?_) i).trans (e4 i hi).symm, h5⟩
  · rw [Cert.AttnReferenceIdeal.Read.val_main_v102_eq, a0, a1, a2]
  · rw [Cert.AttnReferenceIdeal.Read.val_main_v103_eq, a0, a1, a2]
  · rw [Cert.AttnReferenceIdeal.Read.val_main_v104_eq, a0, a1, a2]
  · rw [Cert.AttnReferenceIdeal.Read.val_main_v110_eq, a0, a1, a2]
  · rw [Cert.AttnReferenceIdeal.Read.val_main_v115_eq, a0, a1, a2]

/-! ## The forgetting attention, forward -/

/-- The reference runs, its arguments end unchanged, every counter at zero. -/
theorem attn_fwd_frame : Cert.quiescent_AttnFwdReferenceIdeal := fun m ρ _ =>
  (θ_run Cert.AttnFwdReferenceIdeal.defs _ _).mono
    (fun r h => ⟨fun c => (h c).2.2.2, sem_eq_zero_of_no_sems (by decide) r.2⟩)
    (Cert.AttnFwdReferenceIdeal.Value.run (F := Ideal) m ρ)

/-- On arguments of the precondition the call's results are the reference's. -/
theorem attn_fwd_value : Cert.algebraic_AttnFwdKernelIdeal_AttnFwdReferenceIdeal_pre_attn_fwd_finite := by
  intro m ρ m' ρ' hpre hag
  obtain ⟨v0, v1, v2, run, tie⟩ := Cert.AttnFwd.results m ρ
  refine ⟨v0, v1, v2, run, ?_⟩
  refine (θ_run Cert.AttnFwdReferenceIdeal.defs _ _).mono (fun r h c => ?_) (Cert.AttnFwdReferenceIdeal.Value.run (F := Ideal) m' ρ')
  obtain ⟨h0, h1, h2, h3⟩ := h c
  obtain ⟨e0, e1, e2⟩ := tie c (hpre c)
  obtain ⟨a0, a1⟩ := hag c
  refine ⟨h0.trans (Eq.trans ?_ e0.symm), h1.trans (Eq.trans ?_ e1.symm), h2.trans (Eq.trans ?_ e2.symm), h3⟩
  · rw [Cert.AttnFwdReferenceIdeal.Read.val_main_v83_eq, a0, a1]
  · rw [Cert.AttnFwdReferenceIdeal.Read.val_main_v47_eq, a0, a1]
  · rw [Cert.AttnFwdReferenceIdeal.Read.val_main_v82_eq, a0, a1]

/-! ## The gate's running sum beside the keys -/

/-- The reference runs, its arguments end unchanged, every counter at zero. -/
theorem gate_prep_frame : Cert.quiescent_GatePrepReferenceIdeal := fun m ρ _ =>
  (θ_run Cert.GatePrepReferenceIdeal.defs _ _).mono
    (fun r h => ⟨fun c => (h c).2, sem_eq_zero_of_no_sems (by decide) r.2⟩)
    (Cert.GatePrepReferenceIdeal.Value.run (F := Ideal) m ρ)

/-- On arguments of the precondition the call's results are the reference's. -/
theorem gate_prep_value : Cert.algebraic_GatePrepKernelIdeal_GatePrepReferenceIdeal_pre_gate_prep_finite := by
  intro m ρ m' ρ' hpre hag
  refine ⟨fun c => _, Cert.GatePrepKernelIdeal.Value.run_blocks (F := Ideal) m ρ, ?_⟩
  refine (θ_run Cert.GatePrepReferenceIdeal.defs _ _).mono (fun r h c => ?_) (Cert.GatePrepReferenceIdeal.Value.run (F := Ideal) m' ρ')
  obtain ⟨h0, h1⟩ := h c
  have e0 := Cert.GatePrep.tie m c (hpre c)
  obtain ⟨a0, a1⟩ := hag c
  refine ⟨h0.trans ?_, h1⟩
  · rw [Cert.GatePrepReferenceIdeal.Read.val_main_v31_eq, a0, a1]; exact e0.symm

/-! ## The feed-forward layer's first products -/

/-- The reference runs, its arguments end unchanged, every counter at zero. -/
theorem ffn_up_frame : Cert.quiescent_FfnUpReferenceIdeal := fun m ρ _ =>
  (θ_run Cert.FfnUpReferenceIdeal.defs _ _).mono
    (fun r h => ⟨fun c => (h c).2.2.2.2, sem_eq_zero_of_no_sems (by decide) r.2⟩)
    (Cert.FfnUpReferenceIdeal.Value.run (F := Ideal) m ρ)

/-- The call's results are the reference's. -/
theorem ffn_up_value : Cert.algebraic_FfnUpKernelIdeal_FfnUpReferenceIdeal := by
  intro m ρ m' ρ' _ hag
  obtain ⟨v0, v1, v2, v3, run, tie⟩ := Cert.FfnUp.results m ρ
  refine ⟨v0, v1, v2, v3, run, ?_⟩
  refine (θ_run Cert.FfnUpReferenceIdeal.defs _ _).mono (fun r h c => ?_) (Cert.FfnUpReferenceIdeal.Value.run (F := Ideal) m' ρ')
  obtain ⟨h0, h1, h2, h3, h4⟩ := h c
  obtain ⟨e0, e1, e2, e3⟩ := tie c
  obtain ⟨a0, a1, a2, a3⟩ := hag c
  refine ⟨h0.trans (Eq.trans ?_ e0.symm), h1.trans (Eq.trans ?_ e1.symm), h2.trans (Eq.trans ?_ e2.symm), h3.trans (Eq.trans ?_ e3.symm), h4⟩
  · rw [Cert.FfnUpReferenceIdeal.Read.val_main_v19_eq, a0, a1]
  · rw [Cert.FfnUpReferenceIdeal.Read.val_main_v15_eq, a0, a1, a2]
  · rw [Cert.FfnUpReferenceIdeal.Read.val_main_v18_eq, a0, a1, a3]
  · rw [Cert.FfnUpReferenceIdeal.Read.val_main_v22_eq, a0, a1, a2, a3]

/-! ## The norm before the mixers with the product after it -/

/-- The reference runs, its arguments end unchanged, every counter at zero. -/
theorem norm_mm_frame : Cert.quiescent_NormMmReferenceIdeal := fun m ρ _ =>
  (θ_run Cert.NormMmReferenceIdeal.defs _ _).mono
    (fun r h => ⟨fun c => (h c).2.2, sem_eq_zero_of_no_sems (by decide) r.2⟩)
    (Cert.NormMmReferenceIdeal.Value.run (F := Ideal) m ρ)

/-- The call's results are the reference's. -/
theorem norm_mm_value : Cert.algebraic_NormMmKernelIdeal_NormMmReferenceIdeal := by
  intro m ρ m' ρ' _ hag
  obtain ⟨v0, v1, run, tie⟩ := Cert.NormMm.results m ρ
  refine ⟨v0, v1, run, ?_⟩
  refine (θ_run Cert.NormMmReferenceIdeal.defs _ _).mono (fun r h c => ?_) (Cert.NormMmReferenceIdeal.Value.run (F := Ideal) m' ρ')
  obtain ⟨h0, h1, h2⟩ := h c
  obtain ⟨e0, e1⟩ := tie c
  obtain ⟨a0, a1, a2⟩ := hag c
  refine ⟨h0.trans (Eq.trans ?_ e0.symm), h1.trans (Eq.trans ?_ e1.symm), h2⟩
  · rw [Cert.NormMmReferenceIdeal.Read.val_main_v15_eq, a0, a1, a2]
  · rw [Cert.NormMmReferenceIdeal.Read.val_main_v16_eq, a0, a1]

/-! ## The second feed-forward layer, forward -/

/-- The reference runs, its arguments end unchanged, every counter at zero. -/
theorem ffn_fwd_frame : Cert.quiescent_FfnFwdReferenceIdeal := fun m ρ _ =>
  (θ_run Cert.FfnFwdReferenceIdeal.defs _ _).mono
    (fun r h => ⟨fun c => (h c).2.2.2.2, sem_eq_zero_of_no_sems (by decide) r.2⟩)
    (Cert.FfnFwdReferenceIdeal.Value.run (F := Ideal) m ρ)

/-- The call's results are the reference's. -/
theorem ffn_fwd_value : Cert.algebraic_FfnFwdKernelIdeal_FfnFwdReferenceIdeal := by
  intro m ρ m' ρ' _ hag
  obtain ⟨v0, v1, v2, v3, run, tie⟩ := Cert.FfnFwd.results m ρ
  refine ⟨v0, v1, v2, v3, run, ?_⟩
  refine (θ_run Cert.FfnFwdReferenceIdeal.defs _ _).mono (fun r h c => ?_) (Cert.FfnFwdReferenceIdeal.Value.run (F := Ideal) m' ρ')
  obtain ⟨h0, h1, h2, h3, h4⟩ := h c
  obtain ⟨e0, e1, e2, e3⟩ := tie c
  obtain ⟨a0, a1, a2, a3, a4⟩ := hag c
  refine ⟨h0.trans (Eq.trans ?_ e0.symm), h1.trans (Eq.trans ?_ e1.symm), h2.trans (Eq.trans ?_ e2.symm), h3.trans (Eq.trans ?_ e3.symm), h4⟩
  · rw [Cert.FfnFwdReferenceIdeal.Read.val_main_v25_eq, a0, a1, a2, a3, a4]
  · rw [Cert.FfnFwdReferenceIdeal.Read.val_main_v26_eq, a0, a1]
  · rw [Cert.FfnFwdReferenceIdeal.Read.val_main_v15_eq, a0, a1, a2]
  · rw [Cert.FfnFwdReferenceIdeal.Read.val_main_v18_eq, a0, a1, a3]

/-! ## The convolution, forward: the frames -/

/-- The reference runs, its arguments end unchanged, every counter at zero. -/
theorem conv_fwd_frame : Cert.quiescent_ConvFwdReferenceIdeal := fun m ρ _ =>
  (θ_run Cert.ConvFwdReferenceIdeal.defs _ _).mono
    (fun r h => ⟨fun c => (h c).2.2, sem_eq_zero_of_no_sems (by decide) r.2⟩)
    (Cert.ConvFwdReferenceIdeal.Value.run (F := Ideal) m ρ)

/-- Every claim of this directory. -/
theorem claim : Cert.Claim :=
  ⟨Cert.FinalKernel.Gen.facts,
    Cert.FinalKernelIdeal.Gen.facts,
    Cert.FinalReferenceIdeal.Gen.facts,
    Cert.GateKernel.Gen.facts,
    Cert.GateKernelIdeal.Gen.facts,
    Cert.GateReferenceIdeal.Gen.facts,
    Cert.GateBiasKernel.Gen.facts,
    Cert.GateBiasKernelIdeal.Gen.facts,
    Cert.GateBiasReferenceIdeal.Gen.facts,
    Cert.FfnInKernel.Gen.facts,
    Cert.FfnInKernelIdeal.Gen.facts,
    Cert.FfnInReferenceIdeal.Gen.facts,
    Cert.DhKernel.Gen.facts,
    Cert.DhKernelIdeal.Gen.facts,
    Cert.DhReferenceIdeal.Gen.facts,
    Cert.AttnKernel.Gen.facts,
    Cert.AttnKernelIdeal.Gen.facts,
    Cert.AttnReferenceIdeal.Gen.facts,
    Cert.AttnFwdKernel.Gen.facts,
    Cert.AttnFwdKernelIdeal.Gen.facts,
    Cert.AttnFwdReferenceIdeal.Gen.facts,
    Cert.GatePrepKernel.Gen.facts,
    Cert.GatePrepKernelIdeal.Gen.facts,
    Cert.GatePrepReferenceIdeal.Gen.facts,
    Cert.FfnUpKernel.Gen.facts,
    Cert.FfnUpKernelIdeal.Gen.facts,
    Cert.FfnUpReferenceIdeal.Gen.facts,
    Cert.NormMmKernel.Gen.facts,
    Cert.NormMmKernelIdeal.Gen.facts,
    Cert.NormMmReferenceIdeal.Gen.facts,
    Cert.FfnFwdKernel.Gen.facts,
    Cert.FfnFwdKernelIdeal.Gen.facts,
    Cert.FfnFwdReferenceIdeal.Gen.facts,
    Cert.ConvFwdKernel.Gen.facts,
    Cert.ConvFwdKernelIdeal.Gen.facts,
    Cert.ConvFwdReferenceIdeal.Gen.facts,
    Cert.Pre_final_finite.Gen.facts,
    Cert.Pre_gate_finite.Gen.facts,
    Cert.Pre_gate_bias_finite.Gen.facts,
    Cert.Pre_ffn_in_finite.Gen.facts,
    Cert.Pre_dh_finite.Gen.facts,
    Cert.Pre_attn_finite.Gen.facts,
    Cert.Pre_attn_fwd_finite.Gen.facts,
    Cert.Pre_gate_prep_finite.Gen.facts,
    Cert.On_bias_lanes.Gen.facts,
    fun m ρ _ => Cert.FinalKernel.Gen.frame m ρ,
    fun m ρ _ => Cert.FinalKernelIdeal.Gen.frame m ρ,
    fun m ρ _ => Cert.FinalKernelIdeal.Gen.frame m ρ,
    final_frame,
    fun m ρ _ => final_frame m ρ trivial,
    fun m ρ _ => Cert.GateKernel.Gen.frame m ρ,
    fun m ρ _ => Cert.GateKernelIdeal.Gen.frame m ρ,
    fun m ρ _ => Cert.GateKernelIdeal.Gen.frame m ρ,
    gate_frame,
    fun m ρ _ => gate_frame m ρ trivial,
    fun m ρ _ => Cert.GateBiasKernel.Gen.frame m ρ,
    fun m ρ _ => Cert.GateBiasKernelIdeal.Gen.frame m ρ,
    fun m ρ _ => Cert.GateBiasKernelIdeal.Gen.frame m ρ,
    gate_bias_frame,
    fun m ρ _ => gate_bias_frame m ρ trivial,
    fun m ρ _ => Cert.FfnInKernel.Gen.frame m ρ,
    fun m ρ _ => Cert.FfnInKernelIdeal.Gen.frame m ρ,
    fun m ρ _ => Cert.FfnInKernelIdeal.Gen.frame m ρ,
    ffn_in_frame,
    fun m ρ _ => ffn_in_frame m ρ trivial,
    fun m ρ _ => Cert.DhKernel.Gen.frame m ρ,
    fun m ρ _ => Cert.DhKernelIdeal.Gen.frame m ρ,
    fun m ρ _ => Cert.DhKernelIdeal.Gen.frame m ρ,
    dh_frame,
    fun m ρ _ => dh_frame m ρ trivial,
    fun m ρ _ => Cert.AttnKernel.Gen.frame m ρ,
    fun m ρ _ => Cert.AttnKernelIdeal.Gen.frame m ρ,
    fun m ρ _ => Cert.AttnKernelIdeal.Gen.frame m ρ,
    attn_frame,
    fun m ρ _ => attn_frame m ρ trivial,
    fun m ρ _ => Cert.AttnFwdKernel.Gen.frame m ρ,
    fun m ρ _ => Cert.AttnFwdKernelIdeal.Gen.frame m ρ,
    fun m ρ _ => Cert.AttnFwdKernelIdeal.Gen.frame m ρ,
    attn_fwd_frame,
    fun m ρ _ => attn_fwd_frame m ρ trivial,
    fun m ρ _ => Cert.GatePrepKernel.Gen.frame m ρ,
    fun m ρ _ => Cert.GatePrepKernelIdeal.Gen.frame m ρ,
    fun m ρ _ => Cert.GatePrepKernelIdeal.Gen.frame m ρ,
    gate_prep_frame,
    fun m ρ _ => gate_prep_frame m ρ trivial,
    fun m ρ _ => Cert.FfnUpKernel.Gen.frame m ρ,
    fun m ρ _ => Cert.FfnUpKernelIdeal.Gen.frame m ρ,
    ffn_up_frame,
    fun m ρ _ => Cert.NormMmKernel.Gen.frame m ρ,
    fun m ρ _ => Cert.NormMmKernelIdeal.Gen.frame m ρ,
    norm_mm_frame,
    fun m ρ _ => Cert.FfnFwdKernel.Gen.frame m ρ,
    fun m ρ _ => Cert.FfnFwdKernelIdeal.Gen.frame m ρ,
    ffn_fwd_frame,
    fun m ρ _ => Cert.ConvFwdKernel.Gen.frame m ρ,
    fun m ρ _ => Cert.ConvFwdKernelIdeal.Gen.frame m ρ,
    conv_fwd_frame,
    trivial,
    final_value,
    trivial,
    gate_value,
    trivial,
    gate_bias_value,
    trivial,
    ffn_in_value,
    trivial,
    dh_value,
    IdealRules.named_const.statement Cert.AttnKernelIdeal.κ "mask" .f32 0xF149F2CA#32 ⊥ rfl,
    attn_value,
    IdealRules.named_const.statement Cert.AttnFwdKernelIdeal.κ "mask" .f32 0xF149F2CA#32 ⊥ rfl,
    attn_fwd_value,
    trivial,
    gate_prep_value,
    trivial,
    ffn_up_value,
    trivial,
    norm_mm_value,
    trivial,
    ffn_fwd_value,
    trivial⟩

end Cert.Proof

end
